-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v22_0)) (v2 : (c : Dev Cert.KernelIdeal.nD) → Buf (Elt Ideal) ((c.tc : Thread Cert.KernelIdeal.nD Cert.KernelIdeal.τ).loc Cert.KernelIdeal.main_v33)) (v3 : (c : Dev Cert.KernelIdeal.nD) → Buf (Elt Ideal) ((c.tc : Thread Cert.KernelIdeal.nD Cert.KernelIdeal.τ).loc Cert.KernelIdeal.main_v22_2)) (v4 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v22_0) = v1 c
          ∧ r.2.mem ((c.tc : Thread Cert.KernelIdeal.nD Cert.KernelIdeal.τ).loc Cert.KernelIdeal.main_v33) = v2 c
          ∧ r.2.mem ((c.tc : Thread Cert.KernelIdeal.nD Cert.KernelIdeal.τ).loc Cert.KernelIdeal.main_v22_2) = v3 c
          ∧ r.2.mem ((c.tc : Thread Cert.KernelIdeal.nD Cert.KernelIdeal.τ).loc Cert.KernelIdeal.main_v34) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_v105) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_v106) = v3 c
          ∧ r.2.mem ((c.tc : Thread Cert.ReferenceIdeal.nD Cert.ReferenceIdeal.τ).loc Cert.ReferenceIdeal.main_v66) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x2048x64x128 : Shape := ⟨4, ![6, 2048, 64, 128]⟩
abbrev S6x2048x4x128 : Shape := ⟨4, ![6, 2048, 4, 128]⟩
abbrev S3x6x2048 : Shape := ⟨3, ![3, 6, 2048]⟩
abbrev S64 : Shape := ⟨1, ![64]⟩
abbrev S4 : Shape := ⟨1, ![4]⟩
abbrev S_ : Shape := ⟨0, ![]⟩
abbrev S64x1 : Shape := ⟨2, ![64, 1]⟩
abbrev S64x128 : Shape := ⟨2, ![64, 128]⟩
abbrev S4x1 : Shape := ⟨2, ![4, 1]⟩
abbrev S4x128 : Shape := ⟨2, ![4, 128]⟩
abbrev S3x6x16x1x128 : Shape := ⟨5, ![3, 6, 16, 1, 128]⟩
abbrev S6x2048x512 : Shape := ⟨3, ![6, 2048, 512]⟩
abbrev S6x4x2048x16x128 : Shape := ⟨5, ![6, 4, 2048, 16, 128]⟩
abbrev S6x4x2048x128 : Shape := ⟨4, ![6, 4, 2048, 128]⟩
abbrev S6x4x128x2048 : Shape := ⟨4, ![6, 4, 128, 2048]⟩
abbrev S3x1x1x1x128 : Shape := ⟨5, ![3, 1, 1, 1, 128]⟩
abbrev S1x128x64x128 : Shape := ⟨4, ![1, 128, 64, 128]⟩
abbrev S1x128x4x128 : Shape := ⟨4, ![1, 128, 4, 128]⟩
abbrev S1x128x512 : Shape := ⟨3, ![1, 128, 512]⟩
abbrev S1x4x128x16x128 : Shape := ⟨5, ![1, 4, 128, 16, 128]⟩
abbrev S1x4x128x128 : Shape := ⟨4, ![1, 4, 128, 128]⟩
abbrev S128x128 : Shape := ⟨2, ![128, 128]⟩
abbrev S3x128 : Shape := ⟨2, ![3, 128]⟩
abbrev S1x128 : Shape := ⟨2, ![1, 128]⟩
abbrev S16x128 : Shape := ⟨2, ![16, 128]⟩
abbrev S24x128 : Shape := ⟨2, ![24, 128]⟩
abbrev S1x8x64x128 : Shape := ⟨4, ![1, 8, 64, 128]⟩
abbrev S8x64x128 : Shape := ⟨3, ![8, 64, 128]⟩
abbrev S8x128 : Shape := ⟨2, ![8, 128]⟩
abbrev S8x1x128 : Shape := ⟨3, ![8, 1, 128]⟩
abbrev S1x64x128 : Shape := ⟨3, ![1, 64, 128]⟩
abbrev S8x16x128 : Shape := ⟨3, ![8, 16, 128]⟩
abbrev S1x1x8x16x128 : Shape := ⟨5, ![1, 1, 8, 16, 128]⟩
abbrev S1x8x4x128 : Shape := ⟨4, ![1, 8, 4, 128]⟩
abbrev S8x4x128 : Shape := ⟨3, ![8, 4, 128]⟩
abbrev S1x4x128 : Shape := ⟨3, ![1, 4, 128]⟩
abbrev S1x128x1x128 : Shape := ⟨4, ![1, 128, 1, 128]⟩
abbrev S1x1x128x128 : Shape := ⟨4, ![1, 1, 128, 128]⟩
abbrev S1x128x128 : Shape := ⟨3, ![1, 128, 128]⟩
abbrev S4x16 : Shape := ⟨2, ![4, 16]⟩
abbrev S4x1x1x16 : Shape := ⟨4, ![4, 1, 1, 16]⟩
abbrev S4x1x16x16 : Shape := ⟨4, ![4, 1, 16, 16]⟩
abbrev S4x1x256 : Shape := ⟨3, ![4, 1, 256]⟩
abbrev S6x2048x8192 : Shape := ⟨3, ![6, 2048, 8192]⟩
abbrev S1x1x128x16x128 : Shape := ⟨5, ![1, 1, 128, 16, 128]⟩
abbrev S1x1x2048x128 : Shape := ⟨4, ![1, 1, 2048, 128]⟩
abbrev S1x1x128x2048 : Shape := ⟨4, ![1, 1, 128, 2048]⟩
abbrev S1x1x256 : Shape := ⟨3, ![1, 1, 256]⟩
abbrev S1x128x2048 : Shape := ⟨3, ![1, 128, 2048]⟩
abbrev S2048x256 : Shape := ⟨2, ![2048, 256]⟩
abbrev S1x256 : Shape := ⟨2, ![1, 256]⟩
abbrev S1x1x16x16x128 : Shape := ⟨5, ![1, 1, 16, 16, 128]⟩
abbrev S16x16x128 : Shape := ⟨3, ![16, 16, 128]⟩
abbrev S256x128 : Shape := ⟨2, ![256, 128]⟩
abbrev S128x256 : Shape := ⟨2, ![128, 256]⟩
abbrev S256 : Shape := ⟨1, ![256]⟩
abbrev S16x1x128 : Shape := ⟨3, ![16, 1, 128]⟩
abbrev S1x16x128 : Shape := ⟨3, ![1, 16, 128]⟩
abbrev S1x1x256x128 : Shape := ⟨4, ![1, 1, 256, 128]⟩
abbrev S256x256 : Shape := ⟨2, ![256, 256]⟩
abbrev S1x1x128x256 : Shape := ⟨4, ![1, 1, 128, 256]⟩
abbrev S1x1x384x128 : Shape := ⟨4, ![1, 1, 384, 128]⟩
abbrev S384x128 : Shape := ⟨2, ![384, 128]⟩
abbrev S384x256 : Shape := ⟨2, ![384, 256]⟩
abbrev S1x1x128x384 : Shape := ⟨4, ![1, 1, 128, 384]⟩
abbrev S128x384 : Shape := ⟨2, ![128, 384]⟩
abbrev S1x1x512x128 : Shape := ⟨4, ![1, 1, 512, 128]⟩
abbrev S512x128 : Shape := ⟨2, ![512, 128]⟩
abbrev S512x256 : Shape := ⟨2, ![512, 256]⟩
abbrev S1x1x128x512 : Shape := ⟨4, ![1, 1, 128, 512]⟩
abbrev S128x512 : Shape := ⟨2, ![128, 512]⟩
abbrev S1x1x640x128 : Shape := ⟨4, ![1, 1, 640, 128]⟩
abbrev S640x128 : Shape := ⟨2, ![640, 128]⟩
abbrev S640x256 : Shape := ⟨2, ![640, 256]⟩
abbrev S1x1x128x640 : Shape := ⟨4, ![1, 1, 128, 640]⟩
abbrev S128x640 : Shape := ⟨2, ![128, 640]⟩
abbrev S1x1x768x128 : Shape := ⟨4, ![1, 1, 768, 128]⟩
abbrev S768x128 : Shape := ⟨2, ![768, 128]⟩
abbrev S768x256 : Shape := ⟨2, ![768, 256]⟩
abbrev S1x1x128x768 : Shape := ⟨4, ![1, 1, 128, 768]⟩
abbrev S128x768 : Shape := ⟨2, ![128, 768]⟩
abbrev S1x1x896x128 : Shape := ⟨4, ![1, 1, 896, 128]⟩
abbrev S896x128 : Shape := ⟨2, ![896, 128]⟩
abbrev S896x256 : Shape := ⟨2, ![896, 256]⟩
abbrev S1x1x128x896 : Shape := ⟨4, ![1, 1, 128, 896]⟩
abbrev S128x896 : Shape := ⟨2, ![128, 896]⟩
abbrev S1x1x1024x128 : Shape := ⟨4, ![1, 1, 1024, 128]⟩
abbrev S1024x128 : Shape := ⟨2, ![1024, 128]⟩
abbrev S1024x256 : Shape := ⟨2, ![1024, 256]⟩
abbrev S1x1x128x1024 : Shape := ⟨4, ![1, 1, 128, 1024]⟩
abbrev S128x1024 : Shape := ⟨2, ![128, 1024]⟩
abbrev S1x1x1152x128 : Shape := ⟨4, ![1, 1, 1152, 128]⟩
abbrev S1152x128 : Shape := ⟨2, ![1152, 128]⟩
abbrev S1152x256 : Shape := ⟨2, ![1152, 256]⟩
abbrev S1x1x128x1152 : Shape := ⟨4, ![1, 1, 128, 1152]⟩
abbrev S128x1152 : Shape := ⟨2, ![128, 1152]⟩
abbrev S1x1x1280x128 : Shape := ⟨4, ![1, 1, 1280, 128]⟩
abbrev S1280x128 : Shape := ⟨2, ![1280, 128]⟩
abbrev S1280x256 : Shape := ⟨2, ![1280, 256]⟩
abbrev S1x1x128x1280 : Shape := ⟨4, ![1, 1, 128, 1280]⟩
abbrev S128x1280 : Shape := ⟨2, ![128, 1280]⟩
abbrev S1x1x1408x128 : Shape := ⟨4, ![1, 1, 1408, 128]⟩
abbrev S1408x128 : Shape := ⟨2, ![1408, 128]⟩
abbrev S1408x256 : Shape := ⟨2, ![1408, 256]⟩
abbrev S1x1x128x1408 : Shape := ⟨4, ![1, 1, 128, 1408]⟩
abbrev S128x1408 : Shape := ⟨2, ![128, 1408]⟩
abbrev S1x1x1536x128 : Shape := ⟨4, ![1, 1, 1536, 128]⟩
abbrev S1536x128 : Shape := ⟨2, ![1536, 128]⟩
abbrev S1536x256 : Shape := ⟨2, ![1536, 256]⟩
abbrev S1x1x128x1536 : Shape := ⟨4, ![1, 1, 128, 1536]⟩
abbrev S128x1536 : Shape := ⟨2, ![128, 1536]⟩
abbrev S1x1x1664x128 : Shape := ⟨4, ![1, 1, 1664, 128]⟩
abbrev S1664x128 : Shape := ⟨2, ![1664, 128]⟩
abbrev S1664x256 : Shape := ⟨2, ![1664, 256]⟩
abbrev S1x1x128x1664 : Shape := ⟨4, ![1, 1, 128, 1664]⟩
abbrev S128x1664 : Shape := ⟨2, ![128, 1664]⟩
abbrev S1x1x1792x128 : Shape := ⟨4, ![1, 1, 1792, 128]⟩
abbrev S1792x128 : Shape := ⟨2, ![1792, 128]⟩
abbrev S1792x256 : Shape := ⟨2, ![1792, 256]⟩
abbrev S1x1x128x1792 : Shape := ⟨4, ![1, 1, 128, 1792]⟩
abbrev S128x1792 : Shape := ⟨2, ![128, 1792]⟩
abbrev S1x1x1920x128 : Shape := ⟨4, ![1, 1, 1920, 128]⟩
abbrev S1920x128 : Shape := ⟨2, ![1920, 128]⟩
abbrev S1920x256 : Shape := ⟨2, ![1920, 256]⟩
abbrev S1x1x128x1920 : Shape := ⟨4, ![1, 1, 128, 1920]⟩
abbrev S128x1920 : Shape := ⟨2, ![128, 1920]⟩
abbrev S2048x128 : Shape := ⟨2, ![2048, 128]⟩
abbrev S128x2048 : Shape := ⟨2, ![128, 2048]⟩

abbrev nBuf : Space → Nat
  | .hbm => 57
  | .vmem => 36
  | .smem => 0
  | _ => 0

abbrev bufTy : (tb : Table) → Fin (tcTables nBuf tb) → BufTy
  | .hbm, ⟨0, _⟩ => ⟨S6x2048x64x128, .bf16⟩
  | .hbm, ⟨1, _⟩ => ⟨S6x2048x4x128, .bf16⟩
  | .hbm, ⟨2, _⟩ => ⟨S6x2048x4x128, .bf16⟩
  | .hbm, ⟨3, _⟩ => ⟨S3x6x2048, .i32⟩
  | .hbm, ⟨4, _⟩ => ⟨S64, .f32⟩
  | .hbm, ⟨5, _⟩ => ⟨S4, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S64x1, .f32⟩
  | .hbm, ⟨26, _⟩ => ⟨S64x128, .f32⟩
  | .hbm, ⟨27, _⟩ => ⟨S_, .f32⟩
  | .hbm, ⟨28, _⟩ => ⟨S4, .f32⟩
  | .hbm, ⟨29, _⟩ => ⟨S4, .f32⟩
  | .hbm, ⟨30, _⟩ => ⟨S4x1, .f32⟩
  | .hbm, ⟨31, _⟩ => ⟨S4x128, .f32⟩
  | .hbm, ⟨32, _⟩ => ⟨S3x6x16x1x128, .i32⟩
  | .hbm, ⟨33, _⟩ => ⟨S64x1, .f32⟩
  | .hbm, ⟨34, _⟩ => ⟨S6x2048x512, .bf16⟩
  | .hbm, ⟨35, _⟩ => ⟨S6x2048x64x128, .fp8e4m3⟩
  | .hbm, ⟨36, _⟩ => ⟨S6x4x2048x16x128, .fp8e4m3⟩
  | .hbm, ⟨37, _⟩ => ⟨S6x2048x4x128, .fp8e4m3⟩
  | .hbm, ⟨38, _⟩ => ⟨S6x4x2048x128, .fp8e4m3⟩
  | .hbm, ⟨39, _⟩ => ⟨S6x4x128x2048, .bf16⟩
  | .hbm, ⟨40, _⟩ => ⟨S64x128, .f32⟩
  | .hbm, ⟨41, _⟩ => ⟨S4x128, .f32⟩
  | .hbm, ⟨42, _⟩ => ⟨S4x16, .f32⟩
  | .hbm, ⟨43, _⟩ => ⟨S4x1, .f32⟩
  | .hbm, ⟨44, _⟩ => ⟨S4x16, .f32⟩
  | .hbm, ⟨45, _⟩ => ⟨S4x16, .f32⟩
  | .hbm, ⟨46, _⟩ => ⟨S_, .f32⟩
  | .hbm, ⟨47, _⟩ => ⟨S4x16, .f32⟩
  | .hbm, ⟨48, _⟩ => ⟨S4x16, .f32⟩
  | .hbm, ⟨49, _⟩ => ⟨S4x1x1x16, .f32⟩
  | .hbm, ⟨50, _⟩ => ⟨S4x1x16x16, .f32⟩
  | .hbm, ⟨51, _⟩ => ⟨S4x1x256, .f32⟩
  | .hbm, ⟨52, _⟩ => ⟨S6x2048x8192, .bf16⟩
  | .hbm, ⟨53, _⟩ => ⟨S_, .f32⟩
  | .hbm, ⟨54, _⟩ => ⟨S64, .f32⟩
  | .hbm, ⟨55, _⟩ => ⟨S_, .f32⟩
  | .hbm, ⟨56, _⟩ => ⟨S4, .f32⟩
  | .local _ .vmem, ⟨0, _⟩ => ⟨S3x1x1x1x128, .i32⟩
  | .local _ .vmem, ⟨1, _⟩ => ⟨S3x1x1x1x128, .i32⟩
  | .local _ .vmem, ⟨2, _⟩ => ⟨S64x1, .f32⟩
  | .local _ .vmem, ⟨3, _⟩ => ⟨S64x128, .f32⟩
  | .local _ .vmem, ⟨4, _⟩ => ⟨S4x128, .f32⟩
  | .local _ .vmem, ⟨5, _⟩ => ⟨S1x128x64x128, .bf16⟩
  | .local _ .vmem, ⟨6, _⟩ => ⟨S1x128x64x128, .bf16⟩
  | .local _ .vmem, ⟨7, _⟩ => ⟨S1x128x4x128, .bf16⟩
  | .local _ .vmem, ⟨8, _⟩ => ⟨S1x128x4x128, .bf16⟩
  | .local _ .vmem, ⟨9, _⟩ => ⟨S1x128x512, .bf16⟩
  | .local _ .vmem, ⟨10, _⟩ => ⟨S1x128x512, .bf16⟩
  | .local _ .vmem, ⟨11, _⟩ => ⟨S1x128x64x128, .fp8e4m3⟩
  | .local _ .vmem, ⟨12, _⟩ => ⟨S1x128x64x128, .fp8e4m3⟩
  | .local _ .vmem, ⟨13, _⟩ => ⟨S1x4x128x16x128, .fp8e4m3⟩
  | .local _ .vmem, ⟨14, _⟩ => ⟨S1x4x128x16x128, .fp8e4m3⟩
  | .local _ .vmem, ⟨15, _⟩ => ⟨S1x128x4x128, .fp8e4m3⟩
  | .local _ .vmem, ⟨16, _⟩ => ⟨S1x128x4x128, .fp8e4m3⟩
  | .local _ .vmem, ⟨17, _⟩ => ⟨S1x4x128x128, .fp8e4m3⟩
  | .local _ .vmem, ⟨18, _⟩ => ⟨S1x4x128x128, .fp8e4m3⟩
  | .local _ .vmem, ⟨19, _⟩ => ⟨S1x4x128x128, .bf16⟩
  | .local _ .vmem, ⟨20, _⟩ => ⟨S1x4x128x128, .bf16⟩
  | .local _ .vmem, ⟨21, _⟩ => ⟨S64x128, .f32⟩
  | .local _ .vmem, ⟨22, _⟩ => ⟨S4x128, .f32⟩
  | .local _ .vmem, ⟨23, _⟩ => ⟨S128x128, .f32⟩
  | .local _ .vmem, ⟨24, _⟩ => ⟨S128x128, .f32⟩
  | .local _ .vmem, ⟨25, _⟩ => ⟨S1x1x128x16x128, .fp8e4m3⟩
  | .local _ .vmem, ⟨26, _⟩ => ⟨S1x1x128x16x128, .fp8e4m3⟩
  | .local _ .vmem, ⟨27, _⟩ => ⟨S1x1x2048x128, .fp8e4m3⟩
  | .local _ .vmem, ⟨28, _⟩ => ⟨S1x1x2048x128, .fp8e4m3⟩
  | .local _ .vmem, ⟨29, _⟩ => ⟨S1x1x128x2048, .bf16⟩
  | .local _ .vmem, ⟨30, _⟩ => ⟨S1x1x128x2048, .bf16⟩
  | .local _ .vmem, ⟨31, _⟩ => ⟨S1x1x256, .f32⟩
  | .local _ .vmem, ⟨32, _⟩ => ⟨S1x1x256, .f32⟩
  | .local _ .vmem, ⟨33, _⟩ => ⟨S1x128x2048, .bf16⟩
  | .local _ .vmem, ⟨34, _⟩ => ⟨S1x128x2048, .bf16⟩
  | .local _ .vmem, ⟨35, _⟩ => ⟨S2048x256, .f32⟩
  | _, _ => ⟨S6x2048x64x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_5 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22_0 : Ref sig .tc := ⟨.hbm, 35, rfl⟩
abbrev main_v22_1 : Ref sig .tc := ⟨.hbm, 36, rfl⟩
abbrev main_v22_2 : Ref sig .tc := ⟨.hbm, 37, rfl⟩
abbrev main_v22_3 : Ref sig .tc := ⟨.hbm, 38, rfl⟩
abbrev main_v22_4 : Ref sig .tc := ⟨.hbm, 39, rfl⟩
abbrev main_v22_5 : Ref sig .tc := ⟨.hbm, 40, rfl⟩
abbrev main_v22_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_cst_8 : Ref sig .tc := ⟨.hbm, 55, rfl⟩
abbrev main_v34 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_scratch0 : Ref sig .tc := ⟨.vmem, 23, rfl⟩
abbrev cc0_scratch1 : Ref sig .tc := ⟨.vmem, 24, rfl⟩
abbrev cc1_stg0_0 : Ref sig .tc := ⟨.vmem, 25, rfl⟩
abbrev cc1_stg0_1 : Ref sig .tc := ⟨.vmem, 26, rfl⟩
abbrev cc1_stg1_0 : Ref sig .tc := ⟨.vmem, 27, rfl⟩
abbrev cc1_stg1_1 : Ref sig .tc := ⟨.vmem, 28, rfl⟩
abbrev cc1_stg2_0 : Ref sig .tc := ⟨.vmem, 29, rfl⟩
abbrev cc1_stg2_1 : Ref sig .tc := ⟨.vmem, 30, rfl⟩
abbrev cc1_stg3_0 : Ref sig .tc := ⟨.vmem, 31, rfl⟩
abbrev cc1_stg3_1 : Ref sig .tc := ⟨.vmem, 32, rfl⟩
abbrev cc1_stg4_0 : Ref sig .tc := ⟨.vmem, 33, rfl⟩
abbrev cc1_stg4_1 : Ref sig .tc := ⟨.vmem, 34, rfl⟩
abbrev cc1_scratch0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc1_sem0_0 : DmaSem sig := 23
abbrev cc1_sem0_1 : DmaSem sig := 24
abbrev cc1_sem1_0 : DmaSem sig := 25
abbrev cc1_sem1_1 : DmaSem sig := 26
abbrev cc1_sem2_0 : DmaSem sig := 27
abbrev cc1_sem2_1 : DmaSem sig := 28
abbrev cc1_sem3_0 : DmaSem sig := 29
abbrev cc1_sem3_1 : DmaSem sig := 30
abbrev cc1_sem4_0 : DmaSem sig := 31
abbrev cc1_sem4_1 : DmaSem sig := 32

abbrev nD : Nat := 1
abbrev τ : Topo := Topo.v7x

variable {F : FTy → Type} [FloatOps F]

abbrev grid0 : Pipeline.Grid := ⟨2, ![6, 16], ![false, false]⟩

@[reducible] def k0_t1_loop : Scf.Loop 32 :=
  let c0_i32_12 : BitVec 32 := 0#32
  let c16_i32 : BitVec 32 := 16#32
  let v36 : BitVec 32 := Scalar.addi c0_i32_12 c16_i32
  let c1_i32 : BitVec 32 := 1#32
  ⟨c0_i32_12, v36, c1_i32⟩
def k0_mult1 (k0_t1 : Fin k0_t1_loop.trips) : BitVec 32 :=
  let c0_i32_12 : BitVec 32 := 0#32
  let c1_i32 : BitVec 32 := 1#32
  let arg18 : BitVec 32 := Scf.iv c0_i32_12 c1_i32 k0_t1
  let c8_i32 : BitVec 32 := 8#32
  let v97 : BitVec 32 := Scalar.muli arg18 c8_i32
  v97
def k0_off1 (k0_t1 : Fin k0_t1_loop.trips) : Fin 4 → Nat :=
  let c0_68 : Index := 0#32
  let c0_i32_12 : BitVec 32 := 0#32
  let c1_i32 : BitVec 32 := 1#32
  let arg18 : BitVec 32 := Scf.iv c0_i32_12 c1_i32 k0_t1
  let c8_i32 : BitVec 32 := 8#32
  let v97 : BitVec 32 := Scalar.muli arg18 c8_i32
  let v98 : BitVec 32 := v97
  let v99 : Index := Scalar.indexCast v98
  let c0_69 : Index := 0#32
  let c0_70 : Index := 0#32
  ![0, v99.toNat, 0, 0]
def k0_off2 (k0_t1 : Fin k0_t1_loop.trips) : Fin 2 → Nat :=
  let c0_i32_12 : BitVec 32 := 0#32
  let c1_i32 : BitVec 32 := 1#32
  let arg18 : BitVec 32 := Scf.iv c0_i32_12 c1_i32 k0_t1
  let c8_i32 : BitVec 32 := 8#32
  let v97 : BitVec 32 := Scalar.muli arg18 c8_i32
  let v98 : BitVec 32 := v97
  let v103 : Index := Scalar.indexCast v98
  let c0_71 : Index := 0#32
  ![v103.toNat, 0]
def k0_off3 (k0_t1 : Fin k0_t1_loop.trips) : Fin 5 → Nat :=
  let c0_85 : Index := 0#32
  let c0_86 : Index := 0#32
  let c0_i32_12 : BitVec 32 := 0#32
  let c1_i32 : BitVec 32 := 1#32
  let arg18 : BitVec 32 := Scf.iv c0_i32_12 c1_i32 k0_t1
  let c8_i32 : BitVec 32 := 8#32
  let v97 : BitVec 32 := Scalar.muli arg18 c8_i32
  let v98 : BitVec 32 := v97
  let v136 : Index := Scalar.indexCast v98
  let c0_87 : Index := 0#32
  let c0_88 : Index := 0#32
  ![0, 0, v136.toNat, 0, 0]
def k0_off4 (k0_t1 : Fin k0_t1_loop.trips) : Fin 5 → Nat :=
  let c0_89 : Index := 0#32
  let c1_90 : Index := 1#32
  let c0_i32_12 : BitVec 32 := 0#32
  let c1_i32 : BitVec 32 := 1#32
  let arg18 : BitVec 32 := Scf.iv c0_i32_12 c1_i32 k0_t1
  let c8_i32 : BitVec 32 := 8#32
  let v97 : BitVec 32 := Scalar.muli arg18 c8_i32
  let v98 : BitVec 32 := v97
  let v141 : Index := Scalar.indexCast v98
  let c0_91 : Index := 0#32
  let c0_92 : Index := 0#32
  ![0, 1, v141.toNat, 0, 0]
def k0_off5 (k0_t1 : Fin k0_t1_loop.trips) : Fin 5 → Nat :=
  let c0_93 : Index := 0#32
  let c2_94 : Index := 2#32
  let c0_i32_12 : BitVec 32 := 0#32
  let c1_i32 : BitVec 32 := 1#32
  let arg18 : BitVec 32 := Scf.iv c0_i32_12 c1_i32 k0_t1
  let c8_i32 : BitVec 32 := 8#32
  let v97 : BitVec 32 := Scalar.muli arg18 c8_i32
  let v98 : BitVec 32 := v97
  let v146 : Index := Scalar.indexCast v98
  let c0_95 : Index := 0#32
  let c0_96 : Index := 0#32
  ![0, 2, v146.toNat, 0, 0]
def k0_off6 (k0_t1 : Fin k0_t1_loop.trips) : Fin 5 → Nat :=
  let c0_97 : Index := 0#32
  let c3_98 : Index := 3#32
  let c0_i32_12 : BitVec 32 := 0#32
  let c1_i32 : BitVec 32 := 1#32
  let arg18 : BitVec 32 := Scf.iv c0_i32_12 c1_i32 k0_t1
  let c8_i32 : BitVec 32 := 8#32
  let v97 : BitVec 32 := Scalar.muli arg18 c8_i32
  let v98 : BitVec 32 := v97
  let v151 : Index := Scalar.indexCast v98
  let c0_99 : Index := 0#32
  let c0_100 : Index := 0#32
  ![0, 3, v151.toNat, 0, 0]
def k0_off7 (k0_t1 : Fin k0_t1_loop.trips) : Fin 4 → Nat :=
  let c0_101 : Index := 0#32
  let c0_i32_12 : BitVec 32 := 0#32
  let c1_i32 : BitVec 32 := 1#32
  let arg18 : BitVec 32 := Scf.iv c0_i32_12 c1_i32 k0_t1
  let c8_i32 : BitVec 32 := 8#32
  let v97 : BitVec 32 := Scalar.muli arg18 c8_i32
  let v98 : BitVec 32 := v97
  let v155 : Index := Scalar.indexCast v98
  let c0_102 : Index := 0#32
  let c0_103 : Index := 0#32
  ![0, v155.toNat, 0, 0]
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x1x1x1x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x64x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x4x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x64x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x128x16x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x4x128 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x128x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x128x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S64x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S4x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev grid1 : Pipeline.Grid := ⟨3, ![6, 4, 16], ![false, false, false]⟩

def k1_cond1 (i : grid1.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_2 : BitVec 32 := 0#32
  let v6 : BitVec 1 := Scalar.cmpi .ne v5 c0_i32_2
  v6

@[reducible] def k1_t1_loop : Scf.Loop 32 :=
  let c0_i32_18 : BitVec 32 := 0#32
  let c8_i32_19 : BitVec 32 := 8#32
  let v52 : BitVec 32 := Scalar.addi c0_i32_18 c8_i32_19
  let c1_i32_20 : BitVec 32 := 1#32
  ⟨c0_i32_18, v52, c1_i32_20⟩
def k1_mult1 (k1_t1 : Fin k1_t1_loop.trips) : BitVec 32 :=
  let c0_i32_18 : BitVec 32 := 0#32
  let c1_i32_20 : BitVec 32 := 1#32
  let arg9 : BitVec 32 := Scf.iv c0_i32_18 c1_i32_20 k1_t1
  let c16_i32 : BitVec 32 := 16#32
  let v53 : BitVec 32 := Scalar.muli arg9 c16_i32
  v53
def k1_off1 (k1_t1 : Fin k1_t1_loop.trips) : Fin 5 → Nat :=
  let c0_22 : Index := 0#32
  let c0_23 : Index := 0#32
  let c0_i32_18 : BitVec 32 := 0#32
  let c1_i32_20 : BitVec 32 := 1#32
  let arg9 : BitVec 32 := Scf.iv c0_i32_18 c1_i32_20 k1_t1
  let c16_i32 : BitVec 32 := 16#32
  let v53 : BitVec 32 := Scalar.muli arg9 c16_i32
  let v54 : BitVec 32 := v53
  let v55 : Index := Scalar.indexCast v54
  let c0_24 : Index := 0#32
  let c0_25 : Index := 0#32
  ![0, 0, v55.toNat, 0, 0]
def k1_off2 (k1_t1 : Fin k1_t1_loop.trips) : Fin 3 → Nat :=
  let c0_57 : Index := 0#32
  let c0_i32_18 : BitVec 32 := 0#32
  let c1_i32_20 : BitVec 32 := 1#32
  let arg9 : BitVec 32 := Scf.iv c0_i32_18 c1_i32_20 k1_t1
  let c16_i32 : BitVec 32 := 16#32
  let v53 : BitVec 32 := Scalar.muli arg9 c16_i32
  let v54 : BitVec 32 := v53
  let v124 : Index := Scalar.indexCast v54
  let c0_58 : Index := 0#32
  ![0, v124.toNat, 0]
def k1_off3 (k1_t1 : Fin k1_t1_loop.trips) : Fin 3 → Nat :=
  let c0_59 : Index := 0#32
  let c0_i32_18 : BitVec 32 := 0#32
  let c1_i32_20 : BitVec 32 := 1#32
  let arg9 : BitVec 32 := Scf.iv c0_i32_18 c1_i32_20 k1_t1
  let c16_i32 : BitVec 32 := 16#32
  let v53 : BitVec 32 := Scalar.muli arg9 c16_i32
  let v54 : BitVec 32 := v53
  let v131 : Index := Scalar.indexCast v54
  let c128 : Index := 128#32
  ![0, v131.toNat, 128]
def k1_off4 (k1_t1 : Fin k1_t1_loop.trips) : Fin 3 → Nat :=
  let c0_60 : Index := 0#32
  let c0_i32_18 : BitVec 32 := 0#32
  let c1_i32_20 : BitVec 32 := 1#32
  let arg9 : BitVec 32 := Scf.iv c0_i32_18 c1_i32_20 k1_t1
  let c16_i32 : BitVec 32 := 16#32
  let v53 : BitVec 32 := Scalar.muli arg9 c16_i32
  let v54 : BitVec 32 := v53
  let v138 : Index := Scalar.indexCast v54
  let c256 : Index := 256#32
  ![0, v138.toNat, 256]
def k1_off5 (k1_t1 : Fin k1_t1_loop.trips) : Fin 3 → Nat :=
  let c0_61 : Index := 0#32
  let c0_i32_18 : BitVec 32 := 0#32
  let c1_i32_20 : BitVec 32 := 1#32
  let arg9 : BitVec 32 := Scf.iv c0_i32_18 c1_i32_20 k1_t1
  let c16_i32 : BitVec 32 := 16#32
  let v53 : BitVec 32 := Scalar.muli arg9 c16_i32
  let v54 : BitVec 32 := v53
  let v145 : Index := Scalar.indexCast v54
  let c384 : Index := 384#32
  ![0, v145.toNat, 384]
def k1_off6 (k1_t1 : Fin k1_t1_loop.trips) : Fin 3 → Nat :=
  let c0_62 : Index := 0#32
  let c0_i32_18 : BitVec 32 := 0#32
  let c1_i32_20 : BitVec 32 := 1#32
  let arg9 : BitVec 32 := Scf.iv c0_i32_18 c1_i32_20 k1_t1
  let c16_i32 : BitVec 32 := 16#32
  let v53 : BitVec 32 := Scalar.muli arg9 c16_i32
  let v54 : BitVec 32 := v53
  let v152 : Index := Scalar.indexCast v54
  let c512 : Index := 512#32
  ![0, v152.toNat, 512]
def k1_off7 (k1_t1 : Fin k1_t1_loop.trips) : Fin 3 → Nat :=
  let c0_63 : Index := 0#32
  let c0_i32_18 : BitVec 32 := 0#32
  let c1_i32_20 : BitVec 32 := 1#32
  let arg9 : BitVec 32 := Scf.iv c0_i32_18 c1_i32_20 k1_t1
  let c16_i32 : BitVec 32 := 16#32
  let v53 : BitVec 32 := Scalar.muli arg9 c16_i32
  let v54 : BitVec 32 := v53
  let v159 : Index := Scalar.indexCast v54
  let c640 : Index := 640#32
  ![0, v159.toNat, 640]
def k1_off8 (k1_t1 : Fin k1_t1_loop.trips) : Fin 3 → Nat :=
  let c0_64 : Index := 0#32
  let c0_i32_18 : BitVec 32 := 0#32
  let c1_i32_20 : BitVec 32 := 1#32
  let arg9 : BitVec 32 := Scf.iv c0_i32_18 c1_i32_20 k1_t1
  let c16_i32 : BitVec 32 := 16#32
  let v53 : BitVec 32 := Scalar.muli arg9 c16_i32
  let v54 : BitVec 32 := v53
  let v166 : Index := Scalar.indexCast v54
  let c768 : Index := 768#32
  ![0, v166.toNat, 768]
def k1_off9 (k1_t1 : Fin k1_t1_loop.trips) : Fin 3 → Nat :=
  let c0_65 : Index := 0#32
  let c0_i32_18 : BitVec 32 := 0#32
  let c1_i32_20 : BitVec 32 := 1#32
  let arg9 : BitVec 32 := Scf.iv c0_i32_18 c1_i32_20 k1_t1
  let c16_i32 : BitVec 32 := 16#32
  let v53 : BitVec 32 := Scalar.muli arg9 c16_i32
  let v54 : BitVec 32 := v53
  let v173 : Index := Scalar.indexCast v54
  let c896 : Index := 896#32
  ![0, v173.toNat, 896]
def k1_off10 (k1_t1 : Fin k1_t1_loop.trips) : Fin 3 → Nat :=
  let c0_66 : Index := 0#32
  let c0_i32_18 : BitVec 32 := 0#32
  let c1_i32_20 : BitVec 32 := 1#32
  let arg9 : BitVec 32 := Scf.iv c0_i32_18 c1_i32_20 k1_t1
  let c16_i32 : BitVec 32 := 16#32
  let v53 : BitVec 32 := Scalar.muli arg9 c16_i32
  let v54 : BitVec 32 := v53
  let v180 : Index := Scalar.indexCast v54
  let c1024 : Index := 1024#32
  ![0, v180.toNat, 1024]
def k1_off11 (k1_t1 : Fin k1_t1_loop.trips) : Fin 3 → Nat :=
  let c0_67 : Index := 0#32
  let c0_i32_18 : BitVec 32 := 0#32
  let c1_i32_20 : BitVec 32 := 1#32
  let arg9 : BitVec 32 := Scf.iv c0_i32_18 c1_i32_20 k1_t1
  let c16_i32 : BitVec 32 := 16#32
  let v53 : BitVec 32 := Scalar.muli arg9 c16_i32
  let v54 : BitVec 32 := v53
  let v187 : Index := Scalar.indexCast v54
  let c1152 : Index := 1152#32
  ![0, v187.toNat, 1152]
def k1_off12 (k1_t1 : Fin k1_t1_loop.trips) : Fin 3 → Nat :=
  let c0_68 : Index := 0#32
  let c0_i32_18 : BitVec 32 := 0#32
  let c1_i32_20 : BitVec 32 := 1#32
  let arg9 : BitVec 32 := Scf.iv c0_i32_18 c1_i32_20 k1_t1
  let c16_i32 : BitVec 32 := 16#32
  let v53 : BitVec 32 := Scalar.muli arg9 c16_i32
  let v54 : BitVec 32 := v53
  let v194 : Index := Scalar.indexCast v54
  let c1280 : Index := 1280#32
  ![0, v194.toNat, 1280]
def k1_off13 (k1_t1 : Fin k1_t1_loop.trips) : Fin 3 → Nat :=
  let c0_69 : Index := 0#32
  let c0_i32_18 : BitVec 32 := 0#32
  let c1_i32_20 : BitVec 32 := 1#32
  let arg9 : BitVec 32 := Scf.iv c0_i32_18 c1_i32_20 k1_t1
  let c16_i32 : BitVec 32 := 16#32
  let v53 : BitVec 32 := Scalar.muli arg9 c16_i32
  let v54 : BitVec 32 := v53
  let v201 : Index := Scalar.indexCast v54
  let c1408 : Index := 1408#32
  ![0, v201.toNat, 1408]
def k1_off14 (k1_t1 : Fin k1_t1_loop.trips) : Fin 3 → Nat :=
  let c0_70 : Index := 0#32
  let c0_i32_18 : BitVec 32 := 0#32
  let c1_i32_20 : BitVec 32 := 1#32
  let arg9 : BitVec 32 := Scf.iv c0_i32_18 c1_i32_20 k1_t1
  let c16_i32 : BitVec 32 := 16#32
  let v53 : BitVec 32 := Scalar.muli arg9 c16_i32
  let v54 : BitVec 32 := v53
  let v208 : Index := Scalar.indexCast v54
  let c1536 : Index := 1536#32
  ![0, v208.toNat, 1536]
def k1_off15 (k1_t1 : Fin k1_t1_loop.trips) : Fin 3 → Nat :=
  let c0_71 : Index := 0#32
  let c0_i32_18 : BitVec 32 := 0#32
  let c1_i32_20 : BitVec 32 := 1#32
  let arg9 : BitVec 32 := Scf.iv c0_i32_18 c1_i32_20 k1_t1
  let c16_i32 : BitVec 32 := 16#32
  let v53 : BitVec 32 := Scalar.muli arg9 c16_i32
  let v54 : BitVec 32 := v53
  let v215 : Index := Scalar.indexCast v54
  let c1664 : Index := 1664#32
  ![0, v215.toNat, 1664]
def k1_off16 (k1_t1 : Fin k1_t1_loop.trips) : Fin 3 → Nat :=
  let c0_72 : Index := 0#32
  let c0_i32_18 : BitVec 32 := 0#32
  let c1_i32_20 : BitVec 32 := 1#32
  let arg9 : BitVec 32 := Scf.iv c0_i32_18 c1_i32_20 k1_t1
  let c16_i32 : BitVec 32 := 16#32
  let v53 : BitVec 32 := Scalar.muli arg9 c16_i32
  let v54 : BitVec 32 := v53
  let v222 : Index := Scalar.indexCast v54
  let c1792 : Index := 1792#32
  ![0, v222.toNat, 1792]
def k1_off17 (k1_t1 : Fin k1_t1_loop.trips) : Fin 3 → Nat :=
  let c0_73 : Index := 0#32
  let c0_i32_18 : BitVec 32 := 0#32
  let c1_i32_20 : BitVec 32 := 1#32
  let arg9 : BitVec 32 := Scf.iv c0_i32_18 c1_i32_20 k1_t1
  let c16_i32 : BitVec 32 := 16#32
  let v53 : BitVec 32 := Scalar.muli arg9 c16_i32
  let v54 : BitVec 32 := v53
  let v229 : Index := Scalar.indexCast v54
  let c1920 : Index := 1920#32
  ![0, v229.toNat, 1920]
def k1_cond2 (i : grid1.Coords) : BitVec 1 :=
  let arg2 : BitVec 32 := BitVec.ofNat 32 (i 2).val
  let c1_i32 : BitVec 32 := 1#32
  let v7 : BitVec 1 := Scalar.cmpi .eq arg2 c1_i32
  let v8 : BitVec 32 := Scalar.extui v7
  let c0_i32_3 : BitVec 32 := 0#32
  let v9 : BitVec 1 := Scalar.cmpi .ne v8 c0_i32_3
  v9

@[reducible] def k1_t2_loop : Scf.Loop 32 :=
  let c0_i32_18 : BitVec 32 := 0#32
  let c8_i32_19 : BitVec 32 := 8#32
  let v52 : BitVec 32 := Scalar.addi c0_i32_18 c8_i32_19
  let c1_i32_20 : BitVec 32 := 1#32
  ⟨c0_i32_18, v52, c1_i32_20⟩
def k1_mult2 (k1_t2 : Fin k1_t2_loop.trips) : BitVec 32 :=
  let c0_i32_18 : BitVec 32 := 0#32
  let c1_i32_20 : BitVec 32 := 1#32
  let arg9 : BitVec 32 := Scf.iv c0_i32_18 c1_i32_20 k1_t2
  let c16_i32 : BitVec 32 := 16#32
  let v53 : BitVec 32 := Scalar.muli arg9 c16_i32
  v53
def k1_off18 (k1_t2 : Fin k1_t2_loop.trips) : Fin 5 → Nat :=
  let c0_22 : Index := 0#32
  let c0_23 : Index := 0#32
  let c0_i32_18 : BitVec 32 := 0#32
  let c1_i32_20 : BitVec 32 := 1#32
  let arg9 : BitVec 32 := Scf.iv c0_i32_18 c1_i32_20 k1_t2
  let c16_i32 : BitVec 32 := 16#32
  let v53 : BitVec 32 := Scalar.muli arg9 c16_i32
  let v54 : BitVec 32 := v53
  let v55 : Index := Scalar.indexCast v54
  let c0_24 : Index := 0#32
  let c0_25 : Index := 0#32
  ![0, 0, v55.toNat, 0, 0]
def k1_off19 (k1_t2 : Fin k1_t2_loop.trips) : Fin 3 → Nat :=
  let c0_56 : Index := 0#32
  let c0_i32_18 : BitVec 32 := 0#32
  let c1_i32_20 : BitVec 32 := 1#32
  let arg9 : BitVec 32 := Scf.iv c0_i32_18 c1_i32_20 k1_t2
  let c16_i32 : BitVec 32 := 16#32
  let v53 : BitVec 32 := Scalar.muli arg9 c16_i32
  let v54 : BitVec 32 := v53
  let v124 : Index := Scalar.indexCast v54
  let c0_57 : Index := 0#32
  ![0, v124.toNat, 0]
def k1_off20 (k1_t2 : Fin k1_t2_loop.trips) : Fin 3 → Nat :=
  let c0_58 : Index := 0#32
  let c0_i32_18 : BitVec 32 := 0#32
  let c1_i32_20 : BitVec 32 := 1#32
  let arg9 : BitVec 32 := Scf.iv c0_i32_18 c1_i32_20 k1_t2
  let c16_i32 : BitVec 32 := 16#32
  let v53 : BitVec 32 := Scalar.muli arg9 c16_i32
  let v54 : BitVec 32 := v53
  let v131 : Index := Scalar.indexCast v54
  let c128_59 : Index := 128#32
  ![0, v131.toNat, 128]
def k1_off21 (k1_t2 : Fin k1_t2_loop.trips) : Fin 3 → Nat :=
  let c0_60 : Index := 0#32
  let c0_i32_18 : BitVec 32 := 0#32
  let c1_i32_20 : BitVec 32 := 1#32
  let arg9 : BitVec 32 := Scf.iv c0_i32_18 c1_i32_20 k1_t2
  let c16_i32 : BitVec 32 := 16#32
  let v53 : BitVec 32 := Scalar.muli arg9 c16_i32
  let v54 : BitVec 32 := v53
  let v138 : Index := Scalar.indexCast v54
  let c256 : Index := 256#32
  ![0, v138.toNat, 256]
def k1_off22 (k1_t2 : Fin k1_t2_loop.trips) : Fin 3 → Nat :=
  let c0_61 : Index := 0#32
  let c0_i32_18 : BitVec 32 := 0#32
  let c1_i32_20 : BitVec 32 := 1#32
  let arg9 : BitVec 32 := Scf.iv c0_i32_18 c1_i32_20 k1_t2
  let c16_i32 : BitVec 32 := 16#32
  let v53 : BitVec 32 := Scalar.muli arg9 c16_i32
  let v54 : BitVec 32 := v53
  let v145 : Index := Scalar.indexCast v54
  let c384 : Index := 384#32
  ![0, v145.toNat, 384]
def k1_off23 (k1_t2 : Fin k1_t2_loop.trips) : Fin 3 → Nat :=
  let c0_62 : Index := 0#32
  let c0_i32_18 : BitVec 32 := 0#32
  let c1_i32_20 : BitVec 32 := 1#32
  let arg9 : BitVec 32 := Scf.iv c0_i32_18 c1_i32_20 k1_t2
  let c16_i32 : BitVec 32 := 16#32
  let v53 : BitVec 32 := Scalar.muli arg9 c16_i32
  let v54 : BitVec 32 := v53
  let v152 : Index := Scalar.indexCast v54
  let c512 : Index := 512#32
  ![0, v152.toNat, 512]
def k1_off24 (k1_t2 : Fin k1_t2_loop.trips) : Fin 3 → Nat :=
  let c0_63 : Index := 0#32
  let c0_i32_18 : BitVec 32 := 0#32
  let c1_i32_20 : BitVec 32 := 1#32
  let arg9 : BitVec 32 := Scf.iv c0_i32_18 c1_i32_20 k1_t2
  let c16_i32 : BitVec 32 := 16#32
  let v53 : BitVec 32 := Scalar.muli arg9 c16_i32
  let v54 : BitVec 32 := v53
  let v159 : Index := Scalar.indexCast v54
  let c640 : Index := 640#32
  ![0, v159.toNat, 640]
def k1_off25 (k1_t2 : Fin k1_t2_loop.trips) : Fin 3 → Nat :=
  let c0_64 : Index := 0#32
  let c0_i32_18 : BitVec 32 := 0#32
  let c1_i32_20 : BitVec 32 := 1#32
  let arg9 : BitVec 32 := Scf.iv c0_i32_18 c1_i32_20 k1_t2
  let c16_i32 : BitVec 32 := 16#32
  let v53 : BitVec 32 := Scalar.muli arg9 c16_i32
  let v54 : BitVec 32 := v53
  let v166 : Index := Scalar.indexCast v54
  let c768 : Index := 768#32
  ![0, v166.toNat, 768]
def k1_off26 (k1_t2 : Fin k1_t2_loop.trips) : Fin 3 → Nat :=
  let c0_65 : Index := 0#32
  let c0_i32_18 : BitVec 32 := 0#32
  let c1_i32_20 : BitVec 32 := 1#32
  let arg9 : BitVec 32 := Scf.iv c0_i32_18 c1_i32_20 k1_t2
  let c16_i32 : BitVec 32 := 16#32
  let v53 : BitVec 32 := Scalar.muli arg9 c16_i32
  let v54 : BitVec 32 := v53
  let v173 : Index := Scalar.indexCast v54
  let c896 : Index := 896#32
  ![0, v173.toNat, 896]
def k1_off27 (k1_t2 : Fin k1_t2_loop.trips) : Fin 3 → Nat :=
  let c0_66 : Index := 0#32
  let c0_i32_18 : BitVec 32 := 0#32
  let c1_i32_20 : BitVec 32 := 1#32
  let arg9 : BitVec 32 := Scf.iv c0_i32_18 c1_i32_20 k1_t2
  let c16_i32 : BitVec 32 := 16#32
  let v53 : BitVec 32 := Scalar.muli arg9 c16_i32
  let v54 : BitVec 32 := v53
  let v180 : Index := Scalar.indexCast v54
  let c1024 : Index := 1024#32
  ![0, v180.toNat, 1024]
def k1_off28 (k1_t2 : Fin k1_t2_loop.trips) : Fin 3 → Nat :=
  let c0_67 : Index := 0#32
  let c0_i32_18 : BitVec 32 := 0#32
  let c1_i32_20 : BitVec 32 := 1#32
  let arg9 : BitVec 32 := Scf.iv c0_i32_18 c1_i32_20 k1_t2
  let c16_i32 : BitVec 32 := 16#32
  let v53 : BitVec 32 := Scalar.muli arg9 c16_i32
  let v54 : BitVec 32 := v53
  let v187 : Index := Scalar.indexCast v54
  let c1152 : Index := 1152#32
  ![0, v187.toNat, 1152]
def k1_off29 (k1_t2 : Fin k1_t2_loop.trips) : Fin 3 → Nat :=
  let c0_68 : Index := 0#32
  let c0_i32_18 : BitVec 32 := 0#32
  let c1_i32_20 : BitVec 32 := 1#32
  let arg9 : BitVec 32 := Scf.iv c0_i32_18 c1_i32_20 k1_t2
  let c16_i32 : BitVec 32 := 16#32
  let v53 : BitVec 32 := Scalar.muli arg9 c16_i32
  let v54 : BitVec 32 := v53
  let v194 : Index := Scalar.indexCast v54
  let c1280 : Index := 1280#32
  ![0, v194.toNat, 1280]
def k1_off30 (k1_t2 : Fin k1_t2_loop.trips) : Fin 3 → Nat :=
  let c0_69 : Index := 0#32
  let c0_i32_18 : BitVec 32 := 0#32
  let c1_i32_20 : BitVec 32 := 1#32
  let arg9 : BitVec 32 := Scf.iv c0_i32_18 c1_i32_20 k1_t2
  let c16_i32 : BitVec 32 := 16#32
  let v53 : BitVec 32 := Scalar.muli arg9 c16_i32
  let v54 : BitVec 32 := v53
  let v201 : Index := Scalar.indexCast v54
  let c1408 : Index := 1408#32
  ![0, v201.toNat, 1408]
def k1_off31 (k1_t2 : Fin k1_t2_loop.trips) : Fin 3 → Nat :=
  let c0_70 : Index := 0#32
  let c0_i32_18 : BitVec 32 := 0#32
  let c1_i32_20 : BitVec 32 := 1#32
  let arg9 : BitVec 32 := Scf.iv c0_i32_18 c1_i32_20 k1_t2
  let c16_i32 : BitVec 32 := 16#32
  let v53 : BitVec 32 := Scalar.muli arg9 c16_i32
  let v54 : BitVec 32 := v53
  let v208 : Index := Scalar.indexCast v54
  let c1536 : Index := 1536#32
  ![0, v208.toNat, 1536]
def k1_off32 (k1_t2 : Fin k1_t2_loop.trips) : Fin 3 → Nat :=
  let c0_71 : Index := 0#32
  let c0_i32_18 : BitVec 32 := 0#32
  let c1_i32_20 : BitVec 32 := 1#32
  let arg9 : BitVec 32 := Scf.iv c0_i32_18 c1_i32_20 k1_t2
  let c16_i32 : BitVec 32 := 16#32
  let v53 : BitVec 32 := Scalar.muli arg9 c16_i32
  let v54 : BitVec 32 := v53
  let v215 : Index := Scalar.indexCast v54
  let c1664 : Index := 1664#32
  ![0, v215.toNat, 1664]
def k1_off33 (k1_t2 : Fin k1_t2_loop.trips) : Fin 3 → Nat :=
  let c0_72 : Index := 0#32
  let c0_i32_18 : BitVec 32 := 0#32
  let c1_i32_20 : BitVec 32 := 1#32
  let arg9 : BitVec 32 := Scf.iv c0_i32_18 c1_i32_20 k1_t2
  let c16_i32 : BitVec 32 := 16#32
  let v53 : BitVec 32 := Scalar.muli arg9 c16_i32
  let v54 : BitVec 32 := v53
  let v222 : Index := Scalar.indexCast v54
  let c1792 : Index := 1792#32
  ![0, v222.toNat, 1792]
def k1_off34 (k1_t2 : Fin k1_t2_loop.trips) : Fin 3 → Nat :=
  let c0_73 : Index := 0#32
  let c0_i32_18 : BitVec 32 := 0#32
  let c1_i32_20 : BitVec 32 := 1#32
  let arg9 : BitVec 32 := Scf.iv c0_i32_18 c1_i32_20 k1_t2
  let c16_i32 : BitVec 32 := 16#32
  let v53 : BitVec 32 := Scalar.muli arg9 c16_i32
  let v54 : BitVec 32 := v53
  let v229 : Index := Scalar.indexCast v54
  let c1920 : Index := 1920#32
  ![0, v229.toNat, 1920]
def k1_cond3 (i : grid1.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_4 : BitVec 32 := 0#32
  let v12 : BitVec 1 := Scalar.cmpi .ne v11 c0_i32_4
  v12

@[reducible] def k1_t3_loop : Scf.Loop 32 :=
  let c0_i32_18 : BitVec 32 := 0#32
  let c8_i32_19 : BitVec 32 := 8#32
  let v52 : BitVec 32 := Scalar.addi c0_i32_18 c8_i32_19
  let c1_i32_20 : BitVec 32 := 1#32
  ⟨c0_i32_18, v52, c1_i32_20⟩
def k1_mult3 (k1_t3 : Fin k1_t3_loop.trips) : BitVec 32 :=
  let c0_i32_18 : BitVec 32 := 0#32
  let c1_i32_20 : BitVec 32 := 1#32
  let arg9 : BitVec 32 := Scf.iv c0_i32_18 c1_i32_20 k1_t3
  let c16_i32 : BitVec 32 := 16#32
  let v53 : BitVec 32 := Scalar.muli arg9 c16_i32
  v53
def k1_off35 (k1_t3 : Fin k1_t3_loop.trips) : Fin 5 → Nat :=
  let c0_22 : Index := 0#32
  let c0_23 : Index := 0#32
  let c0_i32_18 : BitVec 32 := 0#32
  let c1_i32_20 : BitVec 32 := 1#32
  let arg9 : BitVec 32 := Scf.iv c0_i32_18 c1_i32_20 k1_t3
  let c16_i32 : BitVec 32 := 16#32
  let v53 : BitVec 32 := Scalar.muli arg9 c16_i32
  let v54 : BitVec 32 := v53
  let v55 : Index := Scalar.indexCast v54
  let c0_24 : Index := 0#32
  let c0_25 : Index := 0#32
  ![0, 0, v55.toNat, 0, 0]
def k1_off36 (k1_t3 : Fin k1_t3_loop.trips) : Fin 3 → Nat :=
  let c0_56 : Index := 0#32
  let c0_i32_18 : BitVec 32 := 0#32
  let c1_i32_20 : BitVec 32 := 1#32
  let arg9 : BitVec 32 := Scf.iv c0_i32_18 c1_i32_20 k1_t3
  let c16_i32 : BitVec 32 := 16#32
  let v53 : BitVec 32 := Scalar.muli arg9 c16_i32
  let v54 : BitVec 32 := v53
  let v124 : Index := Scalar.indexCast v54
  let c0_57 : Index := 0#32
  ![0, v124.toNat, 0]
def k1_off37 (k1_t3 : Fin k1_t3_loop.trips) : Fin 3 → Nat :=
  let c0_58 : Index := 0#32
  let c0_i32_18 : BitVec 32 := 0#32
  let c1_i32_20 : BitVec 32 := 1#32
  let arg9 : BitVec 32 := Scf.iv c0_i32_18 c1_i32_20 k1_t3
  let c16_i32 : BitVec 32 := 16#32
  let v53 : BitVec 32 := Scalar.muli arg9 c16_i32
  let v54 : BitVec 32 := v53
  let v131 : Index := Scalar.indexCast v54
  let c128 : Index := 128#32
  ![0, v131.toNat, 128]
def k1_off38 (k1_t3 : Fin k1_t3_loop.trips) : Fin 3 → Nat :=
  let c0_59 : Index := 0#32
  let c0_i32_18 : BitVec 32 := 0#32
  let c1_i32_20 : BitVec 32 := 1#32
  let arg9 : BitVec 32 := Scf.iv c0_i32_18 c1_i32_20 k1_t3
  let c16_i32 : BitVec 32 := 16#32
  let v53 : BitVec 32 := Scalar.muli arg9 c16_i32
  let v54 : BitVec 32 := v53
  let v138 : Index := Scalar.indexCast v54
  let c256_60 : Index := 256#32
  ![0, v138.toNat, 256]
def k1_off39 (k1_t3 : Fin k1_t3_loop.trips) : Fin 3 → Nat :=
  let c0_61 : Index := 0#32
  let c0_i32_18 : BitVec 32 := 0#32
  let c1_i32_20 : BitVec 32 := 1#32
  let arg9 : BitVec 32 := Scf.iv c0_i32_18 c1_i32_20 k1_t3
  let c16_i32 : BitVec 32 := 16#32
  let v53 : BitVec 32 := Scalar.muli arg9 c16_i32
  let v54 : BitVec 32 := v53
  let v145 : Index := Scalar.indexCast v54
  let c384 : Index := 384#32
  ![0, v145.toNat, 384]
def k1_off40 (k1_t3 : Fin k1_t3_loop.trips) : Fin 3 → Nat :=
  let c0_62 : Index := 0#32
  let c0_i32_18 : BitVec 32 := 0#32
  let c1_i32_20 : BitVec 32 := 1#32
  let arg9 : BitVec 32 := Scf.iv c0_i32_18 c1_i32_20 k1_t3
  let c16_i32 : BitVec 32 := 16#32
  let v53 : BitVec 32 := Scalar.muli arg9 c16_i32
  let v54 : BitVec 32 := v53
  let v152 : Index := Scalar.indexCast v54
  let c512 : Index := 512#32
  ![0, v152.toNat, 512]
def k1_off41 (k1_t3 : Fin k1_t3_loop.trips) : Fin 3 → Nat :=
  let c0_63 : Index := 0#32
  let c0_i32_18 : BitVec 32 := 0#32
  let c1_i32_20 : BitVec 32 := 1#32
  let arg9 : BitVec 32 := Scf.iv c0_i32_18 c1_i32_20 k1_t3
  let c16_i32 : BitVec 32 := 16#32
  let v53 : BitVec 32 := Scalar.muli arg9 c16_i32
  let v54 : BitVec 32 := v53
  let v159 : Index := Scalar.indexCast v54
  let c640 : Index := 640#32
  ![0, v159.toNat, 640]
def k1_off42 (k1_t3 : Fin k1_t3_loop.trips) : Fin 3 → Nat :=
  let c0_64 : Index := 0#32
  let c0_i32_18 : BitVec 32 := 0#32
  let c1_i32_20 : BitVec 32 := 1#32
  let arg9 : BitVec 32 := Scf.iv c0_i32_18 c1_i32_20 k1_t3
  let c16_i32 : BitVec 32 := 16#32
  let v53 : BitVec 32 := Scalar.muli arg9 c16_i32
  let v54 : BitVec 32 := v53
  let v166 : Index := Scalar.indexCast v54
  let c768 : Index := 768#32
  ![0, v166.toNat, 768]
def k1_off43 (k1_t3 : Fin k1_t3_loop.trips) : Fin 3 → Nat :=
  let c0_65 : Index := 0#32
  let c0_i32_18 : BitVec 32 := 0#32
  let c1_i32_20 : BitVec 32 := 1#32
  let arg9 : BitVec 32 := Scf.iv c0_i32_18 c1_i32_20 k1_t3
  let c16_i32 : BitVec 32 := 16#32
  let v53 : BitVec 32 := Scalar.muli arg9 c16_i32
  let v54 : BitVec 32 := v53
  let v173 : Index := Scalar.indexCast v54
  let c896 : Index := 896#32
  ![0, v173.toNat, 896]
def k1_off44 (k1_t3 : Fin k1_t3_loop.trips) : Fin 3 → Nat :=
  let c0_66 : Index := 0#32
  let c0_i32_18 : BitVec 32 := 0#32
  let c1_i32_20 : BitVec 32 := 1#32
  let arg9 : BitVec 32 := Scf.iv c0_i32_18 c1_i32_20 k1_t3
  let c16_i32 : BitVec 32 := 16#32
  let v53 : BitVec 32 := Scalar.muli arg9 c16_i32
  let v54 : BitVec 32 := v53
  let v180 : Index := Scalar.indexCast v54
  let c1024 : Index := 1024#32
  ![0, v180.toNat, 1024]
def k1_off45 (k1_t3 : Fin k1_t3_loop.trips) : Fin 3 → Nat :=
  let c0_67 : Index := 0#32
  let c0_i32_18 : BitVec 32 := 0#32
  let c1_i32_20 : BitVec 32 := 1#32
  let arg9 : BitVec 32 := Scf.iv c0_i32_18 c1_i32_20 k1_t3
  let c16_i32 : BitVec 32 := 16#32
  let v53 : BitVec 32 := Scalar.muli arg9 c16_i32
  let v54 : BitVec 32 := v53
  let v187 : Index := Scalar.indexCast v54
  let c1152 : Index := 1152#32
  ![0, v187.toNat, 1152]
def k1_off46 (k1_t3 : Fin k1_t3_loop.trips) : Fin 3 → Nat :=
  let c0_68 : Index := 0#32
  let c0_i32_18 : BitVec 32 := 0#32
  let c1_i32_20 : BitVec 32 := 1#32
  let arg9 : BitVec 32 := Scf.iv c0_i32_18 c1_i32_20 k1_t3
  let c16_i32 : BitVec 32 := 16#32
  let v53 : BitVec 32 := Scalar.muli arg9 c16_i32
  let v54 : BitVec 32 := v53
  let v194 : Index := Scalar.indexCast v54
  let c1280 : Index := 1280#32
  ![0, v194.toNat, 1280]
def k1_off47 (k1_t3 : Fin k1_t3_loop.trips) : Fin 3 → Nat :=
  let c0_69 : Index := 0#32
  let c0_i32_18 : BitVec 32 := 0#32
  let c1_i32_20 : BitVec 32 := 1#32
  let arg9 : BitVec 32 := Scf.iv c0_i32_18 c1_i32_20 k1_t3
  let c16_i32 : BitVec 32 := 16#32
  let v53 : BitVec 32 := Scalar.muli arg9 c16_i32
  let v54 : BitVec 32 := v53
  let v201 : Index := Scalar.indexCast v54
  let c1408 : Index := 1408#32
  ![0, v201.toNat, 1408]
def k1_off48 (k1_t3 : Fin k1_t3_loop.trips) : Fin 3 → Nat :=
  let c0_70 : Index := 0#32
  let c0_i32_18 : BitVec 32 := 0#32
  let c1_i32_20 : BitVec 32 := 1#32
  let arg9 : BitVec 32 := Scf.iv c0_i32_18 c1_i32_20 k1_t3
  let c16_i32 : BitVec 32 := 16#32
  let v53 : BitVec 32 := Scalar.muli arg9 c16_i32
  let v54 : BitVec 32 := v53
  let v208 : Index := Scalar.indexCast v54
  let c1536 : Index := 1536#32
  ![0, v208.toNat, 1536]
def k1_off49 (k1_t3 : Fin k1_t3_loop.trips) : Fin 3 → Nat :=
  let c0_71 : Index := 0#32
  let c0_i32_18 : BitVec 32 := 0#32
  let c1_i32_20 : BitVec 32 := 1#32
  let arg9 : BitVec 32 := Scf.iv c0_i32_18 c1_i32_20 k1_t3
  let c16_i32 : BitVec 32 := 16#32
  let v53 : BitVec 32 := Scalar.muli arg9 c16_i32
  let v54 : BitVec 32 := v53
  let v215 : Index := Scalar.indexCast v54
  let c1664 : Index := 1664#32
  ![0, v215.toNat, 1664]
def k1_off50 (k1_t3 : Fin k1_t3_loop.trips) : Fin 3 → Nat :=
  let c0_72 : Index := 0#32
  let c0_i32_18 : BitVec 32 := 0#32
  let c1_i32_20 : BitVec 32 := 1#32
  let arg9 : BitVec 32 := Scf.iv c0_i32_18 c1_i32_20 k1_t3
  let c16_i32 : BitVec 32 := 16#32
  let v53 : BitVec 32 := Scalar.muli arg9 c16_i32
  let v54 : BitVec 32 := v53
  let v222 : Index := Scalar.indexCast v54
  let c1792 : Index := 1792#32
  ![0, v222.toNat, 1792]
def k1_off51 (k1_t3 : Fin k1_t3_loop.trips) : Fin 3 → Nat :=
  let c0_73 : Index := 0#32
  let c0_i32_18 : BitVec 32 := 0#32
  let c1_i32_20 : BitVec 32 := 1#32
  let arg9 : BitVec 32 := Scf.iv c0_i32_18 c1_i32_20 k1_t3
  let c16_i32 : BitVec 32 := 16#32
  let v53 : BitVec 32 := Scalar.muli arg9 c16_i32
  let v54 : BitVec 32 := v53
  let v229 : Index := Scalar.indexCast v54
  let c1920 : Index := 1920#32
  ![0, v229.toNat, 1920]
def k1_cond4 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_5 : BitVec 32 := 0#32
  let v15 : BitVec 1 := Scalar.cmpi .ne v14 c0_i32_5
  v15

@[reducible] def k1_t4_loop : Scf.Loop 32 :=
  let c0_i32_18 : BitVec 32 := 0#32
  let c8_i32_19 : BitVec 32 := 8#32
  let v52 : BitVec 32 := Scalar.addi c0_i32_18 c8_i32_19
  let c1_i32_20 : BitVec 32 := 1#32
  ⟨c0_i32_18, v52, c1_i32_20⟩
def k1_mult4 (k1_t4 : Fin k1_t4_loop.trips) : BitVec 32 :=
  let c0_i32_18 : BitVec 32 := 0#32
  let c1_i32_20 : BitVec 32 := 1#32
  let arg9 : BitVec 32 := Scf.iv c0_i32_18 c1_i32_20 k1_t4
  let c16_i32 : BitVec 32 := 16#32
  let v53 : BitVec 32 := Scalar.muli arg9 c16_i32
  v53
def k1_off52 (k1_t4 : Fin k1_t4_loop.trips) : Fin 5 → Nat :=
  let c0_22 : Index := 0#32
  let c0_23 : Index := 0#32
  let c0_i32_18 : BitVec 32 := 0#32
  let c1_i32_20 : BitVec 32 := 1#32
  let arg9 : BitVec 32 := Scf.iv c0_i32_18 c1_i32_20 k1_t4
  let c16_i32 : BitVec 32 := 16#32
  let v53 : BitVec 32 := Scalar.muli arg9 c16_i32
  let v54 : BitVec 32 := v53
  let v55 : Index := Scalar.indexCast v54
  let c0_24 : Index := 0#32
  let c0_25 : Index := 0#32
  ![0, 0, v55.toNat, 0, 0]
def k1_off53 (k1_t4 : Fin k1_t4_loop.trips) : Fin 3 → Nat :=
  let c0_56 : Index := 0#32
  let c0_i32_18 : BitVec 32 := 0#32
  let c1_i32_20 : BitVec 32 := 1#32
  let arg9 : BitVec 32 := Scf.iv c0_i32_18 c1_i32_20 k1_t4
  let c16_i32 : BitVec 32 := 16#32
  let v53 : BitVec 32 := Scalar.muli arg9 c16_i32
  let v54 : BitVec 32 := v53
  let v124 : Index := Scalar.indexCast v54
  let c0_57 : Index := 0#32
  ![0, v124.toNat, 0]
def k1_off54 (k1_t4 : Fin k1_t4_loop.trips) : Fin 3 → Nat :=
  let c0_58 : Index := 0#32
  let c0_i32_18 : BitVec 32 := 0#32
  let c1_i32_20 : BitVec 32 := 1#32
  let arg9 : BitVec 32 := Scf.iv c0_i32_18 c1_i32_20 k1_t4
  let c16_i32 : BitVec 32 := 16#32
  let v53 : BitVec 32 := Scalar.muli arg9 c16_i32
  let v54 : BitVec 32 := v53
  let v131 : Index := Scalar.indexCast v54
  let c128 : Index := 128#32
  ![0, v131.toNat, 128]
def k1_off55 (k1_t4 : Fin k1_t4_loop.trips) : Fin 3 → Nat :=
  let c0_59 : Index := 0#32
  let c0_i32_18 : BitVec 32 := 0#32
  let c1_i32_20 : BitVec 32 := 1#32
  let arg9 : BitVec 32 := Scf.iv c0_i32_18 c1_i32_20 k1_t4
  let c16_i32 : BitVec 32 := 16#32
  let v53 : BitVec 32 := Scalar.muli arg9 c16_i32
  let v54 : BitVec 32 := v53
  let v138 : Index := Scalar.indexCast v54
  let c256 : Index := 256#32
  ![0, v138.toNat, 256]
def k1_off56 (k1_t4 : Fin k1_t4_loop.trips) : Fin 3 → Nat :=
  let c0_60 : Index := 0#32
  let c0_i32_18 : BitVec 32 := 0#32
  let c1_i32_20 : BitVec 32 := 1#32
  let arg9 : BitVec 32 := Scf.iv c0_i32_18 c1_i32_20 k1_t4
  let c16_i32 : BitVec 32 := 16#32
  let v53 : BitVec 32 := Scalar.muli arg9 c16_i32
  let v54 : BitVec 32 := v53
  let v145 : Index := Scalar.indexCast v54
  let c384_61 : Index := 384#32
  ![0, v145.toNat, 384]
def k1_off57 (k1_t4 : Fin k1_t4_loop.trips) : Fin 3 → Nat :=
  let c0_62 : Index := 0#32
  let c0_i32_18 : BitVec 32 := 0#32
  let c1_i32_20 : BitVec 32 := 1#32
  let arg9 : BitVec 32 := Scf.iv c0_i32_18 c1_i32_20 k1_t4
  let c16_i32 : BitVec 32 := 16#32
  let v53 : BitVec 32 := Scalar.muli arg9 c16_i32
  let v54 : BitVec 32 := v53
  let v152 : Index := Scalar.indexCast v54
  let c512 : Index := 512#32
  ![0, v152.toNat, 512]
def k1_off58 (k1_t4 : Fin k1_t4_loop.trips) : Fin 3 → Nat :=
  let c0_63 : Index := 0#32
  let c0_i32_18 : BitVec 32 := 0#32
  let c1_i32_20 : BitVec 32 := 1#32
  let arg9 : BitVec 32 := Scf.iv c0_i32_18 c1_i32_20 k1_t4
  let c16_i32 : BitVec 32 := 16#32
  let v53 : BitVec 32 := Scalar.muli arg9 c16_i32
  let v54 : BitVec 32 := v53
  let v159 : Index := Scalar.indexCast v54
  let c640 : Index := 640#32
  ![0, v159.toNat, 640]
def k1_off59 (k1_t4 : Fin k1_t4_loop.trips) : Fin 3 → Nat :=
  let c0_64 : Index := 0#32
  let c0_i32_18 : BitVec 32 := 0#32
  let c1_i32_20 : BitVec 32 := 1#32
  let arg9 : BitVec 32 := Scf.iv c0_i32_18 c1_i32_20 k1_t4
  let c16_i32 : BitVec 32 := 16#32
  let v53 : BitVec 32 := Scalar.muli arg9 c16_i32
  let v54 : BitVec 32 := v53
  let v166 : Index := Scalar.indexCast v54
  let c768 : Index := 768#32
  ![0, v166.toNat, 768]
def k1_off60 (k1_t4 : Fin k1_t4_loop.trips) : Fin 3 → Nat :=
  let c0_65 : Index := 0#32
  let c0_i32_18 : BitVec 32 := 0#32
  let c1_i32_20 : BitVec 32 := 1#32
  let arg9 : BitVec 32 := Scf.iv c0_i32_18 c1_i32_20 k1_t4
  let c16_i32 : BitVec 32 := 16#32
  let v53 : BitVec 32 := Scalar.muli arg9 c16_i32
  let v54 : BitVec 32 := v53
  let v173 : Index := Scalar.indexCast v54
  let c896 : Index := 896#32
  ![0, v173.toNat, 896]
def k1_off61 (k1_t4 : Fin k1_t4_loop.trips) : Fin 3 → Nat :=
  let c0_66 : Index := 0#32
  let c0_i32_18 : BitVec 32 := 0#32
  let c1_i32_20 : BitVec 32 := 1#32
  let arg9 : BitVec 32 := Scf.iv c0_i32_18 c1_i32_20 k1_t4
  let c16_i32 : BitVec 32 := 16#32
  let v53 : BitVec 32 := Scalar.muli arg9 c16_i32
  let v54 : BitVec 32 := v53
  let v180 : Index := Scalar.indexCast v54
  let c1024 : Index := 1024#32
  ![0, v180.toNat, 1024]
def k1_off62 (k1_t4 : Fin k1_t4_loop.trips) : Fin 3 → Nat :=
  let c0_67 : Index := 0#32
  let c0_i32_18 : BitVec 32 := 0#32
  let c1_i32_20 : BitVec 32 := 1#32
  let arg9 : BitVec 32 := Scf.iv c0_i32_18 c1_i32_20 k1_t4
  let c16_i32 : BitVec 32 := 16#32
  let v53 : BitVec 32 := Scalar.muli arg9 c16_i32
  let v54 : BitVec 32 := v53
  let v187 : Index := Scalar.indexCast v54
  let c1152 : Index := 1152#32
  ![0, v187.toNat, 1152]
def k1_off63 (k1_t4 : Fin k1_t4_loop.trips) : Fin 3 → Nat :=
  let c0_68 : Index := 0#32
  let c0_i32_18 : BitVec 32 := 0#32
  let c1_i32_20 : BitVec 32 := 1#32
  let arg9 : BitVec 32 := Scf.iv c0_i32_18 c1_i32_20 k1_t4
  let c16_i32 : BitVec 32 := 16#32
  let v53 : BitVec 32 := Scalar.muli arg9 c16_i32
  let v54 : BitVec 32 := v53
  let v194 : Index := Scalar.indexCast v54
  let c1280 : Index := 1280#32
  ![0, v194.toNat, 1280]
def k1_off64 (k1_t4 : Fin k1_t4_loop.trips) : Fin 3 → Nat :=
  let c0_69 : Index := 0#32
  let c0_i32_18 : BitVec 32 := 0#32
  let c1_i32_20 : BitVec 32 := 1#32
  let arg9 : BitVec 32 := Scf.iv c0_i32_18 c1_i32_20 k1_t4
  let c16_i32 : BitVec 32 := 16#32
  let v53 : BitVec 32 := Scalar.muli arg9 c16_i32
  let v54 : BitVec 32 := v53
  let v201 : Index := Scalar.indexCast v54
  let c1408 : Index := 1408#32
  ![0, v201.toNat, 1408]
def k1_off65 (k1_t4 : Fin k1_t4_loop.trips) : Fin 3 → Nat :=
  let c0_70 : Index := 0#32
  let c0_i32_18 : BitVec 32 := 0#32
  let c1_i32_20 : BitVec 32 := 1#32
  let arg9 : BitVec 32 := Scf.iv c0_i32_18 c1_i32_20 k1_t4
  let c16_i32 : BitVec 32 := 16#32
  let v53 : BitVec 32 := Scalar.muli arg9 c16_i32
  let v54 : BitVec 32 := v53
  let v208 : Index := Scalar.indexCast v54
  let c1536 : Index := 1536#32
  ![0, v208.toNat, 1536]
def k1_off66 (k1_t4 : Fin k1_t4_loop.trips) : Fin 3 → Nat :=
  let c0_71 : Index := 0#32
  let c0_i32_18 : BitVec 32 := 0#32
  let c1_i32_20 : BitVec 32 := 1#32
  let arg9 : BitVec 32 := Scf.iv c0_i32_18 c1_i32_20 k1_t4
  let c16_i32 : BitVec 32 := 16#32
  let v53 : BitVec 32 := Scalar.muli arg9 c16_i32
  let v54 : BitVec 32 := v53
  let v215 : Index := Scalar.indexCast v54
  let c1664 : Index := 1664#32
  ![0, v215.toNat, 1664]
def k1_off67 (k1_t4 : Fin k1_t4_loop.trips) : Fin 3 → Nat :=
  let c0_72 : Index := 0#32
  let c0_i32_18 : BitVec 32 := 0#32
  let c1_i32_20 : BitVec 32 := 1#32
  let arg9 : BitVec 32 := Scf.iv c0_i32_18 c1_i32_20 k1_t4
  let c16_i32 : BitVec 32 := 16#32
  let v53 : BitVec 32 := Scalar.muli arg9 c16_i32
  let v54 : BitVec 32 := v53
  let v222 : Index := Scalar.indexCast v54
  let c1792 : Index := 1792#32
  ![0, v222.toNat, 1792]
def k1_off68 (k1_t4 : Fin k1_t4_loop.trips) : Fin 3 → Nat :=
  let c0_73 : Index := 0#32
  let c0_i32_18 : BitVec 32 := 0#32
  let c1_i32_20 : BitVec 32 := 1#32
  let arg9 : BitVec 32 := Scf.iv c0_i32_18 c1_i32_20 k1_t4
  let c16_i32 : BitVec 32 := 16#32
  let v53 : BitVec 32 := Scalar.muli arg9 c16_i32
  let v54 : BitVec 32 := v53
  let v229 : Index := Scalar.indexCast v54
  let c1920 : Index := 1920#32
  ![0, v229.toNat, 1920]
def k1_cond5 (i : grid1.Coords) : BitVec 1 :=
  let arg2 : BitVec 32 := BitVec.ofNat 32 (i 2).val
  let c4_i32 : BitVec 32 := 4#32
  let v16 : BitVec 1 := Scalar.cmpi .eq arg2 c4_i32
  let v17 : BitVec 32 := Scalar.extui v16
  let c0_i32_6 : BitVec 32 := 0#32
  let v18 : BitVec 1 := Scalar.cmpi .ne v17 c0_i32_6
  v18

@[reducible] def k1_t5_loop : Scf.Loop 32 :=
  let c0_i32_18 : BitVec 32 := 0#32
  let c8_i32_19 : BitVec 32 := 8#32
  let v52 : BitVec 32 := Scalar.addi c0_i32_18 c8_i32_19
  let c1_i32_20 : BitVec 32 := 1#32
  ⟨c0_i32_18, v52, c1_i32_20⟩
def k1_mult5 (k1_t5 : Fin k1_t5_loop.trips) : BitVec 32 :=
  let c0_i32_18 : BitVec 32 := 0#32
  let c1_i32_20 : BitVec 32 := 1#32
  let arg9 : BitVec 32 := Scf.iv c0_i32_18 c1_i32_20 k1_t5
  let c16_i32 : BitVec 32 := 16#32
  let v53 : BitVec 32 := Scalar.muli arg9 c16_i32
  v53
def k1_off69 (k1_t5 : Fin k1_t5_loop.trips) : Fin 5 → Nat :=
  let c0_22 : Index := 0#32
  let c0_23 : Index := 0#32
  let c0_i32_18 : BitVec 32 := 0#32
  let c1_i32_20 : BitVec 32 := 1#32
  let arg9 : BitVec 32 := Scf.iv c0_i32_18 c1_i32_20 k1_t5
  let c16_i32 : BitVec 32 := 16#32
  let v53 : BitVec 32 := Scalar.muli arg9 c16_i32
  let v54 : BitVec 32 := v53
  let v55 : Index := Scalar.indexCast v54
  let c0_24 : Index := 0#32
  let c0_25 : Index := 0#32
  ![0, 0, v55.toNat, 0, 0]
def k1_off70 (k1_t5 : Fin k1_t5_loop.trips) : Fin 3 → Nat :=
  let c0_56 : Index := 0#32
  let c0_i32_18 : BitVec 32 := 0#32
  let c1_i32_20 : BitVec 32 := 1#32
  let arg9 : BitVec 32 := Scf.iv c0_i32_18 c1_i32_20 k1_t5
  let c16_i32 : BitVec 32 := 16#32
  let v53 : BitVec 32 := Scalar.muli arg9 c16_i32
  let v54 : BitVec 32 := v53
  let v124 : Index := Scalar.indexCast v54
  let c0_57 : Index := 0#32
  ![0, v124.toNat, 0]
def k1_off71 (k1_t5 : Fin k1_t5_loop.trips) : Fin 3 → Nat :=
  let c0_58 : Index := 0#32
  let c0_i32_18 : BitVec 32 := 0#32
  let c1_i32_20 : BitVec 32 := 1#32
  let arg9 : BitVec 32 := Scf.iv c0_i32_18 c1_i32_20 k1_t5
  let c16_i32 : BitVec 32 := 16#32
  let v53 : BitVec 32 := Scalar.muli arg9 c16_i32
  let v54 : BitVec 32 := v53
  let v131 : Index := Scalar.indexCast v54
  let c128 : Index := 128#32
  ![0, v131.toNat, 128]
def k1_off72 (k1_t5 : Fin k1_t5_loop.trips) : Fin 3 → Nat :=
  let c0_59 : Index := 0#32
  let c0_i32_18 : BitVec 32 := 0#32
  let c1_i32_20 : BitVec 32 := 1#32
  let arg9 : BitVec 32 := Scf.iv c0_i32_18 c1_i32_20 k1_t5
  let c16_i32 : BitVec 32 := 16#32
  let v53 : BitVec 32 := Scalar.muli arg9 c16_i32
  let v54 : BitVec 32 := v53
  let v138 : Index := Scalar.indexCast v54
  let c256 : Index := 256#32
  ![0, v138.toNat, 256]
def k1_off73 (k1_t5 : Fin k1_t5_loop.trips) : Fin 3 → Nat :=
  let c0_60 : Index := 0#32
  let c0_i32_18 : BitVec 32 := 0#32
  let c1_i32_20 : BitVec 32 := 1#32
  let arg9 : BitVec 32 := Scf.iv c0_i32_18 c1_i32_20 k1_t5
  let c16_i32 : BitVec 32 := 16#32
  let v53 : BitVec 32 := Scalar.muli arg9 c16_i32
  let v54 : BitVec 32 := v53
  let v145 : Index := Scalar.indexCast v54
  let c384 : Index := 384#32
  ![0, v145.toNat, 384]
def k1_off74 (k1_t5 : Fin k1_t5_loop.trips) : Fin 3 → Nat :=
  let c0_61 : Index := 0#32
  let c0_i32_18 : BitVec 32 := 0#32
  let c1_i32_20 : BitVec 32 := 1#32
  let arg9 : BitVec 32 := Scf.iv c0_i32_18 c1_i32_20 k1_t5
  let c16_i32 : BitVec 32 := 16#32
  let v53 : BitVec 32 := Scalar.muli arg9 c16_i32
  let v54 : BitVec 32 := v53
  let v152 : Index := Scalar.indexCast v54
  let c512_62 : Index := 512#32
  ![0, v152.toNat, 512]
def k1_off75 (k1_t5 : Fin k1_t5_loop.trips) : Fin 3 → Nat :=
  let c0_63 : Index := 0#32
  let c0_i32_18 : BitVec 32 := 0#32
  let c1_i32_20 : BitVec 32 := 1#32
  let arg9 : BitVec 32 := Scf.iv c0_i32_18 c1_i32_20 k1_t5
  let c16_i32 : BitVec 32 := 16#32
  let v53 : BitVec 32 := Scalar.muli arg9 c16_i32
  let v54 : BitVec 32 := v53
  let v159 : Index := Scalar.indexCast v54
  let c640 : Index := 640#32
  ![0, v159.toNat, 640]
def k1_off76 (k1_t5 : Fin k1_t5_loop.trips) : Fin 3 → Nat :=
  let c0_64 : Index := 0#32
  let c0_i32_18 : BitVec 32 := 0#32
  let c1_i32_20 : BitVec 32 := 1#32
  let arg9 : BitVec 32 := Scf.iv c0_i32_18 c1_i32_20 k1_t5
  let c16_i32 : BitVec 32 := 16#32
  let v53 : BitVec 32 := Scalar.muli arg9 c16_i32
  let v54 : BitVec 32 := v53
  let v166 : Index := Scalar.indexCast v54
  let c768 : Index := 768#32
  ![0, v166.toNat, 768]
def k1_off77 (k1_t5 : Fin k1_t5_loop.trips) : Fin 3 → Nat :=
  let c0_65 : Index := 0#32
  let c0_i32_18 : BitVec 32 := 0#32
  let c1_i32_20 : BitVec 32 := 1#32
  let arg9 : BitVec 32 := Scf.iv c0_i32_18 c1_i32_20 k1_t5
  let c16_i32 : BitVec 32 := 16#32
  let v53 : BitVec 32 := Scalar.muli arg9 c16_i32
  let v54 : BitVec 32 := v53
  let v173 : Index := Scalar.indexCast v54
  let c896 : Index := 896#32
  ![0, v173.toNat, 896]
def k1_off78 (k1_t5 : Fin k1_t5_loop.trips) : Fin 3 → Nat :=
  let c0_66 : Index := 0#32
  let c0_i32_18 : BitVec 32 := 0#32
  let c1_i32_20 : BitVec 32 := 1#32
  let arg9 : BitVec 32 := Scf.iv c0_i32_18 c1_i32_20 k1_t5
  let c16_i32 : BitVec 32 := 16#32
  let v53 : BitVec 32 := Scalar.muli arg9 c16_i32
  let v54 : BitVec 32 := v53
  let v180 : Index := Scalar.indexCast v54
  let c1024 : Index := 1024#32
  ![0, v180.toNat, 1024]
def k1_off79 (k1_t5 : Fin k1_t5_loop.trips) : Fin 3 → Nat :=
  let c0_67 : Index := 0#32
  let c0_i32_18 : BitVec 32 := 0#32
  let c1_i32_20 : BitVec 32 := 1#32
  let arg9 : BitVec 32 := Scf.iv c0_i32_18 c1_i32_20 k1_t5
  let c16_i32 : BitVec 32 := 16#32
  let v53 : BitVec 32 := Scalar.muli arg9 c16_i32
  let v54 : BitVec 32 := v53
  let v187 : Index := Scalar.indexCast v54
  let c1152 : Index := 1152#32
  ![0, v187.toNat, 1152]
def k1_off80 (k1_t5 : Fin k1_t5_loop.trips) : Fin 3 → Nat :=
  let c0_68 : Index := 0#32
  let c0_i32_18 : BitVec 32 := 0#32
  let c1_i32_20 : BitVec 32 := 1#32
  let arg9 : BitVec 32 := Scf.iv c0_i32_18 c1_i32_20 k1_t5
  let c16_i32 : BitVec 32 := 16#32
  let v53 : BitVec 32 := Scalar.muli arg9 c16_i32
  let v54 : BitVec 32 := v53
  let v194 : Index := Scalar.indexCast v54
  let c1280 : Index := 1280#32
  ![0, v194.toNat, 1280]
def k1_off81 (k1_t5 : Fin k1_t5_loop.trips) : Fin 3 → Nat :=
  let c0_69 : Index := 0#32
  let c0_i32_18 : BitVec 32 := 0#32
  let c1_i32_20 : BitVec 32 := 1#32
  let arg9 : BitVec 32 := Scf.iv c0_i32_18 c1_i32_20 k1_t5
  let c16_i32 : BitVec 32 := 16#32
  let v53 : BitVec 32 := Scalar.muli arg9 c16_i32
  let v54 : BitVec 32 := v53
  let v201 : Index := Scalar.indexCast v54
  let c1408 : Index := 1408#32
  ![0, v201.toNat, 1408]
def k1_off82 (k1_t5 : Fin k1_t5_loop.trips) : Fin 3 → Nat :=
  let c0_70 : Index := 0#32
  let c0_i32_18 : BitVec 32 := 0#32
  let c1_i32_20 : BitVec 32 := 1#32
  let arg9 : BitVec 32 := Scf.iv c0_i32_18 c1_i32_20 k1_t5
  let c16_i32 : BitVec 32 := 16#32
  let v53 : BitVec 32 := Scalar.muli arg9 c16_i32
  let v54 : BitVec 32 := v53
  let v208 : Index := Scalar.indexCast v54
  let c1536 : Index := 1536#32
  ![0, v208.toNat, 1536]
def k1_off83 (k1_t5 : Fin k1_t5_loop.trips) : Fin 3 → Nat :=
  let c0_71 : Index := 0#32
  let c0_i32_18 : BitVec 32 := 0#32
  let c1_i32_20 : BitVec 32 := 1#32
  let arg9 : BitVec 32 := Scf.iv c0_i32_18 c1_i32_20 k1_t5
  let c16_i32 : BitVec 32 := 16#32
  let v53 : BitVec 32 := Scalar.muli arg9 c16_i32
  let v54 : BitVec 32 := v53
  let v215 : Index := Scalar.indexCast v54
  let c1664 : Index := 1664#32
  ![0, v215.toNat, 1664]
def k1_off84 (k1_t5 : Fin k1_t5_loop.trips) : Fin 3 → Nat :=
  let c0_72 : Index := 0#32
  let c0_i32_18 : BitVec 32 := 0#32
  let c1_i32_20 : BitVec 32 := 1#32
  let arg9 : BitVec 32 := Scf.iv c0_i32_18 c1_i32_20 k1_t5
  let c16_i32 : BitVec 32 := 16#32
  let v53 : BitVec 32 := Scalar.muli arg9 c16_i32
  let v54 : BitVec 32 := v53
  let v222 : Index := Scalar.indexCast v54
  let c1792 : Index := 1792#32
  ![0, v222.toNat, 1792]
def k1_off85 (k1_t5 : Fin k1_t5_loop.trips) : Fin 3 → Nat :=
  let c0_73 : Index := 0#32
  let c0_i32_18 : BitVec 32 := 0#32
  let c1_i32_20 : BitVec 32 := 1#32
  let arg9 : BitVec 32 := Scf.iv c0_i32_18 c1_i32_20 k1_t5
  let c16_i32 : BitVec 32 := 16#32
  let v53 : BitVec 32 := Scalar.muli arg9 c16_i32
  let v54 : BitVec 32 := v53
  let v229 : Index := Scalar.indexCast v54
  let c1920 : Index := 1920#32
  ![0, v229.toNat, 1920]
def k1_cond6 (i : grid1.Coords) : BitVec 1 :=
  let arg2 : BitVec 32 := BitVec.ofNat 32 (i 2).val
  let c5_i32 : BitVec 32 := 5#32
  let v19 : BitVec 1 := Scalar.cmpi .eq arg2 c5_i32
  let v20 : BitVec 32 := Scalar.extui v19
  let c0_i32_7 : BitVec 32 := 0#32
  let v21 : BitVec 1 := Scalar.cmpi .ne v20 c0_i32_7
  v21

@[reducible] def k1_t6_loop : Scf.Loop 32 :=
  let c0_i32_18 : BitVec 32 := 0#32
  let c8_i32_19 : BitVec 32 := 8#32
  let v52 : BitVec 32 := Scalar.addi c0_i32_18 c8_i32_19
  let c1_i32_20 : BitVec 32 := 1#32
  ⟨c0_i32_18, v52, c1_i32_20⟩
def k1_mult6 (k1_t6 : Fin k1_t6_loop.trips) : BitVec 32 :=
  let c0_i32_18 : BitVec 32 := 0#32
  let c1_i32_20 : BitVec 32 := 1#32
  let arg9 : BitVec 32 := Scf.iv c0_i32_18 c1_i32_20 k1_t6
  let c16_i32 : BitVec 32 := 16#32
  let v53 : BitVec 32 := Scalar.muli arg9 c16_i32
  v53
def k1_off86 (k1_t6 : Fin k1_t6_loop.trips) : Fin 5 → Nat :=
  let c0_22 : Index := 0#32
  let c0_23 : Index := 0#32
  let c0_i32_18 : BitVec 32 := 0#32
  let c1_i32_20 : BitVec 32 := 1#32
  let arg9 : BitVec 32 := Scf.iv c0_i32_18 c1_i32_20 k1_t6
  let c16_i32 : BitVec 32 := 16#32
  let v53 : BitVec 32 := Scalar.muli arg9 c16_i32
  let v54 : BitVec 32 := v53
  let v55 : Index := Scalar.indexCast v54
  let c0_24 : Index := 0#32
  let c0_25 : Index := 0#32
  ![0, 0, v55.toNat, 0, 0]
def k1_off87 (k1_t6 : Fin k1_t6_loop.trips) : Fin 3 → Nat :=
  let c0_56 : Index := 0#32
  let c0_i32_18 : BitVec 32 := 0#32
  let c1_i32_20 : BitVec 32 := 1#32
  let arg9 : BitVec 32 := Scf.iv c0_i32_18 c1_i32_20 k1_t6
  let c16_i32 : BitVec 32 := 16#32
  let v53 : BitVec 32 := Scalar.muli arg9 c16_i32
  let v54 : BitVec 32 := v53
  let v124 : Index := Scalar.indexCast v54
  let c0_57 : Index := 0#32
  ![0, v124.toNat, 0]
def k1_off88 (k1_t6 : Fin k1_t6_loop.trips) : Fin 3 → Nat :=
  let c0_58 : Index := 0#32
  let c0_i32_18 : BitVec 32 := 0#32
  let c1_i32_20 : BitVec 32 := 1#32
  let arg9 : BitVec 32 := Scf.iv c0_i32_18 c1_i32_20 k1_t6
  let c16_i32 : BitVec 32 := 16#32
  let v53 : BitVec 32 := Scalar.muli arg9 c16_i32
  let v54 : BitVec 32 := v53
  let v131 : Index := Scalar.indexCast v54
  let c128 : Index := 128#32
  ![0, v131.toNat, 128]
def k1_off89 (k1_t6 : Fin k1_t6_loop.trips) : Fin 3 → Nat :=
  let c0_59 : Index := 0#32
  let c0_i32_18 : BitVec 32 := 0#32
  let c1_i32_20 : BitVec 32 := 1#32
  let arg9 : BitVec 32 := Scf.iv c0_i32_18 c1_i32_20 k1_t6
  let c16_i32 : BitVec 32 := 16#32
  let v53 : BitVec 32 := Scalar.muli arg9 c16_i32
  let v54 : BitVec 32 := v53
  let v138 : Index := Scalar.indexCast v54
  let c256 : Index := 256#32
  ![0, v138.toNat, 256]
def k1_off90 (k1_t6 : Fin k1_t6_loop.trips) : Fin 3 → Nat :=
  let c0_60 : Index := 0#32
  let c0_i32_18 : BitVec 32 := 0#32
  let c1_i32_20 : BitVec 32 := 1#32
  let arg9 : BitVec 32 := Scf.iv c0_i32_18 c1_i32_20 k1_t6
  let c16_i32 : BitVec 32 := 16#32
  let v53 : BitVec 32 := Scalar.muli arg9 c16_i32
  let v54 : BitVec 32 := v53
  let v145 : Index := Scalar.indexCast v54
  let c384 : Index := 384#32
  ![0, v145.toNat, 384]
def k1_off91 (k1_t6 : Fin k1_t6_loop.trips) : Fin 3 → Nat :=
  let c0_61 : Index := 0#32
  let c0_i32_18 : BitVec 32 := 0#32
  let c1_i32_20 : BitVec 32 := 1#32
  let arg9 : BitVec 32 := Scf.iv c0_i32_18 c1_i32_20 k1_t6
  let c16_i32 : BitVec 32 := 16#32
  let v53 : BitVec 32 := Scalar.muli arg9 c16_i32
  let v54 : BitVec 32 := v53
  let v152 : Index := Scalar.indexCast v54
  let c512 : Index := 512#32
  ![0, v152.toNat, 512]
def k1_off92 (k1_t6 : Fin k1_t6_loop.trips) : Fin 3 → Nat :=
  let c0_62 : Index := 0#32
  let c0_i32_18 : BitVec 32 := 0#32
  let c1_i32_20 : BitVec 32 := 1#32
  let arg9 : BitVec 32 := Scf.iv c0_i32_18 c1_i32_20 k1_t6
  let c16_i32 : BitVec 32 := 16#32
  let v53 : BitVec 32 := Scalar.muli arg9 c16_i32
  let v54 : BitVec 32 := v53
  let v159 : Index := Scalar.indexCast v54
  let c640_63 : Index := 640#32
  ![0, v159.toNat, 640]
def k1_off93 (k1_t6 : Fin k1_t6_loop.trips) : Fin 3 → Nat :=
  let c0_64 : Index := 0#32
  let c0_i32_18 : BitVec 32 := 0#32
  let c1_i32_20 : BitVec 32 := 1#32
  let arg9 : BitVec 32 := Scf.iv c0_i32_18 c1_i32_20 k1_t6
  let c16_i32 : BitVec 32 := 16#32
  let v53 : BitVec 32 := Scalar.muli arg9 c16_i32
  let v54 : BitVec 32 := v53
  let v166 : Index := Scalar.indexCast v54
  let c768 : Index := 768#32
  ![0, v166.toNat, 768]
def k1_off94 (k1_t6 : Fin k1_t6_loop.trips) : Fin 3 → Nat :=
  let c0_65 : Index := 0#32
  let c0_i32_18 : BitVec 32 := 0#32
  let c1_i32_20 : BitVec 32 := 1#32
  let arg9 : BitVec 32 := Scf.iv c0_i32_18 c1_i32_20 k1_t6
  let c16_i32 : BitVec 32 := 16#32
  let v53 : BitVec 32 := Scalar.muli arg9 c16_i32
  let v54 : BitVec 32 := v53
  let v173 : Index := Scalar.indexCast v54
  let c896 : Index := 896#32
  ![0, v173.toNat, 896]
def k1_off95 (k1_t6 : Fin k1_t6_loop.trips) : Fin 3 → Nat :=
  let c0_66 : Index := 0#32
  let c0_i32_18 : BitVec 32 := 0#32
  let c1_i32_20 : BitVec 32 := 1#32
  let arg9 : BitVec 32 := Scf.iv c0_i32_18 c1_i32_20 k1_t6
  let c16_i32 : BitVec 32 := 16#32
  let v53 : BitVec 32 := Scalar.muli arg9 c16_i32
  let v54 : BitVec 32 := v53
  let v180 : Index := Scalar.indexCast v54
  let c1024 : Index := 1024#32
  ![0, v180.toNat, 1024]
def k1_off96 (k1_t6 : Fin k1_t6_loop.trips) : Fin 3 → Nat :=
  let c0_67 : Index := 0#32
  let c0_i32_18 : BitVec 32 := 0#32
  let c1_i32_20 : BitVec 32 := 1#32
  let arg9 : BitVec 32 := Scf.iv c0_i32_18 c1_i32_20 k1_t6
  let c16_i32 : BitVec 32 := 16#32
  let v53 : BitVec 32 := Scalar.muli arg9 c16_i32
  let v54 : BitVec 32 := v53
  let v187 : Index := Scalar.indexCast v54
  let c1152 : Index := 1152#32
  ![0, v187.toNat, 1152]
def k1_off97 (k1_t6 : Fin k1_t6_loop.trips) : Fin 3 → Nat :=
  let c0_68 : Index := 0#32
  let c0_i32_18 : BitVec 32 := 0#32
  let c1_i32_20 : BitVec 32 := 1#32
  let arg9 : BitVec 32 := Scf.iv c0_i32_18 c1_i32_20 k1_t6
  let c16_i32 : BitVec 32 := 16#32
  let v53 : BitVec 32 := Scalar.muli arg9 c16_i32
  let v54 : BitVec 32 := v53
  let v194 : Index := Scalar.indexCast v54
  let c1280 : Index := 1280#32
  ![0, v194.toNat, 1280]
def k1_off98 (k1_t6 : Fin k1_t6_loop.trips) : Fin 3 → Nat :=
  let c0_69 : Index := 0#32
  let c0_i32_18 : BitVec 32 := 0#32
  let c1_i32_20 : BitVec 32 := 1#32
  let arg9 : BitVec 32 := Scf.iv c0_i32_18 c1_i32_20 k1_t6
  let c16_i32 : BitVec 32 := 16#32
  let v53 : BitVec 32 := Scalar.muli arg9 c16_i32
  let v54 : BitVec 32 := v53
  let v201 : Index := Scalar.indexCast v54
  let c1408 : Index := 1408#32
  ![0, v201.toNat, 1408]
def k1_off99 (k1_t6 : Fin k1_t6_loop.trips) : Fin 3 → Nat :=
  let c0_70 : Index := 0#32
  let c0_i32_18 : BitVec 32 := 0#32
  let c1_i32_20 : BitVec 32 := 1#32
  let arg9 : BitVec 32 := Scf.iv c0_i32_18 c1_i32_20 k1_t6
  let c16_i32 : BitVec 32 := 16#32
  let v53 : BitVec 32 := Scalar.muli arg9 c16_i32
  let v54 : BitVec 32 := v53
  let v208 : Index := Scalar.indexCast v54
  let c1536 : Index := 1536#32
  ![0, v208.toNat, 1536]
def k1_off100 (k1_t6 : Fin k1_t6_loop.trips) : Fin 3 → Nat :=
  let c0_71 : Index := 0#32
  let c0_i32_18 : BitVec 32 := 0#32
  let c1_i32_20 : BitVec 32 := 1#32
  let arg9 : BitVec 32 := Scf.iv c0_i32_18 c1_i32_20 k1_t6
  let c16_i32 : BitVec 32 := 16#32
  let v53 : BitVec 32 := Scalar.muli arg9 c16_i32
  let v54 : BitVec 32 := v53
  let v215 : Index := Scalar.indexCast v54
  let c1664 : Index := 1664#32
  ![0, v215.toNat, 1664]
def k1_off101 (k1_t6 : Fin k1_t6_loop.trips) : Fin 3 → Nat :=
  let c0_72 : Index := 0#32
  let c0_i32_18 : BitVec 32 := 0#32
  let c1_i32_20 : BitVec 32 := 1#32
  let arg9 : BitVec 32 := Scf.iv c0_i32_18 c1_i32_20 k1_t6
  let c16_i32 : BitVec 32 := 16#32
  let v53 : BitVec 32 := Scalar.muli arg9 c16_i32
  let v54 : BitVec 32 := v53
  let v222 : Index := Scalar.indexCast v54
  let c1792 : Index := 1792#32
  ![0, v222.toNat, 1792]
def k1_off102 (k1_t6 : Fin k1_t6_loop.trips) : Fin 3 → Nat :=
  let c0_73 : Index := 0#32
  let c0_i32_18 : BitVec 32 := 0#32
  let c1_i32_20 : BitVec 32 := 1#32
  let arg9 : BitVec 32 := Scf.iv c0_i32_18 c1_i32_20 k1_t6
  let c16_i32 : BitVec 32 := 16#32
  let v53 : BitVec 32 := Scalar.muli arg9 c16_i32
  let v54 : BitVec 32 := v53
  let v229 : Index := Scalar.indexCast v54
  let c1920 : Index := 1920#32
  ![0, v229.toNat, 1920]
def k1_cond7 (i : grid1.Coords) : BitVec 1 :=
  let arg2 : BitVec 32 := BitVec.ofNat 32 (i 2).val
  let c6_i32 : BitVec 32 := 6#32
  let v22 : BitVec 1 := Scalar.cmpi .eq arg2 c6_i32
  let v23 : BitVec 32 := Scalar.extui v22
  let c0_i32_8 : BitVec 32 := 0#32
  let v24 : BitVec 1 := Scalar.cmpi .ne v23 c0_i32_8
  v24

@[reducible] def k1_t7_loop : Scf.Loop 32 :=
  let c0_i32_18 : BitVec 32 := 0#32
  let c8_i32_19 : BitVec 32 := 8#32
  let v52 : BitVec 32 := Scalar.addi c0_i32_18 c8_i32_19
  let c1_i32_20 : BitVec 32 := 1#32
  ⟨c0_i32_18, v52, c1_i32_20⟩
def k1_mult7 (k1_t7 : Fin k1_t7_loop.trips) : BitVec 32 :=
  let c0_i32_18 : BitVec 32 := 0#32
  let c1_i32_20 : BitVec 32 := 1#32
  let arg9 : BitVec 32 := Scf.iv c0_i32_18 c1_i32_20 k1_t7
  let c16_i32 : BitVec 32 := 16#32
  let v53 : BitVec 32 := Scalar.muli arg9 c16_i32
  v53
def k1_off103 (k1_t7 : Fin k1_t7_loop.trips) : Fin 5 → Nat :=
  let c0_22 : Index := 0#32
  let c0_23 : Index := 0#32
  let c0_i32_18 : BitVec 32 := 0#32
  let c1_i32_20 : BitVec 32 := 1#32
  let arg9 : BitVec 32 := Scf.iv c0_i32_18 c1_i32_20 k1_t7
  let c16_i32 : BitVec 32 := 16#32
  let v53 : BitVec 32 := Scalar.muli arg9 c16_i32
  let v54 : BitVec 32 := v53
  let v55 : Index := Scalar.indexCast v54
  let c0_24 : Index := 0#32
  let c0_25 : Index := 0#32
  ![0, 0, v55.toNat, 0, 0]
def k1_off104 (k1_t7 : Fin k1_t7_loop.trips) : Fin 3 → Nat :=
  let c0_56 : Index := 0#32
  let c0_i32_18 : BitVec 32 := 0#32
  let c1_i32_20 : BitVec 32 := 1#32
  let arg9 : BitVec 32 := Scf.iv c0_i32_18 c1_i32_20 k1_t7
  let c16_i32 : BitVec 32 := 16#32
  let v53 : BitVec 32 := Scalar.muli arg9 c16_i32
  let v54 : BitVec 32 := v53
  let v124 : Index := Scalar.indexCast v54
  let c0_57 : Index := 0#32
  ![0, v124.toNat, 0]
def k1_off105 (k1_t7 : Fin k1_t7_loop.trips) : Fin 3 → Nat :=
  let c0_58 : Index := 0#32
  let c0_i32_18 : BitVec 32 := 0#32
  let c1_i32_20 : BitVec 32 := 1#32
  let arg9 : BitVec 32 := Scf.iv c0_i32_18 c1_i32_20 k1_t7
  let c16_i32 : BitVec 32 := 16#32
  let v53 : BitVec 32 := Scalar.muli arg9 c16_i32
  let v54 : BitVec 32 := v53
  let v131 : Index := Scalar.indexCast v54
  let c128 : Index := 128#32
  ![0, v131.toNat, 128]
def k1_off106 (k1_t7 : Fin k1_t7_loop.trips) : Fin 3 → Nat :=
  let c0_59 : Index := 0#32
  let c0_i32_18 : BitVec 32 := 0#32
  let c1_i32_20 : BitVec 32 := 1#32
  let arg9 : BitVec 32 := Scf.iv c0_i32_18 c1_i32_20 k1_t7
  let c16_i32 : BitVec 32 := 16#32
  let v53 : BitVec 32 := Scalar.muli arg9 c16_i32
  let v54 : BitVec 32 := v53
  let v138 : Index := Scalar.indexCast v54
  let c256 : Index := 256#32
  ![0, v138.toNat, 256]
def k1_off107 (k1_t7 : Fin k1_t7_loop.trips) : Fin 3 → Nat :=
  let c0_60 : Index := 0#32
  let c0_i32_18 : BitVec 32 := 0#32
  let c1_i32_20 : BitVec 32 := 1#32
  let arg9 : BitVec 32 := Scf.iv c0_i32_18 c1_i32_20 k1_t7
  let c16_i32 : BitVec 32 := 16#32
  let v53 : BitVec 32 := Scalar.muli arg9 c16_i32
  let v54 : BitVec 32 := v53
  let v145 : Index := Scalar.indexCast v54
  let c384 : Index := 384#32
  ![0, v145.toNat, 384]
def k1_off108 (k1_t7 : Fin k1_t7_loop.trips) : Fin 3 → Nat :=
  let c0_61 : Index := 0#32
  let c0_i32_18 : BitVec 32 := 0#32
  let c1_i32_20 : BitVec 32 := 1#32
  let arg9 : BitVec 32 := Scf.iv c0_i32_18 c1_i32_20 k1_t7
  let c16_i32 : BitVec 32 := 16#32
  let v53 : BitVec 32 := Scalar.muli arg9 c16_i32
  let v54 : BitVec 32 := v53
  let v152 : Index := Scalar.indexCast v54
  let c512 : Index := 512#32
  ![0, v152.toNat, 512]
def k1_off109 (k1_t7 : Fin k1_t7_loop.trips) : Fin 3 → Nat :=
  let c0_62 : Index := 0#32
  let c0_i32_18 : BitVec 32 := 0#32
  let c1_i32_20 : BitVec 32 := 1#32
  let arg9 : BitVec 32 := Scf.iv c0_i32_18 c1_i32_20 k1_t7
  let c16_i32 : BitVec 32 := 16#32
  let v53 : BitVec 32 := Scalar.muli arg9 c16_i32
  let v54 : BitVec 32 := v53
  let v159 : Index := Scalar.indexCast v54
  let c640 : Index := 640#32
  ![0, v159.toNat, 640]
def k1_off110 (k1_t7 : Fin k1_t7_loop.trips) : Fin 3 → Nat :=
  let c0_63 : Index := 0#32
  let c0_i32_18 : BitVec 32 := 0#32
  let c1_i32_20 : BitVec 32 := 1#32
  let arg9 : BitVec 32 := Scf.iv c0_i32_18 c1_i32_20 k1_t7
  let c16_i32 : BitVec 32 := 16#32
  let v53 : BitVec 32 := Scalar.muli arg9 c16_i32
  let v54 : BitVec 32 := v53
  let v166 : Index := Scalar.indexCast v54
  let c768_64 : Index := 768#32
  ![0, v166.toNat, 768]
def k1_off111 (k1_t7 : Fin k1_t7_loop.trips) : Fin 3 → Nat :=
  let c0_65 : Index := 0#32
  let c0_i32_18 : BitVec 32 := 0#32
  let c1_i32_20 : BitVec 32 := 1#32
  let arg9 : BitVec 32 := Scf.iv c0_i32_18 c1_i32_20 k1_t7
  let c16_i32 : BitVec 32 := 16#32
  let v53 : BitVec 32 := Scalar.muli arg9 c16_i32
  let v54 : BitVec 32 := v53
  let v173 : Index := Scalar.indexCast v54
  let c896 : Index := 896#32
  ![0, v173.toNat, 896]
def k1_off112 (k1_t7 : Fin k1_t7_loop.trips) : Fin 3 → Nat :=
  let c0_66 : Index := 0#32
  let c0_i32_18 : BitVec 32 := 0#32
  let c1_i32_20 : BitVec 32 := 1#32
  let arg9 : BitVec 32 := Scf.iv c0_i32_18 c1_i32_20 k1_t7
  let c16_i32 : BitVec 32 := 16#32
  let v53 : BitVec 32 := Scalar.muli arg9 c16_i32
  let v54 : BitVec 32 := v53
  let v180 : Index := Scalar.indexCast v54
  let c1024 : Index := 1024#32
  ![0, v180.toNat, 1024]
def k1_off113 (k1_t7 : Fin k1_t7_loop.trips) : Fin 3 → Nat :=
  let c0_67 : Index := 0#32
  let c0_i32_18 : BitVec 32 := 0#32
  let c1_i32_20 : BitVec 32 := 1#32
  let arg9 : BitVec 32 := Scf.iv c0_i32_18 c1_i32_20 k1_t7
  let c16_i32 : BitVec 32 := 16#32
  let v53 : BitVec 32 := Scalar.muli arg9 c16_i32
  let v54 : BitVec 32 := v53
  let v187 : Index := Scalar.indexCast v54
  let c1152 : Index := 1152#32
  ![0, v187.toNat, 1152]
def k1_off114 (k1_t7 : Fin k1_t7_loop.trips) : Fin 3 → Nat :=
  let c0_68 : Index := 0#32
  let c0_i32_18 : BitVec 32 := 0#32
  let c1_i32_20 : BitVec 32 := 1#32
  let arg9 : BitVec 32 := Scf.iv c0_i32_18 c1_i32_20 k1_t7
  let c16_i32 : BitVec 32 := 16#32
  let v53 : BitVec 32 := Scalar.muli arg9 c16_i32
  let v54 : BitVec 32 := v53
  let v194 : Index := Scalar.indexCast v54
  let c1280 : Index := 1280#32
  ![0, v194.toNat, 1280]
def k1_off115 (k1_t7 : Fin k1_t7_loop.trips) : Fin 3 → Nat :=
  let c0_69 : Index := 0#32
  let c0_i32_18 : BitVec 32 := 0#32
  let c1_i32_20 : BitVec 32 := 1#32
  let arg9 : BitVec 32 := Scf.iv c0_i32_18 c1_i32_20 k1_t7
  let c16_i32 : BitVec 32 := 16#32
  let v53 : BitVec 32 := Scalar.muli arg9 c16_i32
  let v54 : BitVec 32 := v53
  let v201 : Index := Scalar.indexCast v54
  let c1408 : Index := 1408#32
  ![0, v201.toNat, 1408]
def k1_off116 (k1_t7 : Fin k1_t7_loop.trips) : Fin 3 → Nat :=
  let c0_70 : Index := 0#32
  let c0_i32_18 : BitVec 32 := 0#32
  let c1_i32_20 : BitVec 32 := 1#32
  let arg9 : BitVec 32 := Scf.iv c0_i32_18 c1_i32_20 k1_t7
  let c16_i32 : BitVec 32 := 16#32
  let v53 : BitVec 32 := Scalar.muli arg9 c16_i32
  let v54 : BitVec 32 := v53
  let v208 : Index := Scalar.indexCast v54
  let c1536 : Index := 1536#32
  ![0, v208.toNat, 1536]
def k1_off117 (k1_t7 : Fin k1_t7_loop.trips) : Fin 3 → Nat :=
  let c0_71 : Index := 0#32
  let c0_i32_18 : BitVec 32 := 0#32
  let c1_i32_20 : BitVec 32 := 1#32
  let arg9 : BitVec 32 := Scf.iv c0_i32_18 c1_i32_20 k1_t7
  let c16_i32 : BitVec 32 := 16#32
  let v53 : BitVec 32 := Scalar.muli arg9 c16_i32
  let v54 : BitVec 32 := v53
  let v215 : Index := Scalar.indexCast v54
  let c1664 : Index := 1664#32
  ![0, v215.toNat, 1664]
def k1_off118 (k1_t7 : Fin k1_t7_loop.trips) : Fin 3 → Nat :=
  let c0_72 : Index := 0#32
  let c0_i32_18 : BitVec 32 := 0#32
  let c1_i32_20 : BitVec 32 := 1#32
  let arg9 : BitVec 32 := Scf.iv c0_i32_18 c1_i32_20 k1_t7
  let c16_i32 : BitVec 32 := 16#32
  let v53 : BitVec 32 := Scalar.muli arg9 c16_i32
  let v54 : BitVec 32 := v53
  let v222 : Index := Scalar.indexCast v54
  let c1792 : Index := 1792#32
  ![0, v222.toNat, 1792]
def k1_off119 (k1_t7 : Fin k1_t7_loop.trips) : Fin 3 → Nat :=
  let c0_73 : Index := 0#32
  let c0_i32_18 : BitVec 32 := 0#32
  let c1_i32_20 : BitVec 32 := 1#32
  let arg9 : BitVec 32 := Scf.iv c0_i32_18 c1_i32_20 k1_t7
  let c16_i32 : BitVec 32 := 16#32
  let v53 : BitVec 32 := Scalar.muli arg9 c16_i32
  let v54 : BitVec 32 := v53
  let v229 : Index := Scalar.indexCast v54
  let c1920 : Index := 1920#32
  ![0, v229.toNat, 1920]
def k1_cond8 (i : grid1.Coords) : BitVec 1 :=
  let arg2 : BitVec 32 := BitVec.ofNat 32 (i 2).val
  let c7_i32 : BitVec 32 := 7#32
  let v25 : BitVec 1 := Scalar.cmpi .eq arg2 c7_i32
  let v26 : BitVec 32 := Scalar.extui v25
  let c0_i32_9 : BitVec 32 := 0#32
  let v27 : BitVec 1 := Scalar.cmpi .ne v26 c0_i32_9
  v27

@[reducible] def k1_t8_loop : Scf.Loop 32 :=
  let c0_i32_18 : BitVec 32 := 0#32
  let c8_i32_19 : BitVec 32 := 8#32
  let v52 : BitVec 32 := Scalar.addi c0_i32_18 c8_i32_19
  let c1_i32_20 : BitVec 32 := 1#32
  ⟨c0_i32_18, v52, c1_i32_20⟩
def k1_mult8 (k1_t8 : Fin k1_t8_loop.trips) : BitVec 32 :=
  let c0_i32_18 : BitVec 32 := 0#32
  let c1_i32_20 : BitVec 32 := 1#32
  let arg9 : BitVec 32 := Scf.iv c0_i32_18 c1_i32_20 k1_t8
  let c16_i32 : BitVec 32 := 16#32
  let v53 : BitVec 32 := Scalar.muli arg9 c16_i32
  v53
def k1_off120 (k1_t8 : Fin k1_t8_loop.trips) : Fin 5 → Nat :=
  let c0_22 : Index := 0#32
  let c0_23 : Index := 0#32
  let c0_i32_18 : BitVec 32 := 0#32
  let c1_i32_20 : BitVec 32 := 1#32
  let arg9 : BitVec 32 := Scf.iv c0_i32_18 c1_i32_20 k1_t8
  let c16_i32 : BitVec 32 := 16#32
  let v53 : BitVec 32 := Scalar.muli arg9 c16_i32
  let v54 : BitVec 32 := v53
  let v55 : Index := Scalar.indexCast v54
  let c0_24 : Index := 0#32
  let c0_25 : Index := 0#32
  ![0, 0, v55.toNat, 0, 0]
def k1_off121 (k1_t8 : Fin k1_t8_loop.trips) : Fin 3 → Nat :=
  let c0_56 : Index := 0#32
  let c0_i32_18 : BitVec 32 := 0#32
  let c1_i32_20 : BitVec 32 := 1#32
  let arg9 : BitVec 32 := Scf.iv c0_i32_18 c1_i32_20 k1_t8
  let c16_i32 : BitVec 32 := 16#32
  let v53 : BitVec 32 := Scalar.muli arg9 c16_i32
  let v54 : BitVec 32 := v53
  let v124 : Index := Scalar.indexCast v54
  let c0_57 : Index := 0#32
  ![0, v124.toNat, 0]
def k1_off122 (k1_t8 : Fin k1_t8_loop.trips) : Fin 3 → Nat :=
  let c0_58 : Index := 0#32
  let c0_i32_18 : BitVec 32 := 0#32
  let c1_i32_20 : BitVec 32 := 1#32
  let arg9 : BitVec 32 := Scf.iv c0_i32_18 c1_i32_20 k1_t8
  let c16_i32 : BitVec 32 := 16#32
  let v53 : BitVec 32 := Scalar.muli arg9 c16_i32
  let v54 : BitVec 32 := v53
  let v131 : Index := Scalar.indexCast v54
  let c128 : Index := 128#32
  ![0, v131.toNat, 128]
def k1_off123 (k1_t8 : Fin k1_t8_loop.trips) : Fin 3 → Nat :=
  let c0_59 : Index := 0#32
  let c0_i32_18 : BitVec 32 := 0#32
  let c1_i32_20 : BitVec 32 := 1#32
  let arg9 : BitVec 32 := Scf.iv c0_i32_18 c1_i32_20 k1_t8
  let c16_i32 : BitVec 32 := 16#32
  let v53 : BitVec 32 := Scalar.muli arg9 c16_i32
  let v54 : BitVec 32 := v53
  let v138 : Index := Scalar.indexCast v54
  let c256 : Index := 256#32
  ![0, v138.toNat, 256]
def k1_off124 (k1_t8 : Fin k1_t8_loop.trips) : Fin 3 → Nat :=
  let c0_60 : Index := 0#32
  let c0_i32_18 : BitVec 32 := 0#32
  let c1_i32_20 : BitVec 32 := 1#32
  let arg9 : BitVec 32 := Scf.iv c0_i32_18 c1_i32_20 k1_t8
  let c16_i32 : BitVec 32 := 16#32
  let v53 : BitVec 32 := Scalar.muli arg9 c16_i32
  let v54 : BitVec 32 := v53
  let v145 : Index := Scalar.indexCast v54
  let c384 : Index := 384#32
  ![0, v145.toNat, 384]
def k1_off125 (k1_t8 : Fin k1_t8_loop.trips) : Fin 3 → Nat :=
  let c0_61 : Index := 0#32
  let c0_i32_18 : BitVec 32 := 0#32
  let c1_i32_20 : BitVec 32 := 1#32
  let arg9 : BitVec 32 := Scf.iv c0_i32_18 c1_i32_20 k1_t8
  let c16_i32 : BitVec 32 := 16#32
  let v53 : BitVec 32 := Scalar.muli arg9 c16_i32
  let v54 : BitVec 32 := v53
  let v152 : Index := Scalar.indexCast v54
  let c512 : Index := 512#32
  ![0, v152.toNat, 512]
def k1_off126 (k1_t8 : Fin k1_t8_loop.trips) : Fin 3 → Nat :=
  let c0_62 : Index := 0#32
  let c0_i32_18 : BitVec 32 := 0#32
  let c1_i32_20 : BitVec 32 := 1#32
  let arg9 : BitVec 32 := Scf.iv c0_i32_18 c1_i32_20 k1_t8
  let c16_i32 : BitVec 32 := 16#32
  let v53 : BitVec 32 := Scalar.muli arg9 c16_i32
  let v54 : BitVec 32 := v53
  let v159 : Index := Scalar.indexCast v54
  let c640 : Index := 640#32
  ![0, v159.toNat, 640]
def k1_off127 (k1_t8 : Fin k1_t8_loop.trips) : Fin 3 → Nat :=
  let c0_63 : Index := 0#32
  let c0_i32_18 : BitVec 32 := 0#32
  let c1_i32_20 : BitVec 32 := 1#32
  let arg9 : BitVec 32 := Scf.iv c0_i32_18 c1_i32_20 k1_t8
  let c16_i32 : BitVec 32 := 16#32
  let v53 : BitVec 32 := Scalar.muli arg9 c16_i32
  let v54 : BitVec 32 := v53
  let v166 : Index := Scalar.indexCast v54
  let c768 : Index := 768#32
  ![0, v166.toNat, 768]
def k1_off128 (k1_t8 : Fin k1_t8_loop.trips) : Fin 3 → Nat :=
  let c0_64 : Index := 0#32
  let c0_i32_18 : BitVec 32 := 0#32
  let c1_i32_20 : BitVec 32 := 1#32
  let arg9 : BitVec 32 := Scf.iv c0_i32_18 c1_i32_20 k1_t8
  let c16_i32 : BitVec 32 := 16#32
  let v53 : BitVec 32 := Scalar.muli arg9 c16_i32
  let v54 : BitVec 32 := v53
  let v173 : Index := Scalar.indexCast v54
  let c896_65 : Index := 896#32
  ![0, v173.toNat, 896]
def k1_off129 (k1_t8 : Fin k1_t8_loop.trips) : Fin 3 → Nat :=
  let c0_66 : Index := 0#32
  let c0_i32_18 : BitVec 32 := 0#32
  let c1_i32_20 : BitVec 32 := 1#32
  let arg9 : BitVec 32 := Scf.iv c0_i32_18 c1_i32_20 k1_t8
  let c16_i32 : BitVec 32 := 16#32
  let v53 : BitVec 32 := Scalar.muli arg9 c16_i32
  let v54 : BitVec 32 := v53
  let v180 : Index := Scalar.indexCast v54
  let c1024 : Index := 1024#32
  ![0, v180.toNat, 1024]
def k1_off130 (k1_t8 : Fin k1_t8_loop.trips) : Fin 3 → Nat :=
  let c0_67 : Index := 0#32
  let c0_i32_18 : BitVec 32 := 0#32
  let c1_i32_20 : BitVec 32 := 1#32
  let arg9 : BitVec 32 := Scf.iv c0_i32_18 c1_i32_20 k1_t8
  let c16_i32 : BitVec 32 := 16#32
  let v53 : BitVec 32 := Scalar.muli arg9 c16_i32
  let v54 : BitVec 32 := v53
  let v187 : Index := Scalar.indexCast v54
  let c1152 : Index := 1152#32
  ![0, v187.toNat, 1152]
def k1_off131 (k1_t8 : Fin k1_t8_loop.trips) : Fin 3 → Nat :=
  let c0_68 : Index := 0#32
  let c0_i32_18 : BitVec 32 := 0#32
  let c1_i32_20 : BitVec 32 := 1#32
  let arg9 : BitVec 32 := Scf.iv c0_i32_18 c1_i32_20 k1_t8
  let c16_i32 : BitVec 32 := 16#32
  let v53 : BitVec 32 := Scalar.muli arg9 c16_i32
  let v54 : BitVec 32 := v53
  let v194 : Index := Scalar.indexCast v54
  let c1280 : Index := 1280#32
  ![0, v194.toNat, 1280]
def k1_off132 (k1_t8 : Fin k1_t8_loop.trips) : Fin 3 → Nat :=
  let c0_69 : Index := 0#32
  let c0_i32_18 : BitVec 32 := 0#32
  let c1_i32_20 : BitVec 32 := 1#32
  let arg9 : BitVec 32 := Scf.iv c0_i32_18 c1_i32_20 k1_t8
  let c16_i32 : BitVec 32 := 16#32
  let v53 : BitVec 32 := Scalar.muli arg9 c16_i32
  let v54 : BitVec 32 := v53
  let v201 : Index := Scalar.indexCast v54
  let c1408 : Index := 1408#32
  ![0, v201.toNat, 1408]
def k1_off133 (k1_t8 : Fin k1_t8_loop.trips) : Fin 3 → Nat :=
  let c0_70 : Index := 0#32
  let c0_i32_18 : BitVec 32 := 0#32
  let c1_i32_20 : BitVec 32 := 1#32
  let arg9 : BitVec 32 := Scf.iv c0_i32_18 c1_i32_20 k1_t8
  let c16_i32 : BitVec 32 := 16#32
  let v53 : BitVec 32 := Scalar.muli arg9 c16_i32
  let v54 : BitVec 32 := v53
  let v208 : Index := Scalar.indexCast v54
  let c1536 : Index := 1536#32
  ![0, v208.toNat, 1536]
def k1_off134 (k1_t8 : Fin k1_t8_loop.trips) : Fin 3 → Nat :=
  let c0_71 : Index := 0#32
  let c0_i32_18 : BitVec 32 := 0#32
  let c1_i32_20 : BitVec 32 := 1#32
  let arg9 : BitVec 32 := Scf.iv c0_i32_18 c1_i32_20 k1_t8
  let c16_i32 : BitVec 32 := 16#32
  let v53 : BitVec 32 := Scalar.muli arg9 c16_i32
  let v54 : BitVec 32 := v53
  let v215 : Index := Scalar.indexCast v54
  let c1664 : Index := 1664#32
  ![0, v215.toNat, 1664]
def k1_off135 (k1_t8 : Fin k1_t8_loop.trips) : Fin 3 → Nat :=
  let c0_72 : Index := 0#32
  let c0_i32_18 : BitVec 32 := 0#32
  let c1_i32_20 : BitVec 32 := 1#32
  let arg9 : BitVec 32 := Scf.iv c0_i32_18 c1_i32_20 k1_t8
  let c16_i32 : BitVec 32 := 16#32
  let v53 : BitVec 32 := Scalar.muli arg9 c16_i32
  let v54 : BitVec 32 := v53
  let v222 : Index := Scalar.indexCast v54
  let c1792 : Index := 1792#32
  ![0, v222.toNat, 1792]
def k1_off136 (k1_t8 : Fin k1_t8_loop.trips) : Fin 3 → Nat :=
  let c0_73 : Index := 0#32
  let c0_i32_18 : BitVec 32 := 0#32
  let c1_i32_20 : BitVec 32 := 1#32
  let arg9 : BitVec 32 := Scf.iv c0_i32_18 c1_i32_20 k1_t8
  let c16_i32 : BitVec 32 := 16#32
  let v53 : BitVec 32 := Scalar.muli arg9 c16_i32
  let v54 : BitVec 32 := v53
  let v229 : Index := Scalar.indexCast v54
  let c1920 : Index := 1920#32
  ![0, v229.toNat, 1920]
def k1_cond9 (i : grid1.Coords) : BitVec 1 :=
  let arg2 : BitVec 32 := BitVec.ofNat 32 (i 2).val
  let c8_i32 : BitVec 32 := 8#32
  let v28 : BitVec 1 := Scalar.cmpi .eq arg2 c8_i32
  let v29 : BitVec 32 := Scalar.extui v28
  let c0_i32_10 : BitVec 32 := 0#32
  let v30 : BitVec 1 := Scalar.cmpi .ne v29 c0_i32_10
  v30

@[reducible] def k1_t9_loop : Scf.Loop 32 :=
  let c0_i32_18 : BitVec 32 := 0#32
  let c8_i32_19 : BitVec 32 := 8#32
  let v52 : BitVec 32 := Scalar.addi c0_i32_18 c8_i32_19
  let c1_i32_20 : BitVec 32 := 1#32
  ⟨c0_i32_18, v52, c1_i32_20⟩
def k1_mult9 (k1_t9 : Fin k1_t9_loop.trips) : BitVec 32 :=
  let c0_i32_18 : BitVec 32 := 0#32
  let c1_i32_20 : BitVec 32 := 1#32
  let arg9 : BitVec 32 := Scf.iv c0_i32_18 c1_i32_20 k1_t9
  let c16_i32 : BitVec 32 := 16#32
  let v53 : BitVec 32 := Scalar.muli arg9 c16_i32
  v53
def k1_off137 (k1_t9 : Fin k1_t9_loop.trips) : Fin 5 → Nat :=
  let c0_22 : Index := 0#32
  let c0_23 : Index := 0#32
  let c0_i32_18 : BitVec 32 := 0#32
  let c1_i32_20 : BitVec 32 := 1#32
  let arg9 : BitVec 32 := Scf.iv c0_i32_18 c1_i32_20 k1_t9
  let c16_i32 : BitVec 32 := 16#32
  let v53 : BitVec 32 := Scalar.muli arg9 c16_i32
  let v54 : BitVec 32 := v53
  let v55 : Index := Scalar.indexCast v54
  let c0_24 : Index := 0#32
  let c0_25 : Index := 0#32
  ![0, 0, v55.toNat, 0, 0]
def k1_off138 (k1_t9 : Fin k1_t9_loop.trips) : Fin 3 → Nat :=
  let c0_56 : Index := 0#32
  let c0_i32_18 : BitVec 32 := 0#32
  let c1_i32_20 : BitVec 32 := 1#32
  let arg9 : BitVec 32 := Scf.iv c0_i32_18 c1_i32_20 k1_t9
  let c16_i32 : BitVec 32 := 16#32
  let v53 : BitVec 32 := Scalar.muli arg9 c16_i32
  let v54 : BitVec 32 := v53
  let v124 : Index := Scalar.indexCast v54
  let c0_57 : Index := 0#32
  ![0, v124.toNat, 0]
def k1_off139 (k1_t9 : Fin k1_t9_loop.trips) : Fin 3 → Nat :=
  let c0_58 : Index := 0#32
  let c0_i32_18 : BitVec 32 := 0#32
  let c1_i32_20 : BitVec 32 := 1#32
  let arg9 : BitVec 32 := Scf.iv c0_i32_18 c1_i32_20 k1_t9
  let c16_i32 : BitVec 32 := 16#32
  let v53 : BitVec 32 := Scalar.muli arg9 c16_i32
  let v54 : BitVec 32 := v53
  let v131 : Index := Scalar.indexCast v54
  let c128 : Index := 128#32
  ![0, v131.toNat, 128]
def k1_off140 (k1_t9 : Fin k1_t9_loop.trips) : Fin 3 → Nat :=
  let c0_59 : Index := 0#32
  let c0_i32_18 : BitVec 32 := 0#32
  let c1_i32_20 : BitVec 32 := 1#32
  let arg9 : BitVec 32 := Scf.iv c0_i32_18 c1_i32_20 k1_t9
  let c16_i32 : BitVec 32 := 16#32
  let v53 : BitVec 32 := Scalar.muli arg9 c16_i32
  let v54 : BitVec 32 := v53
  let v138 : Index := Scalar.indexCast v54
  let c256 : Index := 256#32
  ![0, v138.toNat, 256]
def k1_off141 (k1_t9 : Fin k1_t9_loop.trips) : Fin 3 → Nat :=
  let c0_60 : Index := 0#32
  let c0_i32_18 : BitVec 32 := 0#32
  let c1_i32_20 : BitVec 32 := 1#32
  let arg9 : BitVec 32 := Scf.iv c0_i32_18 c1_i32_20 k1_t9
  let c16_i32 : BitVec 32 := 16#32
  let v53 : BitVec 32 := Scalar.muli arg9 c16_i32
  let v54 : BitVec 32 := v53
  let v145 : Index := Scalar.indexCast v54
  let c384 : Index := 384#32
  ![0, v145.toNat, 384]
def k1_off142 (k1_t9 : Fin k1_t9_loop.trips) : Fin 3 → Nat :=
  let c0_61 : Index := 0#32
  let c0_i32_18 : BitVec 32 := 0#32
  let c1_i32_20 : BitVec 32 := 1#32
  let arg9 : BitVec 32 := Scf.iv c0_i32_18 c1_i32_20 k1_t9
  let c16_i32 : BitVec 32 := 16#32
  let v53 : BitVec 32 := Scalar.muli arg9 c16_i32
  let v54 : BitVec 32 := v53
  let v152 : Index := Scalar.indexCast v54
  let c512 : Index := 512#32
  ![0, v152.toNat, 512]
def k1_off143 (k1_t9 : Fin k1_t9_loop.trips) : Fin 3 → Nat :=
  let c0_62 : Index := 0#32
  let c0_i32_18 : BitVec 32 := 0#32
  let c1_i32_20 : BitVec 32 := 1#32
  let arg9 : BitVec 32 := Scf.iv c0_i32_18 c1_i32_20 k1_t9
  let c16_i32 : BitVec 32 := 16#32
  let v53 : BitVec 32 := Scalar.muli arg9 c16_i32
  let v54 : BitVec 32 := v53
  let v159 : Index := Scalar.indexCast v54
  let c640 : Index := 640#32
  ![0, v159.toNat, 640]
def k1_off144 (k1_t9 : Fin k1_t9_loop.trips) : Fin 3 → Nat :=
  let c0_63 : Index := 0#32
  let c0_i32_18 : BitVec 32 := 0#32
  let c1_i32_20 : BitVec 32 := 1#32
  let arg9 : BitVec 32 := Scf.iv c0_i32_18 c1_i32_20 k1_t9
  let c16_i32 : BitVec 32 := 16#32
  let v53 : BitVec 32 := Scalar.muli arg9 c16_i32
  let v54 : BitVec 32 := v53
  let v166 : Index := Scalar.indexCast v54
  let c768 : Index := 768#32
  ![0, v166.toNat, 768]
def k1_off145 (k1_t9 : Fin k1_t9_loop.trips) : Fin 3 → Nat :=
  let c0_64 : Index := 0#32
  let c0_i32_18 : BitVec 32 := 0#32
  let c1_i32_20 : BitVec 32 := 1#32
  let arg9 : BitVec 32 := Scf.iv c0_i32_18 c1_i32_20 k1_t9
  let c16_i32 : BitVec 32 := 16#32
  let v53 : BitVec 32 := Scalar.muli arg9 c16_i32
  let v54 : BitVec 32 := v53
  let v173 : Index := Scalar.indexCast v54
  let c896 : Index := 896#32
  ![0, v173.toNat, 896]
def k1_off146 (k1_t9 : Fin k1_t9_loop.trips) : Fin 3 → Nat :=
  let c0_65 : Index := 0#32
  let c0_i32_18 : BitVec 32 := 0#32
  let c1_i32_20 : BitVec 32 := 1#32
  let arg9 : BitVec 32 := Scf.iv c0_i32_18 c1_i32_20 k1_t9
  let c16_i32 : BitVec 32 := 16#32
  let v53 : BitVec 32 := Scalar.muli arg9 c16_i32
  let v54 : BitVec 32 := v53
  let v180 : Index := Scalar.indexCast v54
  let c1024_66 : Index := 1024#32
  ![0, v180.toNat, 1024]
def k1_off147 (k1_t9 : Fin k1_t9_loop.trips) : Fin 3 → Nat :=
  let c0_67 : Index := 0#32
  let c0_i32_18 : BitVec 32 := 0#32
  let c1_i32_20 : BitVec 32 := 1#32
  let arg9 : BitVec 32 := Scf.iv c0_i32_18 c1_i32_20 k1_t9
  let c16_i32 : BitVec 32 := 16#32
  let v53 : BitVec 32 := Scalar.muli arg9 c16_i32
  let v54 : BitVec 32 := v53
  let v187 : Index := Scalar.indexCast v54
  let c1152 : Index := 1152#32
  ![0, v187.toNat, 1152]
def k1_off148 (k1_t9 : Fin k1_t9_loop.trips) : Fin 3 → Nat :=
  let c0_68 : Index := 0#32
  let c0_i32_18 : BitVec 32 := 0#32
  let c1_i32_20 : BitVec 32 := 1#32
  let arg9 : BitVec 32 := Scf.iv c0_i32_18 c1_i32_20 k1_t9
  let c16_i32 : BitVec 32 := 16#32
  let v53 : BitVec 32 := Scalar.muli arg9 c16_i32
  let v54 : BitVec 32 := v53
  let v194 : Index := Scalar.indexCast v54
  let c1280 : Index := 1280#32
  ![0, v194.toNat, 1280]
def k1_off149 (k1_t9 : Fin k1_t9_loop.trips) : Fin 3 → Nat :=
  let c0_69 : Index := 0#32
  let c0_i32_18 : BitVec 32 := 0#32
  let c1_i32_20 : BitVec 32 := 1#32
  let arg9 : BitVec 32 := Scf.iv c0_i32_18 c1_i32_20 k1_t9
  let c16_i32 : BitVec 32 := 16#32
  let v53 : BitVec 32 := Scalar.muli arg9 c16_i32
  let v54 : BitVec 32 := v53
  let v201 : Index := Scalar.indexCast v54
  let c1408 : Index := 1408#32
  ![0, v201.toNat, 1408]
def k1_off150 (k1_t9 : Fin k1_t9_loop.trips) : Fin 3 → Nat :=
  let c0_70 : Index := 0#32
  let c0_i32_18 : BitVec 32 := 0#32
  let c1_i32_20 : BitVec 32 := 1#32
  let arg9 : BitVec 32 := Scf.iv c0_i32_18 c1_i32_20 k1_t9
  let c16_i32 : BitVec 32 := 16#32
  let v53 : BitVec 32 := Scalar.muli arg9 c16_i32
  let v54 : BitVec 32 := v53
  let v208 : Index := Scalar.indexCast v54
  let c1536 : Index := 1536#32
  ![0, v208.toNat, 1536]
def k1_off151 (k1_t9 : Fin k1_t9_loop.trips) : Fin 3 → Nat :=
  let c0_71 : Index := 0#32
  let c0_i32_18 : BitVec 32 := 0#32
  let c1_i32_20 : BitVec 32 := 1#32
  let arg9 : BitVec 32 := Scf.iv c0_i32_18 c1_i32_20 k1_t9
  let c16_i32 : BitVec 32 := 16#32
  let v53 : BitVec 32 := Scalar.muli arg9 c16_i32
  let v54 : BitVec 32 := v53
  let v215 : Index := Scalar.indexCast v54
  let c1664 : Index := 1664#32
  ![0, v215.toNat, 1664]
def k1_off152 (k1_t9 : Fin k1_t9_loop.trips) : Fin 3 → Nat :=
  let c0_72 : Index := 0#32
  let c0_i32_18 : BitVec 32 := 0#32
  let c1_i32_20 : BitVec 32 := 1#32
  let arg9 : BitVec 32 := Scf.iv c0_i32_18 c1_i32_20 k1_t9
  let c16_i32 : BitVec 32 := 16#32
  let v53 : BitVec 32 := Scalar.muli arg9 c16_i32
  let v54 : BitVec 32 := v53
  let v222 : Index := Scalar.indexCast v54
  let c1792 : Index := 1792#32
  ![0, v222.toNat, 1792]
def k1_off153 (k1_t9 : Fin k1_t9_loop.trips) : Fin 3 → Nat :=
  let c0_73 : Index := 0#32
  let c0_i32_18 : BitVec 32 := 0#32
  let c1_i32_20 : BitVec 32 := 1#32
  let arg9 : BitVec 32 := Scf.iv c0_i32_18 c1_i32_20 k1_t9
  let c16_i32 : BitVec 32 := 16#32
  let v53 : BitVec 32 := Scalar.muli arg9 c16_i32
  let v54 : BitVec 32 := v53
  let v229 : Index := Scalar.indexCast v54
  let c1920 : Index := 1920#32
  ![0, v229.toNat, 1920]
def k1_cond10 (i : grid1.Coords) : BitVec 1 :=
  let arg2 : BitVec 32 := BitVec.ofNat 32 (i 2).val
  let c9_i32 : BitVec 32 := 9#32
  let v31 : BitVec 1 := Scalar.cmpi .eq arg2 c9_i32
  let v32 : BitVec 32 := Scalar.extui v31
  let c0_i32_11 : BitVec 32 := 0#32
  let v33 : BitVec 1 := Scalar.cmpi .ne v32 c0_i32_11
  v33

@[reducible] def k1_t10_loop : Scf.Loop 32 :=
  let c0_i32_18 : BitVec 32 := 0#32
  let c8_i32_19 : BitVec 32 := 8#32
  let v52 : BitVec 32 := Scalar.addi c0_i32_18 c8_i32_19
  let c1_i32_20 : BitVec 32 := 1#32
  ⟨c0_i32_18, v52, c1_i32_20⟩
def k1_mult10 (k1_t10 : Fin k1_t10_loop.trips) : BitVec 32 :=
  let c0_i32_18 : BitVec 32 := 0#32
  let c1_i32_20 : BitVec 32 := 1#32
  let arg9 : BitVec 32 := Scf.iv c0_i32_18 c1_i32_20 k1_t10
  let c16_i32 : BitVec 32 := 16#32
  let v53 : BitVec 32 := Scalar.muli arg9 c16_i32
  v53
def k1_off154 (k1_t10 : Fin k1_t10_loop.trips) : Fin 5 → Nat :=
  let c0_22 : Index := 0#32
  let c0_23 : Index := 0#32
  let c0_i32_18 : BitVec 32 := 0#32
  let c1_i32_20 : BitVec 32 := 1#32
  let arg9 : BitVec 32 := Scf.iv c0_i32_18 c1_i32_20 k1_t10
  let c16_i32 : BitVec 32 := 16#32
  let v53 : BitVec 32 := Scalar.muli arg9 c16_i32
  let v54 : BitVec 32 := v53
  let v55 : Index := Scalar.indexCast v54
  let c0_24 : Index := 0#32
  let c0_25 : Index := 0#32
  ![0, 0, v55.toNat, 0, 0]
def k1_off155 (k1_t10 : Fin k1_t10_loop.trips) : Fin 3 → Nat :=
  let c0_56 : Index := 0#32
  let c0_i32_18 : BitVec 32 := 0#32
  let c1_i32_20 : BitVec 32 := 1#32
  let arg9 : BitVec 32 := Scf.iv c0_i32_18 c1_i32_20 k1_t10
  let c16_i32 : BitVec 32 := 16#32
  let v53 : BitVec 32 := Scalar.muli arg9 c16_i32
  let v54 : BitVec 32 := v53
  let v124 : Index := Scalar.indexCast v54
  let c0_57 : Index := 0#32
  ![0, v124.toNat, 0]
def k1_off156 (k1_t10 : Fin k1_t10_loop.trips) : Fin 3 → Nat :=
  let c0_58 : Index := 0#32
  let c0_i32_18 : BitVec 32 := 0#32
  let c1_i32_20 : BitVec 32 := 1#32
  let arg9 : BitVec 32 := Scf.iv c0_i32_18 c1_i32_20 k1_t10
  let c16_i32 : BitVec 32 := 16#32
  let v53 : BitVec 32 := Scalar.muli arg9 c16_i32
  let v54 : BitVec 32 := v53
  let v131 : Index := Scalar.indexCast v54
  let c128 : Index := 128#32
  ![0, v131.toNat, 128]
def k1_off157 (k1_t10 : Fin k1_t10_loop.trips) : Fin 3 → Nat :=
  let c0_59 : Index := 0#32
  let c0_i32_18 : BitVec 32 := 0#32
  let c1_i32_20 : BitVec 32 := 1#32
  let arg9 : BitVec 32 := Scf.iv c0_i32_18 c1_i32_20 k1_t10
  let c16_i32 : BitVec 32 := 16#32
  let v53 : BitVec 32 := Scalar.muli arg9 c16_i32
  let v54 : BitVec 32 := v53
  let v138 : Index := Scalar.indexCast v54
  let c256 : Index := 256#32
  ![0, v138.toNat, 256]
def k1_off158 (k1_t10 : Fin k1_t10_loop.trips) : Fin 3 → Nat :=
  let c0_60 : Index := 0#32
  let c0_i32_18 : BitVec 32 := 0#32
  let c1_i32_20 : BitVec 32 := 1#32
  let arg9 : BitVec 32 := Scf.iv c0_i32_18 c1_i32_20 k1_t10
  let c16_i32 : BitVec 32 := 16#32
  let v53 : BitVec 32 := Scalar.muli arg9 c16_i32
  let v54 : BitVec 32 := v53
  let v145 : Index := Scalar.indexCast v54
  let c384 : Index := 384#32
  ![0, v145.toNat, 384]
def k1_off159 (k1_t10 : Fin k1_t10_loop.trips) : Fin 3 → Nat :=
  let c0_61 : Index := 0#32
  let c0_i32_18 : BitVec 32 := 0#32
  let c1_i32_20 : BitVec 32 := 1#32
  let arg9 : BitVec 32 := Scf.iv c0_i32_18 c1_i32_20 k1_t10
  let c16_i32 : BitVec 32 := 16#32
  let v53 : BitVec 32 := Scalar.muli arg9 c16_i32
  let v54 : BitVec 32 := v53
  let v152 : Index := Scalar.indexCast v54
  let c512 : Index := 512#32
  ![0, v152.toNat, 512]
def k1_off160 (k1_t10 : Fin k1_t10_loop.trips) : Fin 3 → Nat :=
  let c0_62 : Index := 0#32
  let c0_i32_18 : BitVec 32 := 0#32
  let c1_i32_20 : BitVec 32 := 1#32
  let arg9 : BitVec 32 := Scf.iv c0_i32_18 c1_i32_20 k1_t10
  let c16_i32 : BitVec 32 := 16#32
  let v53 : BitVec 32 := Scalar.muli arg9 c16_i32
  let v54 : BitVec 32 := v53
  let v159 : Index := Scalar.indexCast v54
  let c640 : Index := 640#32
  ![0, v159.toNat, 640]
def k1_off161 (k1_t10 : Fin k1_t10_loop.trips) : Fin 3 → Nat :=
  let c0_63 : Index := 0#32
  let c0_i32_18 : BitVec 32 := 0#32
  let c1_i32_20 : BitVec 32 := 1#32
  let arg9 : BitVec 32 := Scf.iv c0_i32_18 c1_i32_20 k1_t10
  let c16_i32 : BitVec 32 := 16#32
  let v53 : BitVec 32 := Scalar.muli arg9 c16_i32
  let v54 : BitVec 32 := v53
  let v166 : Index := Scalar.indexCast v54
  let c768 : Index := 768#32
  ![0, v166.toNat, 768]
def k1_off162 (k1_t10 : Fin k1_t10_loop.trips) : Fin 3 → Nat :=
  let c0_64 : Index := 0#32
  let c0_i32_18 : BitVec 32 := 0#32
  let c1_i32_20 : BitVec 32 := 1#32
  let arg9 : BitVec 32 := Scf.iv c0_i32_18 c1_i32_20 k1_t10
  let c16_i32 : BitVec 32 := 16#32
  let v53 : BitVec 32 := Scalar.muli arg9 c16_i32
  let v54 : BitVec 32 := v53
  let v173 : Index := Scalar.indexCast v54
  let c896 : Index := 896#32
  ![0, v173.toNat, 896]
def k1_off163 (k1_t10 : Fin k1_t10_loop.trips) : Fin 3 → Nat :=
  let c0_65 : Index := 0#32
  let c0_i32_18 : BitVec 32 := 0#32
  let c1_i32_20 : BitVec 32 := 1#32
  let arg9 : BitVec 32 := Scf.iv c0_i32_18 c1_i32_20 k1_t10
  let c16_i32 : BitVec 32 := 16#32
  let v53 : BitVec 32 := Scalar.muli arg9 c16_i32
  let v54 : BitVec 32 := v53
  let v180 : Index := Scalar.indexCast v54
  let c1024 : Index := 1024#32
  ![0, v180.toNat, 1024]
def k1_off164 (k1_t10 : Fin k1_t10_loop.trips) : Fin 3 → Nat :=
  let c0_66 : Index := 0#32
  let c0_i32_18 : BitVec 32 := 0#32
  let c1_i32_20 : BitVec 32 := 1#32
  let arg9 : BitVec 32 := Scf.iv c0_i32_18 c1_i32_20 k1_t10
  let c16_i32 : BitVec 32 := 16#32
  let v53 : BitVec 32 := Scalar.muli arg9 c16_i32
  let v54 : BitVec 32 := v53
  let v187 : Index := Scalar.indexCast v54
  let c1152_67 : Index := 1152#32
  ![0, v187.toNat, 1152]
def k1_off165 (k1_t10 : Fin k1_t10_loop.trips) : Fin 3 → Nat :=
  let c0_68 : Index := 0#32
  let c0_i32_18 : BitVec 32 := 0#32
  let c1_i32_20 : BitVec 32 := 1#32
  let arg9 : BitVec 32 := Scf.iv c0_i32_18 c1_i32_20 k1_t10
  let c16_i32 : BitVec 32 := 16#32
  let v53 : BitVec 32 := Scalar.muli arg9 c16_i32
  let v54 : BitVec 32 := v53
  let v194 : Index := Scalar.indexCast v54
  let c1280 : Index := 1280#32
  ![0, v194.toNat, 1280]
def k1_off166 (k1_t10 : Fin k1_t10_loop.trips) : Fin 3 → Nat :=
  let c0_69 : Index := 0#32
  let c0_i32_18 : BitVec 32 := 0#32
  let c1_i32_20 : BitVec 32 := 1#32
  let arg9 : BitVec 32 := Scf.iv c0_i32_18 c1_i32_20 k1_t10
  let c16_i32 : BitVec 32 := 16#32
  let v53 : BitVec 32 := Scalar.muli arg9 c16_i32
  let v54 : BitVec 32 := v53
  let v201 : Index := Scalar.indexCast v54
  let c1408 : Index := 1408#32
  ![0, v201.toNat, 1408]
def k1_off167 (k1_t10 : Fin k1_t10_loop.trips) : Fin 3 → Nat :=
  let c0_70 : Index := 0#32
  let c0_i32_18 : BitVec 32 := 0#32
  let c1_i32_20 : BitVec 32 := 1#32
  let arg9 : BitVec 32 := Scf.iv c0_i32_18 c1_i32_20 k1_t10
  let c16_i32 : BitVec 32 := 16#32
  let v53 : BitVec 32 := Scalar.muli arg9 c16_i32
  let v54 : BitVec 32 := v53
  let v208 : Index := Scalar.indexCast v54
  let c1536 : Index := 1536#32
  ![0, v208.toNat, 1536]
def k1_off168 (k1_t10 : Fin k1_t10_loop.trips) : Fin 3 → Nat :=
  let c0_71 : Index := 0#32
  let c0_i32_18 : BitVec 32 := 0#32
  let c1_i32_20 : BitVec 32 := 1#32
  let arg9 : BitVec 32 := Scf.iv c0_i32_18 c1_i32_20 k1_t10
  let c16_i32 : BitVec 32 := 16#32
  let v53 : BitVec 32 := Scalar.muli arg9 c16_i32
  let v54 : BitVec 32 := v53
  let v215 : Index := Scalar.indexCast v54
  let c1664 : Index := 1664#32
  ![0, v215.toNat, 1664]
def k1_off169 (k1_t10 : Fin k1_t10_loop.trips) : Fin 3 → Nat :=
  let c0_72 : Index := 0#32
  let c0_i32_18 : BitVec 32 := 0#32
  let c1_i32_20 : BitVec 32 := 1#32
  let arg9 : BitVec 32 := Scf.iv c0_i32_18 c1_i32_20 k1_t10
  let c16_i32 : BitVec 32 := 16#32
  let v53 : BitVec 32 := Scalar.muli arg9 c16_i32
  let v54 : BitVec 32 := v53
  let v222 : Index := Scalar.indexCast v54
  let c1792 : Index := 1792#32
  ![0, v222.toNat, 1792]
def k1_off170 (k1_t10 : Fin k1_t10_loop.trips) : Fin 3 → Nat :=
  let c0_73 : Index := 0#32
  let c0_i32_18 : BitVec 32 := 0#32
  let c1_i32_20 : BitVec 32 := 1#32
  let arg9 : BitVec 32 := Scf.iv c0_i32_18 c1_i32_20 k1_t10
  let c16_i32 : BitVec 32 := 16#32
  let v53 : BitVec 32 := Scalar.muli arg9 c16_i32
  let v54 : BitVec 32 := v53
  let v229 : Index := Scalar.indexCast v54
  let c1920 : Index := 1920#32
  ![0, v229.toNat, 1920]
def k1_cond11 (i : grid1.Coords) : BitVec 1 :=
  let arg2 : BitVec 32 := BitVec.ofNat 32 (i 2).val
  let c10_i32 : BitVec 32 := 10#32
  let v34 : BitVec 1 := Scalar.cmpi .eq arg2 c10_i32
  let v35 : BitVec 32 := Scalar.extui v34
  let c0_i32_12 : BitVec 32 := 0#32
  let v36 : BitVec 1 := Scalar.cmpi .ne v35 c0_i32_12
  v36

@[reducible] def k1_t11_loop : Scf.Loop 32 :=
  let c0_i32_18 : BitVec 32 := 0#32
  let c8_i32_19 : BitVec 32 := 8#32
  let v52 : BitVec 32 := Scalar.addi c0_i32_18 c8_i32_19
  let c1_i32_20 : BitVec 32 := 1#32
  ⟨c0_i32_18, v52, c1_i32_20⟩
def k1_mult11 (k1_t11 : Fin k1_t11_loop.trips) : BitVec 32 :=
  let c0_i32_18 : BitVec 32 := 0#32
  let c1_i32_20 : BitVec 32 := 1#32
  let arg9 : BitVec 32 := Scf.iv c0_i32_18 c1_i32_20 k1_t11
  let c16_i32 : BitVec 32 := 16#32
  let v53 : BitVec 32 := Scalar.muli arg9 c16_i32
  v53
def k1_off171 (k1_t11 : Fin k1_t11_loop.trips) : Fin 5 → Nat :=
  let c0_22 : Index := 0#32
  let c0_23 : Index := 0#32
  let c0_i32_18 : BitVec 32 := 0#32
  let c1_i32_20 : BitVec 32 := 1#32
  let arg9 : BitVec 32 := Scf.iv c0_i32_18 c1_i32_20 k1_t11
  let c16_i32 : BitVec 32 := 16#32
  let v53 : BitVec 32 := Scalar.muli arg9 c16_i32
  let v54 : BitVec 32 := v53
  let v55 : Index := Scalar.indexCast v54
  let c0_24 : Index := 0#32
  let c0_25 : Index := 0#32
  ![0, 0, v55.toNat, 0, 0]
def k1_off172 (k1_t11 : Fin k1_t11_loop.trips) : Fin 3 → Nat :=
  let c0_56 : Index := 0#32
  let c0_i32_18 : BitVec 32 := 0#32
  let c1_i32_20 : BitVec 32 := 1#32
  let arg9 : BitVec 32 := Scf.iv c0_i32_18 c1_i32_20 k1_t11
  let c16_i32 : BitVec 32 := 16#32
  let v53 : BitVec 32 := Scalar.muli arg9 c16_i32
  let v54 : BitVec 32 := v53
  let v124 : Index := Scalar.indexCast v54
  let c0_57 : Index := 0#32
  ![0, v124.toNat, 0]
def k1_off173 (k1_t11 : Fin k1_t11_loop.trips) : Fin 3 → Nat :=
  let c0_58 : Index := 0#32
  let c0_i32_18 : BitVec 32 := 0#32
  let c1_i32_20 : BitVec 32 := 1#32
  let arg9 : BitVec 32 := Scf.iv c0_i32_18 c1_i32_20 k1_t11
  let c16_i32 : BitVec 32 := 16#32
  let v53 : BitVec 32 := Scalar.muli arg9 c16_i32
  let v54 : BitVec 32 := v53
  let v131 : Index := Scalar.indexCast v54
  let c128 : Index := 128#32
  ![0, v131.toNat, 128]
def k1_off174 (k1_t11 : Fin k1_t11_loop.trips) : Fin 3 → Nat :=
  let c0_59 : Index := 0#32
  let c0_i32_18 : BitVec 32 := 0#32
  let c1_i32_20 : BitVec 32 := 1#32
  let arg9 : BitVec 32 := Scf.iv c0_i32_18 c1_i32_20 k1_t11
  let c16_i32 : BitVec 32 := 16#32
  let v53 : BitVec 32 := Scalar.muli arg9 c16_i32
  let v54 : BitVec 32 := v53
  let v138 : Index := Scalar.indexCast v54
  let c256 : Index := 256#32
  ![0, v138.toNat, 256]
def k1_off175 (k1_t11 : Fin k1_t11_loop.trips) : Fin 3 → Nat :=
  let c0_60 : Index := 0#32
  let c0_i32_18 : BitVec 32 := 0#32
  let c1_i32_20 : BitVec 32 := 1#32
  let arg9 : BitVec 32 := Scf.iv c0_i32_18 c1_i32_20 k1_t11
  let c16_i32 : BitVec 32 := 16#32
  let v53 : BitVec 32 := Scalar.muli arg9 c16_i32
  let v54 : BitVec 32 := v53
  let v145 : Index := Scalar.indexCast v54
  let c384 : Index := 384#32
  ![0, v145.toNat, 384]
def k1_off176 (k1_t11 : Fin k1_t11_loop.trips) : Fin 3 → Nat :=
  let c0_61 : Index := 0#32
  let c0_i32_18 : BitVec 32 := 0#32
  let c1_i32_20 : BitVec 32 := 1#32
  let arg9 : BitVec 32 := Scf.iv c0_i32_18 c1_i32_20 k1_t11
  let c16_i32 : BitVec 32 := 16#32
  let v53 : BitVec 32 := Scalar.muli arg9 c16_i32
  let v54 : BitVec 32 := v53
  let v152 : Index := Scalar.indexCast v54
  let c512 : Index := 512#32
  ![0, v152.toNat, 512]
def k1_off177 (k1_t11 : Fin k1_t11_loop.trips) : Fin 3 → Nat :=
  let c0_62 : Index := 0#32
  let c0_i32_18 : BitVec 32 := 0#32
  let c1_i32_20 : BitVec 32 := 1#32
  let arg9 : BitVec 32 := Scf.iv c0_i32_18 c1_i32_20 k1_t11
  let c16_i32 : BitVec 32 := 16#32
  let v53 : BitVec 32 := Scalar.muli arg9 c16_i32
  let v54 : BitVec 32 := v53
  let v159 : Index := Scalar.indexCast v54
  let c640 : Index := 640#32
  ![0, v159.toNat, 640]
def k1_off178 (k1_t11 : Fin k1_t11_loop.trips) : Fin 3 → Nat :=
  let c0_63 : Index := 0#32
  let c0_i32_18 : BitVec 32 := 0#32
  let c1_i32_20 : BitVec 32 := 1#32
  let arg9 : BitVec 32 := Scf.iv c0_i32_18 c1_i32_20 k1_t11
  let c16_i32 : BitVec 32 := 16#32
  let v53 : BitVec 32 := Scalar.muli arg9 c16_i32
  let v54 : BitVec 32 := v53
  let v166 : Index := Scalar.indexCast v54
  let c768 : Index := 768#32
  ![0, v166.toNat, 768]
def k1_off179 (k1_t11 : Fin k1_t11_loop.trips) : Fin 3 → Nat :=
  let c0_64 : Index := 0#32
  let c0_i32_18 : BitVec 32 := 0#32
  let c1_i32_20 : BitVec 32 := 1#32
  let arg9 : BitVec 32 := Scf.iv c0_i32_18 c1_i32_20 k1_t11
  let c16_i32 : BitVec 32 := 16#32
  let v53 : BitVec 32 := Scalar.muli arg9 c16_i32
  let v54 : BitVec 32 := v53
  let v173 : Index := Scalar.indexCast v54
  let c896 : Index := 896#32
  ![0, v173.toNat, 896]
def k1_off180 (k1_t11 : Fin k1_t11_loop.trips) : Fin 3 → Nat :=
  let c0_65 : Index := 0#32
  let c0_i32_18 : BitVec 32 := 0#32
  let c1_i32_20 : BitVec 32 := 1#32
  let arg9 : BitVec 32 := Scf.iv c0_i32_18 c1_i32_20 k1_t11
  let c16_i32 : BitVec 32 := 16#32
  let v53 : BitVec 32 := Scalar.muli arg9 c16_i32
  let v54 : BitVec 32 := v53
  let v180 : Index := Scalar.indexCast v54
  let c1024 : Index := 1024#32
  ![0, v180.toNat, 1024]
def k1_off181 (k1_t11 : Fin k1_t11_loop.trips) : Fin 3 → Nat :=
  let c0_66 : Index := 0#32
  let c0_i32_18 : BitVec 32 := 0#32
  let c1_i32_20 : BitVec 32 := 1#32
  let arg9 : BitVec 32 := Scf.iv c0_i32_18 c1_i32_20 k1_t11
  let c16_i32 : BitVec 32 := 16#32
  let v53 : BitVec 32 := Scalar.muli arg9 c16_i32
  let v54 : BitVec 32 := v53
  let v187 : Index := Scalar.indexCast v54
  let c1152 : Index := 1152#32
  ![0, v187.toNat, 1152]
def k1_off182 (k1_t11 : Fin k1_t11_loop.trips) : Fin 3 → Nat :=
  let c0_67 : Index := 0#32
  let c0_i32_18 : BitVec 32 := 0#32
  let c1_i32_20 : BitVec 32 := 1#32
  let arg9 : BitVec 32 := Scf.iv c0_i32_18 c1_i32_20 k1_t11
  let c16_i32 : BitVec 32 := 16#32
  let v53 : BitVec 32 := Scalar.muli arg9 c16_i32
  let v54 : BitVec 32 := v53
  let v194 : Index := Scalar.indexCast v54
  let c1280_68 : Index := 1280#32
  ![0, v194.toNat, 1280]
def k1_off183 (k1_t11 : Fin k1_t11_loop.trips) : Fin 3 → Nat :=
  let c0_69 : Index := 0#32
  let c0_i32_18 : BitVec 32 := 0#32
  let c1_i32_20 : BitVec 32 := 1#32
  let arg9 : BitVec 32 := Scf.iv c0_i32_18 c1_i32_20 k1_t11
  let c16_i32 : BitVec 32 := 16#32
  let v53 : BitVec 32 := Scalar.muli arg9 c16_i32
  let v54 : BitVec 32 := v53
  let v201 : Index := Scalar.indexCast v54
  let c1408 : Index := 1408#32
  ![0, v201.toNat, 1408]
def k1_off184 (k1_t11 : Fin k1_t11_loop.trips) : Fin 3 → Nat :=
  let c0_70 : Index := 0#32
  let c0_i32_18 : BitVec 32 := 0#32
  let c1_i32_20 : BitVec 32 := 1#32
  let arg9 : BitVec 32 := Scf.iv c0_i32_18 c1_i32_20 k1_t11
  let c16_i32 : BitVec 32 := 16#32
  let v53 : BitVec 32 := Scalar.muli arg9 c16_i32
  let v54 : BitVec 32 := v53
  let v208 : Index := Scalar.indexCast v54
  let c1536 : Index := 1536#32
  ![0, v208.toNat, 1536]
def k1_off185 (k1_t11 : Fin k1_t11_loop.trips) : Fin 3 → Nat :=
  let c0_71 : Index := 0#32
  let c0_i32_18 : BitVec 32 := 0#32
  let c1_i32_20 : BitVec 32 := 1#32
  let arg9 : BitVec 32 := Scf.iv c0_i32_18 c1_i32_20 k1_t11
  let c16_i32 : BitVec 32 := 16#32
  let v53 : BitVec 32 := Scalar.muli arg9 c16_i32
  let v54 : BitVec 32 := v53
  let v215 : Index := Scalar.indexCast v54
  let c1664 : Index := 1664#32
  ![0, v215.toNat, 1664]
def k1_off186 (k1_t11 : Fin k1_t11_loop.trips) : Fin 3 → Nat :=
  let c0_72 : Index := 0#32
  let c0_i32_18 : BitVec 32 := 0#32
  let c1_i32_20 : BitVec 32 := 1#32
  let arg9 : BitVec 32 := Scf.iv c0_i32_18 c1_i32_20 k1_t11
  let c16_i32 : BitVec 32 := 16#32
  let v53 : BitVec 32 := Scalar.muli arg9 c16_i32
  let v54 : BitVec 32 := v53
  let v222 : Index := Scalar.indexCast v54
  let c1792 : Index := 1792#32
  ![0, v222.toNat, 1792]
def k1_off187 (k1_t11 : Fin k1_t11_loop.trips) : Fin 3 → Nat :=
  let c0_73 : Index := 0#32
  let c0_i32_18 : BitVec 32 := 0#32
  let c1_i32_20 : BitVec 32 := 1#32
  let arg9 : BitVec 32 := Scf.iv c0_i32_18 c1_i32_20 k1_t11
  let c16_i32 : BitVec 32 := 16#32
  let v53 : BitVec 32 := Scalar.muli arg9 c16_i32
  let v54 : BitVec 32 := v53
  let v229 : Index := Scalar.indexCast v54
  let c1920 : Index := 1920#32
  ![0, v229.toNat, 1920]
def k1_cond12 (i : grid1.Coords) : BitVec 1 :=
  let arg2 : BitVec 32 := BitVec.ofNat 32 (i 2).val
  let c11_i32 : BitVec 32 := 11#32
  let v37 : BitVec 1 := Scalar.cmpi .eq arg2 c11_i32
  let v38 : BitVec 32 := Scalar.extui v37
  let c0_i32_13 : BitVec 32 := 0#32
  let v39 : BitVec 1 := Scalar.cmpi .ne v38 c0_i32_13
  v39

@[reducible] def k1_t12_loop : Scf.Loop 32 :=
  let c0_i32_18 : BitVec 32 := 0#32
  let c8_i32_19 : BitVec 32 := 8#32
  let v52 : BitVec 32 := Scalar.addi c0_i32_18 c8_i32_19
  let c1_i32_20 : BitVec 32 := 1#32
  ⟨c0_i32_18, v52, c1_i32_20⟩
def k1_mult12 (k1_t12 : Fin k1_t12_loop.trips) : BitVec 32 :=
  let c0_i32_18 : BitVec 32 := 0#32
  let c1_i32_20 : BitVec 32 := 1#32
  let arg9 : BitVec 32 := Scf.iv c0_i32_18 c1_i32_20 k1_t12
  let c16_i32 : BitVec 32 := 16#32
  let v53 : BitVec 32 := Scalar.muli arg9 c16_i32
  v53
def k1_off188 (k1_t12 : Fin k1_t12_loop.trips) : Fin 5 → Nat :=
  let c0_22 : Index := 0#32
  let c0_23 : Index := 0#32
  let c0_i32_18 : BitVec 32 := 0#32
  let c1_i32_20 : BitVec 32 := 1#32
  let arg9 : BitVec 32 := Scf.iv c0_i32_18 c1_i32_20 k1_t12
  let c16_i32 : BitVec 32 := 16#32
  let v53 : BitVec 32 := Scalar.muli arg9 c16_i32
  let v54 : BitVec 32 := v53
  let v55 : Index := Scalar.indexCast v54
  let c0_24 : Index := 0#32
  let c0_25 : Index := 0#32
  ![0, 0, v55.toNat, 0, 0]
def k1_off189 (k1_t12 : Fin k1_t12_loop.trips) : Fin 3 → Nat :=
  let c0_56 : Index := 0#32
  let c0_i32_18 : BitVec 32 := 0#32
  let c1_i32_20 : BitVec 32 := 1#32
  let arg9 : BitVec 32 := Scf.iv c0_i32_18 c1_i32_20 k1_t12
  let c16_i32 : BitVec 32 := 16#32
  let v53 : BitVec 32 := Scalar.muli arg9 c16_i32
  let v54 : BitVec 32 := v53
  let v124 : Index := Scalar.indexCast v54
  let c0_57 : Index := 0#32
  ![0, v124.toNat, 0]
def k1_off190 (k1_t12 : Fin k1_t12_loop.trips) : Fin 3 → Nat :=
  let c0_58 : Index := 0#32
  let c0_i32_18 : BitVec 32 := 0#32
  let c1_i32_20 : BitVec 32 := 1#32
  let arg9 : BitVec 32 := Scf.iv c0_i32_18 c1_i32_20 k1_t12
  let c16_i32 : BitVec 32 := 16#32
  let v53 : BitVec 32 := Scalar.muli arg9 c16_i32
  let v54 : BitVec 32 := v53
  let v131 : Index := Scalar.indexCast v54
  let c128 : Index := 128#32
  ![0, v131.toNat, 128]
def k1_off191 (k1_t12 : Fin k1_t12_loop.trips) : Fin 3 → Nat :=
  let c0_59 : Index := 0#32
  let c0_i32_18 : BitVec 32 := 0#32
  let c1_i32_20 : BitVec 32 := 1#32
  let arg9 : BitVec 32 := Scf.iv c0_i32_18 c1_i32_20 k1_t12
  let c16_i32 : BitVec 32 := 16#32
  let v53 : BitVec 32 := Scalar.muli arg9 c16_i32
  let v54 : BitVec 32 := v53
  let v138 : Index := Scalar.indexCast v54
  let c256 : Index := 256#32
  ![0, v138.toNat, 256]
def k1_off192 (k1_t12 : Fin k1_t12_loop.trips) : Fin 3 → Nat :=
  let c0_60 : Index := 0#32
  let c0_i32_18 : BitVec 32 := 0#32
  let c1_i32_20 : BitVec 32 := 1#32
  let arg9 : BitVec 32 := Scf.iv c0_i32_18 c1_i32_20 k1_t12
  let c16_i32 : BitVec 32 := 16#32
  let v53 : BitVec 32 := Scalar.muli arg9 c16_i32
  let v54 : BitVec 32 := v53
  let v145 : Index := Scalar.indexCast v54
  let c384 : Index := 384#32
  ![0, v145.toNat, 384]
def k1_off193 (k1_t12 : Fin k1_t12_loop.trips) : Fin 3 → Nat :=
  let c0_61 : Index := 0#32
  let c0_i32_18 : BitVec 32 := 0#32
  let c1_i32_20 : BitVec 32 := 1#32
  let arg9 : BitVec 32 := Scf.iv c0_i32_18 c1_i32_20 k1_t12
  let c16_i32 : BitVec 32 := 16#32
  let v53 : BitVec 32 := Scalar.muli arg9 c16_i32
  let v54 : BitVec 32 := v53
  let v152 : Index := Scalar.indexCast v54
  let c512 : Index := 512#32
  ![0, v152.toNat, 512]
def k1_off194 (k1_t12 : Fin k1_t12_loop.trips) : Fin 3 → Nat :=
  let c0_62 : Index := 0#32
  let c0_i32_18 : BitVec 32 := 0#32
  let c1_i32_20 : BitVec 32 := 1#32
  let arg9 : BitVec 32 := Scf.iv c0_i32_18 c1_i32_20 k1_t12
  let c16_i32 : BitVec 32 := 16#32
  let v53 : BitVec 32 := Scalar.muli arg9 c16_i32
  let v54 : BitVec 32 := v53
  let v159 : Index := Scalar.indexCast v54
  let c640 : Index := 640#32
  ![0, v159.toNat, 640]
def k1_off195 (k1_t12 : Fin k1_t12_loop.trips) : Fin 3 → Nat :=
  let c0_63 : Index := 0#32
  let c0_i32_18 : BitVec 32 := 0#32
  let c1_i32_20 : BitVec 32 := 1#32
  let arg9 : BitVec 32 := Scf.iv c0_i32_18 c1_i32_20 k1_t12
  let c16_i32 : BitVec 32 := 16#32
  let v53 : BitVec 32 := Scalar.muli arg9 c16_i32
  let v54 : BitVec 32 := v53
  let v166 : Index := Scalar.indexCast v54
  let c768 : Index := 768#32
  ![0, v166.toNat, 768]
def k1_off196 (k1_t12 : Fin k1_t12_loop.trips) : Fin 3 → Nat :=
  let c0_64 : Index := 0#32
  let c0_i32_18 : BitVec 32 := 0#32
  let c1_i32_20 : BitVec 32 := 1#32
  let arg9 : BitVec 32 := Scf.iv c0_i32_18 c1_i32_20 k1_t12
  let c16_i32 : BitVec 32 := 16#32
  let v53 : BitVec 32 := Scalar.muli arg9 c16_i32
  let v54 : BitVec 32 := v53
  let v173 : Index := Scalar.indexCast v54
  let c896 : Index := 896#32
  ![0, v173.toNat, 896]
def k1_off197 (k1_t12 : Fin k1_t12_loop.trips) : Fin 3 → Nat :=
  let c0_65 : Index := 0#32
  let c0_i32_18 : BitVec 32 := 0#32
  let c1_i32_20 : BitVec 32 := 1#32
  let arg9 : BitVec 32 := Scf.iv c0_i32_18 c1_i32_20 k1_t12
  let c16_i32 : BitVec 32 := 16#32
  let v53 : BitVec 32 := Scalar.muli arg9 c16_i32
  let v54 : BitVec 32 := v53
  let v180 : Index := Scalar.indexCast v54
  let c1024 : Index := 1024#32
  ![0, v180.toNat, 1024]
def k1_off198 (k1_t12 : Fin k1_t12_loop.trips) : Fin 3 → Nat :=
  let c0_66 : Index := 0#32
  let c0_i32_18 : BitVec 32 := 0#32
  let c1_i32_20 : BitVec 32 := 1#32
  let arg9 : BitVec 32 := Scf.iv c0_i32_18 c1_i32_20 k1_t12
  let c16_i32 : BitVec 32 := 16#32
  let v53 : BitVec 32 := Scalar.muli arg9 c16_i32
  let v54 : BitVec 32 := v53
  let v187 : Index := Scalar.indexCast v54
  let c1152 : Index := 1152#32
  ![0, v187.toNat, 1152]
def k1_off199 (k1_t12 : Fin k1_t12_loop.trips) : Fin 3 → Nat :=
  let c0_67 : Index := 0#32
  let c0_i32_18 : BitVec 32 := 0#32
  let c1_i32_20 : BitVec 32 := 1#32
  let arg9 : BitVec 32 := Scf.iv c0_i32_18 c1_i32_20 k1_t12
  let c16_i32 : BitVec 32 := 16#32
  let v53 : BitVec 32 := Scalar.muli arg9 c16_i32
  let v54 : BitVec 32 := v53
  let v194 : Index := Scalar.indexCast v54
  let c1280 : Index := 1280#32
  ![0, v194.toNat, 1280]
def k1_off200 (k1_t12 : Fin k1_t12_loop.trips) : Fin 3 → Nat :=
  let c0_68 : Index := 0#32
  let c0_i32_18 : BitVec 32 := 0#32
  let c1_i32_20 : BitVec 32 := 1#32
  let arg9 : BitVec 32 := Scf.iv c0_i32_18 c1_i32_20 k1_t12
  let c16_i32 : BitVec 32 := 16#32
  let v53 : BitVec 32 := Scalar.muli arg9 c16_i32
  let v54 : BitVec 32 := v53
  let v201 : Index := Scalar.indexCast v54
  let c1408_69 : Index := 1408#32
  ![0, v201.toNat, 1408]
def k1_off201 (k1_t12 : Fin k1_t12_loop.trips) : Fin 3 → Nat :=
  let c0_70 : Index := 0#32
  let c0_i32_18 : BitVec 32 := 0#32
  let c1_i32_20 : BitVec 32 := 1#32
  let arg9 : BitVec 32 := Scf.iv c0_i32_18 c1_i32_20 k1_t12
  let c16_i32 : BitVec 32 := 16#32
  let v53 : BitVec 32 := Scalar.muli arg9 c16_i32
  let v54 : BitVec 32 := v53
  let v208 : Index := Scalar.indexCast v54
  let c1536 : Index := 1536#32
  ![0, v208.toNat, 1536]
def k1_off202 (k1_t12 : Fin k1_t12_loop.trips) : Fin 3 → Nat :=
  let c0_71 : Index := 0#32
  let c0_i32_18 : BitVec 32 := 0#32
  let c1_i32_20 : BitVec 32 := 1#32
  let arg9 : BitVec 32 := Scf.iv c0_i32_18 c1_i32_20 k1_t12
  let c16_i32 : BitVec 32 := 16#32
  let v53 : BitVec 32 := Scalar.muli arg9 c16_i32
  let v54 : BitVec 32 := v53
  let v215 : Index := Scalar.indexCast v54
  let c1664 : Index := 1664#32
  ![0, v215.toNat, 1664]
def k1_off203 (k1_t12 : Fin k1_t12_loop.trips) : Fin 3 → Nat :=
  let c0_72 : Index := 0#32
  let c0_i32_18 : BitVec 32 := 0#32
  let c1_i32_20 : BitVec 32 := 1#32
  let arg9 : BitVec 32 := Scf.iv c0_i32_18 c1_i32_20 k1_t12
  let c16_i32 : BitVec 32 := 16#32
  let v53 : BitVec 32 := Scalar.muli arg9 c16_i32
  let v54 : BitVec 32 := v53
  let v222 : Index := Scalar.indexCast v54
  let c1792 : Index := 1792#32
  ![0, v222.toNat, 1792]
def k1_off204 (k1_t12 : Fin k1_t12_loop.trips) : Fin 3 → Nat :=
  let c0_73 : Index := 0#32
  let c0_i32_18 : BitVec 32 := 0#32
  let c1_i32_20 : BitVec 32 := 1#32
  let arg9 : BitVec 32 := Scf.iv c0_i32_18 c1_i32_20 k1_t12
  let c16_i32 : BitVec 32 := 16#32
  let v53 : BitVec 32 := Scalar.muli arg9 c16_i32
  let v54 : BitVec 32 := v53
  let v229 : Index := Scalar.indexCast v54
  let c1920 : Index := 1920#32
  ![0, v229.toNat, 1920]
def k1_cond13 (i : grid1.Coords) : BitVec 1 :=
  let arg2 : BitVec 32 := BitVec.ofNat 32 (i 2).val
  let c12_i32 : BitVec 32 := 12#32
  let v40 : BitVec 1 := Scalar.cmpi .eq arg2 c12_i32
  let v41 : BitVec 32 := Scalar.extui v40
  let c0_i32_14 : BitVec 32 := 0#32
  let v42 : BitVec 1 := Scalar.cmpi .ne v41 c0_i32_14
  v42

@[reducible] def k1_t13_loop : Scf.Loop 32 :=
  let c0_i32_18 : BitVec 32 := 0#32
  let c8_i32_19 : BitVec 32 := 8#32
  let v52 : BitVec 32 := Scalar.addi c0_i32_18 c8_i32_19
  let c1_i32_20 : BitVec 32 := 1#32
  ⟨c0_i32_18, v52, c1_i32_20⟩
def k1_mult13 (k1_t13 : Fin k1_t13_loop.trips) : BitVec 32 :=
  let c0_i32_18 : BitVec 32 := 0#32
  let c1_i32_20 : BitVec 32 := 1#32
  let arg9 : BitVec 32 := Scf.iv c0_i32_18 c1_i32_20 k1_t13
  let c16_i32 : BitVec 32 := 16#32
  let v53 : BitVec 32 := Scalar.muli arg9 c16_i32
  v53
def k1_off205 (k1_t13 : Fin k1_t13_loop.trips) : Fin 5 → Nat :=
  let c0_22 : Index := 0#32
  let c0_23 : Index := 0#32
  let c0_i32_18 : BitVec 32 := 0#32
  let c1_i32_20 : BitVec 32 := 1#32
  let arg9 : BitVec 32 := Scf.iv c0_i32_18 c1_i32_20 k1_t13
  let c16_i32 : BitVec 32 := 16#32
  let v53 : BitVec 32 := Scalar.muli arg9 c16_i32
  let v54 : BitVec 32 := v53
  let v55 : Index := Scalar.indexCast v54
  let c0_24 : Index := 0#32
  let c0_25 : Index := 0#32
  ![0, 0, v55.toNat, 0, 0]
def k1_off206 (k1_t13 : Fin k1_t13_loop.trips) : Fin 3 → Nat :=
  let c0_56 : Index := 0#32
  let c0_i32_18 : BitVec 32 := 0#32
  let c1_i32_20 : BitVec 32 := 1#32
  let arg9 : BitVec 32 := Scf.iv c0_i32_18 c1_i32_20 k1_t13
  let c16_i32 : BitVec 32 := 16#32
  let v53 : BitVec 32 := Scalar.muli arg9 c16_i32
  let v54 : BitVec 32 := v53
  let v124 : Index := Scalar.indexCast v54
  let c0_57 : Index := 0#32
  ![0, v124.toNat, 0]
def k1_off207 (k1_t13 : Fin k1_t13_loop.trips) : Fin 3 → Nat :=
  let c0_58 : Index := 0#32
  let c0_i32_18 : BitVec 32 := 0#32
  let c1_i32_20 : BitVec 32 := 1#32
  let arg9 : BitVec 32 := Scf.iv c0_i32_18 c1_i32_20 k1_t13
  let c16_i32 : BitVec 32 := 16#32
  let v53 : BitVec 32 := Scalar.muli arg9 c16_i32
  let v54 : BitVec 32 := v53
  let v131 : Index := Scalar.indexCast v54
  let c128 : Index := 128#32
  ![0, v131.toNat, 128]
def k1_off208 (k1_t13 : Fin k1_t13_loop.trips) : Fin 3 → Nat :=
  let c0_59 : Index := 0#32
  let c0_i32_18 : BitVec 32 := 0#32
  let c1_i32_20 : BitVec 32 := 1#32
  let arg9 : BitVec 32 := Scf.iv c0_i32_18 c1_i32_20 k1_t13
  let c16_i32 : BitVec 32 := 16#32
  let v53 : BitVec 32 := Scalar.muli arg9 c16_i32
  let v54 : BitVec 32 := v53
  let v138 : Index := Scalar.indexCast v54
  let c256 : Index := 256#32
  ![0, v138.toNat, 256]
def k1_off209 (k1_t13 : Fin k1_t13_loop.trips) : Fin 3 → Nat :=
  let c0_60 : Index := 0#32
  let c0_i32_18 : BitVec 32 := 0#32
  let c1_i32_20 : BitVec 32 := 1#32
  let arg9 : BitVec 32 := Scf.iv c0_i32_18 c1_i32_20 k1_t13
  let c16_i32 : BitVec 32 := 16#32
  let v53 : BitVec 32 := Scalar.muli arg9 c16_i32
  let v54 : BitVec 32 := v53
  let v145 : Index := Scalar.indexCast v54
  let c384 : Index := 384#32
  ![0, v145.toNat, 384]
def k1_off210 (k1_t13 : Fin k1_t13_loop.trips) : Fin 3 → Nat :=
  let c0_61 : Index := 0#32
  let c0_i32_18 : BitVec 32 := 0#32
  let c1_i32_20 : BitVec 32 := 1#32
  let arg9 : BitVec 32 := Scf.iv c0_i32_18 c1_i32_20 k1_t13
  let c16_i32 : BitVec 32 := 16#32
  let v53 : BitVec 32 := Scalar.muli arg9 c16_i32
  let v54 : BitVec 32 := v53
  let v152 : Index := Scalar.indexCast v54
  let c512 : Index := 512#32
  ![0, v152.toNat, 512]
def k1_off211 (k1_t13 : Fin k1_t13_loop.trips) : Fin 3 → Nat :=
  let c0_62 : Index := 0#32
  let c0_i32_18 : BitVec 32 := 0#32
  let c1_i32_20 : BitVec 32 := 1#32
  let arg9 : BitVec 32 := Scf.iv c0_i32_18 c1_i32_20 k1_t13
  let c16_i32 : BitVec 32 := 16#32
  let v53 : BitVec 32 := Scalar.muli arg9 c16_i32
  let v54 : BitVec 32 := v53
  let v159 : Index := Scalar.indexCast v54
  let c640 : Index := 640#32
  ![0, v159.toNat, 640]
def k1_off212 (k1_t13 : Fin k1_t13_loop.trips) : Fin 3 → Nat :=
  let c0_63 : Index := 0#32
  let c0_i32_18 : BitVec 32 := 0#32
  let c1_i32_20 : BitVec 32 := 1#32
  let arg9 : BitVec 32 := Scf.iv c0_i32_18 c1_i32_20 k1_t13
  let c16_i32 : BitVec 32 := 16#32
  let v53 : BitVec 32 := Scalar.muli arg9 c16_i32
  let v54 : BitVec 32 := v53
  let v166 : Index := Scalar.indexCast v54
  let c768 : Index := 768#32
  ![0, v166.toNat, 768]
def k1_off213 (k1_t13 : Fin k1_t13_loop.trips) : Fin 3 → Nat :=
  let c0_64 : Index := 0#32
  let c0_i32_18 : BitVec 32 := 0#32
  let c1_i32_20 : BitVec 32 := 1#32
  let arg9 : BitVec 32 := Scf.iv c0_i32_18 c1_i32_20 k1_t13
  let c16_i32 : BitVec 32 := 16#32
  let v53 : BitVec 32 := Scalar.muli arg9 c16_i32
  let v54 : BitVec 32 := v53
  let v173 : Index := Scalar.indexCast v54
  let c896 : Index := 896#32
  ![0, v173.toNat, 896]
def k1_off214 (k1_t13 : Fin k1_t13_loop.trips) : Fin 3 → Nat :=
  let c0_65 : Index := 0#32
  let c0_i32_18 : BitVec 32 := 0#32
  let c1_i32_20 : BitVec 32 := 1#32
  let arg9 : BitVec 32 := Scf.iv c0_i32_18 c1_i32_20 k1_t13
  let c16_i32 : BitVec 32 := 16#32
  let v53 : BitVec 32 := Scalar.muli arg9 c16_i32
  let v54 : BitVec 32 := v53
  let v180 : Index := Scalar.indexCast v54
  let c1024 : Index := 1024#32
  ![0, v180.toNat, 1024]
def k1_off215 (k1_t13 : Fin k1_t13_loop.trips) : Fin 3 → Nat :=
  let c0_66 : Index := 0#32
  let c0_i32_18 : BitVec 32 := 0#32
  let c1_i32_20 : BitVec 32 := 1#32
  let arg9 : BitVec 32 := Scf.iv c0_i32_18 c1_i32_20 k1_t13
  let c16_i32 : BitVec 32 := 16#32
  let v53 : BitVec 32 := Scalar.muli arg9 c16_i32
  let v54 : BitVec 32 := v53
  let v187 : Index := Scalar.indexCast v54
  let c1152 : Index := 1152#32
  ![0, v187.toNat, 1152]
def k1_off216 (k1_t13 : Fin k1_t13_loop.trips) : Fin 3 → Nat :=
  let c0_67 : Index := 0#32
  let c0_i32_18 : BitVec 32 := 0#32
  let c1_i32_20 : BitVec 32 := 1#32
  let arg9 : BitVec 32 := Scf.iv c0_i32_18 c1_i32_20 k1_t13
  let c16_i32 : BitVec 32 := 16#32
  let v53 : BitVec 32 := Scalar.muli arg9 c16_i32
  let v54 : BitVec 32 := v53
  let v194 : Index := Scalar.indexCast v54
  let c1280 : Index := 1280#32
  ![0, v194.toNat, 1280]
def k1_off217 (k1_t13 : Fin k1_t13_loop.trips) : Fin 3 → Nat :=
  let c0_68 : Index := 0#32
  let c0_i32_18 : BitVec 32 := 0#32
  let c1_i32_20 : BitVec 32 := 1#32
  let arg9 : BitVec 32 := Scf.iv c0_i32_18 c1_i32_20 k1_t13
  let c16_i32 : BitVec 32 := 16#32
  let v53 : BitVec 32 := Scalar.muli arg9 c16_i32
  let v54 : BitVec 32 := v53
  let v201 : Index := Scalar.indexCast v54
  let c1408 : Index := 1408#32
  ![0, v201.toNat, 1408]
def k1_off218 (k1_t13 : Fin k1_t13_loop.trips) : Fin 3 → Nat :=
  let c0_69 : Index := 0#32
  let c0_i32_18 : BitVec 32 := 0#32
  let c1_i32_20 : BitVec 32 := 1#32
  let arg9 : BitVec 32 := Scf.iv c0_i32_18 c1_i32_20 k1_t13
  let c16_i32 : BitVec 32 := 16#32
  let v53 : BitVec 32 := Scalar.muli arg9 c16_i32
  let v54 : BitVec 32 := v53
  let v208 : Index := Scalar.indexCast v54
  let c1536_70 : Index := 1536#32
  ![0, v208.toNat, 1536]
def k1_off219 (k1_t13 : Fin k1_t13_loop.trips) : Fin 3 → Nat :=
  let c0_71 : Index := 0#32
  let c0_i32_18 : BitVec 32 := 0#32
  let c1_i32_20 : BitVec 32 := 1#32
  let arg9 : BitVec 32 := Scf.iv c0_i32_18 c1_i32_20 k1_t13
  let c16_i32 : BitVec 32 := 16#32
  let v53 : BitVec 32 := Scalar.muli arg9 c16_i32
  let v54 : BitVec 32 := v53
  let v215 : Index := Scalar.indexCast v54
  let c1664 : Index := 1664#32
  ![0, v215.toNat, 1664]
def k1_off220 (k1_t13 : Fin k1_t13_loop.trips) : Fin 3 → Nat :=
  let c0_72 : Index := 0#32
  let c0_i32_18 : BitVec 32 := 0#32
  let c1_i32_20 : BitVec 32 := 1#32
  let arg9 : BitVec 32 := Scf.iv c0_i32_18 c1_i32_20 k1_t13
  let c16_i32 : BitVec 32 := 16#32
  let v53 : BitVec 32 := Scalar.muli arg9 c16_i32
  let v54 : BitVec 32 := v53
  let v222 : Index := Scalar.indexCast v54
  let c1792 : Index := 1792#32
  ![0, v222.toNat, 1792]
def k1_off221 (k1_t13 : Fin k1_t13_loop.trips) : Fin 3 → Nat :=
  let c0_73 : Index := 0#32
  let c0_i32_18 : BitVec 32 := 0#32
  let c1_i32_20 : BitVec 32 := 1#32
  let arg9 : BitVec 32 := Scf.iv c0_i32_18 c1_i32_20 k1_t13
  let c16_i32 : BitVec 32 := 16#32
  let v53 : BitVec 32 := Scalar.muli arg9 c16_i32
  let v54 : BitVec 32 := v53
  let v229 : Index := Scalar.indexCast v54
  let c1920 : Index := 1920#32
  ![0, v229.toNat, 1920]
def k1_cond14 (i : grid1.Coords) : BitVec 1 :=
  let arg2 : BitVec 32 := BitVec.ofNat 32 (i 2).val
  let c13_i32 : BitVec 32 := 13#32
  let v43 : BitVec 1 := Scalar.cmpi .eq arg2 c13_i32
  let v44 : BitVec 32 := Scalar.extui v43
  let c0_i32_15 : BitVec 32 := 0#32
  let v45 : BitVec 1 := Scalar.cmpi .ne v44 c0_i32_15
  v45

@[reducible] def k1_t14_loop : Scf.Loop 32 :=
  let c0_i32_18 : BitVec 32 := 0#32
  let c8_i32_19 : BitVec 32 := 8#32
  let v52 : BitVec 32 := Scalar.addi c0_i32_18 c8_i32_19
  let c1_i32_20 : BitVec 32 := 1#32
  ⟨c0_i32_18, v52, c1_i32_20⟩
def k1_mult14 (k1_t14 : Fin k1_t14_loop.trips) : BitVec 32 :=
  let c0_i32_18 : BitVec 32 := 0#32
  let c1_i32_20 : BitVec 32 := 1#32
  let arg9 : BitVec 32 := Scf.iv c0_i32_18 c1_i32_20 k1_t14
  let c16_i32 : BitVec 32 := 16#32
  let v53 : BitVec 32 := Scalar.muli arg9 c16_i32
  v53
def k1_off222 (k1_t14 : Fin k1_t14_loop.trips) : Fin 5 → Nat :=
  let c0_22 : Index := 0#32
  let c0_23 : Index := 0#32
  let c0_i32_18 : BitVec 32 := 0#32
  let c1_i32_20 : BitVec 32 := 1#32
  let arg9 : BitVec 32 := Scf.iv c0_i32_18 c1_i32_20 k1_t14
  let c16_i32 : BitVec 32 := 16#32
  let v53 : BitVec 32 := Scalar.muli arg9 c16_i32
  let v54 : BitVec 32 := v53
  let v55 : Index := Scalar.indexCast v54
  let c0_24 : Index := 0#32
  let c0_25 : Index := 0#32
  ![0, 0, v55.toNat, 0, 0]
def k1_off223 (k1_t14 : Fin k1_t14_loop.trips) : Fin 3 → Nat :=
  let c0_56 : Index := 0#32
  let c0_i32_18 : BitVec 32 := 0#32
  let c1_i32_20 : BitVec 32 := 1#32
  let arg9 : BitVec 32 := Scf.iv c0_i32_18 c1_i32_20 k1_t14
  let c16_i32 : BitVec 32 := 16#32
  let v53 : BitVec 32 := Scalar.muli arg9 c16_i32
  let v54 : BitVec 32 := v53
  let v124 : Index := Scalar.indexCast v54
  let c0_57 : Index := 0#32
  ![0, v124.toNat, 0]
def k1_off224 (k1_t14 : Fin k1_t14_loop.trips) : Fin 3 → Nat :=
  let c0_58 : Index := 0#32
  let c0_i32_18 : BitVec 32 := 0#32
  let c1_i32_20 : BitVec 32 := 1#32
  let arg9 : BitVec 32 := Scf.iv c0_i32_18 c1_i32_20 k1_t14
  let c16_i32 : BitVec 32 := 16#32
  let v53 : BitVec 32 := Scalar.muli arg9 c16_i32
  let v54 : BitVec 32 := v53
  let v131 : Index := Scalar.indexCast v54
  let c128 : Index := 128#32
  ![0, v131.toNat, 128]
def k1_off225 (k1_t14 : Fin k1_t14_loop.trips) : Fin 3 → Nat :=
  let c0_59 : Index := 0#32
  let c0_i32_18 : BitVec 32 := 0#32
  let c1_i32_20 : BitVec 32 := 1#32
  let arg9 : BitVec 32 := Scf.iv c0_i32_18 c1_i32_20 k1_t14
  let c16_i32 : BitVec 32 := 16#32
  let v53 : BitVec 32 := Scalar.muli arg9 c16_i32
  let v54 : BitVec 32 := v53
  let v138 : Index := Scalar.indexCast v54
  let c256 : Index := 256#32
  ![0, v138.toNat, 256]
def k1_off226 (k1_t14 : Fin k1_t14_loop.trips) : Fin 3 → Nat :=
  let c0_60 : Index := 0#32
  let c0_i32_18 : BitVec 32 := 0#32
  let c1_i32_20 : BitVec 32 := 1#32
  let arg9 : BitVec 32 := Scf.iv c0_i32_18 c1_i32_20 k1_t14
  let c16_i32 : BitVec 32 := 16#32
  let v53 : BitVec 32 := Scalar.muli arg9 c16_i32
  let v54 : BitVec 32 := v53
  let v145 : Index := Scalar.indexCast v54
  let c384 : Index := 384#32
  ![0, v145.toNat, 384]
def k1_off227 (k1_t14 : Fin k1_t14_loop.trips) : Fin 3 → Nat :=
  let c0_61 : Index := 0#32
  let c0_i32_18 : BitVec 32 := 0#32
  let c1_i32_20 : BitVec 32 := 1#32
  let arg9 : BitVec 32 := Scf.iv c0_i32_18 c1_i32_20 k1_t14
  let c16_i32 : BitVec 32 := 16#32
  let v53 : BitVec 32 := Scalar.muli arg9 c16_i32
  let v54 : BitVec 32 := v53
  let v152 : Index := Scalar.indexCast v54
  let c512 : Index := 512#32
  ![0, v152.toNat, 512]
def k1_off228 (k1_t14 : Fin k1_t14_loop.trips) : Fin 3 → Nat :=
  let c0_62 : Index := 0#32
  let c0_i32_18 : BitVec 32 := 0#32
  let c1_i32_20 : BitVec 32 := 1#32
  let arg9 : BitVec 32 := Scf.iv c0_i32_18 c1_i32_20 k1_t14
  let c16_i32 : BitVec 32 := 16#32
  let v53 : BitVec 32 := Scalar.muli arg9 c16_i32
  let v54 : BitVec 32 := v53
  let v159 : Index := Scalar.indexCast v54
  let c640 : Index := 640#32
  ![0, v159.toNat, 640]
def k1_off229 (k1_t14 : Fin k1_t14_loop.trips) : Fin 3 → Nat :=
  let c0_63 : Index := 0#32
  let c0_i32_18 : BitVec 32 := 0#32
  let c1_i32_20 : BitVec 32 := 1#32
  let arg9 : BitVec 32 := Scf.iv c0_i32_18 c1_i32_20 k1_t14
  let c16_i32 : BitVec 32 := 16#32
  let v53 : BitVec 32 := Scalar.muli arg9 c16_i32
  let v54 : BitVec 32 := v53
  let v166 : Index := Scalar.indexCast v54
  let c768 : Index := 768#32
  ![0, v166.toNat, 768]
def k1_off230 (k1_t14 : Fin k1_t14_loop.trips) : Fin 3 → Nat :=
  let c0_64 : Index := 0#32
  let c0_i32_18 : BitVec 32 := 0#32
  let c1_i32_20 : BitVec 32 := 1#32
  let arg9 : BitVec 32 := Scf.iv c0_i32_18 c1_i32_20 k1_t14
  let c16_i32 : BitVec 32 := 16#32
  let v53 : BitVec 32 := Scalar.muli arg9 c16_i32
  let v54 : BitVec 32 := v53
  let v173 : Index := Scalar.indexCast v54
  let c896 : Index := 896#32
  ![0, v173.toNat, 896]
def k1_off231 (k1_t14 : Fin k1_t14_loop.trips) : Fin 3 → Nat :=
  let c0_65 : Index := 0#32
  let c0_i32_18 : BitVec 32 := 0#32
  let c1_i32_20 : BitVec 32 := 1#32
  let arg9 : BitVec 32 := Scf.iv c0_i32_18 c1_i32_20 k1_t14
  let c16_i32 : BitVec 32 := 16#32
  let v53 : BitVec 32 := Scalar.muli arg9 c16_i32
  let v54 : BitVec 32 := v53
  let v180 : Index := Scalar.indexCast v54
  let c1024 : Index := 1024#32
  ![0, v180.toNat, 1024]
def k1_off232 (k1_t14 : Fin k1_t14_loop.trips) : Fin 3 → Nat :=
  let c0_66 : Index := 0#32
  let c0_i32_18 : BitVec 32 := 0#32
  let c1_i32_20 : BitVec 32 := 1#32
  let arg9 : BitVec 32 := Scf.iv c0_i32_18 c1_i32_20 k1_t14
  let c16_i32 : BitVec 32 := 16#32
  let v53 : BitVec 32 := Scalar.muli arg9 c16_i32
  let v54 : BitVec 32 := v53
  let v187 : Index := Scalar.indexCast v54
  let c1152 : Index := 1152#32
  ![0, v187.toNat, 1152]
def k1_off233 (k1_t14 : Fin k1_t14_loop.trips) : Fin 3 → Nat :=
  let c0_67 : Index := 0#32
  let c0_i32_18 : BitVec 32 := 0#32
  let c1_i32_20 : BitVec 32 := 1#32
  let arg9 : BitVec 32 := Scf.iv c0_i32_18 c1_i32_20 k1_t14
  let c16_i32 : BitVec 32 := 16#32
  let v53 : BitVec 32 := Scalar.muli arg9 c16_i32
  let v54 : BitVec 32 := v53
  let v194 : Index := Scalar.indexCast v54
  let c1280 : Index := 1280#32
  ![0, v194.toNat, 1280]
def k1_off234 (k1_t14 : Fin k1_t14_loop.trips) : Fin 3 → Nat :=
  let c0_68 : Index := 0#32
  let c0_i32_18 : BitVec 32 := 0#32
  let c1_i32_20 : BitVec 32 := 1#32
  let arg9 : BitVec 32 := Scf.iv c0_i32_18 c1_i32_20 k1_t14
  let c16_i32 : BitVec 32 := 16#32
  let v53 : BitVec 32 := Scalar.muli arg9 c16_i32
  let v54 : BitVec 32 := v53
  let v201 : Index := Scalar.indexCast v54
  let c1408 : Index := 1408#32
  ![0, v201.toNat, 1408]
def k1_off235 (k1_t14 : Fin k1_t14_loop.trips) : Fin 3 → Nat :=
  let c0_69 : Index := 0#32
  let c0_i32_18 : BitVec 32 := 0#32
  let c1_i32_20 : BitVec 32 := 1#32
  let arg9 : BitVec 32 := Scf.iv c0_i32_18 c1_i32_20 k1_t14
  let c16_i32 : BitVec 32 := 16#32
  let v53 : BitVec 32 := Scalar.muli arg9 c16_i32
  let v54 : BitVec 32 := v53
  let v208 : Index := Scalar.indexCast v54
  let c1536 : Index := 1536#32
  ![0, v208.toNat, 1536]
def k1_off236 (k1_t14 : Fin k1_t14_loop.trips) : Fin 3 → Nat :=
  let c0_70 : Index := 0#32
  let c0_i32_18 : BitVec 32 := 0#32
  let c1_i32_20 : BitVec 32 := 1#32
  let arg9 : BitVec 32 := Scf.iv c0_i32_18 c1_i32_20 k1_t14
  let c16_i32 : BitVec 32 := 16#32
  let v53 : BitVec 32 := Scalar.muli arg9 c16_i32
  let v54 : BitVec 32 := v53
  let v215 : Index := Scalar.indexCast v54
  let c1664_71 : Index := 1664#32
  ![0, v215.toNat, 1664]
def k1_off237 (k1_t14 : Fin k1_t14_loop.trips) : Fin 3 → Nat :=
  let c0_72 : Index := 0#32
  let c0_i32_18 : BitVec 32 := 0#32
  let c1_i32_20 : BitVec 32 := 1#32
  let arg9 : BitVec 32 := Scf.iv c0_i32_18 c1_i32_20 k1_t14
  let c16_i32 : BitVec 32 := 16#32
  let v53 : BitVec 32 := Scalar.muli arg9 c16_i32
  let v54 : BitVec 32 := v53
  let v222 : Index := Scalar.indexCast v54
  let c1792 : Index := 1792#32
  ![0, v222.toNat, 1792]
def k1_off238 (k1_t14 : Fin k1_t14_loop.trips) : Fin 3 → Nat :=
  let c0_73 : Index := 0#32
  let c0_i32_18 : BitVec 32 := 0#32
  let c1_i32_20 : BitVec 32 := 1#32
  let arg9 : BitVec 32 := Scf.iv c0_i32_18 c1_i32_20 k1_t14
  let c16_i32 : BitVec 32 := 16#32
  let v53 : BitVec 32 := Scalar.muli arg9 c16_i32
  let v54 : BitVec 32 := v53
  let v229 : Index := Scalar.indexCast v54
  let c1920 : Index := 1920#32
  ![0, v229.toNat, 1920]
def k1_cond15 (i : grid1.Coords) : BitVec 1 :=
  let arg2 : BitVec 32 := BitVec.ofNat 32 (i 2).val
  let c14_i32 : BitVec 32 := 14#32
  let v46 : BitVec 1 := Scalar.cmpi .eq arg2 c14_i32
  let v47 : BitVec 32 := Scalar.extui v46
  let c0_i32_16 : BitVec 32 := 0#32
  let v48 : BitVec 1 := Scalar.cmpi .ne v47 c0_i32_16
  v48

@[reducible] def k1_t15_loop : Scf.Loop 32 :=
  let c0_i32_18 : BitVec 32 := 0#32
  let c8_i32_19 : BitVec 32 := 8#32
  let v52 : BitVec 32 := Scalar.addi c0_i32_18 c8_i32_19
  let c1_i32_20 : BitVec 32 := 1#32
  ⟨c0_i32_18, v52, c1_i32_20⟩
def k1_mult15 (k1_t15 : Fin k1_t15_loop.trips) : BitVec 32 :=
  let c0_i32_18 : BitVec 32 := 0#32
  let c1_i32_20 : BitVec 32 := 1#32
  let arg9 : BitVec 32 := Scf.iv c0_i32_18 c1_i32_20 k1_t15
  let c16_i32 : BitVec 32 := 16#32
  let v53 : BitVec 32 := Scalar.muli arg9 c16_i32
  v53
def k1_off239 (k1_t15 : Fin k1_t15_loop.trips) : Fin 5 → Nat :=
  let c0_22 : Index := 0#32
  let c0_23 : Index := 0#32
  let c0_i32_18 : BitVec 32 := 0#32
  let c1_i32_20 : BitVec 32 := 1#32
  let arg9 : BitVec 32 := Scf.iv c0_i32_18 c1_i32_20 k1_t15
  let c16_i32 : BitVec 32 := 16#32
  let v53 : BitVec 32 := Scalar.muli arg9 c16_i32
  let v54 : BitVec 32 := v53
  let v55 : Index := Scalar.indexCast v54
  let c0_24 : Index := 0#32
  let c0_25 : Index := 0#32
  ![0, 0, v55.toNat, 0, 0]
def k1_off240 (k1_t15 : Fin k1_t15_loop.trips) : Fin 3 → Nat :=
  let c0_56 : Index := 0#32
  let c0_i32_18 : BitVec 32 := 0#32
  let c1_i32_20 : BitVec 32 := 1#32
  let arg9 : BitVec 32 := Scf.iv c0_i32_18 c1_i32_20 k1_t15
  let c16_i32 : BitVec 32 := 16#32
  let v53 : BitVec 32 := Scalar.muli arg9 c16_i32
  let v54 : BitVec 32 := v53
  let v124 : Index := Scalar.indexCast v54
  let c0_57 : Index := 0#32
  ![0, v124.toNat, 0]
def k1_off241 (k1_t15 : Fin k1_t15_loop.trips) : Fin 3 → Nat :=
  let c0_58 : Index := 0#32
  let c0_i32_18 : BitVec 32 := 0#32
  let c1_i32_20 : BitVec 32 := 1#32
  let arg9 : BitVec 32 := Scf.iv c0_i32_18 c1_i32_20 k1_t15
  let c16_i32 : BitVec 32 := 16#32
  let v53 : BitVec 32 := Scalar.muli arg9 c16_i32
  let v54 : BitVec 32 := v53
  let v131 : Index := Scalar.indexCast v54
  let c128 : Index := 128#32
  ![0, v131.toNat, 128]
def k1_off242 (k1_t15 : Fin k1_t15_loop.trips) : Fin 3 → Nat :=
  let c0_59 : Index := 0#32
  let c0_i32_18 : BitVec 32 := 0#32
  let c1_i32_20 : BitVec 32 := 1#32
  let arg9 : BitVec 32 := Scf.iv c0_i32_18 c1_i32_20 k1_t15
  let c16_i32 : BitVec 32 := 16#32
  let v53 : BitVec 32 := Scalar.muli arg9 c16_i32
  let v54 : BitVec 32 := v53
  let v138 : Index := Scalar.indexCast v54
  let c256 : Index := 256#32
  ![0, v138.toNat, 256]
def k1_off243 (k1_t15 : Fin k1_t15_loop.trips) : Fin 3 → Nat :=
  let c0_60 : Index := 0#32
  let c0_i32_18 : BitVec 32 := 0#32
  let c1_i32_20 : BitVec 32 := 1#32
  let arg9 : BitVec 32 := Scf.iv c0_i32_18 c1_i32_20 k1_t15
  let c16_i32 : BitVec 32 := 16#32
  let v53 : BitVec 32 := Scalar.muli arg9 c16_i32
  let v54 : BitVec 32 := v53
  let v145 : Index := Scalar.indexCast v54
  let c384 : Index := 384#32
  ![0, v145.toNat, 384]
def k1_off244 (k1_t15 : Fin k1_t15_loop.trips) : Fin 3 → Nat :=
  let c0_61 : Index := 0#32
  let c0_i32_18 : BitVec 32 := 0#32
  let c1_i32_20 : BitVec 32 := 1#32
  let arg9 : BitVec 32 := Scf.iv c0_i32_18 c1_i32_20 k1_t15
  let c16_i32 : BitVec 32 := 16#32
  let v53 : BitVec 32 := Scalar.muli arg9 c16_i32
  let v54 : BitVec 32 := v53
  let v152 : Index := Scalar.indexCast v54
  let c512 : Index := 512#32
  ![0, v152.toNat, 512]
def k1_off245 (k1_t15 : Fin k1_t15_loop.trips) : Fin 3 → Nat :=
  let c0_62 : Index := 0#32
  let c0_i32_18 : BitVec 32 := 0#32
  let c1_i32_20 : BitVec 32 := 1#32
  let arg9 : BitVec 32 := Scf.iv c0_i32_18 c1_i32_20 k1_t15
  let c16_i32 : BitVec 32 := 16#32
  let v53 : BitVec 32 := Scalar.muli arg9 c16_i32
  let v54 : BitVec 32 := v53
  let v159 : Index := Scalar.indexCast v54
  let c640 : Index := 640#32
  ![0, v159.toNat, 640]
def k1_off246 (k1_t15 : Fin k1_t15_loop.trips) : Fin 3 → Nat :=
  let c0_63 : Index := 0#32
  let c0_i32_18 : BitVec 32 := 0#32
  let c1_i32_20 : BitVec 32 := 1#32
  let arg9 : BitVec 32 := Scf.iv c0_i32_18 c1_i32_20 k1_t15
  let c16_i32 : BitVec 32 := 16#32
  let v53 : BitVec 32 := Scalar.muli arg9 c16_i32
  let v54 : BitVec 32 := v53
  let v166 : Index := Scalar.indexCast v54
  let c768 : Index := 768#32
  ![0, v166.toNat, 768]
def k1_off247 (k1_t15 : Fin k1_t15_loop.trips) : Fin 3 → Nat :=
  let c0_64 : Index := 0#32
  let c0_i32_18 : BitVec 32 := 0#32
  let c1_i32_20 : BitVec 32 := 1#32
  let arg9 : BitVec 32 := Scf.iv c0_i32_18 c1_i32_20 k1_t15
  let c16_i32 : BitVec 32 := 16#32
  let v53 : BitVec 32 := Scalar.muli arg9 c16_i32
  let v54 : BitVec 32 := v53
  let v173 : Index := Scalar.indexCast v54
  let c896 : Index := 896#32
  ![0, v173.toNat, 896]
def k1_off248 (k1_t15 : Fin k1_t15_loop.trips) : Fin 3 → Nat :=
  let c0_65 : Index := 0#32
  let c0_i32_18 : BitVec 32 := 0#32
  let c1_i32_20 : BitVec 32 := 1#32
  let arg9 : BitVec 32 := Scf.iv c0_i32_18 c1_i32_20 k1_t15
  let c16_i32 : BitVec 32 := 16#32
  let v53 : BitVec 32 := Scalar.muli arg9 c16_i32
  let v54 : BitVec 32 := v53
  let v180 : Index := Scalar.indexCast v54
  let c1024 : Index := 1024#32
  ![0, v180.toNat, 1024]
def k1_off249 (k1_t15 : Fin k1_t15_loop.trips) : Fin 3 → Nat :=
  let c0_66 : Index := 0#32
  let c0_i32_18 : BitVec 32 := 0#32
  let c1_i32_20 : BitVec 32 := 1#32
  let arg9 : BitVec 32 := Scf.iv c0_i32_18 c1_i32_20 k1_t15
  let c16_i32 : BitVec 32 := 16#32
  let v53 : BitVec 32 := Scalar.muli arg9 c16_i32
  let v54 : BitVec 32 := v53
  let v187 : Index := Scalar.indexCast v54
  let c1152 : Index := 1152#32
  ![0, v187.toNat, 1152]
def k1_off250 (k1_t15 : Fin k1_t15_loop.trips) : Fin 3 → Nat :=
  let c0_67 : Index := 0#32
  let c0_i32_18 : BitVec 32 := 0#32
  let c1_i32_20 : BitVec 32 := 1#32
  let arg9 : BitVec 32 := Scf.iv c0_i32_18 c1_i32_20 k1_t15
  let c16_i32 : BitVec 32 := 16#32
  let v53 : BitVec 32 := Scalar.muli arg9 c16_i32
  let v54 : BitVec 32 := v53
  let v194 : Index := Scalar.indexCast v54
  let c1280 : Index := 1280#32
  ![0, v194.toNat, 1280]
def k1_off251 (k1_t15 : Fin k1_t15_loop.trips) : Fin 3 → Nat :=
  let c0_68 : Index := 0#32
  let c0_i32_18 : BitVec 32 := 0#32
  let c1_i32_20 : BitVec 32 := 1#32
  let arg9 : BitVec 32 := Scf.iv c0_i32_18 c1_i32_20 k1_t15
  let c16_i32 : BitVec 32 := 16#32
  let v53 : BitVec 32 := Scalar.muli arg9 c16_i32
  let v54 : BitVec 32 := v53
  let v201 : Index := Scalar.indexCast v54
  let c1408 : Index := 1408#32
  ![0, v201.toNat, 1408]
def k1_off252 (k1_t15 : Fin k1_t15_loop.trips) : Fin 3 → Nat :=
  let c0_69 : Index := 0#32
  let c0_i32_18 : BitVec 32 := 0#32
  let c1_i32_20 : BitVec 32 := 1#32
  let arg9 : BitVec 32 := Scf.iv c0_i32_18 c1_i32_20 k1_t15
  let c16_i32 : BitVec 32 := 16#32
  let v53 : BitVec 32 := Scalar.muli arg9 c16_i32
  let v54 : BitVec 32 := v53
  let v208 : Index := Scalar.indexCast v54
  let c1536 : Index := 1536#32
  ![0, v208.toNat, 1536]
def k1_off253 (k1_t15 : Fin k1_t15_loop.trips) : Fin 3 → Nat :=
  let c0_70 : Index := 0#32
  let c0_i32_18 : BitVec 32 := 0#32
  let c1_i32_20 : BitVec 32 := 1#32
  let arg9 : BitVec 32 := Scf.iv c0_i32_18 c1_i32_20 k1_t15
  let c16_i32 : BitVec 32 := 16#32
  let v53 : BitVec 32 := Scalar.muli arg9 c16_i32
  let v54 : BitVec 32 := v53
  let v215 : Index := Scalar.indexCast v54
  let c1664 : Index := 1664#32
  ![0, v215.toNat, 1664]
def k1_off254 (k1_t15 : Fin k1_t15_loop.trips) : Fin 3 → Nat :=
  let c0_71 : Index := 0#32
  let c0_i32_18 : BitVec 32 := 0#32
  let c1_i32_20 : BitVec 32 := 1#32
  let arg9 : BitVec 32 := Scf.iv c0_i32_18 c1_i32_20 k1_t15
  let c16_i32 : BitVec 32 := 16#32
  let v53 : BitVec 32 := Scalar.muli arg9 c16_i32
  let v54 : BitVec 32 := v53
  let v222 : Index := Scalar.indexCast v54
  let c1792_72 : Index := 1792#32
  ![0, v222.toNat, 1792]
def k1_off255 (k1_t15 : Fin k1_t15_loop.trips) : Fin 3 → Nat :=
  let c0_73 : Index := 0#32
  let c0_i32_18 : BitVec 32 := 0#32
  let c1_i32_20 : BitVec 32 := 1#32
  let arg9 : BitVec 32 := Scf.iv c0_i32_18 c1_i32_20 k1_t15
  let c16_i32 : BitVec 32 := 16#32
  let v53 : BitVec 32 := Scalar.muli arg9 c16_i32
  let v54 : BitVec 32 := v53
  let v229 : Index := Scalar.indexCast v54
  let c1920 : Index := 1920#32
  ![0, v229.toNat, 1920]
def k1_cond16 (i : grid1.Coords) : BitVec 1 :=
  let arg2 : BitVec 32 := BitVec.ofNat 32 (i 2).val
  let c15_i32 : BitVec 32 := 15#32
  let v49 : BitVec 1 := Scalar.cmpi .eq arg2 c15_i32
  let v50 : BitVec 32 := Scalar.extui v49
  let c0_i32_17 : BitVec 32 := 0#32
  let v51 : BitVec 1 := Scalar.cmpi .ne v50 c0_i32_17
  v51

@[reducible] def k1_t16_loop : Scf.Loop 32 :=
  let c0_i32_18 : BitVec 32 := 0#32
  let c8_i32_19 : BitVec 32 := 8#32
  let v52 : BitVec 32 := Scalar.addi c0_i32_18 c8_i32_19
  let c1_i32_20 : BitVec 32 := 1#32
  ⟨c0_i32_18, v52, c1_i32_20⟩
def k1_mult16 (k1_t16 : Fin k1_t16_loop.trips) : BitVec 32 :=
  let c0_i32_18 : BitVec 32 := 0#32
  let c1_i32_20 : BitVec 32 := 1#32
  let arg9 : BitVec 32 := Scf.iv c0_i32_18 c1_i32_20 k1_t16
  let c16_i32 : BitVec 32 := 16#32
  let v53 : BitVec 32 := Scalar.muli arg9 c16_i32
  v53
def k1_off256 (k1_t16 : Fin k1_t16_loop.trips) : Fin 5 → Nat :=
  let c0_22 : Index := 0#32
  let c0_23 : Index := 0#32
  let c0_i32_18 : BitVec 32 := 0#32
  let c1_i32_20 : BitVec 32 := 1#32
  let arg9 : BitVec 32 := Scf.iv c0_i32_18 c1_i32_20 k1_t16
  let c16_i32 : BitVec 32 := 16#32
  let v53 : BitVec 32 := Scalar.muli arg9 c16_i32
  let v54 : BitVec 32 := v53
  let v55 : Index := Scalar.indexCast v54
  let c0_24 : Index := 0#32
  let c0_25 : Index := 0#32
  ![0, 0, v55.toNat, 0, 0]
def k1_off257 (k1_t16 : Fin k1_t16_loop.trips) : Fin 3 → Nat :=
  let c0_56 : Index := 0#32
  let c0_i32_18 : BitVec 32 := 0#32
  let c1_i32_20 : BitVec 32 := 1#32
  let arg9 : BitVec 32 := Scf.iv c0_i32_18 c1_i32_20 k1_t16
  let c16_i32 : BitVec 32 := 16#32
  let v53 : BitVec 32 := Scalar.muli arg9 c16_i32
  let v54 : BitVec 32 := v53
  let v124 : Index := Scalar.indexCast v54
  let c0_57 : Index := 0#32
  ![0, v124.toNat, 0]
def k1_off258 (k1_t16 : Fin k1_t16_loop.trips) : Fin 3 → Nat :=
  let c0_58 : Index := 0#32
  let c0_i32_18 : BitVec 32 := 0#32
  let c1_i32_20 : BitVec 32 := 1#32
  let arg9 : BitVec 32 := Scf.iv c0_i32_18 c1_i32_20 k1_t16
  let c16_i32 : BitVec 32 := 16#32
  let v53 : BitVec 32 := Scalar.muli arg9 c16_i32
  let v54 : BitVec 32 := v53
  let v131 : Index := Scalar.indexCast v54
  let c128 : Index := 128#32
  ![0, v131.toNat, 128]
def k1_off259 (k1_t16 : Fin k1_t16_loop.trips) : Fin 3 → Nat :=
  let c0_59 : Index := 0#32
  let c0_i32_18 : BitVec 32 := 0#32
  let c1_i32_20 : BitVec 32 := 1#32
  let arg9 : BitVec 32 := Scf.iv c0_i32_18 c1_i32_20 k1_t16
  let c16_i32 : BitVec 32 := 16#32
  let v53 : BitVec 32 := Scalar.muli arg9 c16_i32
  let v54 : BitVec 32 := v53
  let v138 : Index := Scalar.indexCast v54
  let c256 : Index := 256#32
  ![0, v138.toNat, 256]
def k1_off260 (k1_t16 : Fin k1_t16_loop.trips) : Fin 3 → Nat :=
  let c0_60 : Index := 0#32
  let c0_i32_18 : BitVec 32 := 0#32
  let c1_i32_20 : BitVec 32 := 1#32
  let arg9 : BitVec 32 := Scf.iv c0_i32_18 c1_i32_20 k1_t16
  let c16_i32 : BitVec 32 := 16#32
  let v53 : BitVec 32 := Scalar.muli arg9 c16_i32
  let v54 : BitVec 32 := v53
  let v145 : Index := Scalar.indexCast v54
  let c384 : Index := 384#32
  ![0, v145.toNat, 384]
def k1_off261 (k1_t16 : Fin k1_t16_loop.trips) : Fin 3 → Nat :=
  let c0_61 : Index := 0#32
  let c0_i32_18 : BitVec 32 := 0#32
  let c1_i32_20 : BitVec 32 := 1#32
  let arg9 : BitVec 32 := Scf.iv c0_i32_18 c1_i32_20 k1_t16
  let c16_i32 : BitVec 32 := 16#32
  let v53 : BitVec 32 := Scalar.muli arg9 c16_i32
  let v54 : BitVec 32 := v53
  let v152 : Index := Scalar.indexCast v54
  let c512 : Index := 512#32
  ![0, v152.toNat, 512]
def k1_off262 (k1_t16 : Fin k1_t16_loop.trips) : Fin 3 → Nat :=
  let c0_62 : Index := 0#32
  let c0_i32_18 : BitVec 32 := 0#32
  let c1_i32_20 : BitVec 32 := 1#32
  let arg9 : BitVec 32 := Scf.iv c0_i32_18 c1_i32_20 k1_t16
  let c16_i32 : BitVec 32 := 16#32
  let v53 : BitVec 32 := Scalar.muli arg9 c16_i32
  let v54 : BitVec 32 := v53
  let v159 : Index := Scalar.indexCast v54
  let c640 : Index := 640#32
  ![0, v159.toNat, 640]
def k1_off263 (k1_t16 : Fin k1_t16_loop.trips) : Fin 3 → Nat :=
  let c0_63 : Index := 0#32
  let c0_i32_18 : BitVec 32 := 0#32
  let c1_i32_20 : BitVec 32 := 1#32
  let arg9 : BitVec 32 := Scf.iv c0_i32_18 c1_i32_20 k1_t16
  let c16_i32 : BitVec 32 := 16#32
  let v53 : BitVec 32 := Scalar.muli arg9 c16_i32
  let v54 : BitVec 32 := v53
  let v166 : Index := Scalar.indexCast v54
  let c768 : Index := 768#32
  ![0, v166.toNat, 768]
def k1_off264 (k1_t16 : Fin k1_t16_loop.trips) : Fin 3 → Nat :=
  let c0_64 : Index := 0#32
  let c0_i32_18 : BitVec 32 := 0#32
  let c1_i32_20 : BitVec 32 := 1#32
  let arg9 : BitVec 32 := Scf.iv c0_i32_18 c1_i32_20 k1_t16
  let c16_i32 : BitVec 32 := 16#32
  let v53 : BitVec 32 := Scalar.muli arg9 c16_i32
  let v54 : BitVec 32 := v53
  let v173 : Index := Scalar.indexCast v54
  let c896 : Index := 896#32
  ![0, v173.toNat, 896]
def k1_off265 (k1_t16 : Fin k1_t16_loop.trips) : Fin 3 → Nat :=
  let c0_65 : Index := 0#32
  let c0_i32_18 : BitVec 32 := 0#32
  let c1_i32_20 : BitVec 32 := 1#32
  let arg9 : BitVec 32 := Scf.iv c0_i32_18 c1_i32_20 k1_t16
  let c16_i32 : BitVec 32 := 16#32
  let v53 : BitVec 32 := Scalar.muli arg9 c16_i32
  let v54 : BitVec 32 := v53
  let v180 : Index := Scalar.indexCast v54
  let c1024 : Index := 1024#32
  ![0, v180.toNat, 1024]
def k1_off266 (k1_t16 : Fin k1_t16_loop.trips) : Fin 3 → Nat :=
  let c0_66 : Index := 0#32
  let c0_i32_18 : BitVec 32 := 0#32
  let c1_i32_20 : BitVec 32 := 1#32
  let arg9 : BitVec 32 := Scf.iv c0_i32_18 c1_i32_20 k1_t16
  let c16_i32 : BitVec 32 := 16#32
  let v53 : BitVec 32 := Scalar.muli arg9 c16_i32
  let v54 : BitVec 32 := v53
  let v187 : Index := Scalar.indexCast v54
  let c1152 : Index := 1152#32
  ![0, v187.toNat, 1152]
def k1_off267 (k1_t16 : Fin k1_t16_loop.trips) : Fin 3 → Nat :=
  let c0_67 : Index := 0#32
  let c0_i32_18 : BitVec 32 := 0#32
  let c1_i32_20 : BitVec 32 := 1#32
  let arg9 : BitVec 32 := Scf.iv c0_i32_18 c1_i32_20 k1_t16
  let c16_i32 : BitVec 32 := 16#32
  let v53 : BitVec 32 := Scalar.muli arg9 c16_i32
  let v54 : BitVec 32 := v53
  let v194 : Index := Scalar.indexCast v54
  let c1280 : Index := 1280#32
  ![0, v194.toNat, 1280]
def k1_off268 (k1_t16 : Fin k1_t16_loop.trips) : Fin 3 → Nat :=
  let c0_68 : Index := 0#32
  let c0_i32_18 : BitVec 32 := 0#32
  let c1_i32_20 : BitVec 32 := 1#32
  let arg9 : BitVec 32 := Scf.iv c0_i32_18 c1_i32_20 k1_t16
  let c16_i32 : BitVec 32 := 16#32
  let v53 : BitVec 32 := Scalar.muli arg9 c16_i32
  let v54 : BitVec 32 := v53
  let v201 : Index := Scalar.indexCast v54
  let c1408 : Index := 1408#32
  ![0, v201.toNat, 1408]
def k1_off269 (k1_t16 : Fin k1_t16_loop.trips) : Fin 3 → Nat :=
  let c0_69 : Index := 0#32
  let c0_i32_18 : BitVec 32 := 0#32
  let c1_i32_20 : BitVec 32 := 1#32
  let arg9 : BitVec 32 := Scf.iv c0_i32_18 c1_i32_20 k1_t16
  let c16_i32 : BitVec 32 := 16#32
  let v53 : BitVec 32 := Scalar.muli arg9 c16_i32
  let v54 : BitVec 32 := v53
  let v208 : Index := Scalar.indexCast v54
  let c1536 : Index := 1536#32
  ![0, v208.toNat, 1536]
def k1_off270 (k1_t16 : Fin k1_t16_loop.trips) : Fin 3 → Nat :=
  let c0_70 : Index := 0#32
  let c0_i32_18 : BitVec 32 := 0#32
  let c1_i32_20 : BitVec 32 := 1#32
  let arg9 : BitVec 32 := Scf.iv c0_i32_18 c1_i32_20 k1_t16
  let c16_i32 : BitVec 32 := 16#32
  let v53 : BitVec 32 := Scalar.muli arg9 c16_i32
  let v54 : BitVec 32 := v53
  let v215 : Index := Scalar.indexCast v54
  let c1664 : Index := 1664#32
  ![0, v215.toNat, 1664]
def k1_off271 (k1_t16 : Fin k1_t16_loop.trips) : Fin 3 → Nat :=
  let c0_71 : Index := 0#32
  let c0_i32_18 : BitVec 32 := 0#32
  let c1_i32_20 : BitVec 32 := 1#32
  let arg9 : BitVec 32 := Scf.iv c0_i32_18 c1_i32_20 k1_t16
  let c16_i32 : BitVec 32 := 16#32
  let v53 : BitVec 32 := Scalar.muli arg9 c16_i32
  let v54 : BitVec 32 := v53
  let v222 : Index := Scalar.indexCast v54
  let c1792 : Index := 1792#32
  ![0, v222.toNat, 1792]
def k1_off272 (k1_t16 : Fin k1_t16_loop.trips) : Fin 3 → Nat :=
  let c0_72 : Index := 0#32
  let c0_i32_18 : BitVec 32 := 0#32
  let c1_i32_20 : BitVec 32 := 1#32
  let arg9 : BitVec 32 := Scf.iv c0_i32_18 c1_i32_20 k1_t16
  let c16_i32 : BitVec 32 := 16#32
  let v53 : BitVec 32 := Scalar.muli arg9 c16_i32
  let v54 : BitVec 32 := v53
  let v229 : Index := Scalar.indexCast v54
  let c1920_73 : Index := 1920#32
  ![0, v229.toNat, 1920]
def cc1_transform_0 (i : grid1.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x1x128x16x128 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x2048x128 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x128x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1x128x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S6x2048x64x128 : Shape := ⟨4, ![6, 2048, 64, 128]⟩
abbrev S6x2048x4x128 : Shape := ⟨4, ![6, 2048, 4, 128]⟩
abbrev S3x6x2048 : Shape := ⟨3, ![3, 6, 2048]⟩
abbrev S64 : Shape := ⟨1, ![64]⟩
abbrev S4 : Shape := ⟨1, ![4]⟩
abbrev S_ : Shape := ⟨0, ![]⟩
abbrev S64x1 : Shape := ⟨2, ![64, 1]⟩
abbrev S64x6x2048 : Shape := ⟨3, ![64, 6, 2048]⟩
abbrev S6x2048x64 : Shape := ⟨3, ![6, 2048, 64]⟩
abbrev S1x1x64 : Shape := ⟨3, ![1, 1, 64]⟩
abbrev S6x2048x128 : Shape := ⟨3, ![6, 2048, 128]⟩
abbrev S6x2048x64x64 : Shape := ⟨4, ![6, 2048, 64, 64]⟩
abbrev S6x2048x1x128 : Shape := ⟨4, ![6, 2048, 1, 128]⟩
abbrev S1x1x64x1 : Shape := ⟨4, ![1, 1, 64, 1]⟩
abbrev S6x2048x4x64 : Shape := ⟨4, ![6, 2048, 4, 64]⟩
abbrev S4x1 : Shape := ⟨2, ![4, 1]⟩
abbrev S1x1x4x1 : Shape := ⟨4, ![1, 1, 4, 1]⟩
abbrev S4x16 : Shape := ⟨2, ![4, 16]⟩
abbrev S6x2048x4x16x128 : Shape := ⟨5, ![6, 2048, 4, 16, 128]⟩
abbrev S6x4x16x2048x128 : Shape := ⟨5, ![6, 4, 16, 2048, 128]⟩
abbrev S6x4x2048x128 : Shape := ⟨4, ![6, 4, 2048, 128]⟩
abbrev S6x4x16x2048x2048 : Shape := ⟨5, ![6, 4, 16, 2048, 2048]⟩
abbrev S1x4x16x1x1 : Shape := ⟨5, ![1, 4, 16, 1, 1]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S6x4x16x2048 : Shape := ⟨4, ![6, 4, 16, 2048]⟩
abbrev S6x4x16x2048x1 : Shape := ⟨5, ![6, 4, 16, 2048, 1]⟩
abbrev S6x4x128x16x2048 : Shape := ⟨5, ![6, 4, 128, 16, 2048]⟩
abbrev S6x2048x8192 : Shape := ⟨3, ![6, 2048, 8192]⟩

abbrev nBuf : Space → Nat
  | .hbm => 147
  | .vmem => 0
  | .smem => 0
  | _ => 0

abbrev hbmTy0_0 (i : Nat) : BufTy := match i % 128 with
  | 0 => ⟨S6x2048x64x128, .bf16⟩
  | 1 => ⟨S6x2048x4x128, .bf16⟩
  | 2 => ⟨S6x2048x4x128, .bf16⟩
  | 3 => ⟨S3x6x2048, .i32⟩
  | 4 => ⟨S64, .f32⟩
  | 5 => ⟨S4, .f32⟩
  | 6 => ⟨S64, .i32⟩
  | 7 => ⟨S64, .i1⟩
  | 8 => ⟨S64, .f32⟩
  | 9 => ⟨S_, .f32⟩
  | 10 => ⟨S64, .f32⟩
  | 11 => ⟨S64, .f32⟩
  | 12 => ⟨S_, .f32⟩
  | 13 => ⟨S64, .f32⟩
  | 14 => ⟨S64, .f32⟩
  | 15 => ⟨S_, .f32⟩
  | 16 => ⟨S64, .f32⟩
  | 17 => ⟨S64, .f32⟩
  | 18 => ⟨S_, .f32⟩
  | 19 => ⟨S64, .f32⟩
  | 20 => ⟨S64, .f32⟩
  | 21 => ⟨S_, .f32⟩
  | 22 => ⟨S64, .f32⟩
  | 23 => ⟨S64, .f32⟩
  | 24 => ⟨S3x6x2048, .f32⟩
  | 25 => ⟨S_, .i32⟩
  | 26 => ⟨S64, .i32⟩
  | 27 => ⟨S64, .i32⟩
  | 28 => ⟨S64, .i32⟩
  | 29 => ⟨S64x1, .i32⟩
  | 30 => ⟨S64x6x2048, .f32⟩
  | 31 => ⟨S6x2048x64, .f32⟩
  | 32 => ⟨S1x1x64, .f32⟩
  | 33 => ⟨S6x2048x64, .f32⟩
  | 34 => ⟨S6x2048x64, .f32⟩
  | 35 => ⟨S6x2048x64, .f32⟩
  | 36 => ⟨S6x2048x64, .f32⟩
  | 37 => ⟨S6x2048x128, .f32⟩
  | 38 => ⟨S6x2048x128, .f32⟩
  | 39 => ⟨S6x2048x64x128, .f32⟩
  | 40 => ⟨S6x2048x64x64, .f32⟩
  | 41 => ⟨S6x2048x64x64, .f32⟩
  | 42 => ⟨S6x2048x64x64, .f32⟩
  | 43 => ⟨S6x2048x64x128, .f32⟩
  | 44 => ⟨S6x2048x1x128, .f32⟩
  | 45 => ⟨S6x2048x64x128, .f32⟩
  | 46 => ⟨S6x2048x64x128, .f32⟩
  | 47 => ⟨S6x2048x1x128, .f32⟩
  | 48 => ⟨S6x2048x64x128, .f32⟩
  | 49 => ⟨S6x2048x64x128, .f32⟩
  | 50 => ⟨S6x2048x64x128, .f32⟩
  | 51 => ⟨S_, .f32⟩
  | 52 => ⟨S64, .f32⟩
  | 53 => ⟨S64, .f32⟩
  | 54 => ⟨S64x1, .f32⟩
  | 55 => ⟨S1x1x64x1, .f32⟩
  | 56 => ⟨S6x2048x64x128, .f32⟩
  | 57 => ⟨S6x2048x64x128, .f32⟩
  | 58 => ⟨S_, .f32⟩
  | 59 => ⟨S_, .f32⟩
  | 60 => ⟨S_, .f32⟩
  | 61 => ⟨S6x2048x64x128, .f32⟩
  | 62 => ⟨S6x2048x64x128, .f32⟩
  | 63 => ⟨S_, .f32⟩
  | 64 => ⟨S6x2048x64x128, .f32⟩
  | 65 => ⟨S6x2048x64x128, .f32⟩
  | 66 => ⟨S6x2048x64x128, .f32⟩
  | 67 => ⟨S_, .f32⟩
  | 68 => ⟨S64, .f32⟩
  | 69 => ⟨S6x2048x4x128, .f32⟩
  | 70 => ⟨S6x2048x4x64, .f32⟩
  | 71 => ⟨S6x2048x4x64, .f32⟩
  | 72 => ⟨S6x2048x4x64, .f32⟩
  | 73 => ⟨S6x2048x4x128, .f32⟩
  | 74 => ⟨S6x2048x1x128, .f32⟩
  | 75 => ⟨S6x2048x4x128, .f32⟩
  | 76 => ⟨S6x2048x4x128, .f32⟩
  | 77 => ⟨S6x2048x1x128, .f32⟩
  | 78 => ⟨S6x2048x4x128, .f32⟩
  | 79 => ⟨S6x2048x4x128, .f32⟩
  | 80 => ⟨S6x2048x4x128, .f32⟩
  | 81 => ⟨S_, .f32⟩
  | 82 => ⟨S4, .f32⟩
  | 83 => ⟨S4, .f32⟩
  | 84 => ⟨S4x1, .f32⟩
  | 85 => ⟨S1x1x4x1, .f32⟩
  | 86 => ⟨S6x2048x4x128, .f32⟩
  | 87 => ⟨S6x2048x4x128, .f32⟩
  | 88 => ⟨S_, .f32⟩
  | 89 => ⟨S_, .f32⟩
  | 90 => ⟨S_, .f32⟩
  | 91 => ⟨S6x2048x4x128, .f32⟩
  | 92 => ⟨S6x2048x4x128, .f32⟩
  | 93 => ⟨S_, .f32⟩
  | 94 => ⟨S6x2048x4x128, .f32⟩
  | 95 => ⟨S6x2048x4x128, .f32⟩
  | 96 => ⟨S6x2048x4x128, .f32⟩
  | 97 => ⟨S_, .f32⟩
  | 98 => ⟨S4, .f32⟩
  | 99 => ⟨S4x16, .f32⟩
  | 100 => ⟨S4x1, .f32⟩
  | 101 => ⟨S4x16, .f32⟩
  | 102 => ⟨S4x16, .f32⟩
  | 103 => ⟨S_, .f32⟩
  | 104 => ⟨S4x16, .f32⟩
  | 105 => ⟨S4x16, .f32⟩
  | 106 => ⟨S6x2048x4x16x128, .f32⟩
  | 107 => ⟨S6x4x16x2048x128, .f32⟩
  | 108 => ⟨S6x4x2048x128, .f32⟩
  | 109 => ⟨S6x4x2048x128, .bf16⟩
  | 110 => ⟨S6x4x16x2048x2048, .f32⟩
  | 111 => ⟨S1x4x16x1x1, .f32⟩
  | 112 => ⟨S6x4x16x2048x2048, .f32⟩
  | 113 => ⟨S6x4x16x2048x2048, .f32⟩
  | 114 => ⟨S2048, .i32⟩
  | 115 => ⟨S1x2048, .i32⟩
  | 116 => ⟨S2048, .i32⟩
  | 117 => ⟨S2048x1, .i32⟩
  | 118 => ⟨S2048x2048, .i32⟩
  | 119 => ⟨S2048x2048, .i32⟩
  | 120 => ⟨S2048x2048, .i1⟩
  | 121 => ⟨S_, .f32⟩
  | 122 => ⟨S_, .f32⟩
  | 123 => ⟨S6x4x16x2048x2048, .i1⟩
  | 124 => ⟨S6x4x16x2048x2048, .f32⟩
  | 125 => ⟨S6x4x16x2048x2048, .f32⟩
  | 126 => ⟨S_, .f32⟩
  | 127 => ⟨S6x4x16x2048, .f32⟩
  | _ => ⟨S6x2048x64x128, .bf16⟩

abbrev hbmTy0_1 (i : Nat) : BufTy := match i % 128 with
  | 0 => ⟨S_, .f32⟩
  | 1 => ⟨S6x4x16x2048, .f32⟩
  | 2 => ⟨S6x4x16x2048, .f32⟩
  | 3 => ⟨S6x4x16x2048x1, .f32⟩
  | 4 => ⟨S6x4x16x2048x2048, .f32⟩
  | 5 => ⟨S6x4x16x2048x2048, .f32⟩
  | 6 => ⟨S6x4x16x2048x2048, .f32⟩
  | 7 => ⟨S_, .f32⟩
  | 8 => ⟨S6x4x16x2048, .f32⟩
  | 9 => ⟨S6x4x16x2048x1, .f32⟩
  | 10 => ⟨S6x4x16x2048x2048, .f32⟩
  | 11 => ⟨S6x4x16x2048x2048, .f32⟩
  | 12 => ⟨S6x4x16x2048x2048, .bf16⟩
  | 13 => ⟨S6x4x128x16x2048, .f32⟩
  | 14 => ⟨S6x2048x4x16x128, .f32⟩
  | 15 => ⟨S6x2048x4x16x128, .bf16⟩
  | 16 => ⟨S6x2048x8192, .bf16⟩
  | 17 => ⟨S6x2048x64x128, .fp8e4m3⟩
  | 18 => ⟨S6x2048x4x128, .fp8e4m3⟩
  | _ => ⟨S6x2048x64x128, .bf16⟩

abbrev hbmTy (i : Nat) : BufTy := match i / 128 with
  | 0 => hbmTy0_0 i
  | 1 => hbmTy0_1 i
  | _ => ⟨S6x2048x64x128, .bf16⟩

abbrev bufTy : (tb : Table) → Fin (tcTables nBuf tb) → BufTy
  | .hbm, ⟨i, _⟩ => hbmTy i
  | _, _ => ⟨S6x2048x64x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_v8 : Ref sig .tc := ⟨.hbm, 20, rfl⟩
abbrev main_cst_4 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_5 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_cst_8 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_11 : Ref sig .tc := ⟨.hbm, 88, rfl⟩
abbrev main_cst_12 : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_call1_v3 : Ref sig .tc := ⟨.hbm, 93, rfl⟩
abbrev main_call1_v4 : Ref sig .tc := ⟨.hbm, 94, rfl⟩
abbrev main_v64 : Ref sig .tc := ⟨.hbm, 95, rfl⟩
abbrev main_v65 : Ref sig .tc := ⟨.hbm, 96, rfl⟩
abbrev main_cst_13 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_14 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_15 : Ref sig .tc := ⟨.hbm, 121, rfl⟩
abbrev main_call2_v0 : Ref sig .tc := ⟨.hbm, 122, rfl⟩
abbrev main_call2_v1 : Ref sig .tc := ⟨.hbm, 123, rfl⟩
abbrev main_call2_v2 : Ref sig .tc := ⟨.hbm, 124, rfl⟩
abbrev main_v88 : Ref sig .tc := ⟨.hbm, 125, rfl⟩
abbrev main_cst_16 : Ref sig .tc := ⟨.hbm, 126, rfl⟩
abbrev main_v89 : Ref sig .tc := ⟨.hbm, 127, rfl⟩
abbrev main_cst_17 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_18 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩

abbrev nD : Nat := 1
abbrev τ : Topo := Topo.v7x

variable {F : FTy → Type} [FloatOps F]
-- ==== Proof.Tiles.lean ====
/- Reading back what a counted loop stores: by tiles that together cover the block, or by rewriting the whole of an
   accumulator at every trip. -/
module

public import Idealize.ShloMosaic.Lib.Exec
public import Idealize.ShloMosaic.Lib.Tactic
public import Idealize.ShloMosaic.Lib.WritesUnit
public import Idealize.ShloMosaic.Lib.Pipeline.Value
public import Idealize.ShloMosaic.Lib.Pipeline.FrameBody
public import Idealize.ShloMosaic.Lib.Pipeline.Kit

@[expose] public section

noncomputable section

namespace Cert.Tiles

open Idealize.ShloMosaic Idealize.ShloMosaic.TcCoe

variable {Val : EltTy → Type} {sig : RefSig} {κ : Kind} {sp : Space} {S : Shape} {e : EltTy}

/-- Trips whose stores all hold the values of one function `H`, and together cover the block, leave `H`. -/
theorem tiles_read (v : View sig κ sp S e) (G : v.ty.Contents Val) (pb : ℕ → List (View.Piece Val S e)) (n : ℕ)
    (L : Fin n → List (View.Piece Val S e)) (H : S.Idx → Val e) (h0 : pb 0 = [])
    (hs : ∀ k : Fin n, pb (k.val + 1) = L k ++ pb k.val)
    (hv : ∀ k, ∀ p ∈ L k, ∀ x : p.1.shape.Idx, p.2 x = H (p.1.emb x))
    (hc : ∀ y : S.Idx, ∃ k, ∃ p ∈ L k, y ∈ p.1.set) : v.read Val (v.writes Val G (pb n)) = H := by
  have A : ∀ k, k ≤ n → ∀ p ∈ pb k, ∀ x : p.1.shape.Idx, p.2 x = H (p.1.emb x) := by
    intro k
    induction k with
    | zero => intro _ p hp; rw [h0] at hp; exact absurd hp List.not_mem_nil
    | succ k ih =>
      intro hk p hp
      rw [hs ⟨k, hk⟩, List.mem_append] at hp
      rcases hp with hp | hp
      · exact hv _ p hp
      · exact ih (by omega) p hp
  have B : ∀ m, m ≤ n → ∀ k : Fin n, k.val < m → ∀ p ∈ L k, p ∈ pb m := by
    intro m
    induction m with
    | zero => intro _ k hk; omega
    | succ m ih =>
      intro hm k hk p hp
      rw [hs ⟨m, hm⟩, List.mem_append]
      by_cases e : k.val = m
      · left
        have : k = ⟨m, hm⟩ := Fin.ext e
        rw [← this]; exact hp
      · right; exact ih (by omega) k (by omega) p hp
  funext y
  obtain ⟨k, p, hp, hy⟩ := hc y
  exact View.read_writes_apply_of_pieces v G H (pb n) (A n le_rfl) y ⟨p, B n le_rfl k k.isLt p hp, hy⟩

/-- `n` steps from `a`. -/
def accN {X : Type} (step : ℕ → X → X) : ℕ → X → X
  | 0, a => a
  | k + 1, a => step k (accN step k a)

/-- A store through the whole block leaves its payload. -/
theorem read_whole (v : View sig κ sp S e) (G : v.ty.Contents Val) (off : Fin S.rank → ℕ) (inb : ∀ a, off a + S.size a ≤ S.size a)
    (h : off = fun _ => 0) (w : S.Idx → Val e) (L : List (View.Piece Val S e)) :
    v.read Val (v.writes Val G (⟨Rect.unit off S.size inb, w⟩ :: L)) = w := by
  funext y
  refine View.read_writes_cons_unit_of_mem (off' := fun _ => 0) v G inb w L y y h fun a => ?_
  exact (Nat.zero_add _).symm

/-- Trips that each rewrite the whole block from what it held leave the iterate. -/
theorem acc_read (v : View sig κ sp S e) (G : v.ty.Contents Val) (pb : ℕ → List (View.Piece Val S e)) (n : ℕ)
    (step : ℕ → (S.Idx → Val e) → (S.Idx → Val e)) (h0 : pb 0 = [])
    (hs : ∀ k : Fin n, ∃ (off : Fin S.rank → ℕ) (inb : ∀ a, off a + S.size a ≤ S.size a), off = (fun _ => 0) ∧
      pb (k.val + 1) = ⟨Rect.unit off S.size inb, step k.val (v.read Val (v.writes Val G (pb k.val)))⟩ :: pb k.val) :
    v.read Val (v.writes Val G (pb n)) = accN step n (v.read Val G) := by
  have A : ∀ k, k ≤ n → v.read Val (v.writes Val G (pb k)) = accN step k (v.read Val G) := by
    intro k
    induction k with
    | zero => intro _; rw [h0]; rfl
    | succ k ih =>
      intro hk
      obtain ⟨off, inb, ho, e⟩ := hs ⟨k, hk⟩
      rw [e, read_whole v G off inb ho, ih (by omega)]; rfl
  exact A n le_rfl

end Cert.Tiles

end
-- ==== Proof.RopeTile.lean ====
/- One grid point of the rotate-and-quantise kernel (`KernelIdeal`): the blocks it stores as functions of the blocks it is given,
   and what its loop of sixteen trips over eight rows each leaves in every output block. -/
module

public import proofs.«01_k».proof.Proof.Gen.KernelIdeal.Loops
public import proofs.«01_k».proof.Proof.Tiles

@[expose] public section

set_option maxRecDepth 16384

noncomputable section

namespace Cert.KernelIdeal.Rope

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Tiles

variable {F : FTy → Type} [FloatOps F] [Named F]

local notation "𝕄" => MT nD τ sig Unit (Elt F) ℕ (UR sig nD τ) ℕ

/-- The trip a row of the block belongs to: eight rows a trip. -/
def blk8 (r : Fin 128) : Fin 16 := ⟨r.val / 8, by omega⟩

theorem inb_rowsQ (k : Fin 16) : ∀ a, (![0, 8 * k.val, 0, 0] : Fin 4 → ℕ) a + S1x8x64x128.size a ≤ S1x128x64x128.size a := by
  revert k; decide
theorem inb_rowsK (k : Fin 16) : ∀ a, (![0, 8 * k.val, 0, 0] : Fin 4 → ℕ) a + S1x8x4x128.size a ≤ S1x128x4x128.size a := by
  revert k; decide
theorem inb_rowsT (k : Fin 16) : ∀ a, (![8 * k.val, 0] : Fin 2 → ℕ) a + S8x128.size a ≤ S128x128.size a := by
  revert k; decide
theorem inb_headK (h : Fin 4) : ∀ a, (![0, 0, h.val, 0] : Fin 4 → ℕ) a + S1x128x1x128.size a ≤ S1x128x4x128.size a := by
  revert h; decide
theorem inb_headV (h : Fin 4) : ∀ a, (![0, 0, 128 * h.val] : Fin 3 → ℕ) a + S1x128x128.size a ≤ S1x128x512.size a := by
  revert h; decide

/-- Eight rows of the query block, of the key block, of a table; one head of the key codes and of the values. -/
def rowsQ (X : Vec F S1x128x64x128 .bf16) (k : Fin 16) : Vec F S1x8x64x128 .bf16 :=
  View.ld (Val := Elt F) (e' := .bf16) X (Rect.unit (s := S1x128x64x128) ![0, 8 * k.val, 0, 0] S1x8x64x128.size (inb_rowsQ k))
def rowsK (X : Vec F S1x128x4x128 .bf16) (k : Fin 16) : Vec F S1x8x4x128 .bf16 :=
  View.ld (Val := Elt F) (e' := .bf16) X (Rect.unit (s := S1x128x4x128) ![0, 8 * k.val, 0, 0] S1x8x4x128.size (inb_rowsK k))
def rowsT (X : Vec F S128x128 .f32) (k : Fin 16) : Vec F S8x128 .f32 :=
  View.ld (Val := Elt F) (e' := .f32) X (Rect.unit (s := S128x128) ![8 * k.val, 0] S8x128.size (inb_rowsT k))
def headK (X : Vec F S1x128x4x128 .fp8e4m3) (h : Fin 4) : Vec F S1x128x1x128 .fp8e4m3 :=
  View.ld (Val := Elt F) (e' := .fp8e4m3) X (Rect.unit (s := S1x128x4x128) ![0, 0, h.val, 0] S1x128x1x128.size (inb_headK h))
def headV (X : Vec F S1x128x512 .bf16) (h : Fin 4) : Vec F S1x128x128 .bf16 :=
  View.ld (Val := Elt F) (e' := .bf16) X (Rect.unit (s := S1x128x512) ![0, 0, 128 * h.val] S1x128x128.size (inb_headV h))

/-- The place of an index of an output block within its trip's rows, or within its head. -/
def inQ (y : S1x128x64x128.Idx) : S1x8x64x128.Idx :=
  Fin.cons ⟨0, Nat.one_pos⟩ (Fin.cons ⟨(y 1).val % 8, Nat.mod_lt _ (by decide)⟩ (Fin.cons (y 2) (Fin.cons (y 3) finZeroElim)))
def inK (y : S1x128x4x128.Idx) : S1x8x4x128.Idx :=
  Fin.cons ⟨0, Nat.one_pos⟩ (Fin.cons ⟨(y 1).val % 8, Nat.mod_lt _ (by decide)⟩ (Fin.cons (y 2) (Fin.cons (y 3) finZeroElim)))
def inT (y : S1x4x128x16x128.Idx) : S1x1x8x16x128.Idx :=
  Fin.cons ⟨0, Nat.one_pos⟩ (Fin.cons ⟨0, Nat.one_pos⟩ (Fin.cons ⟨(y 2).val % 8, Nat.mod_lt _ (by decide)⟩ (Fin.cons (y 3) (Fin.cons (y 4) finZeroElim))))
def inH (y : S1x4x128x128.Idx) : S1x1x128x128.Idx :=
  Fin.cons ⟨0, Nat.one_pos⟩ (Fin.cons ⟨0, Nat.one_pos⟩ (Fin.cons (y 2) (Fin.cons (y 3) finZeroElim)))

/-- The query codes, in the order the queries came in. -/
def qcBlk (C S : Vec F S128x128 .f32) (X4 : Vec F S64x128 .f32) (X6 : Vec F S1x128x64x128 .bf16) : Vec F S1x128x64x128 .fp8e4m3 :=
  fun y => k0_pay5 (rowsQ X6 (blk8 (y 1))) (rowsT C (blk8 (y 1))) (rowsT S (blk8 (y 1))) X4 (inQ y)

/-- The query codes of one group of sixteen heads. -/
def qtPiece (v : FVec F S8x64x128 .fp8e4m3) (g : Fin 4) : FVec F S1x1x8x16x128 .fp8e4m3 :=
  match g with
  | 0 => k0_pay6 v
  | 1 => k0_pay7 v
  | 2 => k0_pay8 v
  | 3 => k0_pay9 v

/-- The query codes, by groups of heads. -/
def qtBlk (C S : Vec F S128x128 .f32) (X4 : Vec F S64x128 .f32) (X6 : Vec F S1x128x64x128 .bf16) : Vec F S1x4x128x16x128 .fp8e4m3 :=
  fun y => qtPiece (k0_pay4 (rowsQ X6 (blk8 (y 2))) (rowsT C (blk8 (y 2))) (rowsT S (blk8 (y 2))) X4) (y 1) (inT y)

/-- The key codes of a trip, and of the block. -/
def kPay (C S : Vec F S128x128 .f32) (X5 : Vec F S4x128 .f32) (X7 : Vec F S1x128x4x128 .bf16) (k : Fin 16) : FVec F S1x8x4x128 .fp8e4m3 :=
  k0_pay21 (k0_pay11 (rowsK X7 k) (rowsT C k)) (k0_pay12 (rowsK X7 k)) (k0_pay13 (rowsT S k)) X5
def kcBlk (C S : Vec F S128x128 .f32) (X5 : Vec F S4x128 .f32) (X7 : Vec F S1x128x4x128 .bf16) : Vec F S1x128x4x128 .fp8e4m3 :=
  fun y => kPay C S X5 X7 (blk8 (y 1)) (inK y)

/-- The largest magnitudes so far after one more trip's queries, and after one more trip's keys. -/
def qaStep (C S : Vec F S128x128 .f32) (X6 : Vec F S1x128x64x128 .bf16) (n : ℕ) (a : Vec F S64x128 .f32) : Vec F S64x128 .f32 :=
  k0_pay3 (rowsQ X6 (Fin.ofNat 16 n)) (rowsT C (Fin.ofNat 16 n)) (rowsT S (Fin.ofNat 16 n)) a
def kaStep (C S : Vec F S128x128 .f32) (X7 : Vec F S1x128x4x128 .bf16) (n : ℕ) (a : Vec F S4x128 .f32) : Vec F S4x128 .f32 :=
  k0_pay20 (k0_pay11 (rowsK X7 (Fin.ofNat 16 n)) (rowsT C (Fin.ofNat 16 n))) (k0_pay12 (rowsK X7 (Fin.ofNat 16 n))) (k0_pay13 (rowsT S (Fin.ofNat 16 n))) a

/-- The key codes and the values of one head, and of the block by heads. -/
def ktPiece (kc : Vec F S1x128x4x128 .fp8e4m3) (h : Fin 4) : FVec F S1x1x128x128 .fp8e4m3 :=
  match h with
  | 0 => k0_pay22 (headK kc 0)
  | 1 => k0_pay24 (headK kc 1)
  | 2 => k0_pay27 (headK kc 2)
  | 3 => k0_pay29 (headK kc 3)
def ktBlk (kc : Vec F S1x128x4x128 .fp8e4m3) : Vec F S1x4x128x128 .fp8e4m3 := fun y => ktPiece kc (y 1) (inH y)
def vtPiece (X8 : Vec F S1x128x512 .bf16) (h : Fin 4) : FVec F S1x1x128x128 .bf16 :=
  match h with
  | 0 => k0_pay23 (headV X8 0)
  | 1 => k0_pay26 (k0_pay25 (headV X8 1))
  | 2 => k0_pay28 (headV X8 2)
  | 3 => k0_pay1 (k0_pay30 (headV X8 3))
def vtBlk (X8 : Vec F S1x128x512 .bf16) : Vec F S1x4x128x128 .bf16 := fun y => vtPiece X8 (y 1) (inH y)

/-- A load depends on its offsets only through their value. -/
theorem ld_off {S : Shape} {e : EltTy} (X : S.Idx → Elt F e) (size off off' : Fin S.rank → ℕ) (h : off = off')
    (inb : ∀ a, off a + size a ≤ S.size a) (inb' : ∀ a, off' a + size a ≤ S.size a) :
    View.ld (Val := Elt F) (e' := e) X (Rect.unit off size inb) = View.ld (Val := Elt F) (e' := e) X (Rect.unit off' size inb') := by
  subst h; rfl

theorem ld_rowsQ (X : Vec F S1x128x64x128 .bf16) (k : Fin k0_t1_loop.trips) :
    View.ld (Val := Elt F) (e' := .bf16) X (Rect.unit (s := S1x128x64x128) (k0_off1 k) S1x8x64x128.size (k0_off1_inb k)) = rowsQ X k :=
  ld_off X _ _ _ (k0_off1_eq k) _ _
theorem ld_rowsK (X : Vec F S1x128x4x128 .bf16) (k : Fin k0_t1_loop.trips) :
    View.ld (Val := Elt F) (e' := .bf16) X (Rect.unit (s := S1x128x4x128) (k0_off7 k) S1x8x4x128.size (k0_off7_inb k)) = rowsK X k :=
  ld_off X _ _ _ (k0_off7_eq k) _ _
theorem ld_rowsT (X : Vec F S128x128 .f32) (k : Fin k0_t1_loop.trips) :
    View.ld (Val := Elt F) (e' := .f32) X (Rect.unit (s := S128x128) (k0_off2 k) S8x128.size (k0_off2_inb k)) = rowsT X k :=
  ld_off X _ _ _ (k0_off2_eq k) _ _
theorem ld_whole4 (X : Vec F S64x128 .f32) :
    View.ld (Val := Elt F) (e' := .f32) X (Rect.unit (s := S64x128) ![0, 0] S64x128.size inb_S64x128_S64x128_0_0) = X :=
  View.ld_unit_zero (by funext a; match a with | 0 => rfl | 1 => rfl) _ _
theorem ld_whole5 (X : Vec F S4x128 .f32) :
    View.ld (Val := Elt F) (e' := .f32) X (Rect.unit (s := S4x128) ![0, 0] S4x128.size inb_S4x128_S4x128_0_0) = X :=
  View.ld_unit_zero (by funext a; match a with | 0 => rfl | 1 => rfl) _ _

/-- The queries and the tables of a trip as they are loaded. -/
def lQ (X : Vec F S1x128x64x128 .bf16) (k : Fin k0_t1_loop.trips) : Vec F S1x8x64x128 .bf16 :=
  View.ld (Val := Elt F) (e' := .bf16) X (Rect.unit (s := S1x128x64x128) (k0_off1 k) S1x8x64x128.size (k0_off1_inb k))
def lK (X : Vec F S1x128x4x128 .bf16) (k : Fin k0_t1_loop.trips) : Vec F S1x8x4x128 .bf16 :=
  View.ld (Val := Elt F) (e' := .bf16) X (Rect.unit (s := S1x128x4x128) (k0_off7 k) S1x8x4x128.size (k0_off7_inb k))
def lT (X : Vec F S128x128 .f32) (k : Fin k0_t1_loop.trips) : Vec F S8x128 .f32 :=
  View.ld (Val := Elt F) (e' := .f32) X (Rect.unit (s := S128x128) (k0_off2 k) S8x128.size (k0_off2_inb k))
def l4 (X : Vec F S64x128 .f32) : Vec F S64x128 .f32 :=
  View.ld (Val := Elt F) (e' := .f32) X (Rect.unit (s := S64x128) ![0, 0] S64x128.size inb_S64x128_S64x128_0_0)
def l5 (X : Vec F S4x128 .f32) : Vec F S4x128 .f32 :=
  View.ld (Val := Elt F) (e' := .f32) X (Rect.unit (s := S4x128) ![0, 0] S4x128.size inb_S4x128_S4x128_0_0)

theorem lQ_eq (X : Vec F S1x128x64x128 .bf16) (k : Fin k0_t1_loop.trips) : lQ X k = rowsQ X k := ld_rowsQ X k
theorem lK_eq (X : Vec F S1x128x4x128 .bf16) (k : Fin k0_t1_loop.trips) : lK X k = rowsK X k := ld_rowsK X k
theorem lT_eq (X : Vec F S128x128 .f32) (k : Fin k0_t1_loop.trips) : lT X k = rowsT X k := ld_rowsT X k
theorem l4_eq (X : Vec F S64x128 .f32) : l4 X = X := ld_whole4 X
theorem l5_eq (X : Vec F S4x128 .f32) : l5 X = X := ld_whole5 X

theorem qaStep_eq (C S : Vec F S128x128 .f32) (X6 : Vec F S1x128x64x128 .bf16) (k : Fin k0_t1_loop.trips) (w : Vec F S64x128 .f32) :
    qaStep C S X6 k.val w = k0_pay3 (lQ X6 k) (lT C k) (lT S k) (l4 w) := by
  have hk : Fin.ofNat 16 k.val = (k : Fin 16) := Fin.ext (Nat.mod_eq_of_lt k.isLt)
  have h4 := l4_eq w
  unfold qaStep
  rw [hk, h4]
  exact congrArg₂ (fun A B => k0_pay3 A B (rowsT S k) w) (lQ_eq X6 k).symm (lT_eq C k).symm |>.trans
    (congrArg (fun B => k0_pay3 (lQ X6 k) (lT C k) B w) (lT_eq S k).symm)
theorem kaStep_eq (C S : Vec F S128x128 .f32) (X7 : Vec F S1x128x4x128 .bf16) (k : Fin k0_t1_loop.trips) (w : Vec F S4x128 .f32) :
    kaStep C S X7 k.val w = k0_pay20 (k0_pay11 (lK X7 k) (lT C k)) (k0_pay12 (lK X7 k)) (k0_pay13 (lT S k)) (l5 w) := by
  have hk : Fin.ofNat 16 k.val = (k : Fin 16) := Fin.ext (Nat.mod_eq_of_lt k.isLt)
  have h5 := l5_eq w
  unfold kaStep
  rw [hk, h5]
  exact congrArg₂ (fun A B => k0_pay20 (k0_pay11 A B) (k0_pay12 A) (k0_pay13 (rowsT S k)) w) (lK_eq X7 k).symm (lT_eq C k).symm |>.trans
    (congrArg (fun B => k0_pay20 (k0_pay11 (lK X7 k) (lT C k)) (k0_pay12 (lK X7 k)) (k0_pay13 B) w) (lT_eq S k).symm)

/-- The stores of a trip into the three code blocks. -/
def list9 (C S : Vec F S128x128 .f32) (X4 : Vec F S64x128 .f32) (X6 : Vec F S1x128x64x128 .bf16) (k : Fin k0_t1_loop.trips) :
    List (View.Piece (Elt F) S1x128x64x128 .fp8e4m3) :=
  [⟨Rect.unit (s := S1x128x64x128) (k0_off1 k) S1x8x64x128.size (k0_off1_inb k), k0_pay5 (lQ X6 k) (lT C k) (lT S k) (l4 X4)⟩]
def list10 (C S : Vec F S128x128 .f32) (X4 : Vec F S64x128 .f32) (X6 : Vec F S1x128x64x128 .bf16) (k : Fin k0_t1_loop.trips) :
    List (View.Piece (Elt F) S1x4x128x16x128 .fp8e4m3) :=
  [⟨Rect.unit (s := S1x4x128x16x128) (k0_off6 k) S1x1x8x16x128.size (k0_off6_inb k), k0_pay9 (k0_pay4 (lQ X6 k) (lT C k) (lT S k) (l4 X4))⟩,
   ⟨Rect.unit (s := S1x4x128x16x128) (k0_off5 k) S1x1x8x16x128.size (k0_off5_inb k), k0_pay8 (k0_pay4 (lQ X6 k) (lT C k) (lT S k) (l4 X4))⟩,
   ⟨Rect.unit (s := S1x4x128x16x128) (k0_off4 k) S1x1x8x16x128.size (k0_off4_inb k), k0_pay7 (k0_pay4 (lQ X6 k) (lT C k) (lT S k) (l4 X4))⟩,
   ⟨Rect.unit (s := S1x4x128x16x128) (k0_off3 k) S1x1x8x16x128.size (k0_off3_inb k), k0_pay6 (k0_pay4 (lQ X6 k) (lT C k) (lT S k) (l4 X4))⟩]
def list11 (C S : Vec F S128x128 .f32) (X5 : Vec F S4x128 .f32) (X7 : Vec F S1x128x4x128 .bf16) (k : Fin k0_t1_loop.trips) :
    List (View.Piece (Elt F) S1x128x4x128 .fp8e4m3) :=
  [⟨Rect.unit (s := S1x128x4x128) (k0_off7 k) S1x8x4x128.size (k0_off7_inb k),
    k0_pay21 (k0_pay11 (lK X7 k) (lT C k)) (k0_pay12 (lK X7 k)) (k0_pay13 (lT S k)) (l5 X5)⟩]

theorem list9_val (C S : Vec F S128x128 .f32) (X4 : Vec F S64x128 .f32) (X6 : Vec F S1x128x64x128 .bf16) (k : Fin k0_t1_loop.trips) :
    ∀ p ∈ list9 C S X4 X6 k, ∀ x : p.1.shape.Idx, p.2 x = qcBlk C S X4 X6 (p.1.emb x) := by
  intro p hp
  obtain rfl := List.mem_singleton.1 hp
  intro x
  have e := k0_off1_eq k
  have l0 : (x 0).val < 1 := (x 0).isLt
  have l1 : (x 1).val < 8 := (x 1).isLt
  generalize hy : (Rect.unit (s := S1x128x64x128) (k0_off1 k) S1x8x64x128.size (k0_off1_inb k)).emb x = y
  have v1 : (y 1).val = 8 * k.val + (x 1).val := by rw [← hy]; show k0_off1 k 1 + 1 * (x 1).val = _; rw [show k0_off1 k 1 = 8 * k.val from congrFun e 1]; omega
  have v2 : (y 2).val = (x 2).val := by rw [← hy]; show k0_off1 k 2 + 1 * (x 2).val = _; rw [show k0_off1 k 2 = 0 from congrFun e 2]; omega
  have v3 : (y 3).val = (x 3).val := by rw [← hy]; show k0_off1 k 3 + 1 * (x 3).val = _; rw [show k0_off1 k 3 = 0 from congrFun e 3]; omega
  have a1 : blk8 (y 1) = k := Fin.ext (by show (y 1).val / 8 = k.val; omega)
  have a2 : inQ y = x := by
    funext a; apply Fin.ext
    match a with
    | 0 => show 0 = (x 0).val; omega
    | 1 => show (y 1).val % 8 = (x 1).val; omega
    | 2 => exact v2
    | 3 => exact v3
  unfold qcBlk
  rw [a1, a2, ← lQ_eq, ← lT_eq, ← lT_eq]
  exact congrArg (fun Z => k0_pay5 (lQ X6 k) (lT C k) (lT S k) Z x) (l4_eq X4)

theorem list9_cover (C S : Vec F S128x128 .f32) (X4 : Vec F S64x128 .f32) (X6 : Vec F S1x128x64x128 .bf16) (y : S1x128x64x128.Idx) :
    ∃ k, ∃ p ∈ list9 C S X4 X6 k, y ∈ p.1.set := by
  obtain ⟨k, hk⟩ : ∃ k : Fin k0_t1_loop.trips, k.val = (y 1).val / 8 := ⟨blk8 (y 1), rfl⟩
  refine ⟨k, _, List.mem_singleton.2 rfl, ?_⟩
  show y ∈ (Rect.unit (s := S1x128x64x128) (k0_off1 k) S1x8x64x128.size (k0_off1_inb k)).set
  rw [Rect.mem_set_unit, k0_off1_eq k]
  have l0 : (y 0).val < 1 := (y 0).isLt
  have l1 : (y 1).val < 128 := (y 1).isLt
  have l2 : (y 2).val < 64 := (y 2).isLt
  have l3 : (y 3).val < 128 := (y 3).isLt
  intro a
  match a with
  | 0 => exact ⟨Nat.zero_le _, by show (y 0).val < 0 + 1; omega⟩
  | 1 => exact ⟨by show 8 * k.val ≤ (y 1).val; omega, by show (y 1).val < 8 * k.val + 8; omega⟩
  | 2 => exact ⟨Nat.zero_le _, by show (y 2).val < 0 + 64; omega⟩
  | 3 => exact ⟨Nat.zero_le _, by show (y 3).val < 0 + 128; omega⟩

theorem list11_val (C S : Vec F S128x128 .f32) (X5 : Vec F S4x128 .f32) (X7 : Vec F S1x128x4x128 .bf16) (k : Fin k0_t1_loop.trips) :
    ∀ p ∈ list11 C S X5 X7 k, ∀ x : p.1.shape.Idx, p.2 x = kcBlk C S X5 X7 (p.1.emb x) := by
  intro p hp
  obtain rfl := List.mem_singleton.1 hp
  intro x
  have e := k0_off7_eq k
  have l0 : (x 0).val < 1 := (x 0).isLt
  have l1 : (x 1).val < 8 := (x 1).isLt
  generalize hy : (Rect.unit (s := S1x128x4x128) (k0_off7 k) S1x8x4x128.size (k0_off7_inb k)).emb x = y
  have v1 : (y 1).val = 8 * k.val + (x 1).val := by rw [← hy]; show k0_off7 k 1 + 1 * (x 1).val = _; rw [show k0_off7 k 1 = 8 * k.val from congrFun e 1]; omega
  have v2 : (y 2).val = (x 2).val := by rw [← hy]; show k0_off7 k 2 + 1 * (x 2).val = _; rw [show k0_off7 k 2 = 0 from congrFun e 2]; omega
  have v3 : (y 3).val = (x 3).val := by rw [← hy]; show k0_off7 k 3 + 1 * (x 3).val = _; rw [show k0_off7 k 3 = 0 from congrFun e 3]; omega
  have a1 : blk8 (y 1) = k := Fin.ext (by show (y 1).val / 8 = k.val; omega)
  have a2 : inK y = x := by
    funext a; apply Fin.ext
    match a with
    | 0 => show 0 = (x 0).val; omega
    | 1 => show (y 1).val % 8 = (x 1).val; omega
    | 2 => exact v2
    | 3 => exact v3
  unfold kcBlk kPay
  rw [a1, a2, ← lK_eq, ← lT_eq, ← lT_eq]
  exact congrArg (fun Z => k0_pay21 (k0_pay11 (lK X7 k) (lT C k)) (k0_pay12 (lK X7 k)) (k0_pay13 (lT S k)) Z x) (l5_eq X5)

theorem list11_cover (C S : Vec F S128x128 .f32) (X5 : Vec F S4x128 .f32) (X7 : Vec F S1x128x4x128 .bf16) (y : S1x128x4x128.Idx) :
    ∃ k, ∃ p ∈ list11 C S X5 X7 k, y ∈ p.1.set := by
  obtain ⟨k, hk⟩ : ∃ k : Fin k0_t1_loop.trips, k.val = (y 1).val / 8 := ⟨blk8 (y 1), rfl⟩
  refine ⟨k, _, List.mem_singleton.2 rfl, ?_⟩
  show y ∈ (Rect.unit (s := S1x128x4x128) (k0_off7 k) S1x8x4x128.size (k0_off7_inb k)).set
  rw [Rect.mem_set_unit, k0_off7_eq k]
  have l0 : (y 0).val < 1 := (y 0).isLt
  have l1 : (y 1).val < 128 := (y 1).isLt
  have l2 : (y 2).val < 4 := (y 2).isLt
  have l3 : (y 3).val < 128 := (y 3).isLt
  intro a
  match a with
  | 0 => exact ⟨Nat.zero_le _, by show (y 0).val < 0 + 1; omega⟩
  | 1 => exact ⟨by show 8 * k.val ≤ (y 1).val; omega, by show (y 1).val < 8 * k.val + 8; omega⟩
  | 2 => exact ⟨Nat.zero_le _, by show (y 2).val < 0 + 4; omega⟩
  | 3 => exact ⟨Nat.zero_le _, by show (y 3).val < 0 + 128; omega⟩

/-- One group's store holds that group's codes. -/
theorem group_val (C S : Vec F S128x128 .f32) (X4 : Vec F S64x128 .f32) (X6 : Vec F S1x128x64x128 .bf16) (k : Fin k0_t1_loop.trips) (g : Fin 4)
    (off : Fin 5 → ℕ) (inb : ∀ a, off a + S1x1x8x16x128.size a ≤ S1x4x128x16x128.size a) (e : off = ![0, g.val, 8 * k.val, 0, 0]) (x : S1x1x8x16x128.Idx) :
    qtPiece (k0_pay4 (lQ X6 k) (lT C k) (lT S k) (l4 X4)) g x
      = qtBlk C S X4 X6 ((Rect.unit (s := S1x4x128x16x128) off S1x1x8x16x128.size inb).emb x) := by
  have l0 : (x 0).val < 1 := (x 0).isLt
  have l1 : (x 1).val < 1 := (x 1).isLt
  have l2 : (x 2).val < 8 := (x 2).isLt
  generalize hy : (Rect.unit (s := S1x4x128x16x128) off S1x1x8x16x128.size inb).emb x = y
  have v1 : (y 1).val = g.val + (x 1).val := by rw [← hy]; show off 1 + 1 * (x 1).val = _; rw [e]; simp
  have v2 : (y 2).val = 8 * k.val + (x 2).val := by rw [← hy]; show off 2 + 1 * (x 2).val = _; rw [e]; simp
  have v3 : (y 3).val = (x 3).val := by rw [← hy]; show off 3 + 1 * (x 3).val = _; rw [e]; simp
  have v4 : (y 4).val = (x 4).val := by rw [← hy]; show off 4 + 1 * (x 4).val = _; rw [e]; simp
  have a0 : y 1 = g := Fin.ext (by omega)
  have a1 : blk8 (y 2) = k := Fin.ext (by show (y 2).val / 8 = k.val; omega)
  have a2 : inT y = x := by
    funext a; apply Fin.ext
    match a with
    | 0 => show 0 = (x 0).val; omega
    | 1 => show 0 = (x 1).val; omega
    | 2 => show (y 2).val % 8 = (x 2).val; omega
    | 3 => exact v3
    | 4 => exact v4
  unfold qtBlk
  rw [a0, a1, a2, ← lQ_eq, ← lT_eq, ← lT_eq]
  exact congrArg (fun Z => qtPiece (k0_pay4 (lQ X6 k) (lT C k) (lT S k) Z) g x) (l4_eq X4)

theorem list10_val (C S : Vec F S128x128 .f32) (X4 : Vec F S64x128 .f32) (X6 : Vec F S1x128x64x128 .bf16) (k : Fin k0_t1_loop.trips) :
    ∀ p ∈ list10 C S X4 X6 k, ∀ x : p.1.shape.Idx, p.2 x = qtBlk C S X4 X6 (p.1.emb x) := by
  intro p hp
  simp only [list10, List.mem_cons, List.not_mem_nil, or_false] at hp
  rcases hp with rfl | rfl | rfl | rfl
  · exact group_val C S X4 X6 k 3 _ (k0_off6_inb k) (k0_off6_eq k)
  · exact group_val C S X4 X6 k 2 _ (k0_off5_inb k) (k0_off5_eq k)
  · exact group_val C S X4 X6 k 1 _ (k0_off4_inb k) (k0_off4_eq k)
  · exact group_val C S X4 X6 k 0 _ (k0_off3_inb k) (k0_off3_eq k)

theorem group_mem (y : S1x4x128x16x128.Idx) (g : ℕ) (hg : (y 1).val = g) (off : Fin 5 → ℕ) (inb : ∀ a, off a + S1x1x8x16x128.size a ≤ S1x4x128x16x128.size a)
    (e : off = ![0, g, 8 * (blk8 (y 2)).val, 0, 0]) : y ∈ (Rect.unit (s := S1x4x128x16x128) off S1x1x8x16x128.size inb).set := by
  subst e
  rw [Rect.mem_set_unit]
  have l0 : (y 0).val < 1 := (y 0).isLt
  have l2 : (y 2).val < 128 := (y 2).isLt
  have l3 : (y 3).val < 16 := (y 3).isLt
  have l4 : (y 4).val < 128 := (y 4).isLt
  intro a
  match a with
  | 0 => exact ⟨Nat.zero_le _, by show (y 0).val < 0 + 1; omega⟩
  | 1 => exact ⟨by show g ≤ (y 1).val; omega, by show (y 1).val < g + 1; omega⟩
  | 2 => exact ⟨by show 8 * ((y 2).val / 8) ≤ (y 2).val; omega, by show (y 2).val < 8 * ((y 2).val / 8) + 8; omega⟩
  | 3 => exact ⟨Nat.zero_le _, by show (y 3).val < 0 + 16; omega⟩
  | 4 => exact ⟨Nat.zero_le _, by show (y 4).val < 0 + 128; omega⟩

theorem list10_cover (C S : Vec F S128x128 .f32) (X4 : Vec F S64x128 .f32) (X6 : Vec F S1x128x64x128 .bf16) (y : S1x4x128x16x128.Idx) :
    ∃ k, ∃ p ∈ list10 C S X4 X6 k, y ∈ p.1.set := by
  refine ⟨blk8 (y 2), ?_⟩
  have l1 : (y 1).val < 4 := (y 1).isLt
  have hc : (y 1).val = 0 ∨ (y 1).val = 1 ∨ (y 1).val = 2 ∨ (y 1).val = 3 := by omega
  rcases hc with h | h | h | h
  · exact ⟨_, .tail _ (.tail _ (.tail _ (.head _))), group_mem y 0 h _ (k0_off3_inb _) (k0_off3_eq _)⟩
  · exact ⟨_, .tail _ (.tail _ (.head _)), group_mem y 1 h _ (k0_off4_inb _) (k0_off4_eq _)⟩
  · exact ⟨_, .tail _ (.head _), group_mem y 2 h _ (k0_off5_inb _) (k0_off5_eq _)⟩
  · exact ⟨_, .head _, group_mem y 3 h _ (k0_off6_inb _) (k0_off6_eq _)⟩

/-- What the sixteen trips leave in output block 0. -/
theorem out9 (𝒱 : Variants) (c : Dev nD) (bd : Option 𝒱.V) (i : grid0.Coords) (arg2 : Memref sig .tc .vmem S3x1x1x1x128 .i32) (harg2 : arg2.IsWhole) (arg3 : Memref sig .tc .vmem S64x1 .f32) (harg3 : arg3.IsWhole) (arg4 : Memref sig .tc .vmem S64x128 .f32) (harg4 : arg4.IsWhole) (arg5 : Memref sig .tc .vmem S4x128 .f32) (harg5 : arg5.IsWhole) (arg6 : Memref sig .tc .vmem S1x128x64x128 .bf16) (harg6 : arg6.IsWhole) (arg7 : Memref sig .tc .vmem S1x128x4x128 .bf16) (harg7 : arg7.IsWhole) (arg8 : Memref sig .tc .vmem S1x128x512 .bf16) (harg8 : arg8.IsWhole) (arg9 : Memref sig .tc .vmem S1x128x64x128 .fp8e4m3) (harg9 : arg9.IsWhole) (arg10 : Memref sig .tc .vmem S1x4x128x16x128 .fp8e4m3) (harg10 : arg10.IsWhole) (arg11 : Memref sig .tc .vmem S1x128x4x128 .fp8e4m3) (harg11 : arg11.IsWhole) (arg12 : Memref sig .tc .vmem S1x4x128x128 .fp8e4m3) (harg12 : arg12.IsWhole) (arg13 : Memref sig .tc .vmem S1x4x128x128 .bf16) (harg13 : arg13.IsWhole) (arg14 : Memref sig .tc .vmem S64x128 .f32) (harg14 : arg14.IsWhole) (arg15 : Memref sig .tc .vmem S4x128 .f32) (harg15 : arg15.IsWhole) (arg16 : Memref sig .tc .vmem S128x128 .f32) (harg16 : arg16.IsWhole) (arg17 : Memref sig .tc .vmem S128x128 .f32) (harg17 : arg17.IsWhole) (z o : BitVec 32) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg16 : BufTy.Contents (Elt F) arg16.view.ty) (X_arg17 : BufTy.Contents (Elt F) arg17.view.ty) (G_arg9 : BufTy.Contents (Elt F) arg9.view.ty) (G_arg10 : BufTy.Contents (Elt F) arg10.view.ty) (G_arg11 : BufTy.Contents (Elt F) arg11.view.ty) (G_arg14 : BufTy.Contents (Elt F) arg14.view.ty) (G_arg15 : BufTy.Contents (Elt F) arg15.view.ty) :
    arg9.view.read (Elt F) (arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 z o X_arg4 X_arg5 X_arg6 X_arg7 X_arg16 X_arg17 G_arg9 G_arg10 G_arg11 G_arg14 G_arg15 k0_t1_loop.trips).1) = qcBlk (arg16.view.read (Elt F) X_arg16) (arg17.view.read (Elt F) X_arg17) (arg4.view.read (Elt F) X_arg4) (arg6.view.read (Elt F) X_arg6) := by
  refine tiles_read arg9.view G_arg9 (fun j => (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 z o X_arg4 X_arg5 X_arg6 X_arg7 X_arg16 X_arg17 G_arg9 G_arg10 G_arg11 G_arg14 G_arg15 j).1) 16 (list9 (arg16.view.read (Elt F) X_arg16) (arg17.view.read (Elt F) X_arg17) (arg4.view.read (Elt F) X_arg4) (arg6.view.read (Elt F) X_arg6)) _ rfl (fun k => ?_) (list9_val (arg16.view.read (Elt F) X_arg16) (arg17.view.read (Elt F) X_arg17) (arg4.view.read (Elt F) X_arg4) (arg6.view.read (Elt F) X_arg6)) (list9_cover (arg16.view.read (Elt F) X_arg16) (arg17.view.read (Elt F) X_arg17) (arg4.view.read (Elt F) X_arg4) (arg6.view.read (Elt F) X_arg6))
  refine (congrArg (fun p => p.1) (pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 z o X_arg4 X_arg5 X_arg6 X_arg7 X_arg16 X_arg17 G_arg9 G_arg10 G_arg11 G_arg14 G_arg15 k)).trans ?_
  refine congrArg (· ++ _) ?_
  dsimp only [tripL_k0_t1]
  unfold trip_k0_t1
  rfl

/-- What the sixteen trips leave in output block 1. -/
theorem out10 (𝒱 : Variants) (c : Dev nD) (bd : Option 𝒱.V) (i : grid0.Coords) (arg2 : Memref sig .tc .vmem S3x1x1x1x128 .i32) (harg2 : arg2.IsWhole) (arg3 : Memref sig .tc .vmem S64x1 .f32) (harg3 : arg3.IsWhole) (arg4 : Memref sig .tc .vmem S64x128 .f32) (harg4 : arg4.IsWhole) (arg5 : Memref sig .tc .vmem S4x128 .f32) (harg5 : arg5.IsWhole) (arg6 : Memref sig .tc .vmem S1x128x64x128 .bf16) (harg6 : arg6.IsWhole) (arg7 : Memref sig .tc .vmem S1x128x4x128 .bf16) (harg7 : arg7.IsWhole) (arg8 : Memref sig .tc .vmem S1x128x512 .bf16) (harg8 : arg8.IsWhole) (arg9 : Memref sig .tc .vmem S1x128x64x128 .fp8e4m3) (harg9 : arg9.IsWhole) (arg10 : Memref sig .tc .vmem S1x4x128x16x128 .fp8e4m3) (harg10 : arg10.IsWhole) (arg11 : Memref sig .tc .vmem S1x128x4x128 .fp8e4m3) (harg11 : arg11.IsWhole) (arg12 : Memref sig .tc .vmem S1x4x128x128 .fp8e4m3) (harg12 : arg12.IsWhole) (arg13 : Memref sig .tc .vmem S1x4x128x128 .bf16) (harg13 : arg13.IsWhole) (arg14 : Memref sig .tc .vmem S64x128 .f32) (harg14 : arg14.IsWhole) (arg15 : Memref sig .tc .vmem S4x128 .f32) (harg15 : arg15.IsWhole) (arg16 : Memref sig .tc .vmem S128x128 .f32) (harg16 : arg16.IsWhole) (arg17 : Memref sig .tc .vmem S128x128 .f32) (harg17 : arg17.IsWhole) (z o : BitVec 32) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg16 : BufTy.Contents (Elt F) arg16.view.ty) (X_arg17 : BufTy.Contents (Elt F) arg17.view.ty) (G_arg9 : BufTy.Contents (Elt F) arg9.view.ty) (G_arg10 : BufTy.Contents (Elt F) arg10.view.ty) (G_arg11 : BufTy.Contents (Elt F) arg11.view.ty) (G_arg14 : BufTy.Contents (Elt F) arg14.view.ty) (G_arg15 : BufTy.Contents (Elt F) arg15.view.ty) :
    arg10.view.read (Elt F) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 z o X_arg4 X_arg5 X_arg6 X_arg7 X_arg16 X_arg17 G_arg9 G_arg10 G_arg11 G_arg14 G_arg15 k0_t1_loop.trips).2.1) = qtBlk (arg16.view.read (Elt F) X_arg16) (arg17.view.read (Elt F) X_arg17) (arg4.view.read (Elt F) X_arg4) (arg6.view.read (Elt F) X_arg6) := by
  refine tiles_read arg10.view G_arg10 (fun j => (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 z o X_arg4 X_arg5 X_arg6 X_arg7 X_arg16 X_arg17 G_arg9 G_arg10 G_arg11 G_arg14 G_arg15 j).2.1) 16 (list10 (arg16.view.read (Elt F) X_arg16) (arg17.view.read (Elt F) X_arg17) (arg4.view.read (Elt F) X_arg4) (arg6.view.read (Elt F) X_arg6)) _ rfl (fun k => ?_) (list10_val (arg16.view.read (Elt F) X_arg16) (arg17.view.read (Elt F) X_arg17) (arg4.view.read (Elt F) X_arg4) (arg6.view.read (Elt F) X_arg6)) (list10_cover (arg16.view.read (Elt F) X_arg16) (arg17.view.read (Elt F) X_arg17) (arg4.view.read (Elt F) X_arg4) (arg6.view.read (Elt F) X_arg6))
  refine (congrArg (fun p => p.2.1) (pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 z o X_arg4 X_arg5 X_arg6 X_arg7 X_arg16 X_arg17 G_arg9 G_arg10 G_arg11 G_arg14 G_arg15 k)).trans ?_
  refine congrArg (· ++ _) ?_
  dsimp only [tripL_k0_t1]
  unfold trip_k0_t1
  rfl

/-- What the sixteen trips leave in output block 2. -/
theorem out11 (𝒱 : Variants) (c : Dev nD) (bd : Option 𝒱.V) (i : grid0.Coords) (arg2 : Memref sig .tc .vmem S3x1x1x1x128 .i32) (harg2 : arg2.IsWhole) (arg3 : Memref sig .tc .vmem S64x1 .f32) (harg3 : arg3.IsWhole) (arg4 : Memref sig .tc .vmem S64x128 .f32) (harg4 : arg4.IsWhole) (arg5 : Memref sig .tc .vmem S4x128 .f32) (harg5 : arg5.IsWhole) (arg6 : Memref sig .tc .vmem S1x128x64x128 .bf16) (harg6 : arg6.IsWhole) (arg7 : Memref sig .tc .vmem S1x128x4x128 .bf16) (harg7 : arg7.IsWhole) (arg8 : Memref sig .tc .vmem S1x128x512 .bf16) (harg8 : arg8.IsWhole) (arg9 : Memref sig .tc .vmem S1x128x64x128 .fp8e4m3) (harg9 : arg9.IsWhole) (arg10 : Memref sig .tc .vmem S1x4x128x16x128 .fp8e4m3) (harg10 : arg10.IsWhole) (arg11 : Memref sig .tc .vmem S1x128x4x128 .fp8e4m3) (harg11 : arg11.IsWhole) (arg12 : Memref sig .tc .vmem S1x4x128x128 .fp8e4m3) (harg12 : arg12.IsWhole) (arg13 : Memref sig .tc .vmem S1x4x128x128 .bf16) (harg13 : arg13.IsWhole) (arg14 : Memref sig .tc .vmem S64x128 .f32) (harg14 : arg14.IsWhole) (arg15 : Memref sig .tc .vmem S4x128 .f32) (harg15 : arg15.IsWhole) (arg16 : Memref sig .tc .vmem S128x128 .f32) (harg16 : arg16.IsWhole) (arg17 : Memref sig .tc .vmem S128x128 .f32) (harg17 : arg17.IsWhole) (z o : BitVec 32) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg16 : BufTy.Contents (Elt F) arg16.view.ty) (X_arg17 : BufTy.Contents (Elt F) arg17.view.ty) (G_arg9 : BufTy.Contents (Elt F) arg9.view.ty) (G_arg10 : BufTy.Contents (Elt F) arg10.view.ty) (G_arg11 : BufTy.Contents (Elt F) arg11.view.ty) (G_arg14 : BufTy.Contents (Elt F) arg14.view.ty) (G_arg15 : BufTy.Contents (Elt F) arg15.view.ty) :
    arg11.view.read (Elt F) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 z o X_arg4 X_arg5 X_arg6 X_arg7 X_arg16 X_arg17 G_arg9 G_arg10 G_arg11 G_arg14 G_arg15 k0_t1_loop.trips).2.2.1) = kcBlk (arg16.view.read (Elt F) X_arg16) (arg17.view.read (Elt F) X_arg17) (arg5.view.read (Elt F) X_arg5) (arg7.view.read (Elt F) X_arg7) := by
  refine tiles_read arg11.view G_arg11 (fun j => (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 z o X_arg4 X_arg5 X_arg6 X_arg7 X_arg16 X_arg17 G_arg9 G_arg10 G_arg11 G_arg14 G_arg15 j).2.2.1) 16 (list11 (arg16.view.read (Elt F) X_arg16) (arg17.view.read (Elt F) X_arg17) (arg5.view.read (Elt F) X_arg5) (arg7.view.read (Elt F) X_arg7)) _ rfl (fun k => ?_) (list11_val (arg16.view.read (Elt F) X_arg16) (arg17.view.read (Elt F) X_arg17) (arg5.view.read (Elt F) X_arg5) (arg7.view.read (Elt F) X_arg7)) (list11_cover (arg16.view.read (Elt F) X_arg16) (arg17.view.read (Elt F) X_arg17) (arg5.view.read (Elt F) X_arg5) (arg7.view.read (Elt F) X_arg7))
  refine (congrArg (fun p => p.2.2.1) (pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 z o X_arg4 X_arg5 X_arg6 X_arg7 X_arg16 X_arg17 G_arg9 G_arg10 G_arg11 G_arg14 G_arg15 k)).trans ?_
  refine congrArg (· ++ _) ?_
  dsimp only [tripL_k0_t1]
  unfold trip_k0_t1
  rfl

/-- What the sixteen trips leave in the block of largest magnitudes 0. -/
theorem out14 (𝒱 : Variants) (c : Dev nD) (bd : Option 𝒱.V) (i : grid0.Coords) (arg2 : Memref sig .tc .vmem S3x1x1x1x128 .i32) (harg2 : arg2.IsWhole) (arg3 : Memref sig .tc .vmem S64x1 .f32) (harg3 : arg3.IsWhole) (arg4 : Memref sig .tc .vmem S64x128 .f32) (harg4 : arg4.IsWhole) (arg5 : Memref sig .tc .vmem S4x128 .f32) (harg5 : arg5.IsWhole) (arg6 : Memref sig .tc .vmem S1x128x64x128 .bf16) (harg6 : arg6.IsWhole) (arg7 : Memref sig .tc .vmem S1x128x4x128 .bf16) (harg7 : arg7.IsWhole) (arg8 : Memref sig .tc .vmem S1x128x512 .bf16) (harg8 : arg8.IsWhole) (arg9 : Memref sig .tc .vmem S1x128x64x128 .fp8e4m3) (harg9 : arg9.IsWhole) (arg10 : Memref sig .tc .vmem S1x4x128x16x128 .fp8e4m3) (harg10 : arg10.IsWhole) (arg11 : Memref sig .tc .vmem S1x128x4x128 .fp8e4m3) (harg11 : arg11.IsWhole) (arg12 : Memref sig .tc .vmem S1x4x128x128 .fp8e4m3) (harg12 : arg12.IsWhole) (arg13 : Memref sig .tc .vmem S1x4x128x128 .bf16) (harg13 : arg13.IsWhole) (arg14 : Memref sig .tc .vmem S64x128 .f32) (harg14 : arg14.IsWhole) (arg15 : Memref sig .tc .vmem S4x128 .f32) (harg15 : arg15.IsWhole) (arg16 : Memref sig .tc .vmem S128x128 .f32) (harg16 : arg16.IsWhole) (arg17 : Memref sig .tc .vmem S128x128 .f32) (harg17 : arg17.IsWhole) (z o : BitVec 32) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg16 : BufTy.Contents (Elt F) arg16.view.ty) (X_arg17 : BufTy.Contents (Elt F) arg17.view.ty) (G_arg9 : BufTy.Contents (Elt F) arg9.view.ty) (G_arg10 : BufTy.Contents (Elt F) arg10.view.ty) (G_arg11 : BufTy.Contents (Elt F) arg11.view.ty) (G_arg14 : BufTy.Contents (Elt F) arg14.view.ty) (G_arg15 : BufTy.Contents (Elt F) arg15.view.ty) :
    arg14.view.read (Elt F) (arg14.view.writes (Elt F) G_arg14 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 z o X_arg4 X_arg5 X_arg6 X_arg7 X_arg16 X_arg17 G_arg9 G_arg10 G_arg11 G_arg14 G_arg15 k0_t1_loop.trips).2.2.2.1) = accN (qaStep (arg16.view.read (Elt F) X_arg16) (arg17.view.read (Elt F) X_arg17) (arg6.view.read (Elt F) X_arg6)) 16 (arg14.view.read (Elt F) G_arg14) := by
  refine acc_read arg14.view G_arg14 (fun j => (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 z o X_arg4 X_arg5 X_arg6 X_arg7 X_arg16 X_arg17 G_arg9 G_arg10 G_arg11 G_arg14 G_arg15 j).2.2.2.1) 16 _ rfl (fun k => ?_)
  refine ⟨![0, 0], inb_S64x128_S64x128_0_0, by funext a; match a with | 0 => rfl | 1 => rfl, ?_⟩
  refine (congrArg (fun p => p.2.2.2.1) (pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 z o X_arg4 X_arg5 X_arg6 X_arg7 X_arg16 X_arg17 G_arg9 G_arg10 G_arg11 G_arg14 G_arg15 k)).trans ?_
  refine congrArg (· ++ _) (a₂ := [_]) ?_
  rw [qaStep_eq (arg16.view.read (Elt F) X_arg16) (arg17.view.read (Elt F) X_arg17) (arg6.view.read (Elt F) X_arg6) k]
  dsimp only [tripL_k0_t1]
  unfold trip_k0_t1
  rfl

/-- What the sixteen trips leave in the block of largest magnitudes 1. -/
theorem out15 (𝒱 : Variants) (c : Dev nD) (bd : Option 𝒱.V) (i : grid0.Coords) (arg2 : Memref sig .tc .vmem S3x1x1x1x128 .i32) (harg2 : arg2.IsWhole) (arg3 : Memref sig .tc .vmem S64x1 .f32) (harg3 : arg3.IsWhole) (arg4 : Memref sig .tc .vmem S64x128 .f32) (harg4 : arg4.IsWhole) (arg5 : Memref sig .tc .vmem S4x128 .f32) (harg5 : arg5.IsWhole) (arg6 : Memref sig .tc .vmem S1x128x64x128 .bf16) (harg6 : arg6.IsWhole) (arg7 : Memref sig .tc .vmem S1x128x4x128 .bf16) (harg7 : arg7.IsWhole) (arg8 : Memref sig .tc .vmem S1x128x512 .bf16) (harg8 : arg8.IsWhole) (arg9 : Memref sig .tc .vmem S1x128x64x128 .fp8e4m3) (harg9 : arg9.IsWhole) (arg10 : Memref sig .tc .vmem S1x4x128x16x128 .fp8e4m3) (harg10 : arg10.IsWhole) (arg11 : Memref sig .tc .vmem S1x128x4x128 .fp8e4m3) (harg11 : arg11.IsWhole) (arg12 : Memref sig .tc .vmem S1x4x128x128 .fp8e4m3) (harg12 : arg12.IsWhole) (arg13 : Memref sig .tc .vmem S1x4x128x128 .bf16) (harg13 : arg13.IsWhole) (arg14 : Memref sig .tc .vmem S64x128 .f32) (harg14 : arg14.IsWhole) (arg15 : Memref sig .tc .vmem S4x128 .f32) (harg15 : arg15.IsWhole) (arg16 : Memref sig .tc .vmem S128x128 .f32) (harg16 : arg16.IsWhole) (arg17 : Memref sig .tc .vmem S128x128 .f32) (harg17 : arg17.IsWhole) (z o : BitVec 32) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg16 : BufTy.Contents (Elt F) arg16.view.ty) (X_arg17 : BufTy.Contents (Elt F) arg17.view.ty) (G_arg9 : BufTy.Contents (Elt F) arg9.view.ty) (G_arg10 : BufTy.Contents (Elt F) arg10.view.ty) (G_arg11 : BufTy.Contents (Elt F) arg11.view.ty) (G_arg14 : BufTy.Contents (Elt F) arg14.view.ty) (G_arg15 : BufTy.Contents (Elt F) arg15.view.ty) :
    arg15.view.read (Elt F) (arg15.view.writes (Elt F) G_arg15 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 z o X_arg4 X_arg5 X_arg6 X_arg7 X_arg16 X_arg17 G_arg9 G_arg10 G_arg11 G_arg14 G_arg15 k0_t1_loop.trips).2.2.2.2) = accN (kaStep (arg16.view.read (Elt F) X_arg16) (arg17.view.read (Elt F) X_arg17) (arg7.view.read (Elt F) X_arg7)) 16 (arg15.view.read (Elt F) G_arg15) := by
  refine acc_read arg15.view G_arg15 (fun j => (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 z o X_arg4 X_arg5 X_arg6 X_arg7 X_arg16 X_arg17 G_arg9 G_arg10 G_arg11 G_arg14 G_arg15 j).2.2.2.2) 16 _ rfl (fun k => ?_)
  refine ⟨![0, 0], inb_S4x128_S4x128_0_0, by funext a; match a with | 0 => rfl | 1 => rfl, ?_⟩
  refine (congrArg (fun p => p.2.2.2.2) (pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 z o X_arg4 X_arg5 X_arg6 X_arg7 X_arg16 X_arg17 G_arg9 G_arg10 G_arg11 G_arg14 G_arg15 k)).trans ?_
  refine congrArg (· ++ _) (a₂ := [_]) ?_
  rw [kaStep_eq (arg16.view.read (Elt F) X_arg16) (arg17.view.read (Elt F) X_arg17) (arg7.view.read (Elt F) X_arg7) k]
  dsimp only [tripL_k0_t1]
  unfold trip_k0_t1
  rfl

end Cert.KernelIdeal.Rope

end
-- ==== Proof.RopeRun.lean ====
/- One grid point of the rotate-and-quantise kernel (`KernelIdeal`): from the seven blocks it is given and the running maxima it
   finds, it ends with the same inputs, the blocks of codes, the transposed values, and the maxima taken over its rows. -/
module

public import proofs.«01_k».proof.Proof.RopeTile

@[expose] public section

set_option maxRecDepth 16384

noncomputable section

namespace Cert.KernelIdeal.Rope

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Tiles

variable {F : FTy → Type} [FloatOps F] [Named F]

local notation "𝕄" => MT nD τ sig Unit (Elt F) ℕ (UR sig nD τ) ℕ

/-- The first grid point, where the running maxima are set to zero. -/
def first0 (i : grid0.Coords) : Prop := (i 0).val = 0 ∧ (i 1).val = 0

instance (i : grid0.Coords) : Decidable (first0 i) := by unfold first0; infer_instance

theorem cond0_gen (a : Fin 6) (b : Fin 16) :
    Scalar.cmpi .ne (Scalar.extui (Scalar.andi (Scalar.cmpi .eq (BitVec.ofNat 32 a.val) 0#32) (Scalar.cmpi .eq (BitVec.ofNat 32 b.val) 0#32)) : BitVec 32) 0#32 = 1#1
      ↔ a.val = 0 ∧ b.val = 0 := by
  revert a b; decide +kernel

/-- Four stores, one a head, read back by heads. -/
theorem heads_read {e : EltTy} (v : View sig .tc .vmem S1x4x128x128 e) (G : v.ty.Contents (Elt F)) (p : Fin 4 → S1x1x128x128.Idx → Elt F e) :
    v.read (Elt F) (v.writes (Elt F) G
      [⟨Rect.unit (s := S1x4x128x128) ![0, 3, 0, 0] S1x1x128x128.size inb_S1x4x128x128_S1x1x128x128_0_3_0_0, p 3⟩,
       ⟨Rect.unit (s := S1x4x128x128) ![0, 2, 0, 0] S1x1x128x128.size inb_S1x4x128x128_S1x1x128x128_0_2_0_0, p 2⟩,
       ⟨Rect.unit (s := S1x4x128x128) ![0, 1, 0, 0] S1x1x128x128.size inb_S1x4x128x128_S1x1x128x128_0_1_0_0, p 1⟩,
       ⟨Rect.unit (s := S1x4x128x128) ![0, 0, 0, 0] S1x1x128x128.size inb_S1x4x128x128_S1x1x128x128_0_0_0_0, p 0⟩])
      = fun y => p (y 1) (inH y) := by
  have key : ∀ (g : Fin 4) (inb : ∀ a, (![0, g.val, 0, 0] : Fin 4 → ℕ) a + S1x1x128x128.size a ≤ S1x4x128x128.size a) (x : S1x1x128x128.Idx),
      p g x = (fun y : S1x4x128x128.Idx => p (y 1) (inH y)) ((Rect.unit (s := S1x4x128x128) ![0, g.val, 0, 0] S1x1x128x128.size inb).emb x) := by
    intro g inb x
    have l0 : (x 0).val < 1 := (x 0).isLt
    have l1 : (x 1).val < 1 := (x 1).isLt
    generalize hy : (Rect.unit (s := S1x4x128x128) ![0, g.val, 0, 0] S1x1x128x128.size inb).emb x = y
    have v1 : (y 1).val = g.val + 1 * (x 1).val := by rw [← hy]; rfl
    have v2 : (y 2).val = 0 + 1 * (x 2).val := by rw [← hy]; rfl
    have v3 : (y 3).val = 0 + 1 * (x 3).val := by rw [← hy]; rfl
    have a0 : y 1 = g := Fin.ext (by omega)
    have a2 : inH y = x := by
      funext a; apply Fin.ext
      match a with
      | 0 => show 0 = (x 0).val; omega
      | 1 => show 0 = (x 1).val; omega
      | 2 => show (y 2).val = (x 2).val; omega
      | 3 => show (y 3).val = (x 3).val; omega
    show p g x = p (y 1) (inH y)
    rw [a0, a2]
  have mem : ∀ (y : S1x4x128x128.Idx) (g : ℕ) (inb : ∀ a, (![0, g, 0, 0] : Fin 4 → ℕ) a + S1x1x128x128.size a ≤ S1x4x128x128.size a), (y 1).val = g →
      y ∈ (Rect.unit (s := S1x4x128x128) ![0, g, 0, 0] S1x1x128x128.size inb).set := by
    intro y g inb hg
    rw [Rect.mem_set_unit]
    have l0 : (y 0).val < 1 := (y 0).isLt
    have l2 : (y 2).val < 128 := (y 2).isLt
    have l3 : (y 3).val < 128 := (y 3).isLt
    intro a
    match a with
    | 0 => exact ⟨Nat.zero_le _, by show (y 0).val < 0 + 1; omega⟩
    | 1 => exact ⟨by show g ≤ (y 1).val; omega, by show (y 1).val < g + 1; omega⟩
    | 2 => exact ⟨Nat.zero_le _, by show (y 2).val < 0 + 128; omega⟩
    | 3 => exact ⟨Nat.zero_le _, by show (y 3).val < 0 + 128; omega⟩
  funext y
  refine View.read_writes_apply_of_pieces v G (fun y => p (y 1) (inH y)) _ ?_ y ?_
  · intro q hq
    simp only [List.mem_cons, List.not_mem_nil, or_false] at hq
    rcases hq with rfl | rfl | rfl | rfl
    · exact key 3 inb_S1x4x128x128_S1x1x128x128_0_3_0_0
    · exact key 2 inb_S1x4x128x128_S1x1x128x128_0_2_0_0
    · exact key 1 inb_S1x4x128x128_S1x1x128x128_0_1_0_0
    · exact key 0 inb_S1x4x128x128_S1x1x128x128_0_0_0_0
  · have l1 : (y 1).val < 4 := (y 1).isLt
    have hc : (y 1).val = 0 ∨ (y 1).val = 1 ∨ (y 1).val = 2 ∨ (y 1).val = 3 := by omega
    rcases hc with h | h | h | h
    · exact ⟨_, .tail _ (.tail _ (.tail _ (.head _))), mem y 0 inb_S1x4x128x128_S1x1x128x128_0_0_0_0 h⟩
    · exact ⟨_, .tail _ (.tail _ (.head _)), mem y 1 inb_S1x4x128x128_S1x1x128x128_0_1_0_0 h⟩
    · exact ⟨_, .tail _ (.head _), mem y 2 inb_S1x4x128x128_S1x1x128x128_0_2_0_0 h⟩
    · exact ⟨_, .head _, mem y 3 inb_S1x4x128x128_S1x1x128x128_0_3_0_0 h⟩

/-- The blocks a grid point is given, whole. -/
theorem load2 (arg2 : Memref sig .tc .vmem S3x1x1x1x128 .i32) (harg2 : arg2.IsWhole) (x : Vec F S3x1x1x1x128 .i32) :
    arg2.view.readAt (Elt F) (Rect.unit (s := S3x1x1x1x128) ![0, 0, 0, 0, 0] S3x1x1x1x128.size inb_S3x1x1x1x128_S3x1x1x1x128_0_0_0_0_0).toLoadRect (harg2.unread x) = x := by
  rw [View.readAt_eq_ld, harg2.read_unread]
  exact View.ld_unit_zero (by funext a; match a with | 0 => rfl | 1 => rfl | 2 => rfl | 3 => rfl | 4 => rfl) _ _
theorem load3 (arg3 : Memref sig .tc .vmem S64x1 .f32) (harg3 : arg3.IsWhole) (x : Vec F S64x1 .f32) :
    arg3.view.readAt (Elt F) (Rect.unit (s := S64x1) ![0, 0] S64x1.size inb_S64x1_S64x1_0_0).toLoadRect (harg3.unread x) = x := by
  rw [View.readAt_eq_ld, harg3.read_unread]
  exact View.ld_unit_zero (by funext a; match a with | 0 => rfl | 1 => rfl) _ _
theorem store2 {S : Shape} (arg : Memref sig .tc .vmem S .f32) (G : BufTy.Contents (Elt F) arg.view.ty) (off : Fin S.rank → ℕ) (h : off = fun _ => 0)
    (inb : ∀ a, off a + S.size a ≤ S.size a) (w : S.Idx → Elt F .f32) :
    arg.view.read (Elt F) (arg.view.writes (Elt F) G [⟨Rect.unit off S.size inb, w⟩]) = w := read_whole arg.view G off inb h w []

theorem table16 (arg2 : Memref sig .tc .vmem S3x1x1x1x128 .i32) (harg2 : arg2.IsWhole) (arg3 : Memref sig .tc .vmem S64x1 .f32) (harg3 : arg3.IsWhole)
    (arg16 : Memref sig .tc .vmem S128x128 .f32) (G : BufTy.Contents (Elt F) arg16.view.ty) (x0 : Vec F S3x1x1x1x128 .i32) (x1 : Vec F S64x1 .f32) :
    arg16.view.read (Elt F) (arg16.view.writes (Elt F) G [⟨Rect.unit (s := S128x128) ![0, 0] S128x128.size inb_S128x128_S128x128_0_0,
      k0_pay17 (arg2.view.readAt (Elt F) (Rect.unit (s := S3x1x1x1x128) ![0, 0, 0, 0, 0] S3x1x1x1x128.size inb_S3x1x1x1x128_S3x1x1x1x128_0_0_0_0_0).toLoadRect (harg2.unread x0))
        (arg3.view.readAt (Elt F) (Rect.unit (s := S64x1) ![0, 0] S64x1.size inb_S64x1_S64x1_0_0).toLoadRect (harg3.unread x1))⟩]) = k0_pay17 x0 x1 := by
  rw [load2, load3]
  exact store2 arg16 G ![0, 0] (by funext a; match a with | 0 => rfl | 1 => rfl) _ _
theorem table17 (arg2 : Memref sig .tc .vmem S3x1x1x1x128 .i32) (harg2 : arg2.IsWhole) (arg3 : Memref sig .tc .vmem S64x1 .f32) (harg3 : arg3.IsWhole)
    (arg17 : Memref sig .tc .vmem S128x128 .f32) (G : BufTy.Contents (Elt F) arg17.view.ty) (x0 : Vec F S3x1x1x1x128 .i32) (x1 : Vec F S64x1 .f32) :
    arg17.view.read (Elt F) (arg17.view.writes (Elt F) G [⟨Rect.unit (s := S128x128) ![0, 0] S128x128.size inb_S128x128_S128x128_0_0,
      k0_pay18 (arg2.view.readAt (Elt F) (Rect.unit (s := S3x1x1x1x128) ![0, 0, 0, 0, 0] S3x1x1x1x128.size inb_S3x1x1x1x128_S3x1x1x1x128_0_0_0_0_0).toLoadRect (harg2.unread x0))
        (arg3.view.readAt (Elt F) (Rect.unit (s := S64x1) ![0, 0] S64x1.size inb_S64x1_S64x1_0_0).toLoadRect (harg3.unread x1))⟩]) = k0_pay18 x0 x1 := by
  rw [load2, load3]
  exact store2 arg17 G ![0, 0] (by funext a; match a with | 0 => rfl | 1 => rfl) _ _

set_option maxHeartbeats 8000000 in
theorem run0 (c : Dev nD) (i : grid0.Coords) (arg2 : Memref sig .tc .vmem S3x1x1x1x128 .i32) (harg2 : arg2.IsWhole) (arg3 : Memref sig .tc .vmem S64x1 .f32) (harg3 : arg3.IsWhole) (arg4 : Memref sig .tc .vmem S64x128 .f32) (harg4 : arg4.IsWhole) (arg5 : Memref sig .tc .vmem S4x128 .f32) (harg5 : arg5.IsWhole) (arg6 : Memref sig .tc .vmem S1x128x64x128 .bf16) (harg6 : arg6.IsWhole) (arg7 : Memref sig .tc .vmem S1x128x4x128 .bf16) (harg7 : arg7.IsWhole) (arg8 : Memref sig .tc .vmem S1x128x512 .bf16) (harg8 : arg8.IsWhole) (arg9 : Memref sig .tc .vmem S1x128x64x128 .fp8e4m3) (harg9 : arg9.IsWhole) (arg10 : Memref sig .tc .vmem S1x4x128x16x128 .fp8e4m3) (harg10 : arg10.IsWhole) (arg11 : Memref sig .tc .vmem S1x128x4x128 .fp8e4m3) (harg11 : arg11.IsWhole) (arg12 : Memref sig .tc .vmem S1x4x128x128 .fp8e4m3) (harg12 : arg12.IsWhole) (arg13 : Memref sig .tc .vmem S1x4x128x128 .bf16) (harg13 : arg13.IsWhole) (arg14 : Memref sig .tc .vmem S64x128 .f32) (harg14 : arg14.IsWhole) (arg15 : Memref sig .tc .vmem S4x128 .f32) (harg15 : arg15.IsWhole) (arg16 : Memref sig .tc .vmem S128x128 .f32) (harg16 : arg16.IsWhole) (arg17 : Memref sig .tc .vmem S128x128 .f32) (harg17 : arg17.IsWhole)
    (x0 : Vec F S3x1x1x1x128 .i32) (x1 : Vec F S64x1 .f32) (x2 : Vec F S64x128 .f32) (x3 : Vec F S4x128 .f32) (x4 : Vec F S1x128x64x128 .bf16) (x5 : Vec F S1x128x4x128 .bf16) (x6 : Vec F S1x128x512 .bf16) (x12 : Vec F S64x128 .f32) (x13 : Vec F S4x128 .f32) :
      ∀ (E : Set ℕ) (K : PUnit → sProp 𝕄),
        iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (x6) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare (x12) ∗ owns (c : Thread nD τ) arg15 fullShare (x13) ∗ (∃ d, owns (c : Thread nD τ) arg16 fullShare d) ∗ (∃ d, owns (c : Thread nD τ) arg17 fullShare d)
            ∗ (iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (x6) ∗ owns (c : Thread nD τ) arg9 fullShare (qcBlk (k0_pay17 x0 x1) (k0_pay18 x0 x1) x2 x4) ∗ owns (c : Thread nD τ) arg10 fullShare (qtBlk (k0_pay17 x0 x1) (k0_pay18 x0 x1) x2 x4) ∗ owns (c : Thread nD τ) arg11 fullShare (kcBlk (k0_pay17 x0 x1) (k0_pay18 x0 x1) x3 x5) ∗ owns (c : Thread nD τ) arg12 fullShare (ktBlk (kcBlk (k0_pay17 x0 x1) (k0_pay18 x0 x1) x3 x5)) ∗ owns (c : Thread nD τ) arg13 fullShare (vtBlk x6) ∗ owns (c : Thread nD τ) arg14 fullShare (accN (qaStep (k0_pay17 x0 x1) (k0_pay18 x0 x1) x4) 16 (if first0 i then k0_pay14 (F := F) else x12)) ∗ owns (c : Thread nD τ) arg15 fullShare (accN (kaStep (k0_pay17 x0 x1) (k0_pay18 x0 x1) x5) 16 (if first0 i then k0_pay15 (F := F) else x13)) ∗ (∃ d, owns (c : Thread nD τ) arg16 fullShare d) ∗ (∃ d, owns (c : Thread nD τ) arg17 fullShare d)) -∗ K ⟨⟩))
          ⊢ wp frame (wpE (defs₀ (F := F)) Variants.none c none) E (cc0_rope_quant i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  intro E K
  have hcond := cond0_gen (i 0) (i 1)
  simp only [cc0_rope_quant_eq_skeleton]; unfold cc0_rope_quant_skel
  simp only [k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%f12, %hf12, H12⟩, ⟨%f13, %hf13, H13⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg14.eq_unread hf12; obtain rfl := harg15.eq_unread hf13
  by_cases hi : first0 i
  · have hc0 := hcond.2 hi
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro
      rw [out9, harg4.read_unread, harg6.read_unread]
      exact congrArg₂ (fun A B => qcBlk A B x2 x4) (table16 arg2 harg2 arg3 harg3 arg16 _ x0 x1) (table17 arg2 harg2 arg3 harg3 arg17 _ x0 x1)
    isplitl [H8]
    · iexists _; isplitr; swap; · iexact H8
      ipureintro
      rw [out10, harg4.read_unread, harg6.read_unread]
      exact congrArg₂ (fun A B => qtBlk A B x2 x4) (table16 arg2 harg2 arg3 harg3 arg16 _ x0 x1) (table17 arg2 harg2 arg3 harg3 arg17 _ x0 x1)
    isplitl [H9]
    · iexists _; isplitr; swap; · iexact H9
      ipureintro
      rw [out11, harg5.read_unread, harg7.read_unread]
      exact congrArg₂ (fun A B => kcBlk A B x3 x5) (table16 arg2 harg2 arg3 harg3 arg16 _ x0 x1) (table17 arg2 harg2 arg3 harg3 arg17 _ x0 x1)
    isplitl [H10]
    · iexists _; isplitr; swap; · iexact H10
      ipureintro
      refine (heads_read arg12.view _ (ktPiece (arg11.view.read (Elt F) _))).trans ?_
      refine congrArg ktBlk ?_
      rw [out11, harg5.read_unread, harg7.read_unread]
      exact congrArg₂ (fun A B => kcBlk A B x3 x5) (table16 arg2 harg2 arg3 harg3 arg16 _ x0 x1) (table17 arg2 harg2 arg3 harg3 arg17 _ x0 x1)
    isplitl [H11]
    · iexists _; isplitr; swap; · iexact H11
      ipureintro
      rw [show vtBlk x6 = vtBlk (arg8.view.read (Elt F) (harg8.unread x6)) by rw [harg8.read_unread]]
      exact heads_read arg13.view _ (vtPiece (arg8.view.read (Elt F) (harg8.unread x6)))
    isplitl [H12]
    · iexists _; isplitr; swap; · iexact H12
      ipureintro
      rw [View.writes_append]
      rw [out14, harg6.read_unread]
      rw [if_pos hi]
      refine (congrArg₂ (fun A B => accN (qaStep A B x4) 16 _) (table16 arg2 harg2 arg3 harg3 arg16 _ x0 x1) (table17 arg2 harg2 arg3 harg3 arg17 _ x0 x1)).trans ?_
      refine congrArg (accN (qaStep (k0_pay17 x0 x1) (k0_pay18 x0 x1) x4) 16) ?_
      exact store2 arg14 _ ![0, 0] (by funext a; match a with | 0 => rfl | 1 => rfl) _ _
    isplitl [H13]
    · iexists _; isplitr; swap; · iexact H13
      ipureintro
      rw [View.writes_append]
      rw [out15, harg7.read_unread]
      rw [if_pos hi]
      refine (congrArg₂ (fun A B => accN (kaStep A B x5) 16 _) (table16 arg2 harg2 arg3 harg3 arg16 _ x0 x1) (table17 arg2 harg2 arg3 harg3 arg17 _ x0 x1)).trans ?_
      refine congrArg (accN (kaStep (k0_pay17 x0 x1) (k0_pay18 x0 x1) x5) 16) ?_
      exact store2 arg15 _ ![0, 0] (by funext a; match a with | 0 => rfl | 1 => rfl) _ _
    isplitl [HS0]
    · iexists _, _; isplitr; swap; · iexact HS0
      ipureintro; rfl
    iexists _, _; isplitr; swap; · iexact HS1
    ipureintro; rfl
  · have hc0 := fun h => hi (hcond.1 h)
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro
      rw [out9, harg4.read_unread, harg6.read_unread]
      exact congrArg₂ (fun A B => qcBlk A B x2 x4) (table16 arg2 harg2 arg3 harg3 arg16 _ x0 x1) (table17 arg2 harg2 arg3 harg3 arg17 _ x0 x1)
    isplitl [H8]
    · iexists _; isplitr; swap; · iexact H8
      ipureintro
      rw [out10, harg4.read_unread, harg6.read_unread]
      exact congrArg₂ (fun A B => qtBlk A B x2 x4) (table16 arg2 harg2 arg3 harg3 arg16 _ x0 x1) (table17 arg2 harg2 arg3 harg3 arg17 _ x0 x1)
    isplitl [H9]
    · iexists _; isplitr; swap; · iexact H9
      ipureintro
      rw [out11, harg5.read_unread, harg7.read_unread]
      exact congrArg₂ (fun A B => kcBlk A B x3 x5) (table16 arg2 harg2 arg3 harg3 arg16 _ x0 x1) (table17 arg2 harg2 arg3 harg3 arg17 _ x0 x1)
    isplitl [H10]
    · iexists _; isplitr; swap; · iexact H10
      ipureintro
      refine (heads_read arg12.view _ (ktPiece (arg11.view.read (Elt F) _))).trans ?_
      refine congrArg ktBlk ?_
      rw [out11, harg5.read_unread, harg7.read_unread]
      exact congrArg₂ (fun A B => kcBlk A B x3 x5) (table16 arg2 harg2 arg3 harg3 arg16 _ x0 x1) (table17 arg2 harg2 arg3 harg3 arg17 _ x0 x1)
    isplitl [H11]
    · iexists _; isplitr; swap; · iexact H11
      ipureintro
      rw [show vtBlk x6 = vtBlk (arg8.view.read (Elt F) (harg8.unread x6)) by rw [harg8.read_unread]]
      exact heads_read arg13.view _ (vtPiece (arg8.view.read (Elt F) (harg8.unread x6)))
    isplitl [H12]
    · iexists _; isplitr; swap; · iexact H12
      ipureintro
      rw [out14, harg6.read_unread]
      rw [if_neg hi, harg14.read_unread]
      exact congrArg₂ (fun A B => accN (qaStep A B x4) 16 x12) (table16 arg2 harg2 arg3 harg3 arg16 _ x0 x1) (table17 arg2 harg2 arg3 harg3 arg17 _ x0 x1)
    isplitl [H13]
    · iexists _; isplitr; swap; · iexact H13
      ipureintro
      rw [out15, harg7.read_unread]
      rw [if_neg hi, harg15.read_unread]
      exact congrArg₂ (fun A B => accN (kaStep A B x5) 16 x13) (table16 arg2 harg2 arg3 harg3 arg16 _ x0 x1) (table17 arg2 harg2 arg3 harg3 arg17 _ x0 x1)
    isplitl [HS0]
    · iexists _, _; isplitr; swap; · iexact HS0
      ipureintro; rfl
    iexists _, _; isplitr; swap; · iexact HS1
    ipureintro; rfl

end Cert.KernelIdeal.Rope

end
-- ==== Proof.AttnTile.lean ====
/- One tile of the attention kernel, stated once for every number of keys: sixteen query rows of sixteen heads against the
   first `b + 128` keys. Both printed programs (at bits and at the ideal instance) use these definitions, so nothing here
   mentions either. -/
module

public import Idealize.ShloMosaic.Lib.Exec
public import Idealize.ShloMosaic.Lib.Tactic
public import Idealize.ShloMosaic.Lib.MatmulPlain
public import Idealize.ShloMosaic.Lib.WritesUnit
public import Idealize.ShloMosaic.Lib.Pipeline.Value
public import Idealize.ShloMosaic.Lib.Pipeline.FrameBody
public import Idealize.ShloMosaic.Lib.Pipeline.Kit

@[expose] public section

set_option maxRecDepth 8192

noncomputable section

namespace Cert.Attn

open Idealize.ShloMosaic Idealize.ShloMosaic.TcCoe

variable {F : FTy → Type} [FloatOps F]

/-- Scores of one tile: keys by (query row, head). -/
abbrev SS (b : ℕ) : Shape := ⟨2, ![b + 128, 256]⟩
abbrev SK4 (b : ℕ) : Shape := ⟨4, ![1, 1, b + 128, 128]⟩
abbrev SK (b : ℕ) : Shape := ⟨2, ![b + 128, 128]⟩
abbrev SV4 (b : ℕ) : Shape := ⟨4, ![1, 1, 128, b + 128]⟩
abbrev SV (b : ℕ) : Shape := ⟨2, ![128, b + 128]⟩
abbrev SL : Shape := ⟨2, ![128, 256]⟩
abbrev SC : Shape := ⟨2, ![1, 256]⟩
abbrev SM : Shape := ⟨1, ![256]⟩
abbrev SQ5 : Shape := ⟨5, ![1, 1, 16, 16, 128]⟩
abbrev SQ3 : Shape := ⟨3, ![16, 16, 128]⟩
abbrev SQ : Shape := ⟨2, ![256, 128]⟩
abbrev SOT : Shape := ⟨2, ![128, 256]⟩
abbrev SH1 : Shape := ⟨3, ![16, 1, 128]⟩
abbrev SH : Shape := ⟨2, ![16, 128]⟩
abbrev SH3 : Shape := ⟨3, ![1, 16, 128]⟩
abbrev SO : Shape := ⟨3, ![1, 128, 2048]⟩
abbrev SCR : Shape := ⟨2, ![2048, 256]⟩

/-- The shape facts a tile over `b + 128` keys needs. -/
structure TileFacts (b : ℕ) : Prop where
  le : b + 128 ≤ 2048
  scK : (SK4 b).ShapeCasts (SK b)
  bc : SC.Broadcasts (SS b)
  scS : (SS b).ShapeCasts (SS b)
  red : (SS b).Reduces [0] SM
  scV : (SV4 b).ShapeCasts (SV b)
  in8 : ∀ a, (![0, 0] : Fin 2 → ℕ) a + (SS b).size a ≤ SCR.size a
  inl : ∀ a, (![b, 0] : Fin 2 → ℕ) a + SL.size a ≤ SCR.size a
  inK : ∀ a, (![0, 0, 0, 0] : Fin 4 → ℕ) a + (SK4 b).size a ≤ (⟨4, ![1, 1, 2048, 128]⟩ : Shape).size a
  inV : ∀ a, (![0, 0, 0, 0] : Fin 4 → ℕ) a + (SV4 b).size a ≤ (⟨4, ![1, 1, 128, 2048]⟩ : Shape).size a

theorem scQ5 : SQ5.ShapeCasts SQ3 := by decide
theorem scQ3 : SQ3.ShapeCasts SQ := by decide
theorem scL : SL.ShapeCasts SL := by decide
theorem scM : SM.ShapeCasts SC := by decide
theorem trO : SOT.Transposes [1, 0] SQ := by decide
theorem bcO : SC.Broadcasts SOT := by decide
theorem scO : SQ.ShapeCasts SQ3 := by decide
theorem scH1 : SH1.ShapeCasts SH := by decide
theorem scH : SH.ShapeCasts SH3 := by decide
theorem iota0 : SL.Iotas .tc 32 [0] := by decide
theorem iota1 : SL.Iotas .tc 32 [1] := by decide
theorem nat1_32 : 1 < 32 := by decide
theorem bfLt : FTy.bits .bf16 < FTy.bits .f32 := by decide
theorem slH (h : Fin 16) : SQ3.Slices ![0, h.val, 0] SH1 := by revert h; decide

/-- Scaled scores of the tile, before the mask: keys times queries, times the coefficient of the head. -/
def scores (b : ℕ) (T : TileFacts b) (v3 : FVec F SC .f32) (q : Vec F SQ5 .fp8e4m3) (k : Vec F (SK4 b) .fp8e4m3) :
    FVec F (SS b) .f32 :=
  shapeCast (SS b) (mulf (matmul (DotDims.transposedRhs (b + 128) 128 256) none (shapeCast (SK b) k T.scK)
    (shapeCast SQ (shapeCast SQ3 q scQ5) scQ3) (constant (SS b) .f32 0x00000000#32)) (broadcastTo (SS b) v3 T.bc)) T.scS

/-- The causal mask on the last 128 keys of the tile, `w` the first query row of the tile within its block. -/
def maskLast (w : BitVec 32) (x : Vec F SL .f32) : FVec F SL .f32 :=
  have cols : IVec SL 32 := iota .tc SL 32 [1] iota1
  have v70 : IVec SL 32 := divsi cols (broadcast SL 16#32)
  have v77 : IVec SL 32 := subi (extui 32 (cmpi .sgt cols (broadcast SL 0#32)) nat1_32) (extui 32 (cmpi .slt cols (broadcast SL 0#32)) nat1_32)
  have v82 : BitVec 32 := Scalar.subi (Scalar.extui (Scalar.cmpi .sgt 16#32 0#32)) (Scalar.extui (Scalar.cmpi .slt 16#32 0#32))
  have v89 : IVec SL 1 := andi (cmpi .ne v77 (broadcast SL v82)) (cmpi .ne (remsi cols (broadcast SL 16#32)) (broadcast SL 0#32))
  have v92 : IVec SL 32 := select v89 (subi v70 (broadcast SL 1#32)) v70
  have v95 : IVec SL 1 := cmpi .sle (iota .tc SL 32 [0] iota0) (addi (broadcast SL w) v92)
  have v98 : Vec F SL .f32 := select v95 x (broadcast SL (Scalar.ofBits .f32 0xFF800000#32 : F .f32))
  shapeCast SL v98 scL

/-- The exponentials of a tile, each taken relative to the largest score of its column. -/
def expo (b : ℕ) (T : TileFacts b) (x : Vec F (SS b) .f32) : FVec F (SS b) .f32 :=
  exp2 (subf x (broadcastTo (SS b) (shapeCast SC (multiReduction .maximumf [0] SM x 0xFF800000#32 T.red (.inl rfl) rfl) scM) T.bc))

/-- The output of the tile from its masked scores and its values. -/
def soft (b : ℕ) (T : TileFacts b) (x : Vec F (SS b) .f32) (v : Vec F (SV4 b) .bf16) : FVec F SQ3 .f32 :=
  shapeCast SQ3 (transpose SQ [1, 0]
    (mulf (matmul (DotDims.plain 128 (b + 128) 256) none (shapeCast (SV b) v T.scV) (truncf .bf16 (expo b T x) bfLt)
        (constant SOT .f32 0x00000000#32))
      (broadcastTo SOT (divf (broadcast SC (Scalar.ofBits .f32 0x3F800000#32 : F .f32))
        (shapeCast SC (multiReduction .add [0] SM (expo b T x) 0x00000000#32 T.red (.inl rfl) rfl) scM)) bcO)) trO) scO

/-- Head `h` of a tile's output, as it is stored. -/
def headPay (h : Fin 16) (o : FVec F SQ3 .f32) : FVec F SH3 .bf16 :=
  shapeCast SH3 (truncf .bf16 (shapeCast SH (extractStridedSlice SH1 ![0, h.val, 0] o (slH h)) scH1) bfLt) scH

/-- The store of head `h`. -/
def headPiece (off : Fin 16 → Fin 3 → ℕ) (inb : ∀ h a, off h a + SH3.size a ≤ SO.size a) (o : FVec F SQ3 .f32) (h : Fin 16) :
    View.Piece (Elt F) SO .bf16 := ⟨Rect.unit (off h) SH3.size (inb h), headPay h o⟩

/-- The stores of a tile's sixteen heads, the last first. -/
def headPieces (off : Fin 16 → Fin 3 → ℕ) (inb : ∀ h a, off h a + SH3.size a ≤ SO.size a) (o : FVec F SQ3 .f32) :
    List (View.Piece (Elt F) SO .bf16) :=
  [headPiece off inb o 15, headPiece off inb o 14, headPiece off inb o 13, headPiece off inb o 12, headPiece off inb o 11,
   headPiece off inb o 10, headPiece off inb o 9, headPiece off inb o 8, headPiece off inb o 7, headPiece off inb o 6,
   headPiece off inb o 5, headPiece off inb o 4, headPiece off inb o 3, headPiece off inb o 2, headPiece off inb o 1,
   headPiece off inb o 0]

/-- The masked scores as the kernel reads them back from its scratch: the scores stored, the last 128 rows of them masked
    and stored over. -/
def readBack (b : ℕ) (T : TileFacts b) {sig : RefSig} {κ : Kind} {sp : Space} (v : View sig κ sp SCR .f32) (w : BitVec 32)
    (s : FVec F (SS b) .f32) : Vec F (SS b) .f32 :=
  v.readCov (Val := Elt F) [⟨Rect.unit (s := SCR) ![b, 0] SL.size T.inl, maskLast w (v.readCov (Val := Elt F) [⟨Rect.unit (s := SCR) ![0, 0] (SS b).size T.in8, s⟩]
      (Rect.unit (s := SCR) ![b, 0] SL.size T.inl).toLoadRect)⟩, ⟨Rect.unit (s := SCR) ![0, 0] (SS b).size T.in8, s⟩]
    (Rect.unit (s := SCR) ![0, 0] (SS b).size T.in8).toLoadRect

/-- One tile as the kernel computes it: from the coefficients, the queries of the tile, and the key and value blocks. -/
def tileK (b : ℕ) (T : TileFacts b) {sig : RefSig} {κ : Kind} {sp : Space} (v : View sig κ sp SCR .f32) (w : BitVec 32)
    (v3 : FVec F SC .f32) (q : Vec F SQ5 .fp8e4m3) (k : Vec F (SK4 b) .fp8e4m3) (vv : Vec F (SV4 b) .bf16) : FVec F SQ3 .f32 :=
  soft b T (readBack b T v w (scores b T v3 q k)) vv

/-- The number of a head and of a column within it, of an element of the output block. -/
abbrev headOf (y : SO.Idx) : Fin 16 := ⟨(y 2).val / 128, by have h : (y 2).val < 2048 := (y 2).isLt; omega⟩
abbrev inHead (y : SO.Idx) : SH3.Idx := Fin.cons ⟨0, by decide⟩ (Fin.cons ⟨(y 1).val % 16, Nat.mod_lt _ (by decide)⟩
  (Fin.cons ⟨(y 2).val % 128, Nat.mod_lt _ (by decide)⟩ finZeroElim))

/-- The output block of one grid point from its eight tiles. -/
def outVal (o : ℕ → FVec F SQ3 .f32) (y : SO.Idx) : F .bf16 := headPay (headOf y) (o ((y 1).val / 16)) (inHead y)

theorem headPiece_val (off : Fin 16 → Fin 3 → ℕ) (inb : ∀ h a, off h a + SH3.size a ≤ SO.size a) (o : ℕ → FVec F SQ3 .f32) (k : ℕ)
    (hoff : ∀ h : Fin 16, off h = ![0, 16 * k, 128 * h.val]) (h : Fin 16) (x : SH3.Idx) :
    (headPiece off inb (o k) h).2 x = outVal o ((headPiece off inb (o k) h).1.emb x) := by
  have e1 : ((headPiece off inb (o k) h).1.emb x 1).val = 16 * k + (x 1).val := by
    show off h 1 + 1 * (x 1).val = _
    rw [hoff h]; simp
  have e2 : ((headPiece off inb (o k) h).1.emb x 2).val = 128 * h.val + (x 2).val := by
    show off h 2 + 1 * (x 2).val = _
    rw [hoff h]; simp
  have l1 : (x 1).val < 16 := (x 1).isLt
  have l2 : (x 2).val < 128 := (x 2).isLt
  have l0 : (x 0).val < 1 := (x 0).isLt
  have a1 : headOf ((headPiece off inb (o k) h).1.emb x) = h := Fin.ext (by show ((headPiece off inb (o k) h).1.emb x 2).val / 128 = h.val; omega)
  have a2 : ((headPiece off inb (o k) h).1.emb x 1).val / 16 = k := by omega
  have a3 : inHead ((headPiece off inb (o k) h).1.emb x) = x := by
    funext a; apply Fin.ext
    match a with
    | 0 => show 0 = (x 0).val; omega
    | 1 => show ((headPiece off inb (o k) h).1.emb x 1).val % 16 = (x 1).val; omega
    | 2 => show ((headPiece off inb (o k) h).1.emb x 2).val % 128 = (x 2).val; omega
  unfold outVal
  rw [a1, a2, a3]; rfl

theorem mem_headPieces (off : Fin 16 → Fin 3 → ℕ) (inb : ∀ h a, off h a + SH3.size a ≤ SO.size a) (o : FVec F SQ3 .f32)
    (p : View.Piece (Elt F) SO .bf16) : p ∈ headPieces off inb o ↔ ∃ h, p = headPiece off inb o h := by
  constructor
  · intro hp
    simp only [headPieces, List.mem_cons, List.not_mem_nil, or_false] at hp
    rcases hp with h | h | h | h | h | h | h | h | h | h | h | h | h | h | h | h <;> exact ⟨_, h⟩
  · rintro ⟨h, rfl⟩
    simp only [headPieces, List.mem_cons, List.not_mem_nil, or_false]
    fin_cases h <;> simp

/-- The loop over the eight tiles of a grid point leaves the output block `outVal o`, whatever the block held before. -/
theorem loop_out {sig : RefSig} {κ : Kind} {sp : Space} (v : View sig κ sp SO .bf16) (G : v.ty.Contents (Elt F))
    (pb : ℕ → List (View.Piece (Elt F) SO .bf16)) (o : ℕ → FVec F SQ3 .f32) (h0 : pb 0 = [])
    (hs : ∀ k, k < 8 → ∃ (off : Fin 16 → Fin 3 → ℕ) (inb : ∀ h a, off h a + SH3.size a ≤ SO.size a),
      (∀ h : Fin 16, off h = ![0, 16 * k, 128 * h.val]) ∧ pb (k + 1) = headPieces off inb (o k) ++ pb k) :
    v.read (Elt F) (v.writes (Elt F) G (pb 8)) = outVal o := by
  have A : ∀ k, k ≤ 8 → ∀ p ∈ pb k, ∀ x : p.1.shape.Idx, p.2 x = outVal o (p.1.emb x) := by
    intro k
    induction k with
    | zero => intro _ p hp; rw [h0] at hp; exact absurd hp List.not_mem_nil
    | succ k ih =>
      intro hk p hp
      obtain ⟨off, inb, hoff, e⟩ := hs k (by omega)
      rw [e, List.mem_append, mem_headPieces] at hp
      rcases hp with ⟨h, rfl⟩ | hp
      · exact headPiece_val off inb o k hoff h
      · exact ih (by omega) p hp
  have B : ∀ k, k ≤ 8 → ∀ y : SO.Idx, (y 1).val < 16 * k → ∃ p ∈ pb k, y ∈ p.1.set := by
    intro k
    induction k with
    | zero => intro _ y hy; omega
    | succ k ih =>
      intro hk y hy
      obtain ⟨off, inb, hoff, e⟩ := hs k (by omega)
      rw [e]
      by_cases hlt : (y 1).val < 16 * k
      · obtain ⟨p, hp, hm⟩ := ih (by omega) y hlt
        exact ⟨p, List.mem_append_right _ hp, hm⟩
      · refine ⟨headPiece off inb (o k) (headOf y), List.mem_append_left _ ((mem_headPieces _ _ _ _).2 ⟨_, rfl⟩), ?_⟩
        have l0 : (y 0).val < 1 := (y 0).isLt
        have l2 : (y 2).val < 2048 := (y 2).isLt
        show y ∈ (Rect.unit (s := SO) (off (headOf y)) SH3.size (inb (headOf y))).set
        rw [Rect.mem_set_unit, hoff]
        intro a
        match a with
        | 0 => exact ⟨Nat.zero_le _, by show (y 0).val < 0 + 1; omega⟩
        | 1 => exact ⟨by show 16 * k ≤ (y 1).val; omega, by show (y 1).val < 16 * k + 16; omega⟩
        | 2 => exact ⟨by show 128 * ((y 2).val / 128) ≤ (y 2).val; omega, by show (y 2).val < 128 * ((y 2).val / 128) + 128; omega⟩
  funext y
  exact View.read_writes_apply_of_pieces v G (outVal o) (pb 8) (A 8 le_rfl) y (B 8 le_rfl y (y 1).isLt)

/-- The queries of tile `k` of a block. -/
def qTile (X : (⟨5, ![1, 1, 128, 16, 128]⟩ : Shape).Idx → F .fp8e4m3) (k : ℕ) : Vec F SQ5 .fp8e4m3 :=
  fun j => X (Fin.cons ⟨0, by decide⟩ (Fin.cons ⟨0, by decide⟩ (Fin.cons ⟨(16 * k + (j 2).val) % 128, Nat.mod_lt _ (by decide)⟩
    (Fin.cons (j 3) (Fin.cons (j 4) finZeroElim)))))

theorem ld_qTile (X : (⟨5, ![1, 1, 128, 16, 128]⟩ : Shape).Idx → F .fp8e4m3) (k : ℕ) (hk : k < 8) (off : Fin 5 → ℕ)
    (inb : ∀ a, off a + SQ5.size a ≤ (⟨5, ![1, 1, 128, 16, 128]⟩ : Shape).size a) (hoff : off = ![0, 0, 16 * k, 0, 0]) :
    View.ld (Val := Elt F) (e' := .fp8e4m3) X (Rect.unit (s := ⟨5, ![1, 1, 128, 16, 128]⟩) off SQ5.size inb) = qTile X k := by
  subst hoff
  funext j
  refine congrArg X (funext fun a => Fin.ext ?_)
  have l0 : (j 0).val < 1 := (j 0).isLt
  have l1 : (j 1).val < 1 := (j 1).isLt
  have l2 : (j 2).val < 16 := (j 2).isLt
  match a with
  | 0 => show 0 + 1 * (j 0).val = 0; omega
  | 1 => show 0 + 1 * (j 1).val = 0; omega
  | 2 => show 16 * k + 1 * (j 2).val = (16 * k + (j 2).val) % 128; omega
  | 3 => show 0 + 1 * (j 3).val = (j 3).val; omega
  | 4 => show 0 + 1 * (j 4).val = (j 4).val; omega

/-- The keys and the values a tile reads: the first `b + 128` of the sequence. -/
def kPart (b : ℕ) (T : TileFacts b) (X : (⟨4, ![1, 1, 2048, 128]⟩ : Shape).Idx → F .fp8e4m3) : Vec F (SK4 b) .fp8e4m3 :=
  View.ld (Val := Elt F) (e' := .fp8e4m3) X (Rect.unit (s := ⟨4, ![1, 1, 2048, 128]⟩) ![0, 0, 0, 0] (SK4 b).size T.inK)
def vPart (b : ℕ) (T : TileFacts b) (X : (⟨4, ![1, 1, 128, 2048]⟩ : Shape).Idx → F .bf16) : Vec F (SV4 b) .bf16 :=
  View.ld (Val := Elt F) (e' := .bf16) X (Rect.unit (s := ⟨4, ![1, 1, 128, 2048]⟩) ![0, 0, 0, 0] (SV4 b).size T.inV)

/-- The scores with the last 128 keys masked. -/
def masked (b : ℕ) (w : BitVec 32) (s : FVec F (SS b) .f32) : FVec F (SS b) .f32 := fun y =>
  if h : b ≤ (y 0).val then
    maskLast w (fun j => s (Fin.cons ⟨b + (j 0).val, Nat.add_lt_add_left (j 0).isLt b⟩ (Fin.cons (j 1) finZeroElim)))
      (Fin.cons ⟨(y 0).val - b, by have l : (y 0).val < b + 128 := (y 0).isLt; show _ < 128; omega⟩ (Fin.cons (y 1) finZeroElim))
  else s y

theorem readBack_eq (b : ℕ) (T : TileFacts b) {sig : RefSig} {κ : Kind} {sp : Space} (v : View sig κ sp SCR .f32) (w : BitVec 32)
    (s : FVec F (SS b) .f32) : readBack b T v w s = masked b w s := by
  have hin : v.readCov (Val := Elt F) [⟨Rect.unit (s := SCR) ![0, 0] (SS b).size T.in8, s⟩]
      (Rect.unit (s := SCR) ![b, 0] SL.size T.inl).toLoadRect
      = fun j => s (Fin.cons ⟨b + (j 0).val, Nat.add_lt_add_left (j 0).isLt b⟩ (Fin.cons (j 1) finZeroElim)) := by
    funext j
    refine View.read_writes_cons_unit_of_mem (Val := Elt F) (e := .f32) (off' := ![0, 0]) v v.junk T.in8 s [] _ _ rfl fun a => ?_
    match a with
    | 0 => show b + 1 * (j 0).val = 0 + (b + (j 0).val); omega
    | 1 => show 0 + 1 * (j 1).val = 0 + (j 1).val; omega
  unfold readBack
  rw [hin]
  funext y
  have l0 : (y 0).val < b + 128 := (y 0).isLt
  unfold masked
  by_cases h : b ≤ (y 0).val
  · rw [dif_pos h]
    refine View.read_writes_cons_unit_of_mem (Val := Elt F) (e := .f32) (off' := ![b, 0]) v v.junk T.inl _ _ _ _ rfl fun a => ?_
    match a with
    | 0 => show 0 + 1 * (y 0).val = b + ((y 0).val - b); omega
    | 1 => show 0 + 1 * (y 1).val = 0 + (y 1).val; omega
  · rw [dif_neg h]
    refine (View.read_writes_cons_unit_of_not_mem (Val := Elt F) (e := .f32) (off' := ![b, 0]) v v.junk T.inl _ _ _ rfl 0
      (Or.inl (by show 0 + 1 * (y 0).val < b; omega))).trans ?_
    refine View.read_writes_cons_unit_of_mem (Val := Elt F) (e := .f32) (off' := ![0, 0]) v v.junk T.in8 s [] _ _ rfl fun a => ?_
    match a with
    | 0 => show 0 + 1 * (y 0).val = 0 + (y 0).val; omega
    | 1 => show 0 + 1 * (y 1).val = 0 + (y 1).val; omega

/-- One tile as a function of its inputs: the coefficients, the query block, the keys and values of the sequence, the number of
    keys before the block and the number of the tile in the block. -/
def tile (b : ℕ) (T : TileFacts b) (v3 : FVec F SC .f32) (Q : (⟨5, ![1, 1, 128, 16, 128]⟩ : Shape).Idx → F .fp8e4m3)
    (K : (⟨4, ![1, 1, 2048, 128]⟩ : Shape).Idx → F .fp8e4m3) (V : (⟨4, ![1, 1, 128, 2048]⟩ : Shape).Idx → F .bf16) (k : ℕ) :
    FVec F SQ3 .f32 :=
  soft b T (masked b (Scalar.muli (Scf.iv 0#32 1#32 k) 16#32) (scores b T v3 (qTile Q k) (kPart b T K))) (vPart b T V)

/-- The loop over the eight tiles, each stored as the kernel computes it, leaves the output block of `tile`. -/
theorem loop_tiles (b : ℕ) (T : TileFacts b) {sig : RefSig} {κ : Kind} {sp : Space} (v : View sig κ sp SO .bf16) (G : v.ty.Contents (Elt F))
    (v8 : View sig κ sp SCR .f32) (pb : ℕ → List (View.Piece (Elt F) SO .bf16)) (v3 : FVec F SC .f32)
    (Q : (⟨5, ![1, 1, 128, 16, 128]⟩ : Shape).Idx → F .fp8e4m3)
    (K : (⟨4, ![1, 1, 2048, 128]⟩ : Shape).Idx → F .fp8e4m3) (V : (⟨4, ![1, 1, 128, 2048]⟩ : Shape).Idx → F .bf16)
    (h0 : pb 0 = [])
    (hs : ∀ k, k < 8 → ∃ (off : Fin 16 → Fin 3 → ℕ) (inb : ∀ h a, off h a + SH3.size a ≤ SO.size a) (offq : Fin 5 → ℕ)
      (inbq : ∀ a, offq a + SQ5.size a ≤ (⟨5, ![1, 1, 128, 16, 128]⟩ : Shape).size a),
      (∀ h : Fin 16, off h = ![0, 16 * k, 128 * h.val]) ∧ offq = ![0, 0, 16 * k, 0, 0] ∧
      pb (k + 1) = headPieces off inb (tileK b T v8 (Scalar.muli (Scf.iv 0#32 1#32 k) 16#32) v3
        (View.ld (Val := Elt F) (e' := .fp8e4m3) Q (Rect.unit (s := ⟨5, ![1, 1, 128, 16, 128]⟩) offq SQ5.size inbq)) (kPart b T K) (vPart b T V)) ++ pb k) :
    v.read (Elt F) (v.writes (Elt F) G (pb 8)) = outVal (tile b T v3 Q K V) := by
  refine loop_out v G pb _ h0 fun k hk => ?_
  obtain ⟨off, inb, offq, inbq, h1, h2, h3⟩ := hs k hk
  refine ⟨off, inb, h1, ?_⟩
  rw [h3, ld_qTile Q k hk offq inbq h2]
  unfold tileK tile
  rw [readBack_eq]

end Cert.Attn

end
-- ==== Proof.AttnLoops.lean ====
/- What each of the sixteen counted loops of the attention kernel leaves in the output block (`KernelIdeal`): loop `N` runs at the
   grid points whose query block is number `N - 1`, and its tiles see the first `128 N` keys. The stores of one trip are
   those of `Cert.Attn.tileK` by unfolding; the loop is then `Cert.Attn.loop_tiles`. -/
module

public import proofs.«01_k».proof.Proof.AttnTile
public import proofs.«01_k».proof.Proof.Gen.KernelIdeal.Loops

@[expose] public section

set_option maxRecDepth 8192
set_option maxHeartbeats 4000000

noncomputable section

namespace Cert.KernelIdeal.Attn

open Idealize.ShloMosaic Idealize.ShloMosaic.TcCoe Idealize.ShloMosaic.Tactic
open Cert.KernelIdeal Cert.KernelIdeal.Gen Cert.Attn

variable {F : FTy → Type} [FloatOps F] [Named F]

theorem facts1 : TileFacts 0 := by constructor <;> decide

/-- Loop 1 leaves the output block of the tiles over the first 128 keys. -/
theorem out_t1 (𝒱 : Variants) (c : Dev nD) (bd : Option 𝒱.V) (i : grid1.Coords) (arg3 : Memref sig .tc .vmem S1x1x128x16x128 .fp8e4m3) (harg3 : arg3.IsWhole) (arg4 : Memref sig .tc .vmem S1x1x2048x128 .fp8e4m3) (harg4 : arg4.IsWhole) (arg5 : Memref sig .tc .vmem S1x1x128x2048 .bf16) (harg5 : arg5.IsWhole) (arg6 : Memref sig .tc .vmem S1x1x256 .f32) (harg6 : arg6.IsWhole) (arg7 : Memref sig .tc .vmem S1x128x2048 .bf16) (harg7 : arg7.IsWhole) (arg8 : Memref sig .tc .vmem S2048x256 .f32) (harg8 : arg8.IsWhole) (v0 : Vec F S1x1x256 .f32) (k1_h1 : k1_cond1 i = 1#1) (X_arg3 : BufTy.Contents (Elt F) arg3.view.ty) (X_arg4 : BufTy.Contents (Elt F) arg4.view.ty) (X_arg5 : BufTy.Contents (Elt F) arg5.view.ty) (G7 : BufTy.Contents (Elt F) arg7.view.ty) (G8 : BufTy.Contents (Elt F) arg8.view.ty) :
    arg7.view.read (Elt F) (arg7.view.writes (Elt F) G7 (pb_k1_t1 (F := F) 𝒱 c bd i arg3 harg3 arg4 harg4 arg5 harg5 arg6 harg6 arg7 harg7 arg8 harg8 v0 k1_h1 X_arg3 X_arg4 X_arg5 G7 G8 k1_t1_loop.trips).1)
      = outVal (tile 0 facts1 (k1_pay377 v0) (arg3.view.read (Elt F) X_arg3) (arg4.view.read (Elt F) X_arg4) (arg5.view.read (Elt F) X_arg5)) := by
  refine loop_tiles 0 facts1 arg7.view G7 arg8.view (fun j => (pb_k1_t1 (F := F) 𝒱 c bd i arg3 harg3 arg4 harg4 arg5 harg5 arg6 harg6 arg7 harg7 arg8 harg8 v0 k1_h1 X_arg3 X_arg4 X_arg5 G7 G8 j).1) _ _ _ _ rfl fun k hk => ?_
  have hs := congrArg Prod.fst (pb_k1_t1_succ (F := F) 𝒱 c bd i arg3 harg3 arg4 harg4 arg5 harg5 arg6 harg6 arg7 harg7 arg8 harg8 v0 k1_h1 X_arg3 X_arg4 X_arg5 G7 G8 ⟨k, hk⟩)
  have hq := k1_off1_eq ⟨k, hk⟩
  refine ⟨![k1_off2 ⟨k, hk⟩, k1_off3 ⟨k, hk⟩, k1_off4 ⟨k, hk⟩, k1_off5 ⟨k, hk⟩, k1_off6 ⟨k, hk⟩, k1_off7 ⟨k, hk⟩, k1_off8 ⟨k, hk⟩, k1_off9 ⟨k, hk⟩, k1_off10 ⟨k, hk⟩, k1_off11 ⟨k, hk⟩, k1_off12 ⟨k, hk⟩, k1_off13 ⟨k, hk⟩, k1_off14 ⟨k, hk⟩, k1_off15 ⟨k, hk⟩, k1_off16 ⟨k, hk⟩, k1_off17 ⟨k, hk⟩], ?_, k1_off1 ⟨k, hk⟩, k1_off1_inb i ⟨k, hk⟩ k1_h1, ?_, hq, ?_⟩
  · intro h
    fin_cases h
    · exact k1_off2_inb i ⟨k, hk⟩ k1_h1
    · exact k1_off3_inb i ⟨k, hk⟩ k1_h1
    · exact k1_off4_inb i ⟨k, hk⟩ k1_h1
    · exact k1_off5_inb i ⟨k, hk⟩ k1_h1
    · exact k1_off6_inb i ⟨k, hk⟩ k1_h1
    · exact k1_off7_inb i ⟨k, hk⟩ k1_h1
    · exact k1_off8_inb i ⟨k, hk⟩ k1_h1
    · exact k1_off9_inb i ⟨k, hk⟩ k1_h1
    · exact k1_off10_inb i ⟨k, hk⟩ k1_h1
    · exact k1_off11_inb i ⟨k, hk⟩ k1_h1
    · exact k1_off12_inb i ⟨k, hk⟩ k1_h1
    · exact k1_off13_inb i ⟨k, hk⟩ k1_h1
    · exact k1_off14_inb i ⟨k, hk⟩ k1_h1
    · exact k1_off15_inb i ⟨k, hk⟩ k1_h1
    · exact k1_off16_inb i ⟨k, hk⟩ k1_h1
    · exact k1_off17_inb i ⟨k, hk⟩ k1_h1
  · intro h
    fin_cases h
    · exact k1_off2_eq ⟨k, hk⟩
    · exact k1_off3_eq ⟨k, hk⟩
    · exact k1_off4_eq ⟨k, hk⟩
    · exact k1_off5_eq ⟨k, hk⟩
    · exact k1_off6_eq ⟨k, hk⟩
    · exact k1_off7_eq ⟨k, hk⟩
    · exact k1_off8_eq ⟨k, hk⟩
    · exact k1_off9_eq ⟨k, hk⟩
    · exact k1_off10_eq ⟨k, hk⟩
    · exact k1_off11_eq ⟨k, hk⟩
    · exact k1_off12_eq ⟨k, hk⟩
    · exact k1_off13_eq ⟨k, hk⟩
    · exact k1_off14_eq ⟨k, hk⟩
    · exact k1_off15_eq ⟨k, hk⟩
    · exact k1_off16_eq ⟨k, hk⟩
    · exact k1_off17_eq ⟨k, hk⟩
  · refine hs.trans ?_
    refine congrArg (· ++ _) ?_
    dsimp only [tripL_k1_t1]
    unfold trip_k1_t1
    rfl

theorem facts2 : TileFacts 128 := by constructor <;> decide

/-- Loop 2 leaves the output block of the tiles over the first 256 keys. -/
theorem out_t2 (𝒱 : Variants) (c : Dev nD) (bd : Option 𝒱.V) (i : grid1.Coords) (arg3 : Memref sig .tc .vmem S1x1x128x16x128 .fp8e4m3) (harg3 : arg3.IsWhole) (arg4 : Memref sig .tc .vmem S1x1x2048x128 .fp8e4m3) (harg4 : arg4.IsWhole) (arg5 : Memref sig .tc .vmem S1x1x128x2048 .bf16) (harg5 : arg5.IsWhole) (arg6 : Memref sig .tc .vmem S1x1x256 .f32) (harg6 : arg6.IsWhole) (arg7 : Memref sig .tc .vmem S1x128x2048 .bf16) (harg7 : arg7.IsWhole) (arg8 : Memref sig .tc .vmem S2048x256 .f32) (harg8 : arg8.IsWhole) (v0 : Vec F S1x1x256 .f32) (k1_h2 : k1_cond2 i = 1#1) (X_arg3 : BufTy.Contents (Elt F) arg3.view.ty) (X_arg4 : BufTy.Contents (Elt F) arg4.view.ty) (X_arg5 : BufTy.Contents (Elt F) arg5.view.ty) (G7 : BufTy.Contents (Elt F) arg7.view.ty) (G8 : BufTy.Contents (Elt F) arg8.view.ty) :
    arg7.view.read (Elt F) (arg7.view.writes (Elt F) G7 (pb_k1_t2 (F := F) 𝒱 c bd i arg3 harg3 arg4 harg4 arg5 harg5 arg6 harg6 arg7 harg7 arg8 harg8 v0 k1_h2 X_arg3 X_arg4 X_arg5 G7 G8 k1_t2_loop.trips).1)
      = outVal (tile 128 facts2 (k1_pay377 v0) (arg3.view.read (Elt F) X_arg3) (arg4.view.read (Elt F) X_arg4) (arg5.view.read (Elt F) X_arg5)) := by
  refine loop_tiles 128 facts2 arg7.view G7 arg8.view (fun j => (pb_k1_t2 (F := F) 𝒱 c bd i arg3 harg3 arg4 harg4 arg5 harg5 arg6 harg6 arg7 harg7 arg8 harg8 v0 k1_h2 X_arg3 X_arg4 X_arg5 G7 G8 j).1) _ _ _ _ rfl fun k hk => ?_
  have hs := congrArg Prod.fst (pb_k1_t2_succ (F := F) 𝒱 c bd i arg3 harg3 arg4 harg4 arg5 harg5 arg6 harg6 arg7 harg7 arg8 harg8 v0 k1_h2 X_arg3 X_arg4 X_arg5 G7 G8 ⟨k, hk⟩)
  have hq := k1_off18_eq ⟨k, hk⟩
  refine ⟨![k1_off19 ⟨k, hk⟩, k1_off20 ⟨k, hk⟩, k1_off21 ⟨k, hk⟩, k1_off22 ⟨k, hk⟩, k1_off23 ⟨k, hk⟩, k1_off24 ⟨k, hk⟩, k1_off25 ⟨k, hk⟩, k1_off26 ⟨k, hk⟩, k1_off27 ⟨k, hk⟩, k1_off28 ⟨k, hk⟩, k1_off29 ⟨k, hk⟩, k1_off30 ⟨k, hk⟩, k1_off31 ⟨k, hk⟩, k1_off32 ⟨k, hk⟩, k1_off33 ⟨k, hk⟩, k1_off34 ⟨k, hk⟩], ?_, k1_off18 ⟨k, hk⟩, k1_off18_inb i ⟨k, hk⟩ k1_h2, ?_, hq, ?_⟩
  · intro h
    fin_cases h
    · exact k1_off19_inb i ⟨k, hk⟩ k1_h2
    · exact k1_off20_inb i ⟨k, hk⟩ k1_h2
    · exact k1_off21_inb i ⟨k, hk⟩ k1_h2
    · exact k1_off22_inb i ⟨k, hk⟩ k1_h2
    · exact k1_off23_inb i ⟨k, hk⟩ k1_h2
    · exact k1_off24_inb i ⟨k, hk⟩ k1_h2
    · exact k1_off25_inb i ⟨k, hk⟩ k1_h2
    · exact k1_off26_inb i ⟨k, hk⟩ k1_h2
    · exact k1_off27_inb i ⟨k, hk⟩ k1_h2
    · exact k1_off28_inb i ⟨k, hk⟩ k1_h2
    · exact k1_off29_inb i ⟨k, hk⟩ k1_h2
    · exact k1_off30_inb i ⟨k, hk⟩ k1_h2
    · exact k1_off31_inb i ⟨k, hk⟩ k1_h2
    · exact k1_off32_inb i ⟨k, hk⟩ k1_h2
    · exact k1_off33_inb i ⟨k, hk⟩ k1_h2
    · exact k1_off34_inb i ⟨k, hk⟩ k1_h2
  · intro h
    fin_cases h
    · exact k1_off19_eq ⟨k, hk⟩
    · exact k1_off20_eq ⟨k, hk⟩
    · exact k1_off21_eq ⟨k, hk⟩
    · exact k1_off22_eq ⟨k, hk⟩
    · exact k1_off23_eq ⟨k, hk⟩
    · exact k1_off24_eq ⟨k, hk⟩
    · exact k1_off25_eq ⟨k, hk⟩
    · exact k1_off26_eq ⟨k, hk⟩
    · exact k1_off27_eq ⟨k, hk⟩
    · exact k1_off28_eq ⟨k, hk⟩
    · exact k1_off29_eq ⟨k, hk⟩
    · exact k1_off30_eq ⟨k, hk⟩
    · exact k1_off31_eq ⟨k, hk⟩
    · exact k1_off32_eq ⟨k, hk⟩
    · exact k1_off33_eq ⟨k, hk⟩
    · exact k1_off34_eq ⟨k, hk⟩
  · refine hs.trans ?_
    refine congrArg (· ++ _) ?_
    dsimp only [tripL_k1_t2]
    unfold trip_k1_t2
    rfl

theorem facts3 : TileFacts 256 := by constructor <;> decide

/-- Loop 3 leaves the output block of the tiles over the first 384 keys. -/
theorem out_t3 (𝒱 : Variants) (c : Dev nD) (bd : Option 𝒱.V) (i : grid1.Coords) (arg3 : Memref sig .tc .vmem S1x1x128x16x128 .fp8e4m3) (harg3 : arg3.IsWhole) (arg4 : Memref sig .tc .vmem S1x1x2048x128 .fp8e4m3) (harg4 : arg4.IsWhole) (arg5 : Memref sig .tc .vmem S1x1x128x2048 .bf16) (harg5 : arg5.IsWhole) (arg6 : Memref sig .tc .vmem S1x1x256 .f32) (harg6 : arg6.IsWhole) (arg7 : Memref sig .tc .vmem S1x128x2048 .bf16) (harg7 : arg7.IsWhole) (arg8 : Memref sig .tc .vmem S2048x256 .f32) (harg8 : arg8.IsWhole) (v0 : Vec F S1x1x256 .f32) (k1_h3 : k1_cond3 i = 1#1) (X_arg3 : BufTy.Contents (Elt F) arg3.view.ty) (X_arg4 : BufTy.Contents (Elt F) arg4.view.ty) (X_arg5 : BufTy.Contents (Elt F) arg5.view.ty) (G7 : BufTy.Contents (Elt F) arg7.view.ty) (G8 : BufTy.Contents (Elt F) arg8.view.ty) :
    arg7.view.read (Elt F) (arg7.view.writes (Elt F) G7 (pb_k1_t3 (F := F) 𝒱 c bd i arg3 harg3 arg4 harg4 arg5 harg5 arg6 harg6 arg7 harg7 arg8 harg8 v0 k1_h3 X_arg3 X_arg4 X_arg5 G7 G8 k1_t3_loop.trips).1)
      = outVal (tile 256 facts3 (k1_pay377 v0) (arg3.view.read (Elt F) X_arg3) (arg4.view.read (Elt F) X_arg4) (arg5.view.read (Elt F) X_arg5)) := by
  refine loop_tiles 256 facts3 arg7.view G7 arg8.view (fun j => (pb_k1_t3 (F := F) 𝒱 c bd i arg3 harg3 arg4 harg4 arg5 harg5 arg6 harg6 arg7 harg7 arg8 harg8 v0 k1_h3 X_arg3 X_arg4 X_arg5 G7 G8 j).1) _ _ _ _ rfl fun k hk => ?_
  have hs := congrArg Prod.fst (pb_k1_t3_succ (F := F) 𝒱 c bd i arg3 harg3 arg4 harg4 arg5 harg5 arg6 harg6 arg7 harg7 arg8 harg8 v0 k1_h3 X_arg3 X_arg4 X_arg5 G7 G8 ⟨k, hk⟩)
  have hq := k1_off35_eq ⟨k, hk⟩
  refine ⟨![k1_off36 ⟨k, hk⟩, k1_off37 ⟨k, hk⟩, k1_off38 ⟨k, hk⟩, k1_off39 ⟨k, hk⟩, k1_off40 ⟨k, hk⟩, k1_off41 ⟨k, hk⟩, k1_off42 ⟨k, hk⟩, k1_off43 ⟨k, hk⟩, k1_off44 ⟨k, hk⟩, k1_off45 ⟨k, hk⟩, k1_off46 ⟨k, hk⟩, k1_off47 ⟨k, hk⟩, k1_off48 ⟨k, hk⟩, k1_off49 ⟨k, hk⟩, k1_off50 ⟨k, hk⟩, k1_off51 ⟨k, hk⟩], ?_, k1_off35 ⟨k, hk⟩, k1_off35_inb i ⟨k, hk⟩ k1_h3, ?_, hq, ?_⟩
  · intro h
    fin_cases h
    · exact k1_off36_inb i ⟨k, hk⟩ k1_h3
    · exact k1_off37_inb i ⟨k, hk⟩ k1_h3
    · exact k1_off38_inb i ⟨k, hk⟩ k1_h3
    · exact k1_off39_inb i ⟨k, hk⟩ k1_h3
    · exact k1_off40_inb i ⟨k, hk⟩ k1_h3
    · exact k1_off41_inb i ⟨k, hk⟩ k1_h3
    · exact k1_off42_inb i ⟨k, hk⟩ k1_h3
    · exact k1_off43_inb i ⟨k, hk⟩ k1_h3
    · exact k1_off44_inb i ⟨k, hk⟩ k1_h3
    · exact k1_off45_inb i ⟨k, hk⟩ k1_h3
    · exact k1_off46_inb i ⟨k, hk⟩ k1_h3
    · exact k1_off47_inb i ⟨k, hk⟩ k1_h3
    · exact k1_off48_inb i ⟨k, hk⟩ k1_h3
    · exact k1_off49_inb i ⟨k, hk⟩ k1_h3
    · exact k1_off50_inb i ⟨k, hk⟩ k1_h3
    · exact k1_off51_inb i ⟨k, hk⟩ k1_h3
  · intro h
    fin_cases h
    · exact k1_off36_eq ⟨k, hk⟩
    · exact k1_off37_eq ⟨k, hk⟩
    · exact k1_off38_eq ⟨k, hk⟩
    · exact k1_off39_eq ⟨k, hk⟩
    · exact k1_off40_eq ⟨k, hk⟩
    · exact k1_off41_eq ⟨k, hk⟩
    · exact k1_off42_eq ⟨k, hk⟩
    · exact k1_off43_eq ⟨k, hk⟩
    · exact k1_off44_eq ⟨k, hk⟩
    · exact k1_off45_eq ⟨k, hk⟩
    · exact k1_off46_eq ⟨k, hk⟩
    · exact k1_off47_eq ⟨k, hk⟩
    · exact k1_off48_eq ⟨k, hk⟩
    · exact k1_off49_eq ⟨k, hk⟩
    · exact k1_off50_eq ⟨k, hk⟩
    · exact k1_off51_eq ⟨k, hk⟩
  · refine hs.trans ?_
    refine congrArg (· ++ _) ?_
    dsimp only [tripL_k1_t3]
    unfold trip_k1_t3
    rfl

theorem facts4 : TileFacts 384 := by constructor <;> decide

/-- Loop 4 leaves the output block of the tiles over the first 512 keys. -/
theorem out_t4 (𝒱 : Variants) (c : Dev nD) (bd : Option 𝒱.V) (i : grid1.Coords) (arg3 : Memref sig .tc .vmem S1x1x128x16x128 .fp8e4m3) (harg3 : arg3.IsWhole) (arg4 : Memref sig .tc .vmem S1x1x2048x128 .fp8e4m3) (harg4 : arg4.IsWhole) (arg5 : Memref sig .tc .vmem S1x1x128x2048 .bf16) (harg5 : arg5.IsWhole) (arg6 : Memref sig .tc .vmem S1x1x256 .f32) (harg6 : arg6.IsWhole) (arg7 : Memref sig .tc .vmem S1x128x2048 .bf16) (harg7 : arg7.IsWhole) (arg8 : Memref sig .tc .vmem S2048x256 .f32) (harg8 : arg8.IsWhole) (v0 : Vec F S1x1x256 .f32) (k1_h4 : k1_cond4 i = 1#1) (X_arg3 : BufTy.Contents (Elt F) arg3.view.ty) (X_arg4 : BufTy.Contents (Elt F) arg4.view.ty) (X_arg5 : BufTy.Contents (Elt F) arg5.view.ty) (G7 : BufTy.Contents (Elt F) arg7.view.ty) (G8 : BufTy.Contents (Elt F) arg8.view.ty) :
    arg7.view.read (Elt F) (arg7.view.writes (Elt F) G7 (pb_k1_t4 (F := F) 𝒱 c bd i arg3 harg3 arg4 harg4 arg5 harg5 arg6 harg6 arg7 harg7 arg8 harg8 v0 k1_h4 X_arg3 X_arg4 X_arg5 G7 G8 k1_t4_loop.trips).1)
      = outVal (tile 384 facts4 (k1_pay377 v0) (arg3.view.read (Elt F) X_arg3) (arg4.view.read (Elt F) X_arg4) (arg5.view.read (Elt F) X_arg5)) := by
  refine loop_tiles 384 facts4 arg7.view G7 arg8.view (fun j => (pb_k1_t4 (F := F) 𝒱 c bd i arg3 harg3 arg4 harg4 arg5 harg5 arg6 harg6 arg7 harg7 arg8 harg8 v0 k1_h4 X_arg3 X_arg4 X_arg5 G7 G8 j).1) _ _ _ _ rfl fun k hk => ?_
  have hs := congrArg Prod.fst (pb_k1_t4_succ (F := F) 𝒱 c bd i arg3 harg3 arg4 harg4 arg5 harg5 arg6 harg6 arg7 harg7 arg8 harg8 v0 k1_h4 X_arg3 X_arg4 X_arg5 G7 G8 ⟨k, hk⟩)
  have hq := k1_off52_eq ⟨k, hk⟩
  refine ⟨![k1_off53 ⟨k, hk⟩, k1_off54 ⟨k, hk⟩, k1_off55 ⟨k, hk⟩, k1_off56 ⟨k, hk⟩, k1_off57 ⟨k, hk⟩, k1_off58 ⟨k, hk⟩, k1_off59 ⟨k, hk⟩, k1_off60 ⟨k, hk⟩, k1_off61 ⟨k, hk⟩, k1_off62 ⟨k, hk⟩, k1_off63 ⟨k, hk⟩, k1_off64 ⟨k, hk⟩, k1_off65 ⟨k, hk⟩, k1_off66 ⟨k, hk⟩, k1_off67 ⟨k, hk⟩, k1_off68 ⟨k, hk⟩], ?_, k1_off52 ⟨k, hk⟩, k1_off52_inb i ⟨k, hk⟩ k1_h4, ?_, hq, ?_⟩
  · intro h
    fin_cases h
    · exact k1_off53_inb i ⟨k, hk⟩ k1_h4
    · exact k1_off54_inb i ⟨k, hk⟩ k1_h4
    · exact k1_off55_inb i ⟨k, hk⟩ k1_h4
    · exact k1_off56_inb i ⟨k, hk⟩ k1_h4
    · exact k1_off57_inb i ⟨k, hk⟩ k1_h4
    · exact k1_off58_inb i ⟨k, hk⟩ k1_h4
    · exact k1_off59_inb i ⟨k, hk⟩ k1_h4
    · exact k1_off60_inb i ⟨k, hk⟩ k1_h4
    · exact k1_off61_inb i ⟨k, hk⟩ k1_h4
    · exact k1_off62_inb i ⟨k, hk⟩ k1_h4
    · exact k1_off63_inb i ⟨k, hk⟩ k1_h4
    · exact k1_off64_inb i ⟨k, hk⟩ k1_h4
    · exact k1_off65_inb i ⟨k, hk⟩ k1_h4
    · exact k1_off66_inb i ⟨k, hk⟩ k1_h4
    · exact k1_off67_inb i ⟨k, hk⟩ k1_h4
    · exact k1_off68_inb i ⟨k, hk⟩ k1_h4
  · intro h
    fin_cases h
    · exact k1_off53_eq ⟨k, hk⟩
    · exact k1_off54_eq ⟨k, hk⟩
    · exact k1_off55_eq ⟨k, hk⟩
    · exact k1_off56_eq ⟨k, hk⟩
    · exact k1_off57_eq ⟨k, hk⟩
    · exact k1_off58_eq ⟨k, hk⟩
    · exact k1_off59_eq ⟨k, hk⟩
    · exact k1_off60_eq ⟨k, hk⟩
    · exact k1_off61_eq ⟨k, hk⟩
    · exact k1_off62_eq ⟨k, hk⟩
    · exact k1_off63_eq ⟨k, hk⟩
    · exact k1_off64_eq ⟨k, hk⟩
    · exact k1_off65_eq ⟨k, hk⟩
    · exact k1_off66_eq ⟨k, hk⟩
    · exact k1_off67_eq ⟨k, hk⟩
    · exact k1_off68_eq ⟨k, hk⟩
  · refine hs.trans ?_
    refine congrArg (· ++ _) ?_
    dsimp only [tripL_k1_t4]
    unfold trip_k1_t4
    rfl

theorem facts5 : TileFacts 512 := by constructor <;> decide

/-- Loop 5 leaves the output block of the tiles over the first 640 keys. -/
theorem out_t5 (𝒱 : Variants) (c : Dev nD) (bd : Option 𝒱.V) (i : grid1.Coords) (arg3 : Memref sig .tc .vmem S1x1x128x16x128 .fp8e4m3) (harg3 : arg3.IsWhole) (arg4 : Memref sig .tc .vmem S1x1x2048x128 .fp8e4m3) (harg4 : arg4.IsWhole) (arg5 : Memref sig .tc .vmem S1x1x128x2048 .bf16) (harg5 : arg5.IsWhole) (arg6 : Memref sig .tc .vmem S1x1x256 .f32) (harg6 : arg6.IsWhole) (arg7 : Memref sig .tc .vmem S1x128x2048 .bf16) (harg7 : arg7.IsWhole) (arg8 : Memref sig .tc .vmem S2048x256 .f32) (harg8 : arg8.IsWhole) (v0 : Vec F S1x1x256 .f32) (k1_h5 : k1_cond5 i = 1#1) (X_arg3 : BufTy.Contents (Elt F) arg3.view.ty) (X_arg4 : BufTy.Contents (Elt F) arg4.view.ty) (X_arg5 : BufTy.Contents (Elt F) arg5.view.ty) (G7 : BufTy.Contents (Elt F) arg7.view.ty) (G8 : BufTy.Contents (Elt F) arg8.view.ty) :
    arg7.view.read (Elt F) (arg7.view.writes (Elt F) G7 (pb_k1_t5 (F := F) 𝒱 c bd i arg3 harg3 arg4 harg4 arg5 harg5 arg6 harg6 arg7 harg7 arg8 harg8 v0 k1_h5 X_arg3 X_arg4 X_arg5 G7 G8 k1_t5_loop.trips).1)
      = outVal (tile 512 facts5 (k1_pay377 v0) (arg3.view.read (Elt F) X_arg3) (arg4.view.read (Elt F) X_arg4) (arg5.view.read (Elt F) X_arg5)) := by
  refine loop_tiles 512 facts5 arg7.view G7 arg8.view (fun j => (pb_k1_t5 (F := F) 𝒱 c bd i arg3 harg3 arg4 harg4 arg5 harg5 arg6 harg6 arg7 harg7 arg8 harg8 v0 k1_h5 X_arg3 X_arg4 X_arg5 G7 G8 j).1) _ _ _ _ rfl fun k hk => ?_
  have hs := congrArg Prod.fst (pb_k1_t5_succ (F := F) 𝒱 c bd i arg3 harg3 arg4 harg4 arg5 harg5 arg6 harg6 arg7 harg7 arg8 harg8 v0 k1_h5 X_arg3 X_arg4 X_arg5 G7 G8 ⟨k, hk⟩)
  have hq := k1_off69_eq ⟨k, hk⟩
  refine ⟨![k1_off70 ⟨k, hk⟩, k1_off71 ⟨k, hk⟩, k1_off72 ⟨k, hk⟩, k1_off73 ⟨k, hk⟩, k1_off74 ⟨k, hk⟩, k1_off75 ⟨k, hk⟩, k1_off76 ⟨k, hk⟩, k1_off77 ⟨k, hk⟩, k1_off78 ⟨k, hk⟩, k1_off79 ⟨k, hk⟩, k1_off80 ⟨k, hk⟩, k1_off81 ⟨k, hk⟩, k1_off82 ⟨k, hk⟩, k1_off83 ⟨k, hk⟩, k1_off84 ⟨k, hk⟩, k1_off85 ⟨k, hk⟩], ?_, k1_off69 ⟨k, hk⟩, k1_off69_inb i ⟨k, hk⟩ k1_h5, ?_, hq, ?_⟩
  · intro h
    fin_cases h
    · exact k1_off70_inb i ⟨k, hk⟩ k1_h5
    · exact k1_off71_inb i ⟨k, hk⟩ k1_h5
    · exact k1_off72_inb i ⟨k, hk⟩ k1_h5
    · exact k1_off73_inb i ⟨k, hk⟩ k1_h5
    · exact k1_off74_inb i ⟨k, hk⟩ k1_h5
    · exact k1_off75_inb i ⟨k, hk⟩ k1_h5
    · exact k1_off76_inb i ⟨k, hk⟩ k1_h5
    · exact k1_off77_inb i ⟨k, hk⟩ k1_h5
    · exact k1_off78_inb i ⟨k, hk⟩ k1_h5
    · exact k1_off79_inb i ⟨k, hk⟩ k1_h5
    · exact k1_off80_inb i ⟨k, hk⟩ k1_h5
    · exact k1_off81_inb i ⟨k, hk⟩ k1_h5
    · exact k1_off82_inb i ⟨k, hk⟩ k1_h5
    · exact k1_off83_inb i ⟨k, hk⟩ k1_h5
    · exact k1_off84_inb i ⟨k, hk⟩ k1_h5
    · exact k1_off85_inb i ⟨k, hk⟩ k1_h5
  · intro h
    fin_cases h
    · exact k1_off70_eq ⟨k, hk⟩
    · exact k1_off71_eq ⟨k, hk⟩
    · exact k1_off72_eq ⟨k, hk⟩
    · exact k1_off73_eq ⟨k, hk⟩
    · exact k1_off74_eq ⟨k, hk⟩
    · exact k1_off75_eq ⟨k, hk⟩
    · exact k1_off76_eq ⟨k, hk⟩
    · exact k1_off77_eq ⟨k, hk⟩
    · exact k1_off78_eq ⟨k, hk⟩
    · exact k1_off79_eq ⟨k, hk⟩
    · exact k1_off80_eq ⟨k, hk⟩
    · exact k1_off81_eq ⟨k, hk⟩
    · exact k1_off82_eq ⟨k, hk⟩
    · exact k1_off83_eq ⟨k, hk⟩
    · exact k1_off84_eq ⟨k, hk⟩
    · exact k1_off85_eq ⟨k, hk⟩
  · refine hs.trans ?_
    refine congrArg (· ++ _) ?_
    dsimp only [tripL_k1_t5]
    unfold trip_k1_t5
    rfl

theorem facts6 : TileFacts 640 := by constructor <;> decide

/-- Loop 6 leaves the output block of the tiles over the first 768 keys. -/
theorem out_t6 (𝒱 : Variants) (c : Dev nD) (bd : Option 𝒱.V) (i : grid1.Coords) (arg3 : Memref sig .tc .vmem S1x1x128x16x128 .fp8e4m3) (harg3 : arg3.IsWhole) (arg4 : Memref sig .tc .vmem S1x1x2048x128 .fp8e4m3) (harg4 : arg4.IsWhole) (arg5 : Memref sig .tc .vmem S1x1x128x2048 .bf16) (harg5 : arg5.IsWhole) (arg6 : Memref sig .tc .vmem S1x1x256 .f32) (harg6 : arg6.IsWhole) (arg7 : Memref sig .tc .vmem S1x128x2048 .bf16) (harg7 : arg7.IsWhole) (arg8 : Memref sig .tc .vmem S2048x256 .f32) (harg8 : arg8.IsWhole) (v0 : Vec F S1x1x256 .f32) (k1_h6 : k1_cond6 i = 1#1) (X_arg3 : BufTy.Contents (Elt F) arg3.view.ty) (X_arg4 : BufTy.Contents (Elt F) arg4.view.ty) (X_arg5 : BufTy.Contents (Elt F) arg5.view.ty) (G7 : BufTy.Contents (Elt F) arg7.view.ty) (G8 : BufTy.Contents (Elt F) arg8.view.ty) :
    arg7.view.read (Elt F) (arg7.view.writes (Elt F) G7 (pb_k1_t6 (F := F) 𝒱 c bd i arg3 harg3 arg4 harg4 arg5 harg5 arg6 harg6 arg7 harg7 arg8 harg8 v0 k1_h6 X_arg3 X_arg4 X_arg5 G7 G8 k1_t6_loop.trips).1)
      = outVal (tile 640 facts6 (k1_pay377 v0) (arg3.view.read (Elt F) X_arg3) (arg4.view.read (Elt F) X_arg4) (arg5.view.read (Elt F) X_arg5)) := by
  refine loop_tiles 640 facts6 arg7.view G7 arg8.view (fun j => (pb_k1_t6 (F := F) 𝒱 c bd i arg3 harg3 arg4 harg4 arg5 harg5 arg6 harg6 arg7 harg7 arg8 harg8 v0 k1_h6 X_arg3 X_arg4 X_arg5 G7 G8 j).1) _ _ _ _ rfl fun k hk => ?_
  have hs := congrArg Prod.fst (pb_k1_t6_succ (F := F) 𝒱 c bd i arg3 harg3 arg4 harg4 arg5 harg5 arg6 harg6 arg7 harg7 arg8 harg8 v0 k1_h6 X_arg3 X_arg4 X_arg5 G7 G8 ⟨k, hk⟩)
  have hq := k1_off86_eq ⟨k, hk⟩
  refine ⟨![k1_off87 ⟨k, hk⟩, k1_off88 ⟨k, hk⟩, k1_off89 ⟨k, hk⟩, k1_off90 ⟨k, hk⟩, k1_off91 ⟨k, hk⟩, k1_off92 ⟨k, hk⟩, k1_off93 ⟨k, hk⟩, k1_off94 ⟨k, hk⟩, k1_off95 ⟨k, hk⟩, k1_off96 ⟨k, hk⟩, k1_off97 ⟨k, hk⟩, k1_off98 ⟨k, hk⟩, k1_off99 ⟨k, hk⟩, k1_off100 ⟨k, hk⟩, k1_off101 ⟨k, hk⟩, k1_off102 ⟨k, hk⟩], ?_, k1_off86 ⟨k, hk⟩, k1_off86_inb i ⟨k, hk⟩ k1_h6, ?_, hq, ?_⟩
  · intro h
    fin_cases h
    · exact k1_off87_inb i ⟨k, hk⟩ k1_h6
    · exact k1_off88_inb i ⟨k, hk⟩ k1_h6
    · exact k1_off89_inb i ⟨k, hk⟩ k1_h6
    · exact k1_off90_inb i ⟨k, hk⟩ k1_h6
    · exact k1_off91_inb i ⟨k, hk⟩ k1_h6
    · exact k1_off92_inb i ⟨k, hk⟩ k1_h6
    · exact k1_off93_inb i ⟨k, hk⟩ k1_h6
    · exact k1_off94_inb i ⟨k, hk⟩ k1_h6
    · exact k1_off95_inb i ⟨k, hk⟩ k1_h6
    · exact k1_off96_inb i ⟨k, hk⟩ k1_h6
    · exact k1_off97_inb i ⟨k, hk⟩ k1_h6
    · exact k1_off98_inb i ⟨k, hk⟩ k1_h6
    · exact k1_off99_inb i ⟨k, hk⟩ k1_h6
    · exact k1_off100_inb i ⟨k, hk⟩ k1_h6
    · exact k1_off101_inb i ⟨k, hk⟩ k1_h6
    · exact k1_off102_inb i ⟨k, hk⟩ k1_h6
  · intro h
    fin_cases h
    · exact k1_off87_eq ⟨k, hk⟩
    · exact k1_off88_eq ⟨k, hk⟩
    · exact k1_off89_eq ⟨k, hk⟩
    · exact k1_off90_eq ⟨k, hk⟩
    · exact k1_off91_eq ⟨k, hk⟩
    · exact k1_off92_eq ⟨k, hk⟩
    · exact k1_off93_eq ⟨k, hk⟩
    · exact k1_off94_eq ⟨k, hk⟩
    · exact k1_off95_eq ⟨k, hk⟩
    · exact k1_off96_eq ⟨k, hk⟩
    · exact k1_off97_eq ⟨k, hk⟩
    · exact k1_off98_eq ⟨k, hk⟩
    · exact k1_off99_eq ⟨k, hk⟩
    · exact k1_off100_eq ⟨k, hk⟩
    · exact k1_off101_eq ⟨k, hk⟩
    · exact k1_off102_eq ⟨k, hk⟩
  · refine hs.trans ?_
    refine congrArg (· ++ _) ?_
    dsimp only [tripL_k1_t6]
    unfold trip_k1_t6
    rfl

theorem facts7 : TileFacts 768 := by constructor <;> decide

/-- Loop 7 leaves the output block of the tiles over the first 896 keys. -/
theorem out_t7 (𝒱 : Variants) (c : Dev nD) (bd : Option 𝒱.V) (i : grid1.Coords) (arg3 : Memref sig .tc .vmem S1x1x128x16x128 .fp8e4m3) (harg3 : arg3.IsWhole) (arg4 : Memref sig .tc .vmem S1x1x2048x128 .fp8e4m3) (harg4 : arg4.IsWhole) (arg5 : Memref sig .tc .vmem S1x1x128x2048 .bf16) (harg5 : arg5.IsWhole) (arg6 : Memref sig .tc .vmem S1x1x256 .f32) (harg6 : arg6.IsWhole) (arg7 : Memref sig .tc .vmem S1x128x2048 .bf16) (harg7 : arg7.IsWhole) (arg8 : Memref sig .tc .vmem S2048x256 .f32) (harg8 : arg8.IsWhole) (v0 : Vec F S1x1x256 .f32) (k1_h7 : k1_cond7 i = 1#1) (X_arg3 : BufTy.Contents (Elt F) arg3.view.ty) (X_arg4 : BufTy.Contents (Elt F) arg4.view.ty) (X_arg5 : BufTy.Contents (Elt F) arg5.view.ty) (G7 : BufTy.Contents (Elt F) arg7.view.ty) (G8 : BufTy.Contents (Elt F) arg8.view.ty) :
    arg7.view.read (Elt F) (arg7.view.writes (Elt F) G7 (pb_k1_t7 (F := F) 𝒱 c bd i arg3 harg3 arg4 harg4 arg5 harg5 arg6 harg6 arg7 harg7 arg8 harg8 v0 k1_h7 X_arg3 X_arg4 X_arg5 G7 G8 k1_t7_loop.trips).1)
      = outVal (tile 768 facts7 (k1_pay377 v0) (arg3.view.read (Elt F) X_arg3) (arg4.view.read (Elt F) X_arg4) (arg5.view.read (Elt F) X_arg5)) := by
  refine loop_tiles 768 facts7 arg7.view G7 arg8.view (fun j => (pb_k1_t7 (F := F) 𝒱 c bd i arg3 harg3 arg4 harg4 arg5 harg5 arg6 harg6 arg7 harg7 arg8 harg8 v0 k1_h7 X_arg3 X_arg4 X_arg5 G7 G8 j).1) _ _ _ _ rfl fun k hk => ?_
  have hs := congrArg Prod.fst (pb_k1_t7_succ (F := F) 𝒱 c bd i arg3 harg3 arg4 harg4 arg5 harg5 arg6 harg6 arg7 harg7 arg8 harg8 v0 k1_h7 X_arg3 X_arg4 X_arg5 G7 G8 ⟨k, hk⟩)
  have hq := k1_off103_eq ⟨k, hk⟩
  refine ⟨![k1_off104 ⟨k, hk⟩, k1_off105 ⟨k, hk⟩, k1_off106 ⟨k, hk⟩, k1_off107 ⟨k, hk⟩, k1_off108 ⟨k, hk⟩, k1_off109 ⟨k, hk⟩, k1_off110 ⟨k, hk⟩, k1_off111 ⟨k, hk⟩, k1_off112 ⟨k, hk⟩, k1_off113 ⟨k, hk⟩, k1_off114 ⟨k, hk⟩, k1_off115 ⟨k, hk⟩, k1_off116 ⟨k, hk⟩, k1_off117 ⟨k, hk⟩, k1_off118 ⟨k, hk⟩, k1_off119 ⟨k, hk⟩], ?_, k1_off103 ⟨k, hk⟩, k1_off103_inb i ⟨k, hk⟩ k1_h7, ?_, hq, ?_⟩
  · intro h
    fin_cases h
    · exact k1_off104_inb i ⟨k, hk⟩ k1_h7
    · exact k1_off105_inb i ⟨k, hk⟩ k1_h7
    · exact k1_off106_inb i ⟨k, hk⟩ k1_h7
    · exact k1_off107_inb i ⟨k, hk⟩ k1_h7
    · exact k1_off108_inb i ⟨k, hk⟩ k1_h7
    · exact k1_off109_inb i ⟨k, hk⟩ k1_h7
    · exact k1_off110_inb i ⟨k, hk⟩ k1_h7
    · exact k1_off111_inb i ⟨k, hk⟩ k1_h7
    · exact k1_off112_inb i ⟨k, hk⟩ k1_h7
    · exact k1_off113_inb i ⟨k, hk⟩ k1_h7
    · exact k1_off114_inb i ⟨k, hk⟩ k1_h7
    · exact k1_off115_inb i ⟨k, hk⟩ k1_h7
    · exact k1_off116_inb i ⟨k, hk⟩ k1_h7
    · exact k1_off117_inb i ⟨k, hk⟩ k1_h7
    · exact k1_off118_inb i ⟨k, hk⟩ k1_h7
    · exact k1_off119_inb i ⟨k, hk⟩ k1_h7
  · intro h
    fin_cases h
    · exact k1_off104_eq ⟨k, hk⟩
    · exact k1_off105_eq ⟨k, hk⟩
    · exact k1_off106_eq ⟨k, hk⟩
    · exact k1_off107_eq ⟨k, hk⟩
    · exact k1_off108_eq ⟨k, hk⟩
    · exact k1_off109_eq ⟨k, hk⟩
    · exact k1_off110_eq ⟨k, hk⟩
    · exact k1_off111_eq ⟨k, hk⟩
    · exact k1_off112_eq ⟨k, hk⟩
    · exact k1_off113_eq ⟨k, hk⟩
    · exact k1_off114_eq ⟨k, hk⟩
    · exact k1_off115_eq ⟨k, hk⟩
    · exact k1_off116_eq ⟨k, hk⟩
    · exact k1_off117_eq ⟨k, hk⟩
    · exact k1_off118_eq ⟨k, hk⟩
    · exact k1_off119_eq ⟨k, hk⟩
  · refine hs.trans ?_
    refine congrArg (· ++ _) ?_
    dsimp only [tripL_k1_t7]
    unfold trip_k1_t7
    rfl

theorem facts8 : TileFacts 896 := by constructor <;> decide

/-- Loop 8 leaves the output block of the tiles over the first 1024 keys. -/
theorem out_t8 (𝒱 : Variants) (c : Dev nD) (bd : Option 𝒱.V) (i : grid1.Coords) (arg3 : Memref sig .tc .vmem S1x1x128x16x128 .fp8e4m3) (harg3 : arg3.IsWhole) (arg4 : Memref sig .tc .vmem S1x1x2048x128 .fp8e4m3) (harg4 : arg4.IsWhole) (arg5 : Memref sig .tc .vmem S1x1x128x2048 .bf16) (harg5 : arg5.IsWhole) (arg6 : Memref sig .tc .vmem S1x1x256 .f32) (harg6 : arg6.IsWhole) (arg7 : Memref sig .tc .vmem S1x128x2048 .bf16) (harg7 : arg7.IsWhole) (arg8 : Memref sig .tc .vmem S2048x256 .f32) (harg8 : arg8.IsWhole) (v0 : Vec F S1x1x256 .f32) (k1_h8 : k1_cond8 i = 1#1) (X_arg3 : BufTy.Contents (Elt F) arg3.view.ty) (X_arg4 : BufTy.Contents (Elt F) arg4.view.ty) (X_arg5 : BufTy.Contents (Elt F) arg5.view.ty) (G7 : BufTy.Contents (Elt F) arg7.view.ty) (G8 : BufTy.Contents (Elt F) arg8.view.ty) :
    arg7.view.read (Elt F) (arg7.view.writes (Elt F) G7 (pb_k1_t8 (F := F) 𝒱 c bd i arg3 harg3 arg4 harg4 arg5 harg5 arg6 harg6 arg7 harg7 arg8 harg8 v0 k1_h8 X_arg3 X_arg4 X_arg5 G7 G8 k1_t8_loop.trips).1)
      = outVal (tile 896 facts8 (k1_pay377 v0) (arg3.view.read (Elt F) X_arg3) (arg4.view.read (Elt F) X_arg4) (arg5.view.read (Elt F) X_arg5)) := by
  refine loop_tiles 896 facts8 arg7.view G7 arg8.view (fun j => (pb_k1_t8 (F := F) 𝒱 c bd i arg3 harg3 arg4 harg4 arg5 harg5 arg6 harg6 arg7 harg7 arg8 harg8 v0 k1_h8 X_arg3 X_arg4 X_arg5 G7 G8 j).1) _ _ _ _ rfl fun k hk => ?_
  have hs := congrArg Prod.fst (pb_k1_t8_succ (F := F) 𝒱 c bd i arg3 harg3 arg4 harg4 arg5 harg5 arg6 harg6 arg7 harg7 arg8 harg8 v0 k1_h8 X_arg3 X_arg4 X_arg5 G7 G8 ⟨k, hk⟩)
  have hq := k1_off120_eq ⟨k, hk⟩
  refine ⟨![k1_off121 ⟨k, hk⟩, k1_off122 ⟨k, hk⟩, k1_off123 ⟨k, hk⟩, k1_off124 ⟨k, hk⟩, k1_off125 ⟨k, hk⟩, k1_off126 ⟨k, hk⟩, k1_off127 ⟨k, hk⟩, k1_off128 ⟨k, hk⟩, k1_off129 ⟨k, hk⟩, k1_off130 ⟨k, hk⟩, k1_off131 ⟨k, hk⟩, k1_off132 ⟨k, hk⟩, k1_off133 ⟨k, hk⟩, k1_off134 ⟨k, hk⟩, k1_off135 ⟨k, hk⟩, k1_off136 ⟨k, hk⟩], ?_, k1_off120 ⟨k, hk⟩, k1_off120_inb i ⟨k, hk⟩ k1_h8, ?_, hq, ?_⟩
  · intro h
    fin_cases h
    · exact k1_off121_inb i ⟨k, hk⟩ k1_h8
    · exact k1_off122_inb i ⟨k, hk⟩ k1_h8
    · exact k1_off123_inb i ⟨k, hk⟩ k1_h8
    · exact k1_off124_inb i ⟨k, hk⟩ k1_h8
    · exact k1_off125_inb i ⟨k, hk⟩ k1_h8
    · exact k1_off126_inb i ⟨k, hk⟩ k1_h8
    · exact k1_off127_inb i ⟨k, hk⟩ k1_h8
    · exact k1_off128_inb i ⟨k, hk⟩ k1_h8
    · exact k1_off129_inb i ⟨k, hk⟩ k1_h8
    · exact k1_off130_inb i ⟨k, hk⟩ k1_h8
    · exact k1_off131_inb i ⟨k, hk⟩ k1_h8
    · exact k1_off132_inb i ⟨k, hk⟩ k1_h8
    · exact k1_off133_inb i ⟨k, hk⟩ k1_h8
    · exact k1_off134_inb i ⟨k, hk⟩ k1_h8
    · exact k1_off135_inb i ⟨k, hk⟩ k1_h8
    · exact k1_off136_inb i ⟨k, hk⟩ k1_h8
  · intro h
    fin_cases h
    · exact k1_off121_eq ⟨k, hk⟩
    · exact k1_off122_eq ⟨k, hk⟩
    · exact k1_off123_eq ⟨k, hk⟩
    · exact k1_off124_eq ⟨k, hk⟩
    · exact k1_off125_eq ⟨k, hk⟩
    · exact k1_off126_eq ⟨k, hk⟩
    · exact k1_off127_eq ⟨k, hk⟩
    · exact k1_off128_eq ⟨k, hk⟩
    · exact k1_off129_eq ⟨k, hk⟩
    · exact k1_off130_eq ⟨k, hk⟩
    · exact k1_off131_eq ⟨k, hk⟩
    · exact k1_off132_eq ⟨k, hk⟩
    · exact k1_off133_eq ⟨k, hk⟩
    · exact k1_off134_eq ⟨k, hk⟩
    · exact k1_off135_eq ⟨k, hk⟩
    · exact k1_off136_eq ⟨k, hk⟩
  · refine hs.trans ?_
    refine congrArg (· ++ _) ?_
    dsimp only [tripL_k1_t8]
    unfold trip_k1_t8
    rfl

theorem facts9 : TileFacts 1024 := by constructor <;> decide

/-- Loop 9 leaves the output block of the tiles over the first 1152 keys. -/
theorem out_t9 (𝒱 : Variants) (c : Dev nD) (bd : Option 𝒱.V) (i : grid1.Coords) (arg3 : Memref sig .tc .vmem S1x1x128x16x128 .fp8e4m3) (harg3 : arg3.IsWhole) (arg4 : Memref sig .tc .vmem S1x1x2048x128 .fp8e4m3) (harg4 : arg4.IsWhole) (arg5 : Memref sig .tc .vmem S1x1x128x2048 .bf16) (harg5 : arg5.IsWhole) (arg6 : Memref sig .tc .vmem S1x1x256 .f32) (harg6 : arg6.IsWhole) (arg7 : Memref sig .tc .vmem S1x128x2048 .bf16) (harg7 : arg7.IsWhole) (arg8 : Memref sig .tc .vmem S2048x256 .f32) (harg8 : arg8.IsWhole) (v3 : FVec F S1x256 .f32) (k1_h9 : k1_cond9 i = 1#1) (X_arg3 : BufTy.Contents (Elt F) arg3.view.ty) (X_arg4 : BufTy.Contents (Elt F) arg4.view.ty) (X_arg5 : BufTy.Contents (Elt F) arg5.view.ty) (G7 : BufTy.Contents (Elt F) arg7.view.ty) (G8 : BufTy.Contents (Elt F) arg8.view.ty) :
    arg7.view.read (Elt F) (arg7.view.writes (Elt F) G7 (pb_k1_t9 (F := F) 𝒱 c bd i arg3 harg3 arg4 harg4 arg5 harg5 arg6 harg6 arg7 harg7 arg8 harg8 v3 k1_h9 X_arg3 X_arg4 X_arg5 G7 G8 k1_t9_loop.trips).1)
      = outVal (tile 1024 facts9 (v3) (arg3.view.read (Elt F) X_arg3) (arg4.view.read (Elt F) X_arg4) (arg5.view.read (Elt F) X_arg5)) := by
  refine loop_tiles 1024 facts9 arg7.view G7 arg8.view (fun j => (pb_k1_t9 (F := F) 𝒱 c bd i arg3 harg3 arg4 harg4 arg5 harg5 arg6 harg6 arg7 harg7 arg8 harg8 v3 k1_h9 X_arg3 X_arg4 X_arg5 G7 G8 j).1) _ _ _ _ rfl fun k hk => ?_
  have hs := congrArg Prod.fst (pb_k1_t9_succ (F := F) 𝒱 c bd i arg3 harg3 arg4 harg4 arg5 harg5 arg6 harg6 arg7 harg7 arg8 harg8 v3 k1_h9 X_arg3 X_arg4 X_arg5 G7 G8 ⟨k, hk⟩)
  have hq := k1_off137_eq ⟨k, hk⟩
  refine ⟨![k1_off138 ⟨k, hk⟩, k1_off139 ⟨k, hk⟩, k1_off140 ⟨k, hk⟩, k1_off141 ⟨k, hk⟩, k1_off142 ⟨k, hk⟩, k1_off143 ⟨k, hk⟩, k1_off144 ⟨k, hk⟩, k1_off145 ⟨k, hk⟩, k1_off146 ⟨k, hk⟩, k1_off147 ⟨k, hk⟩, k1_off148 ⟨k, hk⟩, k1_off149 ⟨k, hk⟩, k1_off150 ⟨k, hk⟩, k1_off151 ⟨k, hk⟩, k1_off152 ⟨k, hk⟩, k1_off153 ⟨k, hk⟩], ?_, k1_off137 ⟨k, hk⟩, k1_off137_inb i ⟨k, hk⟩ k1_h9, ?_, hq, ?_⟩
  · intro h
    fin_cases h
    · exact k1_off138_inb i ⟨k, hk⟩ k1_h9
    · exact k1_off139_inb i ⟨k, hk⟩ k1_h9
    · exact k1_off140_inb i ⟨k, hk⟩ k1_h9
    · exact k1_off141_inb i ⟨k, hk⟩ k1_h9
    · exact k1_off142_inb i ⟨k, hk⟩ k1_h9
    · exact k1_off143_inb i ⟨k, hk⟩ k1_h9
    · exact k1_off144_inb i ⟨k, hk⟩ k1_h9
    · exact k1_off145_inb i ⟨k, hk⟩ k1_h9
    · exact k1_off146_inb i ⟨k, hk⟩ k1_h9
    · exact k1_off147_inb i ⟨k, hk⟩ k1_h9
    · exact k1_off148_inb i ⟨k, hk⟩ k1_h9
    · exact k1_off149_inb i ⟨k, hk⟩ k1_h9
    · exact k1_off150_inb i ⟨k, hk⟩ k1_h9
    · exact k1_off151_inb i ⟨k, hk⟩ k1_h9
    · exact k1_off152_inb i ⟨k, hk⟩ k1_h9
    · exact k1_off153_inb i ⟨k, hk⟩ k1_h9
  · intro h
    fin_cases h
    · exact k1_off138_eq ⟨k, hk⟩
    · exact k1_off139_eq ⟨k, hk⟩
    · exact k1_off140_eq ⟨k, hk⟩
    · exact k1_off141_eq ⟨k, hk⟩
    · exact k1_off142_eq ⟨k, hk⟩
    · exact k1_off143_eq ⟨k, hk⟩
    · exact k1_off144_eq ⟨k, hk⟩
    · exact k1_off145_eq ⟨k, hk⟩
    · exact k1_off146_eq ⟨k, hk⟩
    · exact k1_off147_eq ⟨k, hk⟩
    · exact k1_off148_eq ⟨k, hk⟩
    · exact k1_off149_eq ⟨k, hk⟩
    · exact k1_off150_eq ⟨k, hk⟩
    · exact k1_off151_eq ⟨k, hk⟩
    · exact k1_off152_eq ⟨k, hk⟩
    · exact k1_off153_eq ⟨k, hk⟩
  · refine hs.trans ?_
    refine congrArg (· ++ _) ?_
    dsimp only [tripL_k1_t9]
    unfold trip_k1_t9
    rfl

theorem facts10 : TileFacts 1152 := by constructor <;> decide

/-- Loop 10 leaves the output block of the tiles over the first 1280 keys. -/
theorem out_t10 (𝒱 : Variants) (c : Dev nD) (bd : Option 𝒱.V) (i : grid1.Coords) (arg3 : Memref sig .tc .vmem S1x1x128x16x128 .fp8e4m3) (harg3 : arg3.IsWhole) (arg4 : Memref sig .tc .vmem S1x1x2048x128 .fp8e4m3) (harg4 : arg4.IsWhole) (arg5 : Memref sig .tc .vmem S1x1x128x2048 .bf16) (harg5 : arg5.IsWhole) (arg6 : Memref sig .tc .vmem S1x1x256 .f32) (harg6 : arg6.IsWhole) (arg7 : Memref sig .tc .vmem S1x128x2048 .bf16) (harg7 : arg7.IsWhole) (arg8 : Memref sig .tc .vmem S2048x256 .f32) (harg8 : arg8.IsWhole) (v3 : FVec F S1x256 .f32) (k1_h10 : k1_cond10 i = 1#1) (X_arg3 : BufTy.Contents (Elt F) arg3.view.ty) (X_arg4 : BufTy.Contents (Elt F) arg4.view.ty) (X_arg5 : BufTy.Contents (Elt F) arg5.view.ty) (G7 : BufTy.Contents (Elt F) arg7.view.ty) (G8 : BufTy.Contents (Elt F) arg8.view.ty) :
    arg7.view.read (Elt F) (arg7.view.writes (Elt F) G7 (pb_k1_t10 (F := F) 𝒱 c bd i arg3 harg3 arg4 harg4 arg5 harg5 arg6 harg6 arg7 harg7 arg8 harg8 v3 k1_h10 X_arg3 X_arg4 X_arg5 G7 G8 k1_t10_loop.trips).1)
      = outVal (tile 1152 facts10 (v3) (arg3.view.read (Elt F) X_arg3) (arg4.view.read (Elt F) X_arg4) (arg5.view.read (Elt F) X_arg5)) := by
  refine loop_tiles 1152 facts10 arg7.view G7 arg8.view (fun j => (pb_k1_t10 (F := F) 𝒱 c bd i arg3 harg3 arg4 harg4 arg5 harg5 arg6 harg6 arg7 harg7 arg8 harg8 v3 k1_h10 X_arg3 X_arg4 X_arg5 G7 G8 j).1) _ _ _ _ rfl fun k hk => ?_
  have hs := congrArg Prod.fst (pb_k1_t10_succ (F := F) 𝒱 c bd i arg3 harg3 arg4 harg4 arg5 harg5 arg6 harg6 arg7 harg7 arg8 harg8 v3 k1_h10 X_arg3 X_arg4 X_arg5 G7 G8 ⟨k, hk⟩)
  have hq := k1_off154_eq ⟨k, hk⟩
  refine ⟨![k1_off155 ⟨k, hk⟩, k1_off156 ⟨k, hk⟩, k1_off157 ⟨k, hk⟩, k1_off158 ⟨k, hk⟩, k1_off159 ⟨k, hk⟩, k1_off160 ⟨k, hk⟩, k1_off161 ⟨k, hk⟩, k1_off162 ⟨k, hk⟩, k1_off163 ⟨k, hk⟩, k1_off164 ⟨k, hk⟩, k1_off165 ⟨k, hk⟩, k1_off166 ⟨k, hk⟩, k1_off167 ⟨k, hk⟩, k1_off168 ⟨k, hk⟩, k1_off169 ⟨k, hk⟩, k1_off170 ⟨k, hk⟩], ?_, k1_off154 ⟨k, hk⟩, k1_off154_inb i ⟨k, hk⟩ k1_h10, ?_, hq, ?_⟩
  · intro h
    fin_cases h
    · exact k1_off155_inb i ⟨k, hk⟩ k1_h10
    · exact k1_off156_inb i ⟨k, hk⟩ k1_h10
    · exact k1_off157_inb i ⟨k, hk⟩ k1_h10
    · exact k1_off158_inb i ⟨k, hk⟩ k1_h10
    · exact k1_off159_inb i ⟨k, hk⟩ k1_h10
    · exact k1_off160_inb i ⟨k, hk⟩ k1_h10
    · exact k1_off161_inb i ⟨k, hk⟩ k1_h10
    · exact k1_off162_inb i ⟨k, hk⟩ k1_h10
    · exact k1_off163_inb i ⟨k, hk⟩ k1_h10
    · exact k1_off164_inb i ⟨k, hk⟩ k1_h10
    · exact k1_off165_inb i ⟨k, hk⟩ k1_h10
    · exact k1_off166_inb i ⟨k, hk⟩ k1_h10
    · exact k1_off167_inb i ⟨k, hk⟩ k1_h10
    · exact k1_off168_inb i ⟨k, hk⟩ k1_h10
    · exact k1_off169_inb i ⟨k, hk⟩ k1_h10
    · exact k1_off170_inb i ⟨k, hk⟩ k1_h10
  · intro h
    fin_cases h
    · exact k1_off155_eq ⟨k, hk⟩
    · exact k1_off156_eq ⟨k, hk⟩
    · exact k1_off157_eq ⟨k, hk⟩
    · exact k1_off158_eq ⟨k, hk⟩
    · exact k1_off159_eq ⟨k, hk⟩
    · exact k1_off160_eq ⟨k, hk⟩
    · exact k1_off161_eq ⟨k, hk⟩
    · exact k1_off162_eq ⟨k, hk⟩
    · exact k1_off163_eq ⟨k, hk⟩
    · exact k1_off164_eq ⟨k, hk⟩
    · exact k1_off165_eq ⟨k, hk⟩
    · exact k1_off166_eq ⟨k, hk⟩
    · exact k1_off167_eq ⟨k, hk⟩
    · exact k1_off168_eq ⟨k, hk⟩
    · exact k1_off169_eq ⟨k, hk⟩
    · exact k1_off170_eq ⟨k, hk⟩
  · refine hs.trans ?_
    refine congrArg (· ++ _) ?_
    dsimp only [tripL_k1_t10]
    unfold trip_k1_t10
    rfl

theorem facts11 : TileFacts 1280 := by constructor <;> decide

/-- Loop 11 leaves the output block of the tiles over the first 1408 keys. -/
theorem out_t11 (𝒱 : Variants) (c : Dev nD) (bd : Option 𝒱.V) (i : grid1.Coords) (arg3 : Memref sig .tc .vmem S1x1x128x16x128 .fp8e4m3) (harg3 : arg3.IsWhole) (arg4 : Memref sig .tc .vmem S1x1x2048x128 .fp8e4m3) (harg4 : arg4.IsWhole) (arg5 : Memref sig .tc .vmem S1x1x128x2048 .bf16) (harg5 : arg5.IsWhole) (arg6 : Memref sig .tc .vmem S1x1x256 .f32) (harg6 : arg6.IsWhole) (arg7 : Memref sig .tc .vmem S1x128x2048 .bf16) (harg7 : arg7.IsWhole) (arg8 : Memref sig .tc .vmem S2048x256 .f32) (harg8 : arg8.IsWhole) (v3 : FVec F S1x256 .f32) (k1_h11 : k1_cond11 i = 1#1) (X_arg3 : BufTy.Contents (Elt F) arg3.view.ty) (X_arg4 : BufTy.Contents (Elt F) arg4.view.ty) (X_arg5 : BufTy.Contents (Elt F) arg5.view.ty) (G7 : BufTy.Contents (Elt F) arg7.view.ty) (G8 : BufTy.Contents (Elt F) arg8.view.ty) :
    arg7.view.read (Elt F) (arg7.view.writes (Elt F) G7 (pb_k1_t11 (F := F) 𝒱 c bd i arg3 harg3 arg4 harg4 arg5 harg5 arg6 harg6 arg7 harg7 arg8 harg8 v3 k1_h11 X_arg3 X_arg4 X_arg5 G7 G8 k1_t11_loop.trips).1)
      = outVal (tile 1280 facts11 (v3) (arg3.view.read (Elt F) X_arg3) (arg4.view.read (Elt F) X_arg4) (arg5.view.read (Elt F) X_arg5)) := by
  refine loop_tiles 1280 facts11 arg7.view G7 arg8.view (fun j => (pb_k1_t11 (F := F) 𝒱 c bd i arg3 harg3 arg4 harg4 arg5 harg5 arg6 harg6 arg7 harg7 arg8 harg8 v3 k1_h11 X_arg3 X_arg4 X_arg5 G7 G8 j).1) _ _ _ _ rfl fun k hk => ?_
  have hs := congrArg Prod.fst (pb_k1_t11_succ (F := F) 𝒱 c bd i arg3 harg3 arg4 harg4 arg5 harg5 arg6 harg6 arg7 harg7 arg8 harg8 v3 k1_h11 X_arg3 X_arg4 X_arg5 G7 G8 ⟨k, hk⟩)
  have hq := k1_off171_eq ⟨k, hk⟩
  refine ⟨![k1_off172 ⟨k, hk⟩, k1_off173 ⟨k, hk⟩, k1_off174 ⟨k, hk⟩, k1_off175 ⟨k, hk⟩, k1_off176 ⟨k, hk⟩, k1_off177 ⟨k, hk⟩, k1_off178 ⟨k, hk⟩, k1_off179 ⟨k, hk⟩, k1_off180 ⟨k, hk⟩, k1_off181 ⟨k, hk⟩, k1_off182 ⟨k, hk⟩, k1_off183 ⟨k, hk⟩, k1_off184 ⟨k, hk⟩, k1_off185 ⟨k, hk⟩, k1_off186 ⟨k, hk⟩, k1_off187 ⟨k, hk⟩], ?_, k1_off171 ⟨k, hk⟩, k1_off171_inb i ⟨k, hk⟩ k1_h11, ?_, hq, ?_⟩
  · intro h
    fin_cases h
    · exact k1_off172_inb i ⟨k, hk⟩ k1_h11
    · exact k1_off173_inb i ⟨k, hk⟩ k1_h11
    · exact k1_off174_inb i ⟨k, hk⟩ k1_h11
    · exact k1_off175_inb i ⟨k, hk⟩ k1_h11
    · exact k1_off176_inb i ⟨k, hk⟩ k1_h11
    · exact k1_off177_inb i ⟨k, hk⟩ k1_h11
    · exact k1_off178_inb i ⟨k, hk⟩ k1_h11
    · exact k1_off179_inb i ⟨k, hk⟩ k1_h11
    · exact k1_off180_inb i ⟨k, hk⟩ k1_h11
    · exact k1_off181_inb i ⟨k, hk⟩ k1_h11
    · exact k1_off182_inb i ⟨k, hk⟩ k1_h11
    · exact k1_off183_inb i ⟨k, hk⟩ k1_h11
    · exact k1_off184_inb i ⟨k, hk⟩ k1_h11
    · exact k1_off185_inb i ⟨k, hk⟩ k1_h11
    · exact k1_off186_inb i ⟨k, hk⟩ k1_h11
    · exact k1_off187_inb i ⟨k, hk⟩ k1_h11
  · intro h
    fin_cases h
    · exact k1_off172_eq ⟨k, hk⟩
    · exact k1_off173_eq ⟨k, hk⟩
    · exact k1_off174_eq ⟨k, hk⟩
    · exact k1_off175_eq ⟨k, hk⟩
    · exact k1_off176_eq ⟨k, hk⟩
    · exact k1_off177_eq ⟨k, hk⟩
    · exact k1_off178_eq ⟨k, hk⟩
    · exact k1_off179_eq ⟨k, hk⟩
    · exact k1_off180_eq ⟨k, hk⟩
    · exact k1_off181_eq ⟨k, hk⟩
    · exact k1_off182_eq ⟨k, hk⟩
    · exact k1_off183_eq ⟨k, hk⟩
    · exact k1_off184_eq ⟨k, hk⟩
    · exact k1_off185_eq ⟨k, hk⟩
    · exact k1_off186_eq ⟨k, hk⟩
    · exact k1_off187_eq ⟨k, hk⟩
  · refine hs.trans ?_
    refine congrArg (· ++ _) ?_
    dsimp only [tripL_k1_t11]
    unfold trip_k1_t11
    rfl

theorem facts12 : TileFacts 1408 := by constructor <;> decide

/-- Loop 12 leaves the output block of the tiles over the first 1536 keys. -/
theorem out_t12 (𝒱 : Variants) (c : Dev nD) (bd : Option 𝒱.V) (i : grid1.Coords) (arg3 : Memref sig .tc .vmem S1x1x128x16x128 .fp8e4m3) (harg3 : arg3.IsWhole) (arg4 : Memref sig .tc .vmem S1x1x2048x128 .fp8e4m3) (harg4 : arg4.IsWhole) (arg5 : Memref sig .tc .vmem S1x1x128x2048 .bf16) (harg5 : arg5.IsWhole) (arg6 : Memref sig .tc .vmem S1x1x256 .f32) (harg6 : arg6.IsWhole) (arg7 : Memref sig .tc .vmem S1x128x2048 .bf16) (harg7 : arg7.IsWhole) (arg8 : Memref sig .tc .vmem S2048x256 .f32) (harg8 : arg8.IsWhole) (v3 : FVec F S1x256 .f32) (k1_h12 : k1_cond12 i = 1#1) (X_arg3 : BufTy.Contents (Elt F) arg3.view.ty) (X_arg4 : BufTy.Contents (Elt F) arg4.view.ty) (X_arg5 : BufTy.Contents (Elt F) arg5.view.ty) (G7 : BufTy.Contents (Elt F) arg7.view.ty) (G8 : BufTy.Contents (Elt F) arg8.view.ty) :
    arg7.view.read (Elt F) (arg7.view.writes (Elt F) G7 (pb_k1_t12 (F := F) 𝒱 c bd i arg3 harg3 arg4 harg4 arg5 harg5 arg6 harg6 arg7 harg7 arg8 harg8 v3 k1_h12 X_arg3 X_arg4 X_arg5 G7 G8 k1_t12_loop.trips).1)
      = outVal (tile 1408 facts12 (v3) (arg3.view.read (Elt F) X_arg3) (arg4.view.read (Elt F) X_arg4) (arg5.view.read (Elt F) X_arg5)) := by
  refine loop_tiles 1408 facts12 arg7.view G7 arg8.view (fun j => (pb_k1_t12 (F := F) 𝒱 c bd i arg3 harg3 arg4 harg4 arg5 harg5 arg6 harg6 arg7 harg7 arg8 harg8 v3 k1_h12 X_arg3 X_arg4 X_arg5 G7 G8 j).1) _ _ _ _ rfl fun k hk => ?_
  have hs := congrArg Prod.fst (pb_k1_t12_succ (F := F) 𝒱 c bd i arg3 harg3 arg4 harg4 arg5 harg5 arg6 harg6 arg7 harg7 arg8 harg8 v3 k1_h12 X_arg3 X_arg4 X_arg5 G7 G8 ⟨k, hk⟩)
  have hq := k1_off188_eq ⟨k, hk⟩
  refine ⟨![k1_off189 ⟨k, hk⟩, k1_off190 ⟨k, hk⟩, k1_off191 ⟨k, hk⟩, k1_off192 ⟨k, hk⟩, k1_off193 ⟨k, hk⟩, k1_off194 ⟨k, hk⟩, k1_off195 ⟨k, hk⟩, k1_off196 ⟨k, hk⟩, k1_off197 ⟨k, hk⟩, k1_off198 ⟨k, hk⟩, k1_off199 ⟨k, hk⟩, k1_off200 ⟨k, hk⟩, k1_off201 ⟨k, hk⟩, k1_off202 ⟨k, hk⟩, k1_off203 ⟨k, hk⟩, k1_off204 ⟨k, hk⟩], ?_, k1_off188 ⟨k, hk⟩, k1_off188_inb i ⟨k, hk⟩ k1_h12, ?_, hq, ?_⟩
  · intro h
    fin_cases h
    · exact k1_off189_inb i ⟨k, hk⟩ k1_h12
    · exact k1_off190_inb i ⟨k, hk⟩ k1_h12
    · exact k1_off191_inb i ⟨k, hk⟩ k1_h12
    · exact k1_off192_inb i ⟨k, hk⟩ k1_h12
    · exact k1_off193_inb i ⟨k, hk⟩ k1_h12
    · exact k1_off194_inb i ⟨k, hk⟩ k1_h12
    · exact k1_off195_inb i ⟨k, hk⟩ k1_h12
    · exact k1_off196_inb i ⟨k, hk⟩ k1_h12
    · exact k1_off197_inb i ⟨k, hk⟩ k1_h12
    · exact k1_off198_inb i ⟨k, hk⟩ k1_h12
    · exact k1_off199_inb i ⟨k, hk⟩ k1_h12
    · exact k1_off200_inb i ⟨k, hk⟩ k1_h12
    · exact k1_off201_inb i ⟨k, hk⟩ k1_h12
    · exact k1_off202_inb i ⟨k, hk⟩ k1_h12
    · exact k1_off203_inb i ⟨k, hk⟩ k1_h12
    · exact k1_off204_inb i ⟨k, hk⟩ k1_h12
  · intro h
    fin_cases h
    · exact k1_off189_eq ⟨k, hk⟩
    · exact k1_off190_eq ⟨k, hk⟩
    · exact k1_off191_eq ⟨k, hk⟩
    · exact k1_off192_eq ⟨k, hk⟩
    · exact k1_off193_eq ⟨k, hk⟩
    · exact k1_off194_eq ⟨k, hk⟩
    · exact k1_off195_eq ⟨k, hk⟩
    · exact k1_off196_eq ⟨k, hk⟩
    · exact k1_off197_eq ⟨k, hk⟩
    · exact k1_off198_eq ⟨k, hk⟩
    · exact k1_off199_eq ⟨k, hk⟩
    · exact k1_off200_eq ⟨k, hk⟩
    · exact k1_off201_eq ⟨k, hk⟩
    · exact k1_off202_eq ⟨k, hk⟩
    · exact k1_off203_eq ⟨k, hk⟩
    · exact k1_off204_eq ⟨k, hk⟩
  · refine hs.trans ?_
    refine congrArg (· ++ _) ?_
    dsimp only [tripL_k1_t12]
    unfold trip_k1_t12
    rfl

theorem facts13 : TileFacts 1536 := by constructor <;> decide

/-- Loop 13 leaves the output block of the tiles over the first 1664 keys. -/
theorem out_t13 (𝒱 : Variants) (c : Dev nD) (bd : Option 𝒱.V) (i : grid1.Coords) (arg3 : Memref sig .tc .vmem S1x1x128x16x128 .fp8e4m3) (harg3 : arg3.IsWhole) (arg4 : Memref sig .tc .vmem S1x1x2048x128 .fp8e4m3) (harg4 : arg4.IsWhole) (arg5 : Memref sig .tc .vmem S1x1x128x2048 .bf16) (harg5 : arg5.IsWhole) (arg6 : Memref sig .tc .vmem S1x1x256 .f32) (harg6 : arg6.IsWhole) (arg7 : Memref sig .tc .vmem S1x128x2048 .bf16) (harg7 : arg7.IsWhole) (arg8 : Memref sig .tc .vmem S2048x256 .f32) (harg8 : arg8.IsWhole) (v3 : FVec F S1x256 .f32) (k1_h13 : k1_cond13 i = 1#1) (X_arg3 : BufTy.Contents (Elt F) arg3.view.ty) (X_arg4 : BufTy.Contents (Elt F) arg4.view.ty) (X_arg5 : BufTy.Contents (Elt F) arg5.view.ty) (G7 : BufTy.Contents (Elt F) arg7.view.ty) (G8 : BufTy.Contents (Elt F) arg8.view.ty) :
    arg7.view.read (Elt F) (arg7.view.writes (Elt F) G7 (pb_k1_t13 (F := F) 𝒱 c bd i arg3 harg3 arg4 harg4 arg5 harg5 arg6 harg6 arg7 harg7 arg8 harg8 v3 k1_h13 X_arg3 X_arg4 X_arg5 G7 G8 k1_t13_loop.trips).1)
      = outVal (tile 1536 facts13 (v3) (arg3.view.read (Elt F) X_arg3) (arg4.view.read (Elt F) X_arg4) (arg5.view.read (Elt F) X_arg5)) := by
  refine loop_tiles 1536 facts13 arg7.view G7 arg8.view (fun j => (pb_k1_t13 (F := F) 𝒱 c bd i arg3 harg3 arg4 harg4 arg5 harg5 arg6 harg6 arg7 harg7 arg8 harg8 v3 k1_h13 X_arg3 X_arg4 X_arg5 G7 G8 j).1) _ _ _ _ rfl fun k hk => ?_
  have hs := congrArg Prod.fst (pb_k1_t13_succ (F := F) 𝒱 c bd i arg3 harg3 arg4 harg4 arg5 harg5 arg6 harg6 arg7 harg7 arg8 harg8 v3 k1_h13 X_arg3 X_arg4 X_arg5 G7 G8 ⟨k, hk⟩)
  have hq := k1_off205_eq ⟨k, hk⟩
  refine ⟨![k1_off206 ⟨k, hk⟩, k1_off207 ⟨k, hk⟩, k1_off208 ⟨k, hk⟩, k1_off209 ⟨k, hk⟩, k1_off210 ⟨k, hk⟩, k1_off211 ⟨k, hk⟩, k1_off212 ⟨k, hk⟩, k1_off213 ⟨k, hk⟩, k1_off214 ⟨k, hk⟩, k1_off215 ⟨k, hk⟩, k1_off216 ⟨k, hk⟩, k1_off217 ⟨k, hk⟩, k1_off218 ⟨k, hk⟩, k1_off219 ⟨k, hk⟩, k1_off220 ⟨k, hk⟩, k1_off221 ⟨k, hk⟩], ?_, k1_off205 ⟨k, hk⟩, k1_off205_inb i ⟨k, hk⟩ k1_h13, ?_, hq, ?_⟩
  · intro h
    fin_cases h
    · exact k1_off206_inb i ⟨k, hk⟩ k1_h13
    · exact k1_off207_inb i ⟨k, hk⟩ k1_h13
    · exact k1_off208_inb i ⟨k, hk⟩ k1_h13
    · exact k1_off209_inb i ⟨k, hk⟩ k1_h13
    · exact k1_off210_inb i ⟨k, hk⟩ k1_h13
    · exact k1_off211_inb i ⟨k, hk⟩ k1_h13
    · exact k1_off212_inb i ⟨k, hk⟩ k1_h13
    · exact k1_off213_inb i ⟨k, hk⟩ k1_h13
    · exact k1_off214_inb i ⟨k, hk⟩ k1_h13
    · exact k1_off215_inb i ⟨k, hk⟩ k1_h13
    · exact k1_off216_inb i ⟨k, hk⟩ k1_h13
    · exact k1_off217_inb i ⟨k, hk⟩ k1_h13
    · exact k1_off218_inb i ⟨k, hk⟩ k1_h13
    · exact k1_off219_inb i ⟨k, hk⟩ k1_h13
    · exact k1_off220_inb i ⟨k, hk⟩ k1_h13
    · exact k1_off221_inb i ⟨k, hk⟩ k1_h13
  · intro h
    fin_cases h
    · exact k1_off206_eq ⟨k, hk⟩
    · exact k1_off207_eq ⟨k, hk⟩
    · exact k1_off208_eq ⟨k, hk⟩
    · exact k1_off209_eq ⟨k, hk⟩
    · exact k1_off210_eq ⟨k, hk⟩
    · exact k1_off211_eq ⟨k, hk⟩
    · exact k1_off212_eq ⟨k, hk⟩
    · exact k1_off213_eq ⟨k, hk⟩
    · exact k1_off214_eq ⟨k, hk⟩
    · exact k1_off215_eq ⟨k, hk⟩
    · exact k1_off216_eq ⟨k, hk⟩
    · exact k1_off217_eq ⟨k, hk⟩
    · exact k1_off218_eq ⟨k, hk⟩
    · exact k1_off219_eq ⟨k, hk⟩
    · exact k1_off220_eq ⟨k, hk⟩
    · exact k1_off221_eq ⟨k, hk⟩
  · refine hs.trans ?_
    refine congrArg (· ++ _) ?_
    dsimp only [tripL_k1_t13]
    unfold trip_k1_t13
    rfl

theorem facts14 : TileFacts 1664 := by constructor <;> decide

/-- Loop 14 leaves the output block of the tiles over the first 1792 keys. -/
theorem out_t14 (𝒱 : Variants) (c : Dev nD) (bd : Option 𝒱.V) (i : grid1.Coords) (arg3 : Memref sig .tc .vmem S1x1x128x16x128 .fp8e4m3) (harg3 : arg3.IsWhole) (arg4 : Memref sig .tc .vmem S1x1x2048x128 .fp8e4m3) (harg4 : arg4.IsWhole) (arg5 : Memref sig .tc .vmem S1x1x128x2048 .bf16) (harg5 : arg5.IsWhole) (arg6 : Memref sig .tc .vmem S1x1x256 .f32) (harg6 : arg6.IsWhole) (arg7 : Memref sig .tc .vmem S1x128x2048 .bf16) (harg7 : arg7.IsWhole) (arg8 : Memref sig .tc .vmem S2048x256 .f32) (harg8 : arg8.IsWhole) (v3 : FVec F S1x256 .f32) (k1_h14 : k1_cond14 i = 1#1) (X_arg3 : BufTy.Contents (Elt F) arg3.view.ty) (X_arg4 : BufTy.Contents (Elt F) arg4.view.ty) (X_arg5 : BufTy.Contents (Elt F) arg5.view.ty) (G7 : BufTy.Contents (Elt F) arg7.view.ty) (G8 : BufTy.Contents (Elt F) arg8.view.ty) :
    arg7.view.read (Elt F) (arg7.view.writes (Elt F) G7 (pb_k1_t14 (F := F) 𝒱 c bd i arg3 harg3 arg4 harg4 arg5 harg5 arg6 harg6 arg7 harg7 arg8 harg8 v3 k1_h14 X_arg3 X_arg4 X_arg5 G7 G8 k1_t14_loop.trips).1)
      = outVal (tile 1664 facts14 (v3) (arg3.view.read (Elt F) X_arg3) (arg4.view.read (Elt F) X_arg4) (arg5.view.read (Elt F) X_arg5)) := by
  refine loop_tiles 1664 facts14 arg7.view G7 arg8.view (fun j => (pb_k1_t14 (F := F) 𝒱 c bd i arg3 harg3 arg4 harg4 arg5 harg5 arg6 harg6 arg7 harg7 arg8 harg8 v3 k1_h14 X_arg3 X_arg4 X_arg5 G7 G8 j).1) _ _ _ _ rfl fun k hk => ?_
  have hs := congrArg Prod.fst (pb_k1_t14_succ (F := F) 𝒱 c bd i arg3 harg3 arg4 harg4 arg5 harg5 arg6 harg6 arg7 harg7 arg8 harg8 v3 k1_h14 X_arg3 X_arg4 X_arg5 G7 G8 ⟨k, hk⟩)
  have hq := k1_off222_eq ⟨k, hk⟩
  refine ⟨![k1_off223 ⟨k, hk⟩, k1_off224 ⟨k, hk⟩, k1_off225 ⟨k, hk⟩, k1_off226 ⟨k, hk⟩, k1_off227 ⟨k, hk⟩, k1_off228 ⟨k, hk⟩, k1_off229 ⟨k, hk⟩, k1_off230 ⟨k, hk⟩, k1_off231 ⟨k, hk⟩, k1_off232 ⟨k, hk⟩, k1_off233 ⟨k, hk⟩, k1_off234 ⟨k, hk⟩, k1_off235 ⟨k, hk⟩, k1_off236 ⟨k, hk⟩, k1_off237 ⟨k, hk⟩, k1_off238 ⟨k, hk⟩], ?_, k1_off222 ⟨k, hk⟩, k1_off222_inb i ⟨k, hk⟩ k1_h14, ?_, hq, ?_⟩
  · intro h
    fin_cases h
    · exact k1_off223_inb i ⟨k, hk⟩ k1_h14
    · exact k1_off224_inb i ⟨k, hk⟩ k1_h14
    · exact k1_off225_inb i ⟨k, hk⟩ k1_h14
    · exact k1_off226_inb i ⟨k, hk⟩ k1_h14
    · exact k1_off227_inb i ⟨k, hk⟩ k1_h14
    · exact k1_off228_inb i ⟨k, hk⟩ k1_h14
    · exact k1_off229_inb i ⟨k, hk⟩ k1_h14
    · exact k1_off230_inb i ⟨k, hk⟩ k1_h14
    · exact k1_off231_inb i ⟨k, hk⟩ k1_h14
    · exact k1_off232_inb i ⟨k, hk⟩ k1_h14
    · exact k1_off233_inb i ⟨k, hk⟩ k1_h14
    · exact k1_off234_inb i ⟨k, hk⟩ k1_h14
    · exact k1_off235_inb i ⟨k, hk⟩ k1_h14
    · exact k1_off236_inb i ⟨k, hk⟩ k1_h14
    · exact k1_off237_inb i ⟨k, hk⟩ k1_h14
    · exact k1_off238_inb i ⟨k, hk⟩ k1_h14
  · intro h
    fin_cases h
    · exact k1_off223_eq ⟨k, hk⟩
    · exact k1_off224_eq ⟨k, hk⟩
    · exact k1_off225_eq ⟨k, hk⟩
    · exact k1_off226_eq ⟨k, hk⟩
    · exact k1_off227_eq ⟨k, hk⟩
    · exact k1_off228_eq ⟨k, hk⟩
    · exact k1_off229_eq ⟨k, hk⟩
    · exact k1_off230_eq ⟨k, hk⟩
    · exact k1_off231_eq ⟨k, hk⟩
    · exact k1_off232_eq ⟨k, hk⟩
    · exact k1_off233_eq ⟨k, hk⟩
    · exact k1_off234_eq ⟨k, hk⟩
    · exact k1_off235_eq ⟨k, hk⟩
    · exact k1_off236_eq ⟨k, hk⟩
    · exact k1_off237_eq ⟨k, hk⟩
    · exact k1_off238_eq ⟨k, hk⟩
  · refine hs.trans ?_
    refine congrArg (· ++ _) ?_
    dsimp only [tripL_k1_t14]
    unfold trip_k1_t14
    rfl

theorem facts15 : TileFacts 1792 := by constructor <;> decide

/-- Loop 15 leaves the output block of the tiles over the first 1920 keys. -/
theorem out_t15 (𝒱 : Variants) (c : Dev nD) (bd : Option 𝒱.V) (i : grid1.Coords) (arg3 : Memref sig .tc .vmem S1x1x128x16x128 .fp8e4m3) (harg3 : arg3.IsWhole) (arg4 : Memref sig .tc .vmem S1x1x2048x128 .fp8e4m3) (harg4 : arg4.IsWhole) (arg5 : Memref sig .tc .vmem S1x1x128x2048 .bf16) (harg5 : arg5.IsWhole) (arg6 : Memref sig .tc .vmem S1x1x256 .f32) (harg6 : arg6.IsWhole) (arg7 : Memref sig .tc .vmem S1x128x2048 .bf16) (harg7 : arg7.IsWhole) (arg8 : Memref sig .tc .vmem S2048x256 .f32) (harg8 : arg8.IsWhole) (v3 : FVec F S1x256 .f32) (k1_h15 : k1_cond15 i = 1#1) (X_arg3 : BufTy.Contents (Elt F) arg3.view.ty) (X_arg4 : BufTy.Contents (Elt F) arg4.view.ty) (X_arg5 : BufTy.Contents (Elt F) arg5.view.ty) (G7 : BufTy.Contents (Elt F) arg7.view.ty) (G8 : BufTy.Contents (Elt F) arg8.view.ty) :
    arg7.view.read (Elt F) (arg7.view.writes (Elt F) G7 (pb_k1_t15 (F := F) 𝒱 c bd i arg3 harg3 arg4 harg4 arg5 harg5 arg6 harg6 arg7 harg7 arg8 harg8 v3 k1_h15 X_arg3 X_arg4 X_arg5 G7 G8 k1_t15_loop.trips).1)
      = outVal (tile 1792 facts15 (v3) (arg3.view.read (Elt F) X_arg3) (arg4.view.read (Elt F) X_arg4) (arg5.view.read (Elt F) X_arg5)) := by
  refine loop_tiles 1792 facts15 arg7.view G7 arg8.view (fun j => (pb_k1_t15 (F := F) 𝒱 c bd i arg3 harg3 arg4 harg4 arg5 harg5 arg6 harg6 arg7 harg7 arg8 harg8 v3 k1_h15 X_arg3 X_arg4 X_arg5 G7 G8 j).1) _ _ _ _ rfl fun k hk => ?_
  have hs := congrArg Prod.fst (pb_k1_t15_succ (F := F) 𝒱 c bd i arg3 harg3 arg4 harg4 arg5 harg5 arg6 harg6 arg7 harg7 arg8 harg8 v3 k1_h15 X_arg3 X_arg4 X_arg5 G7 G8 ⟨k, hk⟩)
  have hq := k1_off239_eq ⟨k, hk⟩
  refine ⟨![k1_off240 ⟨k, hk⟩, k1_off241 ⟨k, hk⟩, k1_off242 ⟨k, hk⟩, k1_off243 ⟨k, hk⟩, k1_off244 ⟨k, hk⟩, k1_off245 ⟨k, hk⟩, k1_off246 ⟨k, hk⟩, k1_off247 ⟨k, hk⟩, k1_off248 ⟨k, hk⟩, k1_off249 ⟨k, hk⟩, k1_off250 ⟨k, hk⟩, k1_off251 ⟨k, hk⟩, k1_off252 ⟨k, hk⟩, k1_off253 ⟨k, hk⟩, k1_off254 ⟨k, hk⟩, k1_off255 ⟨k, hk⟩], ?_, k1_off239 ⟨k, hk⟩, k1_off239_inb i ⟨k, hk⟩ k1_h15, ?_, hq, ?_⟩
  · intro h
    fin_cases h
    · exact k1_off240_inb i ⟨k, hk⟩ k1_h15
    · exact k1_off241_inb i ⟨k, hk⟩ k1_h15
    · exact k1_off242_inb i ⟨k, hk⟩ k1_h15
    · exact k1_off243_inb i ⟨k, hk⟩ k1_h15
    · exact k1_off244_inb i ⟨k, hk⟩ k1_h15
    · exact k1_off245_inb i ⟨k, hk⟩ k1_h15
    · exact k1_off246_inb i ⟨k, hk⟩ k1_h15
    · exact k1_off247_inb i ⟨k, hk⟩ k1_h15
    · exact k1_off248_inb i ⟨k, hk⟩ k1_h15
    · exact k1_off249_inb i ⟨k, hk⟩ k1_h15
    · exact k1_off250_inb i ⟨k, hk⟩ k1_h15
    · exact k1_off251_inb i ⟨k, hk⟩ k1_h15
    · exact k1_off252_inb i ⟨k, hk⟩ k1_h15
    · exact k1_off253_inb i ⟨k, hk⟩ k1_h15
    · exact k1_off254_inb i ⟨k, hk⟩ k1_h15
    · exact k1_off255_inb i ⟨k, hk⟩ k1_h15
  · intro h
    fin_cases h
    · exact k1_off240_eq ⟨k, hk⟩
    · exact k1_off241_eq ⟨k, hk⟩
    · exact k1_off242_eq ⟨k, hk⟩
    · exact k1_off243_eq ⟨k, hk⟩
    · exact k1_off244_eq ⟨k, hk⟩
    · exact k1_off245_eq ⟨k, hk⟩
    · exact k1_off246_eq ⟨k, hk⟩
    · exact k1_off247_eq ⟨k, hk⟩
    · exact k1_off248_eq ⟨k, hk⟩
    · exact k1_off249_eq ⟨k, hk⟩
    · exact k1_off250_eq ⟨k, hk⟩
    · exact k1_off251_eq ⟨k, hk⟩
    · exact k1_off252_eq ⟨k, hk⟩
    · exact k1_off253_eq ⟨k, hk⟩
    · exact k1_off254_eq ⟨k, hk⟩
    · exact k1_off255_eq ⟨k, hk⟩
  · refine hs.trans ?_
    refine congrArg (· ++ _) ?_
    dsimp only [tripL_k1_t15]
    unfold trip_k1_t15
    rfl

theorem facts16 : TileFacts 1920 := by constructor <;> decide

/-- Loop 16 leaves the output block of the tiles over the first 2048 keys. -/
theorem out_t16 (𝒱 : Variants) (c : Dev nD) (bd : Option 𝒱.V) (i : grid1.Coords) (arg3 : Memref sig .tc .vmem S1x1x128x16x128 .fp8e4m3) (harg3 : arg3.IsWhole) (arg4 : Memref sig .tc .vmem S1x1x2048x128 .fp8e4m3) (harg4 : arg4.IsWhole) (arg5 : Memref sig .tc .vmem S1x1x128x2048 .bf16) (harg5 : arg5.IsWhole) (arg6 : Memref sig .tc .vmem S1x1x256 .f32) (harg6 : arg6.IsWhole) (arg7 : Memref sig .tc .vmem S1x128x2048 .bf16) (harg7 : arg7.IsWhole) (arg8 : Memref sig .tc .vmem S2048x256 .f32) (harg8 : arg8.IsWhole) (v3 : FVec F S1x256 .f32) (k1_h16 : k1_cond16 i = 1#1) (X_arg3 : BufTy.Contents (Elt F) arg3.view.ty) (X_arg4 : BufTy.Contents (Elt F) arg4.view.ty) (X_arg5 : BufTy.Contents (Elt F) arg5.view.ty) (G7 : BufTy.Contents (Elt F) arg7.view.ty) (G8 : BufTy.Contents (Elt F) arg8.view.ty) :
    arg7.view.read (Elt F) (arg7.view.writes (Elt F) G7 (pb_k1_t16 (F := F) 𝒱 c bd i arg3 harg3 arg4 harg4 arg5 harg5 arg6 harg6 arg7 harg7 arg8 harg8 v3 k1_h16 X_arg3 X_arg4 X_arg5 G7 G8 k1_t16_loop.trips).1)
      = outVal (tile 1920 facts16 (v3) (arg3.view.read (Elt F) X_arg3) (arg4.view.read (Elt F) X_arg4) (arg5.view.read (Elt F) X_arg5)) := by
  refine loop_tiles 1920 facts16 arg7.view G7 arg8.view (fun j => (pb_k1_t16 (F := F) 𝒱 c bd i arg3 harg3 arg4 harg4 arg5 harg5 arg6 harg6 arg7 harg7 arg8 harg8 v3 k1_h16 X_arg3 X_arg4 X_arg5 G7 G8 j).1) _ _ _ _ rfl fun k hk => ?_
  have hs := congrArg Prod.fst (pb_k1_t16_succ (F := F) 𝒱 c bd i arg3 harg3 arg4 harg4 arg5 harg5 arg6 harg6 arg7 harg7 arg8 harg8 v3 k1_h16 X_arg3 X_arg4 X_arg5 G7 G8 ⟨k, hk⟩)
  have hq := k1_off256_eq ⟨k, hk⟩
  refine ⟨![k1_off257 ⟨k, hk⟩, k1_off258 ⟨k, hk⟩, k1_off259 ⟨k, hk⟩, k1_off260 ⟨k, hk⟩, k1_off261 ⟨k, hk⟩, k1_off262 ⟨k, hk⟩, k1_off263 ⟨k, hk⟩, k1_off264 ⟨k, hk⟩, k1_off265 ⟨k, hk⟩, k1_off266 ⟨k, hk⟩, k1_off267 ⟨k, hk⟩, k1_off268 ⟨k, hk⟩, k1_off269 ⟨k, hk⟩, k1_off270 ⟨k, hk⟩, k1_off271 ⟨k, hk⟩, k1_off272 ⟨k, hk⟩], ?_, k1_off256 ⟨k, hk⟩, k1_off256_inb i ⟨k, hk⟩ k1_h16, ?_, hq, ?_⟩
  · intro h
    fin_cases h
    · exact k1_off257_inb i ⟨k, hk⟩ k1_h16
    · exact k1_off258_inb i ⟨k, hk⟩ k1_h16
    · exact k1_off259_inb i ⟨k, hk⟩ k1_h16
    · exact k1_off260_inb i ⟨k, hk⟩ k1_h16
    · exact k1_off261_inb i ⟨k, hk⟩ k1_h16
    · exact k1_off262_inb i ⟨k, hk⟩ k1_h16
    · exact k1_off263_inb i ⟨k, hk⟩ k1_h16
    · exact k1_off264_inb i ⟨k, hk⟩ k1_h16
    · exact k1_off265_inb i ⟨k, hk⟩ k1_h16
    · exact k1_off266_inb i ⟨k, hk⟩ k1_h16
    · exact k1_off267_inb i ⟨k, hk⟩ k1_h16
    · exact k1_off268_inb i ⟨k, hk⟩ k1_h16
    · exact k1_off269_inb i ⟨k, hk⟩ k1_h16
    · exact k1_off270_inb i ⟨k, hk⟩ k1_h16
    · exact k1_off271_inb i ⟨k, hk⟩ k1_h16
    · exact k1_off272_inb i ⟨k, hk⟩ k1_h16
  · intro h
    fin_cases h
    · exact k1_off257_eq ⟨k, hk⟩
    · exact k1_off258_eq ⟨k, hk⟩
    · exact k1_off259_eq ⟨k, hk⟩
    · exact k1_off260_eq ⟨k, hk⟩
    · exact k1_off261_eq ⟨k, hk⟩
    · exact k1_off262_eq ⟨k, hk⟩
    · exact k1_off263_eq ⟨k, hk⟩
    · exact k1_off264_eq ⟨k, hk⟩
    · exact k1_off265_eq ⟨k, hk⟩
    · exact k1_off266_eq ⟨k, hk⟩
    · exact k1_off267_eq ⟨k, hk⟩
    · exact k1_off268_eq ⟨k, hk⟩
    · exact k1_off269_eq ⟨k, hk⟩
    · exact k1_off270_eq ⟨k, hk⟩
    · exact k1_off271_eq ⟨k, hk⟩
    · exact k1_off272_eq ⟨k, hk⟩
  · refine hs.trans ?_
    refine congrArg (· ++ _) ?_
    dsimp only [tripL_k1_t16]
    unfold trip_k1_t16
    rfl

end Cert.KernelIdeal.Attn

end
-- ==== Proof.AttnRun.lean ====
/- One grid point of the attention kernel (`KernelIdeal`): from the five blocks it is given, it ends with the same four inputs and
   the output block `outBlk`, its scratch holding anything. -/
module

public import proofs.«01_k».proof.Proof.AttnLoops

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Attn

variable {F : FTy → Type} [FloatOps F] [Named F]

local notation "𝕄" => MT nD τ sig Unit (Elt F) ℕ (UR sig nD τ) ℕ

/-- A branch of the kernel is taken exactly at the points of its query block. -/
theorem cond_gen (a c : Fin 16) : Scalar.cmpi .ne (Scalar.extui (Scalar.cmpi .eq (BitVec.ofNat 32 a.val) (BitVec.ofNat 32 c.val)) : BitVec 32) 0#32 = 1#1 ↔ a = c := by
  revert a c; decide +kernel

theorem cond_1 (i : grid1.Coords) : k1_cond1 i = 1#1 ↔ i 2 = (0 : Fin 16) := cond_gen (i 2) 0
theorem cond_2 (i : grid1.Coords) : k1_cond2 i = 1#1 ↔ i 2 = (1 : Fin 16) := cond_gen (i 2) 1
theorem cond_3 (i : grid1.Coords) : k1_cond3 i = 1#1 ↔ i 2 = (2 : Fin 16) := cond_gen (i 2) 2
theorem cond_4 (i : grid1.Coords) : k1_cond4 i = 1#1 ↔ i 2 = (3 : Fin 16) := cond_gen (i 2) 3
theorem cond_5 (i : grid1.Coords) : k1_cond5 i = 1#1 ↔ i 2 = (4 : Fin 16) := cond_gen (i 2) 4
theorem cond_6 (i : grid1.Coords) : k1_cond6 i = 1#1 ↔ i 2 = (5 : Fin 16) := cond_gen (i 2) 5
theorem cond_7 (i : grid1.Coords) : k1_cond7 i = 1#1 ↔ i 2 = (6 : Fin 16) := cond_gen (i 2) 6
theorem cond_8 (i : grid1.Coords) : k1_cond8 i = 1#1 ↔ i 2 = (7 : Fin 16) := cond_gen (i 2) 7
theorem cond_9 (i : grid1.Coords) : k1_cond9 i = 1#1 ↔ i 2 = (8 : Fin 16) := cond_gen (i 2) 8
theorem cond_10 (i : grid1.Coords) : k1_cond10 i = 1#1 ↔ i 2 = (9 : Fin 16) := cond_gen (i 2) 9
theorem cond_11 (i : grid1.Coords) : k1_cond11 i = 1#1 ↔ i 2 = (10 : Fin 16) := cond_gen (i 2) 10
theorem cond_12 (i : grid1.Coords) : k1_cond12 i = 1#1 ↔ i 2 = (11 : Fin 16) := cond_gen (i 2) 11
theorem cond_13 (i : grid1.Coords) : k1_cond13 i = 1#1 ↔ i 2 = (12 : Fin 16) := cond_gen (i 2) 12
theorem cond_14 (i : grid1.Coords) : k1_cond14 i = 1#1 ↔ i 2 = (13 : Fin 16) := cond_gen (i 2) 13
theorem cond_15 (i : grid1.Coords) : k1_cond15 i = 1#1 ↔ i 2 = (14 : Fin 16) := cond_gen (i 2) 14
theorem cond_16 (i : grid1.Coords) : k1_cond16 i = 1#1 ↔ i 2 = (15 : Fin 16) := cond_gen (i 2) 15

/-- The shape facts at query block `a`. -/
theorem factsAt (a : Fin 16) : TileFacts (128 * a.val) := by
  fin_cases a
  · exact facts1
  · exact facts2
  · exact facts3
  · exact facts4
  · exact facts5
  · exact facts6
  · exact facts7
  · exact facts8
  · exact facts9
  · exact facts10
  · exact facts11
  · exact facts12
  · exact facts13
  · exact facts14
  · exact facts15
  · exact facts16

/-- The output block of query block `a` from the query block, the keys, the values and the coefficients. -/
def outBlk (a : Fin 16) (Q : Vec F S1x1x128x16x128 .fp8e4m3) (K : Vec F S1x1x2048x128 .fp8e4m3) (V : Vec F S1x1x128x2048 .bf16)
    (C : Vec F S1x1x256 .f32) : Vec F S1x128x2048 .bf16 :=
  outVal (tile (128 * a.val) (factsAt a) (k1_pay377 C) Q K V)

theorem readAt_coef (arg6 : Memref sig .tc .vmem S1x1x256 .f32) (harg6 : arg6.IsWhole) (x : Vec F S1x1x256 .f32) :
    arg6.view.readAt (Elt F) (Rect.unit (s := S1x1x256) ![0, 0, 0] S1x1x256.size inb_S1x1x256_S1x1x256_0_0_0).toLoadRect (harg6.unread x) = x := by
  rw [View.readAt_eq_ld, harg6.read_unread]
  exact View.ld_unit_zero (by funext a; match a with | 0 => rfl | 1 => rfl | 2 => rfl) _ _

set_option maxHeartbeats 8000000 in
theorem run1 (c : Dev nD) (i : grid1.Coords) (arg3 : Memref sig .tc .vmem S1x1x128x16x128 .fp8e4m3) (harg3 : arg3.IsWhole) (arg4 : Memref sig .tc .vmem S1x1x2048x128 .fp8e4m3) (harg4 : arg4.IsWhole) (arg5 : Memref sig .tc .vmem S1x1x128x2048 .bf16) (harg5 : arg5.IsWhole) (arg6 : Memref sig .tc .vmem S1x1x256 .f32) (harg6 : arg6.IsWhole) (arg7 : Memref sig .tc .vmem S1x128x2048 .bf16) (harg7 : arg7.IsWhole) (arg8 : Memref sig .tc .vmem S2048x256 .f32) (harg8 : arg8.IsWhole)
    (x0 : Vec F S1x1x128x16x128 .fp8e4m3) (x1 : Vec F S1x1x2048x128 .fp8e4m3) (x2 : Vec F S1x1x128x2048 .bf16) (x3 : Vec F S1x1x256 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (outBlk (i 2) x0 x1 x2 x3) ∗ (∃ d, owns (c : Thread nD τ) arg8 fullShare d)) -∗ K ⟨⟩))
          ⊢ wp frame (wpE (defs₀ (F := F)) Variants.none c none) E (cc1_attn i arg3 harg3 arg4 harg4 arg5 harg5 arg6 harg6 arg7 harg7 arg8 harg8) K := by
  intro E K
  obtain ⟨a, hi⟩ : ∃ a : Fin 16, i 2 = a := ⟨_, rfl⟩
  rw [hi]
  simp only [cc1_attn_eq_skeleton]; unfold cc1_attn_skel
  simp only [k1_part65_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
  obtain rfl := harg3.eq_unread hf0; obtain rfl := harg4.eq_unread hf1; obtain rfl := harg5.eq_unread hf2; obtain rfl := harg6.eq_unread hf3
  fin_cases a
  all_goals
    sl_exec (disch := (simp [cond_1, cond_2, cond_3, cond_4, cond_5, cond_6, cond_7, cond_8, cond_9, cond_10, cond_11, cond_12, cond_13, cond_14, cond_15, cond_16, hi]))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; swap; · iexact H4
      ipureintro
      first | rw [out_t1] | rw [out_t2] | rw [out_t3] | rw [out_t4] | rw [out_t5] | rw [out_t6] | rw [out_t7] | rw [out_t8] | rw [out_t9] | rw [out_t10] | rw [out_t11] | rw [out_t12] | rw [out_t13] | rw [out_t14] | rw [out_t15] | rw [out_t16]
      rw [harg3.read_unread, harg4.read_unread, harg5.read_unread]
      exact congrArg (fun C => outVal (tile _ _ (k1_pay377 C) x0 x1 x2)) (readAt_coef arg6 harg6 x3)
    iexists _, _; isplitr; swap; · iexact HS
    ipureintro; rfl

end Cert.KernelIdeal.Attn

end
-- ==== Proof.Regs.lean ====
/- The two pallas_calls as regions of the program (`KernelIdeal`): what each window holds at each grid point, and that the body takes
   one point's contents to the next's. -/
module

public import proofs.«01_k».proof.Proof.RopeRun
public import proofs.«01_k».proof.Proof.AttnRun
public import proofs.«01_k».proof.Proof.Gen.KernelIdeal.Regions
public import proofs.«01_k».proof.Proof.Gen.KernelIdeal.Points
public import Idealize.ShloMosaic.Lib.Pipeline.RegionArraysS
public import Idealize.ShloMosaic.Lib.Pipeline.TableIdle

@[expose] public section

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg HostSeg Seg)
open Cert.KernelIdeal Cert.KernelIdeal.Gen Cert.Tiles

variable {F : FTy → Type} [FloatOps F] [Named F]

local notation "𝕄" => MT nD τ sig Unit (Elt F) ℕ (UR sig nD τ) ℕ

open Cert.KernelIdeal.Rope (first0 qcBlk qtBlk kcBlk ktBlk vtBlk qaStep kaStep run0)
open Cert.KernelIdeal.Attn (outBlk run1)

variable (V : Valuation τ sig (Elt F))

/-! ## The rotate-and-quantise call -/

/-- Window `w`'s block at point `t`, of the array the call is entered with. -/
def iblk0 (w : Fin cfg0.W) (t : Fin cfg0.N) : ((cfg0.win w).xblock (cfg0.grid.coords t)).Idx → Elt F (cfg0.win w).elt :=
  ((cfg0.win w).blk t).view.read (Elt F) (V (Proc.devRef .tc (Pipeline.arrRef spec0 w)))

/-- The cosines at point `t`. -/
abbrev cosAt (t : Fin cfg0.N) := k0_pay17 (F := F) (iblk0 V 0 t) (iblk0 V 1 t)
/-- The signed sines at point `t`. -/
abbrev sinAt (t : Fin cfg0.N) := k0_pay18 (F := F) (iblk0 V 0 t) (iblk0 V 1 t)

/-- Point number `n` of the grid. -/
def ptOf (n : ℕ) : Fin cfg0.N := ⟨n % 96, by rw [show cfg0.N = 96 from N_0]; exact Nat.mod_lt _ (by decide)⟩

theorem ptOf_val (t : Fin cfg0.N) : ptOf t.val = t := Fin.ext (Nat.mod_eq_of_lt (lt_of_lt_of_eq t.isLt (show cfg0.N = 96 from N_0)))

/-- The running maxima of the rotated queries after `n` points. -/
def qaAt : ℕ → Vec F S64x128 .f32
  | 0 => k0_pay14
  | n + 1 => accN (qaStep (cosAt V (ptOf n)) (sinAt V (ptOf n)) (iblk0 V 4 (ptOf n))) 16 (qaAt n)

/-- The running maxima of the rotated keys after `n` points. -/
def kaAt : ℕ → Vec F S4x128 .f32
  | 0 => k0_pay15
  | n + 1 => accN (kaStep (cosAt V (ptOf n)) (sinAt V (ptOf n)) (iblk0 V 5 (ptOf n))) 16 (kaAt n)

theorem qaAt_succ (t : Fin cfg0.N) : qaAt V (t.val + 1) = accN (qaStep (cosAt V t) (sinAt V t) (iblk0 V 4 t)) 16 (qaAt V t.val) := by
  show accN (qaStep (cosAt V (ptOf t.val)) (sinAt V (ptOf t.val)) (iblk0 V 4 (ptOf t.val))) 16 (qaAt V t.val) = _
  rw [ptOf_val]

theorem kaAt_succ (t : Fin cfg0.N) : kaAt V (t.val + 1) = accN (kaStep (cosAt V t) (sinAt V t) (iblk0 V 5 t)) 16 (kaAt V t.val) := by
  show accN (kaStep (cosAt V (ptOf t.val)) (sinAt V (ptOf t.val)) (iblk0 V 5 (ptOf t.val))) 16 (kaAt V t.val) = _
  rw [ptOf_val]

/-- What each window of the first call holds after the body at each point. -/
def dat0 (c : Dev nD) : Dat τ (Elt F) Unit ℕ (UR sig nD τ) ℕ cfg0 c where
  A w := V (Proc.devRef .tc (Pipeline.arrRef spec0 w))
  after w t := match w with
    | ⟨0, _⟩ => iblk0 V 0 t
    | ⟨1, _⟩ => iblk0 V 1 t
    | ⟨2, _⟩ => iblk0 V 2 t
    | ⟨3, _⟩ => iblk0 V 3 t
    | ⟨4, _⟩ => iblk0 V 4 t
    | ⟨5, _⟩ => iblk0 V 5 t
    | ⟨6, _⟩ => iblk0 V 6 t
    | ⟨7, _⟩ => qcBlk (cosAt V t) (sinAt V t) (iblk0 V 2 t) (iblk0 V 4 t)
    | ⟨8, _⟩ => qtBlk (cosAt V t) (sinAt V t) (iblk0 V 2 t) (iblk0 V 4 t)
    | ⟨9, _⟩ => kcBlk (cosAt V t) (sinAt V t) (iblk0 V 3 t) (iblk0 V 5 t)
    | ⟨10, _⟩ => ktBlk (kcBlk (cosAt V t) (sinAt V t) (iblk0 V 3 t) (iblk0 V 5 t))
    | ⟨11, _⟩ => vtBlk (iblk0 V 6 t)
    | ⟨12, _⟩ => qaAt V (t.val + 1)
    | ⟨13, _⟩ => kaAt V (t.val + 1)
  Φ _ := Pipeline.scopedRest spec0 c
  q _ := fullShare
  owed _ := 0

theorem before0_0 (c : Dev nD) (t : Fin cfg0.N) (d) : (dat0 V c).before 0 t d = iblk0 V 0 t :=
  ((dat0 V c).before_in_eq_fetched 0 rfl (fun _ => rfl) (fun _ _ _ => rfl) (fun t => rfl) t d).trans rfl

theorem before0_1 (c : Dev nD) (t : Fin cfg0.N) (d) : (dat0 V c).before 1 t d = iblk0 V 1 t :=
  ((dat0 V c).before_in_eq_fetched 1 rfl (fun _ => rfl) (fun _ _ _ => rfl) (fun t => rfl) t d).trans rfl

theorem before0_2 (c : Dev nD) (t : Fin cfg0.N) (d) : (dat0 V c).before 2 t d = iblk0 V 2 t :=
  ((dat0 V c).before_in_eq_fetched 2 rfl (fun _ => rfl) (fun _ _ _ => rfl) (fun t => rfl) t d).trans rfl

theorem before0_3 (c : Dev nD) (t : Fin cfg0.N) (d) : (dat0 V c).before 3 t d = iblk0 V 3 t :=
  ((dat0 V c).before_in_eq_fetched 3 rfl (fun _ => rfl) (fun _ _ _ => rfl) (fun t => rfl) t d).trans rfl

theorem before0_4 (c : Dev nD) (t : Fin cfg0.N) (d) : (dat0 V c).before 4 t d = iblk0 V 4 t :=
  ((dat0 V c).before_in_eq_fetched 4 rfl (fun _ => rfl) (fun _ _ _ => rfl) (fun t => rfl) t d).trans rfl

theorem before0_5 (c : Dev nD) (t : Fin cfg0.N) (d) : (dat0 V c).before 5 t d = iblk0 V 5 t :=
  ((dat0 V c).before_in_eq_fetched 5 rfl (fun _ => rfl) (fun _ _ _ => rfl) (fun t => rfl) t d).trans rfl

theorem before0_6 (c : Dev nD) (t : Fin cfg0.N) (d) : (dat0 V c).before 6 t d = iblk0 V 6 t :=
  ((dat0 V c).before_in_eq_fetched 6 rfl (fun _ => rfl) (fun _ _ _ => rfl) (fun t => rfl) t d).trans rfl

/-- The window of the running maxima is written back at the last point only, so between points it keeps what the body left. -/
theorem fresh0_12 : ∀ n, n < 96 → cfg0.fresh 12 n = decide (n = 0)
  | 0, _ => rfl
  | n + 1, h => by
      have hn : n < cfg0.N := by rw [show cfg0.N = 96 from N_0]; omega
      rw [Cfg.fresh_succ cfg0 12 n hn, show cfg0.idle 12 (cfg0.grid.coords ⟨n, hn⟩) = false from rfl, Bool.false_and, Bool.or_false,
        show decide (n + 1 = 0) = false from decide_eq_false (Nat.succ_ne_zero n)]
      refine Bool.eq_false_iff.mpr fun hf => ?_
      have := (flush0_12 ⟨n, hn⟩).mp hf
      simp only at this; omega

theorem before0_12 (c : Dev nD) (t : Fin cfg0.N) (d) : (dat0 V c).before 12 t d = if t.val = 0 then d else qaAt V t.val := by
  have hlt : t.val < 96 := lt_of_lt_of_eq t.isLt (show cfg0.N = 96 from N_0)
  rw [(dat0 V c).before_out_traj 12 rfl (fun _ _ => rfl) (fun _ _ h => absurd h Bool.false_ne_true) t.val t rfl d, fresh0_12 t.val hlt]
  by_cases h : t.val = 0
  · rw [if_pos h, if_pos (decide_eq_true h)]
  · rw [if_neg h, if_neg (by rw [decide_eq_false h]; exact Bool.false_ne_true)]
    show qaAt V (t.val - 1 + 1) = _
    rw [Nat.sub_add_cancel (Nat.one_le_iff_ne_zero.mpr h)]

/-- The window of the running maxima is written back at the last point only, so between points it keeps what the body left. -/
theorem fresh0_13 : ∀ n, n < 96 → cfg0.fresh 13 n = decide (n = 0)
  | 0, _ => rfl
  | n + 1, h => by
      have hn : n < cfg0.N := by rw [show cfg0.N = 96 from N_0]; omega
      rw [Cfg.fresh_succ cfg0 13 n hn, show cfg0.idle 13 (cfg0.grid.coords ⟨n, hn⟩) = false from rfl, Bool.false_and, Bool.or_false,
        show decide (n + 1 = 0) = false from decide_eq_false (Nat.succ_ne_zero n)]
      refine Bool.eq_false_iff.mpr fun hf => ?_
      have := (flush0_13 ⟨n, hn⟩).mp hf
      simp only at this; omega

theorem before0_13 (c : Dev nD) (t : Fin cfg0.N) (d) : (dat0 V c).before 13 t d = if t.val = 0 then d else kaAt V t.val := by
  have hlt : t.val < 96 := lt_of_lt_of_eq t.isLt (show cfg0.N = 96 from N_0)
  rw [(dat0 V c).before_out_traj 13 rfl (fun _ _ => rfl) (fun _ _ h => absurd h Bool.false_ne_true) t.val t rfl d, fresh0_13 t.val hlt]
  by_cases h : t.val = 0
  · rw [if_pos h, if_pos (decide_eq_true h)]
  · rw [if_neg h, if_neg (by rw [decide_eq_false h]; exact Bool.false_ne_true)]
    show kaAt V (t.val - 1 + 1) = _
    rw [Nat.sub_add_cancel (Nat.one_le_iff_ne_zero.mpr h)]

/-- The point whose coordinates are both zero is point zero. -/
theorem first0_iff (t : Fin cfg0.N) : first0 (grid0.coords t) ↔ t.val = 0 :=
  (by decide +kernel : ∀ t : Fin grid0.N, ((grid0.coords t 0).val = 0 ∧ (grid0.coords t 1).val = 0) ↔ t.val = 0) t

theorem qa_next (c : Dev nD) (t : Fin cfg0.N) (d) :
    accN (qaStep (cosAt V t) (sinAt V t) (iblk0 V 4 t)) 16 (if first0 (grid0.coords t) then k0_pay14 else (dat0 V c).before 12 t d) = qaAt V (t.val + 1) := by
  rw [qaAt_succ, before0_12]
  by_cases h : t.val = 0
  · rw [if_pos ((first0_iff t).2 h), h]; rfl
  · rw [if_neg fun h' => h ((first0_iff t).1 h'), if_neg h]

theorem ka_next (c : Dev nD) (t : Fin cfg0.N) (d) :
    accN (kaStep (cosAt V t) (sinAt V t) (iblk0 V 5 t)) 16 (if first0 (grid0.coords t) then k0_pay15 else (dat0 V c).before 13 t d) = kaAt V (t.val + 1) := by
  rw [kaAt_succ, before0_13]
  by_cases h : t.val = 0
  · rw [if_pos ((first0_iff t).2 h), h]; rfl
  · rw [if_neg fun h' => h ((first0_iff t).1 h'), if_neg h]

/-- A scratch buffer held at some contents, as the pipeline's invariant holds it. -/
theorem scratch_back (c : Dev nD) (b : Ref sig .tc) :
    (iprop(∃ d, owns (c : Thread nD τ) (Memref.whole b) fullShare d) : sProp 𝕄) ⊢ iprop(∃ f : Buf (Elt F) ((c : Thread nD τ).loc b), ((c : Thread nD τ).loc b) ↦{fullShare} f) := by
  simp only [owns_whole_eq]
  iintro ⟨%d, %f, -, H⟩
  iexists f; iexact H

set_option maxHeartbeats 1600000 in
/-- The body of the first call takes one point's contents to the next's. -/
theorem body0 (c : Dev nD) : BodyObligation (dat0 V c) (defs₀ (F := F)) Variants.none () Set.univ := fun t => by
  rw [bigSep_W0, bigSep_W0]
  rw [show (dat0 V c).Φ t.castSucc = Pipeline.scopedRest spec0 c from rfl, show (dat0 V c).Φ t.succ = Pipeline.scopedRest spec0 c from rfl,
    show (dat0 V c).owesAt () t.succ = (dat0 V c).owesAt () t.castSucc from rfl, scopedRest0_eq]
  show _ ⊢ wp frame _ _ (bodyAt0 t) _
  iintro ⟨⟨⟨%e0, S0⟩, ⟨%e1, S1⟩, HR⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  rw [before0_0 V c t d0]; rw [before0_1 V c t d1]; rw [before0_2 V c t d2]; rw [before0_3 V c t d3]; rw [before0_4 V c t d4]; rw [before0_5 V c t d5]; rw [before0_6 V c t d6]
  iapply (run0 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (Memref.whole cc0_scratch0) (Memref.isWhole_whole _) (Memref.whole cc0_scratch1) (Memref.isWhole_whole _)
    (iblk0 V 0 t) (iblk0 V 1 t) (iblk0 V 2 t) (iblk0 V 3 t) (iblk0 V 4 t) (iblk0 V 5 t) (iblk0 V 6 t) ((dat0 V c).before 12 t d12) ((dat0 V c).before 13 t d13) Set.univ _)
  rw [qa_next, ka_next]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexact H12
  isplitl [H13]; · iexact H13
  isplitl [S0]; · iexists e0; rw [owns_whole_eq]; iexists _; isplitr; swap; (· iexact S0); ipureintro; rfl
  isplitl [S1]; · iexists e1; rw [owns_whole_eq]; iexists _; isplitr; swap; (· iexact S1); ipureintro; rfl
  iintro ⟨H0, H1, H2, H3, H4, H5, H6, H7, H8, H9, H10, H11, H12, H13, T0, T1⟩
  ihave S0 := (scratch_back (F := F) c cc0_scratch0) $$ T0
  ihave S1 := (scratch_back (F := F) c cc0_scratch1) $$ T1
  isplitl [S0 S1 HR]
  · isplitl [S0]; · iexact S0
    isplitl [S1]; · iexact S1
    iexact HR
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-! ## The attention call -/

/-- Window `w`'s block at point `t`, of the array the call is entered with. -/
def iblk1 (w : Fin cfg1.W) (t : Fin cfg1.N) : ((cfg1.win w).xblock (cfg1.grid.coords t)).Idx → Elt F (cfg1.win w).elt :=
  ((cfg1.win w).blk t).view.read (Elt F) (V (Proc.devRef .tc (Pipeline.arrRef spec1 w)))

/-- What each window of the attention call holds after the body at each point. -/
def dat1 (c : Dev nD) : Dat τ (Elt F) Unit ℕ (UR sig nD τ) ℕ cfg1 c where
  A w := V (Proc.devRef .tc (Pipeline.arrRef spec1 w))
  after w t := match w with
    | ⟨0, _⟩ => iblk1 V 0 t
    | ⟨1, _⟩ => iblk1 V 1 t
    | ⟨2, _⟩ => iblk1 V 2 t
    | ⟨3, _⟩ => iblk1 V 3 t
    | ⟨4, _⟩ => outBlk (grid1.coords t 2) (iblk1 V 0 t) (iblk1 V 1 t) (iblk1 V 2 t) (iblk1 V 3 t)
  Φ _ := Pipeline.scopedRest spec1 c
  q _ := fullShare
  owed _ := 0

theorem before1_0 (c : Dev nD) (t : Fin cfg1.N) (d) : (dat1 V c).before 0 t d = iblk1 V 0 t :=
  ((dat1 V c).before_in_eq_fetched 0 rfl (fun _ => rfl) (fun _ _ _ => rfl) (fun t => rfl) t d).trans rfl

theorem before1_1 (c : Dev nD) (t : Fin cfg1.N) (d) : (dat1 V c).before 1 t d = iblk1 V 1 t :=
  ((dat1 V c).before_in_eq_fetched 1 rfl (fun _ => rfl) (fun _ _ _ => rfl) (fun t => rfl) t d).trans rfl

theorem before1_2 (c : Dev nD) (t : Fin cfg1.N) (d) : (dat1 V c).before 2 t d = iblk1 V 2 t :=
  ((dat1 V c).before_in_eq_fetched 2 rfl (fun _ => rfl) (fun _ _ _ => rfl) (fun t => rfl) t d).trans rfl

theorem before1_3 (c : Dev nD) (t : Fin cfg1.N) (d) : (dat1 V c).before 3 t d = iblk1 V 3 t :=
  ((dat1 V c).before_in_eq_fetched 3 rfl (fun _ => rfl) (fun _ _ _ => rfl) (fun t => rfl) t d).trans rfl

/-- The result's window is written back at every point, so what the body leaves there is its block. -/
theorem after_out (c : Dev nD) (t : Fin cfg1.N) :
    (owns (c : Thread nD τ) (st1_4 t) fullShare (outBlk (grid1.coords t 2) (iblk1 V 0 t) (iblk1 V 1 t) (iblk1 V 2 t) (iblk1 V 3 t)) : sProp 𝕄)
      ⊢ match cfg1.idle 4 (cfg1.grid.coords t) with
        | true =>
          match (cfg1.win 4).flush t with
          | false => iprop(∃ d, owns (c : Thread nD τ) ((cfg1.win 4).stage (cfg1.slots t 4)) fullShare ((dat1 V c).before 4 t d))
          | true => owns (c : Thread nD τ) ((cfg1.win 4).stage (cfg1.slots t 4)) fullShare ((dat1 V c).after 4 t)
        | false => owns (c : Thread nD τ) ((cfg1.win 4).stage (cfg1.slots t 4)) fullShare ((dat1 V c).after 4 t) := by
  rw [flush1_4 t]
  cases cfg1.idle 4 (cfg1.grid.coords t) <;> exact .rfl

set_option maxHeartbeats 1600000 in
/-- The body of the attention call takes one point's contents to the next's. -/
theorem body1 (c : Dev nD) : BodyObligation (dat1 V c) (defs₀ (F := F)) Variants.none () Set.univ := fun t => by
  rw [bigSep_W1, bigSep_W1]
  rw [show (dat1 V c).Φ t.castSucc = Pipeline.scopedRest spec1 c from rfl, show (dat1 V c).Φ t.succ = Pipeline.scopedRest spec1 c from rfl,
    show (dat1 V c).owesAt () t.succ = (dat1 V c).owesAt () t.castSucc from rfl, scopedRest1_split]
  show _ ⊢ wp frame _ _ (bodyAt1 t) _
  iintro ⟨⟨⟨%e0, S0⟩, HR⟩, Howes, ⟨%d0, H0⟩, ⟨%d1, H1⟩, ⟨%d2, H2⟩, ⟨%d3, H3⟩, ⟨%d4, H4⟩⟩
  rw [before1_0 V c t d0]; rw [before1_1 V c t d1]; rw [before1_2 V c t d2]; rw [before1_3 V c t d3]
  iapply (run1 c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (Memref.whole cc1_scratch0) (Memref.isWhole_whole _)
    (iblk1 V 0 t) (iblk1 V 1 t) (iblk1 V 2 t) (iblk1 V 3 t) Set.univ _)
  isplitl [H0]; · iexact H0
  isplitl [H1]; · iexact H1
  isplitl [H2]; · iexact H2
  isplitl [H3]; · iexact H3
  isplitl [H4]; · iexists _; iexact H4
  isplitl [S0]; · iexists e0; rw [owns_whole_eq]; iexists _; isplitr; swap; (· iexact S0); ipureintro; rfl
  iintro ⟨H0, H1, H2, H3, H4, T0⟩
  ihave S0 := (scratch_back (F := F) c cc1_scratch0) $$ T0
  isplitl [S0 HR]
  · isplitl [S0]; · iexact S0
    iexact HR
  isplitl [Howes]; · iexact Howes
  isplitl [H0]; · iexact H0
  isplitl [H1]; · iexact H1
  isplitl [H2]; · iexact H2
  isplitl [H3]; · iexact H3
  iapply (after_out V c t); iexact H4

end Cert.KernelIdeal.Regs

end
-- ==== Proof.Run.lean ====
/- The whole program (`KernelIdeal`) as a run: host operations, the first call, host operations, the attention call, host operations;
   what every buffer holds at the end, and that the arguments are left alone. -/
module

public import proofs.«01_k».proof.Proof.Regs
public import Idealize.ShloMosaic.Lib.Pipeline.FrameSuffix

@[expose] public section

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg HostSeg Seg)
open Cert.KernelIdeal Cert.KernelIdeal.Gen Cert.Tiles

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers at launch. -/
def W0 (c : Dev nD) : Valuation τ sig (Elt F) := fun b => m (c, b)
/-- After the first host operations. -/
def W1 (c : Dev nD) : Valuation τ sig (Elt F) := StableHlo.after hostOps0 (W0 m c)
/-- After the first call. -/
def W2 (c : Dev nD) : Valuation τ sig (Elt F) := Pipeline.afterRegion (dat0 (W1 m c) c) (W1 m c)
/-- After the second host operations. -/
def W3 (c : Dev nD) : Valuation τ sig (Elt F) := StableHlo.after hostOps1 (W2 m c)
/-- After the attention call. -/
def W4 (c : Dev nD) : Valuation τ sig (Elt F) := Pipeline.afterRegion (dat1 (W3 m c) c) (W3 m c)
/-- At the end. -/
def W5 (c : Dev nD) : Valuation τ sig (Elt F) := StableHlo.after hostOps2 (W4 m c)

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : ∀ w, Pipeline.arrRef cfg0.spec w = r → (cfg0.win w).isOut = false) : W2 m c r = W1 m c r :=
  Pipeline.afterRegion_keeps (dat0 (W1 m c) c) (W1 m c) launch0.win.arr_inj (fun _ => rfl) r h
theorem W3_of (c : Dev nD) (r : Ref sig .tc) (h : r ∉ hostOps1_W) : W3 m c r = W2 m c r :=
  StableHlo.after_of_writes_sub hostOps1 _ hostOps1_writes h
theorem W4_of (c : Dev nD) (r : Ref sig .tc) (h : ∀ w, Pipeline.arrRef cfg1.spec w = r → (cfg1.win w).isOut = false) : W4 m c r = W3 m c r :=
  Pipeline.afterRegion_keeps (dat1 (W3 m c) c) (W3 m c) launch1.win.arr_inj (fun _ => rfl) r h
theorem W5_of (c : Dev nD) (r : Ref sig .tc) (h : r ∉ hostOps2_W) : W5 m c r = W4 m c r :=
  StableHlo.after_of_writes_sub hostOps2 _ hostOps2_writes h

/-- The proof data of both calls. -/
def pdats : (p : Fin 2) → (c : Dev nD) → Dat τ (Elt F) Unit ℕ (UR sig nD τ) ℕ (Pipeline.pin (pcfgs (F := F)) adm p) c
  | ⟨0, _⟩ => fun c => dat0 (W1 m c) c
  | ⟨1, _⟩ => fun c => dat1 (W3 m c) c

/-- Every TensorCore cell carries the one level there is. -/
abbrev Lv : GSem nD τ sig → Finset Unit := fun g => if g.1.2 = .tc then {()} else ∅
abbrev lvl : GSem nD τ sig → Unit → ℕ := fun _ _ => 0

/-- What rides along beside the buffers: the core owes nothing. -/
abbrev Ride (c : Dev nD) : sProp 𝕄 := iprop(∃ Wd, owes (c : Thread nD τ) (0 : CellTallies nD τ sig Unit) Wd)

theorem cut (p : Fin 2) : Pipeline.LevelCut (pcfgs (F := F)) adm () Lv lvl p (fun _ => 0) (fun _ => 0) where
  hι c w s := by simp [Lv]
  hιb c w s := Nat.le_refl _
  hD c g i h := absurd h (Nat.lt_irrefl 0)

/-- The first call's region. -/
def reg0 : RegionSeg (pcfgs (F := F)) adm (pdats m) () defs₀ Variants.none Lv lvl 0 :=
  RegionSeg.ofHeldIn (pcfgs (F := F)) adm (pdats m) () defs₀ Variants.none Lv lvl 0 (fun _ => 0) (Pipeline.ucRefs τ sig)
    (fun _ => iprop(emp)) (fun _ => iprop(emp)) launch0.toP rfl (fun c => (body0 (W1 m c) c).loose) (fun _ _ => rfl) (fun _ => rfl)
    (fun c w => (dat0 (W1 m c) c).share_full (fun _ => rfl) w)
    (fun c => by show iprop(Pipeline.scopedRest spec0 c ∗ emp) ⊢ (Pipeline.scopedRest spec0 c : sProp 𝕄); iintro ⟨H, -⟩; iexact H)
    (fun c => by show (Pipeline.scopedRest spec0 c : sProp 𝕄) ⊢ iprop(Pipeline.scopedRest spec0 c ∗ emp); iintro H; isplitl [H]; (· iexact H); iempintro)
    (fun _ => 0) (cut 0) (fun _ => iprop(emp)) (W1 m) (fun c w => rfl)

/-- The attention call's region. -/
def reg1 : RegionSeg (pcfgs (F := F)) adm (pdats m) () defs₀ Variants.none Lv lvl 1 :=
  RegionSeg.ofHeldIn (pcfgs (F := F)) adm (pdats m) () defs₀ Variants.none Lv lvl 1 (fun _ => 0) (Pipeline.ucRefs τ sig)
    (fun _ => iprop(emp)) (fun _ => iprop(emp)) launch1.toP rfl (fun c => (body1 (W3 m c) c).loose) (fun _ _ => rfl) (fun _ => rfl)
    (fun c w => (dat1 (W3 m c) c).share_full (fun _ => rfl) w)
    (fun c => by show iprop(Pipeline.scopedRest spec1 c ∗ emp) ⊢ (Pipeline.scopedRest spec1 c : sProp 𝕄); iintro ⟨H, -⟩; iexact H)
    (fun c => by show (Pipeline.scopedRest spec1 c : sProp 𝕄) ⊢ iprop(Pipeline.scopedRest spec1 c ∗ emp); iintro H; isplitl [H]; (· iexact H); iempintro)
    (fun _ => 0) (cut 1) (fun _ => iprop(emp)) (W3 m) (fun c w => rfl)

theorem sub0 : Pipeline.arrRefs (τ := τ) ((pcfgs (F := F)) 0).spec ⊆ Pipeline.ucRefs τ sig := Pipeline.arrRefs_sub_ucRefs _ (show ∀ w, (Pipeline.arrRef spec0 w).isScoped = false by decide)
theorem sub1 : Pipeline.arrRefs (τ := τ) ((pcfgs (F := F)) 1).spec ⊆ Pipeline.ucRefs τ sig := Pipeline.arrRefs_sub_ucRefs _ (show ∀ w, (Pipeline.arrRef spec1 w).isScoped = false by decide)

theorem pre0 (c : Dev nD) : iprop(StableHlo.held (c : Thread nD τ) (Pipeline.ucRefs τ sig) (W1 m c) ∗ Ride c) ⊢ (reg0 m).pre c := by
  refine .trans ?_ (RegionSeg.ofHeldIn_pre sub0 c)
  iintro ⟨Hh, HO⟩
  isplitl [Hh]; · iexact Hh
  isplitl [HO]; · iexact HO
  isplitr <;> iempintro

theorem post0 (c : Dev nD) : (reg0 m).post c ⊢ iprop(StableHlo.held (c : Thread nD τ) (Pipeline.ucRefs τ sig) (W2 m c) ∗ Ride c) := by
  refine (RegionSeg.ofHeldIn_post sub0 c).trans ?_
  iintro ⟨Hh, HO, -⟩
  isplitl [Hh]; · iexact Hh
  iexact HO

theorem pre1 (c : Dev nD) : iprop(StableHlo.held (c : Thread nD τ) (Pipeline.ucRefs τ sig) (W3 m c) ∗ Ride c) ⊢ (reg1 m).pre c := by
  refine .trans ?_ (RegionSeg.ofHeldIn_pre sub1 c)
  iintro ⟨Hh, HO⟩
  isplitl [Hh]; · iexact Hh
  isplitl [HO]; · iexact HO
  isplitr <;> iempintro

theorem post1 (c : Dev nD) : (reg1 m).post c ⊢ iprop(StableHlo.held (c : Thread nD τ) (Pipeline.ucRefs τ sig) (W4 m c) ∗ Ride c) := by
  refine (RegionSeg.ofHeldIn_post sub1 c).trans ?_
  iintro ⟨Hh, HO, -⟩
  isplitl [Hh]; · iexact Hh
  iexact HO

/-- The program's items. -/
abbrev segs (c : Dev nD) : List (Seg (pcfgs (F := F)) adm (pdats m) () defs₀ Variants.none Lv lvl) :=
  [.host (HostSeg.ofOps _ _ _ _ _ (Pipeline.ucRefs τ sig) hostOps0
      (fun op h => Pipeline.sub_ucRefs op ((List.forall_iff_forall_mem.mp hostOps0_sub) op h))
      (fun op h => (List.forall_iff_forall_mem.mp hostOps0_fresh) op h) (W0 m) Ride),
   .region (reg0 m),
   .host (HostSeg.ofOps _ _ _ _ _ (Pipeline.ucRefs τ sig) hostOps1
      (fun op h => Pipeline.sub_ucRefs op ((List.forall_iff_forall_mem.mp hostOps1_sub) op h))
      (fun op h => (List.forall_iff_forall_mem.mp hostOps1_fresh) op h) (W2 m) Ride),
   .region (reg1 m),
   .host (HostSeg.ofOps _ _ _ _ _ (Pipeline.ucRefs τ sig) hostOps2
      (fun op h => Pipeline.sub_ucRefs op ((List.forall_iff_forall_mem.mp hostOps2_sub) op h))
      (fun op h => (List.forall_iff_forall_mem.mp hostOps2_fresh) op h) (W4 m) Ride)]

set_option backward.isDefEq.respectTransparency.types false in
/-- Every weakly fair execution ends with each buffer the program keeps at `W5`, and every semaphore counter at zero. -/
theorem whole : θ_run defs (onTc (τ := τ) (main (F := F))) ⟨m, fun _ => 0, ρ⟩ (fun r =>
    (∀ c : Dev nD, ∀ b ∈ Pipeline.ucRefs τ sig, r.2.mem ((c.tc : Thread nD τ).1, b) = W5 m c b) ∧ r.2.sem = fun _ => 0) := by
  refine Pipeline.θ_run_regions_kit_dev_sems (pcfgs (F := F)) adm (pdats m) () cellOf_inj emb₁ defs₀ Variants.none Lv lvl m ρ main
    (segs m)
    (fun c Q => by
      rewrite [main_chain c, Seg.run_eq_chain,
        show (segs m c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (O₀ := 0)
    (fun g h => if_neg h) (fun _ => iprop(emp))
    (initOf (Pipeline.cells (Pipeline.pin (pcfgs (F := F)) adm) cellOf_inj) (Pipeline.launchToks (Pipeline.pin (pcfgs (F := F)) adm) cellOf_inj))
    (by
      iintro Hu; imodintro
      isplitl [Hu]
      · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Ride c))
    (Tₙ := fun c => StableHlo.held (c : Thread nD τ) (Pipeline.ucRefs τ sig) (W5 m c))
    (hch := fun c => ⟨.rfl, pre0 m c, post0 m c, pre1 m c, post1 m c, sep_mono .rfl .rfl⟩)
    (hinit := ?_) (QY := fun c s => ∀ b ∈ Pipeline.ucRefs τ sig, s.mem ((c.tc : Thread nD τ).1, b) = W5 m c b)
    (hfin := fun c s' => ?_) (hQ := fun _ h hz => ⟨h, funext fun g => hz g (.inr (regions_no_unscoped g.2))⟩)
  · refine Pipeline.initEach Lv lvl fun c => ?_
    rw [show unscopedBufs c (fun b => m ((c : Thread nD τ).loc b)) = StableHlo.held (c : Thread nD τ) (Pipeline.ucRefs τ sig) (W0 m c) from Pipeline.unscopedBufs_held c (W0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (W5 m c) s') $$ [Hh HSI]
    · isplitl [Hh] <;> iassumption
    icases Hr with ⟨%h, HSI⟩
    imodintro
    isplitr
    · ipureintro; exact h
    · iexact HSI

/-- A buffer of the program that is not scoped is among the kept ones. -/
theorem mem_uc (r : Ref sig .tc) (h : r.isScoped = false) : (Proc.devRef .tc r : DevRef τ sig) ∈ Pipeline.ucRefs τ sig :=
  Finset.mem_filter.mpr ⟨StableHlo.devRef_mem_tcRefs r, fun h' => Bool.false_ne_true (h.symm.trans h')⟩

/-- A buffer nothing in the program writes is at the end as launched. -/
theorem W5_kept (c : Dev nD) (r : Ref sig .tc) (h0 : r ∉ hostOps0_W) (h1 : ∀ w, Pipeline.arrRef spec0 w = r → (cfg0.win w).isOut = false)
    (h2 : r ∉ hostOps1_W) (h3 : ∀ w, Pipeline.arrRef spec1 w = r → (cfg1.win w).isOut = false) (h4 : r ∉ hostOps2_W) : W5 m c r = m ((c : Thread nD τ).loc r) :=
  (W5_of m c r h4).trans <| (W4_of m c r h3).trans <| (W3_of m c r h2).trans <| (W2_of m c r h1).trans <| (W1_of m c r h0).trans rfl

/-- The frame: every weakly fair execution ends, with the arguments as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    ⟨(h.1 c _ (mem_uc main_arg0 rfl)).trans (W5_kept m c main_arg0 (by decide) (by decide) (by decide) (by decide) (by decide)),
     (h.1 c _ (mem_uc main_arg1 rfl)).trans (W5_kept m c main_arg1 (by decide) (by decide) (by decide) (by decide) (by decide)),
     (h.1 c _ (mem_uc main_arg2 rfl)).trans (W5_kept m c main_arg2 (by decide) (by decide) (by decide) (by decide) (by decide)),
     (h.1 c _ (mem_uc main_arg3 rfl)).trans (W5_kept m c main_arg3 (by decide) (by decide) (by decide) (by decide) (by decide)),
     (h.1 c _ (mem_uc main_arg4 rfl)).trans (W5_kept m c main_arg4 (by decide) (by decide) (by decide) (by decide) (by decide)),
     (h.1 c _ (mem_uc main_arg5 rfl)).trans (W5_kept m c main_arg5 (by decide) (by decide) (by decide) (by decide) (by decide))⟩, h.2⟩) (whole m ρ)

end Cert.KernelIdeal.Regs

end
-- ==== Proof.RopeTileBits.lean ====
/- One grid point of the rotate-and-quantise kernel (`Kernel`): the blocks it stores as functions of the blocks it is given,
   and what its loop of sixteen trips over eight rows each leaves in every output block. -/
module

public import proofs.«01_k».proof.Proof.Gen.Kernel.Loops
public import proofs.«01_k».proof.Proof.Tiles

@[expose] public section

set_option maxRecDepth 16384

noncomputable section

namespace Cert.Kernel.Rope

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Tiles

variable {F : FTy → Type} [FloatOps F]

local notation "𝕄" => MT nD τ sig Unit (Elt F) ℕ (UR sig nD τ) ℕ

/-- The trip a row of the block belongs to: eight rows a trip. -/
def blk8 (r : Fin 128) : Fin 16 := ⟨r.val / 8, by omega⟩

theorem inb_rowsQ (k : Fin 16) : ∀ a, (![0, 8 * k.val, 0, 0] : Fin 4 → ℕ) a + S1x8x64x128.size a ≤ S1x128x64x128.size a := by
  revert k; decide
theorem inb_rowsK (k : Fin 16) : ∀ a, (![0, 8 * k.val, 0, 0] : Fin 4 → ℕ) a + S1x8x4x128.size a ≤ S1x128x4x128.size a := by
  revert k; decide
theorem inb_rowsT (k : Fin 16) : ∀ a, (![8 * k.val, 0] : Fin 2 → ℕ) a + S8x128.size a ≤ S128x128.size a := by
  revert k; decide
theorem inb_headK (h : Fin 4) : ∀ a, (![0, 0, h.val, 0] : Fin 4 → ℕ) a + S1x128x1x128.size a ≤ S1x128x4x128.size a := by
  revert h; decide
theorem inb_headV (h : Fin 4) : ∀ a, (![0, 0, 128 * h.val] : Fin 3 → ℕ) a + S1x128x128.size a ≤ S1x128x512.size a := by
  revert h; decide

/-- Eight rows of the query block, of the key block, of a table; one head of the key codes and of the values. -/
def rowsQ (X : Vec F S1x128x64x128 .bf16) (k : Fin 16) : Vec F S1x8x64x128 .bf16 :=
  View.ld (Val := Elt F) (e' := .bf16) X (Rect.unit (s := S1x128x64x128) ![0, 8 * k.val, 0, 0] S1x8x64x128.size (inb_rowsQ k))
def rowsK (X : Vec F S1x128x4x128 .bf16) (k : Fin 16) : Vec F S1x8x4x128 .bf16 :=
  View.ld (Val := Elt F) (e' := .bf16) X (Rect.unit (s := S1x128x4x128) ![0, 8 * k.val, 0, 0] S1x8x4x128.size (inb_rowsK k))
def rowsT (X : Vec F S128x128 .f32) (k : Fin 16) : Vec F S8x128 .f32 :=
  View.ld (Val := Elt F) (e' := .f32) X (Rect.unit (s := S128x128) ![8 * k.val, 0] S8x128.size (inb_rowsT k))
def headK (X : Vec F S1x128x4x128 .fp8e4m3) (h : Fin 4) : Vec F S1x128x1x128 .fp8e4m3 :=
  View.ld (Val := Elt F) (e' := .fp8e4m3) X (Rect.unit (s := S1x128x4x128) ![0, 0, h.val, 0] S1x128x1x128.size (inb_headK h))
def headV (X : Vec F S1x128x512 .bf16) (h : Fin 4) : Vec F S1x128x128 .bf16 :=
  View.ld (Val := Elt F) (e' := .bf16) X (Rect.unit (s := S1x128x512) ![0, 0, 128 * h.val] S1x128x128.size (inb_headV h))

/-- The place of an index of an output block within its trip's rows, or within its head. -/
def inQ (y : S1x128x64x128.Idx) : S1x8x64x128.Idx :=
  Fin.cons ⟨0, Nat.one_pos⟩ (Fin.cons ⟨(y 1).val % 8, Nat.mod_lt _ (by decide)⟩ (Fin.cons (y 2) (Fin.cons (y 3) finZeroElim)))
def inK (y : S1x128x4x128.Idx) : S1x8x4x128.Idx :=
  Fin.cons ⟨0, Nat.one_pos⟩ (Fin.cons ⟨(y 1).val % 8, Nat.mod_lt _ (by decide)⟩ (Fin.cons (y 2) (Fin.cons (y 3) finZeroElim)))
def inT (y : S1x4x128x16x128.Idx) : S1x1x8x16x128.Idx :=
  Fin.cons ⟨0, Nat.one_pos⟩ (Fin.cons ⟨0, Nat.one_pos⟩ (Fin.cons ⟨(y 2).val % 8, Nat.mod_lt _ (by decide)⟩ (Fin.cons (y 3) (Fin.cons (y 4) finZeroElim))))
def inH (y : S1x4x128x128.Idx) : S1x1x128x128.Idx :=
  Fin.cons ⟨0, Nat.one_pos⟩ (Fin.cons ⟨0, Nat.one_pos⟩ (Fin.cons (y 2) (Fin.cons (y 3) finZeroElim)))

/-- The query codes, in the order the queries came in. -/
def qcBlk (C S : Vec F S128x128 .f32) (X4 : Vec F S64x128 .f32) (X6 : Vec F S1x128x64x128 .bf16) : Vec F S1x128x64x128 .fp8e4m3 :=
  fun y => k0_pay5 (rowsQ X6 (blk8 (y 1))) (rowsT C (blk8 (y 1))) (rowsT S (blk8 (y 1))) X4 (inQ y)

/-- The query codes of one group of sixteen heads. -/
def qtPiece (v : FVec F S8x64x128 .fp8e4m3) (g : Fin 4) : FVec F S1x1x8x16x128 .fp8e4m3 :=
  match g with
  | 0 => k0_pay6 v
  | 1 => k0_pay7 v
  | 2 => k0_pay8 v
  | 3 => k0_pay9 v

/-- The query codes, by groups of heads. -/
def qtBlk (C S : Vec F S128x128 .f32) (X4 : Vec F S64x128 .f32) (X6 : Vec F S1x128x64x128 .bf16) : Vec F S1x4x128x16x128 .fp8e4m3 :=
  fun y => qtPiece (k0_pay4 (rowsQ X6 (blk8 (y 2))) (rowsT C (blk8 (y 2))) (rowsT S (blk8 (y 2))) X4) (y 1) (inT y)

/-- The key codes of a trip, and of the block. -/
def kPay (C S : Vec F S128x128 .f32) (X5 : Vec F S4x128 .f32) (X7 : Vec F S1x128x4x128 .bf16) (k : Fin 16) : FVec F S1x8x4x128 .fp8e4m3 :=
  k0_pay21 (k0_pay11 (rowsK X7 k) (rowsT C k)) (k0_pay12 (rowsK X7 k)) (k0_pay13 (rowsT S k)) X5
def kcBlk (C S : Vec F S128x128 .f32) (X5 : Vec F S4x128 .f32) (X7 : Vec F S1x128x4x128 .bf16) : Vec F S1x128x4x128 .fp8e4m3 :=
  fun y => kPay C S X5 X7 (blk8 (y 1)) (inK y)

/-- The largest magnitudes so far after one more trip's queries, and after one more trip's keys. -/
def qaStep (C S : Vec F S128x128 .f32) (X6 : Vec F S1x128x64x128 .bf16) (n : ℕ) (a : Vec F S64x128 .f32) : Vec F S64x128 .f32 :=
  k0_pay3 (rowsQ X6 (Fin.ofNat 16 n)) (rowsT C (Fin.ofNat 16 n)) (rowsT S (Fin.ofNat 16 n)) a
def kaStep (C S : Vec F S128x128 .f32) (X7 : Vec F S1x128x4x128 .bf16) (n : ℕ) (a : Vec F S4x128 .f32) : Vec F S4x128 .f32 :=
  k0_pay20 (k0_pay11 (rowsK X7 (Fin.ofNat 16 n)) (rowsT C (Fin.ofNat 16 n))) (k0_pay12 (rowsK X7 (Fin.ofNat 16 n))) (k0_pay13 (rowsT S (Fin.ofNat 16 n))) a

/-- The key codes and the values of one head, and of the block by heads. -/
def ktPiece (kc : Vec F S1x128x4x128 .fp8e4m3) (h : Fin 4) : FVec F S1x1x128x128 .fp8e4m3 :=
  match h with
  | 0 => k0_pay22 (headK kc 0)
  | 1 => k0_pay24 (headK kc 1)
  | 2 => k0_pay27 (headK kc 2)
  | 3 => k0_pay29 (headK kc 3)
def ktBlk (kc : Vec F S1x128x4x128 .fp8e4m3) : Vec F S1x4x128x128 .fp8e4m3 := fun y => ktPiece kc (y 1) (inH y)
def vtPiece (X8 : Vec F S1x128x512 .bf16) (h : Fin 4) : FVec F S1x1x128x128 .bf16 :=
  match h with
  | 0 => k0_pay23 (headV X8 0)
  | 1 => k0_pay26 (k0_pay25 (headV X8 1))
  | 2 => k0_pay28 (headV X8 2)
  | 3 => k0_pay1 (k0_pay30 (headV X8 3))
def vtBlk (X8 : Vec F S1x128x512 .bf16) : Vec F S1x4x128x128 .bf16 := fun y => vtPiece X8 (y 1) (inH y)

/-- A load depends on its offsets only through their value. -/
theorem ld_off {S : Shape} {e : EltTy} (X : S.Idx → Elt F e) (size off off' : Fin S.rank → ℕ) (h : off = off')
    (inb : ∀ a, off a + size a ≤ S.size a) (inb' : ∀ a, off' a + size a ≤ S.size a) :
    View.ld (Val := Elt F) (e' := e) X (Rect.unit off size inb) = View.ld (Val := Elt F) (e' := e) X (Rect.unit off' size inb') := by
  subst h; rfl

theorem ld_rowsQ (X : Vec F S1x128x64x128 .bf16) (k : Fin k0_t1_loop.trips) :
    View.ld (Val := Elt F) (e' := .bf16) X (Rect.unit (s := S1x128x64x128) (k0_off1 k) S1x8x64x128.size (k0_off1_inb k)) = rowsQ X k :=
  ld_off X _ _ _ (k0_off1_eq k) _ _
theorem ld_rowsK (X : Vec F S1x128x4x128 .bf16) (k : Fin k0_t1_loop.trips) :
    View.ld (Val := Elt F) (e' := .bf16) X (Rect.unit (s := S1x128x4x128) (k0_off7 k) S1x8x4x128.size (k0_off7_inb k)) = rowsK X k :=
  ld_off X _ _ _ (k0_off7_eq k) _ _
theorem ld_rowsT (X : Vec F S128x128 .f32) (k : Fin k0_t1_loop.trips) :
    View.ld (Val := Elt F) (e' := .f32) X (Rect.unit (s := S128x128) (k0_off2 k) S8x128.size (k0_off2_inb k)) = rowsT X k :=
  ld_off X _ _ _ (k0_off2_eq k) _ _
theorem ld_whole4 (X : Vec F S64x128 .f32) :
    View.ld (Val := Elt F) (e' := .f32) X (Rect.unit (s := S64x128) ![0, 0] S64x128.size inb_S64x128_S64x128_0_0) = X :=
  View.ld_unit_zero (by funext a; match a with | 0 => rfl | 1 => rfl) _ _
theorem ld_whole5 (X : Vec F S4x128 .f32) :
    View.ld (Val := Elt F) (e' := .f32) X (Rect.unit (s := S4x128) ![0, 0] S4x128.size inb_S4x128_S4x128_0_0) = X :=
  View.ld_unit_zero (by funext a; match a with | 0 => rfl | 1 => rfl) _ _

/-- The queries and the tables of a trip as they are loaded. -/
def lQ (X : Vec F S1x128x64x128 .bf16) (k : Fin k0_t1_loop.trips) : Vec F S1x8x64x128 .bf16 :=
  View.ld (Val := Elt F) (e' := .bf16) X (Rect.unit (s := S1x128x64x128) (k0_off1 k) S1x8x64x128.size (k0_off1_inb k))
def lK (X : Vec F S1x128x4x128 .bf16) (k : Fin k0_t1_loop.trips) : Vec F S1x8x4x128 .bf16 :=
  View.ld (Val := Elt F) (e' := .bf16) X (Rect.unit (s := S1x128x4x128) (k0_off7 k) S1x8x4x128.size (k0_off7_inb k))
def lT (X : Vec F S128x128 .f32) (k : Fin k0_t1_loop.trips) : Vec F S8x128 .f32 :=
  View.ld (Val := Elt F) (e' := .f32) X (Rect.unit (s := S128x128) (k0_off2 k) S8x128.size (k0_off2_inb k))
def l4 (X : Vec F S64x128 .f32) : Vec F S64x128 .f32 :=
  View.ld (Val := Elt F) (e' := .f32) X (Rect.unit (s := S64x128) ![0, 0] S64x128.size inb_S64x128_S64x128_0_0)
def l5 (X : Vec F S4x128 .f32) : Vec F S4x128 .f32 :=
  View.ld (Val := Elt F) (e' := .f32) X (Rect.unit (s := S4x128) ![0, 0] S4x128.size inb_S4x128_S4x128_0_0)

theorem lQ_eq (X : Vec F S1x128x64x128 .bf16) (k : Fin k0_t1_loop.trips) : lQ X k = rowsQ X k := ld_rowsQ X k
theorem lK_eq (X : Vec F S1x128x4x128 .bf16) (k : Fin k0_t1_loop.trips) : lK X k = rowsK X k := ld_rowsK X k
theorem lT_eq (X : Vec F S128x128 .f32) (k : Fin k0_t1_loop.trips) : lT X k = rowsT X k := ld_rowsT X k
theorem l4_eq (X : Vec F S64x128 .f32) : l4 X = X := ld_whole4 X
theorem l5_eq (X : Vec F S4x128 .f32) : l5 X = X := ld_whole5 X

theorem qaStep_eq (C S : Vec F S128x128 .f32) (X6 : Vec F S1x128x64x128 .bf16) (k : Fin k0_t1_loop.trips) (w : Vec F S64x128 .f32) :
    qaStep C S X6 k.val w = k0_pay3 (lQ X6 k) (lT C k) (lT S k) (l4 w) := by
  have hk : Fin.ofNat 16 k.val = (k : Fin 16) := Fin.ext (Nat.mod_eq_of_lt k.isLt)
  have h4 := l4_eq w
  unfold qaStep
  rw [hk, h4]
  exact congrArg₂ (fun A B => k0_pay3 A B (rowsT S k) w) (lQ_eq X6 k).symm (lT_eq C k).symm |>.trans
    (congrArg (fun B => k0_pay3 (lQ X6 k) (lT C k) B w) (lT_eq S k).symm)
theorem kaStep_eq (C S : Vec F S128x128 .f32) (X7 : Vec F S1x128x4x128 .bf16) (k : Fin k0_t1_loop.trips) (w : Vec F S4x128 .f32) :
    kaStep C S X7 k.val w = k0_pay20 (k0_pay11 (lK X7 k) (lT C k)) (k0_pay12 (lK X7 k)) (k0_pay13 (lT S k)) (l5 w) := by
  have hk : Fin.ofNat 16 k.val = (k : Fin 16) := Fin.ext (Nat.mod_eq_of_lt k.isLt)
  have h5 := l5_eq w
  unfold kaStep
  rw [hk, h5]
  exact congrArg₂ (fun A B => k0_pay20 (k0_pay11 A B) (k0_pay12 A) (k0_pay13 (rowsT S k)) w) (lK_eq X7 k).symm (lT_eq C k).symm |>.trans
    (congrArg (fun B => k0_pay20 (k0_pay11 (lK X7 k) (lT C k)) (k0_pay12 (lK X7 k)) (k0_pay13 B) w) (lT_eq S k).symm)

/-- The stores of a trip into the three code blocks. -/
def list9 (C S : Vec F S128x128 .f32) (X4 : Vec F S64x128 .f32) (X6 : Vec F S1x128x64x128 .bf16) (k : Fin k0_t1_loop.trips) :
    List (View.Piece (Elt F) S1x128x64x128 .fp8e4m3) :=
  [⟨Rect.unit (s := S1x128x64x128) (k0_off1 k) S1x8x64x128.size (k0_off1_inb k), k0_pay5 (lQ X6 k) (lT C k) (lT S k) (l4 X4)⟩]
def list10 (C S : Vec F S128x128 .f32) (X4 : Vec F S64x128 .f32) (X6 : Vec F S1x128x64x128 .bf16) (k : Fin k0_t1_loop.trips) :
    List (View.Piece (Elt F) S1x4x128x16x128 .fp8e4m3) :=
  [⟨Rect.unit (s := S1x4x128x16x128) (k0_off6 k) S1x1x8x16x128.size (k0_off6_inb k), k0_pay9 (k0_pay4 (lQ X6 k) (lT C k) (lT S k) (l4 X4))⟩,
   ⟨Rect.unit (s := S1x4x128x16x128) (k0_off5 k) S1x1x8x16x128.size (k0_off5_inb k), k0_pay8 (k0_pay4 (lQ X6 k) (lT C k) (lT S k) (l4 X4))⟩,
   ⟨Rect.unit (s := S1x4x128x16x128) (k0_off4 k) S1x1x8x16x128.size (k0_off4_inb k), k0_pay7 (k0_pay4 (lQ X6 k) (lT C k) (lT S k) (l4 X4))⟩,
   ⟨Rect.unit (s := S1x4x128x16x128) (k0_off3 k) S1x1x8x16x128.size (k0_off3_inb k), k0_pay6 (k0_pay4 (lQ X6 k) (lT C k) (lT S k) (l4 X4))⟩]
def list11 (C S : Vec F S128x128 .f32) (X5 : Vec F S4x128 .f32) (X7 : Vec F S1x128x4x128 .bf16) (k : Fin k0_t1_loop.trips) :
    List (View.Piece (Elt F) S1x128x4x128 .fp8e4m3) :=
  [⟨Rect.unit (s := S1x128x4x128) (k0_off7 k) S1x8x4x128.size (k0_off7_inb k),
    k0_pay21 (k0_pay11 (lK X7 k) (lT C k)) (k0_pay12 (lK X7 k)) (k0_pay13 (lT S k)) (l5 X5)⟩]

theorem list9_val (C S : Vec F S128x128 .f32) (X4 : Vec F S64x128 .f32) (X6 : Vec F S1x128x64x128 .bf16) (k : Fin k0_t1_loop.trips) :
    ∀ p ∈ list9 C S X4 X6 k, ∀ x : p.1.shape.Idx, p.2 x = qcBlk C S X4 X6 (p.1.emb x) := by
  intro p hp
  obtain rfl := List.mem_singleton.1 hp
  intro x
  have e := k0_off1_eq k
  have l0 : (x 0).val < 1 := (x 0).isLt
  have l1 : (x 1).val < 8 := (x 1).isLt
  generalize hy : (Rect.unit (s := S1x128x64x128) (k0_off1 k) S1x8x64x128.size (k0_off1_inb k)).emb x = y
  have v1 : (y 1).val = 8 * k.val + (x 1).val := by rw [← hy]; show k0_off1 k 1 + 1 * (x 1).val = _; rw [show k0_off1 k 1 = 8 * k.val from congrFun e 1]; omega
  have v2 : (y 2).val = (x 2).val := by rw [← hy]; show k0_off1 k 2 + 1 * (x 2).val = _; rw [show k0_off1 k 2 = 0 from congrFun e 2]; omega
  have v3 : (y 3).val = (x 3).val := by rw [← hy]; show k0_off1 k 3 + 1 * (x 3).val = _; rw [show k0_off1 k 3 = 0 from congrFun e 3]; omega
  have a1 : blk8 (y 1) = k := Fin.ext (by show (y 1).val / 8 = k.val; omega)
  have a2 : inQ y = x := by
    funext a; apply Fin.ext
    match a with
    | 0 => show 0 = (x 0).val; omega
    | 1 => show (y 1).val % 8 = (x 1).val; omega
    | 2 => exact v2
    | 3 => exact v3
  unfold qcBlk
  rw [a1, a2, ← lQ_eq, ← lT_eq, ← lT_eq]
  exact congrArg (fun Z => k0_pay5 (lQ X6 k) (lT C k) (lT S k) Z x) (l4_eq X4)

theorem list9_cover (C S : Vec F S128x128 .f32) (X4 : Vec F S64x128 .f32) (X6 : Vec F S1x128x64x128 .bf16) (y : S1x128x64x128.Idx) :
    ∃ k, ∃ p ∈ list9 C S X4 X6 k, y ∈ p.1.set := by
  obtain ⟨k, hk⟩ : ∃ k : Fin k0_t1_loop.trips, k.val = (y 1).val / 8 := ⟨blk8 (y 1), rfl⟩
  refine ⟨k, _, List.mem_singleton.2 rfl, ?_⟩
  show y ∈ (Rect.unit (s := S1x128x64x128) (k0_off1 k) S1x8x64x128.size (k0_off1_inb k)).set
  rw [Rect.mem_set_unit, k0_off1_eq k]
  have l0 : (y 0).val < 1 := (y 0).isLt
  have l1 : (y 1).val < 128 := (y 1).isLt
  have l2 : (y 2).val < 64 := (y 2).isLt
  have l3 : (y 3).val < 128 := (y 3).isLt
  intro a
  match a with
  | 0 => exact ⟨Nat.zero_le _, by show (y 0).val < 0 + 1; omega⟩
  | 1 => exact ⟨by show 8 * k.val ≤ (y 1).val; omega, by show (y 1).val < 8 * k.val + 8; omega⟩
  | 2 => exact ⟨Nat.zero_le _, by show (y 2).val < 0 + 64; omega⟩
  | 3 => exact ⟨Nat.zero_le _, by show (y 3).val < 0 + 128; omega⟩

theorem list11_val (C S : Vec F S128x128 .f32) (X5 : Vec F S4x128 .f32) (X7 : Vec F S1x128x4x128 .bf16) (k : Fin k0_t1_loop.trips) :
    ∀ p ∈ list11 C S X5 X7 k, ∀ x : p.1.shape.Idx, p.2 x = kcBlk C S X5 X7 (p.1.emb x) := by
  intro p hp
  obtain rfl := List.mem_singleton.1 hp
  intro x
  have e := k0_off7_eq k
  have l0 : (x 0).val < 1 := (x 0).isLt
  have l1 : (x 1).val < 8 := (x 1).isLt
  generalize hy : (Rect.unit (s := S1x128x4x128) (k0_off7 k) S1x8x4x128.size (k0_off7_inb k)).emb x = y
  have v1 : (y 1).val = 8 * k.val + (x 1).val := by rw [← hy]; show k0_off7 k 1 + 1 * (x 1).val = _; rw [show k0_off7 k 1 = 8 * k.val from congrFun e 1]; omega
  have v2 : (y 2).val = (x 2).val := by rw [← hy]; show k0_off7 k 2 + 1 * (x 2).val = _; rw [show k0_off7 k 2 = 0 from congrFun e 2]; omega
  have v3 : (y 3).val = (x 3).val := by rw [← hy]; show k0_off7 k 3 + 1 * (x 3).val = _; rw [show k0_off7 k 3 = 0 from congrFun e 3]; omega
  have a1 : blk8 (y 1) = k := Fin.ext (by show (y 1).val / 8 = k.val; omega)
  have a2 : inK y = x := by
    funext a; apply Fin.ext
    match a with
    | 0 => show 0 = (x 0).val; omega
    | 1 => show (y 1).val % 8 = (x 1).val; omega
    | 2 => exact v2
    | 3 => exact v3
  unfold kcBlk kPay
  rw [a1, a2, ← lK_eq, ← lT_eq, ← lT_eq]
  exact congrArg (fun Z => k0_pay21 (k0_pay11 (lK X7 k) (lT C k)) (k0_pay12 (lK X7 k)) (k0_pay13 (lT S k)) Z x) (l5_eq X5)

theorem list11_cover (C S : Vec F S128x128 .f32) (X5 : Vec F S4x128 .f32) (X7 : Vec F S1x128x4x128 .bf16) (y : S1x128x4x128.Idx) :
    ∃ k, ∃ p ∈ list11 C S X5 X7 k, y ∈ p.1.set := by
  obtain ⟨k, hk⟩ : ∃ k : Fin k0_t1_loop.trips, k.val = (y 1).val / 8 := ⟨blk8 (y 1), rfl⟩
  refine ⟨k, _, List.mem_singleton.2 rfl, ?_⟩
  show y ∈ (Rect.unit (s := S1x128x4x128) (k0_off7 k) S1x8x4x128.size (k0_off7_inb k)).set
  rw [Rect.mem_set_unit, k0_off7_eq k]
  have l0 : (y 0).val < 1 := (y 0).isLt
  have l1 : (y 1).val < 128 := (y 1).isLt
  have l2 : (y 2).val < 4 := (y 2).isLt
  have l3 : (y 3).val < 128 := (y 3).isLt
  intro a
  match a with
  | 0 => exact ⟨Nat.zero_le _, by show (y 0).val < 0 + 1; omega⟩
  | 1 => exact ⟨by show 8 * k.val ≤ (y 1).val; omega, by show (y 1).val < 8 * k.val + 8; omega⟩
  | 2 => exact ⟨Nat.zero_le _, by show (y 2).val < 0 + 4; omega⟩
  | 3 => exact ⟨Nat.zero_le _, by show (y 3).val < 0 + 128; omega⟩

/-- One group's store holds that group's codes. -/
theorem group_val (C S : Vec F S128x128 .f32) (X4 : Vec F S64x128 .f32) (X6 : Vec F S1x128x64x128 .bf16) (k : Fin k0_t1_loop.trips) (g : Fin 4)
    (off : Fin 5 → ℕ) (inb : ∀ a, off a + S1x1x8x16x128.size a ≤ S1x4x128x16x128.size a) (e : off = ![0, g.val, 8 * k.val, 0, 0]) (x : S1x1x8x16x128.Idx) :
    qtPiece (k0_pay4 (lQ X6 k) (lT C k) (lT S k) (l4 X4)) g x
      = qtBlk C S X4 X6 ((Rect.unit (s := S1x4x128x16x128) off S1x1x8x16x128.size inb).emb x) := by
  have l0 : (x 0).val < 1 := (x 0).isLt
  have l1 : (x 1).val < 1 := (x 1).isLt
  have l2 : (x 2).val < 8 := (x 2).isLt
  generalize hy : (Rect.unit (s := S1x4x128x16x128) off S1x1x8x16x128.size inb).emb x = y
  have v1 : (y 1).val = g.val + (x 1).val := by rw [← hy]; show off 1 + 1 * (x 1).val = _; rw [e]; simp
  have v2 : (y 2).val = 8 * k.val + (x 2).val := by rw [← hy]; show off 2 + 1 * (x 2).val = _; rw [e]; simp
  have v3 : (y 3).val = (x 3).val := by rw [← hy]; show off 3 + 1 * (x 3).val = _; rw [e]; simp
  have v4 : (y 4).val = (x 4).val := by rw [← hy]; show off 4 + 1 * (x 4).val = _; rw [e]; simp
  have a0 : y 1 = g := Fin.ext (by omega)
  have a1 : blk8 (y 2) = k := Fin.ext (by show (y 2).val / 8 = k.val; omega)
  have a2 : inT y = x := by
    funext a; apply Fin.ext
    match a with
    | 0 => show 0 = (x 0).val; omega
    | 1 => show 0 = (x 1).val; omega
    | 2 => show (y 2).val % 8 = (x 2).val; omega
    | 3 => exact v3
    | 4 => exact v4
  unfold qtBlk
  rw [a0, a1, a2, ← lQ_eq, ← lT_eq, ← lT_eq]
  exact congrArg (fun Z => qtPiece (k0_pay4 (lQ X6 k) (lT C k) (lT S k) Z) g x) (l4_eq X4)

theorem list10_val (C S : Vec F S128x128 .f32) (X4 : Vec F S64x128 .f32) (X6 : Vec F S1x128x64x128 .bf16) (k : Fin k0_t1_loop.trips) :
    ∀ p ∈ list10 C S X4 X6 k, ∀ x : p.1.shape.Idx, p.2 x = qtBlk C S X4 X6 (p.1.emb x) := by
  intro p hp
  simp only [list10, List.mem_cons, List.not_mem_nil, or_false] at hp
  rcases hp with rfl | rfl | rfl | rfl
  · exact group_val C S X4 X6 k 3 _ (k0_off6_inb k) (k0_off6_eq k)
  · exact group_val C S X4 X6 k 2 _ (k0_off5_inb k) (k0_off5_eq k)
  · exact group_val C S X4 X6 k 1 _ (k0_off4_inb k) (k0_off4_eq k)
  · exact group_val C S X4 X6 k 0 _ (k0_off3_inb k) (k0_off3_eq k)

theorem group_mem (y : S1x4x128x16x128.Idx) (g : ℕ) (hg : (y 1).val = g) (off : Fin 5 → ℕ) (inb : ∀ a, off a + S1x1x8x16x128.size a ≤ S1x4x128x16x128.size a)
    (e : off = ![0, g, 8 * (blk8 (y 2)).val, 0, 0]) : y ∈ (Rect.unit (s := S1x4x128x16x128) off S1x1x8x16x128.size inb).set := by
  subst e
  rw [Rect.mem_set_unit]
  have l0 : (y 0).val < 1 := (y 0).isLt
  have l2 : (y 2).val < 128 := (y 2).isLt
  have l3 : (y 3).val < 16 := (y 3).isLt
  have l4 : (y 4).val < 128 := (y 4).isLt
  intro a
  match a with
  | 0 => exact ⟨Nat.zero_le _, by show (y 0).val < 0 + 1; omega⟩
  | 1 => exact ⟨by show g ≤ (y 1).val; omega, by show (y 1).val < g + 1; omega⟩
  | 2 => exact ⟨by show 8 * ((y 2).val / 8) ≤ (y 2).val; omega, by show (y 2).val < 8 * ((y 2).val / 8) + 8; omega⟩
  | 3 => exact ⟨Nat.zero_le _, by show (y 3).val < 0 + 16; omega⟩
  | 4 => exact ⟨Nat.zero_le _, by show (y 4).val < 0 + 128; omega⟩

theorem list10_cover (C S : Vec F S128x128 .f32) (X4 : Vec F S64x128 .f32) (X6 : Vec F S1x128x64x128 .bf16) (y : S1x4x128x16x128.Idx) :
    ∃ k, ∃ p ∈ list10 C S X4 X6 k, y ∈ p.1.set := by
  refine ⟨blk8 (y 2), ?_⟩
  have l1 : (y 1).val < 4 := (y 1).isLt
  have hc : (y 1).val = 0 ∨ (y 1).val = 1 ∨ (y 1).val = 2 ∨ (y 1).val = 3 := by omega
  rcases hc with h | h | h | h
  · exact ⟨_, .tail _ (.tail _ (.tail _ (.head _))), group_mem y 0 h _ (k0_off3_inb _) (k0_off3_eq _)⟩
  · exact ⟨_, .tail _ (.tail _ (.head _)), group_mem y 1 h _ (k0_off4_inb _) (k0_off4_eq _)⟩
  · exact ⟨_, .tail _ (.head _), group_mem y 2 h _ (k0_off5_inb _) (k0_off5_eq _)⟩
  · exact ⟨_, .head _, group_mem y 3 h _ (k0_off6_inb _) (k0_off6_eq _)⟩

/-- What the sixteen trips leave in output block 0. -/
theorem out9 (𝒱 : Variants) (c : Dev nD) (bd : Option 𝒱.V) (i : grid0.Coords) (arg2 : Memref sig .tc .vmem S3x1x1x1x128 .i32) (harg2 : arg2.IsWhole) (arg3 : Memref sig .tc .vmem S64x1 .f32) (harg3 : arg3.IsWhole) (arg4 : Memref sig .tc .vmem S64x128 .f32) (harg4 : arg4.IsWhole) (arg5 : Memref sig .tc .vmem S4x128 .f32) (harg5 : arg5.IsWhole) (arg6 : Memref sig .tc .vmem S1x128x64x128 .bf16) (harg6 : arg6.IsWhole) (arg7 : Memref sig .tc .vmem S1x128x4x128 .bf16) (harg7 : arg7.IsWhole) (arg8 : Memref sig .tc .vmem S1x128x512 .bf16) (harg8 : arg8.IsWhole) (arg9 : Memref sig .tc .vmem S1x128x64x128 .fp8e4m3) (harg9 : arg9.IsWhole) (arg10 : Memref sig .tc .vmem S1x4x128x16x128 .fp8e4m3) (harg10 : arg10.IsWhole) (arg11 : Memref sig .tc .vmem S1x128x4x128 .fp8e4m3) (harg11 : arg11.IsWhole) (arg12 : Memref sig .tc .vmem S1x4x128x128 .fp8e4m3) (harg12 : arg12.IsWhole) (arg13 : Memref sig .tc .vmem S1x4x128x128 .bf16) (harg13 : arg13.IsWhole) (arg14 : Memref sig .tc .vmem S64x128 .f32) (harg14 : arg14.IsWhole) (arg15 : Memref sig .tc .vmem S4x128 .f32) (harg15 : arg15.IsWhole) (arg16 : Memref sig .tc .vmem S128x128 .f32) (harg16 : arg16.IsWhole) (arg17 : Memref sig .tc .vmem S128x128 .f32) (harg17 : arg17.IsWhole) (z o : BitVec 32) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg16 : BufTy.Contents (Elt F) arg16.view.ty) (X_arg17 : BufTy.Contents (Elt F) arg17.view.ty) (G_arg9 : BufTy.Contents (Elt F) arg9.view.ty) (G_arg10 : BufTy.Contents (Elt F) arg10.view.ty) (G_arg11 : BufTy.Contents (Elt F) arg11.view.ty) (G_arg14 : BufTy.Contents (Elt F) arg14.view.ty) (G_arg15 : BufTy.Contents (Elt F) arg15.view.ty) :
    arg9.view.read (Elt F) (arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 z o X_arg4 X_arg5 X_arg6 X_arg7 X_arg16 X_arg17 G_arg9 G_arg10 G_arg11 G_arg14 G_arg15 k0_t1_loop.trips).1) = qcBlk (arg16.view.read (Elt F) X_arg16) (arg17.view.read (Elt F) X_arg17) (arg4.view.read (Elt F) X_arg4) (arg6.view.read (Elt F) X_arg6) := by
  refine tiles_read arg9.view G_arg9 (fun j => (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 z o X_arg4 X_arg5 X_arg6 X_arg7 X_arg16 X_arg17 G_arg9 G_arg10 G_arg11 G_arg14 G_arg15 j).1) 16 (list9 (arg16.view.read (Elt F) X_arg16) (arg17.view.read (Elt F) X_arg17) (arg4.view.read (Elt F) X_arg4) (arg6.view.read (Elt F) X_arg6)) _ rfl (fun k => ?_) (list9_val (arg16.view.read (Elt F) X_arg16) (arg17.view.read (Elt F) X_arg17) (arg4.view.read (Elt F) X_arg4) (arg6.view.read (Elt F) X_arg6)) (list9_cover (arg16.view.read (Elt F) X_arg16) (arg17.view.read (Elt F) X_arg17) (arg4.view.read (Elt F) X_arg4) (arg6.view.read (Elt F) X_arg6))
  refine (congrArg (fun p => p.1) (pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 z o X_arg4 X_arg5 X_arg6 X_arg7 X_arg16 X_arg17 G_arg9 G_arg10 G_arg11 G_arg14 G_arg15 k)).trans ?_
  refine congrArg (· ++ _) ?_
  dsimp only [tripL_k0_t1]
  unfold trip_k0_t1
  rfl

/-- What the sixteen trips leave in output block 1. -/
theorem out10 (𝒱 : Variants) (c : Dev nD) (bd : Option 𝒱.V) (i : grid0.Coords) (arg2 : Memref sig .tc .vmem S3x1x1x1x128 .i32) (harg2 : arg2.IsWhole) (arg3 : Memref sig .tc .vmem S64x1 .f32) (harg3 : arg3.IsWhole) (arg4 : Memref sig .tc .vmem S64x128 .f32) (harg4 : arg4.IsWhole) (arg5 : Memref sig .tc .vmem S4x128 .f32) (harg5 : arg5.IsWhole) (arg6 : Memref sig .tc .vmem S1x128x64x128 .bf16) (harg6 : arg6.IsWhole) (arg7 : Memref sig .tc .vmem S1x128x4x128 .bf16) (harg7 : arg7.IsWhole) (arg8 : Memref sig .tc .vmem S1x128x512 .bf16) (harg8 : arg8.IsWhole) (arg9 : Memref sig .tc .vmem S1x128x64x128 .fp8e4m3) (harg9 : arg9.IsWhole) (arg10 : Memref sig .tc .vmem S1x4x128x16x128 .fp8e4m3) (harg10 : arg10.IsWhole) (arg11 : Memref sig .tc .vmem S1x128x4x128 .fp8e4m3) (harg11 : arg11.IsWhole) (arg12 : Memref sig .tc .vmem S1x4x128x128 .fp8e4m3) (harg12 : arg12.IsWhole) (arg13 : Memref sig .tc .vmem S1x4x128x128 .bf16) (harg13 : arg13.IsWhole) (arg14 : Memref sig .tc .vmem S64x128 .f32) (harg14 : arg14.IsWhole) (arg15 : Memref sig .tc .vmem S4x128 .f32) (harg15 : arg15.IsWhole) (arg16 : Memref sig .tc .vmem S128x128 .f32) (harg16 : arg16.IsWhole) (arg17 : Memref sig .tc .vmem S128x128 .f32) (harg17 : arg17.IsWhole) (z o : BitVec 32) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg16 : BufTy.Contents (Elt F) arg16.view.ty) (X_arg17 : BufTy.Contents (Elt F) arg17.view.ty) (G_arg9 : BufTy.Contents (Elt F) arg9.view.ty) (G_arg10 : BufTy.Contents (Elt F) arg10.view.ty) (G_arg11 : BufTy.Contents (Elt F) arg11.view.ty) (G_arg14 : BufTy.Contents (Elt F) arg14.view.ty) (G_arg15 : BufTy.Contents (Elt F) arg15.view.ty) :
    arg10.view.read (Elt F) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 z o X_arg4 X_arg5 X_arg6 X_arg7 X_arg16 X_arg17 G_arg9 G_arg10 G_arg11 G_arg14 G_arg15 k0_t1_loop.trips).2.1) = qtBlk (arg16.view.read (Elt F) X_arg16) (arg17.view.read (Elt F) X_arg17) (arg4.view.read (Elt F) X_arg4) (arg6.view.read (Elt F) X_arg6) := by
  refine tiles_read arg10.view G_arg10 (fun j => (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 z o X_arg4 X_arg5 X_arg6 X_arg7 X_arg16 X_arg17 G_arg9 G_arg10 G_arg11 G_arg14 G_arg15 j).2.1) 16 (list10 (arg16.view.read (Elt F) X_arg16) (arg17.view.read (Elt F) X_arg17) (arg4.view.read (Elt F) X_arg4) (arg6.view.read (Elt F) X_arg6)) _ rfl (fun k => ?_) (list10_val (arg16.view.read (Elt F) X_arg16) (arg17.view.read (Elt F) X_arg17) (arg4.view.read (Elt F) X_arg4) (arg6.view.read (Elt F) X_arg6)) (list10_cover (arg16.view.read (Elt F) X_arg16) (arg17.view.read (Elt F) X_arg17) (arg4.view.read (Elt F) X_arg4) (arg6.view.read (Elt F) X_arg6))
  refine (congrArg (fun p => p.2.1) (pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 z o X_arg4 X_arg5 X_arg6 X_arg7 X_arg16 X_arg17 G_arg9 G_arg10 G_arg11 G_arg14 G_arg15 k)).trans ?_
  refine congrArg (· ++ _) ?_
  dsimp only [tripL_k0_t1]
  unfold trip_k0_t1
  rfl

/-- What the sixteen trips leave in output block 2. -/
theorem out11 (𝒱 : Variants) (c : Dev nD) (bd : Option 𝒱.V) (i : grid0.Coords) (arg2 : Memref sig .tc .vmem S3x1x1x1x128 .i32) (harg2 : arg2.IsWhole) (arg3 : Memref sig .tc .vmem S64x1 .f32) (harg3 : arg3.IsWhole) (arg4 : Memref sig .tc .vmem S64x128 .f32) (harg4 : arg4.IsWhole) (arg5 : Memref sig .tc .vmem S4x128 .f32) (harg5 : arg5.IsWhole) (arg6 : Memref sig .tc .vmem S1x128x64x128 .bf16) (harg6 : arg6.IsWhole) (arg7 : Memref sig .tc .vmem S1x128x4x128 .bf16) (harg7 : arg7.IsWhole) (arg8 : Memref sig .tc .vmem S1x128x512 .bf16) (harg8 : arg8.IsWhole) (arg9 : Memref sig .tc .vmem S1x128x64x128 .fp8e4m3) (harg9 : arg9.IsWhole) (arg10 : Memref sig .tc .vmem S1x4x128x16x128 .fp8e4m3) (harg10 : arg10.IsWhole) (arg11 : Memref sig .tc .vmem S1x128x4x128 .fp8e4m3) (harg11 : arg11.IsWhole) (arg12 : Memref sig .tc .vmem S1x4x128x128 .fp8e4m3) (harg12 : arg12.IsWhole) (arg13 : Memref sig .tc .vmem S1x4x128x128 .bf16) (harg13 : arg13.IsWhole) (arg14 : Memref sig .tc .vmem S64x128 .f32) (harg14 : arg14.IsWhole) (arg15 : Memref sig .tc .vmem S4x128 .f32) (harg15 : arg15.IsWhole) (arg16 : Memref sig .tc .vmem S128x128 .f32) (harg16 : arg16.IsWhole) (arg17 : Memref sig .tc .vmem S128x128 .f32) (harg17 : arg17.IsWhole) (z o : BitVec 32) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg16 : BufTy.Contents (Elt F) arg16.view.ty) (X_arg17 : BufTy.Contents (Elt F) arg17.view.ty) (G_arg9 : BufTy.Contents (Elt F) arg9.view.ty) (G_arg10 : BufTy.Contents (Elt F) arg10.view.ty) (G_arg11 : BufTy.Contents (Elt F) arg11.view.ty) (G_arg14 : BufTy.Contents (Elt F) arg14.view.ty) (G_arg15 : BufTy.Contents (Elt F) arg15.view.ty) :
    arg11.view.read (Elt F) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 z o X_arg4 X_arg5 X_arg6 X_arg7 X_arg16 X_arg17 G_arg9 G_arg10 G_arg11 G_arg14 G_arg15 k0_t1_loop.trips).2.2.1) = kcBlk (arg16.view.read (Elt F) X_arg16) (arg17.view.read (Elt F) X_arg17) (arg5.view.read (Elt F) X_arg5) (arg7.view.read (Elt F) X_arg7) := by
  refine tiles_read arg11.view G_arg11 (fun j => (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 z o X_arg4 X_arg5 X_arg6 X_arg7 X_arg16 X_arg17 G_arg9 G_arg10 G_arg11 G_arg14 G_arg15 j).2.2.1) 16 (list11 (arg16.view.read (Elt F) X_arg16) (arg17.view.read (Elt F) X_arg17) (arg5.view.read (Elt F) X_arg5) (arg7.view.read (Elt F) X_arg7)) _ rfl (fun k => ?_) (list11_val (arg16.view.read (Elt F) X_arg16) (arg17.view.read (Elt F) X_arg17) (arg5.view.read (Elt F) X_arg5) (arg7.view.read (Elt F) X_arg7)) (list11_cover (arg16.view.read (Elt F) X_arg16) (arg17.view.read (Elt F) X_arg17) (arg5.view.read (Elt F) X_arg5) (arg7.view.read (Elt F) X_arg7))
  refine (congrArg (fun p => p.2.2.1) (pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 z o X_arg4 X_arg5 X_arg6 X_arg7 X_arg16 X_arg17 G_arg9 G_arg10 G_arg11 G_arg14 G_arg15 k)).trans ?_
  refine congrArg (· ++ _) ?_
  dsimp only [tripL_k0_t1]
  unfold trip_k0_t1
  rfl

/-- What the sixteen trips leave in the block of largest magnitudes 0. -/
theorem out14 (𝒱 : Variants) (c : Dev nD) (bd : Option 𝒱.V) (i : grid0.Coords) (arg2 : Memref sig .tc .vmem S3x1x1x1x128 .i32) (harg2 : arg2.IsWhole) (arg3 : Memref sig .tc .vmem S64x1 .f32) (harg3 : arg3.IsWhole) (arg4 : Memref sig .tc .vmem S64x128 .f32) (harg4 : arg4.IsWhole) (arg5 : Memref sig .tc .vmem S4x128 .f32) (harg5 : arg5.IsWhole) (arg6 : Memref sig .tc .vmem S1x128x64x128 .bf16) (harg6 : arg6.IsWhole) (arg7 : Memref sig .tc .vmem S1x128x4x128 .bf16) (harg7 : arg7.IsWhole) (arg8 : Memref sig .tc .vmem S1x128x512 .bf16) (harg8 : arg8.IsWhole) (arg9 : Memref sig .tc .vmem S1x128x64x128 .fp8e4m3) (harg9 : arg9.IsWhole) (arg10 : Memref sig .tc .vmem S1x4x128x16x128 .fp8e4m3) (harg10 : arg10.IsWhole) (arg11 : Memref sig .tc .vmem S1x128x4x128 .fp8e4m3) (harg11 : arg11.IsWhole) (arg12 : Memref sig .tc .vmem S1x4x128x128 .fp8e4m3) (harg12 : arg12.IsWhole) (arg13 : Memref sig .tc .vmem S1x4x128x128 .bf16) (harg13 : arg13.IsWhole) (arg14 : Memref sig .tc .vmem S64x128 .f32) (harg14 : arg14.IsWhole) (arg15 : Memref sig .tc .vmem S4x128 .f32) (harg15 : arg15.IsWhole) (arg16 : Memref sig .tc .vmem S128x128 .f32) (harg16 : arg16.IsWhole) (arg17 : Memref sig .tc .vmem S128x128 .f32) (harg17 : arg17.IsWhole) (z o : BitVec 32) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg16 : BufTy.Contents (Elt F) arg16.view.ty) (X_arg17 : BufTy.Contents (Elt F) arg17.view.ty) (G_arg9 : BufTy.Contents (Elt F) arg9.view.ty) (G_arg10 : BufTy.Contents (Elt F) arg10.view.ty) (G_arg11 : BufTy.Contents (Elt F) arg11.view.ty) (G_arg14 : BufTy.Contents (Elt F) arg14.view.ty) (G_arg15 : BufTy.Contents (Elt F) arg15.view.ty) :
    arg14.view.read (Elt F) (arg14.view.writes (Elt F) G_arg14 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 z o X_arg4 X_arg5 X_arg6 X_arg7 X_arg16 X_arg17 G_arg9 G_arg10 G_arg11 G_arg14 G_arg15 k0_t1_loop.trips).2.2.2.1) = accN (qaStep (arg16.view.read (Elt F) X_arg16) (arg17.view.read (Elt F) X_arg17) (arg6.view.read (Elt F) X_arg6)) 16 (arg14.view.read (Elt F) G_arg14) := by
  refine acc_read arg14.view G_arg14 (fun j => (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 z o X_arg4 X_arg5 X_arg6 X_arg7 X_arg16 X_arg17 G_arg9 G_arg10 G_arg11 G_arg14 G_arg15 j).2.2.2.1) 16 _ rfl (fun k => ?_)
  refine ⟨![0, 0], inb_S64x128_S64x128_0_0, by funext a; match a with | 0 => rfl | 1 => rfl, ?_⟩
  refine (congrArg (fun p => p.2.2.2.1) (pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 z o X_arg4 X_arg5 X_arg6 X_arg7 X_arg16 X_arg17 G_arg9 G_arg10 G_arg11 G_arg14 G_arg15 k)).trans ?_
  refine congrArg (· ++ _) (a₂ := [_]) ?_
  rw [qaStep_eq (arg16.view.read (Elt F) X_arg16) (arg17.view.read (Elt F) X_arg17) (arg6.view.read (Elt F) X_arg6) k]
  dsimp only [tripL_k0_t1]
  unfold trip_k0_t1
  rfl

/-- What the sixteen trips leave in the block of largest magnitudes 1. -/
theorem out15 (𝒱 : Variants) (c : Dev nD) (bd : Option 𝒱.V) (i : grid0.Coords) (arg2 : Memref sig .tc .vmem S3x1x1x1x128 .i32) (harg2 : arg2.IsWhole) (arg3 : Memref sig .tc .vmem S64x1 .f32) (harg3 : arg3.IsWhole) (arg4 : Memref sig .tc .vmem S64x128 .f32) (harg4 : arg4.IsWhole) (arg5 : Memref sig .tc .vmem S4x128 .f32) (harg5 : arg5.IsWhole) (arg6 : Memref sig .tc .vmem S1x128x64x128 .bf16) (harg6 : arg6.IsWhole) (arg7 : Memref sig .tc .vmem S1x128x4x128 .bf16) (harg7 : arg7.IsWhole) (arg8 : Memref sig .tc .vmem S1x128x512 .bf16) (harg8 : arg8.IsWhole) (arg9 : Memref sig .tc .vmem S1x128x64x128 .fp8e4m3) (harg9 : arg9.IsWhole) (arg10 : Memref sig .tc .vmem S1x4x128x16x128 .fp8e4m3) (harg10 : arg10.IsWhole) (arg11 : Memref sig .tc .vmem S1x128x4x128 .fp8e4m3) (harg11 : arg11.IsWhole) (arg12 : Memref sig .tc .vmem S1x4x128x128 .fp8e4m3) (harg12 : arg12.IsWhole) (arg13 : Memref sig .tc .vmem S1x4x128x128 .bf16) (harg13 : arg13.IsWhole) (arg14 : Memref sig .tc .vmem S64x128 .f32) (harg14 : arg14.IsWhole) (arg15 : Memref sig .tc .vmem S4x128 .f32) (harg15 : arg15.IsWhole) (arg16 : Memref sig .tc .vmem S128x128 .f32) (harg16 : arg16.IsWhole) (arg17 : Memref sig .tc .vmem S128x128 .f32) (harg17 : arg17.IsWhole) (z o : BitVec 32) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg16 : BufTy.Contents (Elt F) arg16.view.ty) (X_arg17 : BufTy.Contents (Elt F) arg17.view.ty) (G_arg9 : BufTy.Contents (Elt F) arg9.view.ty) (G_arg10 : BufTy.Contents (Elt F) arg10.view.ty) (G_arg11 : BufTy.Contents (Elt F) arg11.view.ty) (G_arg14 : BufTy.Contents (Elt F) arg14.view.ty) (G_arg15 : BufTy.Contents (Elt F) arg15.view.ty) :
    arg15.view.read (Elt F) (arg15.view.writes (Elt F) G_arg15 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 z o X_arg4 X_arg5 X_arg6 X_arg7 X_arg16 X_arg17 G_arg9 G_arg10 G_arg11 G_arg14 G_arg15 k0_t1_loop.trips).2.2.2.2) = accN (kaStep (arg16.view.read (Elt F) X_arg16) (arg17.view.read (Elt F) X_arg17) (arg7.view.read (Elt F) X_arg7)) 16 (arg15.view.read (Elt F) G_arg15) := by
  refine acc_read arg15.view G_arg15 (fun j => (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 z o X_arg4 X_arg5 X_arg6 X_arg7 X_arg16 X_arg17 G_arg9 G_arg10 G_arg11 G_arg14 G_arg15 j).2.2.2.2) 16 _ rfl (fun k => ?_)
  refine ⟨![0, 0], inb_S4x128_S4x128_0_0, by funext a; match a with | 0 => rfl | 1 => rfl, ?_⟩
  refine (congrArg (fun p => p.2.2.2.2) (pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 z o X_arg4 X_arg5 X_arg6 X_arg7 X_arg16 X_arg17 G_arg9 G_arg10 G_arg11 G_arg14 G_arg15 k)).trans ?_
  refine congrArg (· ++ _) (a₂ := [_]) ?_
  rw [kaStep_eq (arg16.view.read (Elt F) X_arg16) (arg17.view.read (Elt F) X_arg17) (arg7.view.read (Elt F) X_arg7) k]
  dsimp only [tripL_k0_t1]
  unfold trip_k0_t1
  rfl

end Cert.Kernel.Rope

end
-- ==== Proof.RopeRunBits.lean ====
/- One grid point of the rotate-and-quantise kernel (`Kernel`): from the seven blocks it is given and the running maxima it
   finds, it ends with the same inputs, the blocks of codes, the transposed values, and the maxima taken over its rows. -/
module

public import proofs.«01_k».proof.Proof.RopeTileBits

@[expose] public section

set_option maxRecDepth 16384

noncomputable section

namespace Cert.Kernel.Rope

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Tiles

variable {F : FTy → Type} [FloatOps F]

local notation "𝕄" => MT nD τ sig Unit (Elt F) ℕ (UR sig nD τ) ℕ

/-- The first grid point, where the running maxima are set to zero. -/
def first0 (i : grid0.Coords) : Prop := (i 0).val = 0 ∧ (i 1).val = 0

instance (i : grid0.Coords) : Decidable (first0 i) := by unfold first0; infer_instance

theorem cond0_gen (a : Fin 6) (b : Fin 16) :
    Scalar.cmpi .ne (Scalar.extui (Scalar.andi (Scalar.cmpi .eq (BitVec.ofNat 32 a.val) 0#32) (Scalar.cmpi .eq (BitVec.ofNat 32 b.val) 0#32)) : BitVec 32) 0#32 = 1#1
      ↔ a.val = 0 ∧ b.val = 0 := by
  revert a b; decide +kernel

/-- Four stores, one a head, read back by heads. -/
theorem heads_read {e : EltTy} (v : View sig .tc .vmem S1x4x128x128 e) (G : v.ty.Contents (Elt F)) (p : Fin 4 → S1x1x128x128.Idx → Elt F e) :
    v.read (Elt F) (v.writes (Elt F) G
      [⟨Rect.unit (s := S1x4x128x128) ![0, 3, 0, 0] S1x1x128x128.size inb_S1x4x128x128_S1x1x128x128_0_3_0_0, p 3⟩,
       ⟨Rect.unit (s := S1x4x128x128) ![0, 2, 0, 0] S1x1x128x128.size inb_S1x4x128x128_S1x1x128x128_0_2_0_0, p 2⟩,
       ⟨Rect.unit (s := S1x4x128x128) ![0, 1, 0, 0] S1x1x128x128.size inb_S1x4x128x128_S1x1x128x128_0_1_0_0, p 1⟩,
       ⟨Rect.unit (s := S1x4x128x128) ![0, 0, 0, 0] S1x1x128x128.size inb_S1x4x128x128_S1x1x128x128_0_0_0_0, p 0⟩])
      = fun y => p (y 1) (inH y) := by
  have key : ∀ (g : Fin 4) (inb : ∀ a, (![0, g.val, 0, 0] : Fin 4 → ℕ) a + S1x1x128x128.size a ≤ S1x4x128x128.size a) (x : S1x1x128x128.Idx),
      p g x = (fun y : S1x4x128x128.Idx => p (y 1) (inH y)) ((Rect.unit (s := S1x4x128x128) ![0, g.val, 0, 0] S1x1x128x128.size inb).emb x) := by
    intro g inb x
    have l0 : (x 0).val < 1 := (x 0).isLt
    have l1 : (x 1).val < 1 := (x 1).isLt
    generalize hy : (Rect.unit (s := S1x4x128x128) ![0, g.val, 0, 0] S1x1x128x128.size inb).emb x = y
    have v1 : (y 1).val = g.val + 1 * (x 1).val := by rw [← hy]; rfl
    have v2 : (y 2).val = 0 + 1 * (x 2).val := by rw [← hy]; rfl
    have v3 : (y 3).val = 0 + 1 * (x 3).val := by rw [← hy]; rfl
    have a0 : y 1 = g := Fin.ext (by omega)
    have a2 : inH y = x := by
      funext a; apply Fin.ext
      match a with
      | 0 => show 0 = (x 0).val; omega
      | 1 => show 0 = (x 1).val; omega
      | 2 => show (y 2).val = (x 2).val; omega
      | 3 => show (y 3).val = (x 3).val; omega
    show p g x = p (y 1) (inH y)
    rw [a0, a2]
  have mem : ∀ (y : S1x4x128x128.Idx) (g : ℕ) (inb : ∀ a, (![0, g, 0, 0] : Fin 4 → ℕ) a + S1x1x128x128.size a ≤ S1x4x128x128.size a), (y 1).val = g →
      y ∈ (Rect.unit (s := S1x4x128x128) ![0, g, 0, 0] S1x1x128x128.size inb).set := by
    intro y g inb hg
    rw [Rect.mem_set_unit]
    have l0 : (y 0).val < 1 := (y 0).isLt
    have l2 : (y 2).val < 128 := (y 2).isLt
    have l3 : (y 3).val < 128 := (y 3).isLt
    intro a
    match a with
    | 0 => exact ⟨Nat.zero_le _, by show (y 0).val < 0 + 1; omega⟩
    | 1 => exact ⟨by show g ≤ (y 1).val; omega, by show (y 1).val < g + 1; omega⟩
    | 2 => exact ⟨Nat.zero_le _, by show (y 2).val < 0 + 128; omega⟩
    | 3 => exact ⟨Nat.zero_le _, by show (y 3).val < 0 + 128; omega⟩
  funext y
  refine View.read_writes_apply_of_pieces v G (fun y => p (y 1) (inH y)) _ ?_ y ?_
  · intro q hq
    simp only [List.mem_cons, List.not_mem_nil, or_false] at hq
    rcases hq with rfl | rfl | rfl | rfl
    · exact key 3 inb_S1x4x128x128_S1x1x128x128_0_3_0_0
    · exact key 2 inb_S1x4x128x128_S1x1x128x128_0_2_0_0
    · exact key 1 inb_S1x4x128x128_S1x1x128x128_0_1_0_0
    · exact key 0 inb_S1x4x128x128_S1x1x128x128_0_0_0_0
  · have l1 : (y 1).val < 4 := (y 1).isLt
    have hc : (y 1).val = 0 ∨ (y 1).val = 1 ∨ (y 1).val = 2 ∨ (y 1).val = 3 := by omega
    rcases hc with h | h | h | h
    · exact ⟨_, .tail _ (.tail _ (.tail _ (.head _))), mem y 0 inb_S1x4x128x128_S1x1x128x128_0_0_0_0 h⟩
    · exact ⟨_, .tail _ (.tail _ (.head _)), mem y 1 inb_S1x4x128x128_S1x1x128x128_0_1_0_0 h⟩
    · exact ⟨_, .tail _ (.head _), mem y 2 inb_S1x4x128x128_S1x1x128x128_0_2_0_0 h⟩
    · exact ⟨_, .head _, mem y 3 inb_S1x4x128x128_S1x1x128x128_0_3_0_0 h⟩

/-- The blocks a grid point is given, whole. -/
theorem load2 (arg2 : Memref sig .tc .vmem S3x1x1x1x128 .i32) (harg2 : arg2.IsWhole) (x : Vec F S3x1x1x1x128 .i32) :
    arg2.view.readAt (Elt F) (Rect.unit (s := S3x1x1x1x128) ![0, 0, 0, 0, 0] S3x1x1x1x128.size inb_S3x1x1x1x128_S3x1x1x1x128_0_0_0_0_0).toLoadRect (harg2.unread x) = x := by
  rw [View.readAt_eq_ld, harg2.read_unread]
  exact View.ld_unit_zero (by funext a; match a with | 0 => rfl | 1 => rfl | 2 => rfl | 3 => rfl | 4 => rfl) _ _
theorem load3 (arg3 : Memref sig .tc .vmem S64x1 .f32) (harg3 : arg3.IsWhole) (x : Vec F S64x1 .f32) :
    arg3.view.readAt (Elt F) (Rect.unit (s := S64x1) ![0, 0] S64x1.size inb_S64x1_S64x1_0_0).toLoadRect (harg3.unread x) = x := by
  rw [View.readAt_eq_ld, harg3.read_unread]
  exact View.ld_unit_zero (by funext a; match a with | 0 => rfl | 1 => rfl) _ _
theorem store2 {S : Shape} (arg : Memref sig .tc .vmem S .f32) (G : BufTy.Contents (Elt F) arg.view.ty) (off : Fin S.rank → ℕ) (h : off = fun _ => 0)
    (inb : ∀ a, off a + S.size a ≤ S.size a) (w : S.Idx → Elt F .f32) :
    arg.view.read (Elt F) (arg.view.writes (Elt F) G [⟨Rect.unit off S.size inb, w⟩]) = w := read_whole arg.view G off inb h w []

theorem table16 (arg2 : Memref sig .tc .vmem S3x1x1x1x128 .i32) (harg2 : arg2.IsWhole) (arg3 : Memref sig .tc .vmem S64x1 .f32) (harg3 : arg3.IsWhole)
    (arg16 : Memref sig .tc .vmem S128x128 .f32) (G : BufTy.Contents (Elt F) arg16.view.ty) (x0 : Vec F S3x1x1x1x128 .i32) (x1 : Vec F S64x1 .f32) :
    arg16.view.read (Elt F) (arg16.view.writes (Elt F) G [⟨Rect.unit (s := S128x128) ![0, 0] S128x128.size inb_S128x128_S128x128_0_0,
      k0_pay17 (arg2.view.readAt (Elt F) (Rect.unit (s := S3x1x1x1x128) ![0, 0, 0, 0, 0] S3x1x1x1x128.size inb_S3x1x1x1x128_S3x1x1x1x128_0_0_0_0_0).toLoadRect (harg2.unread x0))
        (arg3.view.readAt (Elt F) (Rect.unit (s := S64x1) ![0, 0] S64x1.size inb_S64x1_S64x1_0_0).toLoadRect (harg3.unread x1))⟩]) = k0_pay17 x0 x1 := by
  rw [load2, load3]
  exact store2 arg16 G ![0, 0] (by funext a; match a with | 0 => rfl | 1 => rfl) _ _
theorem table17 (arg2 : Memref sig .tc .vmem S3x1x1x1x128 .i32) (harg2 : arg2.IsWhole) (arg3 : Memref sig .tc .vmem S64x1 .f32) (harg3 : arg3.IsWhole)
    (arg17 : Memref sig .tc .vmem S128x128 .f32) (G : BufTy.Contents (Elt F) arg17.view.ty) (x0 : Vec F S3x1x1x1x128 .i32) (x1 : Vec F S64x1 .f32) :
    arg17.view.read (Elt F) (arg17.view.writes (Elt F) G [⟨Rect.unit (s := S128x128) ![0, 0] S128x128.size inb_S128x128_S128x128_0_0,
      k0_pay18 (arg2.view.readAt (Elt F) (Rect.unit (s := S3x1x1x1x128) ![0, 0, 0, 0, 0] S3x1x1x1x128.size inb_S3x1x1x1x128_S3x1x1x1x128_0_0_0_0_0).toLoadRect (harg2.unread x0))
        (arg3.view.readAt (Elt F) (Rect.unit (s := S64x1) ![0, 0] S64x1.size inb_S64x1_S64x1_0_0).toLoadRect (harg3.unread x1))⟩]) = k0_pay18 x0 x1 := by
  rw [load2, load3]
  exact store2 arg17 G ![0, 0] (by funext a; match a with | 0 => rfl | 1 => rfl) _ _

set_option maxHeartbeats 8000000 in
theorem run0 (c : Dev nD) (i : grid0.Coords) (arg2 : Memref sig .tc .vmem S3x1x1x1x128 .i32) (harg2 : arg2.IsWhole) (arg3 : Memref sig .tc .vmem S64x1 .f32) (harg3 : arg3.IsWhole) (arg4 : Memref sig .tc .vmem S64x128 .f32) (harg4 : arg4.IsWhole) (arg5 : Memref sig .tc .vmem S4x128 .f32) (harg5 : arg5.IsWhole) (arg6 : Memref sig .tc .vmem S1x128x64x128 .bf16) (harg6 : arg6.IsWhole) (arg7 : Memref sig .tc .vmem S1x128x4x128 .bf16) (harg7 : arg7.IsWhole) (arg8 : Memref sig .tc .vmem S1x128x512 .bf16) (harg8 : arg8.IsWhole) (arg9 : Memref sig .tc .vmem S1x128x64x128 .fp8e4m3) (harg9 : arg9.IsWhole) (arg10 : Memref sig .tc .vmem S1x4x128x16x128 .fp8e4m3) (harg10 : arg10.IsWhole) (arg11 : Memref sig .tc .vmem S1x128x4x128 .fp8e4m3) (harg11 : arg11.IsWhole) (arg12 : Memref sig .tc .vmem S1x4x128x128 .fp8e4m3) (harg12 : arg12.IsWhole) (arg13 : Memref sig .tc .vmem S1x4x128x128 .bf16) (harg13 : arg13.IsWhole) (arg14 : Memref sig .tc .vmem S64x128 .f32) (harg14 : arg14.IsWhole) (arg15 : Memref sig .tc .vmem S4x128 .f32) (harg15 : arg15.IsWhole) (arg16 : Memref sig .tc .vmem S128x128 .f32) (harg16 : arg16.IsWhole) (arg17 : Memref sig .tc .vmem S128x128 .f32) (harg17 : arg17.IsWhole)
    (x0 : Vec F S3x1x1x1x128 .i32) (x1 : Vec F S64x1 .f32) (x2 : Vec F S64x128 .f32) (x3 : Vec F S4x128 .f32) (x4 : Vec F S1x128x64x128 .bf16) (x5 : Vec F S1x128x4x128 .bf16) (x6 : Vec F S1x128x512 .bf16) (x12 : Vec F S64x128 .f32) (x13 : Vec F S4x128 .f32) :
      ∀ (E : Set ℕ) (K : PUnit → sProp 𝕄),
        iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (x6) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare (x12) ∗ owns (c : Thread nD τ) arg15 fullShare (x13) ∗ (∃ d, owns (c : Thread nD τ) arg16 fullShare d) ∗ (∃ d, owns (c : Thread nD τ) arg17 fullShare d)
            ∗ (iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (x6) ∗ owns (c : Thread nD τ) arg9 fullShare (qcBlk (k0_pay17 x0 x1) (k0_pay18 x0 x1) x2 x4) ∗ owns (c : Thread nD τ) arg10 fullShare (qtBlk (k0_pay17 x0 x1) (k0_pay18 x0 x1) x2 x4) ∗ owns (c : Thread nD τ) arg11 fullShare (kcBlk (k0_pay17 x0 x1) (k0_pay18 x0 x1) x3 x5) ∗ owns (c : Thread nD τ) arg12 fullShare (ktBlk (kcBlk (k0_pay17 x0 x1) (k0_pay18 x0 x1) x3 x5)) ∗ owns (c : Thread nD τ) arg13 fullShare (vtBlk x6) ∗ owns (c : Thread nD τ) arg14 fullShare (accN (qaStep (k0_pay17 x0 x1) (k0_pay18 x0 x1) x4) 16 (if first0 i then k0_pay14 (F := F) else x12)) ∗ owns (c : Thread nD τ) arg15 fullShare (accN (kaStep (k0_pay17 x0 x1) (k0_pay18 x0 x1) x5) 16 (if first0 i then k0_pay15 (F := F) else x13)) ∗ (∃ d, owns (c : Thread nD τ) arg16 fullShare d) ∗ (∃ d, owns (c : Thread nD τ) arg17 fullShare d)) -∗ K ⟨⟩))
          ⊢ wp frame (wpE (defs₀ (F := F)) Variants.none c none) E (cc0_rope_quant i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  intro E K
  have hcond := cond0_gen (i 0) (i 1)
  simp only [cc0_rope_quant_eq_skeleton]; unfold cc0_rope_quant_skel
  simp only [k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%f12, %hf12, H12⟩, ⟨%f13, %hf13, H13⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg14.eq_unread hf12; obtain rfl := harg15.eq_unread hf13
  by_cases hi : first0 i
  · have hc0 := hcond.2 hi
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro
      rw [out9, harg4.read_unread, harg6.read_unread]
      exact congrArg₂ (fun A B => qcBlk A B x2 x4) (table16 arg2 harg2 arg3 harg3 arg16 _ x0 x1) (table17 arg2 harg2 arg3 harg3 arg17 _ x0 x1)
    isplitl [H8]
    · iexists _; isplitr; swap; · iexact H8
      ipureintro
      rw [out10, harg4.read_unread, harg6.read_unread]
      exact congrArg₂ (fun A B => qtBlk A B x2 x4) (table16 arg2 harg2 arg3 harg3 arg16 _ x0 x1) (table17 arg2 harg2 arg3 harg3 arg17 _ x0 x1)
    isplitl [H9]
    · iexists _; isplitr; swap; · iexact H9
      ipureintro
      rw [out11, harg5.read_unread, harg7.read_unread]
      exact congrArg₂ (fun A B => kcBlk A B x3 x5) (table16 arg2 harg2 arg3 harg3 arg16 _ x0 x1) (table17 arg2 harg2 arg3 harg3 arg17 _ x0 x1)
    isplitl [H10]
    · iexists _; isplitr; swap; · iexact H10
      ipureintro
      refine (heads_read arg12.view _ (ktPiece (arg11.view.read (Elt F) _))).trans ?_
      refine congrArg ktBlk ?_
      rw [out11, harg5.read_unread, harg7.read_unread]
      exact congrArg₂ (fun A B => kcBlk A B x3 x5) (table16 arg2 harg2 arg3 harg3 arg16 _ x0 x1) (table17 arg2 harg2 arg3 harg3 arg17 _ x0 x1)
    isplitl [H11]
    · iexists _; isplitr; swap; · iexact H11
      ipureintro
      rw [show vtBlk x6 = vtBlk (arg8.view.read (Elt F) (harg8.unread x6)) by rw [harg8.read_unread]]
      exact heads_read arg13.view _ (vtPiece (arg8.view.read (Elt F) (harg8.unread x6)))
    isplitl [H12]
    · iexists _; isplitr; swap; · iexact H12
      ipureintro
      rw [View.writes_append]
      rw [out14, harg6.read_unread]
      rw [if_pos hi]
      refine (congrArg₂ (fun A B => accN (qaStep A B x4) 16 _) (table16 arg2 harg2 arg3 harg3 arg16 _ x0 x1) (table17 arg2 harg2 arg3 harg3 arg17 _ x0 x1)).trans ?_
      refine congrArg (accN (qaStep (k0_pay17 x0 x1) (k0_pay18 x0 x1) x4) 16) ?_
      exact store2 arg14 _ ![0, 0] (by funext a; match a with | 0 => rfl | 1 => rfl) _ _
    isplitl [H13]
    · iexists _; isplitr; swap; · iexact H13
      ipureintro
      rw [View.writes_append]
      rw [out15, harg7.read_unread]
      rw [if_pos hi]
      refine (congrArg₂ (fun A B => accN (kaStep A B x5) 16 _) (table16 arg2 harg2 arg3 harg3 arg16 _ x0 x1) (table17 arg2 harg2 arg3 harg3 arg17 _ x0 x1)).trans ?_
      refine congrArg (accN (kaStep (k0_pay17 x0 x1) (k0_pay18 x0 x1) x5) 16) ?_
      exact store2 arg15 _ ![0, 0] (by funext a; match a with | 0 => rfl | 1 => rfl) _ _
    isplitl [HS0]
    · iexists _, _; isplitr; swap; · iexact HS0
      ipureintro; rfl
    iexists _, _; isplitr; swap; · iexact HS1
    ipureintro; rfl
  · have hc0 := fun h => hi (hcond.1 h)
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro
      rw [out9, harg4.read_unread, harg6.read_unread]
      exact congrArg₂ (fun A B => qcBlk A B x2 x4) (table16 arg2 harg2 arg3 harg3 arg16 _ x0 x1) (table17 arg2 harg2 arg3 harg3 arg17 _ x0 x1)
    isplitl [H8]
    · iexists _; isplitr; swap; · iexact H8
      ipureintro
      rw [out10, harg4.read_unread, harg6.read_unread]
      exact congrArg₂ (fun A B => qtBlk A B x2 x4) (table16 arg2 harg2 arg3 harg3 arg16 _ x0 x1) (table17 arg2 harg2 arg3 harg3 arg17 _ x0 x1)
    isplitl [H9]
    · iexists _; isplitr; swap; · iexact H9
      ipureintro
      rw [out11, harg5.read_unread, harg7.read_unread]
      exact congrArg₂ (fun A B => kcBlk A B x3 x5) (table16 arg2 harg2 arg3 harg3 arg16 _ x0 x1) (table17 arg2 harg2 arg3 harg3 arg17 _ x0 x1)
    isplitl [H10]
    · iexists _; isplitr; swap; · iexact H10
      ipureintro
      refine (heads_read arg12.view _ (ktPiece (arg11.view.read (Elt F) _))).trans ?_
      refine congrArg ktBlk ?_
      rw [out11, harg5.read_unread, harg7.read_unread]
      exact congrArg₂ (fun A B => kcBlk A B x3 x5) (table16 arg2 harg2 arg3 harg3 arg16 _ x0 x1) (table17 arg2 harg2 arg3 harg3 arg17 _ x0 x1)
    isplitl [H11]
    · iexists _; isplitr; swap; · iexact H11
      ipureintro
      rw [show vtBlk x6 = vtBlk (arg8.view.read (Elt F) (harg8.unread x6)) by rw [harg8.read_unread]]
      exact heads_read arg13.view _ (vtPiece (arg8.view.read (Elt F) (harg8.unread x6)))
    isplitl [H12]
    · iexists _; isplitr; swap; · iexact H12
      ipureintro
      rw [out14, harg6.read_unread]
      rw [if_neg hi, harg14.read_unread]
      exact congrArg₂ (fun A B => accN (qaStep A B x4) 16 x12) (table16 arg2 harg2 arg3 harg3 arg16 _ x0 x1) (table17 arg2 harg2 arg3 harg3 arg17 _ x0 x1)
    isplitl [H13]
    · iexists _; isplitr; swap; · iexact H13
      ipureintro
      rw [out15, harg7.read_unread]
      rw [if_neg hi, harg15.read_unread]
      exact congrArg₂ (fun A B => accN (kaStep A B x5) 16 x13) (table16 arg2 harg2 arg3 harg3 arg16 _ x0 x1) (table17 arg2 harg2 arg3 harg3 arg17 _ x0 x1)
    isplitl [HS0]
    · iexists _, _; isplitr; swap; · iexact HS0
      ipureintro; rfl
    iexists _, _; isplitr; swap; · iexact HS1
    ipureintro; rfl

end Cert.Kernel.Rope

end
-- ==== Proof.AttnLoopsBits.lean ====
/- What each of the sixteen counted loops of the attention kernel leaves in the output block (`Kernel`): loop `N` runs at the
   grid points whose query block is number `N - 1`, and its tiles see the first `128 N` keys. The stores of one trip are
   those of `Cert.Attn.tileK` by unfolding; the loop is then `Cert.Attn.loop_tiles`. -/
module

public import proofs.«01_k».proof.Proof.AttnTile
public import proofs.«01_k».proof.Proof.Gen.Kernel.Loops

@[expose] public section

set_option maxRecDepth 8192
set_option maxHeartbeats 4000000

noncomputable section

namespace Cert.Kernel.Attn

open Idealize.ShloMosaic Idealize.ShloMosaic.TcCoe Idealize.ShloMosaic.Tactic
open Cert.Kernel Cert.Kernel.Gen Cert.Attn

variable {F : FTy → Type} [FloatOps F]

theorem facts1 : TileFacts 0 := by constructor <;> decide

/-- Loop 1 leaves the output block of the tiles over the first 128 keys. -/
theorem out_t1 (𝒱 : Variants) (c : Dev nD) (bd : Option 𝒱.V) (i : grid1.Coords) (arg3 : Memref sig .tc .vmem S1x1x128x16x128 .fp8e4m3) (harg3 : arg3.IsWhole) (arg4 : Memref sig .tc .vmem S1x1x2048x128 .fp8e4m3) (harg4 : arg4.IsWhole) (arg5 : Memref sig .tc .vmem S1x1x128x2048 .bf16) (harg5 : arg5.IsWhole) (arg6 : Memref sig .tc .vmem S1x1x256 .f32) (harg6 : arg6.IsWhole) (arg7 : Memref sig .tc .vmem S1x128x2048 .bf16) (harg7 : arg7.IsWhole) (arg8 : Memref sig .tc .vmem S2048x256 .f32) (harg8 : arg8.IsWhole) (v0 : Vec F S1x1x256 .f32) (k1_h1 : k1_cond1 i = 1#1) (X_arg3 : BufTy.Contents (Elt F) arg3.view.ty) (X_arg4 : BufTy.Contents (Elt F) arg4.view.ty) (X_arg5 : BufTy.Contents (Elt F) arg5.view.ty) (G7 : BufTy.Contents (Elt F) arg7.view.ty) (G8 : BufTy.Contents (Elt F) arg8.view.ty) :
    arg7.view.read (Elt F) (arg7.view.writes (Elt F) G7 (pb_k1_t1 (F := F) 𝒱 c bd i arg3 harg3 arg4 harg4 arg5 harg5 arg6 harg6 arg7 harg7 arg8 harg8 v0 k1_h1 X_arg3 X_arg4 X_arg5 G7 G8 k1_t1_loop.trips).1)
      = outVal (tile 0 facts1 (k1_pay377 v0) (arg3.view.read (Elt F) X_arg3) (arg4.view.read (Elt F) X_arg4) (arg5.view.read (Elt F) X_arg5)) := by
  refine loop_tiles 0 facts1 arg7.view G7 arg8.view (fun j => (pb_k1_t1 (F := F) 𝒱 c bd i arg3 harg3 arg4 harg4 arg5 harg5 arg6 harg6 arg7 harg7 arg8 harg8 v0 k1_h1 X_arg3 X_arg4 X_arg5 G7 G8 j).1) _ _ _ _ rfl fun k hk => ?_
  have hs := congrArg Prod.fst (pb_k1_t1_succ (F := F) 𝒱 c bd i arg3 harg3 arg4 harg4 arg5 harg5 arg6 harg6 arg7 harg7 arg8 harg8 v0 k1_h1 X_arg3 X_arg4 X_arg5 G7 G8 ⟨k, hk⟩)
  have hq := k1_off1_eq ⟨k, hk⟩
  refine ⟨![k1_off2 ⟨k, hk⟩, k1_off3 ⟨k, hk⟩, k1_off4 ⟨k, hk⟩, k1_off5 ⟨k, hk⟩, k1_off6 ⟨k, hk⟩, k1_off7 ⟨k, hk⟩, k1_off8 ⟨k, hk⟩, k1_off9 ⟨k, hk⟩, k1_off10 ⟨k, hk⟩, k1_off11 ⟨k, hk⟩, k1_off12 ⟨k, hk⟩, k1_off13 ⟨k, hk⟩, k1_off14 ⟨k, hk⟩, k1_off15 ⟨k, hk⟩, k1_off16 ⟨k, hk⟩, k1_off17 ⟨k, hk⟩], ?_, k1_off1 ⟨k, hk⟩, k1_off1_inb i ⟨k, hk⟩ k1_h1, ?_, hq, ?_⟩
  · intro h
    fin_cases h
    · exact k1_off2_inb i ⟨k, hk⟩ k1_h1
    · exact k1_off3_inb i ⟨k, hk⟩ k1_h1
    · exact k1_off4_inb i ⟨k, hk⟩ k1_h1
    · exact k1_off5_inb i ⟨k, hk⟩ k1_h1
    · exact k1_off6_inb i ⟨k, hk⟩ k1_h1
    · exact k1_off7_inb i ⟨k, hk⟩ k1_h1
    · exact k1_off8_inb i ⟨k, hk⟩ k1_h1
    · exact k1_off9_inb i ⟨k, hk⟩ k1_h1
    · exact k1_off10_inb i ⟨k, hk⟩ k1_h1
    · exact k1_off11_inb i ⟨k, hk⟩ k1_h1
    · exact k1_off12_inb i ⟨k, hk⟩ k1_h1
    · exact k1_off13_inb i ⟨k, hk⟩ k1_h1
    · exact k1_off14_inb i ⟨k, hk⟩ k1_h1
    · exact k1_off15_inb i ⟨k, hk⟩ k1_h1
    · exact k1_off16_inb i ⟨k, hk⟩ k1_h1
    · exact k1_off17_inb i ⟨k, hk⟩ k1_h1
  · intro h
    fin_cases h
    · exact k1_off2_eq ⟨k, hk⟩
    · exact k1_off3_eq ⟨k, hk⟩
    · exact k1_off4_eq ⟨k, hk⟩
    · exact k1_off5_eq ⟨k, hk⟩
    · exact k1_off6_eq ⟨k, hk⟩
    · exact k1_off7_eq ⟨k, hk⟩
    · exact k1_off8_eq ⟨k, hk⟩
    · exact k1_off9_eq ⟨k, hk⟩
    · exact k1_off10_eq ⟨k, hk⟩
    · exact k1_off11_eq ⟨k, hk⟩
    · exact k1_off12_eq ⟨k, hk⟩
    · exact k1_off13_eq ⟨k, hk⟩
    · exact k1_off14_eq ⟨k, hk⟩
    · exact k1_off15_eq ⟨k, hk⟩
    · exact k1_off16_eq ⟨k, hk⟩
    · exact k1_off17_eq ⟨k, hk⟩
  · refine hs.trans ?_
    refine congrArg (· ++ _) ?_
    dsimp only [tripL_k1_t1]
    unfold trip_k1_t1
    rfl

theorem facts2 : TileFacts 128 := by constructor <;> decide

/-- Loop 2 leaves the output block of the tiles over the first 256 keys. -/
theorem out_t2 (𝒱 : Variants) (c : Dev nD) (bd : Option 𝒱.V) (i : grid1.Coords) (arg3 : Memref sig .tc .vmem S1x1x128x16x128 .fp8e4m3) (harg3 : arg3.IsWhole) (arg4 : Memref sig .tc .vmem S1x1x2048x128 .fp8e4m3) (harg4 : arg4.IsWhole) (arg5 : Memref sig .tc .vmem S1x1x128x2048 .bf16) (harg5 : arg5.IsWhole) (arg6 : Memref sig .tc .vmem S1x1x256 .f32) (harg6 : arg6.IsWhole) (arg7 : Memref sig .tc .vmem S1x128x2048 .bf16) (harg7 : arg7.IsWhole) (arg8 : Memref sig .tc .vmem S2048x256 .f32) (harg8 : arg8.IsWhole) (v0 : Vec F S1x1x256 .f32) (k1_h2 : k1_cond2 i = 1#1) (X_arg3 : BufTy.Contents (Elt F) arg3.view.ty) (X_arg4 : BufTy.Contents (Elt F) arg4.view.ty) (X_arg5 : BufTy.Contents (Elt F) arg5.view.ty) (G7 : BufTy.Contents (Elt F) arg7.view.ty) (G8 : BufTy.Contents (Elt F) arg8.view.ty) :
    arg7.view.read (Elt F) (arg7.view.writes (Elt F) G7 (pb_k1_t2 (F := F) 𝒱 c bd i arg3 harg3 arg4 harg4 arg5 harg5 arg6 harg6 arg7 harg7 arg8 harg8 v0 k1_h2 X_arg3 X_arg4 X_arg5 G7 G8 k1_t2_loop.trips).1)
      = outVal (tile 128 facts2 (k1_pay377 v0) (arg3.view.read (Elt F) X_arg3) (arg4.view.read (Elt F) X_arg4) (arg5.view.read (Elt F) X_arg5)) := by
  refine loop_tiles 128 facts2 arg7.view G7 arg8.view (fun j => (pb_k1_t2 (F := F) 𝒱 c bd i arg3 harg3 arg4 harg4 arg5 harg5 arg6 harg6 arg7 harg7 arg8 harg8 v0 k1_h2 X_arg3 X_arg4 X_arg5 G7 G8 j).1) _ _ _ _ rfl fun k hk => ?_
  have hs := congrArg Prod.fst (pb_k1_t2_succ (F := F) 𝒱 c bd i arg3 harg3 arg4 harg4 arg5 harg5 arg6 harg6 arg7 harg7 arg8 harg8 v0 k1_h2 X_arg3 X_arg4 X_arg5 G7 G8 ⟨k, hk⟩)
  have hq := k1_off18_eq ⟨k, hk⟩
  refine ⟨![k1_off19 ⟨k, hk⟩, k1_off20 ⟨k, hk⟩, k1_off21 ⟨k, hk⟩, k1_off22 ⟨k, hk⟩, k1_off23 ⟨k, hk⟩, k1_off24 ⟨k, hk⟩, k1_off25 ⟨k, hk⟩, k1_off26 ⟨k, hk⟩, k1_off27 ⟨k, hk⟩, k1_off28 ⟨k, hk⟩, k1_off29 ⟨k, hk⟩, k1_off30 ⟨k, hk⟩, k1_off31 ⟨k, hk⟩, k1_off32 ⟨k, hk⟩, k1_off33 ⟨k, hk⟩, k1_off34 ⟨k, hk⟩], ?_, k1_off18 ⟨k, hk⟩, k1_off18_inb i ⟨k, hk⟩ k1_h2, ?_, hq, ?_⟩
  · intro h
    fin_cases h
    · exact k1_off19_inb i ⟨k, hk⟩ k1_h2
    · exact k1_off20_inb i ⟨k, hk⟩ k1_h2
    · exact k1_off21_inb i ⟨k, hk⟩ k1_h2
    · exact k1_off22_inb i ⟨k, hk⟩ k1_h2
    · exact k1_off23_inb i ⟨k, hk⟩ k1_h2
    · exact k1_off24_inb i ⟨k, hk⟩ k1_h2
    · exact k1_off25_inb i ⟨k, hk⟩ k1_h2
    · exact k1_off26_inb i ⟨k, hk⟩ k1_h2
    · exact k1_off27_inb i ⟨k, hk⟩ k1_h2
    · exact k1_off28_inb i ⟨k, hk⟩ k1_h2
    · exact k1_off29_inb i ⟨k, hk⟩ k1_h2
    · exact k1_off30_inb i ⟨k, hk⟩ k1_h2
    · exact k1_off31_inb i ⟨k, hk⟩ k1_h2
    · exact k1_off32_inb i ⟨k, hk⟩ k1_h2
    · exact k1_off33_inb i ⟨k, hk⟩ k1_h2
    · exact k1_off34_inb i ⟨k, hk⟩ k1_h2
  · intro h
    fin_cases h
    · exact k1_off19_eq ⟨k, hk⟩
    · exact k1_off20_eq ⟨k, hk⟩
    · exact k1_off21_eq ⟨k, hk⟩
    · exact k1_off22_eq ⟨k, hk⟩
    · exact k1_off23_eq ⟨k, hk⟩
    · exact k1_off24_eq ⟨k, hk⟩
    · exact k1_off25_eq ⟨k, hk⟩
    · exact k1_off26_eq ⟨k, hk⟩
    · exact k1_off27_eq ⟨k, hk⟩
    · exact k1_off28_eq ⟨k, hk⟩
    · exact k1_off29_eq ⟨k, hk⟩
    · exact k1_off30_eq ⟨k, hk⟩
    · exact k1_off31_eq ⟨k, hk⟩
    · exact k1_off32_eq ⟨k, hk⟩
    · exact k1_off33_eq ⟨k, hk⟩
    · exact k1_off34_eq ⟨k, hk⟩
  · refine hs.trans ?_
    refine congrArg (· ++ _) ?_
    dsimp only [tripL_k1_t2]
    unfold trip_k1_t2
    rfl

theorem facts3 : TileFacts 256 := by constructor <;> decide

/-- Loop 3 leaves the output block of the tiles over the first 384 keys. -/
theorem out_t3 (𝒱 : Variants) (c : Dev nD) (bd : Option 𝒱.V) (i : grid1.Coords) (arg3 : Memref sig .tc .vmem S1x1x128x16x128 .fp8e4m3) (harg3 : arg3.IsWhole) (arg4 : Memref sig .tc .vmem S1x1x2048x128 .fp8e4m3) (harg4 : arg4.IsWhole) (arg5 : Memref sig .tc .vmem S1x1x128x2048 .bf16) (harg5 : arg5.IsWhole) (arg6 : Memref sig .tc .vmem S1x1x256 .f32) (harg6 : arg6.IsWhole) (arg7 : Memref sig .tc .vmem S1x128x2048 .bf16) (harg7 : arg7.IsWhole) (arg8 : Memref sig .tc .vmem S2048x256 .f32) (harg8 : arg8.IsWhole) (v0 : Vec F S1x1x256 .f32) (k1_h3 : k1_cond3 i = 1#1) (X_arg3 : BufTy.Contents (Elt F) arg3.view.ty) (X_arg4 : BufTy.Contents (Elt F) arg4.view.ty) (X_arg5 : BufTy.Contents (Elt F) arg5.view.ty) (G7 : BufTy.Contents (Elt F) arg7.view.ty) (G8 : BufTy.Contents (Elt F) arg8.view.ty) :
    arg7.view.read (Elt F) (arg7.view.writes (Elt F) G7 (pb_k1_t3 (F := F) 𝒱 c bd i arg3 harg3 arg4 harg4 arg5 harg5 arg6 harg6 arg7 harg7 arg8 harg8 v0 k1_h3 X_arg3 X_arg4 X_arg5 G7 G8 k1_t3_loop.trips).1)
      = outVal (tile 256 facts3 (k1_pay377 v0) (arg3.view.read (Elt F) X_arg3) (arg4.view.read (Elt F) X_arg4) (arg5.view.read (Elt F) X_arg5)) := by
  refine loop_tiles 256 facts3 arg7.view G7 arg8.view (fun j => (pb_k1_t3 (F := F) 𝒱 c bd i arg3 harg3 arg4 harg4 arg5 harg5 arg6 harg6 arg7 harg7 arg8 harg8 v0 k1_h3 X_arg3 X_arg4 X_arg5 G7 G8 j).1) _ _ _ _ rfl fun k hk => ?_
  have hs := congrArg Prod.fst (pb_k1_t3_succ (F := F) 𝒱 c bd i arg3 harg3 arg4 harg4 arg5 harg5 arg6 harg6 arg7 harg7 arg8 harg8 v0 k1_h3 X_arg3 X_arg4 X_arg5 G7 G8 ⟨k, hk⟩)
  have hq := k1_off35_eq ⟨k, hk⟩
  refine ⟨![k1_off36 ⟨k, hk⟩, k1_off37 ⟨k, hk⟩, k1_off38 ⟨k, hk⟩, k1_off39 ⟨k, hk⟩, k1_off40 ⟨k, hk⟩, k1_off41 ⟨k, hk⟩, k1_off42 ⟨k, hk⟩, k1_off43 ⟨k, hk⟩, k1_off44 ⟨k, hk⟩, k1_off45 ⟨k, hk⟩, k1_off46 ⟨k, hk⟩, k1_off47 ⟨k, hk⟩, k1_off48 ⟨k, hk⟩, k1_off49 ⟨k, hk⟩, k1_off50 ⟨k, hk⟩, k1_off51 ⟨k, hk⟩], ?_, k1_off35 ⟨k, hk⟩, k1_off35_inb i ⟨k, hk⟩ k1_h3, ?_, hq, ?_⟩
  · intro h
    fin_cases h
    · exact k1_off36_inb i ⟨k, hk⟩ k1_h3
    · exact k1_off37_inb i ⟨k, hk⟩ k1_h3
    · exact k1_off38_inb i ⟨k, hk⟩ k1_h3
    · exact k1_off39_inb i ⟨k, hk⟩ k1_h3
    · exact k1_off40_inb i ⟨k, hk⟩ k1_h3
    · exact k1_off41_inb i ⟨k, hk⟩ k1_h3
    · exact k1_off42_inb i ⟨k, hk⟩ k1_h3
    · exact k1_off43_inb i ⟨k, hk⟩ k1_h3
    · exact k1_off44_inb i ⟨k, hk⟩ k1_h3
    · exact k1_off45_inb i ⟨k, hk⟩ k1_h3
    · exact k1_off46_inb i ⟨k, hk⟩ k1_h3
    · exact k1_off47_inb i ⟨k, hk⟩ k1_h3
    · exact k1_off48_inb i ⟨k, hk⟩ k1_h3
    · exact k1_off49_inb i ⟨k, hk⟩ k1_h3
    · exact k1_off50_inb i ⟨k, hk⟩ k1_h3
    · exact k1_off51_inb i ⟨k, hk⟩ k1_h3
  · intro h
    fin_cases h
    · exact k1_off36_eq ⟨k, hk⟩
    · exact k1_off37_eq ⟨k, hk⟩
    · exact k1_off38_eq ⟨k, hk⟩
    · exact k1_off39_eq ⟨k, hk⟩
    · exact k1_off40_eq ⟨k, hk⟩
    · exact k1_off41_eq ⟨k, hk⟩
    · exact k1_off42_eq ⟨k, hk⟩
    · exact k1_off43_eq ⟨k, hk⟩
    · exact k1_off44_eq ⟨k, hk⟩
    · exact k1_off45_eq ⟨k, hk⟩
    · exact k1_off46_eq ⟨k, hk⟩
    · exact k1_off47_eq ⟨k, hk⟩
    · exact k1_off48_eq ⟨k, hk⟩
    · exact k1_off49_eq ⟨k, hk⟩
    · exact k1_off50_eq ⟨k, hk⟩
    · exact k1_off51_eq ⟨k, hk⟩
  · refine hs.trans ?_
    refine congrArg (· ++ _) ?_
    dsimp only [tripL_k1_t3]
    unfold trip_k1_t3
    rfl

theorem facts4 : TileFacts 384 := by constructor <;> decide

/-- Loop 4 leaves the output block of the tiles over the first 512 keys. -/
theorem out_t4 (𝒱 : Variants) (c : Dev nD) (bd : Option 𝒱.V) (i : grid1.Coords) (arg3 : Memref sig .tc .vmem S1x1x128x16x128 .fp8e4m3) (harg3 : arg3.IsWhole) (arg4 : Memref sig .tc .vmem S1x1x2048x128 .fp8e4m3) (harg4 : arg4.IsWhole) (arg5 : Memref sig .tc .vmem S1x1x128x2048 .bf16) (harg5 : arg5.IsWhole) (arg6 : Memref sig .tc .vmem S1x1x256 .f32) (harg6 : arg6.IsWhole) (arg7 : Memref sig .tc .vmem S1x128x2048 .bf16) (harg7 : arg7.IsWhole) (arg8 : Memref sig .tc .vmem S2048x256 .f32) (harg8 : arg8.IsWhole) (v0 : Vec F S1x1x256 .f32) (k1_h4 : k1_cond4 i = 1#1) (X_arg3 : BufTy.Contents (Elt F) arg3.view.ty) (X_arg4 : BufTy.Contents (Elt F) arg4.view.ty) (X_arg5 : BufTy.Contents (Elt F) arg5.view.ty) (G7 : BufTy.Contents (Elt F) arg7.view.ty) (G8 : BufTy.Contents (Elt F) arg8.view.ty) :
    arg7.view.read (Elt F) (arg7.view.writes (Elt F) G7 (pb_k1_t4 (F := F) 𝒱 c bd i arg3 harg3 arg4 harg4 arg5 harg5 arg6 harg6 arg7 harg7 arg8 harg8 v0 k1_h4 X_arg3 X_arg4 X_arg5 G7 G8 k1_t4_loop.trips).1)
      = outVal (tile 384 facts4 (k1_pay377 v0) (arg3.view.read (Elt F) X_arg3) (arg4.view.read (Elt F) X_arg4) (arg5.view.read (Elt F) X_arg5)) := by
  refine loop_tiles 384 facts4 arg7.view G7 arg8.view (fun j => (pb_k1_t4 (F := F) 𝒱 c bd i arg3 harg3 arg4 harg4 arg5 harg5 arg6 harg6 arg7 harg7 arg8 harg8 v0 k1_h4 X_arg3 X_arg4 X_arg5 G7 G8 j).1) _ _ _ _ rfl fun k hk => ?_
  have hs := congrArg Prod.fst (pb_k1_t4_succ (F := F) 𝒱 c bd i arg3 harg3 arg4 harg4 arg5 harg5 arg6 harg6 arg7 harg7 arg8 harg8 v0 k1_h4 X_arg3 X_arg4 X_arg5 G7 G8 ⟨k, hk⟩)
  have hq := k1_off52_eq ⟨k, hk⟩
  refine ⟨![k1_off53 ⟨k, hk⟩, k1_off54 ⟨k, hk⟩, k1_off55 ⟨k, hk⟩, k1_off56 ⟨k, hk⟩, k1_off57 ⟨k, hk⟩, k1_off58 ⟨k, hk⟩, k1_off59 ⟨k, hk⟩, k1_off60 ⟨k, hk⟩, k1_off61 ⟨k, hk⟩, k1_off62 ⟨k, hk⟩, k1_off63 ⟨k, hk⟩, k1_off64 ⟨k, hk⟩, k1_off65 ⟨k, hk⟩, k1_off66 ⟨k, hk⟩, k1_off67 ⟨k, hk⟩, k1_off68 ⟨k, hk⟩], ?_, k1_off52 ⟨k, hk⟩, k1_off52_inb i ⟨k, hk⟩ k1_h4, ?_, hq, ?_⟩
  · intro h
    fin_cases h
    · exact k1_off53_inb i ⟨k, hk⟩ k1_h4
    · exact k1_off54_inb i ⟨k, hk⟩ k1_h4
    · exact k1_off55_inb i ⟨k, hk⟩ k1_h4
    · exact k1_off56_inb i ⟨k, hk⟩ k1_h4
    · exact k1_off57_inb i ⟨k, hk⟩ k1_h4
    · exact k1_off58_inb i ⟨k, hk⟩ k1_h4
    · exact k1_off59_inb i ⟨k, hk⟩ k1_h4
    · exact k1_off60_inb i ⟨k, hk⟩ k1_h4
    · exact k1_off61_inb i ⟨k, hk⟩ k1_h4
    · exact k1_off62_inb i ⟨k, hk⟩ k1_h4
    · exact k1_off63_inb i ⟨k, hk⟩ k1_h4
    · exact k1_off64_inb i ⟨k, hk⟩ k1_h4
    · exact k1_off65_inb i ⟨k, hk⟩ k1_h4
    · exact k1_off66_inb i ⟨k, hk⟩ k1_h4
    · exact k1_off67_inb i ⟨k, hk⟩ k1_h4
    · exact k1_off68_inb i ⟨k, hk⟩ k1_h4
  · intro h
    fin_cases h
    · exact k1_off53_eq ⟨k, hk⟩
    · exact k1_off54_eq ⟨k, hk⟩
    · exact k1_off55_eq ⟨k, hk⟩
    · exact k1_off56_eq ⟨k, hk⟩
    · exact k1_off57_eq ⟨k, hk⟩
    · exact k1_off58_eq ⟨k, hk⟩
    · exact k1_off59_eq ⟨k, hk⟩
    · exact k1_off60_eq ⟨k, hk⟩
    · exact k1_off61_eq ⟨k, hk⟩
    · exact k1_off62_eq ⟨k, hk⟩
    · exact k1_off63_eq ⟨k, hk⟩
    · exact k1_off64_eq ⟨k, hk⟩
    · exact k1_off65_eq ⟨k, hk⟩
    · exact k1_off66_eq ⟨k, hk⟩
    · exact k1_off67_eq ⟨k, hk⟩
    · exact k1_off68_eq ⟨k, hk⟩
  · refine hs.trans ?_
    refine congrArg (· ++ _) ?_
    dsimp only [tripL_k1_t4]
    unfold trip_k1_t4
    rfl

theorem facts5 : TileFacts 512 := by constructor <;> decide

/-- Loop 5 leaves the output block of the tiles over the first 640 keys. -/
theorem out_t5 (𝒱 : Variants) (c : Dev nD) (bd : Option 𝒱.V) (i : grid1.Coords) (arg3 : Memref sig .tc .vmem S1x1x128x16x128 .fp8e4m3) (harg3 : arg3.IsWhole) (arg4 : Memref sig .tc .vmem S1x1x2048x128 .fp8e4m3) (harg4 : arg4.IsWhole) (arg5 : Memref sig .tc .vmem S1x1x128x2048 .bf16) (harg5 : arg5.IsWhole) (arg6 : Memref sig .tc .vmem S1x1x256 .f32) (harg6 : arg6.IsWhole) (arg7 : Memref sig .tc .vmem S1x128x2048 .bf16) (harg7 : arg7.IsWhole) (arg8 : Memref sig .tc .vmem S2048x256 .f32) (harg8 : arg8.IsWhole) (v0 : Vec F S1x1x256 .f32) (k1_h5 : k1_cond5 i = 1#1) (X_arg3 : BufTy.Contents (Elt F) arg3.view.ty) (X_arg4 : BufTy.Contents (Elt F) arg4.view.ty) (X_arg5 : BufTy.Contents (Elt F) arg5.view.ty) (G7 : BufTy.Contents (Elt F) arg7.view.ty) (G8 : BufTy.Contents (Elt F) arg8.view.ty) :
    arg7.view.read (Elt F) (arg7.view.writes (Elt F) G7 (pb_k1_t5 (F := F) 𝒱 c bd i arg3 harg3 arg4 harg4 arg5 harg5 arg6 harg6 arg7 harg7 arg8 harg8 v0 k1_h5 X_arg3 X_arg4 X_arg5 G7 G8 k1_t5_loop.trips).1)
      = outVal (tile 512 facts5 (k1_pay377 v0) (arg3.view.read (Elt F) X_arg3) (arg4.view.read (Elt F) X_arg4) (arg5.view.read (Elt F) X_arg5)) := by
  refine loop_tiles 512 facts5 arg7.view G7 arg8.view (fun j => (pb_k1_t5 (F := F) 𝒱 c bd i arg3 harg3 arg4 harg4 arg5 harg5 arg6 harg6 arg7 harg7 arg8 harg8 v0 k1_h5 X_arg3 X_arg4 X_arg5 G7 G8 j).1) _ _ _ _ rfl fun k hk => ?_
  have hs := congrArg Prod.fst (pb_k1_t5_succ (F := F) 𝒱 c bd i arg3 harg3 arg4 harg4 arg5 harg5 arg6 harg6 arg7 harg7 arg8 harg8 v0 k1_h5 X_arg3 X_arg4 X_arg5 G7 G8 ⟨k, hk⟩)
  have hq := k1_off69_eq ⟨k, hk⟩
  refine ⟨![k1_off70 ⟨k, hk⟩, k1_off71 ⟨k, hk⟩, k1_off72 ⟨k, hk⟩, k1_off73 ⟨k, hk⟩, k1_off74 ⟨k, hk⟩, k1_off75 ⟨k, hk⟩, k1_off76 ⟨k, hk⟩, k1_off77 ⟨k, hk⟩, k1_off78 ⟨k, hk⟩, k1_off79 ⟨k, hk⟩, k1_off80 ⟨k, hk⟩, k1_off81 ⟨k, hk⟩, k1_off82 ⟨k, hk⟩, k1_off83 ⟨k, hk⟩, k1_off84 ⟨k, hk⟩, k1_off85 ⟨k, hk⟩], ?_, k1_off69 ⟨k, hk⟩, k1_off69_inb i ⟨k, hk⟩ k1_h5, ?_, hq, ?_⟩
  · intro h
    fin_cases h
    · exact k1_off70_inb i ⟨k, hk⟩ k1_h5
    · exact k1_off71_inb i ⟨k, hk⟩ k1_h5
    · exact k1_off72_inb i ⟨k, hk⟩ k1_h5
    · exact k1_off73_inb i ⟨k, hk⟩ k1_h5
    · exact k1_off74_inb i ⟨k, hk⟩ k1_h5
    · exact k1_off75_inb i ⟨k, hk⟩ k1_h5
    · exact k1_off76_inb i ⟨k, hk⟩ k1_h5
    · exact k1_off77_inb i ⟨k, hk⟩ k1_h5
    · exact k1_off78_inb i ⟨k, hk⟩ k1_h5
    · exact k1_off79_inb i ⟨k, hk⟩ k1_h5
    · exact k1_off80_inb i ⟨k, hk⟩ k1_h5
    · exact k1_off81_inb i ⟨k, hk⟩ k1_h5
    · exact k1_off82_inb i ⟨k, hk⟩ k1_h5
    · exact k1_off83_inb i ⟨k, hk⟩ k1_h5
    · exact k1_off84_inb i ⟨k, hk⟩ k1_h5
    · exact k1_off85_inb i ⟨k, hk⟩ k1_h5
  · intro h
    fin_cases h
    · exact k1_off70_eq ⟨k, hk⟩
    · exact k1_off71_eq ⟨k, hk⟩
    · exact k1_off72_eq ⟨k, hk⟩
    · exact k1_off73_eq ⟨k, hk⟩
    · exact k1_off74_eq ⟨k, hk⟩
    · exact k1_off75_eq ⟨k, hk⟩
    · exact k1_off76_eq ⟨k, hk⟩
    · exact k1_off77_eq ⟨k, hk⟩
    · exact k1_off78_eq ⟨k, hk⟩
    · exact k1_off79_eq ⟨k, hk⟩
    · exact k1_off80_eq ⟨k, hk⟩
    · exact k1_off81_eq ⟨k, hk⟩
    · exact k1_off82_eq ⟨k, hk⟩
    · exact k1_off83_eq ⟨k, hk⟩
    · exact k1_off84_eq ⟨k, hk⟩
    · exact k1_off85_eq ⟨k, hk⟩
  · refine hs.trans ?_
    refine congrArg (· ++ _) ?_
    dsimp only [tripL_k1_t5]
    unfold trip_k1_t5
    rfl

theorem facts6 : TileFacts 640 := by constructor <;> decide

/-- Loop 6 leaves the output block of the tiles over the first 768 keys. -/
theorem out_t6 (𝒱 : Variants) (c : Dev nD) (bd : Option 𝒱.V) (i : grid1.Coords) (arg3 : Memref sig .tc .vmem S1x1x128x16x128 .fp8e4m3) (harg3 : arg3.IsWhole) (arg4 : Memref sig .tc .vmem S1x1x2048x128 .fp8e4m3) (harg4 : arg4.IsWhole) (arg5 : Memref sig .tc .vmem S1x1x128x2048 .bf16) (harg5 : arg5.IsWhole) (arg6 : Memref sig .tc .vmem S1x1x256 .f32) (harg6 : arg6.IsWhole) (arg7 : Memref sig .tc .vmem S1x128x2048 .bf16) (harg7 : arg7.IsWhole) (arg8 : Memref sig .tc .vmem S2048x256 .f32) (harg8 : arg8.IsWhole) (v0 : Vec F S1x1x256 .f32) (k1_h6 : k1_cond6 i = 1#1) (X_arg3 : BufTy.Contents (Elt F) arg3.view.ty) (X_arg4 : BufTy.Contents (Elt F) arg4.view.ty) (X_arg5 : BufTy.Contents (Elt F) arg5.view.ty) (G7 : BufTy.Contents (Elt F) arg7.view.ty) (G8 : BufTy.Contents (Elt F) arg8.view.ty) :
    arg7.view.read (Elt F) (arg7.view.writes (Elt F) G7 (pb_k1_t6 (F := F) 𝒱 c bd i arg3 harg3 arg4 harg4 arg5 harg5 arg6 harg6 arg7 harg7 arg8 harg8 v0 k1_h6 X_arg3 X_arg4 X_arg5 G7 G8 k1_t6_loop.trips).1)
      = outVal (tile 640 facts6 (k1_pay377 v0) (arg3.view.read (Elt F) X_arg3) (arg4.view.read (Elt F) X_arg4) (arg5.view.read (Elt F) X_arg5)) := by
  refine loop_tiles 640 facts6 arg7.view G7 arg8.view (fun j => (pb_k1_t6 (F := F) 𝒱 c bd i arg3 harg3 arg4 harg4 arg5 harg5 arg6 harg6 arg7 harg7 arg8 harg8 v0 k1_h6 X_arg3 X_arg4 X_arg5 G7 G8 j).1) _ _ _ _ rfl fun k hk => ?_
  have hs := congrArg Prod.fst (pb_k1_t6_succ (F := F) 𝒱 c bd i arg3 harg3 arg4 harg4 arg5 harg5 arg6 harg6 arg7 harg7 arg8 harg8 v0 k1_h6 X_arg3 X_arg4 X_arg5 G7 G8 ⟨k, hk⟩)
  have hq := k1_off86_eq ⟨k, hk⟩
  refine ⟨![k1_off87 ⟨k, hk⟩, k1_off88 ⟨k, hk⟩, k1_off89 ⟨k, hk⟩, k1_off90 ⟨k, hk⟩, k1_off91 ⟨k, hk⟩, k1_off92 ⟨k, hk⟩, k1_off93 ⟨k, hk⟩, k1_off94 ⟨k, hk⟩, k1_off95 ⟨k, hk⟩, k1_off96 ⟨k, hk⟩, k1_off97 ⟨k, hk⟩, k1_off98 ⟨k, hk⟩, k1_off99 ⟨k, hk⟩, k1_off100 ⟨k, hk⟩, k1_off101 ⟨k, hk⟩, k1_off102 ⟨k, hk⟩], ?_, k1_off86 ⟨k, hk⟩, k1_off86_inb i ⟨k, hk⟩ k1_h6, ?_, hq, ?_⟩
  · intro h
    fin_cases h
    · exact k1_off87_inb i ⟨k, hk⟩ k1_h6
    · exact k1_off88_inb i ⟨k, hk⟩ k1_h6
    · exact k1_off89_inb i ⟨k, hk⟩ k1_h6
    · exact k1_off90_inb i ⟨k, hk⟩ k1_h6
    · exact k1_off91_inb i ⟨k, hk⟩ k1_h6
    · exact k1_off92_inb i ⟨k, hk⟩ k1_h6
    · exact k1_off93_inb i ⟨k, hk⟩ k1_h6
    · exact k1_off94_inb i ⟨k, hk⟩ k1_h6
    · exact k1_off95_inb i ⟨k, hk⟩ k1_h6
    · exact k1_off96_inb i ⟨k, hk⟩ k1_h6
    · exact k1_off97_inb i ⟨k, hk⟩ k1_h6
    · exact k1_off98_inb i ⟨k, hk⟩ k1_h6
    · exact k1_off99_inb i ⟨k, hk⟩ k1_h6
    · exact k1_off100_inb i ⟨k, hk⟩ k1_h6
    · exact k1_off101_inb i ⟨k, hk⟩ k1_h6
    · exact k1_off102_inb i ⟨k, hk⟩ k1_h6
  · intro h
    fin_cases h
    · exact k1_off87_eq ⟨k, hk⟩
    · exact k1_off88_eq ⟨k, hk⟩
    · exact k1_off89_eq ⟨k, hk⟩
    · exact k1_off90_eq ⟨k, hk⟩
    · exact k1_off91_eq ⟨k, hk⟩
    · exact k1_off92_eq ⟨k, hk⟩
    · exact k1_off93_eq ⟨k, hk⟩
    · exact k1_off94_eq ⟨k, hk⟩
    · exact k1_off95_eq ⟨k, hk⟩
    · exact k1_off96_eq ⟨k, hk⟩
    · exact k1_off97_eq ⟨k, hk⟩
    · exact k1_off98_eq ⟨k, hk⟩
    · exact k1_off99_eq ⟨k, hk⟩
    · exact k1_off100_eq ⟨k, hk⟩
    · exact k1_off101_eq ⟨k, hk⟩
    · exact k1_off102_eq ⟨k, hk⟩
  · refine hs.trans ?_
    refine congrArg (· ++ _) ?_
    dsimp only [tripL_k1_t6]
    unfold trip_k1_t6
    rfl

theorem facts7 : TileFacts 768 := by constructor <;> decide

/-- Loop 7 leaves the output block of the tiles over the first 896 keys. -/
theorem out_t7 (𝒱 : Variants) (c : Dev nD) (bd : Option 𝒱.V) (i : grid1.Coords) (arg3 : Memref sig .tc .vmem S1x1x128x16x128 .fp8e4m3) (harg3 : arg3.IsWhole) (arg4 : Memref sig .tc .vmem S1x1x2048x128 .fp8e4m3) (harg4 : arg4.IsWhole) (arg5 : Memref sig .tc .vmem S1x1x128x2048 .bf16) (harg5 : arg5.IsWhole) (arg6 : Memref sig .tc .vmem S1x1x256 .f32) (harg6 : arg6.IsWhole) (arg7 : Memref sig .tc .vmem S1x128x2048 .bf16) (harg7 : arg7.IsWhole) (arg8 : Memref sig .tc .vmem S2048x256 .f32) (harg8 : arg8.IsWhole) (v0 : Vec F S1x1x256 .f32) (k1_h7 : k1_cond7 i = 1#1) (X_arg3 : BufTy.Contents (Elt F) arg3.view.ty) (X_arg4 : BufTy.Contents (Elt F) arg4.view.ty) (X_arg5 : BufTy.Contents (Elt F) arg5.view.ty) (G7 : BufTy.Contents (Elt F) arg7.view.ty) (G8 : BufTy.Contents (Elt F) arg8.view.ty) :
    arg7.view.read (Elt F) (arg7.view.writes (Elt F) G7 (pb_k1_t7 (F := F) 𝒱 c bd i arg3 harg3 arg4 harg4 arg5 harg5 arg6 harg6 arg7 harg7 arg8 harg8 v0 k1_h7 X_arg3 X_arg4 X_arg5 G7 G8 k1_t7_loop.trips).1)
      = outVal (tile 768 facts7 (k1_pay377 v0) (arg3.view.read (Elt F) X_arg3) (arg4.view.read (Elt F) X_arg4) (arg5.view.read (Elt F) X_arg5)) := by
  refine loop_tiles 768 facts7 arg7.view G7 arg8.view (fun j => (pb_k1_t7 (F := F) 𝒱 c bd i arg3 harg3 arg4 harg4 arg5 harg5 arg6 harg6 arg7 harg7 arg8 harg8 v0 k1_h7 X_arg3 X_arg4 X_arg5 G7 G8 j).1) _ _ _ _ rfl fun k hk => ?_
  have hs := congrArg Prod.fst (pb_k1_t7_succ (F := F) 𝒱 c bd i arg3 harg3 arg4 harg4 arg5 harg5 arg6 harg6 arg7 harg7 arg8 harg8 v0 k1_h7 X_arg3 X_arg4 X_arg5 G7 G8 ⟨k, hk⟩)
  have hq := k1_off103_eq ⟨k, hk⟩
  refine ⟨![k1_off104 ⟨k, hk⟩, k1_off105 ⟨k, hk⟩, k1_off106 ⟨k, hk⟩, k1_off107 ⟨k, hk⟩, k1_off108 ⟨k, hk⟩, k1_off109 ⟨k, hk⟩, k1_off110 ⟨k, hk⟩, k1_off111 ⟨k, hk⟩, k1_off112 ⟨k, hk⟩, k1_off113 ⟨k, hk⟩, k1_off114 ⟨k, hk⟩, k1_off115 ⟨k, hk⟩, k1_off116 ⟨k, hk⟩, k1_off117 ⟨k, hk⟩, k1_off118 ⟨k, hk⟩, k1_off119 ⟨k, hk⟩], ?_, k1_off103 ⟨k, hk⟩, k1_off103_inb i ⟨k, hk⟩ k1_h7, ?_, hq, ?_⟩
  · intro h
    fin_cases h
    · exact k1_off104_inb i ⟨k, hk⟩ k1_h7
    · exact k1_off105_inb i ⟨k, hk⟩ k1_h7
    · exact k1_off106_inb i ⟨k, hk⟩ k1_h7
    · exact k1_off107_inb i ⟨k, hk⟩ k1_h7
    · exact k1_off108_inb i ⟨k, hk⟩ k1_h7
    · exact k1_off109_inb i ⟨k, hk⟩ k1_h7
    · exact k1_off110_inb i ⟨k, hk⟩ k1_h7
    · exact k1_off111_inb i ⟨k, hk⟩ k1_h7
    · exact k1_off112_inb i ⟨k, hk⟩ k1_h7
    · exact k1_off113_inb i ⟨k, hk⟩ k1_h7
    · exact k1_off114_inb i ⟨k, hk⟩ k1_h7
    · exact k1_off115_inb i ⟨k, hk⟩ k1_h7
    · exact k1_off116_inb i ⟨k, hk⟩ k1_h7
    · exact k1_off117_inb i ⟨k, hk⟩ k1_h7
    · exact k1_off118_inb i ⟨k, hk⟩ k1_h7
    · exact k1_off119_inb i ⟨k, hk⟩ k1_h7
  · intro h
    fin_cases h
    · exact k1_off104_eq ⟨k, hk⟩
    · exact k1_off105_eq ⟨k, hk⟩
    · exact k1_off106_eq ⟨k, hk⟩
    · exact k1_off107_eq ⟨k, hk⟩
    · exact k1_off108_eq ⟨k, hk⟩
    · exact k1_off109_eq ⟨k, hk⟩
    · exact k1_off110_eq ⟨k, hk⟩
    · exact k1_off111_eq ⟨k, hk⟩
    · exact k1_off112_eq ⟨k, hk⟩
    · exact k1_off113_eq ⟨k, hk⟩
    · exact k1_off114_eq ⟨k, hk⟩
    · exact k1_off115_eq ⟨k, hk⟩
    · exact k1_off116_eq ⟨k, hk⟩
    · exact k1_off117_eq ⟨k, hk⟩
    · exact k1_off118_eq ⟨k, hk⟩
    · exact k1_off119_eq ⟨k, hk⟩
  · refine hs.trans ?_
    refine congrArg (· ++ _) ?_
    dsimp only [tripL_k1_t7]
    unfold trip_k1_t7
    rfl

theorem facts8 : TileFacts 896 := by constructor <;> decide

/-- Loop 8 leaves the output block of the tiles over the first 1024 keys. -/
theorem out_t8 (𝒱 : Variants) (c : Dev nD) (bd : Option 𝒱.V) (i : grid1.Coords) (arg3 : Memref sig .tc .vmem S1x1x128x16x128 .fp8e4m3) (harg3 : arg3.IsWhole) (arg4 : Memref sig .tc .vmem S1x1x2048x128 .fp8e4m3) (harg4 : arg4.IsWhole) (arg5 : Memref sig .tc .vmem S1x1x128x2048 .bf16) (harg5 : arg5.IsWhole) (arg6 : Memref sig .tc .vmem S1x1x256 .f32) (harg6 : arg6.IsWhole) (arg7 : Memref sig .tc .vmem S1x128x2048 .bf16) (harg7 : arg7.IsWhole) (arg8 : Memref sig .tc .vmem S2048x256 .f32) (harg8 : arg8.IsWhole) (v0 : Vec F S1x1x256 .f32) (k1_h8 : k1_cond8 i = 1#1) (X_arg3 : BufTy.Contents (Elt F) arg3.view.ty) (X_arg4 : BufTy.Contents (Elt F) arg4.view.ty) (X_arg5 : BufTy.Contents (Elt F) arg5.view.ty) (G7 : BufTy.Contents (Elt F) arg7.view.ty) (G8 : BufTy.Contents (Elt F) arg8.view.ty) :
    arg7.view.read (Elt F) (arg7.view.writes (Elt F) G7 (pb_k1_t8 (F := F) 𝒱 c bd i arg3 harg3 arg4 harg4 arg5 harg5 arg6 harg6 arg7 harg7 arg8 harg8 v0 k1_h8 X_arg3 X_arg4 X_arg5 G7 G8 k1_t8_loop.trips).1)
      = outVal (tile 896 facts8 (k1_pay377 v0) (arg3.view.read (Elt F) X_arg3) (arg4.view.read (Elt F) X_arg4) (arg5.view.read (Elt F) X_arg5)) := by
  refine loop_tiles 896 facts8 arg7.view G7 arg8.view (fun j => (pb_k1_t8 (F := F) 𝒱 c bd i arg3 harg3 arg4 harg4 arg5 harg5 arg6 harg6 arg7 harg7 arg8 harg8 v0 k1_h8 X_arg3 X_arg4 X_arg5 G7 G8 j).1) _ _ _ _ rfl fun k hk => ?_
  have hs := congrArg Prod.fst (pb_k1_t8_succ (F := F) 𝒱 c bd i arg3 harg3 arg4 harg4 arg5 harg5 arg6 harg6 arg7 harg7 arg8 harg8 v0 k1_h8 X_arg3 X_arg4 X_arg5 G7 G8 ⟨k, hk⟩)
  have hq := k1_off120_eq ⟨k, hk⟩
  refine ⟨![k1_off121 ⟨k, hk⟩, k1_off122 ⟨k, hk⟩, k1_off123 ⟨k, hk⟩, k1_off124 ⟨k, hk⟩, k1_off125 ⟨k, hk⟩, k1_off126 ⟨k, hk⟩, k1_off127 ⟨k, hk⟩, k1_off128 ⟨k, hk⟩, k1_off129 ⟨k, hk⟩, k1_off130 ⟨k, hk⟩, k1_off131 ⟨k, hk⟩, k1_off132 ⟨k, hk⟩, k1_off133 ⟨k, hk⟩, k1_off134 ⟨k, hk⟩, k1_off135 ⟨k, hk⟩, k1_off136 ⟨k, hk⟩], ?_, k1_off120 ⟨k, hk⟩, k1_off120_inb i ⟨k, hk⟩ k1_h8, ?_, hq, ?_⟩
  · intro h
    fin_cases h
    · exact k1_off121_inb i ⟨k, hk⟩ k1_h8
    · exact k1_off122_inb i ⟨k, hk⟩ k1_h8
    · exact k1_off123_inb i ⟨k, hk⟩ k1_h8
    · exact k1_off124_inb i ⟨k, hk⟩ k1_h8
    · exact k1_off125_inb i ⟨k, hk⟩ k1_h8
    · exact k1_off126_inb i ⟨k, hk⟩ k1_h8
    · exact k1_off127_inb i ⟨k, hk⟩ k1_h8
    · exact k1_off128_inb i ⟨k, hk⟩ k1_h8
    · exact k1_off129_inb i ⟨k, hk⟩ k1_h8
    · exact k1_off130_inb i ⟨k, hk⟩ k1_h8
    · exact k1_off131_inb i ⟨k, hk⟩ k1_h8
    · exact k1_off132_inb i ⟨k, hk⟩ k1_h8
    · exact k1_off133_inb i ⟨k, hk⟩ k1_h8
    · exact k1_off134_inb i ⟨k, hk⟩ k1_h8
    · exact k1_off135_inb i ⟨k, hk⟩ k1_h8
    · exact k1_off136_inb i ⟨k, hk⟩ k1_h8
  · intro h
    fin_cases h
    · exact k1_off121_eq ⟨k, hk⟩
    · exact k1_off122_eq ⟨k, hk⟩
    · exact k1_off123_eq ⟨k, hk⟩
    · exact k1_off124_eq ⟨k, hk⟩
    · exact k1_off125_eq ⟨k, hk⟩
    · exact k1_off126_eq ⟨k, hk⟩
    · exact k1_off127_eq ⟨k, hk⟩
    · exact k1_off128_eq ⟨k, hk⟩
    · exact k1_off129_eq ⟨k, hk⟩
    · exact k1_off130_eq ⟨k, hk⟩
    · exact k1_off131_eq ⟨k, hk⟩
    · exact k1_off132_eq ⟨k, hk⟩
    · exact k1_off133_eq ⟨k, hk⟩
    · exact k1_off134_eq ⟨k, hk⟩
    · exact k1_off135_eq ⟨k, hk⟩
    · exact k1_off136_eq ⟨k, hk⟩
  · refine hs.trans ?_
    refine congrArg (· ++ _) ?_
    dsimp only [tripL_k1_t8]
    unfold trip_k1_t8
    rfl

theorem facts9 : TileFacts 1024 := by constructor <;> decide

/-- Loop 9 leaves the output block of the tiles over the first 1152 keys. -/
theorem out_t9 (𝒱 : Variants) (c : Dev nD) (bd : Option 𝒱.V) (i : grid1.Coords) (arg3 : Memref sig .tc .vmem S1x1x128x16x128 .fp8e4m3) (harg3 : arg3.IsWhole) (arg4 : Memref sig .tc .vmem S1x1x2048x128 .fp8e4m3) (harg4 : arg4.IsWhole) (arg5 : Memref sig .tc .vmem S1x1x128x2048 .bf16) (harg5 : arg5.IsWhole) (arg6 : Memref sig .tc .vmem S1x1x256 .f32) (harg6 : arg6.IsWhole) (arg7 : Memref sig .tc .vmem S1x128x2048 .bf16) (harg7 : arg7.IsWhole) (arg8 : Memref sig .tc .vmem S2048x256 .f32) (harg8 : arg8.IsWhole) (v3 : FVec F S1x256 .f32) (k1_h9 : k1_cond9 i = 1#1) (X_arg3 : BufTy.Contents (Elt F) arg3.view.ty) (X_arg4 : BufTy.Contents (Elt F) arg4.view.ty) (X_arg5 : BufTy.Contents (Elt F) arg5.view.ty) (G7 : BufTy.Contents (Elt F) arg7.view.ty) (G8 : BufTy.Contents (Elt F) arg8.view.ty) :
    arg7.view.read (Elt F) (arg7.view.writes (Elt F) G7 (pb_k1_t9 (F := F) 𝒱 c bd i arg3 harg3 arg4 harg4 arg5 harg5 arg6 harg6 arg7 harg7 arg8 harg8 v3 k1_h9 X_arg3 X_arg4 X_arg5 G7 G8 k1_t9_loop.trips).1)
      = outVal (tile 1024 facts9 (v3) (arg3.view.read (Elt F) X_arg3) (arg4.view.read (Elt F) X_arg4) (arg5.view.read (Elt F) X_arg5)) := by
  refine loop_tiles 1024 facts9 arg7.view G7 arg8.view (fun j => (pb_k1_t9 (F := F) 𝒱 c bd i arg3 harg3 arg4 harg4 arg5 harg5 arg6 harg6 arg7 harg7 arg8 harg8 v3 k1_h9 X_arg3 X_arg4 X_arg5 G7 G8 j).1) _ _ _ _ rfl fun k hk => ?_
  have hs := congrArg Prod.fst (pb_k1_t9_succ (F := F) 𝒱 c bd i arg3 harg3 arg4 harg4 arg5 harg5 arg6 harg6 arg7 harg7 arg8 harg8 v3 k1_h9 X_arg3 X_arg4 X_arg5 G7 G8 ⟨k, hk⟩)
  have hq := k1_off137_eq ⟨k, hk⟩
  refine ⟨![k1_off138 ⟨k, hk⟩, k1_off139 ⟨k, hk⟩, k1_off140 ⟨k, hk⟩, k1_off141 ⟨k, hk⟩, k1_off142 ⟨k, hk⟩, k1_off143 ⟨k, hk⟩, k1_off144 ⟨k, hk⟩, k1_off145 ⟨k, hk⟩, k1_off146 ⟨k, hk⟩, k1_off147 ⟨k, hk⟩, k1_off148 ⟨k, hk⟩, k1_off149 ⟨k, hk⟩, k1_off150 ⟨k, hk⟩, k1_off151 ⟨k, hk⟩, k1_off152 ⟨k, hk⟩, k1_off153 ⟨k, hk⟩], ?_, k1_off137 ⟨k, hk⟩, k1_off137_inb i ⟨k, hk⟩ k1_h9, ?_, hq, ?_⟩
  · intro h
    fin_cases h
    · exact k1_off138_inb i ⟨k, hk⟩ k1_h9
    · exact k1_off139_inb i ⟨k, hk⟩ k1_h9
    · exact k1_off140_inb i ⟨k, hk⟩ k1_h9
    · exact k1_off141_inb i ⟨k, hk⟩ k1_h9
    · exact k1_off142_inb i ⟨k, hk⟩ k1_h9
    · exact k1_off143_inb i ⟨k, hk⟩ k1_h9
    · exact k1_off144_inb i ⟨k, hk⟩ k1_h9
    · exact k1_off145_inb i ⟨k, hk⟩ k1_h9
    · exact k1_off146_inb i ⟨k, hk⟩ k1_h9
    · exact k1_off147_inb i ⟨k, hk⟩ k1_h9
    · exact k1_off148_inb i ⟨k, hk⟩ k1_h9
    · exact k1_off149_inb i ⟨k, hk⟩ k1_h9
    · exact k1_off150_inb i ⟨k, hk⟩ k1_h9
    · exact k1_off151_inb i ⟨k, hk⟩ k1_h9
    · exact k1_off152_inb i ⟨k, hk⟩ k1_h9
    · exact k1_off153_inb i ⟨k, hk⟩ k1_h9
  · intro h
    fin_cases h
    · exact k1_off138_eq ⟨k, hk⟩
    · exact k1_off139_eq ⟨k, hk⟩
    · exact k1_off140_eq ⟨k, hk⟩
    · exact k1_off141_eq ⟨k, hk⟩
    · exact k1_off142_eq ⟨k, hk⟩
    · exact k1_off143_eq ⟨k, hk⟩
    · exact k1_off144_eq ⟨k, hk⟩
    · exact k1_off145_eq ⟨k, hk⟩
    · exact k1_off146_eq ⟨k, hk⟩
    · exact k1_off147_eq ⟨k, hk⟩
    · exact k1_off148_eq ⟨k, hk⟩
    · exact k1_off149_eq ⟨k, hk⟩
    · exact k1_off150_eq ⟨k, hk⟩
    · exact k1_off151_eq ⟨k, hk⟩
    · exact k1_off152_eq ⟨k, hk⟩
    · exact k1_off153_eq ⟨k, hk⟩
  · refine hs.trans ?_
    refine congrArg (· ++ _) ?_
    dsimp only [tripL_k1_t9]
    unfold trip_k1_t9
    rfl

theorem facts10 : TileFacts 1152 := by constructor <;> decide

/-- Loop 10 leaves the output block of the tiles over the first 1280 keys. -/
theorem out_t10 (𝒱 : Variants) (c : Dev nD) (bd : Option 𝒱.V) (i : grid1.Coords) (arg3 : Memref sig .tc .vmem S1x1x128x16x128 .fp8e4m3) (harg3 : arg3.IsWhole) (arg4 : Memref sig .tc .vmem S1x1x2048x128 .fp8e4m3) (harg4 : arg4.IsWhole) (arg5 : Memref sig .tc .vmem S1x1x128x2048 .bf16) (harg5 : arg5.IsWhole) (arg6 : Memref sig .tc .vmem S1x1x256 .f32) (harg6 : arg6.IsWhole) (arg7 : Memref sig .tc .vmem S1x128x2048 .bf16) (harg7 : arg7.IsWhole) (arg8 : Memref sig .tc .vmem S2048x256 .f32) (harg8 : arg8.IsWhole) (v3 : FVec F S1x256 .f32) (k1_h10 : k1_cond10 i = 1#1) (X_arg3 : BufTy.Contents (Elt F) arg3.view.ty) (X_arg4 : BufTy.Contents (Elt F) arg4.view.ty) (X_arg5 : BufTy.Contents (Elt F) arg5.view.ty) (G7 : BufTy.Contents (Elt F) arg7.view.ty) (G8 : BufTy.Contents (Elt F) arg8.view.ty) :
    arg7.view.read (Elt F) (arg7.view.writes (Elt F) G7 (pb_k1_t10 (F := F) 𝒱 c bd i arg3 harg3 arg4 harg4 arg5 harg5 arg6 harg6 arg7 harg7 arg8 harg8 v3 k1_h10 X_arg3 X_arg4 X_arg5 G7 G8 k1_t10_loop.trips).1)
      = outVal (tile 1152 facts10 (v3) (arg3.view.read (Elt F) X_arg3) (arg4.view.read (Elt F) X_arg4) (arg5.view.read (Elt F) X_arg5)) := by
  refine loop_tiles 1152 facts10 arg7.view G7 arg8.view (fun j => (pb_k1_t10 (F := F) 𝒱 c bd i arg3 harg3 arg4 harg4 arg5 harg5 arg6 harg6 arg7 harg7 arg8 harg8 v3 k1_h10 X_arg3 X_arg4 X_arg5 G7 G8 j).1) _ _ _ _ rfl fun k hk => ?_
  have hs := congrArg Prod.fst (pb_k1_t10_succ (F := F) 𝒱 c bd i arg3 harg3 arg4 harg4 arg5 harg5 arg6 harg6 arg7 harg7 arg8 harg8 v3 k1_h10 X_arg3 X_arg4 X_arg5 G7 G8 ⟨k, hk⟩)
  have hq := k1_off154_eq ⟨k, hk⟩
  refine ⟨![k1_off155 ⟨k, hk⟩, k1_off156 ⟨k, hk⟩, k1_off157 ⟨k, hk⟩, k1_off158 ⟨k, hk⟩, k1_off159 ⟨k, hk⟩, k1_off160 ⟨k, hk⟩, k1_off161 ⟨k, hk⟩, k1_off162 ⟨k, hk⟩, k1_off163 ⟨k, hk⟩, k1_off164 ⟨k, hk⟩, k1_off165 ⟨k, hk⟩, k1_off166 ⟨k, hk⟩, k1_off167 ⟨k, hk⟩, k1_off168 ⟨k, hk⟩, k1_off169 ⟨k, hk⟩, k1_off170 ⟨k, hk⟩], ?_, k1_off154 ⟨k, hk⟩, k1_off154_inb i ⟨k, hk⟩ k1_h10, ?_, hq, ?_⟩
  · intro h
    fin_cases h
    · exact k1_off155_inb i ⟨k, hk⟩ k1_h10
    · exact k1_off156_inb i ⟨k, hk⟩ k1_h10
    · exact k1_off157_inb i ⟨k, hk⟩ k1_h10
    · exact k1_off158_inb i ⟨k, hk⟩ k1_h10
    · exact k1_off159_inb i ⟨k, hk⟩ k1_h10
    · exact k1_off160_inb i ⟨k, hk⟩ k1_h10
    · exact k1_off161_inb i ⟨k, hk⟩ k1_h10
    · exact k1_off162_inb i ⟨k, hk⟩ k1_h10
    · exact k1_off163_inb i ⟨k, hk⟩ k1_h10
    · exact k1_off164_inb i ⟨k, hk⟩ k1_h10
    · exact k1_off165_inb i ⟨k, hk⟩ k1_h10
    · exact k1_off166_inb i ⟨k, hk⟩ k1_h10
    · exact k1_off167_inb i ⟨k, hk⟩ k1_h10
    · exact k1_off168_inb i ⟨k, hk⟩ k1_h10
    · exact k1_off169_inb i ⟨k, hk⟩ k1_h10
    · exact k1_off170_inb i ⟨k, hk⟩ k1_h10
  · intro h
    fin_cases h
    · exact k1_off155_eq ⟨k, hk⟩
    · exact k1_off156_eq ⟨k, hk⟩
    · exact k1_off157_eq ⟨k, hk⟩
    · exact k1_off158_eq ⟨k, hk⟩
    · exact k1_off159_eq ⟨k, hk⟩
    · exact k1_off160_eq ⟨k, hk⟩
    · exact k1_off161_eq ⟨k, hk⟩
    · exact k1_off162_eq ⟨k, hk⟩
    · exact k1_off163_eq ⟨k, hk⟩
    · exact k1_off164_eq ⟨k, hk⟩
    · exact k1_off165_eq ⟨k, hk⟩
    · exact k1_off166_eq ⟨k, hk⟩
    · exact k1_off167_eq ⟨k, hk⟩
    · exact k1_off168_eq ⟨k, hk⟩
    · exact k1_off169_eq ⟨k, hk⟩
    · exact k1_off170_eq ⟨k, hk⟩
  · refine hs.trans ?_
    refine congrArg (· ++ _) ?_
    dsimp only [tripL_k1_t10]
    unfold trip_k1_t10
    rfl

theorem facts11 : TileFacts 1280 := by constructor <;> decide

/-- Loop 11 leaves the output block of the tiles over the first 1408 keys. -/
theorem out_t11 (𝒱 : Variants) (c : Dev nD) (bd : Option 𝒱.V) (i : grid1.Coords) (arg3 : Memref sig .tc .vmem S1x1x128x16x128 .fp8e4m3) (harg3 : arg3.IsWhole) (arg4 : Memref sig .tc .vmem S1x1x2048x128 .fp8e4m3) (harg4 : arg4.IsWhole) (arg5 : Memref sig .tc .vmem S1x1x128x2048 .bf16) (harg5 : arg5.IsWhole) (arg6 : Memref sig .tc .vmem S1x1x256 .f32) (harg6 : arg6.IsWhole) (arg7 : Memref sig .tc .vmem S1x128x2048 .bf16) (harg7 : arg7.IsWhole) (arg8 : Memref sig .tc .vmem S2048x256 .f32) (harg8 : arg8.IsWhole) (v3 : FVec F S1x256 .f32) (k1_h11 : k1_cond11 i = 1#1) (X_arg3 : BufTy.Contents (Elt F) arg3.view.ty) (X_arg4 : BufTy.Contents (Elt F) arg4.view.ty) (X_arg5 : BufTy.Contents (Elt F) arg5.view.ty) (G7 : BufTy.Contents (Elt F) arg7.view.ty) (G8 : BufTy.Contents (Elt F) arg8.view.ty) :
    arg7.view.read (Elt F) (arg7.view.writes (Elt F) G7 (pb_k1_t11 (F := F) 𝒱 c bd i arg3 harg3 arg4 harg4 arg5 harg5 arg6 harg6 arg7 harg7 arg8 harg8 v3 k1_h11 X_arg3 X_arg4 X_arg5 G7 G8 k1_t11_loop.trips).1)
      = outVal (tile 1280 facts11 (v3) (arg3.view.read (Elt F) X_arg3) (arg4.view.read (Elt F) X_arg4) (arg5.view.read (Elt F) X_arg5)) := by
  refine loop_tiles 1280 facts11 arg7.view G7 arg8.view (fun j => (pb_k1_t11 (F := F) 𝒱 c bd i arg3 harg3 arg4 harg4 arg5 harg5 arg6 harg6 arg7 harg7 arg8 harg8 v3 k1_h11 X_arg3 X_arg4 X_arg5 G7 G8 j).1) _ _ _ _ rfl fun k hk => ?_
  have hs := congrArg Prod.fst (pb_k1_t11_succ (F := F) 𝒱 c bd i arg3 harg3 arg4 harg4 arg5 harg5 arg6 harg6 arg7 harg7 arg8 harg8 v3 k1_h11 X_arg3 X_arg4 X_arg5 G7 G8 ⟨k, hk⟩)
  have hq := k1_off171_eq ⟨k, hk⟩
  refine ⟨![k1_off172 ⟨k, hk⟩, k1_off173 ⟨k, hk⟩, k1_off174 ⟨k, hk⟩, k1_off175 ⟨k, hk⟩, k1_off176 ⟨k, hk⟩, k1_off177 ⟨k, hk⟩, k1_off178 ⟨k, hk⟩, k1_off179 ⟨k, hk⟩, k1_off180 ⟨k, hk⟩, k1_off181 ⟨k, hk⟩, k1_off182 ⟨k, hk⟩, k1_off183 ⟨k, hk⟩, k1_off184 ⟨k, hk⟩, k1_off185 ⟨k, hk⟩, k1_off186 ⟨k, hk⟩, k1_off187 ⟨k, hk⟩], ?_, k1_off171 ⟨k, hk⟩, k1_off171_inb i ⟨k, hk⟩ k1_h11, ?_, hq, ?_⟩
  · intro h
    fin_cases h
    · exact k1_off172_inb i ⟨k, hk⟩ k1_h11
    · exact k1_off173_inb i ⟨k, hk⟩ k1_h11
    · exact k1_off174_inb i ⟨k, hk⟩ k1_h11
    · exact k1_off175_inb i ⟨k, hk⟩ k1_h11
    · exact k1_off176_inb i ⟨k, hk⟩ k1_h11
    · exact k1_off177_inb i ⟨k, hk⟩ k1_h11
    · exact k1_off178_inb i ⟨k, hk⟩ k1_h11
    · exact k1_off179_inb i ⟨k, hk⟩ k1_h11
    · exact k1_off180_inb i ⟨k, hk⟩ k1_h11
    · exact k1_off181_inb i ⟨k, hk⟩ k1_h11
    · exact k1_off182_inb i ⟨k, hk⟩ k1_h11
    · exact k1_off183_inb i ⟨k, hk⟩ k1_h11
    · exact k1_off184_inb i ⟨k, hk⟩ k1_h11
    · exact k1_off185_inb i ⟨k, hk⟩ k1_h11
    · exact k1_off186_inb i ⟨k, hk⟩ k1_h11
    · exact k1_off187_inb i ⟨k, hk⟩ k1_h11
  · intro h
    fin_cases h
    · exact k1_off172_eq ⟨k, hk⟩
    · exact k1_off173_eq ⟨k, hk⟩
    · exact k1_off174_eq ⟨k, hk⟩
    · exact k1_off175_eq ⟨k, hk⟩
    · exact k1_off176_eq ⟨k, hk⟩
    · exact k1_off177_eq ⟨k, hk⟩
    · exact k1_off178_eq ⟨k, hk⟩
    · exact k1_off179_eq ⟨k, hk⟩
    · exact k1_off180_eq ⟨k, hk⟩
    · exact k1_off181_eq ⟨k, hk⟩
    · exact k1_off182_eq ⟨k, hk⟩
    · exact k1_off183_eq ⟨k, hk⟩
    · exact k1_off184_eq ⟨k, hk⟩
    · exact k1_off185_eq ⟨k, hk⟩
    · exact k1_off186_eq ⟨k, hk⟩
    · exact k1_off187_eq ⟨k, hk⟩
  · refine hs.trans ?_
    refine congrArg (· ++ _) ?_
    dsimp only [tripL_k1_t11]
    unfold trip_k1_t11
    rfl

theorem facts12 : TileFacts 1408 := by constructor <;> decide

/-- Loop 12 leaves the output block of the tiles over the first 1536 keys. -/
theorem out_t12 (𝒱 : Variants) (c : Dev nD) (bd : Option 𝒱.V) (i : grid1.Coords) (arg3 : Memref sig .tc .vmem S1x1x128x16x128 .fp8e4m3) (harg3 : arg3.IsWhole) (arg4 : Memref sig .tc .vmem S1x1x2048x128 .fp8e4m3) (harg4 : arg4.IsWhole) (arg5 : Memref sig .tc .vmem S1x1x128x2048 .bf16) (harg5 : arg5.IsWhole) (arg6 : Memref sig .tc .vmem S1x1x256 .f32) (harg6 : arg6.IsWhole) (arg7 : Memref sig .tc .vmem S1x128x2048 .bf16) (harg7 : arg7.IsWhole) (arg8 : Memref sig .tc .vmem S2048x256 .f32) (harg8 : arg8.IsWhole) (v3 : FVec F S1x256 .f32) (k1_h12 : k1_cond12 i = 1#1) (X_arg3 : BufTy.Contents (Elt F) arg3.view.ty) (X_arg4 : BufTy.Contents (Elt F) arg4.view.ty) (X_arg5 : BufTy.Contents (Elt F) arg5.view.ty) (G7 : BufTy.Contents (Elt F) arg7.view.ty) (G8 : BufTy.Contents (Elt F) arg8.view.ty) :
    arg7.view.read (Elt F) (arg7.view.writes (Elt F) G7 (pb_k1_t12 (F := F) 𝒱 c bd i arg3 harg3 arg4 harg4 arg5 harg5 arg6 harg6 arg7 harg7 arg8 harg8 v3 k1_h12 X_arg3 X_arg4 X_arg5 G7 G8 k1_t12_loop.trips).1)
      = outVal (tile 1408 facts12 (v3) (arg3.view.read (Elt F) X_arg3) (arg4.view.read (Elt F) X_arg4) (arg5.view.read (Elt F) X_arg5)) := by
  refine loop_tiles 1408 facts12 arg7.view G7 arg8.view (fun j => (pb_k1_t12 (F := F) 𝒱 c bd i arg3 harg3 arg4 harg4 arg5 harg5 arg6 harg6 arg7 harg7 arg8 harg8 v3 k1_h12 X_arg3 X_arg4 X_arg5 G7 G8 j).1) _ _ _ _ rfl fun k hk => ?_
  have hs := congrArg Prod.fst (pb_k1_t12_succ (F := F) 𝒱 c bd i arg3 harg3 arg4 harg4 arg5 harg5 arg6 harg6 arg7 harg7 arg8 harg8 v3 k1_h12 X_arg3 X_arg4 X_arg5 G7 G8 ⟨k, hk⟩)
  have hq := k1_off188_eq ⟨k, hk⟩
  refine ⟨![k1_off189 ⟨k, hk⟩, k1_off190 ⟨k, hk⟩, k1_off191 ⟨k, hk⟩, k1_off192 ⟨k, hk⟩, k1_off193 ⟨k, hk⟩, k1_off194 ⟨k, hk⟩, k1_off195 ⟨k, hk⟩, k1_off196 ⟨k, hk⟩, k1_off197 ⟨k, hk⟩, k1_off198 ⟨k, hk⟩, k1_off199 ⟨k, hk⟩, k1_off200 ⟨k, hk⟩, k1_off201 ⟨k, hk⟩, k1_off202 ⟨k, hk⟩, k1_off203 ⟨k, hk⟩, k1_off204 ⟨k, hk⟩], ?_, k1_off188 ⟨k, hk⟩, k1_off188_inb i ⟨k, hk⟩ k1_h12, ?_, hq, ?_⟩
  · intro h
    fin_cases h
    · exact k1_off189_inb i ⟨k, hk⟩ k1_h12
    · exact k1_off190_inb i ⟨k, hk⟩ k1_h12
    · exact k1_off191_inb i ⟨k, hk⟩ k1_h12
    · exact k1_off192_inb i ⟨k, hk⟩ k1_h12
    · exact k1_off193_inb i ⟨k, hk⟩ k1_h12
    · exact k1_off194_inb i ⟨k, hk⟩ k1_h12
    · exact k1_off195_inb i ⟨k, hk⟩ k1_h12
    · exact k1_off196_inb i ⟨k, hk⟩ k1_h12
    · exact k1_off197_inb i ⟨k, hk⟩ k1_h12
    · exact k1_off198_inb i ⟨k, hk⟩ k1_h12
    · exact k1_off199_inb i ⟨k, hk⟩ k1_h12
    · exact k1_off200_inb i ⟨k, hk⟩ k1_h12
    · exact k1_off201_inb i ⟨k, hk⟩ k1_h12
    · exact k1_off202_inb i ⟨k, hk⟩ k1_h12
    · exact k1_off203_inb i ⟨k, hk⟩ k1_h12
    · exact k1_off204_inb i ⟨k, hk⟩ k1_h12
  · intro h
    fin_cases h
    · exact k1_off189_eq ⟨k, hk⟩
    · exact k1_off190_eq ⟨k, hk⟩
    · exact k1_off191_eq ⟨k, hk⟩
    · exact k1_off192_eq ⟨k, hk⟩
    · exact k1_off193_eq ⟨k, hk⟩
    · exact k1_off194_eq ⟨k, hk⟩
    · exact k1_off195_eq ⟨k, hk⟩
    · exact k1_off196_eq ⟨k, hk⟩
    · exact k1_off197_eq ⟨k, hk⟩
    · exact k1_off198_eq ⟨k, hk⟩
    · exact k1_off199_eq ⟨k, hk⟩
    · exact k1_off200_eq ⟨k, hk⟩
    · exact k1_off201_eq ⟨k, hk⟩
    · exact k1_off202_eq ⟨k, hk⟩
    · exact k1_off203_eq ⟨k, hk⟩
    · exact k1_off204_eq ⟨k, hk⟩
  · refine hs.trans ?_
    refine congrArg (· ++ _) ?_
    dsimp only [tripL_k1_t12]
    unfold trip_k1_t12
    rfl

theorem facts13 : TileFacts 1536 := by constructor <;> decide

/-- Loop 13 leaves the output block of the tiles over the first 1664 keys. -/
theorem out_t13 (𝒱 : Variants) (c : Dev nD) (bd : Option 𝒱.V) (i : grid1.Coords) (arg3 : Memref sig .tc .vmem S1x1x128x16x128 .fp8e4m3) (harg3 : arg3.IsWhole) (arg4 : Memref sig .tc .vmem S1x1x2048x128 .fp8e4m3) (harg4 : arg4.IsWhole) (arg5 : Memref sig .tc .vmem S1x1x128x2048 .bf16) (harg5 : arg5.IsWhole) (arg6 : Memref sig .tc .vmem S1x1x256 .f32) (harg6 : arg6.IsWhole) (arg7 : Memref sig .tc .vmem S1x128x2048 .bf16) (harg7 : arg7.IsWhole) (arg8 : Memref sig .tc .vmem S2048x256 .f32) (harg8 : arg8.IsWhole) (v3 : FVec F S1x256 .f32) (k1_h13 : k1_cond13 i = 1#1) (X_arg3 : BufTy.Contents (Elt F) arg3.view.ty) (X_arg4 : BufTy.Contents (Elt F) arg4.view.ty) (X_arg5 : BufTy.Contents (Elt F) arg5.view.ty) (G7 : BufTy.Contents (Elt F) arg7.view.ty) (G8 : BufTy.Contents (Elt F) arg8.view.ty) :
    arg7.view.read (Elt F) (arg7.view.writes (Elt F) G7 (pb_k1_t13 (F := F) 𝒱 c bd i arg3 harg3 arg4 harg4 arg5 harg5 arg6 harg6 arg7 harg7 arg8 harg8 v3 k1_h13 X_arg3 X_arg4 X_arg5 G7 G8 k1_t13_loop.trips).1)
      = outVal (tile 1536 facts13 (v3) (arg3.view.read (Elt F) X_arg3) (arg4.view.read (Elt F) X_arg4) (arg5.view.read (Elt F) X_arg5)) := by
  refine loop_tiles 1536 facts13 arg7.view G7 arg8.view (fun j => (pb_k1_t13 (F := F) 𝒱 c bd i arg3 harg3 arg4 harg4 arg5 harg5 arg6 harg6 arg7 harg7 arg8 harg8 v3 k1_h13 X_arg3 X_arg4 X_arg5 G7 G8 j).1) _ _ _ _ rfl fun k hk => ?_
  have hs := congrArg Prod.fst (pb_k1_t13_succ (F := F) 𝒱 c bd i arg3 harg3 arg4 harg4 arg5 harg5 arg6 harg6 arg7 harg7 arg8 harg8 v3 k1_h13 X_arg3 X_arg4 X_arg5 G7 G8 ⟨k, hk⟩)
  have hq := k1_off205_eq ⟨k, hk⟩
  refine ⟨![k1_off206 ⟨k, hk⟩, k1_off207 ⟨k, hk⟩, k1_off208 ⟨k, hk⟩, k1_off209 ⟨k, hk⟩, k1_off210 ⟨k, hk⟩, k1_off211 ⟨k, hk⟩, k1_off212 ⟨k, hk⟩, k1_off213 ⟨k, hk⟩, k1_off214 ⟨k, hk⟩, k1_off215 ⟨k, hk⟩, k1_off216 ⟨k, hk⟩, k1_off217 ⟨k, hk⟩, k1_off218 ⟨k, hk⟩, k1_off219 ⟨k, hk⟩, k1_off220 ⟨k, hk⟩, k1_off221 ⟨k, hk⟩], ?_, k1_off205 ⟨k, hk⟩, k1_off205_inb i ⟨k, hk⟩ k1_h13, ?_, hq, ?_⟩
  · intro h
    fin_cases h
    · exact k1_off206_inb i ⟨k, hk⟩ k1_h13
    · exact k1_off207_inb i ⟨k, hk⟩ k1_h13
    · exact k1_off208_inb i ⟨k, hk⟩ k1_h13
    · exact k1_off209_inb i ⟨k, hk⟩ k1_h13
    · exact k1_off210_inb i ⟨k, hk⟩ k1_h13
    · exact k1_off211_inb i ⟨k, hk⟩ k1_h13
    · exact k1_off212_inb i ⟨k, hk⟩ k1_h13
    · exact k1_off213_inb i ⟨k, hk⟩ k1_h13
    · exact k1_off214_inb i ⟨k, hk⟩ k1_h13
    · exact k1_off215_inb i ⟨k, hk⟩ k1_h13
    · exact k1_off216_inb i ⟨k, hk⟩ k1_h13
    · exact k1_off217_inb i ⟨k, hk⟩ k1_h13
    · exact k1_off218_inb i ⟨k, hk⟩ k1_h13
    · exact k1_off219_inb i ⟨k, hk⟩ k1_h13
    · exact k1_off220_inb i ⟨k, hk⟩ k1_h13
    · exact k1_off221_inb i ⟨k, hk⟩ k1_h13
  · intro h
    fin_cases h
    · exact k1_off206_eq ⟨k, hk⟩
    · exact k1_off207_eq ⟨k, hk⟩
    · exact k1_off208_eq ⟨k, hk⟩
    · exact k1_off209_eq ⟨k, hk⟩
    · exact k1_off210_eq ⟨k, hk⟩
    · exact k1_off211_eq ⟨k, hk⟩
    · exact k1_off212_eq ⟨k, hk⟩
    · exact k1_off213_eq ⟨k, hk⟩
    · exact k1_off214_eq ⟨k, hk⟩
    · exact k1_off215_eq ⟨k, hk⟩
    · exact k1_off216_eq ⟨k, hk⟩
    · exact k1_off217_eq ⟨k, hk⟩
    · exact k1_off218_eq ⟨k, hk⟩
    · exact k1_off219_eq ⟨k, hk⟩
    · exact k1_off220_eq ⟨k, hk⟩
    · exact k1_off221_eq ⟨k, hk⟩
  · refine hs.trans ?_
    refine congrArg (· ++ _) ?_
    dsimp only [tripL_k1_t13]
    unfold trip_k1_t13
    rfl

theorem facts14 : TileFacts 1664 := by constructor <;> decide

/-- Loop 14 leaves the output block of the tiles over the first 1792 keys. -/
theorem out_t14 (𝒱 : Variants) (c : Dev nD) (bd : Option 𝒱.V) (i : grid1.Coords) (arg3 : Memref sig .tc .vmem S1x1x128x16x128 .fp8e4m3) (harg3 : arg3.IsWhole) (arg4 : Memref sig .tc .vmem S1x1x2048x128 .fp8e4m3) (harg4 : arg4.IsWhole) (arg5 : Memref sig .tc .vmem S1x1x128x2048 .bf16) (harg5 : arg5.IsWhole) (arg6 : Memref sig .tc .vmem S1x1x256 .f32) (harg6 : arg6.IsWhole) (arg7 : Memref sig .tc .vmem S1x128x2048 .bf16) (harg7 : arg7.IsWhole) (arg8 : Memref sig .tc .vmem S2048x256 .f32) (harg8 : arg8.IsWhole) (v3 : FVec F S1x256 .f32) (k1_h14 : k1_cond14 i = 1#1) (X_arg3 : BufTy.Contents (Elt F) arg3.view.ty) (X_arg4 : BufTy.Contents (Elt F) arg4.view.ty) (X_arg5 : BufTy.Contents (Elt F) arg5.view.ty) (G7 : BufTy.Contents (Elt F) arg7.view.ty) (G8 : BufTy.Contents (Elt F) arg8.view.ty) :
    arg7.view.read (Elt F) (arg7.view.writes (Elt F) G7 (pb_k1_t14 (F := F) 𝒱 c bd i arg3 harg3 arg4 harg4 arg5 harg5 arg6 harg6 arg7 harg7 arg8 harg8 v3 k1_h14 X_arg3 X_arg4 X_arg5 G7 G8 k1_t14_loop.trips).1)
      = outVal (tile 1664 facts14 (v3) (arg3.view.read (Elt F) X_arg3) (arg4.view.read (Elt F) X_arg4) (arg5.view.read (Elt F) X_arg5)) := by
  refine loop_tiles 1664 facts14 arg7.view G7 arg8.view (fun j => (pb_k1_t14 (F := F) 𝒱 c bd i arg3 harg3 arg4 harg4 arg5 harg5 arg6 harg6 arg7 harg7 arg8 harg8 v3 k1_h14 X_arg3 X_arg4 X_arg5 G7 G8 j).1) _ _ _ _ rfl fun k hk => ?_
  have hs := congrArg Prod.fst (pb_k1_t14_succ (F := F) 𝒱 c bd i arg3 harg3 arg4 harg4 arg5 harg5 arg6 harg6 arg7 harg7 arg8 harg8 v3 k1_h14 X_arg3 X_arg4 X_arg5 G7 G8 ⟨k, hk⟩)
  have hq := k1_off222_eq ⟨k, hk⟩
  refine ⟨![k1_off223 ⟨k, hk⟩, k1_off224 ⟨k, hk⟩, k1_off225 ⟨k, hk⟩, k1_off226 ⟨k, hk⟩, k1_off227 ⟨k, hk⟩, k1_off228 ⟨k, hk⟩, k1_off229 ⟨k, hk⟩, k1_off230 ⟨k, hk⟩, k1_off231 ⟨k, hk⟩, k1_off232 ⟨k, hk⟩, k1_off233 ⟨k, hk⟩, k1_off234 ⟨k, hk⟩, k1_off235 ⟨k, hk⟩, k1_off236 ⟨k, hk⟩, k1_off237 ⟨k, hk⟩, k1_off238 ⟨k, hk⟩], ?_, k1_off222 ⟨k, hk⟩, k1_off222_inb i ⟨k, hk⟩ k1_h14, ?_, hq, ?_⟩
  · intro h
    fin_cases h
    · exact k1_off223_inb i ⟨k, hk⟩ k1_h14
    · exact k1_off224_inb i ⟨k, hk⟩ k1_h14
    · exact k1_off225_inb i ⟨k, hk⟩ k1_h14
    · exact k1_off226_inb i ⟨k, hk⟩ k1_h14
    · exact k1_off227_inb i ⟨k, hk⟩ k1_h14
    · exact k1_off228_inb i ⟨k, hk⟩ k1_h14
    · exact k1_off229_inb i ⟨k, hk⟩ k1_h14
    · exact k1_off230_inb i ⟨k, hk⟩ k1_h14
    · exact k1_off231_inb i ⟨k, hk⟩ k1_h14
    · exact k1_off232_inb i ⟨k, hk⟩ k1_h14
    · exact k1_off233_inb i ⟨k, hk⟩ k1_h14
    · exact k1_off234_inb i ⟨k, hk⟩ k1_h14
    · exact k1_off235_inb i ⟨k, hk⟩ k1_h14
    · exact k1_off236_inb i ⟨k, hk⟩ k1_h14
    · exact k1_off237_inb i ⟨k, hk⟩ k1_h14
    · exact k1_off238_inb i ⟨k, hk⟩ k1_h14
  · intro h
    fin_cases h
    · exact k1_off223_eq ⟨k, hk⟩
    · exact k1_off224_eq ⟨k, hk⟩
    · exact k1_off225_eq ⟨k, hk⟩
    · exact k1_off226_eq ⟨k, hk⟩
    · exact k1_off227_eq ⟨k, hk⟩
    · exact k1_off228_eq ⟨k, hk⟩
    · exact k1_off229_eq ⟨k, hk⟩
    · exact k1_off230_eq ⟨k, hk⟩
    · exact k1_off231_eq ⟨k, hk⟩
    · exact k1_off232_eq ⟨k, hk⟩
    · exact k1_off233_eq ⟨k, hk⟩
    · exact k1_off234_eq ⟨k, hk⟩
    · exact k1_off235_eq ⟨k, hk⟩
    · exact k1_off236_eq ⟨k, hk⟩
    · exact k1_off237_eq ⟨k, hk⟩
    · exact k1_off238_eq ⟨k, hk⟩
  · refine hs.trans ?_
    refine congrArg (· ++ _) ?_
    dsimp only [tripL_k1_t14]
    unfold trip_k1_t14
    rfl

theorem facts15 : TileFacts 1792 := by constructor <;> decide

/-- Loop 15 leaves the output block of the tiles over the first 1920 keys. -/
theorem out_t15 (𝒱 : Variants) (c : Dev nD) (bd : Option 𝒱.V) (i : grid1.Coords) (arg3 : Memref sig .tc .vmem S1x1x128x16x128 .fp8e4m3) (harg3 : arg3.IsWhole) (arg4 : Memref sig .tc .vmem S1x1x2048x128 .fp8e4m3) (harg4 : arg4.IsWhole) (arg5 : Memref sig .tc .vmem S1x1x128x2048 .bf16) (harg5 : arg5.IsWhole) (arg6 : Memref sig .tc .vmem S1x1x256 .f32) (harg6 : arg6.IsWhole) (arg7 : Memref sig .tc .vmem S1x128x2048 .bf16) (harg7 : arg7.IsWhole) (arg8 : Memref sig .tc .vmem S2048x256 .f32) (harg8 : arg8.IsWhole) (v3 : FVec F S1x256 .f32) (k1_h15 : k1_cond15 i = 1#1) (X_arg3 : BufTy.Contents (Elt F) arg3.view.ty) (X_arg4 : BufTy.Contents (Elt F) arg4.view.ty) (X_arg5 : BufTy.Contents (Elt F) arg5.view.ty) (G7 : BufTy.Contents (Elt F) arg7.view.ty) (G8 : BufTy.Contents (Elt F) arg8.view.ty) :
    arg7.view.read (Elt F) (arg7.view.writes (Elt F) G7 (pb_k1_t15 (F := F) 𝒱 c bd i arg3 harg3 arg4 harg4 arg5 harg5 arg6 harg6 arg7 harg7 arg8 harg8 v3 k1_h15 X_arg3 X_arg4 X_arg5 G7 G8 k1_t15_loop.trips).1)
      = outVal (tile 1792 facts15 (v3) (arg3.view.read (Elt F) X_arg3) (arg4.view.read (Elt F) X_arg4) (arg5.view.read (Elt F) X_arg5)) := by
  refine loop_tiles 1792 facts15 arg7.view G7 arg8.view (fun j => (pb_k1_t15 (F := F) 𝒱 c bd i arg3 harg3 arg4 harg4 arg5 harg5 arg6 harg6 arg7 harg7 arg8 harg8 v3 k1_h15 X_arg3 X_arg4 X_arg5 G7 G8 j).1) _ _ _ _ rfl fun k hk => ?_
  have hs := congrArg Prod.fst (pb_k1_t15_succ (F := F) 𝒱 c bd i arg3 harg3 arg4 harg4 arg5 harg5 arg6 harg6 arg7 harg7 arg8 harg8 v3 k1_h15 X_arg3 X_arg4 X_arg5 G7 G8 ⟨k, hk⟩)
  have hq := k1_off239_eq ⟨k, hk⟩
  refine ⟨![k1_off240 ⟨k, hk⟩, k1_off241 ⟨k, hk⟩, k1_off242 ⟨k, hk⟩, k1_off243 ⟨k, hk⟩, k1_off244 ⟨k, hk⟩, k1_off245 ⟨k, hk⟩, k1_off246 ⟨k, hk⟩, k1_off247 ⟨k, hk⟩, k1_off248 ⟨k, hk⟩, k1_off249 ⟨k, hk⟩, k1_off250 ⟨k, hk⟩, k1_off251 ⟨k, hk⟩, k1_off252 ⟨k, hk⟩, k1_off253 ⟨k, hk⟩, k1_off254 ⟨k, hk⟩, k1_off255 ⟨k, hk⟩], ?_, k1_off239 ⟨k, hk⟩, k1_off239_inb i ⟨k, hk⟩ k1_h15, ?_, hq, ?_⟩
  · intro h
    fin_cases h
    · exact k1_off240_inb i ⟨k, hk⟩ k1_h15
    · exact k1_off241_inb i ⟨k, hk⟩ k1_h15
    · exact k1_off242_inb i ⟨k, hk⟩ k1_h15
    · exact k1_off243_inb i ⟨k, hk⟩ k1_h15
    · exact k1_off244_inb i ⟨k, hk⟩ k1_h15
    · exact k1_off245_inb i ⟨k, hk⟩ k1_h15
    · exact k1_off246_inb i ⟨k, hk⟩ k1_h15
    · exact k1_off247_inb i ⟨k, hk⟩ k1_h15
    · exact k1_off248_inb i ⟨k, hk⟩ k1_h15
    · exact k1_off249_inb i ⟨k, hk⟩ k1_h15
    · exact k1_off250_inb i ⟨k, hk⟩ k1_h15
    · exact k1_off251_inb i ⟨k, hk⟩ k1_h15
    · exact k1_off252_inb i ⟨k, hk⟩ k1_h15
    · exact k1_off253_inb i ⟨k, hk⟩ k1_h15
    · exact k1_off254_inb i ⟨k, hk⟩ k1_h15
    · exact k1_off255_inb i ⟨k, hk⟩ k1_h15
  · intro h
    fin_cases h
    · exact k1_off240_eq ⟨k, hk⟩
    · exact k1_off241_eq ⟨k, hk⟩
    · exact k1_off242_eq ⟨k, hk⟩
    · exact k1_off243_eq ⟨k, hk⟩
    · exact k1_off244_eq ⟨k, hk⟩
    · exact k1_off245_eq ⟨k, hk⟩
    · exact k1_off246_eq ⟨k, hk⟩
    · exact k1_off247_eq ⟨k, hk⟩
    · exact k1_off248_eq ⟨k, hk⟩
    · exact k1_off249_eq ⟨k, hk⟩
    · exact k1_off250_eq ⟨k, hk⟩
    · exact k1_off251_eq ⟨k, hk⟩
    · exact k1_off252_eq ⟨k, hk⟩
    · exact k1_off253_eq ⟨k, hk⟩
    · exact k1_off254_eq ⟨k, hk⟩
    · exact k1_off255_eq ⟨k, hk⟩
  · refine hs.trans ?_
    refine congrArg (· ++ _) ?_
    dsimp only [tripL_k1_t15]
    unfold trip_k1_t15
    rfl

theorem facts16 : TileFacts 1920 := by constructor <;> decide

/-- Loop 16 leaves the output block of the tiles over the first 2048 keys. -/
theorem out_t16 (𝒱 : Variants) (c : Dev nD) (bd : Option 𝒱.V) (i : grid1.Coords) (arg3 : Memref sig .tc .vmem S1x1x128x16x128 .fp8e4m3) (harg3 : arg3.IsWhole) (arg4 : Memref sig .tc .vmem S1x1x2048x128 .fp8e4m3) (harg4 : arg4.IsWhole) (arg5 : Memref sig .tc .vmem S1x1x128x2048 .bf16) (harg5 : arg5.IsWhole) (arg6 : Memref sig .tc .vmem S1x1x256 .f32) (harg6 : arg6.IsWhole) (arg7 : Memref sig .tc .vmem S1x128x2048 .bf16) (harg7 : arg7.IsWhole) (arg8 : Memref sig .tc .vmem S2048x256 .f32) (harg8 : arg8.IsWhole) (v3 : FVec F S1x256 .f32) (k1_h16 : k1_cond16 i = 1#1) (X_arg3 : BufTy.Contents (Elt F) arg3.view.ty) (X_arg4 : BufTy.Contents (Elt F) arg4.view.ty) (X_arg5 : BufTy.Contents (Elt F) arg5.view.ty) (G7 : BufTy.Contents (Elt F) arg7.view.ty) (G8 : BufTy.Contents (Elt F) arg8.view.ty) :
    arg7.view.read (Elt F) (arg7.view.writes (Elt F) G7 (pb_k1_t16 (F := F) 𝒱 c bd i arg3 harg3 arg4 harg4 arg5 harg5 arg6 harg6 arg7 harg7 arg8 harg8 v3 k1_h16 X_arg3 X_arg4 X_arg5 G7 G8 k1_t16_loop.trips).1)
      = outVal (tile 1920 facts16 (v3) (arg3.view.read (Elt F) X_arg3) (arg4.view.read (Elt F) X_arg4) (arg5.view.read (Elt F) X_arg5)) := by
  refine loop_tiles 1920 facts16 arg7.view G7 arg8.view (fun j => (pb_k1_t16 (F := F) 𝒱 c bd i arg3 harg3 arg4 harg4 arg5 harg5 arg6 harg6 arg7 harg7 arg8 harg8 v3 k1_h16 X_arg3 X_arg4 X_arg5 G7 G8 j).1) _ _ _ _ rfl fun k hk => ?_
  have hs := congrArg Prod.fst (pb_k1_t16_succ (F := F) 𝒱 c bd i arg3 harg3 arg4 harg4 arg5 harg5 arg6 harg6 arg7 harg7 arg8 harg8 v3 k1_h16 X_arg3 X_arg4 X_arg5 G7 G8 ⟨k, hk⟩)
  have hq := k1_off256_eq ⟨k, hk⟩
  refine ⟨![k1_off257 ⟨k, hk⟩, k1_off258 ⟨k, hk⟩, k1_off259 ⟨k, hk⟩, k1_off260 ⟨k, hk⟩, k1_off261 ⟨k, hk⟩, k1_off262 ⟨k, hk⟩, k1_off263 ⟨k, hk⟩, k1_off264 ⟨k, hk⟩, k1_off265 ⟨k, hk⟩, k1_off266 ⟨k, hk⟩, k1_off267 ⟨k, hk⟩, k1_off268 ⟨k, hk⟩, k1_off269 ⟨k, hk⟩, k1_off270 ⟨k, hk⟩, k1_off271 ⟨k, hk⟩, k1_off272 ⟨k, hk⟩], ?_, k1_off256 ⟨k, hk⟩, k1_off256_inb i ⟨k, hk⟩ k1_h16, ?_, hq, ?_⟩
  · intro h
    fin_cases h
    · exact k1_off257_inb i ⟨k, hk⟩ k1_h16
    · exact k1_off258_inb i ⟨k, hk⟩ k1_h16
    · exact k1_off259_inb i ⟨k, hk⟩ k1_h16
    · exact k1_off260_inb i ⟨k, hk⟩ k1_h16
    · exact k1_off261_inb i ⟨k, hk⟩ k1_h16
    · exact k1_off262_inb i ⟨k, hk⟩ k1_h16
    · exact k1_off263_inb i ⟨k, hk⟩ k1_h16
    · exact k1_off264_inb i ⟨k, hk⟩ k1_h16
    · exact k1_off265_inb i ⟨k, hk⟩ k1_h16
    · exact k1_off266_inb i ⟨k, hk⟩ k1_h16
    · exact k1_off267_inb i ⟨k, hk⟩ k1_h16
    · exact k1_off268_inb i ⟨k, hk⟩ k1_h16
    · exact k1_off269_inb i ⟨k, hk⟩ k1_h16
    · exact k1_off270_inb i ⟨k, hk⟩ k1_h16
    · exact k1_off271_inb i ⟨k, hk⟩ k1_h16
    · exact k1_off272_inb i ⟨k, hk⟩ k1_h16
  · intro h
    fin_cases h
    · exact k1_off257_eq ⟨k, hk⟩
    · exact k1_off258_eq ⟨k, hk⟩
    · exact k1_off259_eq ⟨k, hk⟩
    · exact k1_off260_eq ⟨k, hk⟩
    · exact k1_off261_eq ⟨k, hk⟩
    · exact k1_off262_eq ⟨k, hk⟩
    · exact k1_off263_eq ⟨k, hk⟩
    · exact k1_off264_eq ⟨k, hk⟩
    · exact k1_off265_eq ⟨k, hk⟩
    · exact k1_off266_eq ⟨k, hk⟩
    · exact k1_off267_eq ⟨k, hk⟩
    · exact k1_off268_eq ⟨k, hk⟩
    · exact k1_off269_eq ⟨k, hk⟩
    · exact k1_off270_eq ⟨k, hk⟩
    · exact k1_off271_eq ⟨k, hk⟩
    · exact k1_off272_eq ⟨k, hk⟩
  · refine hs.trans ?_
    refine congrArg (· ++ _) ?_
    dsimp only [tripL_k1_t16]
    unfold trip_k1_t16
    rfl

end Cert.Kernel.Attn

end
-- ==== Proof.AttnRunBits.lean ====
/- One grid point of the attention kernel (`Kernel`): from the five blocks it is given, it ends with the same four inputs and
   the output block `outBlk`, its scratch holding anything. -/
module

public import proofs.«01_k».proof.Proof.AttnLoopsBits

@[expose] public section

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Attn

variable {F : FTy → Type} [FloatOps F]

local notation "𝕄" => MT nD τ sig Unit (Elt F) ℕ (UR sig nD τ) ℕ

/-- A branch of the kernel is taken exactly at the points of its query block. -/
theorem cond_gen (a c : Fin 16) : Scalar.cmpi .ne (Scalar.extui (Scalar.cmpi .eq (BitVec.ofNat 32 a.val) (BitVec.ofNat 32 c.val)) : BitVec 32) 0#32 = 1#1 ↔ a = c := by
  revert a c; decide +kernel

theorem cond_1 (i : grid1.Coords) : k1_cond1 i = 1#1 ↔ i 2 = (0 : Fin 16) := cond_gen (i 2) 0
theorem cond_2 (i : grid1.Coords) : k1_cond2 i = 1#1 ↔ i 2 = (1 : Fin 16) := cond_gen (i 2) 1
theorem cond_3 (i : grid1.Coords) : k1_cond3 i = 1#1 ↔ i 2 = (2 : Fin 16) := cond_gen (i 2) 2
theorem cond_4 (i : grid1.Coords) : k1_cond4 i = 1#1 ↔ i 2 = (3 : Fin 16) := cond_gen (i 2) 3
theorem cond_5 (i : grid1.Coords) : k1_cond5 i = 1#1 ↔ i 2 = (4 : Fin 16) := cond_gen (i 2) 4
theorem cond_6 (i : grid1.Coords) : k1_cond6 i = 1#1 ↔ i 2 = (5 : Fin 16) := cond_gen (i 2) 5
theorem cond_7 (i : grid1.Coords) : k1_cond7 i = 1#1 ↔ i 2 = (6 : Fin 16) := cond_gen (i 2) 6
theorem cond_8 (i : grid1.Coords) : k1_cond8 i = 1#1 ↔ i 2 = (7 : Fin 16) := cond_gen (i 2) 7
theorem cond_9 (i : grid1.Coords) : k1_cond9 i = 1#1 ↔ i 2 = (8 : Fin 16) := cond_gen (i 2) 8
theorem cond_10 (i : grid1.Coords) : k1_cond10 i = 1#1 ↔ i 2 = (9 : Fin 16) := cond_gen (i 2) 9
theorem cond_11 (i : grid1.Coords) : k1_cond11 i = 1#1 ↔ i 2 = (10 : Fin 16) := cond_gen (i 2) 10
theorem cond_12 (i : grid1.Coords) : k1_cond12 i = 1#1 ↔ i 2 = (11 : Fin 16) := cond_gen (i 2) 11
theorem cond_13 (i : grid1.Coords) : k1_cond13 i = 1#1 ↔ i 2 = (12 : Fin 16) := cond_gen (i 2) 12
theorem cond_14 (i : grid1.Coords) : k1_cond14 i = 1#1 ↔ i 2 = (13 : Fin 16) := cond_gen (i 2) 13
theorem cond_15 (i : grid1.Coords) : k1_cond15 i = 1#1 ↔ i 2 = (14 : Fin 16) := cond_gen (i 2) 14
theorem cond_16 (i : grid1.Coords) : k1_cond16 i = 1#1 ↔ i 2 = (15 : Fin 16) := cond_gen (i 2) 15

/-- The shape facts at query block `a`. -/
theorem factsAt (a : Fin 16) : TileFacts (128 * a.val) := by
  fin_cases a
  · exact facts1
  · exact facts2
  · exact facts3
  · exact facts4
  · exact facts5
  · exact facts6
  · exact facts7
  · exact facts8
  · exact facts9
  · exact facts10
  · exact facts11
  · exact facts12
  · exact facts13
  · exact facts14
  · exact facts15
  · exact facts16

/-- The output block of query block `a` from the query block, the keys, the values and the coefficients. -/
def outBlk (a : Fin 16) (Q : Vec F S1x1x128x16x128 .fp8e4m3) (K : Vec F S1x1x2048x128 .fp8e4m3) (V : Vec F S1x1x128x2048 .bf16)
    (C : Vec F S1x1x256 .f32) : Vec F S1x128x2048 .bf16 :=
  outVal (tile (128 * a.val) (factsAt a) (k1_pay377 C) Q K V)

theorem readAt_coef (arg6 : Memref sig .tc .vmem S1x1x256 .f32) (harg6 : arg6.IsWhole) (x : Vec F S1x1x256 .f32) :
    arg6.view.readAt (Elt F) (Rect.unit (s := S1x1x256) ![0, 0, 0] S1x1x256.size inb_S1x1x256_S1x1x256_0_0_0).toLoadRect (harg6.unread x) = x := by
  rw [View.readAt_eq_ld, harg6.read_unread]
  exact View.ld_unit_zero (by funext a; match a with | 0 => rfl | 1 => rfl | 2 => rfl) _ _

set_option maxHeartbeats 8000000 in
theorem run1 (c : Dev nD) (i : grid1.Coords) (arg3 : Memref sig .tc .vmem S1x1x128x16x128 .fp8e4m3) (harg3 : arg3.IsWhole) (arg4 : Memref sig .tc .vmem S1x1x2048x128 .fp8e4m3) (harg4 : arg4.IsWhole) (arg5 : Memref sig .tc .vmem S1x1x128x2048 .bf16) (harg5 : arg5.IsWhole) (arg6 : Memref sig .tc .vmem S1x1x256 .f32) (harg6 : arg6.IsWhole) (arg7 : Memref sig .tc .vmem S1x128x2048 .bf16) (harg7 : arg7.IsWhole) (arg8 : Memref sig .tc .vmem S2048x256 .f32) (harg8 : arg8.IsWhole)
    (x0 : Vec F S1x1x128x16x128 .fp8e4m3) (x1 : Vec F S1x1x2048x128 .fp8e4m3) (x2 : Vec F S1x1x128x2048 .bf16) (x3 : Vec F S1x1x256 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (outBlk (i 2) x0 x1 x2 x3) ∗ (∃ d, owns (c : Thread nD τ) arg8 fullShare d)) -∗ K ⟨⟩))
          ⊢ wp frame (wpE (defs₀ (F := F)) Variants.none c none) E (cc1_attn i arg3 harg3 arg4 harg4 arg5 harg5 arg6 harg6 arg7 harg7 arg8 harg8) K := by
  intro E K
  obtain ⟨a, hi⟩ : ∃ a : Fin 16, i 2 = a := ⟨_, rfl⟩
  rw [hi]
  simp only [cc1_attn_eq_skeleton]; unfold cc1_attn_skel
  simp only [k1_part65_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
  obtain rfl := harg3.eq_unread hf0; obtain rfl := harg4.eq_unread hf1; obtain rfl := harg5.eq_unread hf2; obtain rfl := harg6.eq_unread hf3
  fin_cases a
  all_goals
    sl_exec (disch := (simp [cond_1, cond_2, cond_3, cond_4, cond_5, cond_6, cond_7, cond_8, cond_9, cond_10, cond_11, cond_12, cond_13, cond_14, cond_15, cond_16, hi]))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; swap; · iexact H4
      ipureintro
      first | rw [out_t1] | rw [out_t2] | rw [out_t3] | rw [out_t4] | rw [out_t5] | rw [out_t6] | rw [out_t7] | rw [out_t8] | rw [out_t9] | rw [out_t10] | rw [out_t11] | rw [out_t12] | rw [out_t13] | rw [out_t14] | rw [out_t15] | rw [out_t16]
      rw [harg3.read_unread, harg4.read_unread, harg5.read_unread]
      exact congrArg (fun C => outVal (tile _ _ (k1_pay377 C) x0 x1 x2)) (readAt_coef arg6 harg6 x3)
    iexists _, _; isplitr; swap; · iexact HS
    ipureintro; rfl

end Cert.Kernel.Attn

end
-- ==== Proof.RegsBits.lean ====
/- The two pallas_calls as regions of the program (`Kernel`): what each window holds at each grid point, and that the body takes
   one point's contents to the next's. -/
module

public import proofs.«01_k».proof.Proof.RopeRunBits
public import proofs.«01_k».proof.Proof.AttnRunBits
public import proofs.«01_k».proof.Proof.Gen.Kernel.Regions
public import proofs.«01_k».proof.Proof.Gen.Kernel.Points
public import Idealize.ShloMosaic.Lib.Pipeline.RegionArraysS
public import Idealize.ShloMosaic.Lib.Pipeline.TableIdle

@[expose] public section

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg HostSeg Seg)
open Cert.Kernel Cert.Kernel.Gen Cert.Tiles

variable {F : FTy → Type} [FloatOps F]

local notation "𝕄" => MT nD τ sig Unit (Elt F) ℕ (UR sig nD τ) ℕ

open Cert.Kernel.Rope (first0 qcBlk qtBlk kcBlk ktBlk vtBlk qaStep kaStep run0)
open Cert.Kernel.Attn (outBlk run1)

variable (V : Valuation τ sig (Elt F))

/-! ## The rotate-and-quantise call -/

/-- Window `w`'s block at point `t`, of the array the call is entered with. -/
def iblk0 (w : Fin cfg0.W) (t : Fin cfg0.N) : ((cfg0.win w).xblock (cfg0.grid.coords t)).Idx → Elt F (cfg0.win w).elt :=
  ((cfg0.win w).blk t).view.read (Elt F) (V (Proc.devRef .tc (Pipeline.arrRef spec0 w)))

/-- The cosines at point `t`. -/
abbrev cosAt (t : Fin cfg0.N) := k0_pay17 (F := F) (iblk0 V 0 t) (iblk0 V 1 t)
/-- The signed sines at point `t`. -/
abbrev sinAt (t : Fin cfg0.N) := k0_pay18 (F := F) (iblk0 V 0 t) (iblk0 V 1 t)

/-- Point number `n` of the grid. -/
def ptOf (n : ℕ) : Fin cfg0.N := ⟨n % 96, by rw [show cfg0.N = 96 from N_0]; exact Nat.mod_lt _ (by decide)⟩

theorem ptOf_val (t : Fin cfg0.N) : ptOf t.val = t := Fin.ext (Nat.mod_eq_of_lt (lt_of_lt_of_eq t.isLt (show cfg0.N = 96 from N_0)))

/-- The running maxima of the rotated queries after `n` points. -/
def qaAt : ℕ → Vec F S64x128 .f32
  | 0 => k0_pay14
  | n + 1 => accN (qaStep (cosAt V (ptOf n)) (sinAt V (ptOf n)) (iblk0 V 4 (ptOf n))) 16 (qaAt n)

/-- The running maxima of the rotated keys after `n` points. -/
def kaAt : ℕ → Vec F S4x128 .f32
  | 0 => k0_pay15
  | n + 1 => accN (kaStep (cosAt V (ptOf n)) (sinAt V (ptOf n)) (iblk0 V 5 (ptOf n))) 16 (kaAt n)

theorem qaAt_succ (t : Fin cfg0.N) : qaAt V (t.val + 1) = accN (qaStep (cosAt V t) (sinAt V t) (iblk0 V 4 t)) 16 (qaAt V t.val) := by
  show accN (qaStep (cosAt V (ptOf t.val)) (sinAt V (ptOf t.val)) (iblk0 V 4 (ptOf t.val))) 16 (qaAt V t.val) = _
  rw [ptOf_val]

theorem kaAt_succ (t : Fin cfg0.N) : kaAt V (t.val + 1) = accN (kaStep (cosAt V t) (sinAt V t) (iblk0 V 5 t)) 16 (kaAt V t.val) := by
  show accN (kaStep (cosAt V (ptOf t.val)) (sinAt V (ptOf t.val)) (iblk0 V 5 (ptOf t.val))) 16 (kaAt V t.val) = _
  rw [ptOf_val]

/-- What each window of the first call holds after the body at each point. -/
def dat0 (c : Dev nD) : Dat τ (Elt F) Unit ℕ (UR sig nD τ) ℕ cfg0 c where
  A w := V (Proc.devRef .tc (Pipeline.arrRef spec0 w))
  after w t := match w with
    | ⟨0, _⟩ => iblk0 V 0 t
    | ⟨1, _⟩ => iblk0 V 1 t
    | ⟨2, _⟩ => iblk0 V 2 t
    | ⟨3, _⟩ => iblk0 V 3 t
    | ⟨4, _⟩ => iblk0 V 4 t
    | ⟨5, _⟩ => iblk0 V 5 t
    | ⟨6, _⟩ => iblk0 V 6 t
    | ⟨7, _⟩ => qcBlk (cosAt V t) (sinAt V t) (iblk0 V 2 t) (iblk0 V 4 t)
    | ⟨8, _⟩ => qtBlk (cosAt V t) (sinAt V t) (iblk0 V 2 t) (iblk0 V 4 t)
    | ⟨9, _⟩ => kcBlk (cosAt V t) (sinAt V t) (iblk0 V 3 t) (iblk0 V 5 t)
    | ⟨10, _⟩ => ktBlk (kcBlk (cosAt V t) (sinAt V t) (iblk0 V 3 t) (iblk0 V 5 t))
    | ⟨11, _⟩ => vtBlk (iblk0 V 6 t)
    | ⟨12, _⟩ => qaAt V (t.val + 1)
    | ⟨13, _⟩ => kaAt V (t.val + 1)
  Φ _ := Pipeline.scopedRest spec0 c
  q _ := fullShare
  owed _ := 0

theorem before0_0 (c : Dev nD) (t : Fin cfg0.N) (d) : (dat0 V c).before 0 t d = iblk0 V 0 t :=
  ((dat0 V c).before_in_eq_fetched 0 rfl (fun _ => rfl) (fun _ _ _ => rfl) (fun t => rfl) t d).trans rfl

theorem before0_1 (c : Dev nD) (t : Fin cfg0.N) (d) : (dat0 V c).before 1 t d = iblk0 V 1 t :=
  ((dat0 V c).before_in_eq_fetched 1 rfl (fun _ => rfl) (fun _ _ _ => rfl) (fun t => rfl) t d).trans rfl

theorem before0_2 (c : Dev nD) (t : Fin cfg0.N) (d) : (dat0 V c).before 2 t d = iblk0 V 2 t :=
  ((dat0 V c).before_in_eq_fetched 2 rfl (fun _ => rfl) (fun _ _ _ => rfl) (fun t => rfl) t d).trans rfl

theorem before0_3 (c : Dev nD) (t : Fin cfg0.N) (d) : (dat0 V c).before 3 t d = iblk0 V 3 t :=
  ((dat0 V c).before_in_eq_fetched 3 rfl (fun _ => rfl) (fun _ _ _ => rfl) (fun t => rfl) t d).trans rfl

theorem before0_4 (c : Dev nD) (t : Fin cfg0.N) (d) : (dat0 V c).before 4 t d = iblk0 V 4 t :=
  ((dat0 V c).before_in_eq_fetched 4 rfl (fun _ => rfl) (fun _ _ _ => rfl) (fun t => rfl) t d).trans rfl

theorem before0_5 (c : Dev nD) (t : Fin cfg0.N) (d) : (dat0 V c).before 5 t d = iblk0 V 5 t :=
  ((dat0 V c).before_in_eq_fetched 5 rfl (fun _ => rfl) (fun _ _ _ => rfl) (fun t => rfl) t d).trans rfl

theorem before0_6 (c : Dev nD) (t : Fin cfg0.N) (d) : (dat0 V c).before 6 t d = iblk0 V 6 t :=
  ((dat0 V c).before_in_eq_fetched 6 rfl (fun _ => rfl) (fun _ _ _ => rfl) (fun t => rfl) t d).trans rfl

/-- The window of the running maxima is written back at the last point only, so between points it keeps what the body left. -/
theorem fresh0_12 : ∀ n, n < 96 → cfg0.fresh 12 n = decide (n = 0)
  | 0, _ => rfl
  | n + 1, h => by
      have hn : n < cfg0.N := by rw [show cfg0.N = 96 from N_0]; omega
      rw [Cfg.fresh_succ cfg0 12 n hn, show cfg0.idle 12 (cfg0.grid.coords ⟨n, hn⟩) = false from rfl, Bool.false_and, Bool.or_false,
        show decide (n + 1 = 0) = false from decide_eq_false (Nat.succ_ne_zero n)]
      refine Bool.eq_false_iff.mpr fun hf => ?_
      have := (flush0_12 ⟨n, hn⟩).mp hf
      simp only at this; omega

theorem before0_12 (c : Dev nD) (t : Fin cfg0.N) (d) : (dat0 V c).before 12 t d = if t.val = 0 then d else qaAt V t.val := by
  have hlt : t.val < 96 := lt_of_lt_of_eq t.isLt (show cfg0.N = 96 from N_0)
  rw [(dat0 V c).before_out_traj 12 rfl (fun _ _ => rfl) (fun _ _ h => absurd h Bool.false_ne_true) t.val t rfl d, fresh0_12 t.val hlt]
  by_cases h : t.val = 0
  · rw [if_pos h, if_pos (decide_eq_true h)]
  · rw [if_neg h, if_neg (by rw [decide_eq_false h]; exact Bool.false_ne_true)]
    show qaAt V (t.val - 1 + 1) = _
    rw [Nat.sub_add_cancel (Nat.one_le_iff_ne_zero.mpr h)]

/-- The window of the running maxima is written back at the last point only, so between points it keeps what the body left. -/
theorem fresh0_13 : ∀ n, n < 96 → cfg0.fresh 13 n = decide (n = 0)
  | 0, _ => rfl
  | n + 1, h => by
      have hn : n < cfg0.N := by rw [show cfg0.N = 96 from N_0]; omega
      rw [Cfg.fresh_succ cfg0 13 n hn, show cfg0.idle 13 (cfg0.grid.coords ⟨n, hn⟩) = false from rfl, Bool.false_and, Bool.or_false,
        show decide (n + 1 = 0) = false from decide_eq_false (Nat.succ_ne_zero n)]
      refine Bool.eq_false_iff.mpr fun hf => ?_
      have := (flush0_13 ⟨n, hn⟩).mp hf
      simp only at this; omega

theorem before0_13 (c : Dev nD) (t : Fin cfg0.N) (d) : (dat0 V c).before 13 t d = if t.val = 0 then d else kaAt V t.val := by
  have hlt : t.val < 96 := lt_of_lt_of_eq t.isLt (show cfg0.N = 96 from N_0)
  rw [(dat0 V c).before_out_traj 13 rfl (fun _ _ => rfl) (fun _ _ h => absurd h Bool.false_ne_true) t.val t rfl d, fresh0_13 t.val hlt]
  by_cases h : t.val = 0
  · rw [if_pos h, if_pos (decide_eq_true h)]
  · rw [if_neg h, if_neg (by rw [decide_eq_false h]; exact Bool.false_ne_true)]
    show kaAt V (t.val - 1 + 1) = _
    rw [Nat.sub_add_cancel (Nat.one_le_iff_ne_zero.mpr h)]

/-- The point whose coordinates are both zero is point zero. -/
theorem first0_iff (t : Fin cfg0.N) : first0 (grid0.coords t) ↔ t.val = 0 :=
  (by decide +kernel : ∀ t : Fin grid0.N, ((grid0.coords t 0).val = 0 ∧ (grid0.coords t 1).val = 0) ↔ t.val = 0) t

theorem qa_next (c : Dev nD) (t : Fin cfg0.N) (d) :
    accN (qaStep (cosAt V t) (sinAt V t) (iblk0 V 4 t)) 16 (if first0 (grid0.coords t) then k0_pay14 else (dat0 V c).before 12 t d) = qaAt V (t.val + 1) := by
  rw [qaAt_succ, before0_12]
  by_cases h : t.val = 0
  · rw [if_pos ((first0_iff t).2 h), h]; rfl
  · rw [if_neg fun h' => h ((first0_iff t).1 h'), if_neg h]

theorem ka_next (c : Dev nD) (t : Fin cfg0.N) (d) :
    accN (kaStep (cosAt V t) (sinAt V t) (iblk0 V 5 t)) 16 (if first0 (grid0.coords t) then k0_pay15 else (dat0 V c).before 13 t d) = kaAt V (t.val + 1) := by
  rw [kaAt_succ, before0_13]
  by_cases h : t.val = 0
  · rw [if_pos ((first0_iff t).2 h), h]; rfl
  · rw [if_neg fun h' => h ((first0_iff t).1 h'), if_neg h]

/-- A scratch buffer held at some contents, as the pipeline's invariant holds it. -/
theorem scratch_back (c : Dev nD) (b : Ref sig .tc) :
    (iprop(∃ d, owns (c : Thread nD τ) (Memref.whole b) fullShare d) : sProp 𝕄) ⊢ iprop(∃ f : Buf (Elt F) ((c : Thread nD τ).loc b), ((c : Thread nD τ).loc b) ↦{fullShare} f) := by
  simp only [owns_whole_eq]
  iintro ⟨%d, %f, -, H⟩
  iexists f; iexact H

set_option maxHeartbeats 1600000 in
/-- The body of the first call takes one point's contents to the next's. -/
theorem body0 (c : Dev nD) : BodyObligation (dat0 V c) (defs₀ (F := F)) Variants.none () Set.univ := fun t => by
  rw [bigSep_W0, bigSep_W0]
  rw [show (dat0 V c).Φ t.castSucc = Pipeline.scopedRest spec0 c from rfl, show (dat0 V c).Φ t.succ = Pipeline.scopedRest spec0 c from rfl,
    show (dat0 V c).owesAt () t.succ = (dat0 V c).owesAt () t.castSucc from rfl, scopedRest0_eq]
  show _ ⊢ wp frame _ _ (bodyAt0 t) _
  iintro ⟨⟨⟨%e0, S0⟩, ⟨%e1, S1⟩, HR⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  rw [before0_0 V c t d0]; rw [before0_1 V c t d1]; rw [before0_2 V c t d2]; rw [before0_3 V c t d3]; rw [before0_4 V c t d4]; rw [before0_5 V c t d5]; rw [before0_6 V c t d6]
  iapply (run0 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (Memref.whole cc0_scratch0) (Memref.isWhole_whole _) (Memref.whole cc0_scratch1) (Memref.isWhole_whole _)
    (iblk0 V 0 t) (iblk0 V 1 t) (iblk0 V 2 t) (iblk0 V 3 t) (iblk0 V 4 t) (iblk0 V 5 t) (iblk0 V 6 t) ((dat0 V c).before 12 t d12) ((dat0 V c).before 13 t d13) Set.univ _)
  rw [qa_next, ka_next]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexact H12
  isplitl [H13]; · iexact H13
  isplitl [S0]; · iexists e0; rw [owns_whole_eq]; iexists _; isplitr; swap; (· iexact S0); ipureintro; rfl
  isplitl [S1]; · iexists e1; rw [owns_whole_eq]; iexists _; isplitr; swap; (· iexact S1); ipureintro; rfl
  iintro ⟨H0, H1, H2, H3, H4, H5, H6, H7, H8, H9, H10, H11, H12, H13, T0, T1⟩
  ihave S0 := (scratch_back (F := F) c cc0_scratch0) $$ T0
  ihave S1 := (scratch_back (F := F) c cc0_scratch1) $$ T1
  isplitl [S0 S1 HR]
  · isplitl [S0]; · iexact S0
    isplitl [S1]; · iexact S1
    iexact HR
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-! ## The attention call -/

/-- Window `w`'s block at point `t`, of the array the call is entered with. -/
def iblk1 (w : Fin cfg1.W) (t : Fin cfg1.N) : ((cfg1.win w).xblock (cfg1.grid.coords t)).Idx → Elt F (cfg1.win w).elt :=
  ((cfg1.win w).blk t).view.read (Elt F) (V (Proc.devRef .tc (Pipeline.arrRef spec1 w)))

/-- What each window of the attention call holds after the body at each point. -/
def dat1 (c : Dev nD) : Dat τ (Elt F) Unit ℕ (UR sig nD τ) ℕ cfg1 c where
  A w := V (Proc.devRef .tc (Pipeline.arrRef spec1 w))
  after w t := match w with
    | ⟨0, _⟩ => iblk1 V 0 t
    | ⟨1, _⟩ => iblk1 V 1 t
    | ⟨2, _⟩ => iblk1 V 2 t
    | ⟨3, _⟩ => iblk1 V 3 t
    | ⟨4, _⟩ => outBlk (grid1.coords t 2) (iblk1 V 0 t) (iblk1 V 1 t) (iblk1 V 2 t) (iblk1 V 3 t)
  Φ _ := Pipeline.scopedRest spec1 c
  q _ := fullShare
  owed _ := 0

theorem before1_0 (c : Dev nD) (t : Fin cfg1.N) (d) : (dat1 V c).before 0 t d = iblk1 V 0 t :=
  ((dat1 V c).before_in_eq_fetched 0 rfl (fun _ => rfl) (fun _ _ _ => rfl) (fun t => rfl) t d).trans rfl

theorem before1_1 (c : Dev nD) (t : Fin cfg1.N) (d) : (dat1 V c).before 1 t d = iblk1 V 1 t :=
  ((dat1 V c).before_in_eq_fetched 1 rfl (fun _ => rfl) (fun _ _ _ => rfl) (fun t => rfl) t d).trans rfl

theorem before1_2 (c : Dev nD) (t : Fin cfg1.N) (d) : (dat1 V c).before 2 t d = iblk1 V 2 t :=
  ((dat1 V c).before_in_eq_fetched 2 rfl (fun _ => rfl) (fun _ _ _ => rfl) (fun t => rfl) t d).trans rfl

theorem before1_3 (c : Dev nD) (t : Fin cfg1.N) (d) : (dat1 V c).before 3 t d = iblk1 V 3 t :=
  ((dat1 V c).before_in_eq_fetched 3 rfl (fun _ => rfl) (fun _ _ _ => rfl) (fun t => rfl) t d).trans rfl

/-- The result's window is written back at every point, so what the body leaves there is its block. -/
theorem after_out (c : Dev nD) (t : Fin cfg1.N) :
    (owns (c : Thread nD τ) (st1_4 t) fullShare (outBlk (grid1.coords t 2) (iblk1 V 0 t) (iblk1 V 1 t) (iblk1 V 2 t) (iblk1 V 3 t)) : sProp 𝕄)
      ⊢ match cfg1.idle 4 (cfg1.grid.coords t) with
        | true =>
          match (cfg1.win 4).flush t with
          | false => iprop(∃ d, owns (c : Thread nD τ) ((cfg1.win 4).stage (cfg1.slots t 4)) fullShare ((dat1 V c).before 4 t d))
          | true => owns (c : Thread nD τ) ((cfg1.win 4).stage (cfg1.slots t 4)) fullShare ((dat1 V c).after 4 t)
        | false => owns (c : Thread nD τ) ((cfg1.win 4).stage (cfg1.slots t 4)) fullShare ((dat1 V c).after 4 t) := by
  rw [flush1_4 t]
  cases cfg1.idle 4 (cfg1.grid.coords t) <;> exact .rfl

set_option maxHeartbeats 1600000 in
/-- The body of the attention call takes one point's contents to the next's. -/
theorem body1 (c : Dev nD) : BodyObligation (dat1 V c) (defs₀ (F := F)) Variants.none () Set.univ := fun t => by
  rw [bigSep_W1, bigSep_W1]
  rw [show (dat1 V c).Φ t.castSucc = Pipeline.scopedRest spec1 c from rfl, show (dat1 V c).Φ t.succ = Pipeline.scopedRest spec1 c from rfl,
    show (dat1 V c).owesAt () t.succ = (dat1 V c).owesAt () t.castSucc from rfl, scopedRest1_split]
  show _ ⊢ wp frame _ _ (bodyAt1 t) _
  iintro ⟨⟨⟨%e0, S0⟩, HR⟩, Howes, ⟨%d0, H0⟩, ⟨%d1, H1⟩, ⟨%d2, H2⟩, ⟨%d3, H3⟩, ⟨%d4, H4⟩⟩
  rw [before1_0 V c t d0]; rw [before1_1 V c t d1]; rw [before1_2 V c t d2]; rw [before1_3 V c t d3]
  iapply (run1 c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (Memref.whole cc1_scratch0) (Memref.isWhole_whole _)
    (iblk1 V 0 t) (iblk1 V 1 t) (iblk1 V 2 t) (iblk1 V 3 t) Set.univ _)
  isplitl [H0]; · iexact H0
  isplitl [H1]; · iexact H1
  isplitl [H2]; · iexact H2
  isplitl [H3]; · iexact H3
  isplitl [H4]; · iexists _; iexact H4
  isplitl [S0]; · iexists e0; rw [owns_whole_eq]; iexists _; isplitr; swap; (· iexact S0); ipureintro; rfl
  iintro ⟨H0, H1, H2, H3, H4, T0⟩
  ihave S0 := (scratch_back (F := F) c cc1_scratch0) $$ T0
  isplitl [S0 HR]
  · isplitl [S0]; · iexact S0
    iexact HR
  isplitl [Howes]; · iexact Howes
  isplitl [H0]; · iexact H0
  isplitl [H1]; · iexact H1
  isplitl [H2]; · iexact H2
  isplitl [H3]; · iexact H3
  iapply (after_out V c t); iexact H4

end Cert.Kernel.Regs

end
-- ==== Proof.RunBits.lean ====
/- The whole program (`Kernel`) as a run: host operations, the first call, host operations, the attention call, host operations;
   what every buffer holds at the end, and that the arguments are left alone. -/
module

public import proofs.«01_k».proof.Proof.RegsBits
public import Idealize.ShloMosaic.Lib.Pipeline.FrameSuffix

@[expose] public section

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg HostSeg Seg)
open Cert.Kernel Cert.Kernel.Gen Cert.Tiles

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers at launch. -/
def W0 (c : Dev nD) : Valuation τ sig (Elt F) := fun b => m (c, b)
/-- After the first host operations. -/
def W1 (c : Dev nD) : Valuation τ sig (Elt F) := StableHlo.after hostOps0 (W0 m c)
/-- After the first call. -/
def W2 (c : Dev nD) : Valuation τ sig (Elt F) := Pipeline.afterRegion (dat0 (W1 m c) c) (W1 m c)
/-- After the second host operations. -/
def W3 (c : Dev nD) : Valuation τ sig (Elt F) := StableHlo.after hostOps1 (W2 m c)
/-- After the attention call. -/
def W4 (c : Dev nD) : Valuation τ sig (Elt F) := Pipeline.afterRegion (dat1 (W3 m c) c) (W3 m c)
/-- At the end. -/
def W5 (c : Dev nD) : Valuation τ sig (Elt F) := StableHlo.after hostOps2 (W4 m c)

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : ∀ w, Pipeline.arrRef cfg0.spec w = r → (cfg0.win w).isOut = false) : W2 m c r = W1 m c r :=
  Pipeline.afterRegion_keeps (dat0 (W1 m c) c) (W1 m c) launch0.win.arr_inj (fun _ => rfl) r h
theorem W3_of (c : Dev nD) (r : Ref sig .tc) (h : r ∉ hostOps1_W) : W3 m c r = W2 m c r :=
  StableHlo.after_of_writes_sub hostOps1 _ hostOps1_writes h
theorem W4_of (c : Dev nD) (r : Ref sig .tc) (h : ∀ w, Pipeline.arrRef cfg1.spec w = r → (cfg1.win w).isOut = false) : W4 m c r = W3 m c r :=
  Pipeline.afterRegion_keeps (dat1 (W3 m c) c) (W3 m c) launch1.win.arr_inj (fun _ => rfl) r h
theorem W5_of (c : Dev nD) (r : Ref sig .tc) (h : r ∉ hostOps2_W) : W5 m c r = W4 m c r :=
  StableHlo.after_of_writes_sub hostOps2 _ hostOps2_writes h

/-- The proof data of both calls. -/
def pdats : (p : Fin 2) → (c : Dev nD) → Dat τ (Elt F) Unit ℕ (UR sig nD τ) ℕ (Pipeline.pin (pcfgs (F := F)) adm p) c
  | ⟨0, _⟩ => fun c => dat0 (W1 m c) c
  | ⟨1, _⟩ => fun c => dat1 (W3 m c) c

/-- Every TensorCore cell carries the one level there is. -/
abbrev Lv : GSem nD τ sig → Finset Unit := fun g => if g.1.2 = .tc then {()} else ∅
abbrev lvl : GSem nD τ sig → Unit → ℕ := fun _ _ => 0

/-- What rides along beside the buffers: the core owes nothing. -/
abbrev Ride (c : Dev nD) : sProp 𝕄 := iprop(∃ Wd, owes (c : Thread nD τ) (0 : CellTallies nD τ sig Unit) Wd)

theorem cut (p : Fin 2) : Pipeline.LevelCut (pcfgs (F := F)) adm () Lv lvl p (fun _ => 0) (fun _ => 0) where
  hι c w s := by simp [Lv]
  hιb c w s := Nat.le_refl _
  hD c g i h := absurd h (Nat.lt_irrefl 0)

/-- The first call's region. -/
def reg0 : RegionSeg (pcfgs (F := F)) adm (pdats m) () defs₀ Variants.none Lv lvl 0 :=
  RegionSeg.ofHeldIn (pcfgs (F := F)) adm (pdats m) () defs₀ Variants.none Lv lvl 0 (fun _ => 0) (Pipeline.ucRefs τ sig)
    (fun _ => iprop(emp)) (fun _ => iprop(emp)) launch0.toP rfl (fun c => (body0 (W1 m c) c).loose) (fun _ _ => rfl) (fun _ => rfl)
    (fun c w => (dat0 (W1 m c) c).share_full (fun _ => rfl) w)
    (fun c => by show iprop(Pipeline.scopedRest spec0 c ∗ emp) ⊢ (Pipeline.scopedRest spec0 c : sProp 𝕄); iintro ⟨H, -⟩; iexact H)
    (fun c => by show (Pipeline.scopedRest spec0 c : sProp 𝕄) ⊢ iprop(Pipeline.scopedRest spec0 c ∗ emp); iintro H; isplitl [H]; (· iexact H); iempintro)
    (fun _ => 0) (cut 0) (fun _ => iprop(emp)) (W1 m) (fun c w => rfl)

/-- The attention call's region. -/
def reg1 : RegionSeg (pcfgs (F := F)) adm (pdats m) () defs₀ Variants.none Lv lvl 1 :=
  RegionSeg.ofHeldIn (pcfgs (F := F)) adm (pdats m) () defs₀ Variants.none Lv lvl 1 (fun _ => 0) (Pipeline.ucRefs τ sig)
    (fun _ => iprop(emp)) (fun _ => iprop(emp)) launch1.toP rfl (fun c => (body1 (W3 m c) c).loose) (fun _ _ => rfl) (fun _ => rfl)
    (fun c w => (dat1 (W3 m c) c).share_full (fun _ => rfl) w)
    (fun c => by show iprop(Pipeline.scopedRest spec1 c ∗ emp) ⊢ (Pipeline.scopedRest spec1 c : sProp 𝕄); iintro ⟨H, -⟩; iexact H)
    (fun c => by show (Pipeline.scopedRest spec1 c : sProp 𝕄) ⊢ iprop(Pipeline.scopedRest spec1 c ∗ emp); iintro H; isplitl [H]; (· iexact H); iempintro)
    (fun _ => 0) (cut 1) (fun _ => iprop(emp)) (W3 m) (fun c w => rfl)

theorem sub0 : Pipeline.arrRefs (τ := τ) ((pcfgs (F := F)) 0).spec ⊆ Pipeline.ucRefs τ sig := Pipeline.arrRefs_sub_ucRefs _ (show ∀ w, (Pipeline.arrRef spec0 w).isScoped = false by decide)
theorem sub1 : Pipeline.arrRefs (τ := τ) ((pcfgs (F := F)) 1).spec ⊆ Pipeline.ucRefs τ sig := Pipeline.arrRefs_sub_ucRefs _ (show ∀ w, (Pipeline.arrRef spec1 w).isScoped = false by decide)

theorem pre0 (c : Dev nD) : iprop(StableHlo.held (c : Thread nD τ) (Pipeline.ucRefs τ sig) (W1 m c) ∗ Ride c) ⊢ (reg0 m).pre c := by
  refine .trans ?_ (RegionSeg.ofHeldIn_pre sub0 c)
  iintro ⟨Hh, HO⟩
  isplitl [Hh]; · iexact Hh
  isplitl [HO]; · iexact HO
  isplitr <;> iempintro

theorem post0 (c : Dev nD) : (reg0 m).post c ⊢ iprop(StableHlo.held (c : Thread nD τ) (Pipeline.ucRefs τ sig) (W2 m c) ∗ Ride c) := by
  refine (RegionSeg.ofHeldIn_post sub0 c).trans ?_
  iintro ⟨Hh, HO, -⟩
  isplitl [Hh]; · iexact Hh
  iexact HO

theorem pre1 (c : Dev nD) : iprop(StableHlo.held (c : Thread nD τ) (Pipeline.ucRefs τ sig) (W3 m c) ∗ Ride c) ⊢ (reg1 m).pre c := by
  refine .trans ?_ (RegionSeg.ofHeldIn_pre sub1 c)
  iintro ⟨Hh, HO⟩
  isplitl [Hh]; · iexact Hh
  isplitl [HO]; · iexact HO
  isplitr <;> iempintro

theorem post1 (c : Dev nD) : (reg1 m).post c ⊢ iprop(StableHlo.held (c : Thread nD τ) (Pipeline.ucRefs τ sig) (W4 m c) ∗ Ride c) := by
  refine (RegionSeg.ofHeldIn_post sub1 c).trans ?_
  iintro ⟨Hh, HO, -⟩
  isplitl [Hh]; · iexact Hh
  iexact HO

/-- The program's items. -/
abbrev segs (c : Dev nD) : List (Seg (pcfgs (F := F)) adm (pdats m) () defs₀ Variants.none Lv lvl) :=
  [.host (HostSeg.ofOps _ _ _ _ _ (Pipeline.ucRefs τ sig) hostOps0
      (fun op h => Pipeline.sub_ucRefs op ((List.forall_iff_forall_mem.mp hostOps0_sub) op h))
      (fun op h => (List.forall_iff_forall_mem.mp hostOps0_fresh) op h) (W0 m) Ride),
   .region (reg0 m),
   .host (HostSeg.ofOps _ _ _ _ _ (Pipeline.ucRefs τ sig) hostOps1
      (fun op h => Pipeline.sub_ucRefs op ((List.forall_iff_forall_mem.mp hostOps1_sub) op h))
      (fun op h => (List.forall_iff_forall_mem.mp hostOps1_fresh) op h) (W2 m) Ride),
   .region (reg1 m),
   .host (HostSeg.ofOps _ _ _ _ _ (Pipeline.ucRefs τ sig) hostOps2
      (fun op h => Pipeline.sub_ucRefs op ((List.forall_iff_forall_mem.mp hostOps2_sub) op h))
      (fun op h => (List.forall_iff_forall_mem.mp hostOps2_fresh) op h) (W4 m) Ride)]

set_option backward.isDefEq.respectTransparency.types false in
/-- Every weakly fair execution ends with each buffer the program keeps at `W5`, and every semaphore counter at zero. -/
theorem whole : θ_run defs (onTc (τ := τ) (main (F := F))) ⟨m, fun _ => 0, ρ⟩ (fun r =>
    (∀ c : Dev nD, ∀ b ∈ Pipeline.ucRefs τ sig, r.2.mem ((c.tc : Thread nD τ).1, b) = W5 m c b) ∧ r.2.sem = fun _ => 0) := by
  refine Pipeline.θ_run_regions_kit_dev_sems (pcfgs (F := F)) adm (pdats m) () cellOf_inj emb₁ defs₀ Variants.none Lv lvl m ρ main
    (segs m)
    (fun c Q => by
      rewrite [main_chain c, Seg.run_eq_chain,
        show (segs m c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (O₀ := 0)
    (fun g h => if_neg h) (fun _ => iprop(emp))
    (initOf (Pipeline.cells (Pipeline.pin (pcfgs (F := F)) adm) cellOf_inj) (Pipeline.launchToks (Pipeline.pin (pcfgs (F := F)) adm) cellOf_inj))
    (by
      iintro Hu; imodintro
      isplitl [Hu]
      · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Ride c))
    (Tₙ := fun c => StableHlo.held (c : Thread nD τ) (Pipeline.ucRefs τ sig) (W5 m c))
    (hch := fun c => ⟨.rfl, pre0 m c, post0 m c, pre1 m c, post1 m c, sep_mono .rfl .rfl⟩)
    (hinit := ?_) (QY := fun c s => ∀ b ∈ Pipeline.ucRefs τ sig, s.mem ((c.tc : Thread nD τ).1, b) = W5 m c b)
    (hfin := fun c s' => ?_) (hQ := fun _ h hz => ⟨h, funext fun g => hz g (.inr (regions_no_unscoped g.2))⟩)
  · refine Pipeline.initEach Lv lvl fun c => ?_
    rw [show unscopedBufs c (fun b => m ((c : Thread nD τ).loc b)) = StableHlo.held (c : Thread nD τ) (Pipeline.ucRefs τ sig) (W0 m c) from Pipeline.unscopedBufs_held c (W0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (W5 m c) s') $$ [Hh HSI]
    · isplitl [Hh] <;> iassumption
    icases Hr with ⟨%h, HSI⟩
    imodintro
    isplitr
    · ipureintro; exact h
    · iexact HSI

/-- A buffer of the program that is not scoped is among the kept ones. -/
theorem mem_uc (r : Ref sig .tc) (h : r.isScoped = false) : (Proc.devRef .tc r : DevRef τ sig) ∈ Pipeline.ucRefs τ sig :=
  Finset.mem_filter.mpr ⟨StableHlo.devRef_mem_tcRefs r, fun h' => Bool.false_ne_true (h.symm.trans h')⟩

/-- A buffer nothing in the program writes is at the end as launched. -/
theorem W5_kept (c : Dev nD) (r : Ref sig .tc) (h0 : r ∉ hostOps0_W) (h1 : ∀ w, Pipeline.arrRef spec0 w = r → (cfg0.win w).isOut = false)
    (h2 : r ∉ hostOps1_W) (h3 : ∀ w, Pipeline.arrRef spec1 w = r → (cfg1.win w).isOut = false) (h4 : r ∉ hostOps2_W) : W5 m c r = m ((c : Thread nD τ).loc r) :=
  (W5_of m c r h4).trans <| (W4_of m c r h3).trans <| (W3_of m c r h2).trans <| (W2_of m c r h1).trans <| (W1_of m c r h0).trans rfl

/-- The frame: every weakly fair execution ends, with the arguments as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    ⟨(h.1 c _ (mem_uc main_arg0 rfl)).trans (W5_kept m c main_arg0 (by decide) (by decide) (by decide) (by decide) (by decide)),
     (h.1 c _ (mem_uc main_arg1 rfl)).trans (W5_kept m c main_arg1 (by decide) (by decide) (by decide) (by decide) (by decide)),
     (h.1 c _ (mem_uc main_arg2 rfl)).trans (W5_kept m c main_arg2 (by decide) (by decide) (by decide) (by decide) (by decide)),
     (h.1 c _ (mem_uc main_arg3 rfl)).trans (W5_kept m c main_arg3 (by decide) (by decide) (by decide) (by decide) (by decide)),
     (h.1 c _ (mem_uc main_arg4 rfl)).trans (W5_kept m c main_arg4 (by decide) (by decide) (by decide) (by decide) (by decide)),
     (h.1 c _ (mem_uc main_arg5 rfl)).trans (W5_kept m c main_arg5 (by decide) (by decide) (by decide) (by decide) (by decide))⟩, h.2⟩) (whole m ρ)

end Cert.Kernel.Regs

end
-- ==== Proof.Spec.lean ====
/- The mathematics of the problem over the extended reals, element by element: what both programs are shown to compute. -/
module

public import Idealize.ShloMosaic.Lib.Pointwise

@[expose] public section

noncomputable section

namespace Cert.Spec

open Idealize.ShloMosaic Idealize.ShloMosaic.Pointwise

/-- The pattern of minus infinity. -/
theorem ofBits_ninf : Ideal.ofBits .f32 0xFF800000#32 = ⊥ := by simp [Ideal.ofBits, Ideal.ieee]

/-- A maximum folded from minus infinity is a supremum. -/
theorem fold_max_iSup {ι : Type} [Fintype ι] (f : ι → EReal) : Finset.univ.fold max ⊥ f = ⨆ t, f t := by
  rw [← Finset.sup_univ_eq_iSup]; rfl

/-- The same over a set of indices. -/
theorem fold_max_sup {ι : Type} (S : Finset ι) (f : ι → EReal) : S.fold max ⊥ f = S.sup f := rfl

/-- Positions, one row for each of the three sections of frequencies. -/
abbrev VP := IVec ⟨3, ![3, 6, 2048]⟩ 32
/-- A projection with `n` heads. -/
abbrev VX (n : ℕ) := FVec Ideal ⟨4, ![6, 2048, n, 128]⟩ .bf16
/-- One scale per head. -/
abbrev VS (n : ℕ) := FVec Ideal ⟨1, ![n]⟩ .f32

theorem bc0 : (⟨0, ![]⟩ : Shape).BroadcastsInDim ⟨1, ![64]⟩ (![] : Fin 0 → Fin 1) := by decide

/-- The inverse frequencies, as the host computes them. -/
def invf : FVec Ideal ⟨1, ![64]⟩ .f32 :=
  Host.divf (broadcastInDim ⟨1, ![64]⟩ ![] bc0 (constant ⟨0, ![]⟩ .f32 0x3F800000#32))
    (Host.powf (broadcastInDim ⟨1, ![64]⟩ ![] bc0 (constant ⟨0, ![]⟩ .f32 0x49742400#32))
      (Host.divf (addf (broadcastInDim ⟨1, ![64]⟩ ![] bc0 (constant ⟨0, ![]⟩ .f32 0x00000000#32))
          (mulf (broadcastInDim ⟨1, ![64]⟩ ![] bc0 (constant ⟨0, ![]⟩ .f32 0x40000000#32))
            (sitofp .f32 (iotaInDim ⟨1, ![64]⟩ 32 0))))
        (broadcastInDim ⟨1, ![64]⟩ ![] bc0 (constant ⟨0, ![]⟩ .f32 0x43000000#32))))

/-- The section of positions that frequency `j` reads. -/
def sec (j : Fin 64) : Fin 3 := if j.val < 16 then 0 else if j.val < 40 then 1 else 2

/-- The angle of frequency `j` at token `s` of sequence `b`. -/
def ang (P : VP) (b : Fin 6) (s : Fin 2048) (j : Fin 64) : EReal :=
  FloatOps.sitofp (F := Ideal) .f32 (P (ix3 (sec j) b s)) * invf (ix1 j)

/-- Element `d` of a head vector after the rotation by the angles `a`. -/
def rotS (x : Fin 128 → EReal) (a : Fin 64 → EReal) (d : Fin 128) : EReal :=
  x d * Ideal.cos (a ⟨d.val % 64, Nat.mod_lt _ (by decide)⟩)
    + (if h : d.val < 64 then -x ⟨64 + d.val, by omega⟩ else x ⟨d.val - 64, by omega⟩)
      * Ideal.sin (a ⟨d.val % 64, Nat.mod_lt _ (by decide)⟩)

/-- The rotated projection. -/
def rot {n : ℕ} (X : VX n) (P : VP) (b : Fin 6) (s : Fin 2048) (h : Fin n) (d : Fin 128) : EReal :=
  rotS (fun e => X (ix4 b s h e)) (ang P b s) d

/-- The quantiser: scaled by the reciprocal of the head's scale and clipped to the range of the format. -/
def code {n : ℕ} (X : VX n) (P : VP) (S : VS n) (b : Fin 6) (s : Fin 2048) (h : Fin n) (d : Fin 128) : EReal :=
  min (Ideal.ofBits .f32 0x43E00000#32) (max (Ideal.ofBits .f32 0xC3E00000#32) (rot X P b s h d * Ideal.div 1 (S (ix1 h))))

/-- The largest magnitude of a head, from zero. -/
def amax {n : ℕ} (X : VX n) (P : VP) (h : Fin n) : EReal :=
  ⨆ b : Fin 6, ⨆ s : Fin 2048, ⨆ d : Fin 128, max (rot X P b s h d) (-rot X P b s h d)

/-- The key head that query head `h` reads. -/
def kvh (h : Fin 64) : Fin 4 := ⟨h.val / 16, by omega⟩

/-- The factor that takes the product of two codes to a score. -/
def coef (QS : VS 64) (KS : VS 4) (h : Fin 64) : EReal :=
  QS (ix1 h) * KS (ix1 (kvh h)) * Ideal.ofBits .f32 0x3DB504F3#32

section Attn

variable (Q : VX 64) (K V : VX 4) (P : VP) (QS : VS 64) (KS : VS 4)

/-- The score of key `t` for query `s`. -/
def score (b : Fin 6) (h : Fin 64) (s t : Fin 2048) : EReal :=
  (∑ d : Fin 128, code Q P QS b s h d * code K P KS b t (kvh h) d) * coef QS KS h

/-- The score, minus infinity for a key after the query. -/
def mscore (b : Fin 6) (h : Fin 64) (s t : Fin 2048) : EReal :=
  if t.val ≤ s.val then score Q K P QS KS b h s t else ⊥

/-- The largest score of a row. -/
def top (b : Fin 6) (h : Fin 64) (s : Fin 2048) : EReal := ⨆ t, mscore Q K P QS KS b h s t

/-- The weight of a key before the division. -/
def wt (b : Fin 6) (h : Fin 64) (s t : Fin 2048) : EReal :=
  Ideal.exp (mscore Q K P QS KS b h s t - top Q K P QS KS b h s)

/-- Element `d` of head `h` of the attention output at token `s`. -/
def attn (b : Fin 6) (s : Fin 2048) (h : Fin 64) (d : Fin 128) : EReal :=
  ∑ t, V (ix4 b t (kvh h) d) * Ideal.div (wt Q K P QS KS b h s t) (∑ u, wt Q K P QS KS b h s u)

end Attn

end Cert.Spec
-- ==== Proof.HostVal.lean ====
/- What the host operations before the first call leave, read at an index. -/
module

public import proofs.«01_k».proof.Proof.Spec
public import proofs.«01_k».proof.Proof.Run
public import Idealize.ShloMosaic.Lib.StableHlo.Run
public import Idealize.ShloMosaic.Lib.Pointwise

@[expose] public section

set_option maxRecDepth 16384

noncomputable section

namespace Cert.KernelIdeal.Val

open Idealize.ShloMosaic Idealize.ShloMosaic.TcCoe Idealize.ShloMosaic.Pointwise
open Cert.KernelIdeal Cert.KernelIdeal.Gen Cert.KernelIdeal.Regs Cert.Spec

variable (m : (ℓ : Loc nD τ sig) → Buf (Elt Ideal) ℓ) (c : Dev nD)

/-- The arguments. -/
abbrev aQ : VX 64 := m ((c.tc : Thread nD τ).loc main_arg0)
abbrev aK : VX 4 := m ((c.tc : Thread nD τ).loc main_arg1)
abbrev aV : VX 4 := m ((c.tc : Thread nD τ).loc main_arg2)
abbrev aP : VP := m ((c.tc : Thread nD τ).loc main_arg3)
abbrev aQS : VS 64 := m ((c.tc : Thread nD τ).loc main_arg4)
abbrev aKS : VS 4 := m ((c.tc : Thread nD τ).loc main_arg5)

theorem v19_eq : (W1 m c main_v19 : IVec S3x6x16x1x128 32) = shapeCast S3x6x16x1x128 (aP m c) shapeCasts_S3x6x2048_S3x6x16x1x128 := by
  unfold W1
  after_results
  rfl

theorem v20_eq : (W1 m c main_v20 : FVec Ideal S64x1 .f32) = broadcastInDim S64x1 ![0] bcast_S64_S64x1_0 invf := by
  unfold W1
  after_results
  rfl

theorem v14_eq : (W1 m c main_v14 : FVec Ideal S64x128 .f32) = broadcastInDim S64x128 ![0, 1] bcast_S64x1_S64x128_0_1
    (broadcastInDim S64x1 ![0] bcast_S64_S64x1_0 (Host.divf (broadcastInDim S64 ![] bcast_S_S64 (constant (F := Ideal) S_ .f32 0x3F800000#32)) (aQS m c))) := by
  unfold W1
  after_results
  rfl

theorem v18_eq : (W1 m c main_v18 : FVec Ideal S4x128 .f32) = broadcastInDim S4x128 ![0, 1] bcast_S4x1_S4x128_0_1
    (broadcastInDim S4x1 ![0] bcast_S4_S4x1_0 (Host.divf (broadcastInDim S4 ![] bcast_S_S4 (constant (F := Ideal) S_ .f32 0x3F800000#32)) (aKS m c))) := by
  unfold W1
  after_results
  rfl

theorem v21_eq : (W1 m c main_v21 : FVec Ideal S6x2048x512 .bf16) = shapeCast S6x2048x512 (aV m c) shapeCasts_S6x2048x4x128_S6x2048x512 := by
  unfold W1
  after_results
  rfl

theorem arg0_eq : (W1 m c main_arg0 : VX 64) = aQ m c := W1_of m c main_arg0 (by decide)
theorem arg1_eq : (W1 m c main_arg1 : VX 4) = aK m c := W1_of m c main_arg1 (by decide)

theorem v19_apply (e : Fin 3) (b : Fin 6) (i : Fin 16) (r : Fin 128) :
    (W1 m c main_v19 : IVec S3x6x16x1x128 32) (ix5 e b i 0 r) = aP m c (ix3 e b ⟨i.val * 128 + r.val, by omega⟩) := by
  rw [v19_eq]
  pointwise

theorem v20_apply (j : Fin 64) : (W1 m c main_v20 : FVec Ideal S64x1 .f32) (ix2 j 0) = invf (ix1 j) := by
  rw [v20_eq]
  pointwise

theorem v14_apply (h : Fin 64) (d : Fin 128) : (W1 m c main_v14 : FVec Ideal S64x128 .f32) (ix2 h d) = Ideal.div 1 (aQS m c (ix1 h)) := by
  rw [v14_eq]
  pointwise

theorem v18_apply (h : Fin 4) (d : Fin 128) : (W1 m c main_v18 : FVec Ideal S4x128 .f32) (ix2 h d) = Ideal.div 1 (aKS m c (ix1 h)) := by
  rw [v18_eq]
  pointwise

theorem v21_apply (b : Fin 6) (s : Fin 2048) (x : Fin 512) :
    (W1 m c main_v21 : FVec Ideal S6x2048x512 .bf16) (ix3 b s x) = aV m c (ix4 b s ⟨x.val / 128, by omega⟩ ⟨x.val % 128, Nat.mod_lt _ (by decide)⟩) := by
  rw [v21_eq]
  pointwise

end Cert.KernelIdeal.Val
-- ==== Proof.RopeVal.lean ====
/- The blocks of the first call at an index, over the extended reals: the rotation, the quantiser, the running maxima, and the
   copies by head, each from the input blocks of one grid point. -/
module

public import proofs.«01_k».proof.Proof.Spec
public import proofs.«01_k».proof.Proof.RopeTile
public import Idealize.ShloMosaic.Lib.Pipeline.ValueKit.Tiles

@[expose] public section

set_option maxRecDepth 16384

noncomputable section

namespace Cert.KernelIdeal.RopeVal

open Idealize.ShloMosaic Idealize.ShloMosaic.TcCoe Idealize.ShloMosaic.Pointwise
open Cert.KernelIdeal Cert.KernelIdeal.Gen Cert.KernelIdeal.Rope Cert.Spec Cert.Tiles

/-- Row `r` of trip `k`. -/
abbrev row (k : Fin 16) (r : Fin 8) : Fin 128 := ⟨8 * k.val + r.val, by omega⟩

theorem rowsQ_apply (X : Vec Ideal S1x128x64x128 .bf16) (k : Fin 16) (r : Fin 8) (h : Fin 64) (d : Fin 128) :
    rowsQ X k (ix4 0 r h d) = X (ix4 0 (row k r) h d) := by
  refine View.ld_unit_apply_of (Val := Elt Ideal) (e := .bf16) X _ _ _ _ _ fun a => ?_
  match a with
  | 0 => rfl
  | 1 => rfl
  | 2 => exact (Nat.zero_add _).symm
  | 3 => exact (Nat.zero_add _).symm

theorem rowsK_apply (X : Vec Ideal S1x128x4x128 .bf16) (k : Fin 16) (r : Fin 8) (h : Fin 4) (d : Fin 128) :
    rowsK X k (ix4 0 r h d) = X (ix4 0 (row k r) h d) := by
  refine View.ld_unit_apply_of (Val := Elt Ideal) (e := .bf16) X _ _ _ _ _ fun a => ?_
  match a with
  | 0 => rfl
  | 1 => rfl
  | 2 => exact (Nat.zero_add _).symm
  | 3 => exact (Nat.zero_add _).symm

theorem rowsT_apply (X : Vec Ideal S128x128 .f32) (k : Fin 16) (r : Fin 8) (d : Fin 128) :
    rowsT X k (ix2 r d) = X (ix2 (row k r) d) := by
  refine View.ld_unit_apply_of (Val := Elt Ideal) (e := .f32) X _ _ _ _ _ fun a => ?_
  match a with
  | 0 => rfl
  | 1 => exact (Nat.zero_add _).symm

/-- The angle of frequency `j` at row `r` of a block. -/
def bang (X0 : Vec Ideal S3x1x1x1x128 .i32) (X1 : Vec Ideal S64x1 .f32) (r : Fin 128) (j : Fin 64) : EReal :=
  FloatOps.sitofp (F := Ideal) .f32 (X0 (ix5 (sec j) 0 0 0 r)) * X1 (ix2 j 0)

theorem pay16_apply (X0 : Vec Ideal S3x1x1x1x128 .i32) (X1 : Vec Ideal S64x1 .f32) (j : Fin 64) (r : Fin 128) :
    k0_pay16 X0 X1 (ix2 j r) = bang X0 X1 r j := by
  unfold k0_pay16
  pointwise [bang, sec]
  by_cases h1 : j.val < 16
  · simp [h1]
  · by_cases h2 : j.val < 40
    · have : j.val - 16 < 24 := by omega
      simp [h1, h2, this]
    · have : ¬ j.val - 16 < 24 := by omega
      simp [h1, h2, this]

/-- The table of cosines. -/
theorem pay17_apply (X0 : Vec Ideal S3x1x1x1x128 .i32) (X1 : Vec Ideal S64x1 .f32) (r d : Fin 128) :
    k0_pay17 X0 X1 (ix2 r d) = Ideal.cos (bang X0 X1 r ⟨d.val % 64, Nat.mod_lt _ (by decide)⟩) := by
  unfold k0_pay17
  pointwise [pay16_apply]
  have e : d.val % 64 = if d.val < 64 then d.val else d.val - 64 := by have := d.isLt; split <;> omega
  by_cases hd : d.val < 64 <;> simp [hd, e]

/-- The table of signed sines. -/
theorem pay18_apply (X0 : Vec Ideal S3x1x1x1x128 .i32) (X1 : Vec Ideal S64x1 .f32) (r d : Fin 128) :
    k0_pay18 X0 X1 (ix2 r d) = if d.val < 64 then 0 - Ideal.sin (bang X0 X1 r ⟨d.val % 64, Nat.mod_lt _ (by decide)⟩)
      else Ideal.sin (bang X0 X1 r ⟨d.val % 64, Nat.mod_lt _ (by decide)⟩) := by
  unfold k0_pay18
  pointwise [pay16_apply]
  have e : d.val % 64 = if d.val < 64 then d.val else d.val - 64 := by have := d.isLt; split <;> omega
  by_cases hd : d.val < 64 <;> simp [hd, e]

/-- The kernel's spelling of the rotation. -/
theorem rot_fold (x : Fin 128 → EReal) (a : Fin 64 → EReal) (d : Fin 128) (p : (d.val + 64) % 128 < 128) :
    x d * Ideal.cos (a ⟨d.val % 64, Nat.mod_lt _ (by decide)⟩) + x ⟨(d.val + 64) % 128, p⟩ *
      (if d.val < 64 then 0 - Ideal.sin (a ⟨d.val % 64, Nat.mod_lt _ (by decide)⟩) else Ideal.sin (a ⟨d.val % 64, Nat.mod_lt _ (by decide)⟩))
      = rotS x a d := by
  unfold rotS
  have hd' := d.isLt
  congr 1
  by_cases hd : d.val < 64
  · rw [if_pos hd, dif_pos hd, zero_sub, mul_neg, ← neg_mul]
    have : (⟨(d.val + 64) % 128, p⟩ : Fin 128) = ⟨64 + d.val, by omega⟩ := Fin.ext (by show (d.val + 64) % 128 = 64 + d.val; omega)
    rw [this]
  · rw [if_neg hd, dif_neg hd]
    have : (⟨(d.val + 64) % 128, p⟩ : Fin 128) = ⟨d.val - 64, by omega⟩ := Fin.ext (by show (d.val + 64) % 128 = d.val - 64; omega)
    rw [this]

section Blocks

variable (X0 : Vec Ideal S3x1x1x1x128 .i32) (X1 : Vec Ideal S64x1 .f32) (X2 : Vec Ideal S64x128 .f32) (X3 : Vec Ideal S4x128 .f32)
  (X4 : Vec Ideal S1x128x64x128 .bf16) (X5 : Vec Ideal S1x128x4x128 .bf16) (X6 : Vec Ideal S1x128x512 .bf16)

/-- The rotated queries and keys of a block. -/
def brQ (r : Fin 128) (h : Fin 64) (d : Fin 128) : EReal := rotS (fun e => X4 (ix4 0 r h e)) (bang X0 X1 r) d
def brK (r : Fin 128) (h : Fin 4) (d : Fin 128) : EReal := rotS (fun e => X5 (ix4 0 r h e)) (bang X0 X1 r) d

/-- The clip to the range of the format. -/
def clip (x : EReal) : EReal := min (Ideal.ofBits .f32 0x43E00000#32) (max (Ideal.ofBits .f32 0xC3E00000#32) x)

theorem pay2_apply (k : Fin 16) (r : Fin 8) (h : Fin 64) (d : Fin 128) :
    k0_pay2 (rowsQ X4 k) (rowsT (k0_pay17 X0 X1) k) (rowsT (k0_pay18 X0 X1) k) (ix3 r h d) = brQ X0 X1 X4 (row k r) h d := by
  unfold k0_pay2
  pointwise [rowsQ_apply, rowsT_apply, pay17_apply, pay18_apply]
  exact rot_fold (fun e => X4 (ix4 0 (row k r) h e)) (bang X0 X1 (row k r)) d _

theorem pay19_apply (k : Fin 16) (r : Fin 8) (h : Fin 4) (d : Fin 128) :
    k0_pay19 (k0_pay11 (rowsK X5 k) (rowsT (k0_pay17 X0 X1) k)) (k0_pay12 (rowsK X5 k)) (k0_pay13 (rowsT (k0_pay18 X0 X1) k)) (ix3 r h d)
      = brK X0 X1 X5 (row k r) h d := by
  unfold k0_pay19 k0_pay11 k0_pay12 k0_pay13 k0_pay10
  pointwise [rowsK_apply, rowsT_apply, pay17_apply, pay18_apply]
  exact rot_fold (fun e => X5 (ix4 0 (row k r) h e)) (bang X0 X1 (row k r)) d _

theorem pay4_apply (k : Fin 16) (r : Fin 8) (h : Fin 64) (d : Fin 128) :
    k0_pay4 (rowsQ X4 k) (rowsT (k0_pay17 X0 X1) k) (rowsT (k0_pay18 X0 X1) k) X2 (ix3 r h d)
      = clip (brQ X0 X1 X4 (row k r) h d * X2 (ix2 h d)) := by
  unfold k0_pay4
  pointwise [pay2_apply, clip]

theorem row_blk (r : Fin 128) (p : r.val % 8 < 8) : row (blk8 r) ⟨r.val % 8, p⟩ = r :=
  Fin.ext (by show 8 * (r.val / 8) + r.val % 8 = r.val; omega)

theorem qcBlk_apply (r : Fin 128) (h : Fin 64) (d : Fin 128) :
    qcBlk (k0_pay17 X0 X1) (k0_pay18 X0 X1) X2 X4 (ix4 0 r h d) = clip (brQ X0 X1 X4 r h d * X2 (ix2 h d)) := by
  have e : inQ (ix4 0 r h d) = ix4 0 ⟨r.val % 8, Nat.mod_lt _ (by decide)⟩ h d := by
    funext a
    match a with
    | 0 => rfl
    | 1 => rfl
    | 2 => rfl
    | 3 => rfl
  show k0_pay5 (rowsQ X4 (blk8 r)) (rowsT _ (blk8 r)) (rowsT _ (blk8 r)) X2 (inQ (ix4 0 r h d)) = _
  rw [e]
  unfold k0_pay5
  pointwise [pay4_apply]
  rw [row_blk]

theorem kcBlk_apply (r : Fin 128) (h : Fin 4) (d : Fin 128) :
    kcBlk (k0_pay17 X0 X1) (k0_pay18 X0 X1) X3 X5 (ix4 0 r h d) = clip (brK X0 X1 X5 r h d * X3 (ix2 h d)) := by
  have e : inK (ix4 0 r h d) = ix4 0 ⟨r.val % 8, Nat.mod_lt _ (by decide)⟩ h d := by
    funext a
    match a with
    | 0 => rfl
    | 1 => rfl
    | 2 => rfl
    | 3 => rfl
  show kPay _ _ X3 X5 (blk8 r) (inK (ix4 0 r h d)) = _
  rw [e]
  unfold kPay k0_pay21
  pointwise [pay19_apply, clip]
  rw [row_blk]

theorem qtBlk_apply (g : Fin 4) (r : Fin 128) (x : Fin 16) (d : Fin 128) :
    qtBlk (k0_pay17 X0 X1) (k0_pay18 X0 X1) X2 X4 (ix5 0 g r x d)
      = clip (brQ X0 X1 X4 r ⟨g.val * 16 + x.val, by omega⟩ d * X2 (ix2 ⟨g.val * 16 + x.val, by omega⟩ d)) := by
  have e : inT (ix5 0 g r x d) = ix5 0 0 ⟨r.val % 8, Nat.mod_lt _ (by decide)⟩ x d := by
    funext a
    match a with
    | 0 => rfl
    | 1 => rfl
    | 2 => rfl
    | 3 => rfl
    | 4 => rfl
  show qtPiece (k0_pay4 (rowsQ X4 (blk8 r)) (rowsT _ (blk8 r)) (rowsT _ (blk8 r)) X2) g (inT (ix5 0 g r x d)) = _
  rw [e]
  have key : ∀ (v : FVec Ideal S8x64x128 .fp8e4m3) (q : Fin 8), qtPiece v g (ix5 0 0 q x d) = v (ix3 q ⟨g.val * 16 + x.val, by omega⟩ d) := by
    intro v q
    match g with
    | 0 => unfold qtPiece k0_pay6; pointwise
    | 1 => unfold qtPiece k0_pay7; pointwise
    | 2 => unfold qtPiece k0_pay8; pointwise
    | 3 => unfold qtPiece k0_pay9; pointwise
  rw [key, pay4_apply, row_blk]

theorem headK_apply (X : Vec Ideal S1x128x4x128 .fp8e4m3) (h : Fin 4) (r d : Fin 128) :
    headK X h (ix4 0 r 0 d) = X (ix4 0 r h d) := by
  refine View.ld_unit_apply_of (Val := Elt Ideal) (e := .fp8e4m3) X _ _ _ _ _ fun a => ?_
  match a with
  | 0 => rfl
  | 1 => exact (Nat.zero_add _).symm
  | 2 => rfl
  | 3 => exact (Nat.zero_add _).symm

theorem headV_apply (h : Fin 4) (r d : Fin 128) :
    headV X6 h (ix3 0 r d) = X6 (ix3 0 r ⟨128 * h.val + d.val, by omega⟩) := by
  refine View.ld_unit_apply_of (Val := Elt Ideal) (e := .bf16) X6 _ _ _ _ _ fun a => ?_
  match a with
  | 0 => rfl
  | 1 => exact (Nat.zero_add _).symm
  | 2 => rfl

theorem inH_ix (h : Fin 4) (r d : Fin 128) : inH (ix4 0 h r d) = ix4 0 0 r d := by
  funext a
  match a with
  | 0 => rfl
  | 1 => rfl
  | 2 => rfl
  | 3 => rfl

theorem ktBlk_apply (X : Vec Ideal S1x128x4x128 .fp8e4m3) (h : Fin 4) (r d : Fin 128) :
    ktBlk X (ix4 0 h r d) = X (ix4 0 r h d) := by
  show ktPiece X h (inH (ix4 0 h r d)) = _
  rw [inH_ix]
  match h with
  | 0 => unfold ktPiece k0_pay22; pointwise [headK_apply]
  | 1 => unfold ktPiece k0_pay24; pointwise [headK_apply]
  | 2 => unfold ktPiece k0_pay27; pointwise [headK_apply]
  | 3 => unfold ktPiece k0_pay29; pointwise [headK_apply]

theorem vtBlk_apply (h : Fin 4) (d r : Fin 128) :
    vtBlk X6 (ix4 0 h d r) = X6 (ix3 0 r ⟨128 * h.val + d.val, by omega⟩) := by
  show vtPiece X6 h (inH (ix4 0 h d r)) = _
  rw [inH_ix]
  match h with
  | 0 => unfold vtPiece k0_pay23; pointwise [headV_apply]
  | 1 => unfold vtPiece k0_pay26 k0_pay25; pointwise [headV_apply]
  | 2 => unfold vtPiece k0_pay28; pointwise [headV_apply]
  | 3 => unfold vtPiece k0_pay1 k0_pay30; pointwise [headV_apply]

/-- A magnitude. -/
abbrev mag (x : EReal) : EReal := max x (-x)

theorem pay3_apply (k : Fin 16) (acc : Vec Ideal S64x128 .f32) (h : Fin 64) (d : Fin 128) :
    k0_pay3 (rowsQ X4 k) (rowsT (k0_pay17 X0 X1) k) (rowsT (k0_pay18 X0 X1) k) acc (ix2 h d)
      = max (acc (ix2 h d)) (⨆ r : Fin 8, mag (brQ X0 X1 X4 (row k r) h d)) := by
  have e : ∀ r : Fin 8, reduces_S8x64x128_S64x128.lift (ix2 h d) r = ix3 r h d := fun r => by
    funext c
    match c with
    | 0 => rfl
    | 1 => rfl
    | 2 => rfl
  have e1 : shapeCast S64x128 acc shapeCasts_S64x128_S64x128 (ix2 h d) = acc (ix2 h d) := by pointwise
  unfold k0_pay3
  refine (show _ = @max EReal _ (shapeCast S64x128 acc shapeCasts_S64x128_S64x128 (ix2 h d)) (multiReduction (F := Ideal) (φ := .f32) .maximumf [0] S64x128
    (absf (k0_pay2 (rowsQ X4 k) (rowsT (k0_pay17 X0 X1) k) (rowsT (k0_pay18 X0 X1) k))) 0xFF800000#32 reduces_S8x64x128_S64x128 (.inl rfl) rfl (ix2 h d)) from rfl).trans ?_
  refine congrArg₂ (@max EReal _) e1 ((Ideal.multiReduction_maximumf_single _ _ _ _ _ _).trans ?_)
  refine (congrArg (fun z => Finset.fold max z _ Finset.univ) ofBits_ninf).trans ((fold_max_iSup _).trans (iSup_congr fun r => ?_))
  show mag (k0_pay2 (F := Ideal) _ _ _ (reduces_S8x64x128_S64x128.lift (ix2 h d) r)) = _
  exact congrArg mag ((congrArg _ (e r)).trans (pay2_apply X0 X1 X4 k r h d))

theorem pay20_apply (k : Fin 16) (acc : Vec Ideal S4x128 .f32) (h : Fin 4) (d : Fin 128) :
    k0_pay20 (k0_pay11 (rowsK X5 k) (rowsT (k0_pay17 X0 X1) k)) (k0_pay12 (rowsK X5 k)) (k0_pay13 (rowsT (k0_pay18 X0 X1) k)) acc (ix2 h d)
      = max (acc (ix2 h d)) (⨆ r : Fin 8, mag (brK X0 X1 X5 (row k r) h d)) := by
  have e : ∀ r : Fin 8, reduces_S8x4x128_S4x128.lift (ix2 h d) r = ix3 r h d := fun r => by
    funext c
    match c with
    | 0 => rfl
    | 1 => rfl
    | 2 => rfl
  have e1 : shapeCast S4x128 acc shapeCasts_S4x128_S4x128 (ix2 h d) = acc (ix2 h d) := by pointwise
  unfold k0_pay20
  refine (show _ = @max EReal _ (shapeCast S4x128 acc shapeCasts_S4x128_S4x128 (ix2 h d)) (multiReduction (F := Ideal) (φ := .f32) .maximumf [0] S4x128
    (absf (k0_pay19 (k0_pay11 (rowsK X5 k) (rowsT (k0_pay17 X0 X1) k)) (k0_pay12 (rowsK X5 k)) (k0_pay13 (rowsT (k0_pay18 X0 X1) k))))
    0xFF800000#32 reduces_S8x4x128_S4x128 (.inl rfl) rfl (ix2 h d)) from rfl).trans ?_
  refine congrArg₂ (@max EReal _) e1 ((Ideal.multiReduction_maximumf_single _ _ _ _ _ _).trans ?_)
  refine (congrArg (fun z => Finset.fold max z _ Finset.univ) ofBits_ninf).trans ((fold_max_iSup _).trans (iSup_congr fun r => ?_))
  show mag (k0_pay19 (F := Ideal) _ _ _ (reduces_S8x4x128_S4x128.lift (ix2 h d) r)) = _
  exact congrArg mag ((congrArg _ (e r)).trans (pay19_apply X0 X1 X5 k r h d))

/-- Repeated maxima: the start against the largest of all. -/
theorem accN_max {I : Type} (step : ℕ → (I → EReal) → I → EReal) (i : I) (f : ℕ → EReal)
    (hs : ∀ n a, step n a i = max (a i) (f n)) (n : ℕ) (a : I → EReal) : accN step n a i = max (a i) ((Finset.range n).sup f) := by
  induction n with
  | zero => exact (max_eq_left bot_le).symm
  | succ n ih =>
    show step n (accN step n a) i = _
    rw [hs, ih, Finset.range_add_one, Finset.sup_insert, max_assoc, max_comm (f n)]

/-- The largest of 128 rows, taken by trips of eight. -/
theorem sup_trips (f : Fin 128 → EReal) :
    (Finset.range 16).sup (fun n => ⨆ r : Fin 8, f (row (Fin.ofNat 16 n) r)) = ⨆ r, f r := by
  apply le_antisymm
  · exact Finset.sup_le fun n _ => iSup_le fun r => le_iSup f _
  · refine iSup_le fun r => ?_
    have e : row (Fin.ofNat 16 (r.val / 8)) ⟨r.val % 8, Nat.mod_lt _ (by decide)⟩ = r :=
      Fin.ext (by show 8 * (r.val / 8 % 16) + r.val % 8 = r.val; omega)
    refine le_trans ?_ (Finset.le_sup (b := r.val / 8) (Finset.mem_range.mpr (by omega)))
    conv_lhs => rw [← e]
    exact le_iSup (fun q : Fin 8 => f (row (Fin.ofNat 16 (r.val / 8)) q)) _

theorem qaN_apply (acc : Vec Ideal S64x128 .f32) (h : Fin 64) (d : Fin 128) :
    accN (qaStep (k0_pay17 X0 X1) (k0_pay18 X0 X1) X4) 16 acc (ix2 h d)
      = max (acc (ix2 h d)) (⨆ r : Fin 128, mag (brQ X0 X1 X4 r h d)) :=
  (accN_max _ (ix2 h d) _ (fun n a => pay3_apply X0 X1 X4 (Fin.ofNat 16 n) a h d) 16 acc).trans
    (congrArg (max (acc (ix2 h d))) (sup_trips fun r => mag (brQ X0 X1 X4 r h d)))

theorem kaN_apply (acc : Vec Ideal S4x128 .f32) (h : Fin 4) (d : Fin 128) :
    accN (kaStep (k0_pay17 X0 X1) (k0_pay18 X0 X1) X5) 16 acc (ix2 h d)
      = max (acc (ix2 h d)) (⨆ r : Fin 128, mag (brK X0 X1 X5 r h d)) :=
  (accN_max _ (ix2 h d) _ (fun n a => pay20_apply X0 X1 X5 (Fin.ofNat 16 n) a h d) 16 acc).trans
    (congrArg (max (acc (ix2 h d))) (sup_trips fun r => mag (brK X0 X1 X5 r h d)))

end Blocks

end Cert.KernelIdeal.RopeVal
-- ==== Proof.RopeArr.lean ====
/- The arrays the first call leaves, as functions of the arguments. -/
module

public import proofs.«01_k».proof.Proof.HostVal
public import proofs.«01_k».proof.Proof.RopeVal
public import Idealize.ShloMosaic.Lib.Pipeline.ValueKit.Geometry
public import Idealize.ShloMosaic.Lib.Pipeline.Kit

@[expose] public section

set_option maxRecDepth 16384

noncomputable section

namespace Cert.KernelIdeal.Val

open Idealize.ShloMosaic Idealize.ShloMosaic.TcCoe Idealize.ShloMosaic.Pointwise
open Cert.KernelIdeal Cert.KernelIdeal.Gen Cert.KernelIdeal.Regs Cert.KernelIdeal.Rope Cert.KernelIdeal.RopeVal Cert.Spec Cert.Tiles

variable (m : (ℓ : Loc nD τ sig) → Buf (Elt Ideal) ℓ) (c : Dev nD)

/-- The sequence and the block of rows of a grid point. -/
abbrev bt (t : Fin cfg0.N) : Fin 6 := grid0.coords t 0
abbrev it (t : Fin cfg0.N) : Fin 16 := grid0.coords t 1

theorem e0 : ∀ t : Fin cfg0.N, win0_0.index t = ![0, (grid0.coords t 0).val, (grid0.coords t 1).val, 0, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![(grid0.coords t 0).val, (grid0.coords t 1).val, 0, 0] := (by decide +kernel : ∀ t : Fin grid0.N, _)
theorem e5 : ∀ t : Fin cfg0.N, win0_5.index t = ![(grid0.coords t 0).val, (grid0.coords t 1).val, 0, 0] := (by decide +kernel : ∀ t : Fin grid0.N, _)
theorem e6 : ∀ t : Fin cfg0.N, win0_6.index t = ![(grid0.coords t 0).val, (grid0.coords t 1).val, 0] := (by decide +kernel : ∀ t : Fin grid0.N, _)
theorem e7 : ∀ t : Fin cfg0.N, win0_7.index t = ![(grid0.coords t 0).val, (grid0.coords t 1).val, 0, 0] := (by decide +kernel : ∀ t : Fin grid0.N, _)
theorem e8 : ∀ t : Fin cfg0.N, win0_8.index t = ![(grid0.coords t 0).val, 0, (grid0.coords t 1).val, 0, 0] := (by decide +kernel : ∀ t : Fin grid0.N, _)
theorem e9 : ∀ t : Fin cfg0.N, win0_9.index t = ![(grid0.coords t 0).val, (grid0.coords t 1).val, 0, 0] := (by decide +kernel : ∀ t : Fin grid0.N, _)
theorem e10 : ∀ t : Fin cfg0.N, win0_10.index t = ![(grid0.coords t 0).val, 0, (grid0.coords t 1).val, 0] := (by decide +kernel : ∀ t : Fin grid0.N, _)
theorem e11 : ∀ t : Fin cfg0.N, win0_11.index t = ![(grid0.coords t 0).val, 0, 0, (grid0.coords t 1).val] := (by decide +kernel : ∀ t : Fin grid0.N, _)

theorem e12 : ∀ t : Fin cfg0.N, win0_12.index t = ![0, 0] := (by decide +kernel : ∀ t : Fin grid0.N, _)
theorem e13 : ∀ t : Fin cfg0.N, win0_13.index t = ![0, 0] := (by decide +kernel : ∀ t : Fin grid0.N, _)

/-- Row `r` of block `i`. -/
abbrev tok (i : Fin 16) (r : Fin 128) : Fin 2048 := ⟨i.val * 128 + r.val, by omega⟩

theorem blk0_0 (t : Fin cfg0.N) (e : Fin 3) (r : Fin 128) :
    (iblk0 (W1 m c) 0 t : Vec Ideal S3x1x1x1x128 .i32) (ix5 e 0 0 0 r) = aP m c (ix3 e (bt t) (tok (it t) r)) := by
  refine Eq.trans ?_ (v19_apply m c e (bt t) (it t) r)
  unfold iblk0
  blk_simp
  refine congrArg _ ?_
  blk_ext [e0] <;> rfl

theorem blk0_1 (t : Fin cfg0.N) (j : Fin 64) : (iblk0 (W1 m c) 1 t : Vec Ideal S64x1 .f32) (ix2 j 0) = invf (ix1 j) := by
  refine Eq.trans ?_ (v20_apply m c j)
  unfold iblk0
  blk_simp
  refine congrArg _ ?_
  blk_ext [e1]

theorem blk0_2 (t : Fin cfg0.N) (h : Fin 64) (d : Fin 128) :
    (iblk0 (W1 m c) 2 t : Vec Ideal S64x128 .f32) (ix2 h d) = Ideal.div 1 (aQS m c (ix1 h)) := by
  refine Eq.trans ?_ (v14_apply m c h d)
  unfold iblk0
  blk_simp
  refine congrArg _ ?_
  blk_ext [e2]

theorem blk0_3 (t : Fin cfg0.N) (h : Fin 4) (d : Fin 128) :
    (iblk0 (W1 m c) 3 t : Vec Ideal S4x128 .f32) (ix2 h d) = Ideal.div 1 (aKS m c (ix1 h)) := by
  refine Eq.trans ?_ (v18_apply m c h d)
  unfold iblk0
  blk_simp
  refine congrArg _ ?_
  blk_ext [e3]

theorem blk0_4 (t : Fin cfg0.N) (r : Fin 128) (h : Fin 64) (d : Fin 128) :
    (iblk0 (W1 m c) 4 t : Vec Ideal S1x128x64x128 .bf16) (ix4 0 r h d) = aQ m c (ix4 (bt t) (tok (it t) r) h d) := by
  refine Eq.trans ?_ (congrFun (arg0_eq m c) _)
  unfold iblk0
  blk_simp
  refine congrArg _ ?_
  blk_ext [e4] <;> rfl

theorem blk0_5 (t : Fin cfg0.N) (r : Fin 128) (h : Fin 4) (d : Fin 128) :
    (iblk0 (W1 m c) 5 t : Vec Ideal S1x128x4x128 .bf16) (ix4 0 r h d) = aK m c (ix4 (bt t) (tok (it t) r) h d) := by
  refine Eq.trans ?_ (congrFun (arg1_eq m c) _)
  unfold iblk0
  blk_simp
  refine congrArg _ ?_
  blk_ext [e5] <;> rfl

theorem blk0_6 (t : Fin cfg0.N) (r : Fin 128) (x : Fin 512) :
    (iblk0 (W1 m c) 6 t : Vec Ideal S1x128x512 .bf16) (ix3 0 r x)
      = aV m c (ix4 (bt t) (tok (it t) r) ⟨x.val / 128, by omega⟩ ⟨x.val % 128, Nat.mod_lt _ (by decide)⟩) := by
  refine Eq.trans ?_ (v21_apply m c (bt t) (tok (it t) r) x)
  unfold iblk0
  blk_simp
  refine congrArg _ ?_
  blk_ext [e6] <;> rfl

/-- The angles of a block, and its rotated queries and keys. -/
theorem bang_eq (t : Fin cfg0.N) (r : Fin 128) :
    bang (iblk0 (W1 m c) 0 t) (iblk0 (W1 m c) 1 t) r = ang (aP m c) (bt t) (tok (it t) r) := by
  funext j
  unfold bang ang
  rw [blk0_0, blk0_1]

theorem brQ_eq (t : Fin cfg0.N) (r : Fin 128) (h : Fin 64) (d : Fin 128) :
    brQ (iblk0 (W1 m c) 0 t) (iblk0 (W1 m c) 1 t) (iblk0 (W1 m c) 4 t) r h d = rot (aQ m c) (aP m c) (bt t) (tok (it t) r) h d := by
  unfold brQ rot
  rw [bang_eq]
  simp only [blk0_4]

theorem brK_eq (t : Fin cfg0.N) (r : Fin 128) (h : Fin 4) (d : Fin 128) :
    brK (iblk0 (W1 m c) 0 t) (iblk0 (W1 m c) 1 t) (iblk0 (W1 m c) 5 t) r h d = rot (aK m c) (aP m c) (bt t) (tok (it t) r) h d := by
  unfold brK rot
  rw [bang_eq]
  simp only [blk0_5]

/-- The blocks the body leaves, in terms of the arguments. -/
theorem qc_pt (t : Fin cfg0.N) (r : Fin 128) (h : Fin 64) (d : Fin 128) :
    qcBlk (cosAt (W1 m c) t) (sinAt (W1 m c) t) (iblk0 (W1 m c) 2 t) (iblk0 (W1 m c) 4 t) (ix4 0 r h d)
      = code (aQ m c) (aP m c) (aQS m c) (bt t) (tok (it t) r) h d := by
  unfold cosAt sinAt
  rw [qcBlk_apply, brQ_eq, blk0_2]
  rfl

theorem qt_pt (t : Fin cfg0.N) (g : Fin 4) (r : Fin 128) (x : Fin 16) (d : Fin 128) :
    qtBlk (cosAt (W1 m c) t) (sinAt (W1 m c) t) (iblk0 (W1 m c) 2 t) (iblk0 (W1 m c) 4 t) (ix5 0 g r x d)
      = code (aQ m c) (aP m c) (aQS m c) (bt t) (tok (it t) r) ⟨g.val * 16 + x.val, by omega⟩ d := by
  unfold cosAt sinAt
  rw [qtBlk_apply, brQ_eq, blk0_2]
  rfl

theorem kc_pt (t : Fin cfg0.N) (r : Fin 128) (h : Fin 4) (d : Fin 128) :
    kcBlk (cosAt (W1 m c) t) (sinAt (W1 m c) t) (iblk0 (W1 m c) 3 t) (iblk0 (W1 m c) 5 t) (ix4 0 r h d)
      = code (aK m c) (aP m c) (aKS m c) (bt t) (tok (it t) r) h d := by
  unfold cosAt sinAt
  rw [kcBlk_apply, brK_eq, blk0_3]
  rfl

theorem vt_pt (t : Fin cfg0.N) (h : Fin 4) (d r : Fin 128) :
    vtBlk (iblk0 (W1 m c) 6 t) (ix4 0 h d r) = aV m c (ix4 (bt t) (tok (it t) r) h d) := by
  rw [vtBlk_apply, blk0_6]
  refine congrArg (aV m c) ?_
  have h1 : (128 * h.val + d.val) / 128 = h.val := by omega
  have h2 : (128 * h.val + d.val) % 128 = d.val := by omega
  simp only [h1, h2]

/-- The array of query codes. -/
def Gqc : FVec Ideal S6x2048x64x128 .fp8e4m3 := fun i => code (aQ m c) (aP m c) (aQS m c) (i 0) (i 1) (i 2) (i 3)

theorem w2_qc : (W2 m c main_v22_0 : FVec Ideal S6x2048x64x128 .fp8e4m3) = Gqc m c := by
  unfold W2
  refine (Pipeline.afterRegion_arr _ _ launch0.win.arr_inj 7).trans ?_
  refine (dat0 (W1 m c) c).arrAt_eq_of_covers 7 _ (by decide +kernel) fun t hf y => ?_
  blk_simp
  obtain ⟨u, r, h, d, rfl⟩ : ∃ (u : Fin 1) (r : Fin 128) (h : Fin 64) (d : Fin 128), y = ix4 u r h d := ⟨y 0, y 1, y 2, y 3, eq_ix4 y⟩
  obtain rfl : u = 0 := Subsingleton.elim _ _
  have e : (win0_7.blk t).view.emb (ix4 0 r h d : S1x128x64x128.Idx) = ix4 (bt t) (tok (it t) r) h d := by
    blk_ext [e7] <;> rfl
  refine Eq.trans ?_ (congrArg (Gqc m c) e).symm
  exact qc_pt m c t r h d

/-- The query codes by key head. -/
def Gqt : FVec Ideal S6x4x2048x16x128 .fp8e4m3 := fun i => code (aQ m c) (aP m c) (aQS m c) (i 0) (i 2) ⟨(i 1).val * 16 + (i 3).val, by
  have h1 : (i 1).val < 4 := (i 1).isLt
  have h2 : (i 3).val < 16 := (i 3).isLt
  omega⟩ (i 4)

theorem w2_qt : (W2 m c main_v22_1 : FVec Ideal S6x4x2048x16x128 .fp8e4m3) = Gqt m c := by
  unfold W2
  refine (Pipeline.afterRegion_arr _ _ launch0.win.arr_inj 8).trans ?_
  refine (dat0 (W1 m c) c).arrAt_eq_of_covers 8 _ (by decide +kernel) fun t hf y => ?_
  blk_simp
  obtain ⟨u, g, r, x, d, rfl⟩ : ∃ (u : Fin 1) (g : Fin 4) (r : Fin 128) (x : Fin 16) (d : Fin 128), y = ix5 u g r x d := ⟨y 0, y 1, y 2, y 3, y 4, eq_ix5 y⟩
  obtain rfl : u = 0 := Subsingleton.elim _ _
  have e : (win0_8.blk t).view.emb (ix5 0 g r x d : S1x4x128x16x128.Idx) = ix5 (bt t) g (tok (it t) r) x d := by
    blk_ext [e8] <;> rfl
  refine Eq.trans ?_ (congrArg (Gqt m c) e).symm
  exact qt_pt m c t g r x d

/-- The array of key codes. -/
def Gkc : FVec Ideal S6x2048x4x128 .fp8e4m3 := fun i => code (aK m c) (aP m c) (aKS m c) (i 0) (i 1) (i 2) (i 3)

theorem w2_kc : (W2 m c main_v22_2 : FVec Ideal S6x2048x4x128 .fp8e4m3) = Gkc m c := by
  unfold W2
  refine (Pipeline.afterRegion_arr _ _ launch0.win.arr_inj 9).trans ?_
  refine (dat0 (W1 m c) c).arrAt_eq_of_covers 9 _ (by decide +kernel) fun t hf y => ?_
  blk_simp
  obtain ⟨u, r, h, d, rfl⟩ : ∃ (u : Fin 1) (r : Fin 128) (h : Fin 4) (d : Fin 128), y = ix4 u r h d := ⟨y 0, y 1, y 2, y 3, eq_ix4 y⟩
  obtain rfl : u = 0 := Subsingleton.elim _ _
  have e : (win0_9.blk t).view.emb (ix4 0 r h d : S1x128x4x128.Idx) = ix4 (bt t) (tok (it t) r) h d := by
    blk_ext [e9] <;> rfl
  refine Eq.trans ?_ (congrArg (Gkc m c) e).symm
  exact kc_pt m c t r h d

/-- The key codes by head. -/
def Gkt : FVec Ideal S6x4x2048x128 .fp8e4m3 := fun i => code (aK m c) (aP m c) (aKS m c) (i 0) (i 2) (i 1) (i 3)

theorem w2_kt : (W2 m c main_v22_3 : FVec Ideal S6x4x2048x128 .fp8e4m3) = Gkt m c := by
  unfold W2
  refine (Pipeline.afterRegion_arr _ _ launch0.win.arr_inj 10).trans ?_
  refine (dat0 (W1 m c) c).arrAt_eq_of_covers 10 _ (by decide +kernel) fun t hf y => ?_
  blk_simp
  obtain ⟨u, h, r, d, rfl⟩ : ∃ (u : Fin 1) (h : Fin 4) (r : Fin 128) (d : Fin 128), y = ix4 u h r d := ⟨y 0, y 1, y 2, y 3, eq_ix4 y⟩
  obtain rfl : u = 0 := Subsingleton.elim _ _
  have e : (win0_10.blk t).view.emb (ix4 0 h r d : S1x4x128x128.Idx) = ix4 (bt t) h (tok (it t) r) d := by
    blk_ext [e10] <;> rfl
  refine Eq.trans ?_ (congrArg (Gkt m c) e).symm
  exact (ktBlk_apply _ h r d).trans (kc_pt m c t r h d)

/-- The values by head, transposed. -/
def Gvt : FVec Ideal S6x4x128x2048 .bf16 := fun i => aV m c (ix4 (i 0) (i 3) (i 1) (i 2))

theorem w2_vt : (W2 m c main_v22_4 : FVec Ideal S6x4x128x2048 .bf16) = Gvt m c := by
  unfold W2
  refine (Pipeline.afterRegion_arr _ _ launch0.win.arr_inj 11).trans ?_
  refine (dat0 (W1 m c) c).arrAt_eq_of_covers 11 _ (by decide +kernel) fun t hf y => ?_
  blk_simp
  obtain ⟨u, h, d, r, rfl⟩ : ∃ (u : Fin 1) (h : Fin 4) (d : Fin 128) (r : Fin 128), y = ix4 u h d r := ⟨y 0, y 1, y 2, y 3, eq_ix4 y⟩
  obtain rfl : u = 0 := Subsingleton.elim _ _
  have e : (win0_11.blk t).view.emb (ix4 0 h d r : S1x4x128x128.Idx) = ix4 (bt t) h d (tok (it t) r) := by
    blk_ext [e11] <;> rfl
  refine Eq.trans ?_ (congrArg (Gvt m c) e).symm
  exact vt_pt m c t h d r

/-- The running maxima after `n` points. -/
theorem qaAt_apply (n : ℕ) (h : Fin 64) (d : Fin 128) :
    qaAt (W1 m c) n (ix2 h d) = max 0 ((Finset.range n).sup fun k => ⨆ r : Fin 128, mag (rot (aQ m c) (aP m c) (bt (ptOf k)) (tok (it (ptOf k)) r) h d)) := by
  induction n with
  | zero =>
    refine Eq.trans ?_ (max_eq_left bot_le).symm
    exact Ideal.ofBits_zero_f32
  | succ n ih =>
    show accN (qaStep (cosAt (W1 m c) (ptOf n)) (sinAt (W1 m c) (ptOf n)) (iblk0 (W1 m c) 4 (ptOf n))) 16 (qaAt (W1 m c) n) (ix2 h d) = _
    unfold cosAt sinAt
    rw [qaN_apply, ih, Finset.range_add_one, Finset.sup_insert, max_assoc]
    simp only [brQ_eq]
    rw [max_comm (Finset.sup _ _)]

theorem kaAt_apply (n : ℕ) (h : Fin 4) (d : Fin 128) :
    kaAt (W1 m c) n (ix2 h d) = max 0 ((Finset.range n).sup fun k => ⨆ r : Fin 128, mag (rot (aK m c) (aP m c) (bt (ptOf k)) (tok (it (ptOf k)) r) h d)) := by
  induction n with
  | zero =>
    refine Eq.trans ?_ (max_eq_left bot_le).symm
    exact Ideal.ofBits_zero_f32
  | succ n ih =>
    show accN (kaStep (cosAt (W1 m c) (ptOf n)) (sinAt (W1 m c) (ptOf n)) (iblk0 (W1 m c) 5 (ptOf n))) 16 (kaAt (W1 m c) n) (ix2 h d) = _
    unfold cosAt sinAt
    rw [kaN_apply, ih, Finset.range_add_one, Finset.sup_insert, max_assoc]
    simp only [brK_eq]
    rw [max_comm (Finset.sup _ _)]

/-- Some point takes each sequence and block. -/
theorem pt_onto : ∀ (b : Fin 6) (i : Fin 16), ∃ k : Fin 96, (grid0.coords (ptOf k.val) 0).val = b.val ∧ (grid0.coords (ptOf k.val) 1).val = i.val := by
  decide +kernel

theorem mag_nonneg (x : EReal) : 0 ≤ mag x := by
  rcases le_total 0 x with h | h
  · exact le_max_of_le_left h
  · exact le_max_of_le_right (EReal.neg_nonneg.mpr h)

/-- The largest magnitude over all points, whatever is measured. -/
theorem sup_points (f : Fin 6 → Fin 2048 → EReal) (hf : ∀ b s, 0 ≤ f b s) :
    max 0 ((Finset.range 96).sup fun k => ⨆ r : Fin 128, f (bt (ptOf k)) (tok (it (ptOf k)) r)) = ⨆ b, ⨆ s, f b s := by
  apply le_antisymm
  · refine max_le ((hf 0 0).trans (le_iSup_of_le 0 (le_iSup (f 0) 0))) (Finset.sup_le fun k _ => iSup_le fun r => ?_)
    exact le_iSup_of_le (bt (ptOf k)) (le_iSup (f (bt (ptOf k))) (tok (it (ptOf k)) r))
  · refine iSup_le fun b => iSup_le fun s => le_max_of_le_right ?_
    obtain ⟨k, h1, h2⟩ := pt_onto b ⟨s.val / 128, by omega⟩
    refine le_trans ?_ (Finset.le_sup (b := k.val) (Finset.mem_range.mpr k.isLt))
    have e : tok (it (ptOf k.val)) ⟨s.val % 128, Nat.mod_lt _ (by decide)⟩ = s := by
      apply Fin.ext
      show (grid0.coords (ptOf k.val) 1).val * 128 + s.val % 128 = s.val
      rw [h2]
      show s.val / 128 * 128 + s.val % 128 = s.val
      omega
    have e2 : bt (ptOf k.val) = b := Fin.ext h1
    conv_lhs => rw [← e, ← e2]
    exact le_iSup (fun r : Fin 128 => f (bt (ptOf k.val)) (tok (it (ptOf k.val)) r)) _

/-- The lane maxima the first call leaves. -/
def Gqa : FVec Ideal S64x128 .f32 := fun i => ⨆ b, ⨆ s, mag (rot (aQ m c) (aP m c) b s (i 0) (i 1))
def Gka : FVec Ideal S4x128 .f32 := fun i => ⨆ b, ⨆ s, mag (rot (aK m c) (aP m c) b s (i 0) (i 1))

theorem w2_qa : (W2 m c main_v22_5 : FVec Ideal S64x128 .f32) = Gqa m c := by
  unfold W2
  refine (Pipeline.afterRegion_arr _ _ launch0.win.arr_inj 12).trans ?_
  refine (dat0 (W1 m c) c).arrAt_eq_of_covers 12 _ (by decide +kernel) fun t hf y => ?_
  have ht : t.val = 95 := by
    have h1 := (flush0_12 t).mp hf
    have h2 : t.val < 96 := lt_of_lt_of_eq t.isLt (show cfg0.N = 96 from N_0)
    omega
  blk_simp
  obtain ⟨h, d, rfl⟩ : ∃ (h : Fin 64) (d : Fin 128), y = ix2 h d := ⟨y 0, y 1, eq_ix2 y⟩
  have e : (win0_12.blk t).view.emb (ix2 h d : S64x128.Idx) = ix2 h d := by
    blk_ext [e12] <;> rfl
  refine Eq.trans ?_ (congrArg (Gqa m c) e).symm
  show qaAt (W1 m c) (t.val + 1) (ix2 h d) = _
  rw [ht, qaAt_apply]
  exact sup_points (fun b s => mag (rot (aQ m c) (aP m c) b s h d)) fun _ _ => mag_nonneg _

theorem w2_ka : (W2 m c main_v22_6 : FVec Ideal S4x128 .f32) = Gka m c := by
  unfold W2
  refine (Pipeline.afterRegion_arr _ _ launch0.win.arr_inj 13).trans ?_
  refine (dat0 (W1 m c) c).arrAt_eq_of_covers 13 _ (by decide +kernel) fun t hf y => ?_
  have ht : t.val = 95 := by
    have h1 := (flush0_13 t).mp hf
    have h2 : t.val < 96 := lt_of_lt_of_eq t.isLt (show cfg0.N = 96 from N_0)
    omega
  blk_simp
  obtain ⟨h, d, rfl⟩ : ∃ (h : Fin 4) (d : Fin 128), y = ix2 h d := ⟨y 0, y 1, eq_ix2 y⟩
  have e : (win0_13.blk t).view.emb (ix2 h d : S4x128.Idx) = ix2 h d := by
    blk_ext [e13] <;> rfl
  refine Eq.trans ?_ (congrArg (Gka m c) e).symm
  show kaAt (W1 m c) (t.val + 1) (ix2 h d) = _
  rw [ht, kaAt_apply]
  exact sup_points (fun b s => mag (rot (aK m c) (aP m c) b s h d)) fun _ _ => mag_nonneg _

end Cert.KernelIdeal.Val
-- ==== Proof.AttnVal.lean ====
/- One tile of the attention kernel at an index, over the extended reals: a causal softmax row against the first `b + 128` keys,
   normalised after the product with the values. -/
module

public import proofs.«01_k».proof.Proof.Spec
public import proofs.«01_k».proof.Proof.AttnTile
public import Idealize.ShloMosaic.Lib.Pointwise
public import Idealize.ShloMosaic.Lib.Pointwise.IndexVar
public import Idealize.ShloMosaic.Lib.WordCmp
public import Idealize.ShloMosaic.Lib.Pipeline.ValueKit.Tiles

@[expose] public section

set_option maxRecDepth 16384

noncomputable section

namespace Cert.Attn.Val

open Idealize.ShloMosaic Idealize.ShloMosaic.TcCoe Idealize.ShloMosaic.Pointwise
open Cert.Attn Cert.Spec

variable (b : ℕ) (T : TileFacts b)

theorem qTile_apply (X : (⟨5, ![1, 1, 128, 16, 128]⟩ : Shape).Idx → EReal) (k : Fin 8) (r g : Fin 16) (d : Fin 128) :
    qTile (F := Ideal) X k.val (ix5 0 0 r g d) = X (ix5 0 0 ⟨16 * k.val + r.val, by omega⟩ g d) := by
  refine congrArg X (funext fun a => Fin.ext ?_)
  match a with
  | 0 => rfl
  | 1 => rfl
  | 2 => exact Nat.mod_eq_of_lt (by show 16 * k.val + r.val < 128; omega)
  | 3 => rfl
  | 4 => rfl

theorem kPart_apply (X : (⟨4, ![1, 1, 2048, 128]⟩ : Shape).Idx → EReal) (t : Fin (b + 128)) (d : Fin 128) :
    kPart (F := Ideal) b T X (ix4 0 0 t d) = X (ix4 0 0 ⟨t.val, lt_of_lt_of_le t.isLt T.le⟩ d) := by
  refine View.ld_unit_apply_of (Val := Elt Ideal) (e := .fp8e4m3) X _ _ _ _ _ fun a => ?_
  match a with
  | 0 => rfl
  | 1 => rfl
  | 2 => exact (Nat.zero_add _).symm
  | 3 => exact (Nat.zero_add _).symm

theorem vPart_apply (X : (⟨4, ![1, 1, 128, 2048]⟩ : Shape).Idx → EReal) (t : Fin (b + 128)) (d : Fin 128) :
    vPart (F := Ideal) b T X (ix4 0 0 d t) = X (ix4 0 0 d ⟨t.val, lt_of_lt_of_le t.isLt T.le⟩) := by
  refine View.ld_unit_apply_of (Val := Elt Ideal) (e := .bf16) X _ _ _ _ _ fun a => ?_
  match a with
  | 0 => rfl
  | 1 => rfl
  | 2 => exact (Nat.zero_add _).symm
  | 3 => exact (Nat.zero_add _).symm

/-- The column of row `r`, head `g`. -/
abbrev col (r g : Fin 16) : Fin 256 := ⟨r.val * 16 + g.val, by omega⟩

theorem scores_apply (v3 : FVec Ideal SC .f32) (q : Vec Ideal SQ5 .fp8e4m3) (k : Vec Ideal (SK4 b) .fp8e4m3)
    (t : Fin (b + 128)) (r g : Fin 16) :
    scores (F := Ideal) b T v3 q k (ix2 t (col r g))
      = (∑ d : Fin 128, k (ix4 0 0 t d) * q (ix5 0 0 r g d)) * v3 (ix2 0 (col r g)) := by
  have e1 : ∀ d, shapeCast (SK b) k T.scK (ix2 t d) = k (ix4 0 0 t d) := fun d =>
    shapeCast_apply _ _ _ _ (by rw [Shape.rowMajor_val_two, Shape.rowMajor_val_four]; show ((0 * 1 + 0) * (b + 128) + t.val) * 128 + d.val = t.val * 128 + d.val; omega)
  have e2 : ∀ d, shapeCast SQ (shapeCast SQ3 q scQ5) scQ3 (ix2 (col r g) d) = q (ix5 0 0 r g d) := fun d => by
    have h1 : (r.val * 16 + g.val) / 16 = r.val := by omega
    have h2 : (r.val * 16 + g.val) % 16 = g.val := by omega
    pointwise
    simp only [h1, h2]
  have e3 : broadcastTo (SS b) v3 T.bc (ix2 t (col r g)) = v3 (ix2 0 (col r g)) := by
    pointwise
  unfold scores
  rw [shapeCast_self]
  refine (congrArg₂ (· * ·) (Ideal.matmul_transposedRhs_apply none _ _ _ t (col r g)) e3).trans ?_
  refine congrArg (· * v3 (ix2 0 (col r g))) ((congrArg (· + _) Ideal.ofBits_zero_f32).trans ((zero_add _).trans ?_))
  exact Finset.sum_congr rfl fun d _ => congrArg₂ (· * ·) (e1 d) (e2 d)

/-- A column's query row, as the kernel divides it out in words. -/
def fdiv (c : BitVec 32) : BitVec 32 :=
  Scalar.select (IntOp.andi
      (IntOp.cmpi .ne (IntOp.subi ((IntOp.cmpi .sgt c 0#32).setWidth 32) ((IntOp.cmpi .slt c 0#32).setWidth 32))
        (Scalar.subi (Scalar.extui (Scalar.cmpi .sgt 16#32 0#32)) (Scalar.extui (Scalar.cmpi .slt 16#32 0#32))))
      (IntOp.cmpi .ne (IntOp.remsi .vector c 16#32) 0#32))
    (IntOp.subi (IntOp.divsi .vector c 16#32) 1#32) (IntOp.divsi .vector c 16#32)

theorem fdiv_eq (c : Fin 256) : fdiv (BitVec.ofNat 32 c.val) = BitVec.ofNat 32 (c.val / 16) := by
  revert c; decide

theorem word_row (k : Fin 8) (x : Fin 16) :
    IntOp.addi (Scalar.muli (Scf.iv 0#32 1#32 k.val) 16#32) (BitVec.ofNat 32 x.val) = BitVec.ofNat 32 (16 * k.val + x.val) := by
  revert k x; decide

theorem maskLast_apply (k : Fin 8) (x : Vec Ideal SL .f32) (r : Fin 128) (c : Fin 256) :
    maskLast (F := Ideal) (Scalar.muli (Scf.iv 0#32 1#32 k.val) 16#32) x (ix2 r c)
      = if r.val ≤ 16 * k.val + c.val / 16 then x (ix2 r c) else ⊥ := by
  unfold maskLast
  rw [shapeCast_self]
  have e : (if IntOp.cmpi .sle (BitVec.ofNat 32 (0 * 128 + r.val)) (IntOp.addi (Scalar.muli (Scf.iv 0#32 1#32 k.val) 16#32) (fdiv (BitVec.ofNat 32 (0 * 256 + c.val)))) = 1
      then x (ix2 r c) else Ideal.ofBits .f32 0xFF800000#32) = if r.val ≤ 16 * k.val + c.val / 16 then x (ix2 r c) else ⊥ := by
    simp only [Nat.zero_mul, Nat.zero_add]
    rw [fdiv_eq, word_row k ⟨c.val / 16, by omega⟩, ofBits_ninf,
      WordCmp.cmpi_sle_ofNat (by omega) (by show 16 * k.val + c.val / 16 < _; omega)]
    by_cases h : r.val ≤ 16 * k.val + c.val / 16 <;> simp [h]
  exact e

/-- The masked scores of a tile: key `t` counts for query row `r` of the tile `k` exactly when it is not later. -/
theorem masked_apply (k : Fin 8) (s : FVec Ideal (SS b) .f32) (t : Fin (b + 128)) (r g : Fin 16) :
    masked (F := Ideal) b (Scalar.muli (Scf.iv 0#32 1#32 k.val) 16#32) s (ix2 t (col r g))
      = if t.val ≤ b + 16 * k.val + r.val then s (ix2 t (col r g)) else ⊥ := by
  unfold masked
  have hc : (r.val * 16 + g.val) / 16 = r.val := by omega
  by_cases h : b ≤ t.val
  · refine (dif_pos h).trans ?_
    have e : (Fin.cons ⟨t.val - b, by have := t.isLt; show t.val - b < 128; omega⟩ (Fin.cons (col r g) finZeroElim) : SL.Idx) = ix2 ⟨t.val - b, by have := t.isLt; omega⟩ (col r g) := by
      funext a
      match a with
      | 0 => rfl
      | 1 => rfl
    refine (congrArg _ e).trans ((maskLast_apply k _ _ _).trans ?_)
    have e2 : (Fin.cons ⟨b + (t.val - b), by have := t.isLt; show b + (t.val - b) < b + 128; omega⟩ (Fin.cons (col r g) finZeroElim) : (SS b).Idx) = ix2 t (col r g) := by
      funext a
      match a with
      | 0 => exact Fin.ext (by show b + (t.val - b) = t.val; omega)
      | 1 => rfl
    by_cases h2 : t.val ≤ b + 16 * k.val + r.val
    · rw [if_pos h2, if_pos (by show t.val - b ≤ 16 * k.val + (r.val * 16 + g.val) / 16; omega)]
      exact congrArg s e2
    · rw [if_neg h2, if_neg (by show ¬ t.val - b ≤ 16 * k.val + (r.val * 16 + g.val) / 16; omega)]
  · rw [if_pos (by omega)]
    exact dif_neg h

/-- The largest and the summed entries of a column. -/
theorem colMax (x : FVec Ideal (SS b) .f32) (c : Fin 256) :
    multiReduction (F := Ideal) (φ := .f32) .maximumf [0] SM x 0xFF800000#32 T.red (.inl rfl) rfl (ix1 c) = ⨆ t : Fin (b + 128), x (ix2 t c) := by
  have e : ∀ t : Fin (b + 128), T.red.lift (ix1 c) t = ix2 t c := fun t => by
    funext a
    match a with
    | 0 => rfl
    | 1 => rfl
  refine (Ideal.multiReduction_maximumf_single _ _ _ _ _ _).trans ?_
  refine (congrArg (fun z => Finset.fold max z _ Finset.univ) ofBits_ninf).trans ((fold_max_iSup _).trans (iSup_congr fun t => ?_))
  exact congrArg x (e t)

theorem colSum (x : FVec Ideal (SS b) .f32) (c : Fin 256) :
    multiReduction (F := Ideal) (φ := .f32) .add [0] SM x 0x00000000#32 T.red (.inl rfl) rfl (ix1 c) = ∑ t : Fin (b + 128), x (ix2 t c) := by
  have e : ∀ t : Fin (b + 128), T.red.lift (ix1 c) t = ix2 t c := fun t => by
    funext a
    match a with
    | 0 => rfl
    | 1 => rfl
  refine (Ideal.multiReduction_add_single _ _ _ _ _ _).trans (Finset.sum_congr rfl fun t _ => congrArg x (e t))

theorem castM (x : FVec Ideal SM .f32) (c : Fin 256) : shapeCast SC x scM (ix2 0 c) = x (ix1 c) := by pointwise

theorem bcCol (x : FVec Ideal SC .f32) (t : Fin (b + 128)) (c : Fin 256) : broadcastTo (SS b) x T.bc (ix2 t c) = x (ix2 0 c) := by pointwise

theorem expo_apply (x : FVec Ideal (SS b) .f32) (t : Fin (b + 128)) (c : Fin 256) :
    expo (F := Ideal) b T x (ix2 t c) = Ideal.exp2 (x (ix2 t c) - ⨆ u : Fin (b + 128), x (ix2 u c)) := by
  unfold expo
  refine congrArg (fun z : EReal => Ideal.exp2 (x (ix2 t c) - z)) ?_
  exact (bcCol b T _ t c).trans ((castM _ c).trans (colMax b T x c))

/-- The output of a tile: the products with the exponentials, divided by their sum. -/
theorem soft_apply (x : FVec Ideal (SS b) .f32) (v : Vec Ideal (SV4 b) .bf16) (r g : Fin 16) (d : Fin 128) :
    soft (F := Ideal) b T x v (ix3 r g d)
      = (∑ t : Fin (b + 128), v (ix4 0 0 d t) * expo (F := Ideal) b T x (ix2 t (col r g)))
        * Ideal.div 1 (∑ t : Fin (b + 128), expo (F := Ideal) b T x (ix2 t (col r g))) := by
  have e1 : ∀ t, shapeCast (SV b) v T.scV (ix2 d t) = v (ix4 0 0 d t) := fun t =>
    shapeCast_apply _ _ _ _ (by rw [Shape.rowMajor_val_two, Shape.rowMajor_val_four]; show ((0 * 1 + 0) * 128 + d.val) * (b + 128) + t.val = d.val * (b + 128) + t.val; simp)
  unfold soft
  have e2 : ∀ y : FVec Ideal SOT .f32, shapeCast SQ3 (transpose SQ [1, 0] y trO) scO (ix3 r g d) = y (ix2 d (col r g)) := fun y => by pointwise
  refine (e2 _).trans (congrArg₂ (· * ·) ?_ ?_)
  · refine (Ideal.matmul_plain_apply none _ _ _ d (col r g)).trans ?_
    refine (congrArg (· + _) Ideal.ofBits_zero_f32).trans ((zero_add _).trans ?_)
    exact Finset.sum_congr rfl fun t _ => congrArg₂ (· * ·) (e1 t) rfl
  · have e3 : ∀ y : FVec Ideal SC .f32, broadcastTo SOT y bcO (ix2 d (col r g)) = y (ix2 0 (col r g)) := fun y => by pointwise
    refine (e3 _).trans (congrArg₂ Ideal.div Ideal.ofBits_one_f32 ?_)
    exact (castM _ _).trans (colSum b T _ _)

theorem headPay_apply (h : Fin 16) (o : FVec Ideal SQ3 .f32) (r : Fin 16) (d : Fin 128) :
    headPay (F := Ideal) h o (ix3 0 r d) = o (ix3 r h d) := by
  unfold headPay
  pointwise

/-- The scaled score of one tile. -/
def tsc (C : FVec Ideal SC .f32) (Q : (⟨5, ![1, 1, 128, 16, 128]⟩ : Shape).Idx → EReal) (K : (⟨4, ![1, 1, 2048, 128]⟩ : Shape).Idx → EReal)
    (k : Fin 8) (r g : Fin 16) (t : Fin (b + 128)) : EReal :=
  if t.val ≤ b + 16 * k.val + r.val then
    (∑ d : Fin 128, K (ix4 0 0 ⟨t.val, lt_of_lt_of_le t.isLt T.le⟩ d) * Q (ix5 0 0 ⟨16 * k.val + r.val, by omega⟩ g d)) * C (ix2 0 (col r g))
  else ⊥

theorem tile_apply (C : FVec Ideal SC .f32) (Q : (⟨5, ![1, 1, 128, 16, 128]⟩ : Shape).Idx → EReal)
    (K : (⟨4, ![1, 1, 2048, 128]⟩ : Shape).Idx → EReal) (V : (⟨4, ![1, 1, 128, 2048]⟩ : Shape).Idx → EReal) (k : Fin 8) (r g : Fin 16) (d : Fin 128) :
    tile (F := Ideal) b T C Q K V k.val (ix3 r g d)
      = (∑ t : Fin (b + 128), V (ix4 0 0 d ⟨t.val, lt_of_lt_of_le t.isLt T.le⟩) * Ideal.exp2 (tsc b T C Q K k r g t - ⨆ u, tsc b T C Q K k r g u))
        * Ideal.div 1 (∑ t : Fin (b + 128), Ideal.exp2 (tsc b T C Q K k r g t - ⨆ u, tsc b T C Q K k r g u)) := by
  have e : ∀ t, masked (F := Ideal) b (Scalar.muli (Scf.iv 0#32 1#32 k.val) 16#32) (scores b T C (qTile Q k.val) (kPart b T K)) (ix2 t (col r g))
      = tsc b T C Q K k r g t := fun t => by
    rw [masked_apply, scores_apply]
    unfold tsc
    simp only [kPart_apply, qTile_apply]
  have e2 : ∀ t, expo (F := Ideal) b T (masked (F := Ideal) b (Scalar.muli (Scf.iv 0#32 1#32 k.val) 16#32) (scores b T C (qTile Q k.val) (kPart b T K))) (ix2 t (col r g))
      = Ideal.exp2 (tsc b T C Q K k r g t - ⨆ u, tsc b T C Q K k r g u) := fun t => by
    rw [expo_apply, e, iSup_congr e]
  unfold tile
  rw [soft_apply]
  simp only [e2, vPart_apply]

/-- The output block at an index. -/
theorem outVal_apply (o : ℕ → FVec Ideal SQ3 .f32) (s : Fin 128) (x : Fin 2048) :
    outVal (F := Ideal) o (ix3 0 s x) = o (s.val / 16) (ix3 ⟨s.val % 16, Nat.mod_lt _ (by decide)⟩ ⟨x.val / 128, by omega⟩ ⟨x.val % 128, Nat.mod_lt _ (by decide)⟩) := by
  unfold outVal
  have e : inHead (ix3 0 s x) = ix3 0 ⟨s.val % 16, Nat.mod_lt _ (by decide)⟩ ⟨x.val % 128, Nat.mod_lt _ (by decide)⟩ := by
    funext a
    match a with
    | 0 => rfl
    | 1 => rfl
    | 2 => rfl
  rw [e]
  exact headPay_apply _ _ _ _

end Cert.Attn.Val
-- ==== Proof.SoftmaxMath.lean ====
/- The arithmetic of the extended reals behind the claim: the scores are real numbers whatever the inputs are, and the kernel's
   softmax — base two, over the keys up to the block's end, normalised after the product with the values — is the reference's. -/
module

public import proofs.«01_k».proof.Proof.Spec
public import Idealize.ShloMosaic.Lib.IdealHost

@[expose] public section

noncomputable section

namespace Cert.SoftmaxMath

open Idealize.ShloMosaic Idealize.ShloMosaic.Pointwise Cert.Spec

/-- The two ends of the format's range and the score scale as numbers. -/
theorem ofBits_hi : Ideal.ofBits .f32 0x43E00000#32 = ((448 : ℝ) : EReal) := by
  simp [Ideal.ofBits, Ideal.ieee, -EReal.coe_mul]; norm_num

theorem ofBits_lo : Ideal.ofBits .f32 0xC3E00000#32 = ((-448 : ℝ) : EReal) := by
  simp [Ideal.ofBits, Ideal.ieee, -EReal.coe_mul, -EReal.coe_neg]; norm_num

theorem ofBits_scale : ∃ r : ℝ, Ideal.ofBits .f32 0x3DB504F3#32 = (r : EReal) := by
  refine ⟨11863283 * (2 : ℝ) ^ (-27 : ℤ), ?_⟩
  simp [Ideal.ofBits, Ideal.ieee, -EReal.coe_mul]

/-- The larger real of a list of keys, and the row's maxima. -/
theorem row_top {n : ℕ} (q : ℕ) (σ : Fin n → ℝ) (t0 : Fin n) (h0 : t0.val ≤ q) (hm : ∀ t : Fin n, t.val ≤ q → σ t ≤ σ t0) :
    (⨆ t : Fin n, (if t.val ≤ q then ((σ t : ℝ) : EReal) else ⊥)) = ((σ t0 : ℝ) : EReal) := by
  apply le_antisymm
  · refine iSup_le fun t => ?_
    by_cases h : t.val ≤ q
    · rw [if_pos h]; exact EReal.coe_le_coe_iff.mpr (hm t h)
    · rw [if_neg h]; exact bot_le
  · refine le_iSup_of_le t0 ?_
    rw [if_pos h0]

theorem log2_inv_pos : 0 < (Real.log 2)⁻¹ := inv_pos.mpr (Real.log_pos (by norm_num))

/-- The weight of a key, in base `e` and in base two. -/
theorem exp_wt (p : Prop) [Decidable p] (x m : ℝ) :
    Ideal.exp ((if p then (x : EReal) else ⊥) - (m : EReal)) = (((if p then Real.exp (x - m) else 0) : ℝ) : EReal) := by
  by_cases h : p
  · rw [if_pos h, if_pos h, ← EReal.coe_sub]; rfl
  · rw [if_neg h, if_neg h, EReal.bot_sub]; rfl

theorem exp2_wt (p : Prop) [Decidable p] (x m : ℝ) :
    Ideal.exp2 ((if p then ((x * (Real.log 2)⁻¹ : ℝ) : EReal) else ⊥) - ((m * (Real.log 2)⁻¹ : ℝ) : EReal))
      = (((if p then Real.exp (x - m) else 0) : ℝ) : EReal) := by
  by_cases h : p
  · rw [if_pos h, if_pos h, ← EReal.coe_sub, Ideal.exp2_coe]
    refine congrArg Real.toEReal ?_
    have hl : Real.log 2 ≠ 0 := (Real.log_pos (by norm_num)).ne'
    show (2 : ℝ) ^ (x * (Real.log 2)⁻¹ - m * (Real.log 2)⁻¹) = _
    rw [Real.rpow_def_of_pos (by norm_num)]
    congr 1
    field_simp
  · rw [if_neg h, if_neg h, EReal.bot_sub]; exact Ideal.exp2_bot

/-- A sum over the sequence whose terms vanish from `n` on is the sum over the first `n`. -/
theorem sum_prefix {n : ℕ} (hn : n ≤ 2048) (f : Fin 2048 → EReal) (h : ∀ t : Fin 2048, n ≤ t.val → f t = 0) :
    ∑ t : Fin n, f ⟨t.val, lt_of_lt_of_le t.isLt hn⟩ = ∑ t, f t := by
  have e := Finset.sum_map (Finset.univ : Finset (Fin n)) (Fin.castLEEmb hn) f
  refine e.symm.trans (Finset.sum_subset (Finset.subset_univ _) fun t _ ht => h t ?_)
  by_contra hlt
  exact ht (Finset.mem_map.mpr ⟨⟨t.val, by omega⟩, Finset.mem_univ _, rfl⟩)

/-- A nonnegative real factor moves out of a sum. -/
theorem sum_mul_real {ι : Type} (s : Finset ι) (f : ι → EReal) (r : ℝ) (hr : 0 ≤ r) : (∑ i ∈ s, f i) * (r : EReal) = ∑ i ∈ s, f i * (r : EReal) := by
  classical
  induction s using Finset.induction with
  | empty => simp
  | insert a s ha ih =>
    rw [Finset.sum_insert ha, Finset.sum_insert ha, EReal.right_distrib_of_nonneg_of_ne_top (EReal.coe_nonneg.mpr hr) (EReal.coe_ne_top r), ih]

theorem div_real (x : EReal) (l : ℝ) (hl : 0 < l) : Ideal.div x (l : EReal) = x * ((l⁻¹ : ℝ) : EReal) := by
  unfold Ideal.div
  rw [if_neg (by simpa using hl.ne'), EReal.coe_inv]

theorem coe_sum {ι : Type} (s : Finset ι) (f : ι → ℝ) : ((∑ i ∈ s, f i : ℝ) : EReal) = ∑ i ∈ s, ((f i : ℝ) : EReal) := by
  classical
  induction s using Finset.induction with
  | empty => simp
  | insert a s ha ih => rw [Finset.sum_insert ha, Finset.sum_insert ha, EReal.coe_add, ih]

/-- The two softmax rows agree: base two over the first `n` keys with the division last, and base `e` over all keys with the
    division first. -/
theorem softmax_row {n : ℕ} (hn : n ≤ 2048) (q : Fin 2048) (hq : q.val < n) (σ : Fin 2048 → ℝ) (V : Fin 2048 → EReal) (x : Fin n → EReal)
    (hx : ∀ t : Fin n, x t = if t.val ≤ q.val then ((σ ⟨t.val, lt_of_lt_of_le t.isLt hn⟩ * (Real.log 2)⁻¹ : ℝ) : EReal) else ⊥)
    (y : Fin 2048 → EReal) (hy : ∀ t : Fin 2048, y t = if t.val ≤ q.val then ((σ t : ℝ) : EReal) else ⊥) :
    (∑ t : Fin n, V ⟨t.val, lt_of_lt_of_le t.isLt hn⟩ * Ideal.exp2 (x t - ⨆ u, x u)) * Ideal.div 1 (∑ t : Fin n, Ideal.exp2 (x t - ⨆ u, x u))
      = ∑ t, V t * Ideal.div (Ideal.exp (y t - ⨆ u, y u)) (∑ u, Ideal.exp (y u - ⨆ v, y v)) := by
  obtain ⟨t0, ht0, hm⟩ := Finset.exists_max_image (Finset.univ.filter fun t : Fin 2048 => t.val ≤ q.val) σ ⟨q, by simp⟩
  have h0 : t0.val ≤ q.val := (Finset.mem_filter.mp ht0).2
  have hm' : ∀ t : Fin 2048, t.val ≤ q.val → σ t ≤ σ t0 := fun t h => hm t (Finset.mem_filter.mpr ⟨Finset.mem_univ _, h⟩)
  have ey : (⨆ u, y u) = ((σ t0 : ℝ) : EReal) := (iSup_congr hy).trans (row_top q.val σ t0 h0 hm')
  have ex : (⨆ u, x u) = ((σ t0 * (Real.log 2)⁻¹ : ℝ) : EReal) :=
    (iSup_congr hx).trans (row_top q.val (fun t : Fin n => σ ⟨t.val, lt_of_lt_of_le t.isLt hn⟩ * (Real.log 2)⁻¹) ⟨t0.val, by omega⟩ h0
      fun t h => mul_le_mul_of_nonneg_right (hm' _ h) log2_inv_pos.le)
  let w : Fin 2048 → ℝ := fun t => if t.val ≤ q.val then Real.exp (σ t - σ t0) else 0
  have wy : ∀ t, Ideal.exp (y t - ⨆ u, y u) = ((w t : ℝ) : EReal) := fun t => by rw [ey, hy]; exact exp_wt _ _ _
  have wx : ∀ t : Fin n, Ideal.exp2 (x t - ⨆ u, x u) = ((w ⟨t.val, lt_of_lt_of_le t.isLt hn⟩ : ℝ) : EReal) := fun t => by
    rw [ex, hx]; exact exp2_wt _ _ _
  have w0 : ∀ t : Fin 2048, n ≤ t.val → w t = 0 := fun t h => if_neg (by omega)
  have wn : ∀ t, 0 ≤ w t := fun t => by
    show 0 ≤ if t.val ≤ q.val then Real.exp (σ t - σ t0) else 0
    split
    · exact (Real.exp_pos _).le
    · exact le_rfl
  have lpos : 0 < ∑ t, w t := by
    refine lt_of_lt_of_le ?_ (Finset.single_le_sum (f := w) (fun t _ => wn t) (Finset.mem_univ t0))
    show 0 < if t0.val ≤ q.val then Real.exp (σ t0 - σ t0) else 0
    rw [if_pos h0]; exact Real.exp_pos _
  simp only [wx, wy]
  rw [sum_prefix hn (fun t => V t * ((w t : ℝ) : EReal)) (fun t h => by rw [w0 t h]; simp), sum_prefix hn (fun t => ((w t : ℝ) : EReal)) (fun t h => by rw [w0 t h]; simp),
    ← coe_sum, div_real _ _ lpos, one_mul, sum_mul_real _ _ _ (inv_nonneg.mpr lpos.le)]
  refine Finset.sum_congr rfl fun t _ => ?_
  rw [div_real _ _ lpos, mul_assoc]

/-- A clipped number is real. -/
theorem clip_real (lo hi : ℝ) (x : EReal) : ∃ c : ℝ, min (hi : EReal) (max (lo : EReal) x) = (c : EReal) := by
  induction x with
  | bot => exact ⟨min hi lo, by rw [max_eq_left bot_le]; exact (EReal.coe_strictMono.monotone.map_min).symm⟩
  | top => exact ⟨hi, by rw [max_eq_right le_top, min_eq_left le_top]⟩
  | coe x => exact ⟨min hi (max lo x), by
    rw [← EReal.coe_strictMono.monotone.map_max]; exact (EReal.coe_strictMono.monotone.map_min).symm⟩

section Scores

variable {n : ℕ} (Q : VX 64) (K : VX 4) (X : VX n) (P : VP) (S : VS n) (QS : VS 64) (KS : VS 4)

theorem code_real (b : Fin 6) (s : Fin 2048) (h : Fin n) (d : Fin 128) : ∃ c : ℝ, code X P S b s h d = (c : EReal) := by
  unfold code
  rw [ofBits_hi, ofBits_lo]
  exact clip_real _ _ _

theorem code_zero (b : Fin 6) (s : Fin 2048) (h : Fin n) (d : Fin 128) (hS : S (ix1 h) = ⊤ ∨ S (ix1 h) = ⊥) : code X P S b s h d = 0 := by
  have e : Ideal.div 1 (S (ix1 h)) = 0 := by
    rcases hS with hS | hS <;> rw [hS] <;> simp [Ideal.div]
  unfold code
  rw [ofBits_hi, ofBits_lo, e, mul_zero, ← EReal.coe_zero, ← EReal.coe_strictMono.monotone.map_max, ← EReal.coe_strictMono.monotone.map_min]
  norm_num

/-- Every score is a real number. A scale that is infinite makes the codes of its head zero. -/
theorem score_real (b : Fin 6) (h : Fin 64) (s t : Fin 2048) : ∃ r : ℝ, score Q K P QS KS b h s t = (r : EReal) := by
  have hd : ∃ r : ℝ, (∑ d : Fin 128, code Q P QS b s h d * code K P KS b t (kvh h) d) = (r : EReal) := by
    choose f hf using fun d => code_real Q P QS b s h d
    choose g hg using fun d => code_real K P KS b t (kvh h) d
    refine ⟨∑ d, f d * g d, ?_⟩
    rw [coe_sum]
    exact Finset.sum_congr rfl fun d _ => by rw [hf, hg, EReal.coe_mul]
  have hz : (∑ d : Fin 128, code Q P QS b s h d * code K P KS b t (kvh h) d) = 0 → ∃ r : ℝ, score Q K P QS KS b h s t = (r : EReal) := fun e =>
    ⟨0, by unfold score; rw [e, zero_mul, EReal.coe_zero]⟩
  by_cases h1 : QS (ix1 h) = ⊤ ∨ QS (ix1 h) = ⊥
  · exact hz (Finset.sum_eq_zero fun d _ => by rw [code_zero Q P QS b s h d h1, zero_mul])
  by_cases h2 : KS (ix1 (kvh h)) = ⊤ ∨ KS (ix1 (kvh h)) = ⊥
  · exact hz (Finset.sum_eq_zero fun d _ => by rw [code_zero K P KS b t (kvh h) d h2, mul_zero])
  obtain ⟨r, hr⟩ := hd
  obtain ⟨z, hz⟩ := ofBits_scale
  push Not at h1 h2
  refine ⟨r * ((QS (ix1 h)).toReal * (KS (ix1 (kvh h))).toReal * z), ?_⟩
  unfold score coef
  rw [hr, hz, EReal.coe_mul, EReal.coe_mul, EReal.coe_mul, EReal.coe_toReal h1.1 h1.2, EReal.coe_toReal h2.1 h2.2]

end Scores

end Cert.SoftmaxMath
-- ==== Proof.AttnArr.lean ====
/- The array the attention call leaves, and the two lane maxima after it, as functions of the arguments. -/
module

public import proofs.«01_k».proof.Proof.RopeArr
public import proofs.«01_k».proof.Proof.AttnVal
public import proofs.«01_k».proof.Proof.SoftmaxMath

@[expose] public section

set_option maxRecDepth 16384

noncomputable section

namespace Cert.KernelIdeal.Val

open Idealize.ShloMosaic Idealize.ShloMosaic.TcCoe Idealize.ShloMosaic.Pointwise
open Cert.KernelIdeal Cert.KernelIdeal.Gen Cert.KernelIdeal.Regs Cert.KernelIdeal.Attn Cert.Attn Cert.Attn.Val Cert.Spec Cert.SoftmaxMath

variable (m : (ℓ : Loc nD τ sig) → Buf (Elt Ideal) ℓ) (c : Dev nD)

theorem w3_qt : (W3 m c main_v22_1 : FVec Ideal S6x4x2048x16x128 .fp8e4m3) = Gqt m c := (W3_of m c main_v22_1 (by decide)).trans (w2_qt m c)
theorem w3_kt : (W3 m c main_v22_3 : FVec Ideal S6x4x2048x128 .fp8e4m3) = Gkt m c := (W3_of m c main_v22_3 (by decide)).trans (w2_kt m c)
theorem w3_vt : (W3 m c main_v22_4 : FVec Ideal S6x4x128x2048 .bf16) = Gvt m c := (W3_of m c main_v22_4 (by decide)).trans (w2_vt m c)

theorem w2_arg4 : (W2 m c main_arg4 : VS 64) = aQS m c :=
  (W2_of m c main_arg4 (by decide)).trans (W1_of m c main_arg4 (by decide))
theorem w2_arg5 : (W2 m c main_arg5 : VS 4) = aKS m c :=
  (W2_of m c main_arg5 (by decide)).trans (W1_of m c main_arg5 (by decide))

theorem v31_eq : (W3 m c main_v31 : FVec Ideal S4x1x256 .f32) = shapeCast S4x1x256
    (broadcastInDim S4x1x16x16 ![0, 1, 2, 3] bcast_S4x1x1x16_S4x1x16x16_0_1_2_3 (broadcastInDim S4x1x1x16 ![0, 3] bcast_S4x16_S4x1x1x16_0_3
      (mulf (mulf (shapeCast S4x16 (aQS m c) shapeCasts_S64_S4x16) (broadcastInDim S4x16 ![0, 1] bcast_S4x1_S4x16_0_1 (broadcastInDim S4x1 ![0] bcast_S4_S4x1_0 (aKS m c))))
        (broadcastInDim S4x16 ![] bcast_S_S4x16 (constant (F := Ideal) S_ .f32 0x3DB504F3#32))))) shapeCasts_S4x1x16x16_S4x1x256 := by
  rw [← w2_arg4 m c, ← w2_arg5 m c]
  unfold W3
  after_results
  rfl

/-- Head `16 h + g`. -/
abbrev qhd (h : Fin 4) (g : Fin 16) : Fin 64 := ⟨h.val * 16 + g.val, by omega⟩

theorem kvh_qhd (h : Fin 4) (g : Fin 16) : kvh (qhd h g) = h := Fin.ext (by show (h.val * 16 + g.val) / 16 = h.val; omega)

theorem v31_apply (h : Fin 4) (r g : Fin 16) :
    (W3 m c main_v31 : FVec Ideal S4x1x256 .f32) (ix3 h 0 (col r g)) = coef (aQS m c) (aKS m c) (qhd h g) := by
  rw [v31_eq]
  unfold coef
  rw [kvh_qhd]
  have h2 : (r.val * 16 + g.val) % 16 = g.val := by omega
  pointwise
  simp only [h2]

theorem log2e : Named.named (F := Ideal) κ "log2e" (φ := .f32) 0x3FB8AA3B#32 = (((Real.log 2)⁻¹ : ℝ) : EReal) :=
  IdealRules.named_const.ideal_named_scalar _ _ _ _ rfl

theorem pay377_apply (C : Vec Ideal S1x1x256 .f32) (x : Fin 256) : k1_pay377 C (ix2 0 x) = C (ix3 0 0 x) * (((Real.log 2)⁻¹ : ℝ) : EReal) := by
  rw [← log2e]
  unfold k1_pay377
  pointwise

/-- The sequence, the key head and the query block of a grid point. -/
abbrev bs (t : Fin cfg1.N) : Fin 6 := grid1.coords t 0
abbrev hs (t : Fin cfg1.N) : Fin 4 := grid1.coords t 1
abbrev qb (t : Fin cfg1.N) : Fin 16 := grid1.coords t 2

theorem f0 : ∀ t : Fin cfg1.N, win1_0.index t = ![(grid1.coords t 0).val, (grid1.coords t 1).val, (grid1.coords t 2).val, 0, 0] := (by decide +kernel : ∀ t : Fin grid1.N, _)
theorem f1 : ∀ t : Fin cfg1.N, win1_1.index t = ![(grid1.coords t 0).val, (grid1.coords t 1).val, 0, 0] := (by decide +kernel : ∀ t : Fin grid1.N, _)
theorem f2 : ∀ t : Fin cfg1.N, win1_2.index t = ![(grid1.coords t 0).val, (grid1.coords t 1).val, 0, 0] := (by decide +kernel : ∀ t : Fin grid1.N, _)
theorem f3 : ∀ t : Fin cfg1.N, win1_3.index t = ![(grid1.coords t 1).val, 0, 0] := (by decide +kernel : ∀ t : Fin grid1.N, _)
theorem f4 : ∀ t : Fin cfg1.N, win1_4.index t = ![(grid1.coords t 0).val, (grid1.coords t 2).val, (grid1.coords t 1).val] := (by decide +kernel : ∀ t : Fin grid1.N, _)

theorem blk1_0 (t : Fin cfg1.N) (r : Fin 128) (g : Fin 16) (d : Fin 128) :
    (iblk1 (W3 m c) 0 t : Vec Ideal S1x1x128x16x128 .fp8e4m3) (ix5 0 0 r g d) = code (aQ m c) (aP m c) (aQS m c) (bs t) (tok (qb t) r) (qhd (hs t) g) d := by
  refine Eq.trans ?_ (congrFun (w3_qt m c) (ix5 (bs t) (hs t) (tok (qb t) r) g d))
  unfold iblk1
  blk_simp
  refine congrArg _ ?_
  blk_ext [f0] <;> rfl

theorem blk1_1 (t : Fin cfg1.N) (s : Fin 2048) (d : Fin 128) :
    (iblk1 (W3 m c) 1 t : Vec Ideal S1x1x2048x128 .fp8e4m3) (ix4 0 0 s d) = code (aK m c) (aP m c) (aKS m c) (bs t) s (hs t) d := by
  refine Eq.trans ?_ (congrFun (w3_kt m c) (ix4 (bs t) (hs t) s d))
  unfold iblk1
  blk_simp
  refine congrArg _ ?_
  blk_ext [f1] <;> rfl

theorem blk1_2 (t : Fin cfg1.N) (d : Fin 128) (s : Fin 2048) :
    (iblk1 (W3 m c) 2 t : Vec Ideal S1x1x128x2048 .bf16) (ix4 0 0 d s) = aV m c (ix4 (bs t) s (hs t) d) := by
  refine Eq.trans ?_ (congrFun (w3_vt m c) (ix4 (bs t) (hs t) d s))
  unfold iblk1
  blk_simp
  refine congrArg _ ?_
  blk_ext [f2] <;> rfl

theorem blk1_3 (t : Fin cfg1.N) (r g : Fin 16) :
    (iblk1 (W3 m c) 3 t : Vec Ideal S1x1x256 .f32) (ix3 0 0 (col r g)) = coef (aQS m c) (aKS m c) (qhd (hs t) g) := by
  refine Eq.trans ?_ (v31_apply m c (hs t) r g)
  unfold iblk1
  blk_simp
  refine congrArg _ ?_
  blk_ext [f3] <;> rfl

/-- The output block of a point: the attention of its sixteen heads at its rows. -/
theorem out_pt (t : Fin cfg1.N) (s : Fin 128) (x : Fin 2048) :
    outBlk (grid1.coords t 2) (iblk1 (W3 m c) 0 t) (iblk1 (W3 m c) 1 t) (iblk1 (W3 m c) 2 t) (iblk1 (W3 m c) 3 t) (ix3 0 s x)
      = attn (aQ m c) (aK m c) (aV m c) (aP m c) (aQS m c) (aKS m c) (bs t) (tok (qb t) s) (qhd (hs t) ⟨x.val / 128, by omega⟩) ⟨x.val % 128, Nat.mod_lt _ (by decide)⟩ := by
  have hs16 : s.val / 16 < 8 := by omega
  unfold outBlk
  refine (outVal_apply _ s x).trans ?_
  refine (tile_apply (128 * (qb t).val) (factsAt (qb t)) _ _ _ _ ⟨s.val / 16, hs16⟩ _ _ _).trans ?_
  generalize hg : (⟨x.val / 128, by omega⟩ : Fin 16) = g
  generalize hd : (⟨x.val % 128, Nat.mod_lt _ (by decide)⟩ : Fin 128) = d
  choose σ hσ using fun u => score_real (aQ m c) (aK m c) (aP m c) (aQS m c) (aKS m c) (bs t) (qhd (hs t) g) (tok (qb t) s) u
  have hrow : (⟨16 * (s.val / 16) + s.val % 16, by omega⟩ : Fin 128) = s := Fin.ext (by show 16 * (s.val / 16) + s.val % 16 = s.val; omega)
  have key := softmax_row (factsAt (qb t)).le (tok (qb t) s) (by show (qb t).val * 128 + s.val < 128 * (qb t).val + 128; omega) σ
    (fun u => aV m c (ix4 (bs t) u (hs t) d))
    (fun u => tsc (128 * (qb t).val) (factsAt (qb t)) (k1_pay377 (iblk1 (W3 m c) 3 t)) (iblk1 (W3 m c) 0 t) (iblk1 (W3 m c) 1 t) ⟨s.val / 16, hs16⟩
      ⟨s.val % 16, Nat.mod_lt _ (by decide)⟩ g u)
    (fun u => by
      unfold tsc
      refine if_congr (Iff.of_eq (congrArg (u.val ≤ ·) ?_)) ?_ rfl
      · show 128 * (qb t).val + 16 * (s.val / 16) + s.val % 16 = (qb t).val * 128 + s.val
        omega
      · rw [EReal.coe_mul, ← hσ, pay377_apply, blk1_3, ← mul_assoc]
        refine congrArg (· * (((Real.log 2)⁻¹ : ℝ) : EReal)) ?_
        unfold score
        rw [kvh_qhd]
        refine congrArg (· * coef (aQS m c) (aKS m c) (qhd (hs t) g)) (Finset.sum_congr rfl fun e _ => ?_)
        rw [blk1_1, hrow, blk1_0, mul_comm])
    (mscore (aQ m c) (aK m c) (aP m c) (aQS m c) (aKS m c) (bs t) (qhd (hs t) g) (tok (qb t) s))
    (fun u => by unfold mscore; rw [hσ])
  unfold attn
  rw [kvh_qhd]
  refine Eq.trans ?_ key
  simp only [blk1_2]

/-- The attention output. -/
def Gout : FVec Ideal S6x2048x8192 .bf16 := fun i => attn (aQ m c) (aK m c) (aV m c) (aP m c) (aQS m c) (aKS m c) (i 0) (i 1)
  ⟨(i 2).val / 128, by
    have h : (i 2).val < 8192 := (i 2).isLt
    omega⟩ ⟨(i 2).val % 128, Nat.mod_lt _ (by decide)⟩

theorem w4_out : (W4 m c main_v32 : FVec Ideal S6x2048x8192 .bf16) = Gout m c := by
  unfold W4
  refine (Pipeline.afterRegion_arr _ _ launch1.win.arr_inj 4).trans ?_
  refine (dat1 (W3 m c) c).arrAt_eq_of_covers 4 _ (by decide +kernel) fun t hf y => ?_
  blk_simp
  obtain ⟨u, s, x, rfl⟩ : ∃ (u : Fin 1) (s : Fin 128) (x : Fin 2048), y = ix3 u s x := ⟨y 0, y 1, y 2, eq_ix3 y⟩
  obtain rfl : u = 0 := Subsingleton.elim _ _
  have e : (win1_4.blk t).view.emb (ix3 0 s x : S1x128x2048.Idx) = ix3 (bs t) (tok (qb t) s) ⟨(hs t).val * 2048 + x.val, by
      have := (hs t).isLt
      omega⟩ := by
    blk_ext [f4] <;> rfl
  refine Eq.trans ?_ (congrArg (Gout m c) e).symm
  refine (out_pt m c t s x).trans ?_
  unfold Gout
  have h1 : (⟨((hs t).val * 2048 + x.val) / 128, by have := (hs t).isLt; omega⟩ : Fin 64) = qhd (hs t) ⟨x.val / 128, by omega⟩ :=
    Fin.ext (by show ((hs t).val * 2048 + x.val) / 128 = (hs t).val * 16 + x.val / 128; omega)
  have h2 : (⟨((hs t).val * 2048 + x.val) % 128, Nat.mod_lt _ (by decide)⟩ : Fin 128) = ⟨x.val % 128, Nat.mod_lt _ (by decide)⟩ :=
    Fin.ext (by show ((hs t).val * 2048 + x.val) % 128 = x.val % 128; omega)
  exact (congrArg₂ (attn (aQ m c) (aK m c) (aV m c) (aP m c) (aQS m c) (aKS m c) (bs t) (tok (qb t) s)) h1 h2).symm

/-- The results. -/
theorem w5_out : (W5 m c main_v32 : FVec Ideal S6x2048x8192 .bf16) = Gout m c := (W5_of m c main_v32 (by decide)).trans (w4_out m c)

theorem w5_qc : (W5 m c main_v22_0 : FVec Ideal S6x2048x64x128 .fp8e4m3) = Gqc m c :=
  (W5_of m c main_v22_0 (by decide)).trans ((W4_of m c main_v22_0 (by decide)).trans ((W3_of m c main_v22_0 (by decide)).trans (w2_qc m c)))
theorem w5_kc : (W5 m c main_v22_2 : FVec Ideal S6x2048x4x128 .fp8e4m3) = Gkc m c :=
  (W5_of m c main_v22_2 (by decide)).trans ((W4_of m c main_v22_2 (by decide)).trans ((W3_of m c main_v22_2 (by decide)).trans (w2_kc m c)))
theorem w4_qa : (W4 m c main_v22_5 : FVec Ideal S64x128 .f32) = Gqa m c :=
  (W4_of m c main_v22_5 (by decide)).trans ((W3_of m c main_v22_5 (by decide)).trans (w2_qa m c))
theorem w4_ka : (W4 m c main_v22_6 : FVec Ideal S4x128 .f32) = Gka m c :=
  (W4_of m c main_v22_6 (by decide)).trans ((W3_of m c main_v22_6 (by decide)).trans (w2_ka m c))

theorem v33_eq : (W5 m c main_v33 : FVec Ideal S64 .f32)
    = Host.reduce FloatOps.maximumf (Gqa m c) (constant (F := Ideal) S_ .f32 0xFF800000#32) reducesTo_S64x128_S64_d1 h_S_ := by
  rw [← w4_qa m c]
  unfold W5
  after_results

theorem v34_eq : (W5 m c main_v34 : FVec Ideal S4 .f32)
    = Host.reduce FloatOps.maximumf (Gka m c) (constant (F := Ideal) S_ .f32 0xFF800000#32) reducesTo_S4x128_S4_d1 h_S_ := by
  rw [← w4_ka m c]
  unfold W5
  after_results

/-- The lanes' maximum is the maximum over all elements of the head. -/
theorem swap_lanes (f : Fin 6 → Fin 2048 → Fin 128 → EReal) : (⨆ d, ⨆ b, ⨆ s, f b s d) = ⨆ b, ⨆ s, ⨆ d, f b s d := by
  rw [iSup_comm]
  exact iSup_congr fun b => iSup_comm

theorem lanes_qa (x : FVec Ideal S64x128 .f32) (h : Fin 64) :
    Host.reduce FloatOps.maximumf x (constant S_ .f32 0xFF800000#32) reducesTo_S64x128_S64_d1 h_S_ (ix1 h) = ⨆ d, x (ix2 h d) := by
  have hr : S64x128.Reduces [1] S64 := by decide
  rw [Host.reduce_eq_fold_single _ _ _ _ hr]
  have e : ∀ d : Fin 128, hr.lift (ix1 h) d = ix2 h d := fun d => by
    funext a
    match a with
    | 0 => rfl
    | 1 => rfl
  have e0 : constant (F := Ideal) S_ .f32 0xFF800000#32 (Shape.Idx.first h_S_) = ⊥ := ofBits_ninf
  rw [e0]
  refine (fold_max_iSup (ι := Fin 128) (x ∘ hr.lift (ix1 h))).trans ?_
  exact iSup_congr fun d => congrArg x (e d)

theorem w5_qa (h : Fin 64) : (W5 m c main_v33 : FVec Ideal S64 .f32) (ix1 h) = amax (aQ m c) (aP m c) h := by
  rw [v33_eq]
  refine (lanes_qa _ h).trans ?_
  exact swap_lanes fun b s d => RopeVal.mag (rot (aQ m c) (aP m c) b s h d)

theorem lanes_ka (x : FVec Ideal S4x128 .f32) (h : Fin 4) :
    Host.reduce FloatOps.maximumf x (constant S_ .f32 0xFF800000#32) reducesTo_S4x128_S4_d1 h_S_ (ix1 h) = ⨆ d, x (ix2 h d) := by
  have hr : S4x128.Reduces [1] S4 := by decide
  rw [Host.reduce_eq_fold_single _ _ _ _ hr]
  have e : ∀ d : Fin 128, hr.lift (ix1 h) d = ix2 h d := fun d => by
    funext a
    match a with
    | 0 => rfl
    | 1 => rfl
  have e0 : constant (F := Ideal) S_ .f32 0xFF800000#32 (Shape.Idx.first h_S_) = ⊥ := ofBits_ninf
  rw [e0]
  refine (fold_max_iSup (ι := Fin 128) (x ∘ hr.lift (ix1 h))).trans ?_
  exact iSup_congr fun d => congrArg x (e d)

theorem w5_ka (h : Fin 4) : (W5 m c main_v34 : FVec Ideal S4 .f32) (ix1 h) = amax (aK m c) (aP m c) h := by
  rw [v34_eq]
  refine (lanes_ka _ h).trans ?_
  exact swap_lanes fun b s d => RopeVal.mag (rot (aK m c) (aP m c) b s h d)

end Cert.KernelIdeal.Val
-- ==== Proof.RefVal.lean ====
/- The reference's results at an index. -/
module

public import proofs.«01_k».proof.Proof.Spec
public import proofs.«01_k».proof.Proof.Gen.ReferenceIdeal.Run
public import Idealize.ShloMosaic.Lib.WordCmp

@[expose] public section

set_option maxRecDepth 16384

noncomputable section

namespace Cert.ReferenceIdeal.Val

open Idealize.ShloMosaic Idealize.ShloMosaic.TcCoe Idealize.ShloMosaic.Pointwise
open Idealize.ShloMosaic.WordCmp (cmpi_sle_ofNat)
open Cert.ReferenceIdeal Cert.ReferenceIdeal.Gen Cert.ReferenceIdeal.Value Cert.Spec

/-- The section of positions of each frequency, as the program's constant. -/
def secR : IVec S64x1 32 :=
  broadcastInDim S64x1 ![0] bcast_S64_S64x1_0 (select (constantI S64 1 0#1)
    (addi (fun i => lit0 (S64.rowMajor i)) (broadcastInDim S64 ![] bcast_S_S64 (constantI S_ 32 3#32))) (fun i => lit0 (S64.rowMajor i)))

theorem lit0_sec : ∀ j : Fin 64, min (lit0 j).toInt.toNat 2 = (sec j).val := by decide

theorem secR_apply (j : Fin 64) : secR (ix2 j 0) = lit0 j := by
  unfold secR
  pointwise
  exact congrArg lit0 (Fin.ext (Shape.rowMajor_val_one _))

/-- The gathered rows of positions. -/
theorem gather_rows (x : FVec Ideal S3x6x2048 .f32) (j : Fin 64) (b : Fin 6) (s : Fin 2048) :
    Host.gather gather_S3x6x2048_S64x1_S64x6x2048_12_0_n_n_0_1_162048 x secR (ix3 j b s) = x (ix3 (sec j) b s) := by
  unfold Host.gather
  refine congrArg x (funext fun a => Fin.ext ?_)
  show GatherDims.start _ _ _ a + GatherDims.batchCoord _ _ a + GatherDims.offCoord _ _ a = _
  rw [GatherDims.batchCoord_eq_zero _ _ _ List.not_mem_nil, Nat.add_zero]
  match a with
  | ⟨0, _⟩ =>
    have hsi : gather_S3x6x2048_S64x1_S64x6x2048_12_0_n_n_0_1_162048.siIdx (ix3 j b s) ⟨0, by decide⟩ = ix2 j 0 := by
      funext e
      match e with
      | ⟨0, _⟩ => rfl
      | ⟨1, _⟩ => rfl
    refine Eq.trans (b := min (lit0 j).toInt.toNat 2 + 0) ?_ (lit0_sec j)
    rw [← secR_apply, ← hsi]
    rfl
  | ⟨1, _⟩ => exact Nat.zero_add _
  | ⟨2, _⟩ => exact Nat.zero_add _

/-- The table of angles. -/
def angR (P : VP) : FVec Ideal S6x2048x64 .f32 :=
  mulf (transpose S6x2048x64 [1, 2, 0] (Host.gather gather_S3x6x2048_S64x1_S64x6x2048_12_0_n_n_0_1_162048 (sitofp .f32 P) secR)
      transposes_S64x6x2048_S6x2048x64_1_2_0)
    (broadcastInDim S6x2048x64 ![0, 1, 2] bcast_S1x1x64_S6x2048x64_0_1_2 (broadcastInDim S1x1x64 ![2] bcast_S64_S1x1x64_2 invf))

theorem angR_apply (P : VP) (b : Fin 6) (s : Fin 2048) (j : Fin 64) : angR P (ix3 b s j) = ang P b s j := by
  unfold angR
  have e := gather_rows (sitofp (F := Ideal) .f32 P) j b s
  generalize Host.gather gather_S3x6x2048_S64x1_S64x6x2048_12_0_n_n_0_1_162048 (sitofp (F := Ideal) .f32 P) secR = y at e
  pointwise [ang]
  rw [e]
  rfl

/-- The rotated queries. -/
def rotQR (Q : VX 64) (P : VP) : FVec Ideal S6x2048x64x128 .f32 :=
  addf (mulf (extf .f32 Q bitsLt_bf16_f32) (broadcastInDim S6x2048x64x128 ![0, 1, 2, 3] bcast_S6x2048x1x128_S6x2048x64x128_0_1_2_3
      (broadcastInDim S6x2048x1x128 ![0, 1, 3] bcast_S6x2048x128_S6x2048x1x128_0_1_3 (fn_main_v23 (Host.cos (angR P)) (Host.cos (angR P))))))
    (mulf (fn_main_v29 (Host.negf (extractStridedSlice S6x2048x64x64 ![0, 0, 0, 64] (extf .f32 Q bitsLt_bf16_f32) slices_S6x2048x64x128_S6x2048x64x64_0_0_0_64))
        (extractStridedSlice S6x2048x64x64 ![0, 0, 0, 0] (extf .f32 Q bitsLt_bf16_f32) slices_S6x2048x64x128_S6x2048x64x64_0_0_0_0))
      (broadcastInDim S6x2048x64x128 ![0, 1, 2, 3] bcast_S6x2048x1x128_S6x2048x64x128_0_1_2_3
      (broadcastInDim S6x2048x1x128 ![0, 1, 3] bcast_S6x2048x128_S6x2048x1x128_0_1_3 (fn_main_v24 (Host.sin (angR P)) (Host.sin (angR P))))))

theorem rotQR_apply (Q : VX 64) (P : VP) (b : Fin 6) (s : Fin 2048) (h : Fin 64) (d : Fin 128) :
    rotQR Q P (ix4 b s h d) = rot Q P b s h d := by
  unfold rotQR fn_main_v29 fn_main_v23 fn_main_v24
  pointwise [rot, rotS, angR_apply]
  have e : d.val % 64 = if d.val < 64 then d.val else d.val - 64 := by have := d.isLt; split <;> omega
  by_cases hd : d.val < 64 <;> simp [hd, e, Nat.add_comm]

/-- The rotated keys. -/
def rotKR (K : VX 4) (P : VP) : FVec Ideal S6x2048x4x128 .f32 :=
  addf (mulf (extf .f32 K bitsLt_bf16_f32) (broadcastInDim S6x2048x4x128 ![0, 1, 2, 3] bcast_S6x2048x1x128_S6x2048x4x128_0_1_2_3
      (broadcastInDim S6x2048x1x128 ![0, 1, 3] bcast_S6x2048x128_S6x2048x1x128_0_1_3 (fn_main_v23 (Host.cos (angR P)) (Host.cos (angR P))))))
    (mulf (fn_main_v50 (Host.negf (extractStridedSlice S6x2048x4x64 ![0, 0, 0, 64] (extf .f32 K bitsLt_bf16_f32) slices_S6x2048x4x128_S6x2048x4x64_0_0_0_64))
        (extractStridedSlice S6x2048x4x64 ![0, 0, 0, 0] (extf .f32 K bitsLt_bf16_f32) slices_S6x2048x4x128_S6x2048x4x64_0_0_0_0))
      (broadcastInDim S6x2048x4x128 ![0, 1, 2, 3] bcast_S6x2048x1x128_S6x2048x4x128_0_1_2_3
      (broadcastInDim S6x2048x1x128 ![0, 1, 3] bcast_S6x2048x128_S6x2048x1x128_0_1_3 (fn_main_v24 (Host.sin (angR P)) (Host.sin (angR P))))))

theorem rotKR_apply (K : VX 4) (P : VP) (b : Fin 6) (s : Fin 2048) (h : Fin 4) (d : Fin 128) :
    rotKR K P (ix4 b s h d) = rot K P b s h d := by
  unfold rotKR fn_main_v50 fn_main_v23 fn_main_v24
  pointwise [rot, rotS, angR_apply]
  have e : d.val % 64 = if d.val < 64 then d.val else d.val - 64 := by have := d.isLt; split <;> omega
  by_cases hd : d.val < 64 <;> simp [hd, e, Nat.add_comm]

/-- The query codes. -/
def codeQR (Q : VX 64) (P : VP) (S : VS 64) : FVec Ideal S6x2048x64x128 .f32 :=
  minimumf (broadcastInDim S6x2048x64x128 ![] bcast_S_S6x2048x64x128 (id (constant S_ .f32 0x43E00000#32)))
    (maximumf (broadcastInDim S6x2048x64x128 ![] bcast_S_S6x2048x64x128 (id (constant S_ .f32 0xC3E00000#32)))
      (mulf (rotQR Q P) (broadcastInDim S6x2048x64x128 ![0, 1, 2, 3] bcast_S1x1x64x1_S6x2048x64x128_0_1_2_3
        (broadcastInDim S1x1x64x1 ![2, 3] bcast_S64x1_S1x1x64x1_2_3 (broadcastInDim S64x1 ![0] bcast_S64_S64x1_0
          (Host.divf (broadcastInDim S64 ![] bcast_S_S64 (constant S_ .f32 0x3F800000#32)) S))))))

theorem codeQR_apply (Q : VX 64) (P : VP) (S : VS 64) (b : Fin 6) (s : Fin 2048) (h : Fin 64) (d : Fin 128) :
    codeQR Q P S (ix4 b s h d) = code Q P S b s h d := by
  unfold codeQR
  pointwise [rotQR_apply, code, id]

/-- The key codes. -/
def codeKR (K : VX 4) (P : VP) (S : VS 4) : FVec Ideal S6x2048x4x128 .f32 :=
  minimumf (broadcastInDim S6x2048x4x128 ![] bcast_S_S6x2048x4x128 (id (constant S_ .f32 0x43E00000#32)))
    (maximumf (broadcastInDim S6x2048x4x128 ![] bcast_S_S6x2048x4x128 (id (constant S_ .f32 0xC3E00000#32)))
      (mulf (rotKR K P) (broadcastInDim S6x2048x4x128 ![0, 1, 2, 3] bcast_S1x1x4x1_S6x2048x4x128_0_1_2_3
        (broadcastInDim S1x1x4x1 ![2, 3] bcast_S4x1_S1x1x4x1_2_3 (broadcastInDim S4x1 ![0] bcast_S4_S4x1_0
          (Host.divf (broadcastInDim S4 ![] bcast_S_S4 (constant S_ .f32 0x3F800000#32)) S))))))

theorem codeKR_apply (K : VX 4) (P : VP) (S : VS 4) (b : Fin 6) (s : Fin 2048) (h : Fin 4) (d : Fin 128) :
    codeKR K P S (ix4 b s h d) = code K P S b s h d := by
  unfold codeKR
  pointwise [rotKR_apply, code, id]

/-- The largest query magnitudes. -/
def amaxQR (Q : VX 64) (P : VP) : FVec Ideal S64 .f32 :=
  Host.reduce FloatOps.maximumf (Host.absf (rotQR Q P)) (constant S_ .f32 0xFF800000#32) reducesTo_S6x2048x64x128_S64_d0_1_3 h_S_

theorem amaxQR_apply (Q : VX 64) (P : VP) (h : Fin 64) : amaxQR Q P (ix1 h) = amax Q P h := by
  unfold amaxQR
  pointwise [amax, ofBits_ninf]
  rw [fold_max_sup]
  apply le_antisymm
  · refine Finset.sup_le fun i hi => ?_
    rw [Finset.mem_filter] at hi
    have e2 : (i 2).val = h.val := by
      rw [← Shape.ReducesTo.drop_apply_val_of_eq reducesTo_S6x2048x64x128_S64_d0_1_3 i ⟨0, by decide⟩ 2, hi.2]; rfl
    obtain ⟨b, s, h', d, rfl⟩ : ∃ (b : Fin 6) (s : Fin 2048) (h' : Fin 64) (d : Fin 128), i = ix4 b s h' d := ⟨i 0, i 1, i 2, i 3, eq_ix4 i⟩
    obtain rfl : h' = h := Fin.ext e2
    rw [rotQR_apply]
    exact le_iSup_of_le b (le_iSup_of_le s (le_iSup (fun d => max (rot Q P b s h' d) (-rot Q P b s h' d)) d))
  · refine iSup_le fun b => iSup_le fun s => iSup_le fun d => ?_
    rw [← rotQR_apply]
    refine Finset.le_sup (f := fun x => FloatOps.absf (F := Ideal) (φ := .f32) (rotQR Q P x)) (b := ix4 b s h d) ?_
    rw [Finset.mem_filter]
    refine ⟨Finset.mem_univ _, ?_⟩
    funext a
    apply Fin.ext
    obtain rfl : a = ⟨0, by decide⟩ := Fin.ext (Nat.lt_one_iff.mp a.isLt)
    rw [Shape.ReducesTo.drop_apply_val_of_eq reducesTo_S6x2048x64x128_S64_d0_1_3 _ ⟨0, by decide⟩ 2]
    rfl

/-- The largest key magnitudes. -/
def amaxKR (K : VX 4) (P : VP) : FVec Ideal S4 .f32 :=
  Host.reduce FloatOps.maximumf (Host.absf (rotKR K P)) (constant S_ .f32 0xFF800000#32) reducesTo_S6x2048x4x128_S4_d0_1_3 h_S_

theorem amaxKR_apply (K : VX 4) (P : VP) (h : Fin 4) : amaxKR K P (ix1 h) = amax K P h := by
  unfold amaxKR
  pointwise [amax, ofBits_ninf]
  rw [fold_max_sup]
  apply le_antisymm
  · refine Finset.sup_le fun i hi => ?_
    rw [Finset.mem_filter] at hi
    have e2 : (i 2).val = h.val := by
      rw [← Shape.ReducesTo.drop_apply_val_of_eq reducesTo_S6x2048x4x128_S4_d0_1_3 i ⟨0, by decide⟩ 2, hi.2]; rfl
    obtain ⟨b, s, h', d, rfl⟩ : ∃ (b : Fin 6) (s : Fin 2048) (h' : Fin 4) (d : Fin 128), i = ix4 b s h' d := ⟨i 0, i 1, i 2, i 3, eq_ix4 i⟩
    obtain rfl : h' = h := Fin.ext e2
    rw [rotKR_apply]
    exact le_iSup_of_le b (le_iSup_of_le s (le_iSup (fun d => max (rot K P b s h' d) (-rot K P b s h' d)) d))
  · refine iSup_le fun b => iSup_le fun s => iSup_le fun d => ?_
    rw [← rotKR_apply]
    refine Finset.le_sup (f := fun x => FloatOps.absf (F := Ideal) (φ := .f32) (rotKR K P x)) (b := ix4 b s h d) ?_
    rw [Finset.mem_filter]
    refine ⟨Finset.mem_univ _, ?_⟩
    funext a
    apply Fin.ext
    obtain rfl : a = ⟨0, by decide⟩ := Fin.ext (Nat.lt_one_iff.mp a.isLt)
    rw [Shape.ReducesTo.drop_apply_val_of_eq reducesTo_S6x2048x4x128_S4_d0_1_3 _ ⟨0, by decide⟩ 2]
    rfl

/-- The coefficients of the scores. -/
def coefR (QS : VS 64) (KS : VS 4) : FVec Ideal S4x16 .f32 :=
  mulf (mulf (shapeCast S4x16 QS shapeCasts_S64_S4x16) (broadcastInDim S4x16 ![0, 1] bcast_S4x1_S4x16_0_1 (broadcastInDim S4x1 ![0] bcast_S4_S4x1_0 KS)))
    (broadcastInDim S4x16 ![] bcast_S_S4x16 (constant S_ .f32 0x3DB504F3#32))

/-- The scores, keys after the query at minus infinity. -/
def scoreR (Q : VX 64) (K : VX 4) (P : VP) (QS : VS 64) (KS : VS 4) : FVec Ideal S6x4x16x2048x2048 .f32 :=
  select (broadcastInDim S6x4x16x2048x2048 ![3, 4] bcast_S2048x2048_S6x4x16x2048x2048_3_4
      (cmpi .sle (broadcastInDim S2048x2048 ![0, 1] bcast_S1x2048_S2048x2048_0_1 (broadcastInDim S1x2048 ![1] bcast_S2048_S1x2048_1 (iotaInDim S2048 32 0)))
        (broadcastInDim S2048x2048 ![0, 1] bcast_S2048x1_S2048x2048_0_1 (broadcastInDim S2048x1 ![0] bcast_S2048_S2048x1_0 (iotaInDim S2048 32 0)))))
    (mulf (Host.dotGeneral dot_S6x4x16x2048x128_S6x4x2048x128_S6x4x16x2048x2048_4_3_23_2_01_01 none
        (transpose S6x4x16x2048x128 [0, 2, 3, 1, 4] (shapeCast S6x2048x4x16x128 (codeQR Q P QS) shapeCasts_S6x2048x64x128_S6x2048x4x16x128) transposes_S6x2048x4x16x128_S6x4x16x2048x128_0_2_3_1_4)
        (transpose S6x4x2048x128 [0, 2, 1, 3] (codeKR K P KS) transposes_S6x2048x4x128_S6x4x2048x128_0_2_1_3))
      (broadcastInDim S6x4x16x2048x2048 ![0, 1, 2, 3, 4] bcast_S1x4x16x1x1_S6x4x16x2048x2048_0_1_2_3_4
        (broadcastInDim S1x4x16x1x1 ![1, 2] bcast_S4x16_S1x4x16x1x1_1_2 (coefR QS KS))))
    (broadcastInDim S6x4x16x2048x2048 ![] bcast_S_S6x4x16x2048x2048 (id (constant S_ .f32 0xFF800000#32)))

/-- Query head `g` of key head `k`. -/
abbrev hd (k : Fin 4) (g : Fin 16) : Fin 64 := ⟨k.val * 16 + g.val, by omega⟩

theorem scoreR_apply (Q : VX 64) (K : VX 4) (P : VP) (QS : VS 64) (KS : VS 4) (b : Fin 6) (k : Fin 4) (g : Fin 16) (s t : Fin 2048) :
    scoreR Q K P QS KS (ix5 b k g s t) = mscore Q K P QS KS b (hd k g) s t := by
  have ek : kvh (hd k g) = k := Fin.ext (by show (k.val * 16 + g.val) / 16 = k.val; omega)
  have ec : IntOp.cmpi .sle (BitVec.ofNat 32 t.val) (BitVec.ofNat 32 s.val) = BitVec.ofBool (decide (t.val ≤ s.val)) :=
    cmpi_sle_ofNat (by omega) (by omega)
  unfold scoreR coefR
  pointwise [codeQR_apply, codeKR_apply, mscore, score, coef, id]
  rw [ek, ec, ofBits_ninf]
  by_cases h : t.val ≤ s.val <;> simp [h, Scalar.select]

/-- The maximum of a row, read at an index. -/
theorem rowMax (x : FVec Ideal S6x4x16x2048x2048 .f32) (b : Fin 6) (k : Fin 4) (g : Fin 16) (s : Fin 2048) :
    Host.reduce FloatOps.maximumf x (constant S_ .f32 0xFF800000#32) reducesTo_S6x4x16x2048x2048_S6x4x16x2048_d4 h_S_ (ix4 b k g s)
      = ⨆ t, x (ix5 b k g s t) := by
  have hr : S6x4x16x2048x2048.Reduces [4] S6x4x16x2048 := by decide
  rw [Host.reduce_eq_fold_single _ _ _ _ hr]
  have e : ∀ t : Fin 2048, hr.lift (ix4 b k g s) t = ix5 b k g s t := fun t => by
    funext c
    apply Fin.ext
    obtain ⟨c, hc⟩ := c
    match c, hc with
    | 0, _ => rfl
    | 1, _ => rfl
    | 2, _ => rfl
    | 3, _ => rfl
    | 4, _ => rfl
  have e0 : constant (F := Ideal) S_ .f32 0xFF800000#32 (Shape.Idx.first h_S_) = ⊥ := ofBits_ninf
  rw [e0]
  refine (fold_max_iSup (ι := Fin 2048) (x ∘ hr.lift (ix4 b k g s))).trans ?_
  refine iSup_congr fun t => ?_
  exact congrArg x (e t)

/-- The largest score of every row, before the host's guard. -/
def topRed (Q : VX 64) (K : VX 4) (P : VP) (QS : VS 64) (KS : VS 4) : FVec Ideal S6x4x16x2048 .f32 :=
  Host.reduce FloatOps.maximumf (scoreR Q K P QS KS) (constant S_ .f32 0xFF800000#32) reducesTo_S6x4x16x2048x2048_S6x4x16x2048_d4 h_S_

theorem topRed_apply (Q : VX 64) (K : VX 4) (P : VP) (QS : VS 64) (KS : VS 4) (b : Fin 6) (k : Fin 4) (g : Fin 16) (s : Fin 2048) :
    topRed Q K P QS KS (ix4 b k g s) = top Q K P QS KS b (hd k g) s :=
  (rowMax (scoreR Q K P QS KS) b k g s).trans (iSup_congr fun t => scoreR_apply Q K P QS KS b k g s t)

/-- The largest score of every row. -/
def topR (Q : VX 64) (K : VX 4) (P : VP) (QS : VS 64) (KS : VS 4) : FVec Ideal S6x4x16x2048 .f32 :=
  maximumf (broadcastInDim S6x4x16x2048 ![] bcast_S_S6x4x16x2048 (constant S_ .f32 0xFF800000#32))
    (topRed Q K P QS KS)

/-- A maximum with minus infinity, as the host guards it. -/
theorem guard (x : FVec Ideal S6x4x16x2048 .f32) (i : S6x4x16x2048.Idx) :
    maximumf (broadcastInDim S6x4x16x2048 ![] bcast_S_S6x4x16x2048 (constant S_ .f32 0xFF800000#32)) x i = x i := by
  show max (Ideal.ofBits .f32 0xFF800000#32) (x i) = x i
  rw [ofBits_ninf]
  exact max_eq_right bot_le

theorem topR_apply (Q : VX 64) (K : VX 4) (P : VP) (QS : VS 64) (KS : VS 4) (b : Fin 6) (k : Fin 4) (g : Fin 16) (s : Fin 2048) :
    topR Q K P QS KS (ix4 b k g s) = top Q K P QS KS b (hd k g) s :=
  (guard (topRed Q K P QS KS) (ix4 b k g s)).trans (topRed_apply Q K P QS KS b k g s)

/-- The weights before the division. -/
def wtR (Q : VX 64) (K : VX 4) (P : VP) (QS : VS 64) (KS : VS 4) : FVec Ideal S6x4x16x2048x2048 .f32 :=
  Host.exp (subf (scoreR Q K P QS KS) (broadcastInDim S6x4x16x2048x2048 ![0, 1, 2, 3, 4] bcast_S6x4x16x2048x1_S6x4x16x2048x2048_0_1_2_3_4
    (broadcastInDim S6x4x16x2048x1 ![0, 1, 2, 3] bcast_S6x4x16x2048_S6x4x16x2048x1_0_1_2_3 (topR Q K P QS KS))))

theorem wtR_apply (Q : VX 64) (K : VX 4) (P : VP) (QS : VS 64) (KS : VS 4) (b : Fin 6) (k : Fin 4) (g : Fin 16) (s t : Fin 2048) :
    wtR Q K P QS KS (ix5 b k g s t) = wt Q K P QS KS b (hd k g) s t := by
  unfold wtR
  pointwise [scoreR_apply, topR_apply, wt]

/-- The attention output. -/
def outR (Q : VX 64) (K V : VX 4) (P : VP) (QS : VS 64) (KS : VS 4) : FVec Ideal S6x2048x8192 .bf16 :=
  shapeCast S6x2048x8192 (truncf .bf16 (transpose S6x2048x4x16x128 [0, 4, 1, 3, 2]
    (Host.dotGeneral dot_S6x4x2048x128_S6x4x16x2048x2048_S6x4x128x16x2048_2_4_3_23_01_01 none
      (transpose S6x4x2048x128 [0, 2, 1, 3] V transposes_S6x2048x4x128_S6x4x2048x128_0_2_1_3)
      (truncf .bf16 (Host.divf (wtR Q K P QS KS) (broadcastInDim S6x4x16x2048x2048 ![0, 1, 2, 3, 4] bcast_S6x4x16x2048x1_S6x4x16x2048x2048_0_1_2_3_4
        (broadcastInDim S6x4x16x2048x1 ![0, 1, 2, 3] bcast_S6x4x16x2048_S6x4x16x2048x1_0_1_2_3
          (Host.reduceAdd (wtR Q K P QS KS) (constant S_ .f32 0x00000000#32) reducesTo_S6x4x16x2048x2048_S6x4x16x2048_d4 h_S_)))) bitsLt_bf16_f32) : FVec Ideal S6x4x128x16x2048 .f32)
    transposes_S6x4x128x16x2048_S6x2048x4x16x128_0_4_1_3_2) bitsLt_bf16_f32) shapeCasts_S6x2048x4x16x128_S6x2048x8192

theorem outR_apply (Q : VX 64) (K V : VX 4) (P : VP) (QS : VS 64) (KS : VS 4) (b : Fin 6) (s : Fin 2048) (x : Fin 8192) :
    outR Q K V P QS KS (ix3 b s x) = attn Q K V P QS KS b s ⟨x.val / 128, by omega⟩ ⟨x.val % 128, Nat.mod_lt _ (by decide)⟩ := by
  unfold outR
  have e1 : hd ⟨x.val / 2048, by omega⟩ ⟨x.val / 128 % 16, by omega⟩ = ⟨x.val / 128, by omega⟩ :=
    Fin.ext (by show x.val / 2048 * 16 + x.val / 128 % 16 = x.val / 128; omega)
  have e2 : kvh ⟨x.val / 128, by omega⟩ = ⟨x.val / 2048, by omega⟩ := Fin.ext (by show x.val / 128 / 16 = x.val / 2048; omega)
  pointwise [wtR_apply, attn]
  simp only [e1, e2]

end Cert.ReferenceIdeal.Val
-- ==== Proof.RefEq.lean ====
/- The reference's composed terms are the functions of its arguments that `RefVal` reads at an index. -/
module

public import proofs.«01_k».proof.Proof.RefVal
public import proofs.«01_k».proof.Proof.Gen.ReferenceIdeal.Run

@[expose] public section

set_option maxRecDepth 16384

noncomputable section

namespace Cert.ReferenceIdeal.Val

open Idealize.ShloMosaic Idealize.ShloMosaic.TcCoe Idealize.ShloMosaic.Pointwise
open Cert.ReferenceIdeal Cert.ReferenceIdeal.Gen Cert.ReferenceIdeal.Value Cert.Spec

variable (m : (ℓ : Loc nD τ sig) → Buf (Elt Ideal) ℓ) (c : Dev nD)

abbrev aQ : VX 64 := m ((c.tc : Thread nD τ).loc main_arg0)
abbrev aK : VX 4 := m ((c.tc : Thread nD τ).loc main_arg1)
abbrev aV : VX 4 := m ((c.tc : Thread nD τ).loc main_arg2)
abbrev aP : VP := m ((c.tc : Thread nD τ).loc main_arg3)
abbrev aQS : VS 64 := m ((c.tc : Thread nD τ).loc main_arg4)
abbrev aKS : VS 4 := m ((c.tc : Thread nD τ).loc main_arg5)

set_option maxHeartbeats 4000000 in
theorem out1_eq : res_out1 m c = Host.convertf .fp8e4m3 (codeQR (aQ m c) (aP m c) (aQS m c)) := by
  show res_main_v105 m c = _
  unfold res_main_v105
  rfl
set_option maxHeartbeats 4000000 in
theorem out3_eq : res_out3 m c = Host.convertf .fp8e4m3 (codeKR (aK m c) (aP m c) (aKS m c)) := by
  show res_main_v106 m c = _
  unfold res_main_v106
  rfl
set_option maxHeartbeats 4000000 in
theorem out2_eq : res_out2 m c = amaxQR (aQ m c) (aP m c) := by
  show res_main_v45 m c = _
  unfold res_main_v45
  rfl
set_option maxHeartbeats 4000000 in
theorem out4_eq : res_out4 m c = amaxKR (aK m c) (aP m c) := by
  show res_main_v66 m c = _
  unfold res_main_v66
  rfl
set_option maxHeartbeats 4000000 in
theorem out0_eq : res_out0 m c = outR (aQ m c) (aK m c) (aV m c) (aP m c) (aQS m c) (aKS m c) := by
  show res_main_v104 m c = _
  unfold res_main_v104
  rfl

end Cert.ReferenceIdeal.Val
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.RunBits
public import proofs.«01_k».proof.Proof.AttnArr
public import proofs.«01_k».proof.Proof.RefEq
public import Idealize.ShloMosaic.Adequacy
public import Idealize.ShloMosaic.Init

@[expose] public section

noncomputable section

namespace Cert.Proof

open Idealize.ShloMosaic Idealize.ShloMosaic.TcCoe Idealize.SL.Sem

/-- The reference has no semaphore. -/
theorem ref_no_sem (sm : SemLoc Cert.ReferenceIdeal.sig) : False := by revert sm; decide

/-- The kernel ends with its arguments as launched and its semaphores at zero. -/
theorem kernel_frame : Cert.quiescent_Kernel (hKernel := Cert.Kernel.Gen.facts) := fun m g _ => Cert.Kernel.Regs.frame m g

/-- So does its idealization. -/
theorem ideal_frame : Cert.quiescent_KernelIdeal (hKernelIdeal := Cert.KernelIdeal.Gen.facts) := fun m g _ => Cert.KernelIdeal.Regs.frame m g

/-- So does the reference. -/
theorem ref_frame : Cert.quiescent_ReferenceIdeal (hReferenceIdeal := Cert.ReferenceIdeal.Gen.facts) := fun m g _ =>
  (θ_run _ _ _).mono (fun _ h => ⟨fun c => (h c).2.2.2.2.2, funext fun s => (ref_no_sem s.2).elim⟩) (Cert.ReferenceIdeal.Value.run m g)

/-- The named constant is the one the rule allows. -/
theorem sanctioned : Cert.preserves_Kernel_KernelIdeal :=
  IdealRules.named_const.statement Cert.KernelIdeal.κ "log2e" .f32 0x3FB8AA3B#32 (((Real.log 2)⁻¹ : ℝ) : EReal) rfl

section Values

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

open Cert.KernelIdeal.Val in
/-- The two programs are launched on the same arguments. -/
structure Agree : Prop where
  q : Cert.ReferenceIdeal.Val.aQ m' c = aQ m c
  k : Cert.ReferenceIdeal.Val.aK m' c = aK m c
  v : Cert.ReferenceIdeal.Val.aV m' c = aV m c
  p : Cert.ReferenceIdeal.Val.aP m' c = aP m c
  qs : Cert.ReferenceIdeal.Val.aQS m' c = aQS m c
  ks : Cert.ReferenceIdeal.Val.aKS m' c = aKS m c

variable {m m' c} (h : Agree m m' c)

include h

open Idealize.ShloMosaic.Pointwise in
/-- The attention output. -/
theorem same_out : (Cert.ReferenceIdeal.Value.res_out0 m' c : FVec Ideal ⟨3, ![6, 2048, 8192]⟩ .bf16) = Cert.KernelIdeal.Regs.W5 m c Cert.KernelIdeal.main_v32 := by
  refine Eq.trans ?_ (Cert.KernelIdeal.Val.w5_out m c).symm
  refine (Cert.ReferenceIdeal.Val.out0_eq m' c).trans ?_
  rw [h.q, h.k, h.v, h.p, h.qs, h.ks]
  funext i
  obtain ⟨b, s, x, rfl⟩ : ∃ (b : Fin 6) (s : Fin 2048) (x : Fin 8192), i = ix3 b s x := ⟨i 0, i 1, i 2, eq_ix3 i⟩
  exact Cert.ReferenceIdeal.Val.outR_apply _ _ _ _ _ _ b s x

open Idealize.ShloMosaic.Pointwise in
/-- The query codes. -/
theorem same_qc : (Cert.ReferenceIdeal.Value.res_out1 m' c : FVec Ideal ⟨4, ![6, 2048, 64, 128]⟩ .fp8e4m3) = Cert.KernelIdeal.Regs.W5 m c Cert.KernelIdeal.main_v22_0 := by
  refine Eq.trans ?_ (Cert.KernelIdeal.Val.w5_qc m c).symm
  refine (Cert.ReferenceIdeal.Val.out1_eq m' c).trans ?_
  rw [h.q, h.p, h.qs]
  funext i
  obtain ⟨b, s, x, d, rfl⟩ : ∃ (b : Fin 6) (s : Fin 2048) (x : Fin 64) (d : Fin 128), i = ix4 b s x d := ⟨i 0, i 1, i 2, i 3, eq_ix4 i⟩
  exact Cert.ReferenceIdeal.Val.codeQR_apply _ _ _ b s x d

open Idealize.ShloMosaic.Pointwise in
/-- The key codes. -/
theorem same_kc : (Cert.ReferenceIdeal.Value.res_out3 m' c : FVec Ideal ⟨4, ![6, 2048, 4, 128]⟩ .fp8e4m3) = Cert.KernelIdeal.Regs.W5 m c Cert.KernelIdeal.main_v22_2 := by
  refine Eq.trans ?_ (Cert.KernelIdeal.Val.w5_kc m c).symm
  refine (Cert.ReferenceIdeal.Val.out3_eq m' c).trans ?_
  rw [h.k, h.p, h.ks]
  funext i
  obtain ⟨b, s, x, d, rfl⟩ : ∃ (b : Fin 6) (s : Fin 2048) (x : Fin 4) (d : Fin 128), i = ix4 b s x d := ⟨i 0, i 1, i 2, i 3, eq_ix4 i⟩
  exact Cert.ReferenceIdeal.Val.codeKR_apply _ _ _ b s x d

open Idealize.ShloMosaic.Pointwise in
/-- The largest query magnitudes. -/
theorem same_qa : (Cert.ReferenceIdeal.Value.res_out2 m' c : FVec Ideal ⟨1, ![64]⟩ .f32) = Cert.KernelIdeal.Regs.W5 m c Cert.KernelIdeal.main_v33 := by
  refine (Cert.ReferenceIdeal.Val.out2_eq m' c).trans ?_
  rw [h.q, h.p]
  funext i
  obtain ⟨x, rfl⟩ : ∃ x : Fin 64, i = ix1 x := ⟨i 0, eq_ix1 i⟩
  exact (Cert.ReferenceIdeal.Val.amaxQR_apply _ _ x).trans (Cert.KernelIdeal.Val.w5_qa m c x).symm

open Idealize.ShloMosaic.Pointwise in
/-- The largest key magnitudes. -/
theorem same_ka : (Cert.ReferenceIdeal.Value.res_out4 m' c : FVec Ideal ⟨1, ![4]⟩ .f32) = Cert.KernelIdeal.Regs.W5 m c Cert.KernelIdeal.main_v34 := by
  refine (Cert.ReferenceIdeal.Val.out4_eq m' c).trans ?_
  rw [h.k, h.p]
  funext i
  obtain ⟨x, rfl⟩ : ∃ x : Fin 4, i = ix1 x := ⟨i 0, eq_ix1 i⟩
  exact (Cert.ReferenceIdeal.Val.amaxKR_apply _ _ x).trans (Cert.KernelIdeal.Val.w5_ka m c x).symm

end Values

open Cert.KernelIdeal.Regs in
/-- Kernel and reference compute the same results over the extended reals. -/
theorem algebraic : Cert.algebraic_KernelIdeal_ReferenceIdeal (hKernelIdeal := Cert.KernelIdeal.Gen.facts)
    (hReferenceIdeal := Cert.ReferenceIdeal.Gen.facts) := fun m g m' g' _ hm => by
  have ha : ∀ c, Agree m m' c := fun c => ⟨(hm c).1, (hm c).2.1, (hm c).2.2.1, (hm c).2.2.2.1, (hm c).2.2.2.2.1, (hm c).2.2.2.2.2⟩
  refine ⟨fun c => W5 m c Cert.KernelIdeal.main_v32, fun c => W5 m c Cert.KernelIdeal.main_v22_0, fun c => W5 m c Cert.KernelIdeal.main_v33, fun c => W5 m c Cert.KernelIdeal.main_v22_2, fun c => W5 m c Cert.KernelIdeal.main_v34, ?_, ?_⟩
  · refine (θ_run _ _ _).mono (fun r h c => ?_) (whole m g)
    exact ⟨h.1 c _ (mem_uc Cert.KernelIdeal.main_v32 rfl), h.1 c _ (mem_uc Cert.KernelIdeal.main_v22_0 rfl), h.1 c _ (mem_uc Cert.KernelIdeal.main_v33 rfl), h.1 c _ (mem_uc Cert.KernelIdeal.main_v22_2 rfl),
      h.1 c _ (mem_uc Cert.KernelIdeal.main_v34 rfl),
      (h.1 c _ (mem_uc Cert.KernelIdeal.main_arg0 rfl)).trans (W5_kept m c Cert.KernelIdeal.main_arg0 (by decide) (by decide) (by decide) (by decide) (by decide)),
      (h.1 c _ (mem_uc Cert.KernelIdeal.main_arg1 rfl)).trans (W5_kept m c Cert.KernelIdeal.main_arg1 (by decide) (by decide) (by decide) (by decide) (by decide)),
      (h.1 c _ (mem_uc Cert.KernelIdeal.main_arg2 rfl)).trans (W5_kept m c Cert.KernelIdeal.main_arg2 (by decide) (by decide) (by decide) (by decide) (by decide)),
      (h.1 c _ (mem_uc Cert.KernelIdeal.main_arg3 rfl)).trans (W5_kept m c Cert.KernelIdeal.main_arg3 (by decide) (by decide) (by decide) (by decide) (by decide)),
      (h.1 c _ (mem_uc Cert.KernelIdeal.main_arg4 rfl)).trans (W5_kept m c Cert.KernelIdeal.main_arg4 (by decide) (by decide) (by decide) (by decide) (by decide)),
      (h.1 c _ (mem_uc Cert.KernelIdeal.main_arg5 rfl)).trans (W5_kept m c Cert.KernelIdeal.main_arg5 (by decide) (by decide) (by decide) (by decide) (by decide))⟩
  · refine (θ_run _ _ _).mono (fun r h c => ?_) (Cert.ReferenceIdeal.Value.run m' g')
    obtain ⟨h0, h1, h2, h3, h4, hargs⟩ := h c
    exact ⟨h0.trans (same_out (ha c)), h1.trans (same_qc (ha c)), h2.trans (same_qa (ha c)), h3.trans (same_kc (ha c)), h4.trans (same_ka (ha c)), hargs⟩

theorem claim : Cert.Claim :=
  ⟨Cert.Kernel.Gen.facts, Cert.KernelIdeal.Gen.facts, Cert.ReferenceIdeal.Gen.facts, kernel_frame, ideal_frame, ref_frame, sanctioned, algebraic⟩

end Cert.Proof

end
